-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_types [hPre_sorted_types : Cert.Pre_sorted_types.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_types.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_types [hPre_sorted_types : Cert.Pre_sorted_types.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_types.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sorted_types [hKernelIdeal : Cert.KernelIdeal.Facts] [hPre_sorted_types : Cert.Pre_sorted_types.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_types m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sorted_types [hReferenceIdeal : Cert.ReferenceIdeal.Facts] [hPre_sorted_types : Cert.Pre_sorted_types.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_types m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_sorted_types [hKernelIdeal : Cert.KernelIdeal.Facts] [hReferenceIdeal : Cert.ReferenceIdeal.Facts] [hPre_sorted_types : Cert.Pre_sorted_types.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_types m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_sorted_types : Cert.Pre_sorted_types.Facts),
    quiescent_Kernel (hKernel := hKernel)
    ∧ quiescent_KernelIdeal (hKernelIdeal := hKernelIdeal)
    ∧ quiescent_KernelIdeal_pre_sorted_types (hKernelIdeal := hKernelIdeal) (hPre_sorted_types := hPre_sorted_types)
    ∧ quiescent_ReferenceIdeal (hReferenceIdeal := hReferenceIdeal)
    ∧ quiescent_ReferenceIdeal_pre_sorted_types (hReferenceIdeal := hReferenceIdeal) (hPre_sorted_types := hPre_sorted_types)
    ∧ preserves_Kernel_KernelIdeal
    ∧ algebraic_KernelIdeal_ReferenceIdeal_pre_sorted_types (hKernelIdeal := hKernelIdeal) (hReferenceIdeal := hReferenceIdeal) (hPre_sorted_types := hPre_sorted_types)
-- ==== Pre_sorted_types.lean ====
abbrev S320000x128 : Shape := ⟨2, ![320000, 128]⟩
abbrev S320000 : Shape := ⟨1, ![320000]⟩
abbrev S_ : Shape := ⟨0, ![]⟩
abbrev S319999 : Shape := ⟨1, ![319999]⟩

class Facts : Prop where
  bcast_S_S320000 : S_.BroadcastsInDim S320000 (![] : Fin 0 → Fin S320000.rank)
  reducesTo_S320000_S_d0 : S320000.ReducesTo [0] S_
  h_S_ : 0 < S_.numel
  slices_S320000_S319999_0 : S320000.Slices ![0] S319999
  slices_S320000_S319999_1 : S320000.Slices ![1] S319999
  reducesTo_S319999_S_d0 : S319999.ReducesTo [0] S_

variable [Facts]

def fn {F : FTy → Type} [FloatOps F] (main_arg0 : FVec F S320000x128 .f32) (main_arg1 : IVec S320000 32) : IVec S_ 1 :=
  let main_c : IVec S_ 32 := constantI S_ 32 0#32
  let main_v0 : IVec S320000 32 := broadcastInDim S320000 ![] bcast_S_S320000 main_c
  let main_v1 : IVec S320000 1 := cmpi .sge main_arg1 main_v0
  let main_c_0 : IVec S_ 1 := constantI S_ 1 1#1
  let main_v2 : IVec S_ 1 := (fun x v => Host.reduce IntOp.andi x v reducesTo_S320000_S_d0 h_S_) main_v1 main_c_0
  let main_c_1 : IVec S_ 32 := constantI S_ 32 8#32
  let main_v3 : IVec S320000 32 := broadcastInDim S320000 ![] bcast_S_S320000 main_c_1
  let main_v4 : IVec S320000 1 := cmpi .slt main_arg1 main_v3
  let main_c_2 : IVec S_ 1 := constantI S_ 1 1#1
  let main_v5 : IVec S_ 1 := (fun x v => Host.reduce IntOp.andi x v reducesTo_S320000_S_d0 h_S_) main_v4 main_c_2
  let main_v6 : IVec S_ 1 := andi main_v2 main_v5
  let main_v7 : IVec S319999 32 := (extractStridedSlice S319999 ![0] · slices_S320000_S319999_0) main_arg1
  let main_v8 : IVec S319999 32 := (extractStridedSlice S319999 ![1] · slices_S320000_S319999_1) main_arg1
  let main_v9 : IVec S319999 1 := cmpi .sle main_v7 main_v8
  let main_c_3 : IVec S_ 1 := constantI S_ 1 1#1
  let main_v10 : IVec S_ 1 := (fun x v => Host.reduce IntOp.andi x v reducesTo_S319999_S_d0 h_S_) main_v9 main_c_3
  let main_v11 : IVec S_ 1 := andi main_v6 main_v10
  main_v11
-- ==== Kernel.lean ====
abbrev S320000x128 : Shape := ⟨2, ![320000, 128]⟩
abbrev S320000 : Shape := ⟨1, ![320000]⟩
abbrev S100x1x3200 : Shape := ⟨3, ![100, 1, 3200]⟩
abbrev S32x8x128 : Shape := ⟨3, ![32, 8, 128]⟩
abbrev S32x8x16 : Shape := ⟨3, ![32, 8, 16]⟩
abbrev S5600 : Shape := ⟨1, ![5600]⟩
abbrev S2x200x128 : Shape := ⟨3, ![2, 200, 128]⟩
abbrev S8x128 : Shape := ⟨2, ![8, 128]⟩
abbrev S8x16 : Shape := ⟨2, ![8, 16]⟩
abbrev S_ : Shape := ⟨0, ![]⟩
abbrev S16 : Shape := ⟨1, ![16]⟩
abbrev S1x16 : Shape := ⟨2, ![1, 16]⟩
abbrev S1x200x128 : Shape := ⟨3, ![1, 200, 128]⟩
abbrev S200x128 : Shape := ⟨2, ![200, 128]⟩
abbrev S1x8x128 : Shape := ⟨3, ![1, 8, 128]⟩
abbrev S1x8x16 : Shape := ⟨3, ![1, 8, 16]⟩
abbrev S1x1x3200 : Shape := ⟨3, ![1, 1, 3200]⟩
abbrev S3200x128 : Shape := ⟨2, ![3200, 128]⟩
abbrev S3200 : Shape := ⟨1, ![3200]⟩
abbrev S8x3200 : Shape := ⟨2, ![8, 3200]⟩
abbrev S1x3200 : Shape := ⟨2, ![1, 3200]⟩
abbrev S8 : Shape := ⟨1, ![8]⟩
abbrev S8x1 : Shape := ⟨2, ![8, 1]⟩
abbrev S16x1x20000 : Shape := ⟨3, ![16, 1, 20000]⟩
abbrev S1x1x20000 : Shape := ⟨3, ![1, 1, 20000]⟩
abbrev S20000x128 : Shape := ⟨2, ![20000, 128]⟩
abbrev S20000 : Shape := ⟨1, ![20000]⟩
abbrev S20000x1 : Shape := ⟨2, ![20000, 1]⟩
abbrev S20000x8 : Shape := ⟨2, ![20000, 8]⟩

abbrev nBuf : Table → Nat
  | .hbm => 11
  | .local .tc .vmem => 24
  | .local .scVector .vmem => 5
  | _ => 0

abbrev bufTy : (tb : Table) → Fin (nBuf tb) → BufTy
  | .hbm, ⟨0, _⟩ => ⟨S320000x128, .f32⟩
  | .hbm, ⟨1, _⟩ => ⟨S320000, .i32⟩
  | .hbm, ⟨2, _⟩ => ⟨S100x1x3200, .i32⟩
  | .hbm, ⟨3, _⟩ => ⟨S32x8x128, .f32⟩
  | .hbm, ⟨4, _⟩ => ⟨S32x8x128, .f32⟩
  | .hbm, ⟨5, _⟩ => ⟨S32x8x16, .f32⟩
  | .hbm, ⟨6, _⟩ => ⟨S8x128, .f32⟩
  | .hbm, ⟨7, _⟩ => ⟨S8x128, .f32⟩
  | .hbm, ⟨8, _⟩ => ⟨S8x128, .f32⟩
  | .hbm, ⟨9, _⟩ => ⟨S16x1x20000, .i32⟩
  | .hbm, ⟨10, _⟩ => ⟨S320000x128, .f32⟩
  | .local .tc .vmem, ⟨0, _⟩ => ⟨S1x1x3200, .i32⟩
  | .local .tc .vmem, ⟨1, _⟩ => ⟨S1x1x3200, .i32⟩
  | .local .tc .vmem, ⟨2, _⟩ => ⟨S3200x128, .f32⟩
  | .local .tc .vmem, ⟨3, _⟩ => ⟨S3200x128, .f32⟩
  | .local .tc .vmem, ⟨4, _⟩ => ⟨S8x128, .f32⟩
  | .local .tc .vmem, ⟨5, _⟩ => ⟨S8x128, .f32⟩
  | .local .tc .vmem, ⟨6, _⟩ => ⟨S8x128, .f32⟩
  | .local .tc .vmem, ⟨7, _⟩ => ⟨S8x128, .f32⟩
  | .local .tc .vmem, ⟨8, _⟩ => ⟨S8x128, .f32⟩
  | .local .tc .vmem, ⟨9, _⟩ => ⟨S8x128, .f32⟩
  | .local .tc .vmem, ⟨10, _⟩ => ⟨S1x1x20000, .i32⟩
  | .local .tc .vmem, ⟨11, _⟩ => ⟨S1x1x20000, .i32⟩
  | .local .tc .vmem, ⟨12, _⟩ => ⟨S20000x128, .f32⟩
  | .local .tc .vmem, ⟨13, _⟩ => ⟨S20000x128, .f32⟩
  | .local .tc .vmem, ⟨14, _⟩ => ⟨S32x8x128, .f32⟩
  | .local .tc .vmem, ⟨15, _⟩ => ⟨S32x8x128, .f32⟩
  | .local .tc .vmem, ⟨16, _⟩ => ⟨S32x8x16, .f32⟩
  | .local .tc .vmem, ⟨17, _⟩ => ⟨S8x128, .f32⟩
  | .local .tc .vmem, ⟨18, _⟩ => ⟨S8x128, .f32⟩
  | .local .tc .vmem, ⟨19, _⟩ => ⟨S8x128, .f32⟩
  | .local .tc .vmem, ⟨20, _⟩ => ⟨S20000x128, .f32⟩
  | .local .tc .vmem, ⟨21, _⟩ => ⟨S20000x128, .f32⟩
  | .local .tc .vmem, ⟨22, _⟩ => ⟨S8x128, .f32⟩
  | .local .tc .vmem, ⟨23, _⟩ => ⟨S8x128, .f32⟩
  | .local .scVector .vmem, ⟨0, _⟩ => ⟨S5600, .i32⟩
  | .local .scVector .vmem, ⟨1, _⟩ => ⟨S2x200x128, .f32⟩
  | .local .scVector .vmem, ⟨2, _⟩ => ⟨S8x128, .f32⟩
  | .local .scVector .vmem, ⟨3, _⟩ => ⟨S8x128, .f32⟩
  | .local .scVector .vmem, ⟨4, _⟩ => ⟨S8x16, .f32⟩
  | _, _ => ⟨S320000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev main_arg0_scv : Ref sig .scVector := ⟨.hbm, 0, rfl⟩
abbrev main_arg1_scv : Ref sig .scVector := ⟨.hbm, 1, rfl⟩
abbrev main_v1_0_scv : Ref sig .scVector := ⟨.hbm, 3, rfl⟩
abbrev main_v1_1_scv : Ref sig .scVector := ⟨.hbm, 4, rfl⟩
abbrev main_v1_2_scv : Ref sig .scVector := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_scratch0 : Ref sig .tc := ⟨.vmem, 7, rfl⟩
abbrev cc1_scratch1 : Ref sig .tc := ⟨.vmem, 8, rfl⟩
abbrev cc1_scratch2 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg8_0 : Ref sig .tc := ⟨.vmem, 20, rfl⟩
abbrev cc2_stg8_1 : Ref sig .tc := ⟨.vmem, 21, rfl⟩
abbrev cc2_scratch0 : Ref sig .tc := ⟨.vmem, 22, rfl⟩
abbrev cc2_scratch1 : Ref sig .tc := ⟨.vmem, 23, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem8_1 : DmaSem sig := 24
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5600_i32 : BitVec 32 := 5600#32
  let v2 : BitVec 32 := Scalar.muli v1 c5600_i32
  v2
def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5600_i32 : BitVec 32 := 5600#32
  let v2 : BitVec 32 := Scalar.muli v1 c5600_i32
  let v3 : BitVec 32 := v2
  ![v3.toNat]
@[reducible] def k0_t1_loop : Scf.Loop 32 :=
  let c0_i32_6 : BitVec 32 := 0#32
  let c350_i32 : BitVec 32 := 350#32
  let v11 : BitVec 32 := Scalar.addi c0_i32_6 c350_i32
  let c1_i32 : BitVec 32 := 1#32
  ⟨c0_i32_6, v11, c1_i32⟩
def k0_off2 (k0_t1 : Fin k0_t1_loop.trips) : Fin 1 → Nat :=
  let c0_i32_6 : BitVec 32 := 0#32
  let c1_i32 : BitVec 32 := 1#32
  let arg14 : BitVec 32 := Scf.iv c0_i32_6 c1_i32 k0_t1
  let c16_i32 : BitVec 32 := 16#32
  let v349 : BitVec 32 := Scalar.muli arg14 c16_i32
  let v350 : Index := Scalar.indexCast v349
  ![v350.toNat]
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5600_i32 : BitVec 32 := 5600#32
  let v2 : BitVec 32 := Scalar.muli v1 c5600_i32
  let v3 : BitVec 32 := v2
  let c0_i32_257 : BitVec 32 := 0#32
  let v291 : BitVec 32 := Scalar.addi v3 c0_i32_257
  v291
def k0_off3 (i : grid0.Coords) (c0_i32_257 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5600_i32 : BitVec 32 := 5600#32
  let v2 : BitVec 32 := Scalar.muli v1 c5600_i32
  let v3 : BitVec 32 := v2
  let v291 : BitVec 32 := Scalar.addi v3 c0_i32_257
  let v292 : BitVec 32 := v291
  let c0_i32_261 : BitVec 32 := 0#32
  ![v292.toNat, 0]
def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5600_i32 : BitVec 32 := 5600#32
  let v2 : BitVec 32 := Scalar.muli v1 c5600_i32
  let v3 : BitVec 32 := v2
  let c200_i32 : BitVec 32 := 200#32
  let v299 : BitVec 32 := Scalar.addi v3 c200_i32
  v299
@[reducible] def k0_t2_loop : Scf.Loop 32 :=
  let c0_i32_275 : BitVec 32 := 0#32
  let c14_i32 : BitVec 32 := 14#32
  let v307 : BitVec 32 := Scalar.addi c0_i32_275 c14_i32
  let c1_i32_276 : BitVec 32 := 1#32
  ⟨c0_i32_275, v307, c1_i32_276⟩
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5600_i32 : BitVec 32 := 5600#32
  let v2 : BitVec 32 := Scalar.muli v1 c5600_i32
  let v3 : BitVec 32 := v2
  let c0_i32_299 : BitVec 32 := 0#32
  ![v3.toNat, 0]
@[reducible] def k0_t3_loop (v15 : BitVec 32) (k0_t2 : Fin k0_t2_loop.trips) : Scf.Loop 32 :=
  let c200_i32_306 : BitVec 32 := 200#32
  let c0_i32_305 : BitVec 32 := 0#32
  let c0_i32_272 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v357 : BitVec 32 := Scalar.subi c0_i32_272 v356
  let v358 : BitVec 32 := Scalar.maxsi c0_i32_305 v357
  let v359 : BitVec 32 := Scalar.minsi c200_i32_306 v358
  let c200_i32_307 : BitVec 32 := 200#32
  let v360 : BitVec 32 := Scalar.subi v15 v356
  let v361 : BitVec 32 := Scalar.maxsi v359 v360
  let v362 : BitVec 32 := Scalar.minsi c200_i32_307 v361
  let v363 : BitVec 32 := Scalar.subi v362 v359
  let c1_i32_309 : BitVec 32 := 1#32
  let v365 : BitVec 32 := Scalar.divsi v363 c1_i32_309
  let v366 : BitVec 32 := Scalar.muli v365 c1_i32_309
  let v367 : BitVec 32 := Scalar.addi v359 v366
  let c1_i32_310 : BitVec 32 := 1#32
  ⟨v359, v367, c1_i32_310⟩

def k0_off5 (v15 : BitVec 32) (k0_t2 : Fin k0_t2_loop.trips) (k0_t3 : Fin (k0_t3_loop v15 k0_t2).trips) : Fin 2 → Nat :=
  let c200_i32_306 : BitVec 32 := 200#32
  let c0_i32_305 : BitVec 32 := 0#32
  let c0_i32_272 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v357 : BitVec 32 := Scalar.subi c0_i32_272 v356
  let v358 : BitVec 32 := Scalar.maxsi c0_i32_305 v357
  let v359 : BitVec 32 := Scalar.minsi c200_i32_306 v358
  let c1_i32_310 : BitVec 32 := 1#32
  let arg16 : BitVec 32 := Scf.iv v359 c1_i32_310 k0_t3
  let v630 : Index := Scalar.indexCast arg16
  let c0_449 : Index := 0#32
  ![v630.toNat, 0]
def k0_off6 (v15 : BitVec 32) (k0_t2 : Fin k0_t2_loop.trips) (k0_t3 : Fin (k0_t3_loop v15 k0_t2).trips) : Fin 2 → Nat :=
  let c200_i32_306 : BitVec 32 := 200#32
  let c0_i32_305 : BitVec 32 := 0#32
  let c0_i32_272 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v357 : BitVec 32 := Scalar.subi c0_i32_272 v356
  let v358 : BitVec 32 := Scalar.maxsi c0_i32_305 v357
  let v359 : BitVec 32 := Scalar.minsi c200_i32_306 v358
  let c1_i32_310 : BitVec 32 := 1#32
  let arg16 : BitVec 32 := Scf.iv v359 c1_i32_310 k0_t3
  let v637 : Index := Scalar.indexCast arg16
  let c16_452 : Index := 16#32
  ![v637.toNat, 16]
def k0_off7 (v15 : BitVec 32) (k0_t2 : Fin k0_t2_loop.trips) (k0_t3 : Fin (k0_t3_loop v15 k0_t2).trips) : Fin 2 → Nat :=
  let c200_i32_306 : BitVec 32 := 200#32
  let c0_i32_305 : BitVec 32 := 0#32
  let c0_i32_272 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v357 : BitVec 32 := Scalar.subi c0_i32_272 v356
  let v358 : BitVec 32 := Scalar.maxsi c0_i32_305 v357
  let v359 : BitVec 32 := Scalar.minsi c200_i32_306 v358
  let c1_i32_310 : BitVec 32 := 1#32
  let arg16 : BitVec 32 := Scf.iv v359 c1_i32_310 k0_t3
  let v644 : Index := Scalar.indexCast arg16
  let c32_455 : Index := 32#32
  ![v644.toNat, 32]
def k0_off8 (v15 : BitVec 32) (k0_t2 : Fin k0_t2_loop.trips) (k0_t3 : Fin (k0_t3_loop v15 k0_t2).trips) : Fin 2 → Nat :=
  let c200_i32_306 : BitVec 32 := 200#32
  let c0_i32_305 : BitVec 32 := 0#32
  let c0_i32_272 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v357 : BitVec 32 := Scalar.subi c0_i32_272 v356
  let v358 : BitVec 32 := Scalar.maxsi c0_i32_305 v357
  let v359 : BitVec 32 := Scalar.minsi c200_i32_306 v358
  let c1_i32_310 : BitVec 32 := 1#32
  let arg16 : BitVec 32 := Scf.iv v359 c1_i32_310 k0_t3
  let v651 : Index := Scalar.indexCast arg16
  let c48_458 : Index := 48#32
  ![v651.toNat, 48]
def k0_off9 (v15 : BitVec 32) (k0_t2 : Fin k0_t2_loop.trips) (k0_t3 : Fin (k0_t3_loop v15 k0_t2).trips) : Fin 2 → Nat :=
  let c200_i32_306 : BitVec 32 := 200#32
  let c0_i32_305 : BitVec 32 := 0#32
  let c0_i32_272 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v357 : BitVec 32 := Scalar.subi c0_i32_272 v356
  let v358 : BitVec 32 := Scalar.maxsi c0_i32_305 v357
  let v359 : BitVec 32 := Scalar.minsi c200_i32_306 v358
  let c1_i32_310 : BitVec 32 := 1#32
  let arg16 : BitVec 32 := Scf.iv v359 c1_i32_310 k0_t3
  let v658 : Index := Scalar.indexCast arg16
  let c64_461 : Index := 64#32
  ![v658.toNat, 64]
def k0_off10 (v15 : BitVec 32) (k0_t2 : Fin k0_t2_loop.trips) (k0_t3 : Fin (k0_t3_loop v15 k0_t2).trips) : Fin 2 → Nat :=
  let c200_i32_306 : BitVec 32 := 200#32
  let c0_i32_305 : BitVec 32 := 0#32
  let c0_i32_272 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v357 : BitVec 32 := Scalar.subi c0_i32_272 v356
  let v358 : BitVec 32 := Scalar.maxsi c0_i32_305 v357
  let v359 : BitVec 32 := Scalar.minsi c200_i32_306 v358
  let c1_i32_310 : BitVec 32 := 1#32
  let arg16 : BitVec 32 := Scf.iv v359 c1_i32_310 k0_t3
  let v665 : Index := Scalar.indexCast arg16
  let c80_464 : Index := 80#32
  ![v665.toNat, 80]
def k0_off11 (v15 : BitVec 32) (k0_t2 : Fin k0_t2_loop.trips) (k0_t3 : Fin (k0_t3_loop v15 k0_t2).trips) : Fin 2 → Nat :=
  let c200_i32_306 : BitVec 32 := 200#32
  let c0_i32_305 : BitVec 32 := 0#32
  let c0_i32_272 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v357 : BitVec 32 := Scalar.subi c0_i32_272 v356
  let v358 : BitVec 32 := Scalar.maxsi c0_i32_305 v357
  let v359 : BitVec 32 := Scalar.minsi c200_i32_306 v358
  let c1_i32_310 : BitVec 32 := 1#32
  let arg16 : BitVec 32 := Scf.iv v359 c1_i32_310 k0_t3
  let v672 : Index := Scalar.indexCast arg16
  let c96_467 : Index := 96#32
  ![v672.toNat, 96]
def k0_off12 (v15 : BitVec 32) (k0_t2 : Fin k0_t2_loop.trips) (k0_t3 : Fin (k0_t3_loop v15 k0_t2).trips) : Fin 2 → Nat :=
  let c200_i32_306 : BitVec 32 := 200#32
  let c0_i32_305 : BitVec 32 := 0#32
  let c0_i32_272 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v357 : BitVec 32 := Scalar.subi c0_i32_272 v356
  let v358 : BitVec 32 := Scalar.maxsi c0_i32_305 v357
  let v359 : BitVec 32 := Scalar.minsi c200_i32_306 v358
  let c1_i32_310 : BitVec 32 := 1#32
  let arg16 : BitVec 32 := Scf.iv v359 c1_i32_310 k0_t3
  let v679 : Index := Scalar.indexCast arg16
  let c112_470 : Index := 112#32
  ![v679.toNat, 112]
@[reducible] def k0_t4_loop (v15 : BitVec 32) (k0_t2 : Fin k0_t2_loop.trips) : Scf.Loop 32 :=
  let c200_i32_306 : BitVec 32 := 200#32
  let c0_i32_305 : BitVec 32 := 0#32
  let c0_i32_272 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v357 : BitVec 32 := Scalar.subi c0_i32_272 v356
  let v358 : BitVec 32 := Scalar.maxsi c0_i32_305 v357
  let v359 : BitVec 32 := Scalar.minsi c200_i32_306 v358
  let c200_i32_307 : BitVec 32 := 200#32
  let v360 : BitVec 32 := Scalar.subi v15 v356
  let v361 : BitVec 32 := Scalar.maxsi v359 v360
  let v362 : BitVec 32 := Scalar.minsi c200_i32_307 v361
  let v363 : BitVec 32 := Scalar.subi v362 v359
  let c1_i32_309 : BitVec 32 := 1#32
  let v365 : BitVec 32 := Scalar.divsi v363 c1_i32_309
  let v366 : BitVec 32 := Scalar.muli v365 c1_i32_309
  let v367 : BitVec 32 := Scalar.addi v359 v366
  let v364 : BitVec 32 := Scalar.addi v359 v363
  let c1_i32_311 : BitVec 32 := 1#32
  ⟨v367, v364, c1_i32_311⟩
def k0_off13 (v15 : BitVec 32) (k0_t2 : Fin k0_t2_loop.trips) (k0_t4 : Fin (k0_t4_loop v15 k0_t2).trips) : Fin 2 → Nat :=
  let c200_i32_306 : BitVec 32 := 200#32
  let c0_i32_305 : BitVec 32 := 0#32
  let c0_i32_272 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v357 : BitVec 32 := Scalar.subi c0_i32_272 v356
  let v358 : BitVec 32 := Scalar.maxsi c0_i32_305 v357
  let v359 : BitVec 32 := Scalar.minsi c200_i32_306 v358
  let c200_i32_307 : BitVec 32 := 200#32
  let v360 : BitVec 32 := Scalar.subi v15 v356
  let v361 : BitVec 32 := Scalar.maxsi v359 v360
  let v362 : BitVec 32 := Scalar.minsi c200_i32_307 v361
  let v363 : BitVec 32 := Scalar.subi v362 v359
  let c1_i32_309 : BitVec 32 := 1#32
  let v365 : BitVec 32 := Scalar.divsi v363 c1_i32_309
  let v366 : BitVec 32 := Scalar.muli v365 c1_i32_309
  let v367 : BitVec 32 := Scalar.addi v359 v366
  let c1_i32_311 : BitVec 32 := 1#32
  let arg16 : BitVec 32 := Scf.iv v367 c1_i32_311 k0_t4
  let v630 : Index := Scalar.indexCast arg16
  let c0_449 : Index := 0#32
  ![v630.toNat, 0]
def k0_off14 (v15 : BitVec 32) (k0_t2 : Fin k0_t2_loop.trips) (k0_t4 : Fin (k0_t4_loop v15 k0_t2).trips) : Fin 2 → Nat :=
  let c200_i32_306 : BitVec 32 := 200#32
  let c0_i32_305 : BitVec 32 := 0#32
  let c0_i32_272 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v357 : BitVec 32 := Scalar.subi c0_i32_272 v356
  let v358 : BitVec 32 := Scalar.maxsi c0_i32_305 v357
  let v359 : BitVec 32 := Scalar.minsi c200_i32_306 v358
  let c200_i32_307 : BitVec 32 := 200#32
  let v360 : BitVec 32 := Scalar.subi v15 v356
  let v361 : BitVec 32 := Scalar.maxsi v359 v360
  let v362 : BitVec 32 := Scalar.minsi c200_i32_307 v361
  let v363 : BitVec 32 := Scalar.subi v362 v359
  let c1_i32_309 : BitVec 32 := 1#32
  let v365 : BitVec 32 := Scalar.divsi v363 c1_i32_309
  let v366 : BitVec 32 := Scalar.muli v365 c1_i32_309
  let v367 : BitVec 32 := Scalar.addi v359 v366
  let c1_i32_311 : BitVec 32 := 1#32
  let arg16 : BitVec 32 := Scf.iv v367 c1_i32_311 k0_t4
  let v637 : Index := Scalar.indexCast arg16
  let c16_452 : Index := 16#32
  ![v637.toNat, 16]
def k0_off15 (v15 : BitVec 32) (k0_t2 : Fin k0_t2_loop.trips) (k0_t4 : Fin (k0_t4_loop v15 k0_t2).trips) : Fin 2 → Nat :=
  let c200_i32_306 : BitVec 32 := 200#32
  let c0_i32_305 : BitVec 32 := 0#32
  let c0_i32_272 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v357 : BitVec 32 := Scalar.subi c0_i32_272 v356
  let v358 : BitVec 32 := Scalar.maxsi c0_i32_305 v357
  let v359 : BitVec 32 := Scalar.minsi c200_i32_306 v358
  let c200_i32_307 : BitVec 32 := 200#32
  let v360 : BitVec 32 := Scalar.subi v15 v356
  let v361 : BitVec 32 := Scalar.maxsi v359 v360
  let v362 : BitVec 32 := Scalar.minsi c200_i32_307 v361
  let v363 : BitVec 32 := Scalar.subi v362 v359
  let c1_i32_309 : BitVec 32 := 1#32
  let v365 : BitVec 32 := Scalar.divsi v363 c1_i32_309
  let v366 : BitVec 32 := Scalar.muli v365 c1_i32_309
  let v367 : BitVec 32 := Scalar.addi v359 v366
  let c1_i32_311 : BitVec 32 := 1#32
  let arg16 : BitVec 32 := Scf.iv v367 c1_i32_311 k0_t4
  let v644 : Index := Scalar.indexCast arg16
  let c32_455 : Index := 32#32
  ![v644.toNat, 32]
def k0_off16 (v15 : BitVec 32) (k0_t2 : Fin k0_t2_loop.trips) (k0_t4 : Fin (k0_t4_loop v15 k0_t2).trips) : Fin 2 → Nat :=
  let c200_i32_306 : BitVec 32 := 200#32
  let c0_i32_305 : BitVec 32 := 0#32
  let c0_i32_272 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v357 : BitVec 32 := Scalar.subi c0_i32_272 v356
  let v358 : BitVec 32 := Scalar.maxsi c0_i32_305 v357
  let v359 : BitVec 32 := Scalar.minsi c200_i32_306 v358
  let c200_i32_307 : BitVec 32 := 200#32
  let v360 : BitVec 32 := Scalar.subi v15 v356
  let v361 : BitVec 32 := Scalar.maxsi v359 v360
  let v362 : BitVec 32 := Scalar.minsi c200_i32_307 v361
  let v363 : BitVec 32 := Scalar.subi v362 v359
  let c1_i32_309 : BitVec 32 := 1#32
  let v365 : BitVec 32 := Scalar.divsi v363 c1_i32_309
  let v366 : BitVec 32 := Scalar.muli v365 c1_i32_309
  let v367 : BitVec 32 := Scalar.addi v359 v366
  let c1_i32_311 : BitVec 32 := 1#32
  let arg16 : BitVec 32 := Scf.iv v367 c1_i32_311 k0_t4
  let v651 : Index := Scalar.indexCast arg16
  let c48_458 : Index := 48#32
  ![v651.toNat, 48]
def k0_off17 (v15 : BitVec 32) (k0_t2 : Fin k0_t2_loop.trips) (k0_t4 : Fin (k0_t4_loop v15 k0_t2).trips) : Fin 2 → Nat :=
  let c200_i32_306 : BitVec 32 := 200#32
  let c0_i32_305 : BitVec 32 := 0#32
  let c0_i32_272 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v357 : BitVec 32 := Scalar.subi c0_i32_272 v356
  let v358 : BitVec 32 := Scalar.maxsi c0_i32_305 v357
  let v359 : BitVec 32 := Scalar.minsi c200_i32_306 v358
  let c200_i32_307 : BitVec 32 := 200#32
  let v360 : BitVec 32 := Scalar.subi v15 v356
  let v361 : BitVec 32 := Scalar.maxsi v359 v360
  let v362 : BitVec 32 := Scalar.minsi c200_i32_307 v361
  let v363 : BitVec 32 := Scalar.subi v362 v359
  let c1_i32_309 : BitVec 32 := 1#32
  let v365 : BitVec 32 := Scalar.divsi v363 c1_i32_309
  let v366 : BitVec 32 := Scalar.muli v365 c1_i32_309
  let v367 : BitVec 32 := Scalar.addi v359 v366
  let c1_i32_311 : BitVec 32 := 1#32
  let arg16 : BitVec 32 := Scf.iv v367 c1_i32_311 k0_t4
  let v658 : Index := Scalar.indexCast arg16
  let c64_461 : Index := 64#32
  ![v658.toNat, 64]
def k0_off18 (v15 : BitVec 32) (k0_t2 : Fin k0_t2_loop.trips) (k0_t4 : Fin (k0_t4_loop v15 k0_t2).trips) : Fin 2 → Nat :=
  let c200_i32_306 : BitVec 32 := 200#32
  let c0_i32_305 : BitVec 32 := 0#32
  let c0_i32_272 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v357 : BitVec 32 := Scalar.subi c0_i32_272 v356
  let v358 : BitVec 32 := Scalar.maxsi c0_i32_305 v357
  let v359 : BitVec 32 := Scalar.minsi c200_i32_306 v358
  let c200_i32_307 : BitVec 32 := 200#32
  let v360 : BitVec 32 := Scalar.subi v15 v356
  let v361 : BitVec 32 := Scalar.maxsi v359 v360
  let v362 : BitVec 32 := Scalar.minsi c200_i32_307 v361
  let v363 : BitVec 32 := Scalar.subi v362 v359
  let c1_i32_309 : BitVec 32 := 1#32
  let v365 : BitVec 32 := Scalar.divsi v363 c1_i32_309
  let v366 : BitVec 32 := Scalar.muli v365 c1_i32_309
  let v367 : BitVec 32 := Scalar.addi v359 v366
  let c1_i32_311 : BitVec 32 := 1#32
  let arg16 : BitVec 32 := Scf.iv v367 c1_i32_311 k0_t4
  let v665 : Index := Scalar.indexCast arg16
  let c80_464 : Index := 80#32
  ![v665.toNat, 80]
def k0_off19 (v15 : BitVec 32) (k0_t2 : Fin k0_t2_loop.trips) (k0_t4 : Fin (k0_t4_loop v15 k0_t2).trips) : Fin 2 → Nat :=
  let c200_i32_306 : BitVec 32 := 200#32
  let c0_i32_305 : BitVec 32 := 0#32
  let c0_i32_272 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v357 : BitVec 32 := Scalar.subi c0_i32_272 v356
  let v358 : BitVec 32 := Scalar.maxsi c0_i32_305 v357
  let v359 : BitVec 32 := Scalar.minsi c200_i32_306 v358
  let c200_i32_307 : BitVec 32 := 200#32
  let v360 : BitVec 32 := Scalar.subi v15 v356
  let v361 : BitVec 32 := Scalar.maxsi v359 v360
  let v362 : BitVec 32 := Scalar.minsi c200_i32_307 v361
  let v363 : BitVec 32 := Scalar.subi v362 v359
  let c1_i32_309 : BitVec 32 := 1#32
  let v365 : BitVec 32 := Scalar.divsi v363 c1_i32_309
  let v366 : BitVec 32 := Scalar.muli v365 c1_i32_309
  let v367 : BitVec 32 := Scalar.addi v359 v366
  let c1_i32_311 : BitVec 32 := 1#32
  let arg16 : BitVec 32 := Scf.iv v367 c1_i32_311 k0_t4
  let v672 : Index := Scalar.indexCast arg16
  let c96_467 : Index := 96#32
  ![v672.toNat, 96]
def k0_off20 (v15 : BitVec 32) (k0_t2 : Fin k0_t2_loop.trips) (k0_t4 : Fin (k0_t4_loop v15 k0_t2).trips) : Fin 2 → Nat :=
  let c200_i32_306 : BitVec 32 := 200#32
  let c0_i32_305 : BitVec 32 := 0#32
  let c0_i32_272 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v357 : BitVec 32 := Scalar.subi c0_i32_272 v356
  let v358 : BitVec 32 := Scalar.maxsi c0_i32_305 v357
  let v359 : BitVec 32 := Scalar.minsi c200_i32_306 v358
  let c200_i32_307 : BitVec 32 := 200#32
  let v360 : BitVec 32 := Scalar.subi v15 v356
  let v361 : BitVec 32 := Scalar.maxsi v359 v360
  let v362 : BitVec 32 := Scalar.minsi c200_i32_307 v361
  let v363 : BitVec 32 := Scalar.subi v362 v359
  let c1_i32_309 : BitVec 32 := 1#32
  let v365 : BitVec 32 := Scalar.divsi v363 c1_i32_309
  let v366 : BitVec 32 := Scalar.muli v365 c1_i32_309
  let v367 : BitVec 32 := Scalar.addi v359 v366
  let c1_i32_311 : BitVec 32 := 1#32
  let arg16 : BitVec 32 := Scf.iv v367 c1_i32_311 k0_t4
  let v679 : Index := Scalar.indexCast arg16
  let c112_470 : Index := 112#32
  ![v679.toNat, 112]
@[reducible] def k0_t5_loop (v15 : BitVec 32) (v18 : BitVec 32) (k0_t2 : Fin k0_t2_loop.trips) : Scf.Loop 32 :=
  let c200_i32_314 : BitVec 32 := 200#32
  let c0_i32_313 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v373 : BitVec 32 := Scalar.subi v15 v356
  let v374 : BitVec 32 := Scalar.maxsi c0_i32_313 v373
  let v375 : BitVec 32 := Scalar.minsi c200_i32_314 v374
  let c200_i32_315 : BitVec 32 := 200#32
  let v376 : BitVec 32 := Scalar.subi v18 v356
  let v377 : BitVec 32 := Scalar.maxsi v375 v376
  let v378 : BitVec 32 := Scalar.minsi c200_i32_315 v377
  let v379 : BitVec 32 := Scalar.subi v378 v375
  let c1_i32_317 : BitVec 32 := 1#32
  let v381 : BitVec 32 := Scalar.divsi v379 c1_i32_317
  let v382 : BitVec 32 := Scalar.muli v381 c1_i32_317
  let v383 : BitVec 32 := Scalar.addi v375 v382
  let c1_i32_318 : BitVec 32 := 1#32
  ⟨v375, v383, c1_i32_318⟩

def k0_off21 (v15 : BitVec 32) (v18 : BitVec 32) (k0_t2 : Fin k0_t2_loop.trips) (k0_t5 : Fin (k0_t5_loop v15 v18 k0_t2).trips) : Fin 2 → Nat :=
  let c200_i32_314 : BitVec 32 := 200#32
  let c0_i32_313 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v373 : BitVec 32 := Scalar.subi v15 v356
  let v374 : BitVec 32 := Scalar.maxsi c0_i32_313 v373
  let v375 : BitVec 32 := Scalar.minsi c200_i32_314 v374
  let c1_i32_318 : BitVec 32 := 1#32
  let arg16 : BitVec 32 := Scf.iv v375 c1_i32_318 k0_t5
  let v630 : Index := Scalar.indexCast arg16
  let c0_449 : Index := 0#32
  ![v630.toNat, 0]
def k0_off22 (v15 : BitVec 32) (v18 : BitVec 32) (k0_t2 : Fin k0_t2_loop.trips) (k0_t5 : Fin (k0_t5_loop v15 v18 k0_t2).trips) : Fin 2 → Nat :=
  let c200_i32_314 : BitVec 32 := 200#32
  let c0_i32_313 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v373 : BitVec 32 := Scalar.subi v15 v356
  let v374 : BitVec 32 := Scalar.maxsi c0_i32_313 v373
  let v375 : BitVec 32 := Scalar.minsi c200_i32_314 v374
  let c1_i32_318 : BitVec 32 := 1#32
  let arg16 : BitVec 32 := Scf.iv v375 c1_i32_318 k0_t5
  let v637 : Index := Scalar.indexCast arg16
  let c16_452 : Index := 16#32
  ![v637.toNat, 16]
def k0_off23 (v15 : BitVec 32) (v18 : BitVec 32) (k0_t2 : Fin k0_t2_loop.trips) (k0_t5 : Fin (k0_t5_loop v15 v18 k0_t2).trips) : Fin 2 → Nat :=
  let c200_i32_314 : BitVec 32 := 200#32
  let c0_i32_313 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v373 : BitVec 32 := Scalar.subi v15 v356
  let v374 : BitVec 32 := Scalar.maxsi c0_i32_313 v373
  let v375 : BitVec 32 := Scalar.minsi c200_i32_314 v374
  let c1_i32_318 : BitVec 32 := 1#32
  let arg16 : BitVec 32 := Scf.iv v375 c1_i32_318 k0_t5
  let v644 : Index := Scalar.indexCast arg16
  let c32_455 : Index := 32#32
  ![v644.toNat, 32]
def k0_off24 (v15 : BitVec 32) (v18 : BitVec 32) (k0_t2 : Fin k0_t2_loop.trips) (k0_t5 : Fin (k0_t5_loop v15 v18 k0_t2).trips) : Fin 2 → Nat :=
  let c200_i32_314 : BitVec 32 := 200#32
  let c0_i32_313 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v373 : BitVec 32 := Scalar.subi v15 v356
  let v374 : BitVec 32 := Scalar.maxsi c0_i32_313 v373
  let v375 : BitVec 32 := Scalar.minsi c200_i32_314 v374
  let c1_i32_318 : BitVec 32 := 1#32
  let arg16 : BitVec 32 := Scf.iv v375 c1_i32_318 k0_t5
  let v651 : Index := Scalar.indexCast arg16
  let c48_458 : Index := 48#32
  ![v651.toNat, 48]
def k0_off25 (v15 : BitVec 32) (v18 : BitVec 32) (k0_t2 : Fin k0_t2_loop.trips) (k0_t5 : Fin (k0_t5_loop v15 v18 k0_t2).trips) : Fin 2 → Nat :=
  let c200_i32_314 : BitVec 32 := 200#32
  let c0_i32_313 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v373 : BitVec 32 := Scalar.subi v15 v356
  let v374 : BitVec 32 := Scalar.maxsi c0_i32_313 v373
  let v375 : BitVec 32 := Scalar.minsi c200_i32_314 v374
  let c1_i32_318 : BitVec 32 := 1#32
  let arg16 : BitVec 32 := Scf.iv v375 c1_i32_318 k0_t5
  let v658 : Index := Scalar.indexCast arg16
  let c64_461 : Index := 64#32
  ![v658.toNat, 64]
def k0_off26 (v15 : BitVec 32) (v18 : BitVec 32) (k0_t2 : Fin k0_t2_loop.trips) (k0_t5 : Fin (k0_t5_loop v15 v18 k0_t2).trips) : Fin 2 → Nat :=
  let c200_i32_314 : BitVec 32 := 200#32
  let c0_i32_313 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v373 : BitVec 32 := Scalar.subi v15 v356
  let v374 : BitVec 32 := Scalar.maxsi c0_i32_313 v373
  let v375 : BitVec 32 := Scalar.minsi c200_i32_314 v374
  let c1_i32_318 : BitVec 32 := 1#32
  let arg16 : BitVec 32 := Scf.iv v375 c1_i32_318 k0_t5
  let v665 : Index := Scalar.indexCast arg16
  let c80_464 : Index := 80#32
  ![v665.toNat, 80]
def k0_off27 (v15 : BitVec 32) (v18 : BitVec 32) (k0_t2 : Fin k0_t2_loop.trips) (k0_t5 : Fin (k0_t5_loop v15 v18 k0_t2).trips) : Fin 2 → Nat :=
  let c200_i32_314 : BitVec 32 := 200#32
  let c0_i32_313 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v373 : BitVec 32 := Scalar.subi v15 v356
  let v374 : BitVec 32 := Scalar.maxsi c0_i32_313 v373
  let v375 : BitVec 32 := Scalar.minsi c200_i32_314 v374
  let c1_i32_318 : BitVec 32 := 1#32
  let arg16 : BitVec 32 := Scf.iv v375 c1_i32_318 k0_t5
  let v672 : Index := Scalar.indexCast arg16
  let c96_467 : Index := 96#32
  ![v672.toNat, 96]
def k0_off28 (v15 : BitVec 32) (v18 : BitVec 32) (k0_t2 : Fin k0_t2_loop.trips) (k0_t5 : Fin (k0_t5_loop v15 v18 k0_t2).trips) : Fin 2 → Nat :=
  let c200_i32_314 : BitVec 32 := 200#32
  let c0_i32_313 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v373 : BitVec 32 := Scalar.subi v15 v356
  let v374 : BitVec 32 := Scalar.maxsi c0_i32_313 v373
  let v375 : BitVec 32 := Scalar.minsi c200_i32_314 v374
  let c1_i32_318 : BitVec 32 := 1#32
  let arg16 : BitVec 32 := Scf.iv v375 c1_i32_318 k0_t5
  let v679 : Index := Scalar.indexCast arg16
  let c112_470 : Index := 112#32
  ![v679.toNat, 112]
@[reducible] def k0_t6_loop (v15 : BitVec 32) (v18 : BitVec 32) (k0_t2 : Fin k0_t2_loop.trips) : Scf.Loop 32 :=
  let c200_i32_314 : BitVec 32 := 200#32
  let c0_i32_313 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v373 : BitVec 32 := Scalar.subi v15 v356
  let v374 : BitVec 32 := Scalar.maxsi c0_i32_313 v373
  let v375 : BitVec 32 := Scalar.minsi c200_i32_314 v374
  let c200_i32_315 : BitVec 32 := 200#32
  let v376 : BitVec 32 := Scalar.subi v18 v356
  let v377 : BitVec 32 := Scalar.maxsi v375 v376
  let v378 : BitVec 32 := Scalar.minsi c200_i32_315 v377
  let v379 : BitVec 32 := Scalar.subi v378 v375
  let c1_i32_317 : BitVec 32 := 1#32
  let v381 : BitVec 32 := Scalar.divsi v379 c1_i32_317
  let v382 : BitVec 32 := Scalar.muli v381 c1_i32_317
  let v383 : BitVec 32 := Scalar.addi v375 v382
  let v380 : BitVec 32 := Scalar.addi v375 v379
  let c1_i32_319 : BitVec 32 := 1#32
  ⟨v383, v380, c1_i32_319⟩
def k0_off29 (v15 : BitVec 32) (v18 : BitVec 32) (k0_t2 : Fin k0_t2_loop.trips) (k0_t6 : Fin (k0_t6_loop v15 v18 k0_t2).trips) : Fin 2 → Nat :=
  let c200_i32_314 : BitVec 32 := 200#32
  let c0_i32_313 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v373 : BitVec 32 := Scalar.subi v15 v356
  let v374 : BitVec 32 := Scalar.maxsi c0_i32_313 v373
  let v375 : BitVec 32 := Scalar.minsi c200_i32_314 v374
  let c200_i32_315 : BitVec 32 := 200#32
  let v376 : BitVec 32 := Scalar.subi v18 v356
  let v377 : BitVec 32 := Scalar.maxsi v375 v376
  let v378 : BitVec 32 := Scalar.minsi c200_i32_315 v377
  let v379 : BitVec 32 := Scalar.subi v378 v375
  let c1_i32_317 : BitVec 32 := 1#32
  let v381 : BitVec 32 := Scalar.divsi v379 c1_i32_317
  let v382 : BitVec 32 := Scalar.muli v381 c1_i32_317
  let v383 : BitVec 32 := Scalar.addi v375 v382
  let c1_i32_319 : BitVec 32 := 1#32
  let arg16 : BitVec 32 := Scf.iv v383 c1_i32_319 k0_t6
  let v630 : Index := Scalar.indexCast arg16
  let c0_449 : Index := 0#32
  ![v630.toNat, 0]
def k0_off30 (v15 : BitVec 32) (v18 : BitVec 32) (k0_t2 : Fin k0_t2_loop.trips) (k0_t6 : Fin (k0_t6_loop v15 v18 k0_t2).trips) : Fin 2 → Nat :=
  let c200_i32_314 : BitVec 32 := 200#32
  let c0_i32_313 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v373 : BitVec 32 := Scalar.subi v15 v356
  let v374 : BitVec 32 := Scalar.maxsi c0_i32_313 v373
  let v375 : BitVec 32 := Scalar.minsi c200_i32_314 v374
  let c200_i32_315 : BitVec 32 := 200#32
  let v376 : BitVec 32 := Scalar.subi v18 v356
  let v377 : BitVec 32 := Scalar.maxsi v375 v376
  let v378 : BitVec 32 := Scalar.minsi c200_i32_315 v377
  let v379 : BitVec 32 := Scalar.subi v378 v375
  let c1_i32_317 : BitVec 32 := 1#32
  let v381 : BitVec 32 := Scalar.divsi v379 c1_i32_317
  let v382 : BitVec 32 := Scalar.muli v381 c1_i32_317
  let v383 : BitVec 32 := Scalar.addi v375 v382
  let c1_i32_319 : BitVec 32 := 1#32
  let arg16 : BitVec 32 := Scf.iv v383 c1_i32_319 k0_t6
  let v637 : Index := Scalar.indexCast arg16
  let c16_452 : Index := 16#32
  ![v637.toNat, 16]
def k0_off31 (v15 : BitVec 32) (v18 : BitVec 32) (k0_t2 : Fin k0_t2_loop.trips) (k0_t6 : Fin (k0_t6_loop v15 v18 k0_t2).trips) : Fin 2 → Nat :=
  let c200_i32_314 : BitVec 32 := 200#32
  let c0_i32_313 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v373 : BitVec 32 := Scalar.subi v15 v356
  let v374 : BitVec 32 := Scalar.maxsi c0_i32_313 v373
  let v375 : BitVec 32 := Scalar.minsi c200_i32_314 v374
  let c200_i32_315 : BitVec 32 := 200#32
  let v376 : BitVec 32 := Scalar.subi v18 v356
  let v377 : BitVec 32 := Scalar.maxsi v375 v376
  let v378 : BitVec 32 := Scalar.minsi c200_i32_315 v377
  let v379 : BitVec 32 := Scalar.subi v378 v375
  let c1_i32_317 : BitVec 32 := 1#32
  let v381 : BitVec 32 := Scalar.divsi v379 c1_i32_317
  let v382 : BitVec 32 := Scalar.muli v381 c1_i32_317
  let v383 : BitVec 32 := Scalar.addi v375 v382
  let c1_i32_319 : BitVec 32 := 1#32
  let arg16 : BitVec 32 := Scf.iv v383 c1_i32_319 k0_t6
  let v644 : Index := Scalar.indexCast arg16
  let c32_455 : Index := 32#32
  ![v644.toNat, 32]
def k0_off32 (v15 : BitVec 32) (v18 : BitVec 32) (k0_t2 : Fin k0_t2_loop.trips) (k0_t6 : Fin (k0_t6_loop v15 v18 k0_t2).trips) : Fin 2 → Nat :=
  let c200_i32_314 : BitVec 32 := 200#32
  let c0_i32_313 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v373 : BitVec 32 := Scalar.subi v15 v356
  let v374 : BitVec 32 := Scalar.maxsi c0_i32_313 v373
  let v375 : BitVec 32 := Scalar.minsi c200_i32_314 v374
  let c200_i32_315 : BitVec 32 := 200#32
  let v376 : BitVec 32 := Scalar.subi v18 v356
  let v377 : BitVec 32 := Scalar.maxsi v375 v376
  let v378 : BitVec 32 := Scalar.minsi c200_i32_315 v377
  let v379 : BitVec 32 := Scalar.subi v378 v375
  let c1_i32_317 : BitVec 32 := 1#32
  let v381 : BitVec 32 := Scalar.divsi v379 c1_i32_317
  let v382 : BitVec 32 := Scalar.muli v381 c1_i32_317
  let v383 : BitVec 32 := Scalar.addi v375 v382
  let c1_i32_319 : BitVec 32 := 1#32
  let arg16 : BitVec 32 := Scf.iv v383 c1_i32_319 k0_t6
  let v651 : Index := Scalar.indexCast arg16
  let c48_458 : Index := 48#32
  ![v651.toNat, 48]
def k0_off33 (v15 : BitVec 32) (v18 : BitVec 32) (k0_t2 : Fin k0_t2_loop.trips) (k0_t6 : Fin (k0_t6_loop v15 v18 k0_t2).trips) : Fin 2 → Nat :=
  let c200_i32_314 : BitVec 32 := 200#32
  let c0_i32_313 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v373 : BitVec 32 := Scalar.subi v15 v356
  let v374 : BitVec 32 := Scalar.maxsi c0_i32_313 v373
  let v375 : BitVec 32 := Scalar.minsi c200_i32_314 v374
  let c200_i32_315 : BitVec 32 := 200#32
  let v376 : BitVec 32 := Scalar.subi v18 v356
  let v377 : BitVec 32 := Scalar.maxsi v375 v376
  let v378 : BitVec 32 := Scalar.minsi c200_i32_315 v377
  let v379 : BitVec 32 := Scalar.subi v378 v375
  let c1_i32_317 : BitVec 32 := 1#32
  let v381 : BitVec 32 := Scalar.divsi v379 c1_i32_317
  let v382 : BitVec 32 := Scalar.muli v381 c1_i32_317
  let v383 : BitVec 32 := Scalar.addi v375 v382
  let c1_i32_319 : BitVec 32 := 1#32
  let arg16 : BitVec 32 := Scf.iv v383 c1_i32_319 k0_t6
  let v658 : Index := Scalar.indexCast arg16
  let c64_461 : Index := 64#32
  ![v658.toNat, 64]
def k0_off34 (v15 : BitVec 32) (v18 : BitVec 32) (k0_t2 : Fin k0_t2_loop.trips) (k0_t6 : Fin (k0_t6_loop v15 v18 k0_t2).trips) : Fin 2 → Nat :=
  let c200_i32_314 : BitVec 32 := 200#32
  let c0_i32_313 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v373 : BitVec 32 := Scalar.subi v15 v356
  let v374 : BitVec 32 := Scalar.maxsi c0_i32_313 v373
  let v375 : BitVec 32 := Scalar.minsi c200_i32_314 v374
  let c200_i32_315 : BitVec 32 := 200#32
  let v376 : BitVec 32 := Scalar.subi v18 v356
  let v377 : BitVec 32 := Scalar.maxsi v375 v376
  let v378 : BitVec 32 := Scalar.minsi c200_i32_315 v377
  let v379 : BitVec 32 := Scalar.subi v378 v375
  let c1_i32_317 : BitVec 32 := 1#32
  let v381 : BitVec 32 := Scalar.divsi v379 c1_i32_317
  let v382 : BitVec 32 := Scalar.muli v381 c1_i32_317
  let v383 : BitVec 32 := Scalar.addi v375 v382
  let c1_i32_319 : BitVec 32 := 1#32
  let arg16 : BitVec 32 := Scf.iv v383 c1_i32_319 k0_t6
  let v665 : Index := Scalar.indexCast arg16
  let c80_464 : Index := 80#32
  ![v665.toNat, 80]
def k0_off35 (v15 : BitVec 32) (v18 : BitVec 32) (k0_t2 : Fin k0_t2_loop.trips) (k0_t6 : Fin (k0_t6_loop v15 v18 k0_t2).trips) : Fin 2 → Nat :=
  let c200_i32_314 : BitVec 32 := 200#32
  let c0_i32_313 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v373 : BitVec 32 := Scalar.subi v15 v356
  let v374 : BitVec 32 := Scalar.maxsi c0_i32_313 v373
  let v375 : BitVec 32 := Scalar.minsi c200_i32_314 v374
  let c200_i32_315 : BitVec 32 := 200#32
  let v376 : BitVec 32 := Scalar.subi v18 v356
  let v377 : BitVec 32 := Scalar.maxsi v375 v376
  let v378 : BitVec 32 := Scalar.minsi c200_i32_315 v377
  let v379 : BitVec 32 := Scalar.subi v378 v375
  let c1_i32_317 : BitVec 32 := 1#32
  let v381 : BitVec 32 := Scalar.divsi v379 c1_i32_317
  let v382 : BitVec 32 := Scalar.muli v381 c1_i32_317
  let v383 : BitVec 32 := Scalar.addi v375 v382
  let c1_i32_319 : BitVec 32 := 1#32
  let arg16 : BitVec 32 := Scf.iv v383 c1_i32_319 k0_t6
  let v672 : Index := Scalar.indexCast arg16
  let c96_467 : Index := 96#32
  ![v672.toNat, 96]
def k0_off36 (v15 : BitVec 32) (v18 : BitVec 32) (k0_t2 : Fin k0_t2_loop.trips) (k0_t6 : Fin (k0_t6_loop v15 v18 k0_t2).trips) : Fin 2 → Nat :=
  let c200_i32_314 : BitVec 32 := 200#32
  let c0_i32_313 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v373 : BitVec 32 := Scalar.subi v15 v356
  let v374 : BitVec 32 := Scalar.maxsi c0_i32_313 v373
  let v375 : BitVec 32 := Scalar.minsi c200_i32_314 v374
  let c200_i32_315 : BitVec 32 := 200#32
  let v376 : BitVec 32 := Scalar.subi v18 v356
  let v377 : BitVec 32 := Scalar.maxsi v375 v376
  let v378 : BitVec 32 := Scalar.minsi c200_i32_315 v377
  let v379 : BitVec 32 := Scalar.subi v378 v375
  let c1_i32_317 : BitVec 32 := 1#32
  let v381 : BitVec 32 := Scalar.divsi v379 c1_i32_317
  let v382 : BitVec 32 := Scalar.muli v381 c1_i32_317
  let v383 : BitVec 32 := Scalar.addi v375 v382
  let c1_i32_319 : BitVec 32 := 1#32
  let arg16 : BitVec 32 := Scf.iv v383 c1_i32_319 k0_t6
  let v679 : Index := Scalar.indexCast arg16
  let c112_470 : Index := 112#32
  ![v679.toNat, 112]
@[reducible] def k0_t7_loop (v18 : BitVec 32) (v21 : BitVec 32) (k0_t2 : Fin k0_t2_loop.trips) : Scf.Loop 32 :=
  let c200_i32_322 : BitVec 32 := 200#32
  let c0_i32_321 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v389 : BitVec 32 := Scalar.subi v18 v356
  let v390 : BitVec 32 := Scalar.maxsi c0_i32_321 v389
  let v391 : BitVec 32 := Scalar.minsi c200_i32_322 v390
  let c200_i32_323 : BitVec 32 := 200#32
  let v392 : BitVec 32 := Scalar.subi v21 v356
  let v393 : BitVec 32 := Scalar.maxsi v391 v392
  let v394 : BitVec 32 := Scalar.minsi c200_i32_323 v393
  let v395 : BitVec 32 := Scalar.subi v394 v391
  let c1_i32_325 : BitVec 32 := 1#32
  let v397 : BitVec 32 := Scalar.divsi v395 c1_i32_325
  let v398 : BitVec 32 := Scalar.muli v397 c1_i32_325
  let v399 : BitVec 32 := Scalar.addi v391 v398
  let c1_i32_326 : BitVec 32 := 1#32
  ⟨v391, v399, c1_i32_326⟩

def k0_off37 (v18 : BitVec 32) (v21 : BitVec 32) (k0_t2 : Fin k0_t2_loop.trips) (k0_t7 : Fin (k0_t7_loop v18 v21 k0_t2).trips) : Fin 2 → Nat :=
  let c200_i32_322 : BitVec 32 := 200#32
  let c0_i32_321 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v389 : BitVec 32 := Scalar.subi v18 v356
  let v390 : BitVec 32 := Scalar.maxsi c0_i32_321 v389
  let v391 : BitVec 32 := Scalar.minsi c200_i32_322 v390
  let c1_i32_326 : BitVec 32 := 1#32
  let arg16 : BitVec 32 := Scf.iv v391 c1_i32_326 k0_t7
  let v630 : Index := Scalar.indexCast arg16
  let c0_449 : Index := 0#32
  ![v630.toNat, 0]
def k0_off38 (v18 : BitVec 32) (v21 : BitVec 32) (k0_t2 : Fin k0_t2_loop.trips) (k0_t7 : Fin (k0_t7_loop v18 v21 k0_t2).trips) : Fin 2 → Nat :=
  let c200_i32_322 : BitVec 32 := 200#32
  let c0_i32_321 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v389 : BitVec 32 := Scalar.subi v18 v356
  let v390 : BitVec 32 := Scalar.maxsi c0_i32_321 v389
  let v391 : BitVec 32 := Scalar.minsi c200_i32_322 v390
  let c1_i32_326 : BitVec 32 := 1#32
  let arg16 : BitVec 32 := Scf.iv v391 c1_i32_326 k0_t7
  let v637 : Index := Scalar.indexCast arg16
  let c16_452 : Index := 16#32
  ![v637.toNat, 16]
def k0_off39 (v18 : BitVec 32) (v21 : BitVec 32) (k0_t2 : Fin k0_t2_loop.trips) (k0_t7 : Fin (k0_t7_loop v18 v21 k0_t2).trips) : Fin 2 → Nat :=
  let c200_i32_322 : BitVec 32 := 200#32
  let c0_i32_321 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v389 : BitVec 32 := Scalar.subi v18 v356
  let v390 : BitVec 32 := Scalar.maxsi c0_i32_321 v389
  let v391 : BitVec 32 := Scalar.minsi c200_i32_322 v390
  let c1_i32_326 : BitVec 32 := 1#32
  let arg16 : BitVec 32 := Scf.iv v391 c1_i32_326 k0_t7
  let v644 : Index := Scalar.indexCast arg16
  let c32_455 : Index := 32#32
  ![v644.toNat, 32]
def k0_off40 (v18 : BitVec 32) (v21 : BitVec 32) (k0_t2 : Fin k0_t2_loop.trips) (k0_t7 : Fin (k0_t7_loop v18 v21 k0_t2).trips) : Fin 2 → Nat :=
  let c200_i32_322 : BitVec 32 := 200#32
  let c0_i32_321 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v389 : BitVec 32 := Scalar.subi v18 v356
  let v390 : BitVec 32 := Scalar.maxsi c0_i32_321 v389
  let v391 : BitVec 32 := Scalar.minsi c200_i32_322 v390
  let c1_i32_326 : BitVec 32 := 1#32
  let arg16 : BitVec 32 := Scf.iv v391 c1_i32_326 k0_t7
  let v651 : Index := Scalar.indexCast arg16
  let c48_458 : Index := 48#32
  ![v651.toNat, 48]
def k0_off41 (v18 : BitVec 32) (v21 : BitVec 32) (k0_t2 : Fin k0_t2_loop.trips) (k0_t7 : Fin (k0_t7_loop v18 v21 k0_t2).trips) : Fin 2 → Nat :=
  let c200_i32_322 : BitVec 32 := 200#32
  let c0_i32_321 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v389 : BitVec 32 := Scalar.subi v18 v356
  let v390 : BitVec 32 := Scalar.maxsi c0_i32_321 v389
  let v391 : BitVec 32 := Scalar.minsi c200_i32_322 v390
  let c1_i32_326 : BitVec 32 := 1#32
  let arg16 : BitVec 32 := Scf.iv v391 c1_i32_326 k0_t7
  let v658 : Index := Scalar.indexCast arg16
  let c64_461 : Index := 64#32
  ![v658.toNat, 64]
def k0_off42 (v18 : BitVec 32) (v21 : BitVec 32) (k0_t2 : Fin k0_t2_loop.trips) (k0_t7 : Fin (k0_t7_loop v18 v21 k0_t2).trips) : Fin 2 → Nat :=
  let c200_i32_322 : BitVec 32 := 200#32
  let c0_i32_321 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v389 : BitVec 32 := Scalar.subi v18 v356
  let v390 : BitVec 32 := Scalar.maxsi c0_i32_321 v389
  let v391 : BitVec 32 := Scalar.minsi c200_i32_322 v390
  let c1_i32_326 : BitVec 32 := 1#32
  let arg16 : BitVec 32 := Scf.iv v391 c1_i32_326 k0_t7
  let v665 : Index := Scalar.indexCast arg16
  let c80_464 : Index := 80#32
  ![v665.toNat, 80]
def k0_off43 (v18 : BitVec 32) (v21 : BitVec 32) (k0_t2 : Fin k0_t2_loop.trips) (k0_t7 : Fin (k0_t7_loop v18 v21 k0_t2).trips) : Fin 2 → Nat :=
  let c200_i32_322 : BitVec 32 := 200#32
  let c0_i32_321 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v389 : BitVec 32 := Scalar.subi v18 v356
  let v390 : BitVec 32 := Scalar.maxsi c0_i32_321 v389
  let v391 : BitVec 32 := Scalar.minsi c200_i32_322 v390
  let c1_i32_326 : BitVec 32 := 1#32
  let arg16 : BitVec 32 := Scf.iv v391 c1_i32_326 k0_t7
  let v672 : Index := Scalar.indexCast arg16
  let c96_467 : Index := 96#32
  ![v672.toNat, 96]
def k0_off44 (v18 : BitVec 32) (v21 : BitVec 32) (k0_t2 : Fin k0_t2_loop.trips) (k0_t7 : Fin (k0_t7_loop v18 v21 k0_t2).trips) : Fin 2 → Nat :=
  let c200_i32_322 : BitVec 32 := 200#32
  let c0_i32_321 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v389 : BitVec 32 := Scalar.subi v18 v356
  let v390 : BitVec 32 := Scalar.maxsi c0_i32_321 v389
  let v391 : BitVec 32 := Scalar.minsi c200_i32_322 v390
  let c1_i32_326 : BitVec 32 := 1#32
  let arg16 : BitVec 32 := Scf.iv v391 c1_i32_326 k0_t7
  let v679 : Index := Scalar.indexCast arg16
  let c112_470 : Index := 112#32
  ![v679.toNat, 112]
@[reducible] def k0_t8_loop (v18 : BitVec 32) (v21 : BitVec 32) (k0_t2 : Fin k0_t2_loop.trips) : Scf.Loop 32 :=
  let c200_i32_322 : BitVec 32 := 200#32
  let c0_i32_321 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v389 : BitVec 32 := Scalar.subi v18 v356
  let v390 : BitVec 32 := Scalar.maxsi c0_i32_321 v389
  let v391 : BitVec 32 := Scalar.minsi c200_i32_322 v390
  let c200_i32_323 : BitVec 32 := 200#32
  let v392 : BitVec 32 := Scalar.subi v21 v356
  let v393 : BitVec 32 := Scalar.maxsi v391 v392
  let v394 : BitVec 32 := Scalar.minsi c200_i32_323 v393
  let v395 : BitVec 32 := Scalar.subi v394 v391
  let c1_i32_325 : BitVec 32 := 1#32
  let v397 : BitVec 32 := Scalar.divsi v395 c1_i32_325
  let v398 : BitVec 32 := Scalar.muli v397 c1_i32_325
  let v399 : BitVec 32 := Scalar.addi v391 v398
  let v396 : BitVec 32 := Scalar.addi v391 v395
  let c1_i32_327 : BitVec 32 := 1#32
  ⟨v399, v396, c1_i32_327⟩
def k0_off45 (v18 : BitVec 32) (v21 : BitVec 32) (k0_t2 : Fin k0_t2_loop.trips) (k0_t8 : Fin (k0_t8_loop v18 v21 k0_t2).trips) : Fin 2 → Nat :=
  let c200_i32_322 : BitVec 32 := 200#32
  let c0_i32_321 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v389 : BitVec 32 := Scalar.subi v18 v356
  let v390 : BitVec 32 := Scalar.maxsi c0_i32_321 v389
  let v391 : BitVec 32 := Scalar.minsi c200_i32_322 v390
  let c200_i32_323 : BitVec 32 := 200#32
  let v392 : BitVec 32 := Scalar.subi v21 v356
  let v393 : BitVec 32 := Scalar.maxsi v391 v392
  let v394 : BitVec 32 := Scalar.minsi c200_i32_323 v393
  let v395 : BitVec 32 := Scalar.subi v394 v391
  let c1_i32_325 : BitVec 32 := 1#32
  let v397 : BitVec 32 := Scalar.divsi v395 c1_i32_325
  let v398 : BitVec 32 := Scalar.muli v397 c1_i32_325
  let v399 : BitVec 32 := Scalar.addi v391 v398
  let c1_i32_327 : BitVec 32 := 1#32
  let arg16 : BitVec 32 := Scf.iv v399 c1_i32_327 k0_t8
  let v630 : Index := Scalar.indexCast arg16
  let c0_449 : Index := 0#32
  ![v630.toNat, 0]
def k0_off46 (v18 : BitVec 32) (v21 : BitVec 32) (k0_t2 : Fin k0_t2_loop.trips) (k0_t8 : Fin (k0_t8_loop v18 v21 k0_t2).trips) : Fin 2 → Nat :=
  let c200_i32_322 : BitVec 32 := 200#32
  let c0_i32_321 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v389 : BitVec 32 := Scalar.subi v18 v356
  let v390 : BitVec 32 := Scalar.maxsi c0_i32_321 v389
  let v391 : BitVec 32 := Scalar.minsi c200_i32_322 v390
  let c200_i32_323 : BitVec 32 := 200#32
  let v392 : BitVec 32 := Scalar.subi v21 v356
  let v393 : BitVec 32 := Scalar.maxsi v391 v392
  let v394 : BitVec 32 := Scalar.minsi c200_i32_323 v393
  let v395 : BitVec 32 := Scalar.subi v394 v391
  let c1_i32_325 : BitVec 32 := 1#32
  let v397 : BitVec 32 := Scalar.divsi v395 c1_i32_325
  let v398 : BitVec 32 := Scalar.muli v397 c1_i32_325
  let v399 : BitVec 32 := Scalar.addi v391 v398
  let c1_i32_327 : BitVec 32 := 1#32
  let arg16 : BitVec 32 := Scf.iv v399 c1_i32_327 k0_t8
  let v637 : Index := Scalar.indexCast arg16
  let c16_452 : Index := 16#32
  ![v637.toNat, 16]
def k0_off47 (v18 : BitVec 32) (v21 : BitVec 32) (k0_t2 : Fin k0_t2_loop.trips) (k0_t8 : Fin (k0_t8_loop v18 v21 k0_t2).trips) : Fin 2 → Nat :=
  let c200_i32_322 : BitVec 32 := 200#32
  let c0_i32_321 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v389 : BitVec 32 := Scalar.subi v18 v356
  let v390 : BitVec 32 := Scalar.maxsi c0_i32_321 v389
  let v391 : BitVec 32 := Scalar.minsi c200_i32_322 v390
  let c200_i32_323 : BitVec 32 := 200#32
  let v392 : BitVec 32 := Scalar.subi v21 v356
  let v393 : BitVec 32 := Scalar.maxsi v391 v392
  let v394 : BitVec 32 := Scalar.minsi c200_i32_323 v393
  let v395 : BitVec 32 := Scalar.subi v394 v391
  let c1_i32_325 : BitVec 32 := 1#32
  let v397 : BitVec 32 := Scalar.divsi v395 c1_i32_325
  let v398 : BitVec 32 := Scalar.muli v397 c1_i32_325
  let v399 : BitVec 32 := Scalar.addi v391 v398
  let c1_i32_327 : BitVec 32 := 1#32
  let arg16 : BitVec 32 := Scf.iv v399 c1_i32_327 k0_t8
  let v644 : Index := Scalar.indexCast arg16
  let c32_455 : Index := 32#32
  ![v644.toNat, 32]
def k0_off48 (v18 : BitVec 32) (v21 : BitVec 32) (k0_t2 : Fin k0_t2_loop.trips) (k0_t8 : Fin (k0_t8_loop v18 v21 k0_t2).trips) : Fin 2 → Nat :=
  let c200_i32_322 : BitVec 32 := 200#32
  let c0_i32_321 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v389 : BitVec 32 := Scalar.subi v18 v356
  let v390 : BitVec 32 := Scalar.maxsi c0_i32_321 v389
  let v391 : BitVec 32 := Scalar.minsi c200_i32_322 v390
  let c200_i32_323 : BitVec 32 := 200#32
  let v392 : BitVec 32 := Scalar.subi v21 v356
  let v393 : BitVec 32 := Scalar.maxsi v391 v392
  let v394 : BitVec 32 := Scalar.minsi c200_i32_323 v393
  let v395 : BitVec 32 := Scalar.subi v394 v391
  let c1_i32_325 : BitVec 32 := 1#32
  let v397 : BitVec 32 := Scalar.divsi v395 c1_i32_325
  let v398 : BitVec 32 := Scalar.muli v397 c1_i32_325
  let v399 : BitVec 32 := Scalar.addi v391 v398
  let c1_i32_327 : BitVec 32 := 1#32
  let arg16 : BitVec 32 := Scf.iv v399 c1_i32_327 k0_t8
  let v651 : Index := Scalar.indexCast arg16
  let c48_458 : Index := 48#32
  ![v651.toNat, 48]
def k0_off49 (v18 : BitVec 32) (v21 : BitVec 32) (k0_t2 : Fin k0_t2_loop.trips) (k0_t8 : Fin (k0_t8_loop v18 v21 k0_t2).trips) : Fin 2 → Nat :=
  let c200_i32_322 : BitVec 32 := 200#32
  let c0_i32_321 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v389 : BitVec 32 := Scalar.subi v18 v356
  let v390 : BitVec 32 := Scalar.maxsi c0_i32_321 v389
  let v391 : BitVec 32 := Scalar.minsi c200_i32_322 v390
  let c200_i32_323 : BitVec 32 := 200#32
  let v392 : BitVec 32 := Scalar.subi v21 v356
  let v393 : BitVec 32 := Scalar.maxsi v391 v392
  let v394 : BitVec 32 := Scalar.minsi c200_i32_323 v393
  let v395 : BitVec 32 := Scalar.subi v394 v391
  let c1_i32_325 : BitVec 32 := 1#32
  let v397 : BitVec 32 := Scalar.divsi v395 c1_i32_325
  let v398 : BitVec 32 := Scalar.muli v397 c1_i32_325
  let v399 : BitVec 32 := Scalar.addi v391 v398
  let c1_i32_327 : BitVec 32 := 1#32
  let arg16 : BitVec 32 := Scf.iv v399 c1_i32_327 k0_t8
  let v658 : Index := Scalar.indexCast arg16
  let c64_461 : Index := 64#32
  ![v658.toNat, 64]
def k0_off50 (v18 : BitVec 32) (v21 : BitVec 32) (k0_t2 : Fin k0_t2_loop.trips) (k0_t8 : Fin (k0_t8_loop v18 v21 k0_t2).trips) : Fin 2 → Nat :=
  let c200_i32_322 : BitVec 32 := 200#32
  let c0_i32_321 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v389 : BitVec 32 := Scalar.subi v18 v356
  let v390 : BitVec 32 := Scalar.maxsi c0_i32_321 v389
  let v391 : BitVec 32 := Scalar.minsi c200_i32_322 v390
  let c200_i32_323 : BitVec 32 := 200#32
  let v392 : BitVec 32 := Scalar.subi v21 v356
  let v393 : BitVec 32 := Scalar.maxsi v391 v392
  let v394 : BitVec 32 := Scalar.minsi c200_i32_323 v393
  let v395 : BitVec 32 := Scalar.subi v394 v391
  let c1_i32_325 : BitVec 32 := 1#32
  let v397 : BitVec 32 := Scalar.divsi v395 c1_i32_325
  let v398 : BitVec 32 := Scalar.muli v397 c1_i32_325
  let v399 : BitVec 32 := Scalar.addi v391 v398
  let c1_i32_327 : BitVec 32 := 1#32
  let arg16 : BitVec 32 := Scf.iv v399 c1_i32_327 k0_t8
  let v665 : Index := Scalar.indexCast arg16
  let c80_464 : Index := 80#32
  ![v665.toNat, 80]
def k0_off51 (v18 : BitVec 32) (v21 : BitVec 32) (k0_t2 : Fin k0_t2_loop.trips) (k0_t8 : Fin (k0_t8_loop v18 v21 k0_t2).trips) : Fin 2 → Nat :=
  let c200_i32_322 : BitVec 32 := 200#32
  let c0_i32_321 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v389 : BitVec 32 := Scalar.subi v18 v356
  let v390 : BitVec 32 := Scalar.maxsi c0_i32_321 v389
  let v391 : BitVec 32 := Scalar.minsi c200_i32_322 v390
  let c200_i32_323 : BitVec 32 := 200#32
  let v392 : BitVec 32 := Scalar.subi v21 v356
  let v393 : BitVec 32 := Scalar.maxsi v391 v392
  let v394 : BitVec 32 := Scalar.minsi c200_i32_323 v393
  let v395 : BitVec 32 := Scalar.subi v394 v391
  let c1_i32_325 : BitVec 32 := 1#32
  let v397 : BitVec 32 := Scalar.divsi v395 c1_i32_325
  let v398 : BitVec 32 := Scalar.muli v397 c1_i32_325
  let v399 : BitVec 32 := Scalar.addi v391 v398
  let c1_i32_327 : BitVec 32 := 1#32
  let arg16 : BitVec 32 := Scf.iv v399 c1_i32_327 k0_t8
  let v672 : Index := Scalar.indexCast arg16
  let c96_467 : Index := 96#32
  ![v672.toNat, 96]
def k0_off52 (v18 : BitVec 32) (v21 : BitVec 32) (k0_t2 : Fin k0_t2_loop.trips) (k0_t8 : Fin (k0_t8_loop v18 v21 k0_t2).trips) : Fin 2 → Nat :=
  let c200_i32_322 : BitVec 32 := 200#32
  let c0_i32_321 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v389 : BitVec 32 := Scalar.subi v18 v356
  let v390 : BitVec 32 := Scalar.maxsi c0_i32_321 v389
  let v391 : BitVec 32 := Scalar.minsi c200_i32_322 v390
  let c200_i32_323 : BitVec 32 := 200#32
  let v392 : BitVec 32 := Scalar.subi v21 v356
  let v393 : BitVec 32 := Scalar.maxsi v391 v392
  let v394 : BitVec 32 := Scalar.minsi c200_i32_323 v393
  let v395 : BitVec 32 := Scalar.subi v394 v391
  let c1_i32_325 : BitVec 32 := 1#32
  let v397 : BitVec 32 := Scalar.divsi v395 c1_i32_325
  let v398 : BitVec 32 := Scalar.muli v397 c1_i32_325
  let v399 : BitVec 32 := Scalar.addi v391 v398
  let c1_i32_327 : BitVec 32 := 1#32
  let arg16 : BitVec 32 := Scf.iv v399 c1_i32_327 k0_t8
  let v679 : Index := Scalar.indexCast arg16
  let c112_470 : Index := 112#32
  ![v679.toNat, 112]
@[reducible] def k0_t9_loop (v21 : BitVec 32) (v24 : BitVec 32) (k0_t2 : Fin k0_t2_loop.trips) : Scf.Loop 32 :=
  let c200_i32_330 : BitVec 32 := 200#32
  let c0_i32_329 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v405 : BitVec 32 := Scalar.subi v21 v356
  let v406 : BitVec 32 := Scalar.maxsi c0_i32_329 v405
  let v407 : BitVec 32 := Scalar.minsi c200_i32_330 v406
  let c200_i32_331 : BitVec 32 := 200#32
  let v408 : BitVec 32 := Scalar.subi v24 v356
  let v409 : BitVec 32 := Scalar.maxsi v407 v408
  let v410 : BitVec 32 := Scalar.minsi c200_i32_331 v409
  let v411 : BitVec 32 := Scalar.subi v410 v407
  let c1_i32_333 : BitVec 32 := 1#32
  let v413 : BitVec 32 := Scalar.divsi v411 c1_i32_333
  let v414 : BitVec 32 := Scalar.muli v413 c1_i32_333
  let v415 : BitVec 32 := Scalar.addi v407 v414
  let c1_i32_334 : BitVec 32 := 1#32
  ⟨v407, v415, c1_i32_334⟩

def k0_off53 (v21 : BitVec 32) (v24 : BitVec 32) (k0_t2 : Fin k0_t2_loop.trips) (k0_t9 : Fin (k0_t9_loop v21 v24 k0_t2).trips) : Fin 2 → Nat :=
  let c200_i32_330 : BitVec 32 := 200#32
  let c0_i32_329 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v405 : BitVec 32 := Scalar.subi v21 v356
  let v406 : BitVec 32 := Scalar.maxsi c0_i32_329 v405
  let v407 : BitVec 32 := Scalar.minsi c200_i32_330 v406
  let c1_i32_334 : BitVec 32 := 1#32
  let arg16 : BitVec 32 := Scf.iv v407 c1_i32_334 k0_t9
  let v630 : Index := Scalar.indexCast arg16
  let c0_449 : Index := 0#32
  ![v630.toNat, 0]
def k0_off54 (v21 : BitVec 32) (v24 : BitVec 32) (k0_t2 : Fin k0_t2_loop.trips) (k0_t9 : Fin (k0_t9_loop v21 v24 k0_t2).trips) : Fin 2 → Nat :=
  let c200_i32_330 : BitVec 32 := 200#32
  let c0_i32_329 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v405 : BitVec 32 := Scalar.subi v21 v356
  let v406 : BitVec 32 := Scalar.maxsi c0_i32_329 v405
  let v407 : BitVec 32 := Scalar.minsi c200_i32_330 v406
  let c1_i32_334 : BitVec 32 := 1#32
  let arg16 : BitVec 32 := Scf.iv v407 c1_i32_334 k0_t9
  let v637 : Index := Scalar.indexCast arg16
  let c16_452 : Index := 16#32
  ![v637.toNat, 16]
def k0_off55 (v21 : BitVec 32) (v24 : BitVec 32) (k0_t2 : Fin k0_t2_loop.trips) (k0_t9 : Fin (k0_t9_loop v21 v24 k0_t2).trips) : Fin 2 → Nat :=
  let c200_i32_330 : BitVec 32 := 200#32
  let c0_i32_329 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v405 : BitVec 32 := Scalar.subi v21 v356
  let v406 : BitVec 32 := Scalar.maxsi c0_i32_329 v405
  let v407 : BitVec 32 := Scalar.minsi c200_i32_330 v406
  let c1_i32_334 : BitVec 32 := 1#32
  let arg16 : BitVec 32 := Scf.iv v407 c1_i32_334 k0_t9
  let v644 : Index := Scalar.indexCast arg16
  let c32_455 : Index := 32#32
  ![v644.toNat, 32]
def k0_off56 (v21 : BitVec 32) (v24 : BitVec 32) (k0_t2 : Fin k0_t2_loop.trips) (k0_t9 : Fin (k0_t9_loop v21 v24 k0_t2).trips) : Fin 2 → Nat :=
  let c200_i32_330 : BitVec 32 := 200#32
  let c0_i32_329 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v405 : BitVec 32 := Scalar.subi v21 v356
  let v406 : BitVec 32 := Scalar.maxsi c0_i32_329 v405
  let v407 : BitVec 32 := Scalar.minsi c200_i32_330 v406
  let c1_i32_334 : BitVec 32 := 1#32
  let arg16 : BitVec 32 := Scf.iv v407 c1_i32_334 k0_t9
  let v651 : Index := Scalar.indexCast arg16
  let c48_458 : Index := 48#32
  ![v651.toNat, 48]
def k0_off57 (v21 : BitVec 32) (v24 : BitVec 32) (k0_t2 : Fin k0_t2_loop.trips) (k0_t9 : Fin (k0_t9_loop v21 v24 k0_t2).trips) : Fin 2 → Nat :=
  let c200_i32_330 : BitVec 32 := 200#32
  let c0_i32_329 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v405 : BitVec 32 := Scalar.subi v21 v356
  let v406 : BitVec 32 := Scalar.maxsi c0_i32_329 v405
  let v407 : BitVec 32 := Scalar.minsi c200_i32_330 v406
  let c1_i32_334 : BitVec 32 := 1#32
  let arg16 : BitVec 32 := Scf.iv v407 c1_i32_334 k0_t9
  let v658 : Index := Scalar.indexCast arg16
  let c64_461 : Index := 64#32
  ![v658.toNat, 64]
def k0_off58 (v21 : BitVec 32) (v24 : BitVec 32) (k0_t2 : Fin k0_t2_loop.trips) (k0_t9 : Fin (k0_t9_loop v21 v24 k0_t2).trips) : Fin 2 → Nat :=
  let c200_i32_330 : BitVec 32 := 200#32
  let c0_i32_329 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v405 : BitVec 32 := Scalar.subi v21 v356
  let v406 : BitVec 32 := Scalar.maxsi c0_i32_329 v405
  let v407 : BitVec 32 := Scalar.minsi c200_i32_330 v406
  let c1_i32_334 : BitVec 32 := 1#32
  let arg16 : BitVec 32 := Scf.iv v407 c1_i32_334 k0_t9
  let v665 : Index := Scalar.indexCast arg16
  let c80_464 : Index := 80#32
  ![v665.toNat, 80]
def k0_off59 (v21 : BitVec 32) (v24 : BitVec 32) (k0_t2 : Fin k0_t2_loop.trips) (k0_t9 : Fin (k0_t9_loop v21 v24 k0_t2).trips) : Fin 2 → Nat :=
  let c200_i32_330 : BitVec 32 := 200#32
  let c0_i32_329 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v405 : BitVec 32 := Scalar.subi v21 v356
  let v406 : BitVec 32 := Scalar.maxsi c0_i32_329 v405
  let v407 : BitVec 32 := Scalar.minsi c200_i32_330 v406
  let c1_i32_334 : BitVec 32 := 1#32
  let arg16 : BitVec 32 := Scf.iv v407 c1_i32_334 k0_t9
  let v672 : Index := Scalar.indexCast arg16
  let c96_467 : Index := 96#32
  ![v672.toNat, 96]
def k0_off60 (v21 : BitVec 32) (v24 : BitVec 32) (k0_t2 : Fin k0_t2_loop.trips) (k0_t9 : Fin (k0_t9_loop v21 v24 k0_t2).trips) : Fin 2 → Nat :=
  let c200_i32_330 : BitVec 32 := 200#32
  let c0_i32_329 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v405 : BitVec 32 := Scalar.subi v21 v356
  let v406 : BitVec 32 := Scalar.maxsi c0_i32_329 v405
  let v407 : BitVec 32 := Scalar.minsi c200_i32_330 v406
  let c1_i32_334 : BitVec 32 := 1#32
  let arg16 : BitVec 32 := Scf.iv v407 c1_i32_334 k0_t9
  let v679 : Index := Scalar.indexCast arg16
  let c112_470 : Index := 112#32
  ![v679.toNat, 112]
@[reducible] def k0_t10_loop (v21 : BitVec 32) (v24 : BitVec 32) (k0_t2 : Fin k0_t2_loop.trips) : Scf.Loop 32 :=
  let c200_i32_330 : BitVec 32 := 200#32
  let c0_i32_329 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v405 : BitVec 32 := Scalar.subi v21 v356
  let v406 : BitVec 32 := Scalar.maxsi c0_i32_329 v405
  let v407 : BitVec 32 := Scalar.minsi c200_i32_330 v406
  let c200_i32_331 : BitVec 32 := 200#32
  let v408 : BitVec 32 := Scalar.subi v24 v356
  let v409 : BitVec 32 := Scalar.maxsi v407 v408
  let v410 : BitVec 32 := Scalar.minsi c200_i32_331 v409
  let v411 : BitVec 32 := Scalar.subi v410 v407
  let c1_i32_333 : BitVec 32 := 1#32
  let v413 : BitVec 32 := Scalar.divsi v411 c1_i32_333
  let v414 : BitVec 32 := Scalar.muli v413 c1_i32_333
  let v415 : BitVec 32 := Scalar.addi v407 v414
  let v412 : BitVec 32 := Scalar.addi v407 v411
  let c1_i32_335 : BitVec 32 := 1#32
  ⟨v415, v412, c1_i32_335⟩
def k0_off61 (v21 : BitVec 32) (v24 : BitVec 32) (k0_t2 : Fin k0_t2_loop.trips) (k0_t10 : Fin (k0_t10_loop v21 v24 k0_t2).trips) : Fin 2 → Nat :=
  let c200_i32_330 : BitVec 32 := 200#32
  let c0_i32_329 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v405 : BitVec 32 := Scalar.subi v21 v356
  let v406 : BitVec 32 := Scalar.maxsi c0_i32_329 v405
  let v407 : BitVec 32 := Scalar.minsi c200_i32_330 v406
  let c200_i32_331 : BitVec 32 := 200#32
  let v408 : BitVec 32 := Scalar.subi v24 v356
  let v409 : BitVec 32 := Scalar.maxsi v407 v408
  let v410 : BitVec 32 := Scalar.minsi c200_i32_331 v409
  let v411 : BitVec 32 := Scalar.subi v410 v407
  let c1_i32_333 : BitVec 32 := 1#32
  let v413 : BitVec 32 := Scalar.divsi v411 c1_i32_333
  let v414 : BitVec 32 := Scalar.muli v413 c1_i32_333
  let v415 : BitVec 32 := Scalar.addi v407 v414
  let c1_i32_335 : BitVec 32 := 1#32
  let arg16 : BitVec 32 := Scf.iv v415 c1_i32_335 k0_t10
  let v630 : Index := Scalar.indexCast arg16
  let c0_449 : Index := 0#32
  ![v630.toNat, 0]
def k0_off62 (v21 : BitVec 32) (v24 : BitVec 32) (k0_t2 : Fin k0_t2_loop.trips) (k0_t10 : Fin (k0_t10_loop v21 v24 k0_t2).trips) : Fin 2 → Nat :=
  let c200_i32_330 : BitVec 32 := 200#32
  let c0_i32_329 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v405 : BitVec 32 := Scalar.subi v21 v356
  let v406 : BitVec 32 := Scalar.maxsi c0_i32_329 v405
  let v407 : BitVec 32 := Scalar.minsi c200_i32_330 v406
  let c200_i32_331 : BitVec 32 := 200#32
  let v408 : BitVec 32 := Scalar.subi v24 v356
  let v409 : BitVec 32 := Scalar.maxsi v407 v408
  let v410 : BitVec 32 := Scalar.minsi c200_i32_331 v409
  let v411 : BitVec 32 := Scalar.subi v410 v407
  let c1_i32_333 : BitVec 32 := 1#32
  let v413 : BitVec 32 := Scalar.divsi v411 c1_i32_333
  let v414 : BitVec 32 := Scalar.muli v413 c1_i32_333
  let v415 : BitVec 32 := Scalar.addi v407 v414
  let c1_i32_335 : BitVec 32 := 1#32
  let arg16 : BitVec 32 := Scf.iv v415 c1_i32_335 k0_t10
  let v637 : Index := Scalar.indexCast arg16
  let c16_452 : Index := 16#32
  ![v637.toNat, 16]
def k0_off63 (v21 : BitVec 32) (v24 : BitVec 32) (k0_t2 : Fin k0_t2_loop.trips) (k0_t10 : Fin (k0_t10_loop v21 v24 k0_t2).trips) : Fin 2 → Nat :=
  let c200_i32_330 : BitVec 32 := 200#32
  let c0_i32_329 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v405 : BitVec 32 := Scalar.subi v21 v356
  let v406 : BitVec 32 := Scalar.maxsi c0_i32_329 v405
  let v407 : BitVec 32 := Scalar.minsi c200_i32_330 v406
  let c200_i32_331 : BitVec 32 := 200#32
  let v408 : BitVec 32 := Scalar.subi v24 v356
  let v409 : BitVec 32 := Scalar.maxsi v407 v408
  let v410 : BitVec 32 := Scalar.minsi c200_i32_331 v409
  let v411 : BitVec 32 := Scalar.subi v410 v407
  let c1_i32_333 : BitVec 32 := 1#32
  let v413 : BitVec 32 := Scalar.divsi v411 c1_i32_333
  let v414 : BitVec 32 := Scalar.muli v413 c1_i32_333
  let v415 : BitVec 32 := Scalar.addi v407 v414
  let c1_i32_335 : BitVec 32 := 1#32
  let arg16 : BitVec 32 := Scf.iv v415 c1_i32_335 k0_t10
  let v644 : Index := Scalar.indexCast arg16
  let c32_455 : Index := 32#32
  ![v644.toNat, 32]
def k0_off64 (v21 : BitVec 32) (v24 : BitVec 32) (k0_t2 : Fin k0_t2_loop.trips) (k0_t10 : Fin (k0_t10_loop v21 v24 k0_t2).trips) : Fin 2 → Nat :=
  let c200_i32_330 : BitVec 32 := 200#32
  let c0_i32_329 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v405 : BitVec 32 := Scalar.subi v21 v356
  let v406 : BitVec 32 := Scalar.maxsi c0_i32_329 v405
  let v407 : BitVec 32 := Scalar.minsi c200_i32_330 v406
  let c200_i32_331 : BitVec 32 := 200#32
  let v408 : BitVec 32 := Scalar.subi v24 v356
  let v409 : BitVec 32 := Scalar.maxsi v407 v408
  let v410 : BitVec 32 := Scalar.minsi c200_i32_331 v409
  let v411 : BitVec 32 := Scalar.subi v410 v407
  let c1_i32_333 : BitVec 32 := 1#32
  let v413 : BitVec 32 := Scalar.divsi v411 c1_i32_333
  let v414 : BitVec 32 := Scalar.muli v413 c1_i32_333
  let v415 : BitVec 32 := Scalar.addi v407 v414
  let c1_i32_335 : BitVec 32 := 1#32
  let arg16 : BitVec 32 := Scf.iv v415 c1_i32_335 k0_t10
  let v651 : Index := Scalar.indexCast arg16
  let c48_458 : Index := 48#32
  ![v651.toNat, 48]
def k0_off65 (v21 : BitVec 32) (v24 : BitVec 32) (k0_t2 : Fin k0_t2_loop.trips) (k0_t10 : Fin (k0_t10_loop v21 v24 k0_t2).trips) : Fin 2 → Nat :=
  let c200_i32_330 : BitVec 32 := 200#32
  let c0_i32_329 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v405 : BitVec 32 := Scalar.subi v21 v356
  let v406 : BitVec 32 := Scalar.maxsi c0_i32_329 v405
  let v407 : BitVec 32 := Scalar.minsi c200_i32_330 v406
  let c200_i32_331 : BitVec 32 := 200#32
  let v408 : BitVec 32 := Scalar.subi v24 v356
  let v409 : BitVec 32 := Scalar.maxsi v407 v408
  let v410 : BitVec 32 := Scalar.minsi c200_i32_331 v409
  let v411 : BitVec 32 := Scalar.subi v410 v407
  let c1_i32_333 : BitVec 32 := 1#32
  let v413 : BitVec 32 := Scalar.divsi v411 c1_i32_333
  let v414 : BitVec 32 := Scalar.muli v413 c1_i32_333
  let v415 : BitVec 32 := Scalar.addi v407 v414
  let c1_i32_335 : BitVec 32 := 1#32
  let arg16 : BitVec 32 := Scf.iv v415 c1_i32_335 k0_t10
  let v658 : Index := Scalar.indexCast arg16
  let c64_461 : Index := 64#32
  ![v658.toNat, 64]
def k0_off66 (v21 : BitVec 32) (v24 : BitVec 32) (k0_t2 : Fin k0_t2_loop.trips) (k0_t10 : Fin (k0_t10_loop v21 v24 k0_t2).trips) : Fin 2 → Nat :=
  let c200_i32_330 : BitVec 32 := 200#32
  let c0_i32_329 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v405 : BitVec 32 := Scalar.subi v21 v356
  let v406 : BitVec 32 := Scalar.maxsi c0_i32_329 v405
  let v407 : BitVec 32 := Scalar.minsi c200_i32_330 v406
  let c200_i32_331 : BitVec 32 := 200#32
  let v408 : BitVec 32 := Scalar.subi v24 v356
  let v409 : BitVec 32 := Scalar.maxsi v407 v408
  let v410 : BitVec 32 := Scalar.minsi c200_i32_331 v409
  let v411 : BitVec 32 := Scalar.subi v410 v407
  let c1_i32_333 : BitVec 32 := 1#32
  let v413 : BitVec 32 := Scalar.divsi v411 c1_i32_333
  let v414 : BitVec 32 := Scalar.muli v413 c1_i32_333
  let v415 : BitVec 32 := Scalar.addi v407 v414
  let c1_i32_335 : BitVec 32 := 1#32
  let arg16 : BitVec 32 := Scf.iv v415 c1_i32_335 k0_t10
  let v665 : Index := Scalar.indexCast arg16
  let c80_464 : Index := 80#32
  ![v665.toNat, 80]
def k0_off67 (v21 : BitVec 32) (v24 : BitVec 32) (k0_t2 : Fin k0_t2_loop.trips) (k0_t10 : Fin (k0_t10_loop v21 v24 k0_t2).trips) : Fin 2 → Nat :=
  let c200_i32_330 : BitVec 32 := 200#32
  let c0_i32_329 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v405 : BitVec 32 := Scalar.subi v21 v356
  let v406 : BitVec 32 := Scalar.maxsi c0_i32_329 v405
  let v407 : BitVec 32 := Scalar.minsi c200_i32_330 v406
  let c200_i32_331 : BitVec 32 := 200#32
  let v408 : BitVec 32 := Scalar.subi v24 v356
  let v409 : BitVec 32 := Scalar.maxsi v407 v408
  let v410 : BitVec 32 := Scalar.minsi c200_i32_331 v409
  let v411 : BitVec 32 := Scalar.subi v410 v407
  let c1_i32_333 : BitVec 32 := 1#32
  let v413 : BitVec 32 := Scalar.divsi v411 c1_i32_333
  let v414 : BitVec 32 := Scalar.muli v413 c1_i32_333
  let v415 : BitVec 32 := Scalar.addi v407 v414
  let c1_i32_335 : BitVec 32 := 1#32
  let arg16 : BitVec 32 := Scf.iv v415 c1_i32_335 k0_t10
  let v672 : Index := Scalar.indexCast arg16
  let c96_467 : Index := 96#32
  ![v672.toNat, 96]
def k0_off68 (v21 : BitVec 32) (v24 : BitVec 32) (k0_t2 : Fin k0_t2_loop.trips) (k0_t10 : Fin (k0_t10_loop v21 v24 k0_t2).trips) : Fin 2 → Nat :=
  let c200_i32_330 : BitVec 32 := 200#32
  let c0_i32_329 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v405 : BitVec 32 := Scalar.subi v21 v356
  let v406 : BitVec 32 := Scalar.maxsi c0_i32_329 v405
  let v407 : BitVec 32 := Scalar.minsi c200_i32_330 v406
  let c200_i32_331 : BitVec 32 := 200#32
  let v408 : BitVec 32 := Scalar.subi v24 v356
  let v409 : BitVec 32 := Scalar.maxsi v407 v408
  let v410 : BitVec 32 := Scalar.minsi c200_i32_331 v409
  let v411 : BitVec 32 := Scalar.subi v410 v407
  let c1_i32_333 : BitVec 32 := 1#32
  let v413 : BitVec 32 := Scalar.divsi v411 c1_i32_333
  let v414 : BitVec 32 := Scalar.muli v413 c1_i32_333
  let v415 : BitVec 32 := Scalar.addi v407 v414
  let c1_i32_335 : BitVec 32 := 1#32
  let arg16 : BitVec 32 := Scf.iv v415 c1_i32_335 k0_t10
  let v679 : Index := Scalar.indexCast arg16
  let c112_470 : Index := 112#32
  ![v679.toNat, 112]
@[reducible] def k0_t11_loop (v24 : BitVec 32) (v27 : BitVec 32) (k0_t2 : Fin k0_t2_loop.trips) : Scf.Loop 32 :=
  let c200_i32_338 : BitVec 32 := 200#32
  let c0_i32_337 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v421 : BitVec 32 := Scalar.subi v24 v356
  let v422 : BitVec 32 := Scalar.maxsi c0_i32_337 v421
  let v423 : BitVec 32 := Scalar.minsi c200_i32_338 v422
  let c200_i32_339 : BitVec 32 := 200#32
  let v424 : BitVec 32 := Scalar.subi v27 v356
  let v425 : BitVec 32 := Scalar.maxsi v423 v424
  let v426 : BitVec 32 := Scalar.minsi c200_i32_339 v425
  let v427 : BitVec 32 := Scalar.subi v426 v423
  let c1_i32_341 : BitVec 32 := 1#32
  let v429 : BitVec 32 := Scalar.divsi v427 c1_i32_341
  let v430 : BitVec 32 := Scalar.muli v429 c1_i32_341
  let v431 : BitVec 32 := Scalar.addi v423 v430
  let c1_i32_342 : BitVec 32 := 1#32
  ⟨v423, v431, c1_i32_342⟩

def k0_off69 (v24 : BitVec 32) (v27 : BitVec 32) (k0_t2 : Fin k0_t2_loop.trips) (k0_t11 : Fin (k0_t11_loop v24 v27 k0_t2).trips) : Fin 2 → Nat :=
  let c200_i32_338 : BitVec 32 := 200#32
  let c0_i32_337 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v421 : BitVec 32 := Scalar.subi v24 v356
  let v422 : BitVec 32 := Scalar.maxsi c0_i32_337 v421
  let v423 : BitVec 32 := Scalar.minsi c200_i32_338 v422
  let c1_i32_342 : BitVec 32 := 1#32
  let arg16 : BitVec 32 := Scf.iv v423 c1_i32_342 k0_t11
  let v630 : Index := Scalar.indexCast arg16
  let c0_449 : Index := 0#32
  ![v630.toNat, 0]
def k0_off70 (v24 : BitVec 32) (v27 : BitVec 32) (k0_t2 : Fin k0_t2_loop.trips) (k0_t11 : Fin (k0_t11_loop v24 v27 k0_t2).trips) : Fin 2 → Nat :=
  let c200_i32_338 : BitVec 32 := 200#32
  let c0_i32_337 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v421 : BitVec 32 := Scalar.subi v24 v356
  let v422 : BitVec 32 := Scalar.maxsi c0_i32_337 v421
  let v423 : BitVec 32 := Scalar.minsi c200_i32_338 v422
  let c1_i32_342 : BitVec 32 := 1#32
  let arg16 : BitVec 32 := Scf.iv v423 c1_i32_342 k0_t11
  let v637 : Index := Scalar.indexCast arg16
  let c16_452 : Index := 16#32
  ![v637.toNat, 16]
def k0_off71 (v24 : BitVec 32) (v27 : BitVec 32) (k0_t2 : Fin k0_t2_loop.trips) (k0_t11 : Fin (k0_t11_loop v24 v27 k0_t2).trips) : Fin 2 → Nat :=
  let c200_i32_338 : BitVec 32 := 200#32
  let c0_i32_337 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v421 : BitVec 32 := Scalar.subi v24 v356
  let v422 : BitVec 32 := Scalar.maxsi c0_i32_337 v421
  let v423 : BitVec 32 := Scalar.minsi c200_i32_338 v422
  let c1_i32_342 : BitVec 32 := 1#32
  let arg16 : BitVec 32 := Scf.iv v423 c1_i32_342 k0_t11
  let v644 : Index := Scalar.indexCast arg16
  let c32_455 : Index := 32#32
  ![v644.toNat, 32]
def k0_off72 (v24 : BitVec 32) (v27 : BitVec 32) (k0_t2 : Fin k0_t2_loop.trips) (k0_t11 : Fin (k0_t11_loop v24 v27 k0_t2).trips) : Fin 2 → Nat :=
  let c200_i32_338 : BitVec 32 := 200#32
  let c0_i32_337 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v421 : BitVec 32 := Scalar.subi v24 v356
  let v422 : BitVec 32 := Scalar.maxsi c0_i32_337 v421
  let v423 : BitVec 32 := Scalar.minsi c200_i32_338 v422
  let c1_i32_342 : BitVec 32 := 1#32
  let arg16 : BitVec 32 := Scf.iv v423 c1_i32_342 k0_t11
  let v651 : Index := Scalar.indexCast arg16
  let c48_458 : Index := 48#32
  ![v651.toNat, 48]
def k0_off73 (v24 : BitVec 32) (v27 : BitVec 32) (k0_t2 : Fin k0_t2_loop.trips) (k0_t11 : Fin (k0_t11_loop v24 v27 k0_t2).trips) : Fin 2 → Nat :=
  let c200_i32_338 : BitVec 32 := 200#32
  let c0_i32_337 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v421 : BitVec 32 := Scalar.subi v24 v356
  let v422 : BitVec 32 := Scalar.maxsi c0_i32_337 v421
  let v423 : BitVec 32 := Scalar.minsi c200_i32_338 v422
  let c1_i32_342 : BitVec 32 := 1#32
  let arg16 : BitVec 32 := Scf.iv v423 c1_i32_342 k0_t11
  let v658 : Index := Scalar.indexCast arg16
  let c64_461 : Index := 64#32
  ![v658.toNat, 64]
def k0_off74 (v24 : BitVec 32) (v27 : BitVec 32) (k0_t2 : Fin k0_t2_loop.trips) (k0_t11 : Fin (k0_t11_loop v24 v27 k0_t2).trips) : Fin 2 → Nat :=
  let c200_i32_338 : BitVec 32 := 200#32
  let c0_i32_337 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v421 : BitVec 32 := Scalar.subi v24 v356
  let v422 : BitVec 32 := Scalar.maxsi c0_i32_337 v421
  let v423 : BitVec 32 := Scalar.minsi c200_i32_338 v422
  let c1_i32_342 : BitVec 32 := 1#32
  let arg16 : BitVec 32 := Scf.iv v423 c1_i32_342 k0_t11
  let v665 : Index := Scalar.indexCast arg16
  let c80_464 : Index := 80#32
  ![v665.toNat, 80]
def k0_off75 (v24 : BitVec 32) (v27 : BitVec 32) (k0_t2 : Fin k0_t2_loop.trips) (k0_t11 : Fin (k0_t11_loop v24 v27 k0_t2).trips) : Fin 2 → Nat :=
  let c200_i32_338 : BitVec 32 := 200#32
  let c0_i32_337 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v421 : BitVec 32 := Scalar.subi v24 v356
  let v422 : BitVec 32 := Scalar.maxsi c0_i32_337 v421
  let v423 : BitVec 32 := Scalar.minsi c200_i32_338 v422
  let c1_i32_342 : BitVec 32 := 1#32
  let arg16 : BitVec 32 := Scf.iv v423 c1_i32_342 k0_t11
  let v672 : Index := Scalar.indexCast arg16
  let c96_467 : Index := 96#32
  ![v672.toNat, 96]
def k0_off76 (v24 : BitVec 32) (v27 : BitVec 32) (k0_t2 : Fin k0_t2_loop.trips) (k0_t11 : Fin (k0_t11_loop v24 v27 k0_t2).trips) : Fin 2 → Nat :=
  let c200_i32_338 : BitVec 32 := 200#32
  let c0_i32_337 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v421 : BitVec 32 := Scalar.subi v24 v356
  let v422 : BitVec 32 := Scalar.maxsi c0_i32_337 v421
  let v423 : BitVec 32 := Scalar.minsi c200_i32_338 v422
  let c1_i32_342 : BitVec 32 := 1#32
  let arg16 : BitVec 32 := Scf.iv v423 c1_i32_342 k0_t11
  let v679 : Index := Scalar.indexCast arg16
  let c112_470 : Index := 112#32
  ![v679.toNat, 112]
@[reducible] def k0_t12_loop (v24 : BitVec 32) (v27 : BitVec 32) (k0_t2 : Fin k0_t2_loop.trips) : Scf.Loop 32 :=
  let c200_i32_338 : BitVec 32 := 200#32
  let c0_i32_337 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v421 : BitVec 32 := Scalar.subi v24 v356
  let v422 : BitVec 32 := Scalar.maxsi c0_i32_337 v421
  let v423 : BitVec 32 := Scalar.minsi c200_i32_338 v422
  let c200_i32_339 : BitVec 32 := 200#32
  let v424 : BitVec 32 := Scalar.subi v27 v356
  let v425 : BitVec 32 := Scalar.maxsi v423 v424
  let v426 : BitVec 32 := Scalar.minsi c200_i32_339 v425
  let v427 : BitVec 32 := Scalar.subi v426 v423
  let c1_i32_341 : BitVec 32 := 1#32
  let v429 : BitVec 32 := Scalar.divsi v427 c1_i32_341
  let v430 : BitVec 32 := Scalar.muli v429 c1_i32_341
  let v431 : BitVec 32 := Scalar.addi v423 v430
  let v428 : BitVec 32 := Scalar.addi v423 v427
  let c1_i32_343 : BitVec 32 := 1#32
  ⟨v431, v428, c1_i32_343⟩
def k0_off77 (v24 : BitVec 32) (v27 : BitVec 32) (k0_t2 : Fin k0_t2_loop.trips) (k0_t12 : Fin (k0_t12_loop v24 v27 k0_t2).trips) : Fin 2 → Nat :=
  let c200_i32_338 : BitVec 32 := 200#32
  let c0_i32_337 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v421 : BitVec 32 := Scalar.subi v24 v356
  let v422 : BitVec 32 := Scalar.maxsi c0_i32_337 v421
  let v423 : BitVec 32 := Scalar.minsi c200_i32_338 v422
  let c200_i32_339 : BitVec 32 := 200#32
  let v424 : BitVec 32 := Scalar.subi v27 v356
  let v425 : BitVec 32 := Scalar.maxsi v423 v424
  let v426 : BitVec 32 := Scalar.minsi c200_i32_339 v425
  let v427 : BitVec 32 := Scalar.subi v426 v423
  let c1_i32_341 : BitVec 32 := 1#32
  let v429 : BitVec 32 := Scalar.divsi v427 c1_i32_341
  let v430 : BitVec 32 := Scalar.muli v429 c1_i32_341
  let v431 : BitVec 32 := Scalar.addi v423 v430
  let c1_i32_343 : BitVec 32 := 1#32
  let arg16 : BitVec 32 := Scf.iv v431 c1_i32_343 k0_t12
  let v630 : Index := Scalar.indexCast arg16
  let c0_449 : Index := 0#32
  ![v630.toNat, 0]
def k0_off78 (v24 : BitVec 32) (v27 : BitVec 32) (k0_t2 : Fin k0_t2_loop.trips) (k0_t12 : Fin (k0_t12_loop v24 v27 k0_t2).trips) : Fin 2 → Nat :=
  let c200_i32_338 : BitVec 32 := 200#32
  let c0_i32_337 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v421 : BitVec 32 := Scalar.subi v24 v356
  let v422 : BitVec 32 := Scalar.maxsi c0_i32_337 v421
  let v423 : BitVec 32 := Scalar.minsi c200_i32_338 v422
  let c200_i32_339 : BitVec 32 := 200#32
  let v424 : BitVec 32 := Scalar.subi v27 v356
  let v425 : BitVec 32 := Scalar.maxsi v423 v424
  let v426 : BitVec 32 := Scalar.minsi c200_i32_339 v425
  let v427 : BitVec 32 := Scalar.subi v426 v423
  let c1_i32_341 : BitVec 32 := 1#32
  let v429 : BitVec 32 := Scalar.divsi v427 c1_i32_341
  let v430 : BitVec 32 := Scalar.muli v429 c1_i32_341
  let v431 : BitVec 32 := Scalar.addi v423 v430
  let c1_i32_343 : BitVec 32 := 1#32
  let arg16 : BitVec 32 := Scf.iv v431 c1_i32_343 k0_t12
  let v637 : Index := Scalar.indexCast arg16
  let c16_452 : Index := 16#32
  ![v637.toNat, 16]
def k0_off79 (v24 : BitVec 32) (v27 : BitVec 32) (k0_t2 : Fin k0_t2_loop.trips) (k0_t12 : Fin (k0_t12_loop v24 v27 k0_t2).trips) : Fin 2 → Nat :=
  let c200_i32_338 : BitVec 32 := 200#32
  let c0_i32_337 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v421 : BitVec 32 := Scalar.subi v24 v356
  let v422 : BitVec 32 := Scalar.maxsi c0_i32_337 v421
  let v423 : BitVec 32 := Scalar.minsi c200_i32_338 v422
  let c200_i32_339 : BitVec 32 := 200#32
  let v424 : BitVec 32 := Scalar.subi v27 v356
  let v425 : BitVec 32 := Scalar.maxsi v423 v424
  let v426 : BitVec 32 := Scalar.minsi c200_i32_339 v425
  let v427 : BitVec 32 := Scalar.subi v426 v423
  let c1_i32_341 : BitVec 32 := 1#32
  let v429 : BitVec 32 := Scalar.divsi v427 c1_i32_341
  let v430 : BitVec 32 := Scalar.muli v429 c1_i32_341
  let v431 : BitVec 32 := Scalar.addi v423 v430
  let c1_i32_343 : BitVec 32 := 1#32
  let arg16 : BitVec 32 := Scf.iv v431 c1_i32_343 k0_t12
  let v644 : Index := Scalar.indexCast arg16
  let c32_455 : Index := 32#32
  ![v644.toNat, 32]
def k0_off80 (v24 : BitVec 32) (v27 : BitVec 32) (k0_t2 : Fin k0_t2_loop.trips) (k0_t12 : Fin (k0_t12_loop v24 v27 k0_t2).trips) : Fin 2 → Nat :=
  let c200_i32_338 : BitVec 32 := 200#32
  let c0_i32_337 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v421 : BitVec 32 := Scalar.subi v24 v356
  let v422 : BitVec 32 := Scalar.maxsi c0_i32_337 v421
  let v423 : BitVec 32 := Scalar.minsi c200_i32_338 v422
  let c200_i32_339 : BitVec 32 := 200#32
  let v424 : BitVec 32 := Scalar.subi v27 v356
  let v425 : BitVec 32 := Scalar.maxsi v423 v424
  let v426 : BitVec 32 := Scalar.minsi c200_i32_339 v425
  let v427 : BitVec 32 := Scalar.subi v426 v423
  let c1_i32_341 : BitVec 32 := 1#32
  let v429 : BitVec 32 := Scalar.divsi v427 c1_i32_341
  let v430 : BitVec 32 := Scalar.muli v429 c1_i32_341
  let v431 : BitVec 32 := Scalar.addi v423 v430
  let c1_i32_343 : BitVec 32 := 1#32
  let arg16 : BitVec 32 := Scf.iv v431 c1_i32_343 k0_t12
  let v651 : Index := Scalar.indexCast arg16
  let c48_458 : Index := 48#32
  ![v651.toNat, 48]
def k0_off81 (v24 : BitVec 32) (v27 : BitVec 32) (k0_t2 : Fin k0_t2_loop.trips) (k0_t12 : Fin (k0_t12_loop v24 v27 k0_t2).trips) : Fin 2 → Nat :=
  let c200_i32_338 : BitVec 32 := 200#32
  let c0_i32_337 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v421 : BitVec 32 := Scalar.subi v24 v356
  let v422 : BitVec 32 := Scalar.maxsi c0_i32_337 v421
  let v423 : BitVec 32 := Scalar.minsi c200_i32_338 v422
  let c200_i32_339 : BitVec 32 := 200#32
  let v424 : BitVec 32 := Scalar.subi v27 v356
  let v425 : BitVec 32 := Scalar.maxsi v423 v424
  let v426 : BitVec 32 := Scalar.minsi c200_i32_339 v425
  let v427 : BitVec 32 := Scalar.subi v426 v423
  let c1_i32_341 : BitVec 32 := 1#32
  let v429 : BitVec 32 := Scalar.divsi v427 c1_i32_341
  let v430 : BitVec 32 := Scalar.muli v429 c1_i32_341
  let v431 : BitVec 32 := Scalar.addi v423 v430
  let c1_i32_343 : BitVec 32 := 1#32
  let arg16 : BitVec 32 := Scf.iv v431 c1_i32_343 k0_t12
  let v658 : Index := Scalar.indexCast arg16
  let c64_461 : Index := 64#32
  ![v658.toNat, 64]
def k0_off82 (v24 : BitVec 32) (v27 : BitVec 32) (k0_t2 : Fin k0_t2_loop.trips) (k0_t12 : Fin (k0_t12_loop v24 v27 k0_t2).trips) : Fin 2 → Nat :=
  let c200_i32_338 : BitVec 32 := 200#32
  let c0_i32_337 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v421 : BitVec 32 := Scalar.subi v24 v356
  let v422 : BitVec 32 := Scalar.maxsi c0_i32_337 v421
  let v423 : BitVec 32 := Scalar.minsi c200_i32_338 v422
  let c200_i32_339 : BitVec 32 := 200#32
  let v424 : BitVec 32 := Scalar.subi v27 v356
  let v425 : BitVec 32 := Scalar.maxsi v423 v424
  let v426 : BitVec 32 := Scalar.minsi c200_i32_339 v425
  let v427 : BitVec 32 := Scalar.subi v426 v423
  let c1_i32_341 : BitVec 32 := 1#32
  let v429 : BitVec 32 := Scalar.divsi v427 c1_i32_341
  let v430 : BitVec 32 := Scalar.muli v429 c1_i32_341
  let v431 : BitVec 32 := Scalar.addi v423 v430
  let c1_i32_343 : BitVec 32 := 1#32
  let arg16 : BitVec 32 := Scf.iv v431 c1_i32_343 k0_t12
  let v665 : Index := Scalar.indexCast arg16
  let c80_464 : Index := 80#32
  ![v665.toNat, 80]
def k0_off83 (v24 : BitVec 32) (v27 : BitVec 32) (k0_t2 : Fin k0_t2_loop.trips) (k0_t12 : Fin (k0_t12_loop v24 v27 k0_t2).trips) : Fin 2 → Nat :=
  let c200_i32_338 : BitVec 32 := 200#32
  let c0_i32_337 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v421 : BitVec 32 := Scalar.subi v24 v356
  let v422 : BitVec 32 := Scalar.maxsi c0_i32_337 v421
  let v423 : BitVec 32 := Scalar.minsi c200_i32_338 v422
  let c200_i32_339 : BitVec 32 := 200#32
  let v424 : BitVec 32 := Scalar.subi v27 v356
  let v425 : BitVec 32 := Scalar.maxsi v423 v424
  let v426 : BitVec 32 := Scalar.minsi c200_i32_339 v425
  let v427 : BitVec 32 := Scalar.subi v426 v423
  let c1_i32_341 : BitVec 32 := 1#32
  let v429 : BitVec 32 := Scalar.divsi v427 c1_i32_341
  let v430 : BitVec 32 := Scalar.muli v429 c1_i32_341
  let v431 : BitVec 32 := Scalar.addi v423 v430
  let c1_i32_343 : BitVec 32 := 1#32
  let arg16 : BitVec 32 := Scf.iv v431 c1_i32_343 k0_t12
  let v672 : Index := Scalar.indexCast arg16
  let c96_467 : Index := 96#32
  ![v672.toNat, 96]
def k0_off84 (v24 : BitVec 32) (v27 : BitVec 32) (k0_t2 : Fin k0_t2_loop.trips) (k0_t12 : Fin (k0_t12_loop v24 v27 k0_t2).trips) : Fin 2 → Nat :=
  let c200_i32_338 : BitVec 32 := 200#32
  let c0_i32_337 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v421 : BitVec 32 := Scalar.subi v24 v356
  let v422 : BitVec 32 := Scalar.maxsi c0_i32_337 v421
  let v423 : BitVec 32 := Scalar.minsi c200_i32_338 v422
  let c200_i32_339 : BitVec 32 := 200#32
  let v424 : BitVec 32 := Scalar.subi v27 v356
  let v425 : BitVec 32 := Scalar.maxsi v423 v424
  let v426 : BitVec 32 := Scalar.minsi c200_i32_339 v425
  let v427 : BitVec 32 := Scalar.subi v426 v423
  let c1_i32_341 : BitVec 32 := 1#32
  let v429 : BitVec 32 := Scalar.divsi v427 c1_i32_341
  let v430 : BitVec 32 := Scalar.muli v429 c1_i32_341
  let v431 : BitVec 32 := Scalar.addi v423 v430
  let c1_i32_343 : BitVec 32 := 1#32
  let arg16 : BitVec 32 := Scf.iv v431 c1_i32_343 k0_t12
  let v679 : Index := Scalar.indexCast arg16
  let c112_470 : Index := 112#32
  ![v679.toNat, 112]
@[reducible] def k0_t13_loop (v27 : BitVec 32) (v30 : BitVec 32) (k0_t2 : Fin k0_t2_loop.trips) : Scf.Loop 32 :=
  let c200_i32_346 : BitVec 32 := 200#32
  let c0_i32_345 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v437 : BitVec 32 := Scalar.subi v27 v356
  let v438 : BitVec 32 := Scalar.maxsi c0_i32_345 v437
  let v439 : BitVec 32 := Scalar.minsi c200_i32_346 v438
  let c200_i32_347 : BitVec 32 := 200#32
  let v440 : BitVec 32 := Scalar.subi v30 v356
  let v441 : BitVec 32 := Scalar.maxsi v439 v440
  let v442 : BitVec 32 := Scalar.minsi c200_i32_347 v441
  let v443 : BitVec 32 := Scalar.subi v442 v439
  let c1_i32_349 : BitVec 32 := 1#32
  let v445 : BitVec 32 := Scalar.divsi v443 c1_i32_349
  let v446 : BitVec 32 := Scalar.muli v445 c1_i32_349
  let v447 : BitVec 32 := Scalar.addi v439 v446
  let c1_i32_350 : BitVec 32 := 1#32
  ⟨v439, v447, c1_i32_350⟩

def k0_off85 (v27 : BitVec 32) (v30 : BitVec 32) (k0_t2 : Fin k0_t2_loop.trips) (k0_t13 : Fin (k0_t13_loop v27 v30 k0_t2).trips) : Fin 2 → Nat :=
  let c200_i32_346 : BitVec 32 := 200#32
  let c0_i32_345 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v437 : BitVec 32 := Scalar.subi v27 v356
  let v438 : BitVec 32 := Scalar.maxsi c0_i32_345 v437
  let v439 : BitVec 32 := Scalar.minsi c200_i32_346 v438
  let c1_i32_350 : BitVec 32 := 1#32
  let arg16 : BitVec 32 := Scf.iv v439 c1_i32_350 k0_t13
  let v630 : Index := Scalar.indexCast arg16
  let c0_449 : Index := 0#32
  ![v630.toNat, 0]
def k0_off86 (v27 : BitVec 32) (v30 : BitVec 32) (k0_t2 : Fin k0_t2_loop.trips) (k0_t13 : Fin (k0_t13_loop v27 v30 k0_t2).trips) : Fin 2 → Nat :=
  let c200_i32_346 : BitVec 32 := 200#32
  let c0_i32_345 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v437 : BitVec 32 := Scalar.subi v27 v356
  let v438 : BitVec 32 := Scalar.maxsi c0_i32_345 v437
  let v439 : BitVec 32 := Scalar.minsi c200_i32_346 v438
  let c1_i32_350 : BitVec 32 := 1#32
  let arg16 : BitVec 32 := Scf.iv v439 c1_i32_350 k0_t13
  let v637 : Index := Scalar.indexCast arg16
  let c16_452 : Index := 16#32
  ![v637.toNat, 16]
def k0_off87 (v27 : BitVec 32) (v30 : BitVec 32) (k0_t2 : Fin k0_t2_loop.trips) (k0_t13 : Fin (k0_t13_loop v27 v30 k0_t2).trips) : Fin 2 → Nat :=
  let c200_i32_346 : BitVec 32 := 200#32
  let c0_i32_345 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v437 : BitVec 32 := Scalar.subi v27 v356
  let v438 : BitVec 32 := Scalar.maxsi c0_i32_345 v437
  let v439 : BitVec 32 := Scalar.minsi c200_i32_346 v438
  let c1_i32_350 : BitVec 32 := 1#32
  let arg16 : BitVec 32 := Scf.iv v439 c1_i32_350 k0_t13
  let v644 : Index := Scalar.indexCast arg16
  let c32_455 : Index := 32#32
  ![v644.toNat, 32]
def k0_off88 (v27 : BitVec 32) (v30 : BitVec 32) (k0_t2 : Fin k0_t2_loop.trips) (k0_t13 : Fin (k0_t13_loop v27 v30 k0_t2).trips) : Fin 2 → Nat :=
  let c200_i32_346 : BitVec 32 := 200#32
  let c0_i32_345 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v437 : BitVec 32 := Scalar.subi v27 v356
  let v438 : BitVec 32 := Scalar.maxsi c0_i32_345 v437
  let v439 : BitVec 32 := Scalar.minsi c200_i32_346 v438
  let c1_i32_350 : BitVec 32 := 1#32
  let arg16 : BitVec 32 := Scf.iv v439 c1_i32_350 k0_t13
  let v651 : Index := Scalar.indexCast arg16
  let c48_458 : Index := 48#32
  ![v651.toNat, 48]
def k0_off89 (v27 : BitVec 32) (v30 : BitVec 32) (k0_t2 : Fin k0_t2_loop.trips) (k0_t13 : Fin (k0_t13_loop v27 v30 k0_t2).trips) : Fin 2 → Nat :=
  let c200_i32_346 : BitVec 32 := 200#32
  let c0_i32_345 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v437 : BitVec 32 := Scalar.subi v27 v356
  let v438 : BitVec 32 := Scalar.maxsi c0_i32_345 v437
  let v439 : BitVec 32 := Scalar.minsi c200_i32_346 v438
  let c1_i32_350 : BitVec 32 := 1#32
  let arg16 : BitVec 32 := Scf.iv v439 c1_i32_350 k0_t13
  let v658 : Index := Scalar.indexCast arg16
  let c64_461 : Index := 64#32
  ![v658.toNat, 64]
def k0_off90 (v27 : BitVec 32) (v30 : BitVec 32) (k0_t2 : Fin k0_t2_loop.trips) (k0_t13 : Fin (k0_t13_loop v27 v30 k0_t2).trips) : Fin 2 → Nat :=
  let c200_i32_346 : BitVec 32 := 200#32
  let c0_i32_345 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v437 : BitVec 32 := Scalar.subi v27 v356
  let v438 : BitVec 32 := Scalar.maxsi c0_i32_345 v437
  let v439 : BitVec 32 := Scalar.minsi c200_i32_346 v438
  let c1_i32_350 : BitVec 32 := 1#32
  let arg16 : BitVec 32 := Scf.iv v439 c1_i32_350 k0_t13
  let v665 : Index := Scalar.indexCast arg16
  let c80_464 : Index := 80#32
  ![v665.toNat, 80]
def k0_off91 (v27 : BitVec 32) (v30 : BitVec 32) (k0_t2 : Fin k0_t2_loop.trips) (k0_t13 : Fin (k0_t13_loop v27 v30 k0_t2).trips) : Fin 2 → Nat :=
  let c200_i32_346 : BitVec 32 := 200#32
  let c0_i32_345 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v437 : BitVec 32 := Scalar.subi v27 v356
  let v438 : BitVec 32 := Scalar.maxsi c0_i32_345 v437
  let v439 : BitVec 32 := Scalar.minsi c200_i32_346 v438
  let c1_i32_350 : BitVec 32 := 1#32
  let arg16 : BitVec 32 := Scf.iv v439 c1_i32_350 k0_t13
  let v672 : Index := Scalar.indexCast arg16
  let c96_467 : Index := 96#32
  ![v672.toNat, 96]
def k0_off92 (v27 : BitVec 32) (v30 : BitVec 32) (k0_t2 : Fin k0_t2_loop.trips) (k0_t13 : Fin (k0_t13_loop v27 v30 k0_t2).trips) : Fin 2 → Nat :=
  let c200_i32_346 : BitVec 32 := 200#32
  let c0_i32_345 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v437 : BitVec 32 := Scalar.subi v27 v356
  let v438 : BitVec 32 := Scalar.maxsi c0_i32_345 v437
  let v439 : BitVec 32 := Scalar.minsi c200_i32_346 v438
  let c1_i32_350 : BitVec 32 := 1#32
  let arg16 : BitVec 32 := Scf.iv v439 c1_i32_350 k0_t13
  let v679 : Index := Scalar.indexCast arg16
  let c112_470 : Index := 112#32
  ![v679.toNat, 112]
@[reducible] def k0_t14_loop (v27 : BitVec 32) (v30 : BitVec 32) (k0_t2 : Fin k0_t2_loop.trips) : Scf.Loop 32 :=
  let c200_i32_346 : BitVec 32 := 200#32
  let c0_i32_345 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v437 : BitVec 32 := Scalar.subi v27 v356
  let v438 : BitVec 32 := Scalar.maxsi c0_i32_345 v437
  let v439 : BitVec 32 := Scalar.minsi c200_i32_346 v438
  let c200_i32_347 : BitVec 32 := 200#32
  let v440 : BitVec 32 := Scalar.subi v30 v356
  let v441 : BitVec 32 := Scalar.maxsi v439 v440
  let v442 : BitVec 32 := Scalar.minsi c200_i32_347 v441
  let v443 : BitVec 32 := Scalar.subi v442 v439
  let c1_i32_349 : BitVec 32 := 1#32
  let v445 : BitVec 32 := Scalar.divsi v443 c1_i32_349
  let v446 : BitVec 32 := Scalar.muli v445 c1_i32_349
  let v447 : BitVec 32 := Scalar.addi v439 v446
  let v444 : BitVec 32 := Scalar.addi v439 v443
  let c1_i32_351 : BitVec 32 := 1#32
  ⟨v447, v444, c1_i32_351⟩
def k0_off93 (v27 : BitVec 32) (v30 : BitVec 32) (k0_t2 : Fin k0_t2_loop.trips) (k0_t14 : Fin (k0_t14_loop v27 v30 k0_t2).trips) : Fin 2 → Nat :=
  let c200_i32_346 : BitVec 32 := 200#32
  let c0_i32_345 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v437 : BitVec 32 := Scalar.subi v27 v356
  let v438 : BitVec 32 := Scalar.maxsi c0_i32_345 v437
  let v439 : BitVec 32 := Scalar.minsi c200_i32_346 v438
  let c200_i32_347 : BitVec 32 := 200#32
  let v440 : BitVec 32 := Scalar.subi v30 v356
  let v441 : BitVec 32 := Scalar.maxsi v439 v440
  let v442 : BitVec 32 := Scalar.minsi c200_i32_347 v441
  let v443 : BitVec 32 := Scalar.subi v442 v439
  let c1_i32_349 : BitVec 32 := 1#32
  let v445 : BitVec 32 := Scalar.divsi v443 c1_i32_349
  let v446 : BitVec 32 := Scalar.muli v445 c1_i32_349
  let v447 : BitVec 32 := Scalar.addi v439 v446
  let c1_i32_351 : BitVec 32 := 1#32
  let arg16 : BitVec 32 := Scf.iv v447 c1_i32_351 k0_t14
  let v630 : Index := Scalar.indexCast arg16
  let c0_449 : Index := 0#32
  ![v630.toNat, 0]
def k0_off94 (v27 : BitVec 32) (v30 : BitVec 32) (k0_t2 : Fin k0_t2_loop.trips) (k0_t14 : Fin (k0_t14_loop v27 v30 k0_t2).trips) : Fin 2 → Nat :=
  let c200_i32_346 : BitVec 32 := 200#32
  let c0_i32_345 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v437 : BitVec 32 := Scalar.subi v27 v356
  let v438 : BitVec 32 := Scalar.maxsi c0_i32_345 v437
  let v439 : BitVec 32 := Scalar.minsi c200_i32_346 v438
  let c200_i32_347 : BitVec 32 := 200#32
  let v440 : BitVec 32 := Scalar.subi v30 v356
  let v441 : BitVec 32 := Scalar.maxsi v439 v440
  let v442 : BitVec 32 := Scalar.minsi c200_i32_347 v441
  let v443 : BitVec 32 := Scalar.subi v442 v439
  let c1_i32_349 : BitVec 32 := 1#32
  let v445 : BitVec 32 := Scalar.divsi v443 c1_i32_349
  let v446 : BitVec 32 := Scalar.muli v445 c1_i32_349
  let v447 : BitVec 32 := Scalar.addi v439 v446
  let c1_i32_351 : BitVec 32 := 1#32
  let arg16 : BitVec 32 := Scf.iv v447 c1_i32_351 k0_t14
  let v637 : Index := Scalar.indexCast arg16
  let c16_452 : Index := 16#32
  ![v637.toNat, 16]
def k0_off95 (v27 : BitVec 32) (v30 : BitVec 32) (k0_t2 : Fin k0_t2_loop.trips) (k0_t14 : Fin (k0_t14_loop v27 v30 k0_t2).trips) : Fin 2 → Nat :=
  let c200_i32_346 : BitVec 32 := 200#32
  let c0_i32_345 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v437 : BitVec 32 := Scalar.subi v27 v356
  let v438 : BitVec 32 := Scalar.maxsi c0_i32_345 v437
  let v439 : BitVec 32 := Scalar.minsi c200_i32_346 v438
  let c200_i32_347 : BitVec 32 := 200#32
  let v440 : BitVec 32 := Scalar.subi v30 v356
  let v441 : BitVec 32 := Scalar.maxsi v439 v440
  let v442 : BitVec 32 := Scalar.minsi c200_i32_347 v441
  let v443 : BitVec 32 := Scalar.subi v442 v439
  let c1_i32_349 : BitVec 32 := 1#32
  let v445 : BitVec 32 := Scalar.divsi v443 c1_i32_349
  let v446 : BitVec 32 := Scalar.muli v445 c1_i32_349
  let v447 : BitVec 32 := Scalar.addi v439 v446
  let c1_i32_351 : BitVec 32 := 1#32
  let arg16 : BitVec 32 := Scf.iv v447 c1_i32_351 k0_t14
  let v644 : Index := Scalar.indexCast arg16
  let c32_455 : Index := 32#32
  ![v644.toNat, 32]
def k0_off96 (v27 : BitVec 32) (v30 : BitVec 32) (k0_t2 : Fin k0_t2_loop.trips) (k0_t14 : Fin (k0_t14_loop v27 v30 k0_t2).trips) : Fin 2 → Nat :=
  let c200_i32_346 : BitVec 32 := 200#32
  let c0_i32_345 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v437 : BitVec 32 := Scalar.subi v27 v356
  let v438 : BitVec 32 := Scalar.maxsi c0_i32_345 v437
  let v439 : BitVec 32 := Scalar.minsi c200_i32_346 v438
  let c200_i32_347 : BitVec 32 := 200#32
  let v440 : BitVec 32 := Scalar.subi v30 v356
  let v441 : BitVec 32 := Scalar.maxsi v439 v440
  let v442 : BitVec 32 := Scalar.minsi c200_i32_347 v441
  let v443 : BitVec 32 := Scalar.subi v442 v439
  let c1_i32_349 : BitVec 32 := 1#32
  let v445 : BitVec 32 := Scalar.divsi v443 c1_i32_349
  let v446 : BitVec 32 := Scalar.muli v445 c1_i32_349
  let v447 : BitVec 32 := Scalar.addi v439 v446
  let c1_i32_351 : BitVec 32 := 1#32
  let arg16 : BitVec 32 := Scf.iv v447 c1_i32_351 k0_t14
  let v651 : Index := Scalar.indexCast arg16
  let c48_458 : Index := 48#32
  ![v651.toNat, 48]
def k0_off97 (v27 : BitVec 32) (v30 : BitVec 32) (k0_t2 : Fin k0_t2_loop.trips) (k0_t14 : Fin (k0_t14_loop v27 v30 k0_t2).trips) : Fin 2 → Nat :=
  let c200_i32_346 : BitVec 32 := 200#32
  let c0_i32_345 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v437 : BitVec 32 := Scalar.subi v27 v356
  let v438 : BitVec 32 := Scalar.maxsi c0_i32_345 v437
  let v439 : BitVec 32 := Scalar.minsi c200_i32_346 v438
  let c200_i32_347 : BitVec 32 := 200#32
  let v440 : BitVec 32 := Scalar.subi v30 v356
  let v441 : BitVec 32 := Scalar.maxsi v439 v440
  let v442 : BitVec 32 := Scalar.minsi c200_i32_347 v441
  let v443 : BitVec 32 := Scalar.subi v442 v439
  let c1_i32_349 : BitVec 32 := 1#32
  let v445 : BitVec 32 := Scalar.divsi v443 c1_i32_349
  let v446 : BitVec 32 := Scalar.muli v445 c1_i32_349
  let v447 : BitVec 32 := Scalar.addi v439 v446
  let c1_i32_351 : BitVec 32 := 1#32
  let arg16 : BitVec 32 := Scf.iv v447 c1_i32_351 k0_t14
  let v658 : Index := Scalar.indexCast arg16
  let c64_461 : Index := 64#32
  ![v658.toNat, 64]
def k0_off98 (v27 : BitVec 32) (v30 : BitVec 32) (k0_t2 : Fin k0_t2_loop.trips) (k0_t14 : Fin (k0_t14_loop v27 v30 k0_t2).trips) : Fin 2 → Nat :=
  let c200_i32_346 : BitVec 32 := 200#32
  let c0_i32_345 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v437 : BitVec 32 := Scalar.subi v27 v356
  let v438 : BitVec 32 := Scalar.maxsi c0_i32_345 v437
  let v439 : BitVec 32 := Scalar.minsi c200_i32_346 v438
  let c200_i32_347 : BitVec 32 := 200#32
  let v440 : BitVec 32 := Scalar.subi v30 v356
  let v441 : BitVec 32 := Scalar.maxsi v439 v440
  let v442 : BitVec 32 := Scalar.minsi c200_i32_347 v441
  let v443 : BitVec 32 := Scalar.subi v442 v439
  let c1_i32_349 : BitVec 32 := 1#32
  let v445 : BitVec 32 := Scalar.divsi v443 c1_i32_349
  let v446 : BitVec 32 := Scalar.muli v445 c1_i32_349
  let v447 : BitVec 32 := Scalar.addi v439 v446
  let c1_i32_351 : BitVec 32 := 1#32
  let arg16 : BitVec 32 := Scf.iv v447 c1_i32_351 k0_t14
  let v665 : Index := Scalar.indexCast arg16
  let c80_464 : Index := 80#32
  ![v665.toNat, 80]
def k0_off99 (v27 : BitVec 32) (v30 : BitVec 32) (k0_t2 : Fin k0_t2_loop.trips) (k0_t14 : Fin (k0_t14_loop v27 v30 k0_t2).trips) : Fin 2 → Nat :=
  let c200_i32_346 : BitVec 32 := 200#32
  let c0_i32_345 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v437 : BitVec 32 := Scalar.subi v27 v356
  let v438 : BitVec 32 := Scalar.maxsi c0_i32_345 v437
  let v439 : BitVec 32 := Scalar.minsi c200_i32_346 v438
  let c200_i32_347 : BitVec 32 := 200#32
  let v440 : BitVec 32 := Scalar.subi v30 v356
  let v441 : BitVec 32 := Scalar.maxsi v439 v440
  let v442 : BitVec 32 := Scalar.minsi c200_i32_347 v441
  let v443 : BitVec 32 := Scalar.subi v442 v439
  let c1_i32_349 : BitVec 32 := 1#32
  let v445 : BitVec 32 := Scalar.divsi v443 c1_i32_349
  let v446 : BitVec 32 := Scalar.muli v445 c1_i32_349
  let v447 : BitVec 32 := Scalar.addi v439 v446
  let c1_i32_351 : BitVec 32 := 1#32
  let arg16 : BitVec 32 := Scf.iv v447 c1_i32_351 k0_t14
  let v672 : Index := Scalar.indexCast arg16
  let c96_467 : Index := 96#32
  ![v672.toNat, 96]
def k0_off100 (v27 : BitVec 32) (v30 : BitVec 32) (k0_t2 : Fin k0_t2_loop.trips) (k0_t14 : Fin (k0_t14_loop v27 v30 k0_t2).trips) : Fin 2 → Nat :=
  let c200_i32_346 : BitVec 32 := 200#32
  let c0_i32_345 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v437 : BitVec 32 := Scalar.subi v27 v356
  let v438 : BitVec 32 := Scalar.maxsi c0_i32_345 v437
  let v439 : BitVec 32 := Scalar.minsi c200_i32_346 v438
  let c200_i32_347 : BitVec 32 := 200#32
  let v440 : BitVec 32 := Scalar.subi v30 v356
  let v441 : BitVec 32 := Scalar.maxsi v439 v440
  let v442 : BitVec 32 := Scalar.minsi c200_i32_347 v441
  let v443 : BitVec 32 := Scalar.subi v442 v439
  let c1_i32_349 : BitVec 32 := 1#32
  let v445 : BitVec 32 := Scalar.divsi v443 c1_i32_349
  let v446 : BitVec 32 := Scalar.muli v445 c1_i32_349
  let v447 : BitVec 32 := Scalar.addi v439 v446
  let c1_i32_351 : BitVec 32 := 1#32
  let arg16 : BitVec 32 := Scf.iv v447 c1_i32_351 k0_t14
  let v679 : Index := Scalar.indexCast arg16
  let c112_470 : Index := 112#32
  ![v679.toNat, 112]
@[reducible] def k0_t15_loop (v30 : BitVec 32) (v33 : BitVec 32) (k0_t2 : Fin k0_t2_loop.trips) : Scf.Loop 32 :=
  let c200_i32_354 : BitVec 32 := 200#32
  let c0_i32_353 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v453 : BitVec 32 := Scalar.subi v30 v356
  let v454 : BitVec 32 := Scalar.maxsi c0_i32_353 v453
  let v455 : BitVec 32 := Scalar.minsi c200_i32_354 v454
  let c200_i32_355 : BitVec 32 := 200#32
  let v456 : BitVec 32 := Scalar.subi v33 v356
  let v457 : BitVec 32 := Scalar.maxsi v455 v456
  let v458 : BitVec 32 := Scalar.minsi c200_i32_355 v457
  let v459 : BitVec 32 := Scalar.subi v458 v455
  let c1_i32_357 : BitVec 32 := 1#32
  let v461 : BitVec 32 := Scalar.divsi v459 c1_i32_357
  let v462 : BitVec 32 := Scalar.muli v461 c1_i32_357
  let v463 : BitVec 32 := Scalar.addi v455 v462
  let c1_i32_358 : BitVec 32 := 1#32
  ⟨v455, v463, c1_i32_358⟩

def k0_off101 (v30 : BitVec 32) (v33 : BitVec 32) (k0_t2 : Fin k0_t2_loop.trips) (k0_t15 : Fin (k0_t15_loop v30 v33 k0_t2).trips) : Fin 2 → Nat :=
  let c200_i32_354 : BitVec 32 := 200#32
  let c0_i32_353 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v453 : BitVec 32 := Scalar.subi v30 v356
  let v454 : BitVec 32 := Scalar.maxsi c0_i32_353 v453
  let v455 : BitVec 32 := Scalar.minsi c200_i32_354 v454
  let c1_i32_358 : BitVec 32 := 1#32
  let arg16 : BitVec 32 := Scf.iv v455 c1_i32_358 k0_t15
  let v630 : Index := Scalar.indexCast arg16
  let c0_449 : Index := 0#32
  ![v630.toNat, 0]
def k0_off102 (v30 : BitVec 32) (v33 : BitVec 32) (k0_t2 : Fin k0_t2_loop.trips) (k0_t15 : Fin (k0_t15_loop v30 v33 k0_t2).trips) : Fin 2 → Nat :=
  let c200_i32_354 : BitVec 32 := 200#32
  let c0_i32_353 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v453 : BitVec 32 := Scalar.subi v30 v356
  let v454 : BitVec 32 := Scalar.maxsi c0_i32_353 v453
  let v455 : BitVec 32 := Scalar.minsi c200_i32_354 v454
  let c1_i32_358 : BitVec 32 := 1#32
  let arg16 : BitVec 32 := Scf.iv v455 c1_i32_358 k0_t15
  let v637 : Index := Scalar.indexCast arg16
  let c16_452 : Index := 16#32
  ![v637.toNat, 16]
def k0_off103 (v30 : BitVec 32) (v33 : BitVec 32) (k0_t2 : Fin k0_t2_loop.trips) (k0_t15 : Fin (k0_t15_loop v30 v33 k0_t2).trips) : Fin 2 → Nat :=
  let c200_i32_354 : BitVec 32 := 200#32
  let c0_i32_353 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v453 : BitVec 32 := Scalar.subi v30 v356
  let v454 : BitVec 32 := Scalar.maxsi c0_i32_353 v453
  let v455 : BitVec 32 := Scalar.minsi c200_i32_354 v454
  let c1_i32_358 : BitVec 32 := 1#32
  let arg16 : BitVec 32 := Scf.iv v455 c1_i32_358 k0_t15
  let v644 : Index := Scalar.indexCast arg16
  let c32_455 : Index := 32#32
  ![v644.toNat, 32]
def k0_off104 (v30 : BitVec 32) (v33 : BitVec 32) (k0_t2 : Fin k0_t2_loop.trips) (k0_t15 : Fin (k0_t15_loop v30 v33 k0_t2).trips) : Fin 2 → Nat :=
  let c200_i32_354 : BitVec 32 := 200#32
  let c0_i32_353 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v453 : BitVec 32 := Scalar.subi v30 v356
  let v454 : BitVec 32 := Scalar.maxsi c0_i32_353 v453
  let v455 : BitVec 32 := Scalar.minsi c200_i32_354 v454
  let c1_i32_358 : BitVec 32 := 1#32
  let arg16 : BitVec 32 := Scf.iv v455 c1_i32_358 k0_t15
  let v651 : Index := Scalar.indexCast arg16
  let c48_458 : Index := 48#32
  ![v651.toNat, 48]
def k0_off105 (v30 : BitVec 32) (v33 : BitVec 32) (k0_t2 : Fin k0_t2_loop.trips) (k0_t15 : Fin (k0_t15_loop v30 v33 k0_t2).trips) : Fin 2 → Nat :=
  let c200_i32_354 : BitVec 32 := 200#32
  let c0_i32_353 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v453 : BitVec 32 := Scalar.subi v30 v356
  let v454 : BitVec 32 := Scalar.maxsi c0_i32_353 v453
  let v455 : BitVec 32 := Scalar.minsi c200_i32_354 v454
  let c1_i32_358 : BitVec 32 := 1#32
  let arg16 : BitVec 32 := Scf.iv v455 c1_i32_358 k0_t15
  let v658 : Index := Scalar.indexCast arg16
  let c64_461 : Index := 64#32
  ![v658.toNat, 64]
def k0_off106 (v30 : BitVec 32) (v33 : BitVec 32) (k0_t2 : Fin k0_t2_loop.trips) (k0_t15 : Fin (k0_t15_loop v30 v33 k0_t2).trips) : Fin 2 → Nat :=
  let c200_i32_354 : BitVec 32 := 200#32
  let c0_i32_353 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v453 : BitVec 32 := Scalar.subi v30 v356
  let v454 : BitVec 32 := Scalar.maxsi c0_i32_353 v453
  let v455 : BitVec 32 := Scalar.minsi c200_i32_354 v454
  let c1_i32_358 : BitVec 32 := 1#32
  let arg16 : BitVec 32 := Scf.iv v455 c1_i32_358 k0_t15
  let v665 : Index := Scalar.indexCast arg16
  let c80_464 : Index := 80#32
  ![v665.toNat, 80]
def k0_off107 (v30 : BitVec 32) (v33 : BitVec 32) (k0_t2 : Fin k0_t2_loop.trips) (k0_t15 : Fin (k0_t15_loop v30 v33 k0_t2).trips) : Fin 2 → Nat :=
  let c200_i32_354 : BitVec 32 := 200#32
  let c0_i32_353 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v453 : BitVec 32 := Scalar.subi v30 v356
  let v454 : BitVec 32 := Scalar.maxsi c0_i32_353 v453
  let v455 : BitVec 32 := Scalar.minsi c200_i32_354 v454
  let c1_i32_358 : BitVec 32 := 1#32
  let arg16 : BitVec 32 := Scf.iv v455 c1_i32_358 k0_t15
  let v672 : Index := Scalar.indexCast arg16
  let c96_467 : Index := 96#32
  ![v672.toNat, 96]
def k0_off108 (v30 : BitVec 32) (v33 : BitVec 32) (k0_t2 : Fin k0_t2_loop.trips) (k0_t15 : Fin (k0_t15_loop v30 v33 k0_t2).trips) : Fin 2 → Nat :=
  let c200_i32_354 : BitVec 32 := 200#32
  let c0_i32_353 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v453 : BitVec 32 := Scalar.subi v30 v356
  let v454 : BitVec 32 := Scalar.maxsi c0_i32_353 v453
  let v455 : BitVec 32 := Scalar.minsi c200_i32_354 v454
  let c1_i32_358 : BitVec 32 := 1#32
  let arg16 : BitVec 32 := Scf.iv v455 c1_i32_358 k0_t15
  let v679 : Index := Scalar.indexCast arg16
  let c112_470 : Index := 112#32
  ![v679.toNat, 112]
@[reducible] def k0_t16_loop (v30 : BitVec 32) (v33 : BitVec 32) (k0_t2 : Fin k0_t2_loop.trips) : Scf.Loop 32 :=
  let c200_i32_354 : BitVec 32 := 200#32
  let c0_i32_353 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v453 : BitVec 32 := Scalar.subi v30 v356
  let v454 : BitVec 32 := Scalar.maxsi c0_i32_353 v453
  let v455 : BitVec 32 := Scalar.minsi c200_i32_354 v454
  let c200_i32_355 : BitVec 32 := 200#32
  let v456 : BitVec 32 := Scalar.subi v33 v356
  let v457 : BitVec 32 := Scalar.maxsi v455 v456
  let v458 : BitVec 32 := Scalar.minsi c200_i32_355 v457
  let v459 : BitVec 32 := Scalar.subi v458 v455
  let c1_i32_357 : BitVec 32 := 1#32
  let v461 : BitVec 32 := Scalar.divsi v459 c1_i32_357
  let v462 : BitVec 32 := Scalar.muli v461 c1_i32_357
  let v463 : BitVec 32 := Scalar.addi v455 v462
  let v460 : BitVec 32 := Scalar.addi v455 v459
  let c1_i32_359 : BitVec 32 := 1#32
  ⟨v463, v460, c1_i32_359⟩
def k0_off109 (v30 : BitVec 32) (v33 : BitVec 32) (k0_t2 : Fin k0_t2_loop.trips) (k0_t16 : Fin (k0_t16_loop v30 v33 k0_t2).trips) : Fin 2 → Nat :=
  let c200_i32_354 : BitVec 32 := 200#32
  let c0_i32_353 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v453 : BitVec 32 := Scalar.subi v30 v356
  let v454 : BitVec 32 := Scalar.maxsi c0_i32_353 v453
  let v455 : BitVec 32 := Scalar.minsi c200_i32_354 v454
  let c200_i32_355 : BitVec 32 := 200#32
  let v456 : BitVec 32 := Scalar.subi v33 v356
  let v457 : BitVec 32 := Scalar.maxsi v455 v456
  let v458 : BitVec 32 := Scalar.minsi c200_i32_355 v457
  let v459 : BitVec 32 := Scalar.subi v458 v455
  let c1_i32_357 : BitVec 32 := 1#32
  let v461 : BitVec 32 := Scalar.divsi v459 c1_i32_357
  let v462 : BitVec 32 := Scalar.muli v461 c1_i32_357
  let v463 : BitVec 32 := Scalar.addi v455 v462
  let c1_i32_359 : BitVec 32 := 1#32
  let arg16 : BitVec 32 := Scf.iv v463 c1_i32_359 k0_t16
  let v630 : Index := Scalar.indexCast arg16
  let c0_449 : Index := 0#32
  ![v630.toNat, 0]
def k0_off110 (v30 : BitVec 32) (v33 : BitVec 32) (k0_t2 : Fin k0_t2_loop.trips) (k0_t16 : Fin (k0_t16_loop v30 v33 k0_t2).trips) : Fin 2 → Nat :=
  let c200_i32_354 : BitVec 32 := 200#32
  let c0_i32_353 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v453 : BitVec 32 := Scalar.subi v30 v356
  let v454 : BitVec 32 := Scalar.maxsi c0_i32_353 v453
  let v455 : BitVec 32 := Scalar.minsi c200_i32_354 v454
  let c200_i32_355 : BitVec 32 := 200#32
  let v456 : BitVec 32 := Scalar.subi v33 v356
  let v457 : BitVec 32 := Scalar.maxsi v455 v456
  let v458 : BitVec 32 := Scalar.minsi c200_i32_355 v457
  let v459 : BitVec 32 := Scalar.subi v458 v455
  let c1_i32_357 : BitVec 32 := 1#32
  let v461 : BitVec 32 := Scalar.divsi v459 c1_i32_357
  let v462 : BitVec 32 := Scalar.muli v461 c1_i32_357
  let v463 : BitVec 32 := Scalar.addi v455 v462
  let c1_i32_359 : BitVec 32 := 1#32
  let arg16 : BitVec 32 := Scf.iv v463 c1_i32_359 k0_t16
  let v637 : Index := Scalar.indexCast arg16
  let c16_452 : Index := 16#32
  ![v637.toNat, 16]
def k0_off111 (v30 : BitVec 32) (v33 : BitVec 32) (k0_t2 : Fin k0_t2_loop.trips) (k0_t16 : Fin (k0_t16_loop v30 v33 k0_t2).trips) : Fin 2 → Nat :=
  let c200_i32_354 : BitVec 32 := 200#32
  let c0_i32_353 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v453 : BitVec 32 := Scalar.subi v30 v356
  let v454 : BitVec 32 := Scalar.maxsi c0_i32_353 v453
  let v455 : BitVec 32 := Scalar.minsi c200_i32_354 v454
  let c200_i32_355 : BitVec 32 := 200#32
  let v456 : BitVec 32 := Scalar.subi v33 v356
  let v457 : BitVec 32 := Scalar.maxsi v455 v456
  let v458 : BitVec 32 := Scalar.minsi c200_i32_355 v457
  let v459 : BitVec 32 := Scalar.subi v458 v455
  let c1_i32_357 : BitVec 32 := 1#32
  let v461 : BitVec 32 := Scalar.divsi v459 c1_i32_357
  let v462 : BitVec 32 := Scalar.muli v461 c1_i32_357
  let v463 : BitVec 32 := Scalar.addi v455 v462
  let c1_i32_359 : BitVec 32 := 1#32
  let arg16 : BitVec 32 := Scf.iv v463 c1_i32_359 k0_t16
  let v644 : Index := Scalar.indexCast arg16
  let c32_455 : Index := 32#32
  ![v644.toNat, 32]
def k0_off112 (v30 : BitVec 32) (v33 : BitVec 32) (k0_t2 : Fin k0_t2_loop.trips) (k0_t16 : Fin (k0_t16_loop v30 v33 k0_t2).trips) : Fin 2 → Nat :=
  let c200_i32_354 : BitVec 32 := 200#32
  let c0_i32_353 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v453 : BitVec 32 := Scalar.subi v30 v356
  let v454 : BitVec 32 := Scalar.maxsi c0_i32_353 v453
  let v455 : BitVec 32 := Scalar.minsi c200_i32_354 v454
  let c200_i32_355 : BitVec 32 := 200#32
  let v456 : BitVec 32 := Scalar.subi v33 v356
  let v457 : BitVec 32 := Scalar.maxsi v455 v456
  let v458 : BitVec 32 := Scalar.minsi c200_i32_355 v457
  let v459 : BitVec 32 := Scalar.subi v458 v455
  let c1_i32_357 : BitVec 32 := 1#32
  let v461 : BitVec 32 := Scalar.divsi v459 c1_i32_357
  let v462 : BitVec 32 := Scalar.muli v461 c1_i32_357
  let v463 : BitVec 32 := Scalar.addi v455 v462
  let c1_i32_359 : BitVec 32 := 1#32
  let arg16 : BitVec 32 := Scf.iv v463 c1_i32_359 k0_t16
  let v651 : Index := Scalar.indexCast arg16
  let c48_458 : Index := 48#32
  ![v651.toNat, 48]
def k0_off113 (v30 : BitVec 32) (v33 : BitVec 32) (k0_t2 : Fin k0_t2_loop.trips) (k0_t16 : Fin (k0_t16_loop v30 v33 k0_t2).trips) : Fin 2 → Nat :=
  let c200_i32_354 : BitVec 32 := 200#32
  let c0_i32_353 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v453 : BitVec 32 := Scalar.subi v30 v356
  let v454 : BitVec 32 := Scalar.maxsi c0_i32_353 v453
  let v455 : BitVec 32 := Scalar.minsi c200_i32_354 v454
  let c200_i32_355 : BitVec 32 := 200#32
  let v456 : BitVec 32 := Scalar.subi v33 v356
  let v457 : BitVec 32 := Scalar.maxsi v455 v456
  let v458 : BitVec 32 := Scalar.minsi c200_i32_355 v457
  let v459 : BitVec 32 := Scalar.subi v458 v455
  let c1_i32_357 : BitVec 32 := 1#32
  let v461 : BitVec 32 := Scalar.divsi v459 c1_i32_357
  let v462 : BitVec 32 := Scalar.muli v461 c1_i32_357
  let v463 : BitVec 32 := Scalar.addi v455 v462
  let c1_i32_359 : BitVec 32 := 1#32
  let arg16 : BitVec 32 := Scf.iv v463 c1_i32_359 k0_t16
  let v658 : Index := Scalar.indexCast arg16
  let c64_461 : Index := 64#32
  ![v658.toNat, 64]
def k0_off114 (v30 : BitVec 32) (v33 : BitVec 32) (k0_t2 : Fin k0_t2_loop.trips) (k0_t16 : Fin (k0_t16_loop v30 v33 k0_t2).trips) : Fin 2 → Nat :=
  let c200_i32_354 : BitVec 32 := 200#32
  let c0_i32_353 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v453 : BitVec 32 := Scalar.subi v30 v356
  let v454 : BitVec 32 := Scalar.maxsi c0_i32_353 v453
  let v455 : BitVec 32 := Scalar.minsi c200_i32_354 v454
  let c200_i32_355 : BitVec 32 := 200#32
  let v456 : BitVec 32 := Scalar.subi v33 v356
  let v457 : BitVec 32 := Scalar.maxsi v455 v456
  let v458 : BitVec 32 := Scalar.minsi c200_i32_355 v457
  let v459 : BitVec 32 := Scalar.subi v458 v455
  let c1_i32_357 : BitVec 32 := 1#32
  let v461 : BitVec 32 := Scalar.divsi v459 c1_i32_357
  let v462 : BitVec 32 := Scalar.muli v461 c1_i32_357
  let v463 : BitVec 32 := Scalar.addi v455 v462
  let c1_i32_359 : BitVec 32 := 1#32
  let arg16 : BitVec 32 := Scf.iv v463 c1_i32_359 k0_t16
  let v665 : Index := Scalar.indexCast arg16
  let c80_464 : Index := 80#32
  ![v665.toNat, 80]
def k0_off115 (v30 : BitVec 32) (v33 : BitVec 32) (k0_t2 : Fin k0_t2_loop.trips) (k0_t16 : Fin (k0_t16_loop v30 v33 k0_t2).trips) : Fin 2 → Nat :=
  let c200_i32_354 : BitVec 32 := 200#32
  let c0_i32_353 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v453 : BitVec 32 := Scalar.subi v30 v356
  let v454 : BitVec 32 := Scalar.maxsi c0_i32_353 v453
  let v455 : BitVec 32 := Scalar.minsi c200_i32_354 v454
  let c200_i32_355 : BitVec 32 := 200#32
  let v456 : BitVec 32 := Scalar.subi v33 v356
  let v457 : BitVec 32 := Scalar.maxsi v455 v456
  let v458 : BitVec 32 := Scalar.minsi c200_i32_355 v457
  let v459 : BitVec 32 := Scalar.subi v458 v455
  let c1_i32_357 : BitVec 32 := 1#32
  let v461 : BitVec 32 := Scalar.divsi v459 c1_i32_357
  let v462 : BitVec 32 := Scalar.muli v461 c1_i32_357
  let v463 : BitVec 32 := Scalar.addi v455 v462
  let c1_i32_359 : BitVec 32 := 1#32
  let arg16 : BitVec 32 := Scf.iv v463 c1_i32_359 k0_t16
  let v672 : Index := Scalar.indexCast arg16
  let c96_467 : Index := 96#32
  ![v672.toNat, 96]
def k0_off116 (v30 : BitVec 32) (v33 : BitVec 32) (k0_t2 : Fin k0_t2_loop.trips) (k0_t16 : Fin (k0_t16_loop v30 v33 k0_t2).trips) : Fin 2 → Nat :=
  let c200_i32_354 : BitVec 32 := 200#32
  let c0_i32_353 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v453 : BitVec 32 := Scalar.subi v30 v356
  let v454 : BitVec 32 := Scalar.maxsi c0_i32_353 v453
  let v455 : BitVec 32 := Scalar.minsi c200_i32_354 v454
  let c200_i32_355 : BitVec 32 := 200#32
  let v456 : BitVec 32 := Scalar.subi v33 v356
  let v457 : BitVec 32 := Scalar.maxsi v455 v456
  let v458 : BitVec 32 := Scalar.minsi c200_i32_355 v457
  let v459 : BitVec 32 := Scalar.subi v458 v455
  let c1_i32_357 : BitVec 32 := 1#32
  let v461 : BitVec 32 := Scalar.divsi v459 c1_i32_357
  let v462 : BitVec 32 := Scalar.muli v461 c1_i32_357
  let v463 : BitVec 32 := Scalar.addi v455 v462
  let c1_i32_359 : BitVec 32 := 1#32
  let arg16 : BitVec 32 := Scf.iv v463 c1_i32_359 k0_t16
  let v679 : Index := Scalar.indexCast arg16
  let c112_470 : Index := 112#32
  ![v679.toNat, 112]
@[reducible] def k0_t17_loop (v33 : BitVec 32) (k0_t2 : Fin k0_t2_loop.trips) : Scf.Loop 32 :=
  let c200_i32_362 : BitVec 32 := 200#32
  let c0_i32_361 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v469 : BitVec 32 := Scalar.subi v33 v356
  let v470 : BitVec 32 := Scalar.maxsi c0_i32_361 v469
  let v471 : BitVec 32 := Scalar.minsi c200_i32_362 v470
  let c200_i32_363 : BitVec 32 := 200#32
  let c5600_i32_273 : BitVec 32 := 5600#32
  let v472 : BitVec 32 := Scalar.subi c5600_i32_273 v356
  let v473 : BitVec 32 := Scalar.maxsi v471 v472
  let v474 : BitVec 32 := Scalar.minsi c200_i32_363 v473
  let v475 : BitVec 32 := Scalar.subi v474 v471
  let c1_i32_365 : BitVec 32 := 1#32
  let v477 : BitVec 32 := Scalar.divsi v475 c1_i32_365
  let v478 : BitVec 32 := Scalar.muli v477 c1_i32_365
  let v479 : BitVec 32 := Scalar.addi v471 v478
  let c1_i32_366 : BitVec 32 := 1#32
  ⟨v471, v479, c1_i32_366⟩
def k0_off117 (v33 : BitVec 32) (k0_t2 : Fin k0_t2_loop.trips) (k0_t17 : Fin (k0_t17_loop v33 k0_t2).trips) : Fin 2 → Nat :=
  let c200_i32_362 : BitVec 32 := 200#32
  let c0_i32_361 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v469 : BitVec 32 := Scalar.subi v33 v356
  let v470 : BitVec 32 := Scalar.maxsi c0_i32_361 v469
  let v471 : BitVec 32 := Scalar.minsi c200_i32_362 v470
  let c1_i32_366 : BitVec 32 := 1#32
  let arg16 : BitVec 32 := Scf.iv v471 c1_i32_366 k0_t17
  let v630 : Index := Scalar.indexCast arg16
  let c0_449 : Index := 0#32
  ![v630.toNat, 0]
def k0_off118 (v33 : BitVec 32) (k0_t2 : Fin k0_t2_loop.trips) (k0_t17 : Fin (k0_t17_loop v33 k0_t2).trips) : Fin 2 → Nat :=
  let c200_i32_362 : BitVec 32 := 200#32
  let c0_i32_361 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v469 : BitVec 32 := Scalar.subi v33 v356
  let v470 : BitVec 32 := Scalar.maxsi c0_i32_361 v469
  let v471 : BitVec 32 := Scalar.minsi c200_i32_362 v470
  let c1_i32_366 : BitVec 32 := 1#32
  let arg16 : BitVec 32 := Scf.iv v471 c1_i32_366 k0_t17
  let v637 : Index := Scalar.indexCast arg16
  let c16_452 : Index := 16#32
  ![v637.toNat, 16]
def k0_off119 (v33 : BitVec 32) (k0_t2 : Fin k0_t2_loop.trips) (k0_t17 : Fin (k0_t17_loop v33 k0_t2).trips) : Fin 2 → Nat :=
  let c200_i32_362 : BitVec 32 := 200#32
  let c0_i32_361 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v469 : BitVec 32 := Scalar.subi v33 v356
  let v470 : BitVec 32 := Scalar.maxsi c0_i32_361 v469
  let v471 : BitVec 32 := Scalar.minsi c200_i32_362 v470
  let c1_i32_366 : BitVec 32 := 1#32
  let arg16 : BitVec 32 := Scf.iv v471 c1_i32_366 k0_t17
  let v644 : Index := Scalar.indexCast arg16
  let c32_455 : Index := 32#32
  ![v644.toNat, 32]
def k0_off120 (v33 : BitVec 32) (k0_t2 : Fin k0_t2_loop.trips) (k0_t17 : Fin (k0_t17_loop v33 k0_t2).trips) : Fin 2 → Nat :=
  let c200_i32_362 : BitVec 32 := 200#32
  let c0_i32_361 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v469 : BitVec 32 := Scalar.subi v33 v356
  let v470 : BitVec 32 := Scalar.maxsi c0_i32_361 v469
  let v471 : BitVec 32 := Scalar.minsi c200_i32_362 v470
  let c1_i32_366 : BitVec 32 := 1#32
  let arg16 : BitVec 32 := Scf.iv v471 c1_i32_366 k0_t17
  let v651 : Index := Scalar.indexCast arg16
  let c48_458 : Index := 48#32
  ![v651.toNat, 48]
def k0_off121 (v33 : BitVec 32) (k0_t2 : Fin k0_t2_loop.trips) (k0_t17 : Fin (k0_t17_loop v33 k0_t2).trips) : Fin 2 → Nat :=
  let c200_i32_362 : BitVec 32 := 200#32
  let c0_i32_361 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v469 : BitVec 32 := Scalar.subi v33 v356
  let v470 : BitVec 32 := Scalar.maxsi c0_i32_361 v469
  let v471 : BitVec 32 := Scalar.minsi c200_i32_362 v470
  let c1_i32_366 : BitVec 32 := 1#32
  let arg16 : BitVec 32 := Scf.iv v471 c1_i32_366 k0_t17
  let v658 : Index := Scalar.indexCast arg16
  let c64_461 : Index := 64#32
  ![v658.toNat, 64]
def k0_off122 (v33 : BitVec 32) (k0_t2 : Fin k0_t2_loop.trips) (k0_t17 : Fin (k0_t17_loop v33 k0_t2).trips) : Fin 2 → Nat :=
  let c200_i32_362 : BitVec 32 := 200#32
  let c0_i32_361 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v469 : BitVec 32 := Scalar.subi v33 v356
  let v470 : BitVec 32 := Scalar.maxsi c0_i32_361 v469
  let v471 : BitVec 32 := Scalar.minsi c200_i32_362 v470
  let c1_i32_366 : BitVec 32 := 1#32
  let arg16 : BitVec 32 := Scf.iv v471 c1_i32_366 k0_t17
  let v665 : Index := Scalar.indexCast arg16
  let c80_464 : Index := 80#32
  ![v665.toNat, 80]
def k0_off123 (v33 : BitVec 32) (k0_t2 : Fin k0_t2_loop.trips) (k0_t17 : Fin (k0_t17_loop v33 k0_t2).trips) : Fin 2 → Nat :=
  let c200_i32_362 : BitVec 32 := 200#32
  let c0_i32_361 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v469 : BitVec 32 := Scalar.subi v33 v356
  let v470 : BitVec 32 := Scalar.maxsi c0_i32_361 v469
  let v471 : BitVec 32 := Scalar.minsi c200_i32_362 v470
  let c1_i32_366 : BitVec 32 := 1#32
  let arg16 : BitVec 32 := Scf.iv v471 c1_i32_366 k0_t17
  let v672 : Index := Scalar.indexCast arg16
  let c96_467 : Index := 96#32
  ![v672.toNat, 96]
def k0_off124 (v33 : BitVec 32) (k0_t2 : Fin k0_t2_loop.trips) (k0_t17 : Fin (k0_t17_loop v33 k0_t2).trips) : Fin 2 → Nat :=
  let c200_i32_362 : BitVec 32 := 200#32
  let c0_i32_361 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v469 : BitVec 32 := Scalar.subi v33 v356
  let v470 : BitVec 32 := Scalar.maxsi c0_i32_361 v469
  let v471 : BitVec 32 := Scalar.minsi c200_i32_362 v470
  let c1_i32_366 : BitVec 32 := 1#32
  let arg16 : BitVec 32 := Scf.iv v471 c1_i32_366 k0_t17
  let v679 : Index := Scalar.indexCast arg16
  let c112_470 : Index := 112#32
  ![v679.toNat, 112]
@[reducible] def k0_t18_loop (v33 : BitVec 32) (k0_t2 : Fin k0_t2_loop.trips) : Scf.Loop 32 :=
  let c200_i32_362 : BitVec 32 := 200#32
  let c0_i32_361 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v469 : BitVec 32 := Scalar.subi v33 v356
  let v470 : BitVec 32 := Scalar.maxsi c0_i32_361 v469
  let v471 : BitVec 32 := Scalar.minsi c200_i32_362 v470
  let c200_i32_363 : BitVec 32 := 200#32
  let c5600_i32_273 : BitVec 32 := 5600#32
  let v472 : BitVec 32 := Scalar.subi c5600_i32_273 v356
  let v473 : BitVec 32 := Scalar.maxsi v471 v472
  let v474 : BitVec 32 := Scalar.minsi c200_i32_363 v473
  let v475 : BitVec 32 := Scalar.subi v474 v471
  let c1_i32_365 : BitVec 32 := 1#32
  let v477 : BitVec 32 := Scalar.divsi v475 c1_i32_365
  let v478 : BitVec 32 := Scalar.muli v477 c1_i32_365
  let v479 : BitVec 32 := Scalar.addi v471 v478
  let v476 : BitVec 32 := Scalar.addi v471 v475
  let c1_i32_367 : BitVec 32 := 1#32
  ⟨v479, v476, c1_i32_367⟩
def k0_off125 (v33 : BitVec 32) (k0_t2 : Fin k0_t2_loop.trips) (k0_t18 : Fin (k0_t18_loop v33 k0_t2).trips) : Fin 2 → Nat :=
  let c200_i32_362 : BitVec 32 := 200#32
  let c0_i32_361 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v469 : BitVec 32 := Scalar.subi v33 v356
  let v470 : BitVec 32 := Scalar.maxsi c0_i32_361 v469
  let v471 : BitVec 32 := Scalar.minsi c200_i32_362 v470
  let c200_i32_363 : BitVec 32 := 200#32
  let c5600_i32_273 : BitVec 32 := 5600#32
  let v472 : BitVec 32 := Scalar.subi c5600_i32_273 v356
  let v473 : BitVec 32 := Scalar.maxsi v471 v472
  let v474 : BitVec 32 := Scalar.minsi c200_i32_363 v473
  let v475 : BitVec 32 := Scalar.subi v474 v471
  let c1_i32_365 : BitVec 32 := 1#32
  let v477 : BitVec 32 := Scalar.divsi v475 c1_i32_365
  let v478 : BitVec 32 := Scalar.muli v477 c1_i32_365
  let v479 : BitVec 32 := Scalar.addi v471 v478
  let c1_i32_367 : BitVec 32 := 1#32
  let arg16 : BitVec 32 := Scf.iv v479 c1_i32_367 k0_t18
  let v630 : Index := Scalar.indexCast arg16
  let c0_449 : Index := 0#32
  ![v630.toNat, 0]
def k0_off126 (v33 : BitVec 32) (k0_t2 : Fin k0_t2_loop.trips) (k0_t18 : Fin (k0_t18_loop v33 k0_t2).trips) : Fin 2 → Nat :=
  let c200_i32_362 : BitVec 32 := 200#32
  let c0_i32_361 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v469 : BitVec 32 := Scalar.subi v33 v356
  let v470 : BitVec 32 := Scalar.maxsi c0_i32_361 v469
  let v471 : BitVec 32 := Scalar.minsi c200_i32_362 v470
  let c200_i32_363 : BitVec 32 := 200#32
  let c5600_i32_273 : BitVec 32 := 5600#32
  let v472 : BitVec 32 := Scalar.subi c5600_i32_273 v356
  let v473 : BitVec 32 := Scalar.maxsi v471 v472
  let v474 : BitVec 32 := Scalar.minsi c200_i32_363 v473
  let v475 : BitVec 32 := Scalar.subi v474 v471
  let c1_i32_365 : BitVec 32 := 1#32
  let v477 : BitVec 32 := Scalar.divsi v475 c1_i32_365
  let v478 : BitVec 32 := Scalar.muli v477 c1_i32_365
  let v479 : BitVec 32 := Scalar.addi v471 v478
  let c1_i32_367 : BitVec 32 := 1#32
  let arg16 : BitVec 32 := Scf.iv v479 c1_i32_367 k0_t18
  let v637 : Index := Scalar.indexCast arg16
  let c16_452 : Index := 16#32
  ![v637.toNat, 16]
def k0_off127 (v33 : BitVec 32) (k0_t2 : Fin k0_t2_loop.trips) (k0_t18 : Fin (k0_t18_loop v33 k0_t2).trips) : Fin 2 → Nat :=
  let c200_i32_362 : BitVec 32 := 200#32
  let c0_i32_361 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v469 : BitVec 32 := Scalar.subi v33 v356
  let v470 : BitVec 32 := Scalar.maxsi c0_i32_361 v469
  let v471 : BitVec 32 := Scalar.minsi c200_i32_362 v470
  let c200_i32_363 : BitVec 32 := 200#32
  let c5600_i32_273 : BitVec 32 := 5600#32
  let v472 : BitVec 32 := Scalar.subi c5600_i32_273 v356
  let v473 : BitVec 32 := Scalar.maxsi v471 v472
  let v474 : BitVec 32 := Scalar.minsi c200_i32_363 v473
  let v475 : BitVec 32 := Scalar.subi v474 v471
  let c1_i32_365 : BitVec 32 := 1#32
  let v477 : BitVec 32 := Scalar.divsi v475 c1_i32_365
  let v478 : BitVec 32 := Scalar.muli v477 c1_i32_365
  let v479 : BitVec 32 := Scalar.addi v471 v478
  let c1_i32_367 : BitVec 32 := 1#32
  let arg16 : BitVec 32 := Scf.iv v479 c1_i32_367 k0_t18
  let v644 : Index := Scalar.indexCast arg16
  let c32_455 : Index := 32#32
  ![v644.toNat, 32]
def k0_off128 (v33 : BitVec 32) (k0_t2 : Fin k0_t2_loop.trips) (k0_t18 : Fin (k0_t18_loop v33 k0_t2).trips) : Fin 2 → Nat :=
  let c200_i32_362 : BitVec 32 := 200#32
  let c0_i32_361 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v469 : BitVec 32 := Scalar.subi v33 v356
  let v470 : BitVec 32 := Scalar.maxsi c0_i32_361 v469
  let v471 : BitVec 32 := Scalar.minsi c200_i32_362 v470
  let c200_i32_363 : BitVec 32 := 200#32
  let c5600_i32_273 : BitVec 32 := 5600#32
  let v472 : BitVec 32 := Scalar.subi c5600_i32_273 v356
  let v473 : BitVec 32 := Scalar.maxsi v471 v472
  let v474 : BitVec 32 := Scalar.minsi c200_i32_363 v473
  let v475 : BitVec 32 := Scalar.subi v474 v471
  let c1_i32_365 : BitVec 32 := 1#32
  let v477 : BitVec 32 := Scalar.divsi v475 c1_i32_365
  let v478 : BitVec 32 := Scalar.muli v477 c1_i32_365
  let v479 : BitVec 32 := Scalar.addi v471 v478
  let c1_i32_367 : BitVec 32 := 1#32
  let arg16 : BitVec 32 := Scf.iv v479 c1_i32_367 k0_t18
  let v651 : Index := Scalar.indexCast arg16
  let c48_458 : Index := 48#32
  ![v651.toNat, 48]
def k0_off129 (v33 : BitVec 32) (k0_t2 : Fin k0_t2_loop.trips) (k0_t18 : Fin (k0_t18_loop v33 k0_t2).trips) : Fin 2 → Nat :=
  let c200_i32_362 : BitVec 32 := 200#32
  let c0_i32_361 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v469 : BitVec 32 := Scalar.subi v33 v356
  let v470 : BitVec 32 := Scalar.maxsi c0_i32_361 v469
  let v471 : BitVec 32 := Scalar.minsi c200_i32_362 v470
  let c200_i32_363 : BitVec 32 := 200#32
  let c5600_i32_273 : BitVec 32 := 5600#32
  let v472 : BitVec 32 := Scalar.subi c5600_i32_273 v356
  let v473 : BitVec 32 := Scalar.maxsi v471 v472
  let v474 : BitVec 32 := Scalar.minsi c200_i32_363 v473
  let v475 : BitVec 32 := Scalar.subi v474 v471
  let c1_i32_365 : BitVec 32 := 1#32
  let v477 : BitVec 32 := Scalar.divsi v475 c1_i32_365
  let v478 : BitVec 32 := Scalar.muli v477 c1_i32_365
  let v479 : BitVec 32 := Scalar.addi v471 v478
  let c1_i32_367 : BitVec 32 := 1#32
  let arg16 : BitVec 32 := Scf.iv v479 c1_i32_367 k0_t18
  let v658 : Index := Scalar.indexCast arg16
  let c64_461 : Index := 64#32
  ![v658.toNat, 64]
def k0_off130 (v33 : BitVec 32) (k0_t2 : Fin k0_t2_loop.trips) (k0_t18 : Fin (k0_t18_loop v33 k0_t2).trips) : Fin 2 → Nat :=
  let c200_i32_362 : BitVec 32 := 200#32
  let c0_i32_361 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v469 : BitVec 32 := Scalar.subi v33 v356
  let v470 : BitVec 32 := Scalar.maxsi c0_i32_361 v469
  let v471 : BitVec 32 := Scalar.minsi c200_i32_362 v470
  let c200_i32_363 : BitVec 32 := 200#32
  let c5600_i32_273 : BitVec 32 := 5600#32
  let v472 : BitVec 32 := Scalar.subi c5600_i32_273 v356
  let v473 : BitVec 32 := Scalar.maxsi v471 v472
  let v474 : BitVec 32 := Scalar.minsi c200_i32_363 v473
  let v475 : BitVec 32 := Scalar.subi v474 v471
  let c1_i32_365 : BitVec 32 := 1#32
  let v477 : BitVec 32 := Scalar.divsi v475 c1_i32_365
  let v478 : BitVec 32 := Scalar.muli v477 c1_i32_365
  let v479 : BitVec 32 := Scalar.addi v471 v478
  let c1_i32_367 : BitVec 32 := 1#32
  let arg16 : BitVec 32 := Scf.iv v479 c1_i32_367 k0_t18
  let v665 : Index := Scalar.indexCast arg16
  let c80_464 : Index := 80#32
  ![v665.toNat, 80]
def k0_off131 (v33 : BitVec 32) (k0_t2 : Fin k0_t2_loop.trips) (k0_t18 : Fin (k0_t18_loop v33 k0_t2).trips) : Fin 2 → Nat :=
  let c200_i32_362 : BitVec 32 := 200#32
  let c0_i32_361 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v469 : BitVec 32 := Scalar.subi v33 v356
  let v470 : BitVec 32 := Scalar.maxsi c0_i32_361 v469
  let v471 : BitVec 32 := Scalar.minsi c200_i32_362 v470
  let c200_i32_363 : BitVec 32 := 200#32
  let c5600_i32_273 : BitVec 32 := 5600#32
  let v472 : BitVec 32 := Scalar.subi c5600_i32_273 v356
  let v473 : BitVec 32 := Scalar.maxsi v471 v472
  let v474 : BitVec 32 := Scalar.minsi c200_i32_363 v473
  let v475 : BitVec 32 := Scalar.subi v474 v471
  let c1_i32_365 : BitVec 32 := 1#32
  let v477 : BitVec 32 := Scalar.divsi v475 c1_i32_365
  let v478 : BitVec 32 := Scalar.muli v477 c1_i32_365
  let v479 : BitVec 32 := Scalar.addi v471 v478
  let c1_i32_367 : BitVec 32 := 1#32
  let arg16 : BitVec 32 := Scf.iv v479 c1_i32_367 k0_t18
  let v672 : Index := Scalar.indexCast arg16
  let c96_467 : Index := 96#32
  ![v672.toNat, 96]
def k0_off132 (v33 : BitVec 32) (k0_t2 : Fin k0_t2_loop.trips) (k0_t18 : Fin (k0_t18_loop v33 k0_t2).trips) : Fin 2 → Nat :=
  let c200_i32_362 : BitVec 32 := 200#32
  let c0_i32_361 : BitVec 32 := 0#32
  let c2_i32_303 : BitVec 32 := 2#32
  let c0_i32_275 : BitVec 32 := 0#32
  let c1_i32_276 : BitVec 32 := 1#32
  let arg14 : BitVec 32 := Scf.iv c0_i32_275 c1_i32_276 k0_t2
  let v355 : BitVec 32 := Scalar.muli c2_i32_303 arg14
  let c200_i32_304 : BitVec 32 := 200#32
  let v356 : BitVec 32 := Scalar.muli v355 c200_i32_304
  let v469 : BitVec 32 := Scalar.subi v33 v356
  let v470 : BitVec 32 := Scalar.maxsi c0_i32_361 v469
  let v471 : BitVec 32 := Scalar.minsi c200_i32_362 v470
  let c200_i32_363 : BitVec 32 := 200#32
  let c5600_i32_273 : BitVec 32 := 5600#32
  let v472 : BitVec 32 := Scalar.subi c5600_i32_273 v356
  let v473 : BitVec 32 := Scalar.maxsi v471 v472
  let v474 : BitVec 32 := Scalar.minsi c200_i32_363 v473
  let v475 : BitVec 32 := Scalar.subi v474 v471
  let c1_i32_365 : BitVec 32 := 1#32
  let v477 : BitVec 32 := Scalar.divsi v475 c1_i32_365
  let v478 : BitVec 32 := Scalar.muli v477 c1_i32_365
  let v479 : BitVec 32 := Scalar.addi v471 v478
  let c1_i32_367 : BitVec 32 := 1#32
  let arg16 : BitVec 32 := Scf.iv v479 c1_i32_367 k0_t18
  let v679 : Index := Scalar.indexCast arg16
  let c112_470 : Index := 112#32
  ![v679.toNat, 112]
def k0_cond9 (k0_t2 : Fin k0_t2_loop.trips) : BitVec 1 :=
  let c0_i32_275 : BitVec 32 := 0#32
  let c1_i32_276 : BitVec 32 := 1#32
  let arg14 : BitVec 32 := Scf.iv c0_i32_275 c1_i32_276 k0_t2
  let c13_i32 : BitVec 32 := 13#32
  let v485 : BitVec 1 := Scalar.cmpi .slt arg14 c13_i32
  let v486 : BitVec 32 := Scalar.extui v485
  let c0_i32_369 : BitVec 32 := 0#32
  let v487 : BitVec 1 := Scalar.cmpi .ne v486 c0_i32_369
  v487

def k0_mult4 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5600_i32 : BitVec 32 := 5600#32
  let v2 : BitVec 32 := Scalar.muli v1 c5600_i32
  let v3 : BitVec 32 := v2
  let c2_i32_447 : BitVec 32 := 2#32
  let c0_i32_275 : BitVec 32 := 0#32
  let c1_i32_276 : BitVec 32 := 1#32
  let arg14 : BitVec 32 := Scf.iv c0_i32_275 c1_i32_276 k0_t2
  let v628 : BitVec 32 := Scalar.muli c2_i32_447 arg14
  let c2_i32_448 : BitVec 32 := 2#32
  let v629 : BitVec 32 := Scalar.addi v628 c2_i32_448
  let c200_i32_449 : BitVec 32 := 200#32
  let v630 : BitVec 32 := Scalar.muli v629 c200_i32_449
  let v631 : BitVec 32 := Scalar.addi v3 v630
  v631
def k0_off133 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5600_i32 : BitVec 32 := 5600#32
  let v2 : BitVec 32 := Scalar.muli v1 c5600_i32
  let v3 : BitVec 32 := v2
  let c2_i32_447 : BitVec 32 := 2#32
  let c0_i32_275 : BitVec 32 := 0#32
  let c1_i32_276 : BitVec 32 := 1#32
  let arg14 : BitVec 32 := Scf.iv c0_i32_275 c1_i32_276 k0_t2
  let v628 : BitVec 32 := Scalar.muli c2_i32_447 arg14
  let c2_i32_448 : BitVec 32 := 2#32
  let v629 : BitVec 32 := Scalar.addi v628 c2_i32_448
  let c200_i32_449 : BitVec 32 := 200#32
  let v630 : BitVec 32 := Scalar.muli v629 c200_i32_449
  let v631 : BitVec 32 := Scalar.addi v3 v630
  let v632 : BitVec 32 := v631
  let c0_i32_453 : BitVec 32 := 0#32
  ![v632.toNat, 0]
def k0_off134 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5600_i32 : BitVec 32 := 5600#32
  let v2 : BitVec 32 := Scalar.muli v1 c5600_i32
  let v3 : BitVec 32 := v2
  let c0_i32_373 : BitVec 32 := 0#32
  ![v3.toNat, 0]
@[reducible] def k0_t19_loop (v15 : BitVec 32) (k0_t2 : Fin k0_t2_loop.trips) : Scf.Loop 32 :=
  let c200_i32_381 : BitVec 32 := 200#32
  let c0_i32_380 : BitVec 32 := 0#32
  let c0_i32_272 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v497 : BitVec 32 := Scalar.subi c0_i32_272 v496
  let v498 : BitVec 32 := Scalar.maxsi c0_i32_380 v497
  let v499 : BitVec 32 := Scalar.minsi c200_i32_381 v498
  let c200_i32_382 : BitVec 32 := 200#32
  let v500 : BitVec 32 := Scalar.subi v15 v496
  let v501 : BitVec 32 := Scalar.maxsi v499 v500
  let v502 : BitVec 32 := Scalar.minsi c200_i32_382 v501
  let v503 : BitVec 32 := Scalar.subi v502 v499
  let c1_i32_384 : BitVec 32 := 1#32
  let v505 : BitVec 32 := Scalar.divsi v503 c1_i32_384
  let v506 : BitVec 32 := Scalar.muli v505 c1_i32_384
  let v507 : BitVec 32 := Scalar.addi v499 v506
  let c1_i32_385 : BitVec 32 := 1#32
  ⟨v499, v507, c1_i32_385⟩
def k0_off135 (v15 : BitVec 32) (k0_t2 : Fin k0_t2_loop.trips) (k0_t19 : Fin (k0_t19_loop v15 k0_t2).trips) : Fin 2 → Nat :=
  let c200_i32_381 : BitVec 32 := 200#32
  let c0_i32_380 : BitVec 32 := 0#32
  let c0_i32_272 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v497 : BitVec 32 := Scalar.subi c0_i32_272 v496
  let v498 : BitVec 32 := Scalar.maxsi c0_i32_380 v497
  let v499 : BitVec 32 := Scalar.minsi c200_i32_381 v498
  let c1_i32_385 : BitVec 32 := 1#32
  let arg16 : BitVec 32 := Scf.iv v499 c1_i32_385 k0_t19
  let v630 : Index := Scalar.indexCast arg16
  let c0_449 : Index := 0#32
  ![v630.toNat, 0]
def k0_off136 (v15 : BitVec 32) (k0_t2 : Fin k0_t2_loop.trips) (k0_t19 : Fin (k0_t19_loop v15 k0_t2).trips) : Fin 2 → Nat :=
  let c200_i32_381 : BitVec 32 := 200#32
  let c0_i32_380 : BitVec 32 := 0#32
  let c0_i32_272 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v497 : BitVec 32 := Scalar.subi c0_i32_272 v496
  let v498 : BitVec 32 := Scalar.maxsi c0_i32_380 v497
  let v499 : BitVec 32 := Scalar.minsi c200_i32_381 v498
  let c1_i32_385 : BitVec 32 := 1#32
  let arg16 : BitVec 32 := Scf.iv v499 c1_i32_385 k0_t19
  let v637 : Index := Scalar.indexCast arg16
  let c16_452 : Index := 16#32
  ![v637.toNat, 16]
def k0_off137 (v15 : BitVec 32) (k0_t2 : Fin k0_t2_loop.trips) (k0_t19 : Fin (k0_t19_loop v15 k0_t2).trips) : Fin 2 → Nat :=
  let c200_i32_381 : BitVec 32 := 200#32
  let c0_i32_380 : BitVec 32 := 0#32
  let c0_i32_272 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v497 : BitVec 32 := Scalar.subi c0_i32_272 v496
  let v498 : BitVec 32 := Scalar.maxsi c0_i32_380 v497
  let v499 : BitVec 32 := Scalar.minsi c200_i32_381 v498
  let c1_i32_385 : BitVec 32 := 1#32
  let arg16 : BitVec 32 := Scf.iv v499 c1_i32_385 k0_t19
  let v644 : Index := Scalar.indexCast arg16
  let c32_455 : Index := 32#32
  ![v644.toNat, 32]
def k0_off138 (v15 : BitVec 32) (k0_t2 : Fin k0_t2_loop.trips) (k0_t19 : Fin (k0_t19_loop v15 k0_t2).trips) : Fin 2 → Nat :=
  let c200_i32_381 : BitVec 32 := 200#32
  let c0_i32_380 : BitVec 32 := 0#32
  let c0_i32_272 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v497 : BitVec 32 := Scalar.subi c0_i32_272 v496
  let v498 : BitVec 32 := Scalar.maxsi c0_i32_380 v497
  let v499 : BitVec 32 := Scalar.minsi c200_i32_381 v498
  let c1_i32_385 : BitVec 32 := 1#32
  let arg16 : BitVec 32 := Scf.iv v499 c1_i32_385 k0_t19
  let v651 : Index := Scalar.indexCast arg16
  let c48_458 : Index := 48#32
  ![v651.toNat, 48]
def k0_off139 (v15 : BitVec 32) (k0_t2 : Fin k0_t2_loop.trips) (k0_t19 : Fin (k0_t19_loop v15 k0_t2).trips) : Fin 2 → Nat :=
  let c200_i32_381 : BitVec 32 := 200#32
  let c0_i32_380 : BitVec 32 := 0#32
  let c0_i32_272 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v497 : BitVec 32 := Scalar.subi c0_i32_272 v496
  let v498 : BitVec 32 := Scalar.maxsi c0_i32_380 v497
  let v499 : BitVec 32 := Scalar.minsi c200_i32_381 v498
  let c1_i32_385 : BitVec 32 := 1#32
  let arg16 : BitVec 32 := Scf.iv v499 c1_i32_385 k0_t19
  let v658 : Index := Scalar.indexCast arg16
  let c64_461 : Index := 64#32
  ![v658.toNat, 64]
def k0_off140 (v15 : BitVec 32) (k0_t2 : Fin k0_t2_loop.trips) (k0_t19 : Fin (k0_t19_loop v15 k0_t2).trips) : Fin 2 → Nat :=
  let c200_i32_381 : BitVec 32 := 200#32
  let c0_i32_380 : BitVec 32 := 0#32
  let c0_i32_272 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v497 : BitVec 32 := Scalar.subi c0_i32_272 v496
  let v498 : BitVec 32 := Scalar.maxsi c0_i32_380 v497
  let v499 : BitVec 32 := Scalar.minsi c200_i32_381 v498
  let c1_i32_385 : BitVec 32 := 1#32
  let arg16 : BitVec 32 := Scf.iv v499 c1_i32_385 k0_t19
  let v665 : Index := Scalar.indexCast arg16
  let c80_464 : Index := 80#32
  ![v665.toNat, 80]
def k0_off141 (v15 : BitVec 32) (k0_t2 : Fin k0_t2_loop.trips) (k0_t19 : Fin (k0_t19_loop v15 k0_t2).trips) : Fin 2 → Nat :=
  let c200_i32_381 : BitVec 32 := 200#32
  let c0_i32_380 : BitVec 32 := 0#32
  let c0_i32_272 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v497 : BitVec 32 := Scalar.subi c0_i32_272 v496
  let v498 : BitVec 32 := Scalar.maxsi c0_i32_380 v497
  let v499 : BitVec 32 := Scalar.minsi c200_i32_381 v498
  let c1_i32_385 : BitVec 32 := 1#32
  let arg16 : BitVec 32 := Scf.iv v499 c1_i32_385 k0_t19
  let v672 : Index := Scalar.indexCast arg16
  let c96_467 : Index := 96#32
  ![v672.toNat, 96]
def k0_off142 (v15 : BitVec 32) (k0_t2 : Fin k0_t2_loop.trips) (k0_t19 : Fin (k0_t19_loop v15 k0_t2).trips) : Fin 2 → Nat :=
  let c200_i32_381 : BitVec 32 := 200#32
  let c0_i32_380 : BitVec 32 := 0#32
  let c0_i32_272 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v497 : BitVec 32 := Scalar.subi c0_i32_272 v496
  let v498 : BitVec 32 := Scalar.maxsi c0_i32_380 v497
  let v499 : BitVec 32 := Scalar.minsi c200_i32_381 v498
  let c1_i32_385 : BitVec 32 := 1#32
  let arg16 : BitVec 32 := Scf.iv v499 c1_i32_385 k0_t19
  let v679 : Index := Scalar.indexCast arg16
  let c112_470 : Index := 112#32
  ![v679.toNat, 112]
@[reducible] def k0_t20_loop (v15 : BitVec 32) (k0_t2 : Fin k0_t2_loop.trips) : Scf.Loop 32 :=
  let c200_i32_381 : BitVec 32 := 200#32
  let c0_i32_380 : BitVec 32 := 0#32
  let c0_i32_272 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v497 : BitVec 32 := Scalar.subi c0_i32_272 v496
  let v498 : BitVec 32 := Scalar.maxsi c0_i32_380 v497
  let v499 : BitVec 32 := Scalar.minsi c200_i32_381 v498
  let c200_i32_382 : BitVec 32 := 200#32
  let v500 : BitVec 32 := Scalar.subi v15 v496
  let v501 : BitVec 32 := Scalar.maxsi v499 v500
  let v502 : BitVec 32 := Scalar.minsi c200_i32_382 v501
  let v503 : BitVec 32 := Scalar.subi v502 v499
  let c1_i32_384 : BitVec 32 := 1#32
  let v505 : BitVec 32 := Scalar.divsi v503 c1_i32_384
  let v506 : BitVec 32 := Scalar.muli v505 c1_i32_384
  let v507 : BitVec 32 := Scalar.addi v499 v506
  let v504 : BitVec 32 := Scalar.addi v499 v503
  let c1_i32_386 : BitVec 32 := 1#32
  ⟨v507, v504, c1_i32_386⟩
def k0_off143 (v15 : BitVec 32) (k0_t2 : Fin k0_t2_loop.trips) (k0_t20 : Fin (k0_t20_loop v15 k0_t2).trips) : Fin 2 → Nat :=
  let c200_i32_381 : BitVec 32 := 200#32
  let c0_i32_380 : BitVec 32 := 0#32
  let c0_i32_272 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v497 : BitVec 32 := Scalar.subi c0_i32_272 v496
  let v498 : BitVec 32 := Scalar.maxsi c0_i32_380 v497
  let v499 : BitVec 32 := Scalar.minsi c200_i32_381 v498
  let c200_i32_382 : BitVec 32 := 200#32
  let v500 : BitVec 32 := Scalar.subi v15 v496
  let v501 : BitVec 32 := Scalar.maxsi v499 v500
  let v502 : BitVec 32 := Scalar.minsi c200_i32_382 v501
  let v503 : BitVec 32 := Scalar.subi v502 v499
  let c1_i32_384 : BitVec 32 := 1#32
  let v505 : BitVec 32 := Scalar.divsi v503 c1_i32_384
  let v506 : BitVec 32 := Scalar.muli v505 c1_i32_384
  let v507 : BitVec 32 := Scalar.addi v499 v506
  let c1_i32_386 : BitVec 32 := 1#32
  let arg16 : BitVec 32 := Scf.iv v507 c1_i32_386 k0_t20
  let v630 : Index := Scalar.indexCast arg16
  let c0_449 : Index := 0#32
  ![v630.toNat, 0]
def k0_off144 (v15 : BitVec 32) (k0_t2 : Fin k0_t2_loop.trips) (k0_t20 : Fin (k0_t20_loop v15 k0_t2).trips) : Fin 2 → Nat :=
  let c200_i32_381 : BitVec 32 := 200#32
  let c0_i32_380 : BitVec 32 := 0#32
  let c0_i32_272 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v497 : BitVec 32 := Scalar.subi c0_i32_272 v496
  let v498 : BitVec 32 := Scalar.maxsi c0_i32_380 v497
  let v499 : BitVec 32 := Scalar.minsi c200_i32_381 v498
  let c200_i32_382 : BitVec 32 := 200#32
  let v500 : BitVec 32 := Scalar.subi v15 v496
  let v501 : BitVec 32 := Scalar.maxsi v499 v500
  let v502 : BitVec 32 := Scalar.minsi c200_i32_382 v501
  let v503 : BitVec 32 := Scalar.subi v502 v499
  let c1_i32_384 : BitVec 32 := 1#32
  let v505 : BitVec 32 := Scalar.divsi v503 c1_i32_384
  let v506 : BitVec 32 := Scalar.muli v505 c1_i32_384
  let v507 : BitVec 32 := Scalar.addi v499 v506
  let c1_i32_386 : BitVec 32 := 1#32
  let arg16 : BitVec 32 := Scf.iv v507 c1_i32_386 k0_t20
  let v637 : Index := Scalar.indexCast arg16
  let c16_452 : Index := 16#32
  ![v637.toNat, 16]
def k0_off145 (v15 : BitVec 32) (k0_t2 : Fin k0_t2_loop.trips) (k0_t20 : Fin (k0_t20_loop v15 k0_t2).trips) : Fin 2 → Nat :=
  let c200_i32_381 : BitVec 32 := 200#32
  let c0_i32_380 : BitVec 32 := 0#32
  let c0_i32_272 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v497 : BitVec 32 := Scalar.subi c0_i32_272 v496
  let v498 : BitVec 32 := Scalar.maxsi c0_i32_380 v497
  let v499 : BitVec 32 := Scalar.minsi c200_i32_381 v498
  let c200_i32_382 : BitVec 32 := 200#32
  let v500 : BitVec 32 := Scalar.subi v15 v496
  let v501 : BitVec 32 := Scalar.maxsi v499 v500
  let v502 : BitVec 32 := Scalar.minsi c200_i32_382 v501
  let v503 : BitVec 32 := Scalar.subi v502 v499
  let c1_i32_384 : BitVec 32 := 1#32
  let v505 : BitVec 32 := Scalar.divsi v503 c1_i32_384
  let v506 : BitVec 32 := Scalar.muli v505 c1_i32_384
  let v507 : BitVec 32 := Scalar.addi v499 v506
  let c1_i32_386 : BitVec 32 := 1#32
  let arg16 : BitVec 32 := Scf.iv v507 c1_i32_386 k0_t20
  let v644 : Index := Scalar.indexCast arg16
  let c32_455 : Index := 32#32
  ![v644.toNat, 32]
def k0_off146 (v15 : BitVec 32) (k0_t2 : Fin k0_t2_loop.trips) (k0_t20 : Fin (k0_t20_loop v15 k0_t2).trips) : Fin 2 → Nat :=
  let c200_i32_381 : BitVec 32 := 200#32
  let c0_i32_380 : BitVec 32 := 0#32
  let c0_i32_272 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v497 : BitVec 32 := Scalar.subi c0_i32_272 v496
  let v498 : BitVec 32 := Scalar.maxsi c0_i32_380 v497
  let v499 : BitVec 32 := Scalar.minsi c200_i32_381 v498
  let c200_i32_382 : BitVec 32 := 200#32
  let v500 : BitVec 32 := Scalar.subi v15 v496
  let v501 : BitVec 32 := Scalar.maxsi v499 v500
  let v502 : BitVec 32 := Scalar.minsi c200_i32_382 v501
  let v503 : BitVec 32 := Scalar.subi v502 v499
  let c1_i32_384 : BitVec 32 := 1#32
  let v505 : BitVec 32 := Scalar.divsi v503 c1_i32_384
  let v506 : BitVec 32 := Scalar.muli v505 c1_i32_384
  let v507 : BitVec 32 := Scalar.addi v499 v506
  let c1_i32_386 : BitVec 32 := 1#32
  let arg16 : BitVec 32 := Scf.iv v507 c1_i32_386 k0_t20
  let v651 : Index := Scalar.indexCast arg16
  let c48_458 : Index := 48#32
  ![v651.toNat, 48]
def k0_off147 (v15 : BitVec 32) (k0_t2 : Fin k0_t2_loop.trips) (k0_t20 : Fin (k0_t20_loop v15 k0_t2).trips) : Fin 2 → Nat :=
  let c200_i32_381 : BitVec 32 := 200#32
  let c0_i32_380 : BitVec 32 := 0#32
  let c0_i32_272 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v497 : BitVec 32 := Scalar.subi c0_i32_272 v496
  let v498 : BitVec 32 := Scalar.maxsi c0_i32_380 v497
  let v499 : BitVec 32 := Scalar.minsi c200_i32_381 v498
  let c200_i32_382 : BitVec 32 := 200#32
  let v500 : BitVec 32 := Scalar.subi v15 v496
  let v501 : BitVec 32 := Scalar.maxsi v499 v500
  let v502 : BitVec 32 := Scalar.minsi c200_i32_382 v501
  let v503 : BitVec 32 := Scalar.subi v502 v499
  let c1_i32_384 : BitVec 32 := 1#32
  let v505 : BitVec 32 := Scalar.divsi v503 c1_i32_384
  let v506 : BitVec 32 := Scalar.muli v505 c1_i32_384
  let v507 : BitVec 32 := Scalar.addi v499 v506
  let c1_i32_386 : BitVec 32 := 1#32
  let arg16 : BitVec 32 := Scf.iv v507 c1_i32_386 k0_t20
  let v658 : Index := Scalar.indexCast arg16
  let c64_461 : Index := 64#32
  ![v658.toNat, 64]
def k0_off148 (v15 : BitVec 32) (k0_t2 : Fin k0_t2_loop.trips) (k0_t20 : Fin (k0_t20_loop v15 k0_t2).trips) : Fin 2 → Nat :=
  let c200_i32_381 : BitVec 32 := 200#32
  let c0_i32_380 : BitVec 32 := 0#32
  let c0_i32_272 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v497 : BitVec 32 := Scalar.subi c0_i32_272 v496
  let v498 : BitVec 32 := Scalar.maxsi c0_i32_380 v497
  let v499 : BitVec 32 := Scalar.minsi c200_i32_381 v498
  let c200_i32_382 : BitVec 32 := 200#32
  let v500 : BitVec 32 := Scalar.subi v15 v496
  let v501 : BitVec 32 := Scalar.maxsi v499 v500
  let v502 : BitVec 32 := Scalar.minsi c200_i32_382 v501
  let v503 : BitVec 32 := Scalar.subi v502 v499
  let c1_i32_384 : BitVec 32 := 1#32
  let v505 : BitVec 32 := Scalar.divsi v503 c1_i32_384
  let v506 : BitVec 32 := Scalar.muli v505 c1_i32_384
  let v507 : BitVec 32 := Scalar.addi v499 v506
  let c1_i32_386 : BitVec 32 := 1#32
  let arg16 : BitVec 32 := Scf.iv v507 c1_i32_386 k0_t20
  let v665 : Index := Scalar.indexCast arg16
  let c80_464 : Index := 80#32
  ![v665.toNat, 80]
def k0_off149 (v15 : BitVec 32) (k0_t2 : Fin k0_t2_loop.trips) (k0_t20 : Fin (k0_t20_loop v15 k0_t2).trips) : Fin 2 → Nat :=
  let c200_i32_381 : BitVec 32 := 200#32
  let c0_i32_380 : BitVec 32 := 0#32
  let c0_i32_272 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v497 : BitVec 32 := Scalar.subi c0_i32_272 v496
  let v498 : BitVec 32 := Scalar.maxsi c0_i32_380 v497
  let v499 : BitVec 32 := Scalar.minsi c200_i32_381 v498
  let c200_i32_382 : BitVec 32 := 200#32
  let v500 : BitVec 32 := Scalar.subi v15 v496
  let v501 : BitVec 32 := Scalar.maxsi v499 v500
  let v502 : BitVec 32 := Scalar.minsi c200_i32_382 v501
  let v503 : BitVec 32 := Scalar.subi v502 v499
  let c1_i32_384 : BitVec 32 := 1#32
  let v505 : BitVec 32 := Scalar.divsi v503 c1_i32_384
  let v506 : BitVec 32 := Scalar.muli v505 c1_i32_384
  let v507 : BitVec 32 := Scalar.addi v499 v506
  let c1_i32_386 : BitVec 32 := 1#32
  let arg16 : BitVec 32 := Scf.iv v507 c1_i32_386 k0_t20
  let v672 : Index := Scalar.indexCast arg16
  let c96_467 : Index := 96#32
  ![v672.toNat, 96]
def k0_off150 (v15 : BitVec 32) (k0_t2 : Fin k0_t2_loop.trips) (k0_t20 : Fin (k0_t20_loop v15 k0_t2).trips) : Fin 2 → Nat :=
  let c200_i32_381 : BitVec 32 := 200#32
  let c0_i32_380 : BitVec 32 := 0#32
  let c0_i32_272 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v497 : BitVec 32 := Scalar.subi c0_i32_272 v496
  let v498 : BitVec 32 := Scalar.maxsi c0_i32_380 v497
  let v499 : BitVec 32 := Scalar.minsi c200_i32_381 v498
  let c200_i32_382 : BitVec 32 := 200#32
  let v500 : BitVec 32 := Scalar.subi v15 v496
  let v501 : BitVec 32 := Scalar.maxsi v499 v500
  let v502 : BitVec 32 := Scalar.minsi c200_i32_382 v501
  let v503 : BitVec 32 := Scalar.subi v502 v499
  let c1_i32_384 : BitVec 32 := 1#32
  let v505 : BitVec 32 := Scalar.divsi v503 c1_i32_384
  let v506 : BitVec 32 := Scalar.muli v505 c1_i32_384
  let v507 : BitVec 32 := Scalar.addi v499 v506
  let c1_i32_386 : BitVec 32 := 1#32
  let arg16 : BitVec 32 := Scf.iv v507 c1_i32_386 k0_t20
  let v679 : Index := Scalar.indexCast arg16
  let c112_470 : Index := 112#32
  ![v679.toNat, 112]

def k0_chk1_0 (v15 : BitVec 32) : Prop :=
  (∀ k0_t2 : Fin k0_t2_loop.trips, (k0_t3_loop v15 k0_t2).OK) ∧
  (∀ (k0_t2 : Fin k0_t2_loop.trips) (k0_t3 : Fin (k0_t3_loop v15 k0_t2).trips), ∀ a, (k0_off5 v15 k0_t2 k0_t3) a + S1x16.size a ≤ S200x128.size a) ∧
  (∀ (k0_t2 : Fin k0_t2_loop.trips) (k0_t3 : Fin (k0_t3_loop v15 k0_t2).trips), ∀ a, (k0_off6 v15 k0_t2 k0_t3) a + S1x16.size a ≤ S200x128.size a) ∧
  (∀ (k0_t2 : Fin k0_t2_loop.trips) (k0_t3 : Fin (k0_t3_loop v15 k0_t2).trips), ∀ a, (k0_off7 v15 k0_t2 k0_t3) a + S1x16.size a ≤ S200x128.size a) ∧
  (∀ (k0_t2 : Fin k0_t2_loop.trips) (k0_t3 : Fin (k0_t3_loop v15 k0_t2).trips), ∀ a, (k0_off8 v15 k0_t2 k0_t3) a + S1x16.size a ≤ S200x128.size a) ∧
  (∀ (k0_t2 : Fin k0_t2_loop.trips) (k0_t3 : Fin (k0_t3_loop v15 k0_t2).trips), ∀ a, (k0_off9 v15 k0_t2 k0_t3) a + S1x16.size a ≤ S200x128.size a) ∧
  (∀ (k0_t2 : Fin k0_t2_loop.trips) (k0_t3 : Fin (k0_t3_loop v15 k0_t2).trips), ∀ a, (k0_off10 v15 k0_t2 k0_t3) a + S1x16.size a ≤ S200x128.size a) ∧
  (∀ (k0_t2 : Fin k0_t2_loop.trips) (k0_t3 : Fin (k0_t3_loop v15 k0_t2).trips), ∀ a, (k0_off11 v15 k0_t2 k0_t3) a + S1x16.size a ≤ S200x128.size a) ∧
  (∀ (k0_t2 : Fin k0_t2_loop.trips) (k0_t3 : Fin (k0_t3_loop v15 k0_t2).trips), ∀ a, (k0_off12 v15 k0_t2 k0_t3) a + S1x16.size a ≤ S200x128.size a) ∧
  (∀ k0_t2 : Fin k0_t2_loop.trips, (k0_t4_loop v15 k0_t2).OK) ∧
  (∀ (k0_t2 : Fin k0_t2_loop.trips) (k0_t4 : Fin (k0_t4_loop v15 k0_t2).trips), ∀ a, (k0_off13 v15 k0_t2 k0_t4) a + S1x16.size a ≤ S200x128.size a) ∧
  (∀ (k0_t2 : Fin k0_t2_loop.trips) (k0_t4 : Fin (k0_t4_loop v15 k0_t2).trips), ∀ a, (k0_off14 v15 k0_t2 k0_t4) a + S1x16.size a ≤ S200x128.size a) ∧
  (∀ (k0_t2 : Fin k0_t2_loop.trips) (k0_t4 : Fin (k0_t4_loop v15 k0_t2).trips), ∀ a, (k0_off15 v15 k0_t2 k0_t4) a + S1x16.size a ≤ S200x128.size a) ∧
  (∀ (k0_t2 : Fin k0_t2_loop.trips) (k0_t4 : Fin (k0_t4_loop v15 k0_t2).trips), ∀ a, (k0_off16 v15 k0_t2 k0_t4) a + S1x16.size a ≤ S200x128.size a) ∧
  (∀ (k0_t2 : Fin k0_t2_loop.trips) (k0_t4 : Fin (k0_t4_loop v15 k0_t2).trips), ∀ a, (k0_off17 v15 k0_t2 k0_t4) a + S1x16.size a ≤ S200x128.size a) ∧
  (∀ (k0_t2 : Fin k0_t2_loop.trips) (k0_t4 : Fin (k0_t4_loop v15 k0_t2).trips), ∀ a, (k0_off18 v15 k0_t2 k0_t4) a + S1x16.size a ≤ S200x128.size a) ∧
  (∀ (k0_t2 : Fin k0_t2_loop.trips) (k0_t4 : Fin (k0_t4_loop v15 k0_t2).trips), ∀ a, (k0_off19 v15 k0_t2 k0_t4) a + S1x16.size a ≤ S200x128.size a) ∧
  (∀ (k0_t2 : Fin k0_t2_loop.trips) (k0_t4 : Fin (k0_t4_loop v15 k0_t2).trips), ∀ a, (k0_off20 v15 k0_t2 k0_t4) a + S1x16.size a ≤ S200x128.size a) ∧
  (∀ k0_t2 : Fin k0_t2_loop.trips, (k0_t19_loop v15 k0_t2).OK) ∧
  (∀ (k0_t2 : Fin k0_t2_loop.trips) (k0_t19 : Fin (k0_t19_loop v15 k0_t2).trips), ∀ a, (k0_off135 v15 k0_t2 k0_t19) a + S1x16.size a ≤ S200x128.size a) ∧
  (∀ (k0_t2 : Fin k0_t2_loop.trips) (k0_t19 : Fin (k0_t19_loop v15 k0_t2).trips), ∀ a, (k0_off136 v15 k0_t2 k0_t19) a + S1x16.size a ≤ S200x128.size a) ∧
  (∀ (k0_t2 : Fin k0_t2_loop.trips) (k0_t19 : Fin (k0_t19_loop v15 k0_t2).trips), ∀ a, (k0_off137 v15 k0_t2 k0_t19) a + S1x16.size a ≤ S200x128.size a) ∧
  (∀ (k0_t2 : Fin k0_t2_loop.trips) (k0_t19 : Fin (k0_t19_loop v15 k0_t2).trips), ∀ a, (k0_off138 v15 k0_t2 k0_t19) a + S1x16.size a ≤ S200x128.size a) ∧
  (∀ (k0_t2 : Fin k0_t2_loop.trips) (k0_t19 : Fin (k0_t19_loop v15 k0_t2).trips), ∀ a, (k0_off139 v15 k0_t2 k0_t19) a + S1x16.size a ≤ S200x128.size a) ∧
  (∀ (k0_t2 : Fin k0_t2_loop.trips) (k0_t19 : Fin (k0_t19_loop v15 k0_t2).trips), ∀ a, (k0_off140 v15 k0_t2 k0_t19) a + S1x16.size a ≤ S200x128.size a) ∧
  (∀ (k0_t2 : Fin k0_t2_loop.trips) (k0_t19 : Fin (k0_t19_loop v15 k0_t2).trips), ∀ a, (k0_off141 v15 k0_t2 k0_t19) a + S1x16.size a ≤ S200x128.size a) ∧
  (∀ (k0_t2 : Fin k0_t2_loop.trips) (k0_t19 : Fin (k0_t19_loop v15 k0_t2).trips), ∀ a, (k0_off142 v15 k0_t2 k0_t19) a + S1x16.size a ≤ S200x128.size a) ∧
  (∀ k0_t2 : Fin k0_t2_loop.trips, (k0_t20_loop v15 k0_t2).OK) ∧
  (∀ (k0_t2 : Fin k0_t2_loop.trips) (k0_t20 : Fin (k0_t20_loop v15 k0_t2).trips), ∀ a, (k0_off143 v15 k0_t2 k0_t20) a + S1x16.size a ≤ S200x128.size a) ∧
  (∀ (k0_t2 : Fin k0_t2_loop.trips) (k0_t20 : Fin (k0_t20_loop v15 k0_t2).trips), ∀ a, (k0_off144 v15 k0_t2 k0_t20) a + S1x16.size a ≤ S200x128.size a) ∧
  (∀ (k0_t2 : Fin k0_t2_loop.trips) (k0_t20 : Fin (k0_t20_loop v15 k0_t2).trips), ∀ a, (k0_off145 v15 k0_t2 k0_t20) a + S1x16.size a ≤ S200x128.size a) ∧
  (∀ (k0_t2 : Fin k0_t2_loop.trips) (k0_t20 : Fin (k0_t20_loop v15 k0_t2).trips), ∀ a, (k0_off146 v15 k0_t2 k0_t20) a + S1x16.size a ≤ S200x128.size a)
def k0_chk1_1 (v15 : BitVec 32) : Prop :=
  (∀ (k0_t2 : Fin k0_t2_loop.trips) (k0_t20 : Fin (k0_t20_loop v15 k0_t2).trips), ∀ a, (k0_off147 v15 k0_t2 k0_t20) a + S1x16.size a ≤ S200x128.size a) ∧
  (∀ (k0_t2 : Fin k0_t2_loop.trips) (k0_t20 : Fin (k0_t20_loop v15 k0_t2).trips), ∀ a, (k0_off148 v15 k0_t2 k0_t20) a + S1x16.size a ≤ S200x128.size a) ∧
  (∀ (k0_t2 : Fin k0_t2_loop.trips) (k0_t20 : Fin (k0_t20_loop v15 k0_t2).trips), ∀ a, (k0_off149 v15 k0_t2 k0_t20) a + S1x16.size a ≤ S200x128.size a) ∧
  (∀ (k0_t2 : Fin k0_t2_loop.trips) (k0_t20 : Fin (k0_t20_loop v15 k0_t2).trips), ∀ a, (k0_off150 v15 k0_t2 k0_t20) a + S1x16.size a ≤ S200x128.size a)
def k0_chk1 (v15 : BitVec 32) : Prop :=
  k0_chk1_0 v15 ∧
  k0_chk1_1 v15
theorem k0_t3_ok : ∀ (v15 : BitVec 32) (k0_hw1 : k0_chk1 v15) (k0_t2 : Fin k0_t2_loop.trips), (k0_t3_loop v15 k0_t2).OK := fun v15 k0_hw1 k0_t2 => k0_hw1.1.1 k0_t2
theorem k0_off5_inb : ∀ (v15 : BitVec 32) (k0_hw1 : k0_chk1 v15) (k0_t2 : Fin k0_t2_loop.trips) (k0_t3 : Fin (k0_t3_loop v15 k0_t2).trips), ∀ a, (k0_off5 v15 k0_t2 k0_t3) a + S1x16.size a ≤ S200x128.size a := fun v15 k0_hw1 k0_t2 k0_t3 => k0_hw1.1.2.1 k0_t2 k0_t3
theorem k0_off6_inb : ∀ (v15 : BitVec 32) (k0_hw1 : k0_chk1 v15) (k0_t2 : Fin k0_t2_loop.trips) (k0_t3 : Fin (k0_t3_loop v15 k0_t2).trips), ∀ a, (k0_off6 v15 k0_t2 k0_t3) a + S1x16.size a ≤ S200x128.size a := fun v15 k0_hw1 k0_t2 k0_t3 => k0_hw1.1.2.2.1 k0_t2 k0_t3
theorem k0_off7_inb : ∀ (v15 : BitVec 32) (k0_hw1 : k0_chk1 v15) (k0_t2 : Fin k0_t2_loop.trips) (k0_t3 : Fin (k0_t3_loop v15 k0_t2).trips), ∀ a, (k0_off7 v15 k0_t2 k0_t3) a + S1x16.size a ≤ S200x128.size a := fun v15 k0_hw1 k0_t2 k0_t3 => k0_hw1.1.2.2.2.1 k0_t2 k0_t3
theorem k0_off8_inb : ∀ (v15 : BitVec 32) (k0_hw1 : k0_chk1 v15) (k0_t2 : Fin k0_t2_loop.trips) (k0_t3 : Fin (k0_t3_loop v15 k0_t2).trips), ∀ a, (k0_off8 v15 k0_t2 k0_t3) a + S1x16.size a ≤ S200x128.size a := fun v15 k0_hw1 k0_t2 k0_t3 => k0_hw1.1.2.2.2.2.1 k0_t2 k0_t3
theorem k0_off9_inb : ∀ (v15 : BitVec 32) (k0_hw1 : k0_chk1 v15) (k0_t2 : Fin k0_t2_loop.trips) (k0_t3 : Fin (k0_t3_loop v15 k0_t2).trips), ∀ a, (k0_off9 v15 k0_t2 k0_t3) a + S1x16.size a ≤ S200x128.size a := fun v15 k0_hw1 k0_t2 k0_t3 => k0_hw1.1.2.2.2.2.2.1 k0_t2 k0_t3
theorem k0_off10_inb : ∀ (v15 : BitVec 32) (k0_hw1 : k0_chk1 v15) (k0_t2 : Fin k0_t2_loop.trips) (k0_t3 : Fin (k0_t3_loop v15 k0_t2).trips), ∀ a, (k0_off10 v15 k0_t2 k0_t3) a + S1x16.size a ≤ S200x128.size a := fun v15 k0_hw1 k0_t2 k0_t3 => k0_hw1.1.2.2.2.2.2.2.1 k0_t2 k0_t3
theorem k0_off11_inb : ∀ (v15 : BitVec 32) (k0_hw1 : k0_chk1 v15) (k0_t2 : Fin k0_t2_loop.trips) (k0_t3 : Fin (k0_t3_loop v15 k0_t2).trips), ∀ a, (k0_off11 v15 k0_t2 k0_t3) a + S1x16.size a ≤ S200x128.size a := fun v15 k0_hw1 k0_t2 k0_t3 => k0_hw1.1.2.2.2.2.2.2.2.1 k0_t2 k0_t3
theorem k0_off12_inb : ∀ (v15 : BitVec 32) (k0_hw1 : k0_chk1 v15) (k0_t2 : Fin k0_t2_loop.trips) (k0_t3 : Fin (k0_t3_loop v15 k0_t2).trips), ∀ a, (k0_off12 v15 k0_t2 k0_t3) a + S1x16.size a ≤ S200x128.size a := fun v15 k0_hw1 k0_t2 k0_t3 => k0_hw1.1.2.2.2.2.2.2.2.2.1 k0_t2 k0_t3
theorem k0_t4_ok : ∀ (v15 : BitVec 32) (k0_hw1 : k0_chk1 v15) (k0_t2 : Fin k0_t2_loop.trips), (k0_t4_loop v15 k0_t2).OK := fun v15 k0_hw1 k0_t2 => k0_hw1.1.2.2.2.2.2.2.2.2.2.1 k0_t2
theorem k0_off13_inb : ∀ (v15 : BitVec 32) (k0_hw1 : k0_chk1 v15) (k0_t2 : Fin k0_t2_loop.trips) (k0_t4 : Fin (k0_t4_loop v15 k0_t2).trips), ∀ a, (k0_off13 v15 k0_t2 k0_t4) a + S1x16.size a ≤ S200x128.size a := fun v15 k0_hw1 k0_t2 k0_t4 => k0_hw1.1.2.2.2.2.2.2.2.2.2.2.1 k0_t2 k0_t4
theorem k0_off14_inb : ∀ (v15 : BitVec 32) (k0_hw1 : k0_chk1 v15) (k0_t2 : Fin k0_t2_loop.trips) (k0_t4 : Fin (k0_t4_loop v15 k0_t2).trips), ∀ a, (k0_off14 v15 k0_t2 k0_t4) a + S1x16.size a ≤ S200x128.size a := fun v15 k0_hw1 k0_t2 k0_t4 => k0_hw1.1.2.2.2.2.2.2.2.2.2.2.2.1 k0_t2 k0_t4
theorem k0_off15_inb : ∀ (v15 : BitVec 32) (k0_hw1 : k0_chk1 v15) (k0_t2 : Fin k0_t2_loop.trips) (k0_t4 : Fin (k0_t4_loop v15 k0_t2).trips), ∀ a, (k0_off15 v15 k0_t2 k0_t4) a + S1x16.size a ≤ S200x128.size a := fun v15 k0_hw1 k0_t2 k0_t4 => k0_hw1.1.2.2.2.2.2.2.2.2.2.2.2.2.1 k0_t2 k0_t4
theorem k0_off16_inb : ∀ (v15 : BitVec 32) (k0_hw1 : k0_chk1 v15) (k0_t2 : Fin k0_t2_loop.trips) (k0_t4 : Fin (k0_t4_loop v15 k0_t2).trips), ∀ a, (k0_off16 v15 k0_t2 k0_t4) a + S1x16.size a ≤ S200x128.size a := fun v15 k0_hw1 k0_t2 k0_t4 => k0_hw1.1.2.2.2.2.2.2.2.2.2.2.2.2.2.1 k0_t2 k0_t4
theorem k0_off17_inb : ∀ (v15 : BitVec 32) (k0_hw1 : k0_chk1 v15) (k0_t2 : Fin k0_t2_loop.trips) (k0_t4 : Fin (k0_t4_loop v15 k0_t2).trips), ∀ a, (k0_off17 v15 k0_t2 k0_t4) a + S1x16.size a ≤ S200x128.size a := fun v15 k0_hw1 k0_t2 k0_t4 => k0_hw1.1.2.2.2.2.2.2.2.2.2.2.2.2.2.2.1 k0_t2 k0_t4
theorem k0_off18_inb : ∀ (v15 : BitVec 32) (k0_hw1 : k0_chk1 v15) (k0_t2 : Fin k0_t2_loop.trips) (k0_t4 : Fin (k0_t4_loop v15 k0_t2).trips), ∀ a, (k0_off18 v15 k0_t2 k0_t4) a + S1x16.size a ≤ S200x128.size a := fun v15 k0_hw1 k0_t2 k0_t4 => k0_hw1.1.2.2.2.2.2.2.2.2.2.2.2.2.2.2.2.1 k0_t2 k0_t4
theorem k0_off19_inb : ∀ (v15 : BitVec 32) (k0_hw1 : k0_chk1 v15) (k0_t2 : Fin k0_t2_loop.trips) (k0_t4 : Fin (k0_t4_loop v15 k0_t2).trips), ∀ a, (k0_off19 v15 k0_t2 k0_t4) a + S1x16.size a ≤ S200x128.size a := fun v15 k0_hw1 k0_t2 k0_t4 => k0_hw1.1.2.2.2.2.2.2.2.2.2.2.2.2.2.2.2.2.1 k0_t2 k0_t4
theorem k0_off20_inb : ∀ (v15 : BitVec 32) (k0_hw1 : k0_chk1 v15) (k0_t2 : Fin k0_t2_loop.trips) (k0_t4 : Fin (k0_t4_loop v15 k0_t2).trips), ∀ a, (k0_off20 v15 k0_t2 k0_t4) a + S1x16.size a ≤ S200x128.size a := fun v15 k0_hw1 k0_t2 k0_t4 => k0_hw1.1.2.2.2.2.2.2.2.2.2.2.2.2.2.2.2.2.2.1 k0_t2 k0_t4
theorem k0_t19_ok : ∀ (v15 : BitVec 32) (k0_hw1 : k0_chk1 v15) (k0_t2 : Fin k0_t2_loop.trips), (k0_t19_loop v15 k0_t2).OK := fun v15 k0_hw1 k0_t2 => k0_hw1.1.2.2.2.2.2.2.2.2.2.2.2.2.2.2.2.2.2.2.1 k0_t2
theorem k0_off135_inb : ∀ (v15 : BitVec 32) (k0_hw1 : k0_chk1 v15) (k0_t2 : Fin k0_t2_loop.trips) (k0_t19 : Fin (k0_t19_loop v15 k0_t2).trips), ∀ a, (k0_off135 v15 k0_t2 k0_t19) a + S1x16.size a ≤ S200x128.size a := fun v15 k0_hw1 k0_t2 k0_t19 => k0_hw1.1.2.2.2.2.2.2.2.2.2.2.2.2.2.2.2.2.2.2.2.1 k0_t2 k0_t19
theorem k0_off136_inb : ∀ (v15 : BitVec 32) (k0_hw1 : k0_chk1 v15) (k0_t2 : Fin k0_t2_loop.trips) (k0_t19 : Fin (k0_t19_loop v15 k0_t2).trips), ∀ a, (k0_off136 v15 k0_t2 k0_t19) a + S1x16.size a ≤ S200x128.size a := fun v15 k0_hw1 k0_t2 k0_t19 => k0_hw1.1.2.2.2.2.2.2.2.2.2.2.2.2.2.2.2.2.2.2.2.2.1 k0_t2 k0_t19
theorem k0_off137_inb : ∀ (v15 : BitVec 32) (k0_hw1 : k0_chk1 v15) (k0_t2 : Fin k0_t2_loop.trips) (k0_t19 : Fin (k0_t19_loop v15 k0_t2).trips), ∀ a, (k0_off137 v15 k0_t2 k0_t19) a + S1x16.size a ≤ S200x128.size a := fun v15 k0_hw1 k0_t2 k0_t19 => k0_hw1.1.2.2.2.2.2.2.2.2.2.2.2.2.2.2.2.2.2.2.2.2.2.1 k0_t2 k0_t19
theorem k0_off138_inb : ∀ (v15 : BitVec 32) (k0_hw1 : k0_chk1 v15) (k0_t2 : Fin k0_t2_loop.trips) (k0_t19 : Fin (k0_t19_loop v15 k0_t2).trips), ∀ a, (k0_off138 v15 k0_t2 k0_t19) a + S1x16.size a ≤ S200x128.size a := fun v15 k0_hw1 k0_t2 k0_t19 => k0_hw1.1.2.2.2.2.2.2.2.2.2.2.2.2.2.2.2.2.2.2.2.2.2.2.1 k0_t2 k0_t19
theorem k0_off139_inb : ∀ (v15 : BitVec 32) (k0_hw1 : k0_chk1 v15) (k0_t2 : Fin k0_t2_loop.trips) (k0_t19 : Fin (k0_t19_loop v15 k0_t2).trips), ∀ a, (k0_off139 v15 k0_t2 k0_t19) a + S1x16.size a ≤ S200x128.size a := fun v15 k0_hw1 k0_t2 k0_t19 => k0_hw1.1.2.2.2.2.2.2.2.2.2.2.2.2.2.2.2.2.2.2.2.2.2.2.2.1 k0_t2 k0_t19
theorem k0_off140_inb : ∀ (v15 : BitVec 32) (k0_hw1 : k0_chk1 v15) (k0_t2 : Fin k0_t2_loop.trips) (k0_t19 : Fin (k0_t19_loop v15 k0_t2).trips), ∀ a, (k0_off140 v15 k0_t2 k0_t19) a + S1x16.size a ≤ S200x128.size a := fun v15 k0_hw1 k0_t2 k0_t19 => k0_hw1.1.2.2.2.2.2.2.2.2.2.2.2.2.2.2.2.2.2.2.2.2.2.2.2.2.1 k0_t2 k0_t19
theorem k0_off141_inb : ∀ (v15 : BitVec 32) (k0_hw1 : k0_chk1 v15) (k0_t2 : Fin k0_t2_loop.trips) (k0_t19 : Fin (k0_t19_loop v15 k0_t2).trips), ∀ a, (k0_off141 v15 k0_t2 k0_t19) a + S1x16.size a ≤ S200x128.size a := fun v15 k0_hw1 k0_t2 k0_t19 => k0_hw1.1.2.2.2.2.2.2.2.2.2.2.2.2.2.2.2.2.2.2.2.2.2.2.2.2.2.1 k0_t2 k0_t19
theorem k0_off142_inb : ∀ (v15 : BitVec 32) (k0_hw1 : k0_chk1 v15) (k0_t2 : Fin k0_t2_loop.trips) (k0_t19 : Fin (k0_t19_loop v15 k0_t2).trips), ∀ a, (k0_off142 v15 k0_t2 k0_t19) a + S1x16.size a ≤ S200x128.size a := fun v15 k0_hw1 k0_t2 k0_t19 => k0_hw1.1.2.2.2.2.2.2.2.2.2.2.2.2.2.2.2.2.2.2.2.2.2.2.2.2.2.2.1 k0_t2 k0_t19
theorem k0_t20_ok : ∀ (v15 : BitVec 32) (k0_hw1 : k0_chk1 v15) (k0_t2 : Fin k0_t2_loop.trips), (k0_t20_loop v15 k0_t2).OK := fun v15 k0_hw1 k0_t2 => k0_hw1.1.2.2.2.2.2.2.2.2.2.2.2.2.2.2.2.2.2.2.2.2.2.2.2.2.2.2.2.1 k0_t2
theorem k0_off143_inb : ∀ (v15 : BitVec 32) (k0_hw1 : k0_chk1 v15) (k0_t2 : Fin k0_t2_loop.trips) (k0_t20 : Fin (k0_t20_loop v15 k0_t2).trips), ∀ a, (k0_off143 v15 k0_t2 k0_t20) a + S1x16.size a ≤ S200x128.size a := fun v15 k0_hw1 k0_t2 k0_t20 => k0_hw1.1.2.2.2.2.2.2.2.2.2.2.2.2.2.2.2.2.2.2.2.2.2.2.2.2.2.2.2.2.1 k0_t2 k0_t20
theorem k0_off144_inb : ∀ (v15 : BitVec 32) (k0_hw1 : k0_chk1 v15) (k0_t2 : Fin k0_t2_loop.trips) (k0_t20 : Fin (k0_t20_loop v15 k0_t2).trips), ∀ a, (k0_off144 v15 k0_t2 k0_t20) a + S1x16.size a ≤ S200x128.size a := fun v15 k0_hw1 k0_t2 k0_t20 => k0_hw1.1.2.2.2.2.2.2.2.2.2.2.2.2.2.2.2.2.2.2.2.2.2.2.2.2.2.2.2.2.2.1 k0_t2 k0_t20
theorem k0_off145_inb : ∀ (v15 : BitVec 32) (k0_hw1 : k0_chk1 v15) (k0_t2 : Fin k0_t2_loop.trips) (k0_t20 : Fin (k0_t20_loop v15 k0_t2).trips), ∀ a, (k0_off145 v15 k0_t2 k0_t20) a + S1x16.size a ≤ S200x128.size a := fun v15 k0_hw1 k0_t2 k0_t20 => k0_hw1.1.2.2.2.2.2.2.2.2.2.2.2.2.2.2.2.2.2.2.2.2.2.2.2.2.2.2.2.2.2.2.1 k0_t2 k0_t20
theorem k0_off146_inb : ∀ (v15 : BitVec 32) (k0_hw1 : k0_chk1 v15) (k0_t2 : Fin k0_t2_loop.trips) (k0_t20 : Fin (k0_t20_loop v15 k0_t2).trips), ∀ a, (k0_off146 v15 k0_t2 k0_t20) a + S1x16.size a ≤ S200x128.size a := fun v15 k0_hw1 k0_t2 k0_t20 => k0_hw1.1.2.2.2.2.2.2.2.2.2.2.2.2.2.2.2.2.2.2.2.2.2.2.2.2.2.2.2.2.2.2.2 k0_t2 k0_t20
theorem k0_off147_inb : ∀ (v15 : BitVec 32) (k0_hw1 : k0_chk1 v15) (k0_t2 : Fin k0_t2_loop.trips) (k0_t20 : Fin (k0_t20_loop v15 k0_t2).trips), ∀ a, (k0_off147 v15 k0_t2 k0_t20) a + S1x16.size a ≤ S200x128.size a := fun v15 k0_hw1 k0_t2 k0_t20 => k0_hw1.2.1 k0_t2 k0_t20
theorem k0_off148_inb : ∀ (v15 : BitVec 32) (k0_hw1 : k0_chk1 v15) (k0_t2 : Fin k0_t2_loop.trips) (k0_t20 : Fin (k0_t20_loop v15 k0_t2).trips), ∀ a, (k0_off148 v15 k0_t2 k0_t20) a + S1x16.size a ≤ S200x128.size a := fun v15 k0_hw1 k0_t2 k0_t20 => k0_hw1.2.2.1 k0_t2 k0_t20
theorem k0_off149_inb : ∀ (v15 : BitVec 32) (k0_hw1 : k0_chk1 v15) (k0_t2 : Fin k0_t2_loop.trips) (k0_t20 : Fin (k0_t20_loop v15 k0_t2).trips), ∀ a, (k0_off149 v15 k0_t2 k0_t20) a + S1x16.size a ≤ S200x128.size a := fun v15 k0_hw1 k0_t2 k0_t20 => k0_hw1.2.2.2.1 k0_t2 k0_t20
theorem k0_off150_inb : ∀ (v15 : BitVec 32) (k0_hw1 : k0_chk1 v15) (k0_t2 : Fin k0_t2_loop.trips) (k0_t20 : Fin (k0_t20_loop v15 k0_t2).trips), ∀ a, (k0_off150 v15 k0_t2 k0_t20) a + S1x16.size a ≤ S200x128.size a := fun v15 k0_hw1 k0_t2 k0_t20 => k0_hw1.2.2.2.2 k0_t2 k0_t20

@[reducible] def k0_t21_loop (v15 : BitVec 32) (v18 : BitVec 32) (k0_t2 : Fin k0_t2_loop.trips) : Scf.Loop 32 :=
  let c200_i32_389 : BitVec 32 := 200#32
  let c0_i32_388 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v513 : BitVec 32 := Scalar.subi v15 v496
  let v514 : BitVec 32 := Scalar.maxsi c0_i32_388 v513
  let v515 : BitVec 32 := Scalar.minsi c200_i32_389 v514
  let c200_i32_390 : BitVec 32 := 200#32
  let v516 : BitVec 32 := Scalar.subi v18 v496
  let v517 : BitVec 32 := Scalar.maxsi v515 v516
  let v518 : BitVec 32 := Scalar.minsi c200_i32_390 v517
  let v519 : BitVec 32 := Scalar.subi v518 v515
  let c1_i32_392 : BitVec 32 := 1#32
  let v521 : BitVec 32 := Scalar.divsi v519 c1_i32_392
  let v522 : BitVec 32 := Scalar.muli v521 c1_i32_392
  let v523 : BitVec 32 := Scalar.addi v515 v522
  let c1_i32_393 : BitVec 32 := 1#32
  ⟨v515, v523, c1_i32_393⟩
def k0_off151 (v15 : BitVec 32) (v18 : BitVec 32) (k0_t2 : Fin k0_t2_loop.trips) (k0_t21 : Fin (k0_t21_loop v15 v18 k0_t2).trips) : Fin 2 → Nat :=
  let c200_i32_389 : BitVec 32 := 200#32
  let c0_i32_388 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v513 : BitVec 32 := Scalar.subi v15 v496
  let v514 : BitVec 32 := Scalar.maxsi c0_i32_388 v513
  let v515 : BitVec 32 := Scalar.minsi c200_i32_389 v514
  let c1_i32_393 : BitVec 32 := 1#32
  let arg16 : BitVec 32 := Scf.iv v515 c1_i32_393 k0_t21
  let v630 : Index := Scalar.indexCast arg16
  let c0_449 : Index := 0#32
  ![v630.toNat, 0]
def k0_off152 (v15 : BitVec 32) (v18 : BitVec 32) (k0_t2 : Fin k0_t2_loop.trips) (k0_t21 : Fin (k0_t21_loop v15 v18 k0_t2).trips) : Fin 2 → Nat :=
  let c200_i32_389 : BitVec 32 := 200#32
  let c0_i32_388 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v513 : BitVec 32 := Scalar.subi v15 v496
  let v514 : BitVec 32 := Scalar.maxsi c0_i32_388 v513
  let v515 : BitVec 32 := Scalar.minsi c200_i32_389 v514
  let c1_i32_393 : BitVec 32 := 1#32
  let arg16 : BitVec 32 := Scf.iv v515 c1_i32_393 k0_t21
  let v637 : Index := Scalar.indexCast arg16
  let c16_452 : Index := 16#32
  ![v637.toNat, 16]
def k0_off153 (v15 : BitVec 32) (v18 : BitVec 32) (k0_t2 : Fin k0_t2_loop.trips) (k0_t21 : Fin (k0_t21_loop v15 v18 k0_t2).trips) : Fin 2 → Nat :=
  let c200_i32_389 : BitVec 32 := 200#32
  let c0_i32_388 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v513 : BitVec 32 := Scalar.subi v15 v496
  let v514 : BitVec 32 := Scalar.maxsi c0_i32_388 v513
  let v515 : BitVec 32 := Scalar.minsi c200_i32_389 v514
  let c1_i32_393 : BitVec 32 := 1#32
  let arg16 : BitVec 32 := Scf.iv v515 c1_i32_393 k0_t21
  let v644 : Index := Scalar.indexCast arg16
  let c32_455 : Index := 32#32
  ![v644.toNat, 32]
def k0_off154 (v15 : BitVec 32) (v18 : BitVec 32) (k0_t2 : Fin k0_t2_loop.trips) (k0_t21 : Fin (k0_t21_loop v15 v18 k0_t2).trips) : Fin 2 → Nat :=
  let c200_i32_389 : BitVec 32 := 200#32
  let c0_i32_388 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v513 : BitVec 32 := Scalar.subi v15 v496
  let v514 : BitVec 32 := Scalar.maxsi c0_i32_388 v513
  let v515 : BitVec 32 := Scalar.minsi c200_i32_389 v514
  let c1_i32_393 : BitVec 32 := 1#32
  let arg16 : BitVec 32 := Scf.iv v515 c1_i32_393 k0_t21
  let v651 : Index := Scalar.indexCast arg16
  let c48_458 : Index := 48#32
  ![v651.toNat, 48]
def k0_off155 (v15 : BitVec 32) (v18 : BitVec 32) (k0_t2 : Fin k0_t2_loop.trips) (k0_t21 : Fin (k0_t21_loop v15 v18 k0_t2).trips) : Fin 2 → Nat :=
  let c200_i32_389 : BitVec 32 := 200#32
  let c0_i32_388 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v513 : BitVec 32 := Scalar.subi v15 v496
  let v514 : BitVec 32 := Scalar.maxsi c0_i32_388 v513
  let v515 : BitVec 32 := Scalar.minsi c200_i32_389 v514
  let c1_i32_393 : BitVec 32 := 1#32
  let arg16 : BitVec 32 := Scf.iv v515 c1_i32_393 k0_t21
  let v658 : Index := Scalar.indexCast arg16
  let c64_461 : Index := 64#32
  ![v658.toNat, 64]
def k0_off156 (v15 : BitVec 32) (v18 : BitVec 32) (k0_t2 : Fin k0_t2_loop.trips) (k0_t21 : Fin (k0_t21_loop v15 v18 k0_t2).trips) : Fin 2 → Nat :=
  let c200_i32_389 : BitVec 32 := 200#32
  let c0_i32_388 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v513 : BitVec 32 := Scalar.subi v15 v496
  let v514 : BitVec 32 := Scalar.maxsi c0_i32_388 v513
  let v515 : BitVec 32 := Scalar.minsi c200_i32_389 v514
  let c1_i32_393 : BitVec 32 := 1#32
  let arg16 : BitVec 32 := Scf.iv v515 c1_i32_393 k0_t21
  let v665 : Index := Scalar.indexCast arg16
  let c80_464 : Index := 80#32
  ![v665.toNat, 80]
def k0_off157 (v15 : BitVec 32) (v18 : BitVec 32) (k0_t2 : Fin k0_t2_loop.trips) (k0_t21 : Fin (k0_t21_loop v15 v18 k0_t2).trips) : Fin 2 → Nat :=
  let c200_i32_389 : BitVec 32 := 200#32
  let c0_i32_388 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v513 : BitVec 32 := Scalar.subi v15 v496
  let v514 : BitVec 32 := Scalar.maxsi c0_i32_388 v513
  let v515 : BitVec 32 := Scalar.minsi c200_i32_389 v514
  let c1_i32_393 : BitVec 32 := 1#32
  let arg16 : BitVec 32 := Scf.iv v515 c1_i32_393 k0_t21
  let v672 : Index := Scalar.indexCast arg16
  let c96_467 : Index := 96#32
  ![v672.toNat, 96]
def k0_off158 (v15 : BitVec 32) (v18 : BitVec 32) (k0_t2 : Fin k0_t2_loop.trips) (k0_t21 : Fin (k0_t21_loop v15 v18 k0_t2).trips) : Fin 2 → Nat :=
  let c200_i32_389 : BitVec 32 := 200#32
  let c0_i32_388 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v513 : BitVec 32 := Scalar.subi v15 v496
  let v514 : BitVec 32 := Scalar.maxsi c0_i32_388 v513
  let v515 : BitVec 32 := Scalar.minsi c200_i32_389 v514
  let c1_i32_393 : BitVec 32 := 1#32
  let arg16 : BitVec 32 := Scf.iv v515 c1_i32_393 k0_t21
  let v679 : Index := Scalar.indexCast arg16
  let c112_470 : Index := 112#32
  ![v679.toNat, 112]
@[reducible] def k0_t22_loop (v15 : BitVec 32) (v18 : BitVec 32) (k0_t2 : Fin k0_t2_loop.trips) : Scf.Loop 32 :=
  let c200_i32_389 : BitVec 32 := 200#32
  let c0_i32_388 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v513 : BitVec 32 := Scalar.subi v15 v496
  let v514 : BitVec 32 := Scalar.maxsi c0_i32_388 v513
  let v515 : BitVec 32 := Scalar.minsi c200_i32_389 v514
  let c200_i32_390 : BitVec 32 := 200#32
  let v516 : BitVec 32 := Scalar.subi v18 v496
  let v517 : BitVec 32 := Scalar.maxsi v515 v516
  let v518 : BitVec 32 := Scalar.minsi c200_i32_390 v517
  let v519 : BitVec 32 := Scalar.subi v518 v515
  let c1_i32_392 : BitVec 32 := 1#32
  let v521 : BitVec 32 := Scalar.divsi v519 c1_i32_392
  let v522 : BitVec 32 := Scalar.muli v521 c1_i32_392
  let v523 : BitVec 32 := Scalar.addi v515 v522
  let v520 : BitVec 32 := Scalar.addi v515 v519
  let c1_i32_394 : BitVec 32 := 1#32
  ⟨v523, v520, c1_i32_394⟩
def k0_off159 (v15 : BitVec 32) (v18 : BitVec 32) (k0_t2 : Fin k0_t2_loop.trips) (k0_t22 : Fin (k0_t22_loop v15 v18 k0_t2).trips) : Fin 2 → Nat :=
  let c200_i32_389 : BitVec 32 := 200#32
  let c0_i32_388 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v513 : BitVec 32 := Scalar.subi v15 v496
  let v514 : BitVec 32 := Scalar.maxsi c0_i32_388 v513
  let v515 : BitVec 32 := Scalar.minsi c200_i32_389 v514
  let c200_i32_390 : BitVec 32 := 200#32
  let v516 : BitVec 32 := Scalar.subi v18 v496
  let v517 : BitVec 32 := Scalar.maxsi v515 v516
  let v518 : BitVec 32 := Scalar.minsi c200_i32_390 v517
  let v519 : BitVec 32 := Scalar.subi v518 v515
  let c1_i32_392 : BitVec 32 := 1#32
  let v521 : BitVec 32 := Scalar.divsi v519 c1_i32_392
  let v522 : BitVec 32 := Scalar.muli v521 c1_i32_392
  let v523 : BitVec 32 := Scalar.addi v515 v522
  let c1_i32_394 : BitVec 32 := 1#32
  let arg16 : BitVec 32 := Scf.iv v523 c1_i32_394 k0_t22
  let v630 : Index := Scalar.indexCast arg16
  let c0_449 : Index := 0#32
  ![v630.toNat, 0]
def k0_off160 (v15 : BitVec 32) (v18 : BitVec 32) (k0_t2 : Fin k0_t2_loop.trips) (k0_t22 : Fin (k0_t22_loop v15 v18 k0_t2).trips) : Fin 2 → Nat :=
  let c200_i32_389 : BitVec 32 := 200#32
  let c0_i32_388 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v513 : BitVec 32 := Scalar.subi v15 v496
  let v514 : BitVec 32 := Scalar.maxsi c0_i32_388 v513
  let v515 : BitVec 32 := Scalar.minsi c200_i32_389 v514
  let c200_i32_390 : BitVec 32 := 200#32
  let v516 : BitVec 32 := Scalar.subi v18 v496
  let v517 : BitVec 32 := Scalar.maxsi v515 v516
  let v518 : BitVec 32 := Scalar.minsi c200_i32_390 v517
  let v519 : BitVec 32 := Scalar.subi v518 v515
  let c1_i32_392 : BitVec 32 := 1#32
  let v521 : BitVec 32 := Scalar.divsi v519 c1_i32_392
  let v522 : BitVec 32 := Scalar.muli v521 c1_i32_392
  let v523 : BitVec 32 := Scalar.addi v515 v522
  let c1_i32_394 : BitVec 32 := 1#32
  let arg16 : BitVec 32 := Scf.iv v523 c1_i32_394 k0_t22
  let v637 : Index := Scalar.indexCast arg16
  let c16_452 : Index := 16#32
  ![v637.toNat, 16]
def k0_off161 (v15 : BitVec 32) (v18 : BitVec 32) (k0_t2 : Fin k0_t2_loop.trips) (k0_t22 : Fin (k0_t22_loop v15 v18 k0_t2).trips) : Fin 2 → Nat :=
  let c200_i32_389 : BitVec 32 := 200#32
  let c0_i32_388 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v513 : BitVec 32 := Scalar.subi v15 v496
  let v514 : BitVec 32 := Scalar.maxsi c0_i32_388 v513
  let v515 : BitVec 32 := Scalar.minsi c200_i32_389 v514
  let c200_i32_390 : BitVec 32 := 200#32
  let v516 : BitVec 32 := Scalar.subi v18 v496
  let v517 : BitVec 32 := Scalar.maxsi v515 v516
  let v518 : BitVec 32 := Scalar.minsi c200_i32_390 v517
  let v519 : BitVec 32 := Scalar.subi v518 v515
  let c1_i32_392 : BitVec 32 := 1#32
  let v521 : BitVec 32 := Scalar.divsi v519 c1_i32_392
  let v522 : BitVec 32 := Scalar.muli v521 c1_i32_392
  let v523 : BitVec 32 := Scalar.addi v515 v522
  let c1_i32_394 : BitVec 32 := 1#32
  let arg16 : BitVec 32 := Scf.iv v523 c1_i32_394 k0_t22
  let v644 : Index := Scalar.indexCast arg16
  let c32_455 : Index := 32#32
  ![v644.toNat, 32]
def k0_off162 (v15 : BitVec 32) (v18 : BitVec 32) (k0_t2 : Fin k0_t2_loop.trips) (k0_t22 : Fin (k0_t22_loop v15 v18 k0_t2).trips) : Fin 2 → Nat :=
  let c200_i32_389 : BitVec 32 := 200#32
  let c0_i32_388 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v513 : BitVec 32 := Scalar.subi v15 v496
  let v514 : BitVec 32 := Scalar.maxsi c0_i32_388 v513
  let v515 : BitVec 32 := Scalar.minsi c200_i32_389 v514
  let c200_i32_390 : BitVec 32 := 200#32
  let v516 : BitVec 32 := Scalar.subi v18 v496
  let v517 : BitVec 32 := Scalar.maxsi v515 v516
  let v518 : BitVec 32 := Scalar.minsi c200_i32_390 v517
  let v519 : BitVec 32 := Scalar.subi v518 v515
  let c1_i32_392 : BitVec 32 := 1#32
  let v521 : BitVec 32 := Scalar.divsi v519 c1_i32_392
  let v522 : BitVec 32 := Scalar.muli v521 c1_i32_392
  let v523 : BitVec 32 := Scalar.addi v515 v522
  let c1_i32_394 : BitVec 32 := 1#32
  let arg16 : BitVec 32 := Scf.iv v523 c1_i32_394 k0_t22
  let v651 : Index := Scalar.indexCast arg16
  let c48_458 : Index := 48#32
  ![v651.toNat, 48]
def k0_off163 (v15 : BitVec 32) (v18 : BitVec 32) (k0_t2 : Fin k0_t2_loop.trips) (k0_t22 : Fin (k0_t22_loop v15 v18 k0_t2).trips) : Fin 2 → Nat :=
  let c200_i32_389 : BitVec 32 := 200#32
  let c0_i32_388 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v513 : BitVec 32 := Scalar.subi v15 v496
  let v514 : BitVec 32 := Scalar.maxsi c0_i32_388 v513
  let v515 : BitVec 32 := Scalar.minsi c200_i32_389 v514
  let c200_i32_390 : BitVec 32 := 200#32
  let v516 : BitVec 32 := Scalar.subi v18 v496
  let v517 : BitVec 32 := Scalar.maxsi v515 v516
  let v518 : BitVec 32 := Scalar.minsi c200_i32_390 v517
  let v519 : BitVec 32 := Scalar.subi v518 v515
  let c1_i32_392 : BitVec 32 := 1#32
  let v521 : BitVec 32 := Scalar.divsi v519 c1_i32_392
  let v522 : BitVec 32 := Scalar.muli v521 c1_i32_392
  let v523 : BitVec 32 := Scalar.addi v515 v522
  let c1_i32_394 : BitVec 32 := 1#32
  let arg16 : BitVec 32 := Scf.iv v523 c1_i32_394 k0_t22
  let v658 : Index := Scalar.indexCast arg16
  let c64_461 : Index := 64#32
  ![v658.toNat, 64]
def k0_off164 (v15 : BitVec 32) (v18 : BitVec 32) (k0_t2 : Fin k0_t2_loop.trips) (k0_t22 : Fin (k0_t22_loop v15 v18 k0_t2).trips) : Fin 2 → Nat :=
  let c200_i32_389 : BitVec 32 := 200#32
  let c0_i32_388 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v513 : BitVec 32 := Scalar.subi v15 v496
  let v514 : BitVec 32 := Scalar.maxsi c0_i32_388 v513
  let v515 : BitVec 32 := Scalar.minsi c200_i32_389 v514
  let c200_i32_390 : BitVec 32 := 200#32
  let v516 : BitVec 32 := Scalar.subi v18 v496
  let v517 : BitVec 32 := Scalar.maxsi v515 v516
  let v518 : BitVec 32 := Scalar.minsi c200_i32_390 v517
  let v519 : BitVec 32 := Scalar.subi v518 v515
  let c1_i32_392 : BitVec 32 := 1#32
  let v521 : BitVec 32 := Scalar.divsi v519 c1_i32_392
  let v522 : BitVec 32 := Scalar.muli v521 c1_i32_392
  let v523 : BitVec 32 := Scalar.addi v515 v522
  let c1_i32_394 : BitVec 32 := 1#32
  let arg16 : BitVec 32 := Scf.iv v523 c1_i32_394 k0_t22
  let v665 : Index := Scalar.indexCast arg16
  let c80_464 : Index := 80#32
  ![v665.toNat, 80]
def k0_off165 (v15 : BitVec 32) (v18 : BitVec 32) (k0_t2 : Fin k0_t2_loop.trips) (k0_t22 : Fin (k0_t22_loop v15 v18 k0_t2).trips) : Fin 2 → Nat :=
  let c200_i32_389 : BitVec 32 := 200#32
  let c0_i32_388 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v513 : BitVec 32 := Scalar.subi v15 v496
  let v514 : BitVec 32 := Scalar.maxsi c0_i32_388 v513
  let v515 : BitVec 32 := Scalar.minsi c200_i32_389 v514
  let c200_i32_390 : BitVec 32 := 200#32
  let v516 : BitVec 32 := Scalar.subi v18 v496
  let v517 : BitVec 32 := Scalar.maxsi v515 v516
  let v518 : BitVec 32 := Scalar.minsi c200_i32_390 v517
  let v519 : BitVec 32 := Scalar.subi v518 v515
  let c1_i32_392 : BitVec 32 := 1#32
  let v521 : BitVec 32 := Scalar.divsi v519 c1_i32_392
  let v522 : BitVec 32 := Scalar.muli v521 c1_i32_392
  let v523 : BitVec 32 := Scalar.addi v515 v522
  let c1_i32_394 : BitVec 32 := 1#32
  let arg16 : BitVec 32 := Scf.iv v523 c1_i32_394 k0_t22
  let v672 : Index := Scalar.indexCast arg16
  let c96_467 : Index := 96#32
  ![v672.toNat, 96]
def k0_off166 (v15 : BitVec 32) (v18 : BitVec 32) (k0_t2 : Fin k0_t2_loop.trips) (k0_t22 : Fin (k0_t22_loop v15 v18 k0_t2).trips) : Fin 2 → Nat :=
  let c200_i32_389 : BitVec 32 := 200#32
  let c0_i32_388 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v513 : BitVec 32 := Scalar.subi v15 v496
  let v514 : BitVec 32 := Scalar.maxsi c0_i32_388 v513
  let v515 : BitVec 32 := Scalar.minsi c200_i32_389 v514
  let c200_i32_390 : BitVec 32 := 200#32
  let v516 : BitVec 32 := Scalar.subi v18 v496
  let v517 : BitVec 32 := Scalar.maxsi v515 v516
  let v518 : BitVec 32 := Scalar.minsi c200_i32_390 v517
  let v519 : BitVec 32 := Scalar.subi v518 v515
  let c1_i32_392 : BitVec 32 := 1#32
  let v521 : BitVec 32 := Scalar.divsi v519 c1_i32_392
  let v522 : BitVec 32 := Scalar.muli v521 c1_i32_392
  let v523 : BitVec 32 := Scalar.addi v515 v522
  let c1_i32_394 : BitVec 32 := 1#32
  let arg16 : BitVec 32 := Scf.iv v523 c1_i32_394 k0_t22
  let v679 : Index := Scalar.indexCast arg16
  let c112_470 : Index := 112#32
  ![v679.toNat, 112]

def k0_chk2_0 (v15 : BitVec 32) (v18 : BitVec 32) : Prop :=
  (∀ k0_t2 : Fin k0_t2_loop.trips, (k0_t5_loop v15 v18 k0_t2).OK) ∧
  (∀ (k0_t2 : Fin k0_t2_loop.trips) (k0_t5 : Fin (k0_t5_loop v15 v18 k0_t2).trips), ∀ a, (k0_off21 v15 v18 k0_t2 k0_t5) a + S1x16.size a ≤ S200x128.size a) ∧
  (∀ (k0_t2 : Fin k0_t2_loop.trips) (k0_t5 : Fin (k0_t5_loop v15 v18 k0_t2).trips), ∀ a, (k0_off22 v15 v18 k0_t2 k0_t5) a + S1x16.size a ≤ S200x128.size a) ∧
  (∀ (k0_t2 : Fin k0_t2_loop.trips) (k0_t5 : Fin (k0_t5_loop v15 v18 k0_t2).trips), ∀ a, (k0_off23 v15 v18 k0_t2 k0_t5) a + S1x16.size a ≤ S200x128.size a) ∧
  (∀ (k0_t2 : Fin k0_t2_loop.trips) (k0_t5 : Fin (k0_t5_loop v15 v18 k0_t2).trips), ∀ a, (k0_off24 v15 v18 k0_t2 k0_t5) a + S1x16.size a ≤ S200x128.size a) ∧
  (∀ (k0_t2 : Fin k0_t2_loop.trips) (k0_t5 : Fin (k0_t5_loop v15 v18 k0_t2).trips), ∀ a, (k0_off25 v15 v18 k0_t2 k0_t5) a + S1x16.size a ≤ S200x128.size a) ∧
  (∀ (k0_t2 : Fin k0_t2_loop.trips) (k0_t5 : Fin (k0_t5_loop v15 v18 k0_t2).trips), ∀ a, (k0_off26 v15 v18 k0_t2 k0_t5) a + S1x16.size a ≤ S200x128.size a) ∧
  (∀ (k0_t2 : Fin k0_t2_loop.trips) (k0_t5 : Fin (k0_t5_loop v15 v18 k0_t2).trips), ∀ a, (k0_off27 v15 v18 k0_t2 k0_t5) a + S1x16.size a ≤ S200x128.size a) ∧
  (∀ (k0_t2 : Fin k0_t2_loop.trips) (k0_t5 : Fin (k0_t5_loop v15 v18 k0_t2).trips), ∀ a, (k0_off28 v15 v18 k0_t2 k0_t5) a + S1x16.size a ≤ S200x128.size a) ∧
  (∀ k0_t2 : Fin k0_t2_loop.trips, (k0_t6_loop v15 v18 k0_t2).OK) ∧
  (∀ (k0_t2 : Fin k0_t2_loop.trips) (k0_t6 : Fin (k0_t6_loop v15 v18 k0_t2).trips), ∀ a, (k0_off29 v15 v18 k0_t2 k0_t6) a + S1x16.size a ≤ S200x128.size a) ∧
  (∀ (k0_t2 : Fin k0_t2_loop.trips) (k0_t6 : Fin (k0_t6_loop v15 v18 k0_t2).trips), ∀ a, (k0_off30 v15 v18 k0_t2 k0_t6) a + S1x16.size a ≤ S200x128.size a) ∧
  (∀ (k0_t2 : Fin k0_t2_loop.trips) (k0_t6 : Fin (k0_t6_loop v15 v18 k0_t2).trips), ∀ a, (k0_off31 v15 v18 k0_t2 k0_t6) a + S1x16.size a ≤ S200x128.size a) ∧
  (∀ (k0_t2 : Fin k0_t2_loop.trips) (k0_t6 : Fin (k0_t6_loop v15 v18 k0_t2).trips), ∀ a, (k0_off32 v15 v18 k0_t2 k0_t6) a + S1x16.size a ≤ S200x128.size a) ∧
  (∀ (k0_t2 : Fin k0_t2_loop.trips) (k0_t6 : Fin (k0_t6_loop v15 v18 k0_t2).trips), ∀ a, (k0_off33 v15 v18 k0_t2 k0_t6) a + S1x16.size a ≤ S200x128.size a) ∧
  (∀ (k0_t2 : Fin k0_t2_loop.trips) (k0_t6 : Fin (k0_t6_loop v15 v18 k0_t2).trips), ∀ a, (k0_off34 v15 v18 k0_t2 k0_t6) a + S1x16.size a ≤ S200x128.size a) ∧
  (∀ (k0_t2 : Fin k0_t2_loop.trips) (k0_t6 : Fin (k0_t6_loop v15 v18 k0_t2).trips), ∀ a, (k0_off35 v15 v18 k0_t2 k0_t6) a + S1x16.size a ≤ S200x128.size a) ∧
  (∀ (k0_t2 : Fin k0_t2_loop.trips) (k0_t6 : Fin (k0_t6_loop v15 v18 k0_t2).trips), ∀ a, (k0_off36 v15 v18 k0_t2 k0_t6) a + S1x16.size a ≤ S200x128.size a) ∧
  (∀ k0_t2 : Fin k0_t2_loop.trips, (k0_t21_loop v15 v18 k0_t2).OK) ∧
  (∀ (k0_t2 : Fin k0_t2_loop.trips) (k0_t21 : Fin (k0_t21_loop v15 v18 k0_t2).trips), ∀ a, (k0_off151 v15 v18 k0_t2 k0_t21) a + S1x16.size a ≤ S200x128.size a) ∧
  (∀ (k0_t2 : Fin k0_t2_loop.trips) (k0_t21 : Fin (k0_t21_loop v15 v18 k0_t2).trips), ∀ a, (k0_off152 v15 v18 k0_t2 k0_t21) a + S1x16.size a ≤ S200x128.size a) ∧
  (∀ (k0_t2 : Fin k0_t2_loop.trips) (k0_t21 : Fin (k0_t21_loop v15 v18 k0_t2).trips), ∀ a, (k0_off153 v15 v18 k0_t2 k0_t21) a + S1x16.size a ≤ S200x128.size a) ∧
  (∀ (k0_t2 : Fin k0_t2_loop.trips) (k0_t21 : Fin (k0_t21_loop v15 v18 k0_t2).trips), ∀ a, (k0_off154 v15 v18 k0_t2 k0_t21) a + S1x16.size a ≤ S200x128.size a) ∧
  (∀ (k0_t2 : Fin k0_t2_loop.trips) (k0_t21 : Fin (k0_t21_loop v15 v18 k0_t2).trips), ∀ a, (k0_off155 v15 v18 k0_t2 k0_t21) a + S1x16.size a ≤ S200x128.size a) ∧
  (∀ (k0_t2 : Fin k0_t2_loop.trips) (k0_t21 : Fin (k0_t21_loop v15 v18 k0_t2).trips), ∀ a, (k0_off156 v15 v18 k0_t2 k0_t21) a + S1x16.size a ≤ S200x128.size a) ∧
  (∀ (k0_t2 : Fin k0_t2_loop.trips) (k0_t21 : Fin (k0_t21_loop v15 v18 k0_t2).trips), ∀ a, (k0_off157 v15 v18 k0_t2 k0_t21) a + S1x16.size a ≤ S200x128.size a) ∧
  (∀ (k0_t2 : Fin k0_t2_loop.trips) (k0_t21 : Fin (k0_t21_loop v15 v18 k0_t2).trips), ∀ a, (k0_off158 v15 v18 k0_t2 k0_t21) a + S1x16.size a ≤ S200x128.size a) ∧
  (∀ k0_t2 : Fin k0_t2_loop.trips, (k0_t22_loop v15 v18 k0_t2).OK) ∧
  (∀ (k0_t2 : Fin k0_t2_loop.trips) (k0_t22 : Fin (k0_t22_loop v15 v18 k0_t2).trips), ∀ a, (k0_off159 v15 v18 k0_t2 k0_t22) a + S1x16.size a ≤ S200x128.size a) ∧
  (∀ (k0_t2 : Fin k0_t2_loop.trips) (k0_t22 : Fin (k0_t22_loop v15 v18 k0_t2).trips), ∀ a, (k0_off160 v15 v18 k0_t2 k0_t22) a + S1x16.size a ≤ S200x128.size a) ∧
  (∀ (k0_t2 : Fin k0_t2_loop.trips) (k0_t22 : Fin (k0_t22_loop v15 v18 k0_t2).trips), ∀ a, (k0_off161 v15 v18 k0_t2 k0_t22) a + S1x16.size a ≤ S200x128.size a) ∧
  (∀ (k0_t2 : Fin k0_t2_loop.trips) (k0_t22 : Fin (k0_t22_loop v15 v18 k0_t2).trips), ∀ a, (k0_off162 v15 v18 k0_t2 k0_t22) a + S1x16.size a ≤ S200x128.size a)
def k0_chk2_1 (v15 : BitVec 32) (v18 : BitVec 32) : Prop :=
  (∀ (k0_t2 : Fin k0_t2_loop.trips) (k0_t22 : Fin (k0_t22_loop v15 v18 k0_t2).trips), ∀ a, (k0_off163 v15 v18 k0_t2 k0_t22) a + S1x16.size a ≤ S200x128.size a) ∧
  (∀ (k0_t2 : Fin k0_t2_loop.trips) (k0_t22 : Fin (k0_t22_loop v15 v18 k0_t2).trips), ∀ a, (k0_off164 v15 v18 k0_t2 k0_t22) a + S1x16.size a ≤ S200x128.size a) ∧
  (∀ (k0_t2 : Fin k0_t2_loop.trips) (k0_t22 : Fin (k0_t22_loop v15 v18 k0_t2).trips), ∀ a, (k0_off165 v15 v18 k0_t2 k0_t22) a + S1x16.size a ≤ S200x128.size a) ∧
  (∀ (k0_t2 : Fin k0_t2_loop.trips) (k0_t22 : Fin (k0_t22_loop v15 v18 k0_t2).trips), ∀ a, (k0_off166 v15 v18 k0_t2 k0_t22) a + S1x16.size a ≤ S200x128.size a)
def k0_chk2 (v15 : BitVec 32) (v18 : BitVec 32) : Prop :=
  k0_chk2_0 v15 v18 ∧
  k0_chk2_1 v15 v18
theorem k0_t5_ok : ∀ (v15 : BitVec 32) (v18 : BitVec 32) (k0_hw2 : k0_chk2 v15 v18) (k0_t2 : Fin k0_t2_loop.trips), (k0_t5_loop v15 v18 k0_t2).OK := fun v15 v18 k0_hw2 k0_t2 => k0_hw2.1.1 k0_t2
theorem k0_off21_inb : ∀ (v15 : BitVec 32) (v18 : BitVec 32) (k0_hw2 : k0_chk2 v15 v18) (k0_t2 : Fin k0_t2_loop.trips) (k0_t5 : Fin (k0_t5_loop v15 v18 k0_t2).trips), ∀ a, (k0_off21 v15 v18 k0_t2 k0_t5) a + S1x16.size a ≤ S200x128.size a := fun v15 v18 k0_hw2 k0_t2 k0_t5 => k0_hw2.1.2.1 k0_t2 k0_t5
theorem k0_off22_inb : ∀ (v15 : BitVec 32) (v18 : BitVec 32) (k0_hw2 : k0_chk2 v15 v18) (k0_t2 : Fin k0_t2_loop.trips) (k0_t5 : Fin (k0_t5_loop v15 v18 k0_t2).trips), ∀ a, (k0_off22 v15 v18 k0_t2 k0_t5) a + S1x16.size a ≤ S200x128.size a := fun v15 v18 k0_hw2 k0_t2 k0_t5 => k0_hw2.1.2.2.1 k0_t2 k0_t5
theorem k0_off23_inb : ∀ (v15 : BitVec 32) (v18 : BitVec 32) (k0_hw2 : k0_chk2 v15 v18) (k0_t2 : Fin k0_t2_loop.trips) (k0_t5 : Fin (k0_t5_loop v15 v18 k0_t2).trips), ∀ a, (k0_off23 v15 v18 k0_t2 k0_t5) a + S1x16.size a ≤ S200x128.size a := fun v15 v18 k0_hw2 k0_t2 k0_t5 => k0_hw2.1.2.2.2.1 k0_t2 k0_t5
theorem k0_off24_inb : ∀ (v15 : BitVec 32) (v18 : BitVec 32) (k0_hw2 : k0_chk2 v15 v18) (k0_t2 : Fin k0_t2_loop.trips) (k0_t5 : Fin (k0_t5_loop v15 v18 k0_t2).trips), ∀ a, (k0_off24 v15 v18 k0_t2 k0_t5) a + S1x16.size a ≤ S200x128.size a := fun v15 v18 k0_hw2 k0_t2 k0_t5 => k0_hw2.1.2.2.2.2.1 k0_t2 k0_t5
theorem k0_off25_inb : ∀ (v15 : BitVec 32) (v18 : BitVec 32) (k0_hw2 : k0_chk2 v15 v18) (k0_t2 : Fin k0_t2_loop.trips) (k0_t5 : Fin (k0_t5_loop v15 v18 k0_t2).trips), ∀ a, (k0_off25 v15 v18 k0_t2 k0_t5) a + S1x16.size a ≤ S200x128.size a := fun v15 v18 k0_hw2 k0_t2 k0_t5 => k0_hw2.1.2.2.2.2.2.1 k0_t2 k0_t5
theorem k0_off26_inb : ∀ (v15 : BitVec 32) (v18 : BitVec 32) (k0_hw2 : k0_chk2 v15 v18) (k0_t2 : Fin k0_t2_loop.trips) (k0_t5 : Fin (k0_t5_loop v15 v18 k0_t2).trips), ∀ a, (k0_off26 v15 v18 k0_t2 k0_t5) a + S1x16.size a ≤ S200x128.size a := fun v15 v18 k0_hw2 k0_t2 k0_t5 => k0_hw2.1.2.2.2.2.2.2.1 k0_t2 k0_t5
theorem k0_off27_inb : ∀ (v15 : BitVec 32) (v18 : BitVec 32) (k0_hw2 : k0_chk2 v15 v18) (k0_t2 : Fin k0_t2_loop.trips) (k0_t5 : Fin (k0_t5_loop v15 v18 k0_t2).trips), ∀ a, (k0_off27 v15 v18 k0_t2 k0_t5) a + S1x16.size a ≤ S200x128.size a := fun v15 v18 k0_hw2 k0_t2 k0_t5 => k0_hw2.1.2.2.2.2.2.2.2.1 k0_t2 k0_t5
theorem k0_off28_inb : ∀ (v15 : BitVec 32) (v18 : BitVec 32) (k0_hw2 : k0_chk2 v15 v18) (k0_t2 : Fin k0_t2_loop.trips) (k0_t5 : Fin (k0_t5_loop v15 v18 k0_t2).trips), ∀ a, (k0_off28 v15 v18 k0_t2 k0_t5) a + S1x16.size a ≤ S200x128.size a := fun v15 v18 k0_hw2 k0_t2 k0_t5 => k0_hw2.1.2.2.2.2.2.2.2.2.1 k0_t2 k0_t5
theorem k0_t6_ok : ∀ (v15 : BitVec 32) (v18 : BitVec 32) (k0_hw2 : k0_chk2 v15 v18) (k0_t2 : Fin k0_t2_loop.trips), (k0_t6_loop v15 v18 k0_t2).OK := fun v15 v18 k0_hw2 k0_t2 => k0_hw2.1.2.2.2.2.2.2.2.2.2.1 k0_t2
theorem k0_off29_inb : ∀ (v15 : BitVec 32) (v18 : BitVec 32) (k0_hw2 : k0_chk2 v15 v18) (k0_t2 : Fin k0_t2_loop.trips) (k0_t6 : Fin (k0_t6_loop v15 v18 k0_t2).trips), ∀ a, (k0_off29 v15 v18 k0_t2 k0_t6) a + S1x16.size a ≤ S200x128.size a := fun v15 v18 k0_hw2 k0_t2 k0_t6 => k0_hw2.1.2.2.2.2.2.2.2.2.2.2.1 k0_t2 k0_t6
theorem k0_off30_inb : ∀ (v15 : BitVec 32) (v18 : BitVec 32) (k0_hw2 : k0_chk2 v15 v18) (k0_t2 : Fin k0_t2_loop.trips) (k0_t6 : Fin (k0_t6_loop v15 v18 k0_t2).trips), ∀ a, (k0_off30 v15 v18 k0_t2 k0_t6) a + S1x16.size a ≤ S200x128.size a := fun v15 v18 k0_hw2 k0_t2 k0_t6 => k0_hw2.1.2.2.2.2.2.2.2.2.2.2.2.1 k0_t2 k0_t6
theorem k0_off31_inb : ∀ (v15 : BitVec 32) (v18 : BitVec 32) (k0_hw2 : k0_chk2 v15 v18) (k0_t2 : Fin k0_t2_loop.trips) (k0_t6 : Fin (k0_t6_loop v15 v18 k0_t2).trips), ∀ a, (k0_off31 v15 v18 k0_t2 k0_t6) a + S1x16.size a ≤ S200x128.size a := fun v15 v18 k0_hw2 k0_t2 k0_t6 => k0_hw2.1.2.2.2.2.2.2.2.2.2.2.2.2.1 k0_t2 k0_t6
theorem k0_off32_inb : ∀ (v15 : BitVec 32) (v18 : BitVec 32) (k0_hw2 : k0_chk2 v15 v18) (k0_t2 : Fin k0_t2_loop.trips) (k0_t6 : Fin (k0_t6_loop v15 v18 k0_t2).trips), ∀ a, (k0_off32 v15 v18 k0_t2 k0_t6) a + S1x16.size a ≤ S200x128.size a := fun v15 v18 k0_hw2 k0_t2 k0_t6 => k0_hw2.1.2.2.2.2.2.2.2.2.2.2.2.2.2.1 k0_t2 k0_t6
theorem k0_off33_inb : ∀ (v15 : BitVec 32) (v18 : BitVec 32) (k0_hw2 : k0_chk2 v15 v18) (k0_t2 : Fin k0_t2_loop.trips) (k0_t6 : Fin (k0_t6_loop v15 v18 k0_t2).trips), ∀ a, (k0_off33 v15 v18 k0_t2 k0_t6) a + S1x16.size a ≤ S200x128.size a := fun v15 v18 k0_hw2 k0_t2 k0_t6 => k0_hw2.1.2.2.2.2.2.2.2.2.2.2.2.2.2.2.1 k0_t2 k0_t6
theorem k0_off34_inb : ∀ (v15 : BitVec 32) (v18 : BitVec 32) (k0_hw2 : k0_chk2 v15 v18) (k0_t2 : Fin k0_t2_loop.trips) (k0_t6 : Fin (k0_t6_loop v15 v18 k0_t2).trips), ∀ a, (k0_off34 v15 v18 k0_t2 k0_t6) a + S1x16.size a ≤ S200x128.size a := fun v15 v18 k0_hw2 k0_t2 k0_t6 => k0_hw2.1.2.2.2.2.2.2.2.2.2.2.2.2.2.2.2.1 k0_t2 k0_t6
theorem k0_off35_inb : ∀ (v15 : BitVec 32) (v18 : BitVec 32) (k0_hw2 : k0_chk2 v15 v18) (k0_t2 : Fin k0_t2_loop.trips) (k0_t6 : Fin (k0_t6_loop v15 v18 k0_t2).trips), ∀ a, (k0_off35 v15 v18 k0_t2 k0_t6) a + S1x16.size a ≤ S200x128.size a := fun v15 v18 k0_hw2 k0_t2 k0_t6 => k0_hw2.1.2.2.2.2.2.2.2.2.2.2.2.2.2.2.2.2.1 k0_t2 k0_t6
theorem k0_off36_inb : ∀ (v15 : BitVec 32) (v18 : BitVec 32) (k0_hw2 : k0_chk2 v15 v18) (k0_t2 : Fin k0_t2_loop.trips) (k0_t6 : Fin (k0_t6_loop v15 v18 k0_t2).trips), ∀ a, (k0_off36 v15 v18 k0_t2 k0_t6) a + S1x16.size a ≤ S200x128.size a := fun v15 v18 k0_hw2 k0_t2 k0_t6 => k0_hw2.1.2.2.2.2.2.2.2.2.2.2.2.2.2.2.2.2.2.1 k0_t2 k0_t6
theorem k0_t21_ok : ∀ (v15 : BitVec 32) (v18 : BitVec 32) (k0_hw2 : k0_chk2 v15 v18) (k0_t2 : Fin k0_t2_loop.trips), (k0_t21_loop v15 v18 k0_t2).OK := fun v15 v18 k0_hw2 k0_t2 => k0_hw2.1.2.2.2.2.2.2.2.2.2.2.2.2.2.2.2.2.2.2.1 k0_t2
theorem k0_off151_inb : ∀ (v15 : BitVec 32) (v18 : BitVec 32) (k0_hw2 : k0_chk2 v15 v18) (k0_t2 : Fin k0_t2_loop.trips) (k0_t21 : Fin (k0_t21_loop v15 v18 k0_t2).trips), ∀ a, (k0_off151 v15 v18 k0_t2 k0_t21) a + S1x16.size a ≤ S200x128.size a := fun v15 v18 k0_hw2 k0_t2 k0_t21 => k0_hw2.1.2.2.2.2.2.2.2.2.2.2.2.2.2.2.2.2.2.2.2.1 k0_t2 k0_t21
theorem k0_off152_inb : ∀ (v15 : BitVec 32) (v18 : BitVec 32) (k0_hw2 : k0_chk2 v15 v18) (k0_t2 : Fin k0_t2_loop.trips) (k0_t21 : Fin (k0_t21_loop v15 v18 k0_t2).trips), ∀ a, (k0_off152 v15 v18 k0_t2 k0_t21) a + S1x16.size a ≤ S200x128.size a := fun v15 v18 k0_hw2 k0_t2 k0_t21 => k0_hw2.1.2.2.2.2.2.2.2.2.2.2.2.2.2.2.2.2.2.2.2.2.1 k0_t2 k0_t21
theorem k0_off153_inb : ∀ (v15 : BitVec 32) (v18 : BitVec 32) (k0_hw2 : k0_chk2 v15 v18) (k0_t2 : Fin k0_t2_loop.trips) (k0_t21 : Fin (k0_t21_loop v15 v18 k0_t2).trips), ∀ a, (k0_off153 v15 v18 k0_t2 k0_t21) a + S1x16.size a ≤ S200x128.size a := fun v15 v18 k0_hw2 k0_t2 k0_t21 => k0_hw2.1.2.2.2.2.2.2.2.2.2.2.2.2.2.2.2.2.2.2.2.2.2.1 k0_t2 k0_t21
theorem k0_off154_inb : ∀ (v15 : BitVec 32) (v18 : BitVec 32) (k0_hw2 : k0_chk2 v15 v18) (k0_t2 : Fin k0_t2_loop.trips) (k0_t21 : Fin (k0_t21_loop v15 v18 k0_t2).trips), ∀ a, (k0_off154 v15 v18 k0_t2 k0_t21) a + S1x16.size a ≤ S200x128.size a := fun v15 v18 k0_hw2 k0_t2 k0_t21 => k0_hw2.1.2.2.2.2.2.2.2.2.2.2.2.2.2.2.2.2.2.2.2.2.2.2.1 k0_t2 k0_t21
theorem k0_off155_inb : ∀ (v15 : BitVec 32) (v18 : BitVec 32) (k0_hw2 : k0_chk2 v15 v18) (k0_t2 : Fin k0_t2_loop.trips) (k0_t21 : Fin (k0_t21_loop v15 v18 k0_t2).trips), ∀ a, (k0_off155 v15 v18 k0_t2 k0_t21) a + S1x16.size a ≤ S200x128.size a := fun v15 v18 k0_hw2 k0_t2 k0_t21 => k0_hw2.1.2.2.2.2.2.2.2.2.2.2.2.2.2.2.2.2.2.2.2.2.2.2.2.1 k0_t2 k0_t21
theorem k0_off156_inb : ∀ (v15 : BitVec 32) (v18 : BitVec 32) (k0_hw2 : k0_chk2 v15 v18) (k0_t2 : Fin k0_t2_loop.trips) (k0_t21 : Fin (k0_t21_loop v15 v18 k0_t2).trips), ∀ a, (k0_off156 v15 v18 k0_t2 k0_t21) a + S1x16.size a ≤ S200x128.size a := fun v15 v18 k0_hw2 k0_t2 k0_t21 => k0_hw2.1.2.2.2.2.2.2.2.2.2.2.2.2.2.2.2.2.2.2.2.2.2.2.2.2.1 k0_t2 k0_t21
theorem k0_off157_inb : ∀ (v15 : BitVec 32) (v18 : BitVec 32) (k0_hw2 : k0_chk2 v15 v18) (k0_t2 : Fin k0_t2_loop.trips) (k0_t21 : Fin (k0_t21_loop v15 v18 k0_t2).trips), ∀ a, (k0_off157 v15 v18 k0_t2 k0_t21) a + S1x16.size a ≤ S200x128.size a := fun v15 v18 k0_hw2 k0_t2 k0_t21 => k0_hw2.1.2.2.2.2.2.2.2.2.2.2.2.2.2.2.2.2.2.2.2.2.2.2.2.2.2.1 k0_t2 k0_t21
theorem k0_off158_inb : ∀ (v15 : BitVec 32) (v18 : BitVec 32) (k0_hw2 : k0_chk2 v15 v18) (k0_t2 : Fin k0_t2_loop.trips) (k0_t21 : Fin (k0_t21_loop v15 v18 k0_t2).trips), ∀ a, (k0_off158 v15 v18 k0_t2 k0_t21) a + S1x16.size a ≤ S200x128.size a := fun v15 v18 k0_hw2 k0_t2 k0_t21 => k0_hw2.1.2.2.2.2.2.2.2.2.2.2.2.2.2.2.2.2.2.2.2.2.2.2.2.2.2.2.1 k0_t2 k0_t21
theorem k0_t22_ok : ∀ (v15 : BitVec 32) (v18 : BitVec 32) (k0_hw2 : k0_chk2 v15 v18) (k0_t2 : Fin k0_t2_loop.trips), (k0_t22_loop v15 v18 k0_t2).OK := fun v15 v18 k0_hw2 k0_t2 => k0_hw2.1.2.2.2.2.2.2.2.2.2.2.2.2.2.2.2.2.2.2.2.2.2.2.2.2.2.2.2.1 k0_t2
theorem k0_off159_inb : ∀ (v15 : BitVec 32) (v18 : BitVec 32) (k0_hw2 : k0_chk2 v15 v18) (k0_t2 : Fin k0_t2_loop.trips) (k0_t22 : Fin (k0_t22_loop v15 v18 k0_t2).trips), ∀ a, (k0_off159 v15 v18 k0_t2 k0_t22) a + S1x16.size a ≤ S200x128.size a := fun v15 v18 k0_hw2 k0_t2 k0_t22 => k0_hw2.1.2.2.2.2.2.2.2.2.2.2.2.2.2.2.2.2.2.2.2.2.2.2.2.2.2.2.2.2.1 k0_t2 k0_t22
theorem k0_off160_inb : ∀ (v15 : BitVec 32) (v18 : BitVec 32) (k0_hw2 : k0_chk2 v15 v18) (k0_t2 : Fin k0_t2_loop.trips) (k0_t22 : Fin (k0_t22_loop v15 v18 k0_t2).trips), ∀ a, (k0_off160 v15 v18 k0_t2 k0_t22) a + S1x16.size a ≤ S200x128.size a := fun v15 v18 k0_hw2 k0_t2 k0_t22 => k0_hw2.1.2.2.2.2.2.2.2.2.2.2.2.2.2.2.2.2.2.2.2.2.2.2.2.2.2.2.2.2.2.1 k0_t2 k0_t22
theorem k0_off161_inb : ∀ (v15 : BitVec 32) (v18 : BitVec 32) (k0_hw2 : k0_chk2 v15 v18) (k0_t2 : Fin k0_t2_loop.trips) (k0_t22 : Fin (k0_t22_loop v15 v18 k0_t2).trips), ∀ a, (k0_off161 v15 v18 k0_t2 k0_t22) a + S1x16.size a ≤ S200x128.size a := fun v15 v18 k0_hw2 k0_t2 k0_t22 => k0_hw2.1.2.2.2.2.2.2.2.2.2.2.2.2.2.2.2.2.2.2.2.2.2.2.2.2.2.2.2.2.2.2.1 k0_t2 k0_t22
theorem k0_off162_inb : ∀ (v15 : BitVec 32) (v18 : BitVec 32) (k0_hw2 : k0_chk2 v15 v18) (k0_t2 : Fin k0_t2_loop.trips) (k0_t22 : Fin (k0_t22_loop v15 v18 k0_t2).trips), ∀ a, (k0_off162 v15 v18 k0_t2 k0_t22) a + S1x16.size a ≤ S200x128.size a := fun v15 v18 k0_hw2 k0_t2 k0_t22 => k0_hw2.1.2.2.2.2.2.2.2.2.2.2.2.2.2.2.2.2.2.2.2.2.2.2.2.2.2.2.2.2.2.2.2 k0_t2 k0_t22
theorem k0_off163_inb : ∀ (v15 : BitVec 32) (v18 : BitVec 32) (k0_hw2 : k0_chk2 v15 v18) (k0_t2 : Fin k0_t2_loop.trips) (k0_t22 : Fin (k0_t22_loop v15 v18 k0_t2).trips), ∀ a, (k0_off163 v15 v18 k0_t2 k0_t22) a + S1x16.size a ≤ S200x128.size a := fun v15 v18 k0_hw2 k0_t2 k0_t22 => k0_hw2.2.1 k0_t2 k0_t22
theorem k0_off164_inb : ∀ (v15 : BitVec 32) (v18 : BitVec 32) (k0_hw2 : k0_chk2 v15 v18) (k0_t2 : Fin k0_t2_loop.trips) (k0_t22 : Fin (k0_t22_loop v15 v18 k0_t2).trips), ∀ a, (k0_off164 v15 v18 k0_t2 k0_t22) a + S1x16.size a ≤ S200x128.size a := fun v15 v18 k0_hw2 k0_t2 k0_t22 => k0_hw2.2.2.1 k0_t2 k0_t22
theorem k0_off165_inb : ∀ (v15 : BitVec 32) (v18 : BitVec 32) (k0_hw2 : k0_chk2 v15 v18) (k0_t2 : Fin k0_t2_loop.trips) (k0_t22 : Fin (k0_t22_loop v15 v18 k0_t2).trips), ∀ a, (k0_off165 v15 v18 k0_t2 k0_t22) a + S1x16.size a ≤ S200x128.size a := fun v15 v18 k0_hw2 k0_t2 k0_t22 => k0_hw2.2.2.2.1 k0_t2 k0_t22
theorem k0_off166_inb : ∀ (v15 : BitVec 32) (v18 : BitVec 32) (k0_hw2 : k0_chk2 v15 v18) (k0_t2 : Fin k0_t2_loop.trips) (k0_t22 : Fin (k0_t22_loop v15 v18 k0_t2).trips), ∀ a, (k0_off166 v15 v18 k0_t2 k0_t22) a + S1x16.size a ≤ S200x128.size a := fun v15 v18 k0_hw2 k0_t2 k0_t22 => k0_hw2.2.2.2.2 k0_t2 k0_t22

@[reducible] def k0_t23_loop (v18 : BitVec 32) (v21 : BitVec 32) (k0_t2 : Fin k0_t2_loop.trips) : Scf.Loop 32 :=
  let c200_i32_397 : BitVec 32 := 200#32
  let c0_i32_396 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v529 : BitVec 32 := Scalar.subi v18 v496
  let v530 : BitVec 32 := Scalar.maxsi c0_i32_396 v529
  let v531 : BitVec 32 := Scalar.minsi c200_i32_397 v530
  let c200_i32_398 : BitVec 32 := 200#32
  let v532 : BitVec 32 := Scalar.subi v21 v496
  let v533 : BitVec 32 := Scalar.maxsi v531 v532
  let v534 : BitVec 32 := Scalar.minsi c200_i32_398 v533
  let v535 : BitVec 32 := Scalar.subi v534 v531
  let c1_i32_400 : BitVec 32 := 1#32
  let v537 : BitVec 32 := Scalar.divsi v535 c1_i32_400
  let v538 : BitVec 32 := Scalar.muli v537 c1_i32_400
  let v539 : BitVec 32 := Scalar.addi v531 v538
  let c1_i32_401 : BitVec 32 := 1#32
  ⟨v531, v539, c1_i32_401⟩
def k0_off167 (v18 : BitVec 32) (v21 : BitVec 32) (k0_t2 : Fin k0_t2_loop.trips) (k0_t23 : Fin (k0_t23_loop v18 v21 k0_t2).trips) : Fin 2 → Nat :=
  let c200_i32_397 : BitVec 32 := 200#32
  let c0_i32_396 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v529 : BitVec 32 := Scalar.subi v18 v496
  let v530 : BitVec 32 := Scalar.maxsi c0_i32_396 v529
  let v531 : BitVec 32 := Scalar.minsi c200_i32_397 v530
  let c1_i32_401 : BitVec 32 := 1#32
  let arg16 : BitVec 32 := Scf.iv v531 c1_i32_401 k0_t23
  let v630 : Index := Scalar.indexCast arg16
  let c0_449 : Index := 0#32
  ![v630.toNat, 0]
def k0_off168 (v18 : BitVec 32) (v21 : BitVec 32) (k0_t2 : Fin k0_t2_loop.trips) (k0_t23 : Fin (k0_t23_loop v18 v21 k0_t2).trips) : Fin 2 → Nat :=
  let c200_i32_397 : BitVec 32 := 200#32
  let c0_i32_396 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v529 : BitVec 32 := Scalar.subi v18 v496
  let v530 : BitVec 32 := Scalar.maxsi c0_i32_396 v529
  let v531 : BitVec 32 := Scalar.minsi c200_i32_397 v530
  let c1_i32_401 : BitVec 32 := 1#32
  let arg16 : BitVec 32 := Scf.iv v531 c1_i32_401 k0_t23
  let v637 : Index := Scalar.indexCast arg16
  let c16_452 : Index := 16#32
  ![v637.toNat, 16]
def k0_off169 (v18 : BitVec 32) (v21 : BitVec 32) (k0_t2 : Fin k0_t2_loop.trips) (k0_t23 : Fin (k0_t23_loop v18 v21 k0_t2).trips) : Fin 2 → Nat :=
  let c200_i32_397 : BitVec 32 := 200#32
  let c0_i32_396 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v529 : BitVec 32 := Scalar.subi v18 v496
  let v530 : BitVec 32 := Scalar.maxsi c0_i32_396 v529
  let v531 : BitVec 32 := Scalar.minsi c200_i32_397 v530
  let c1_i32_401 : BitVec 32 := 1#32
  let arg16 : BitVec 32 := Scf.iv v531 c1_i32_401 k0_t23
  let v644 : Index := Scalar.indexCast arg16
  let c32_455 : Index := 32#32
  ![v644.toNat, 32]
def k0_off170 (v18 : BitVec 32) (v21 : BitVec 32) (k0_t2 : Fin k0_t2_loop.trips) (k0_t23 : Fin (k0_t23_loop v18 v21 k0_t2).trips) : Fin 2 → Nat :=
  let c200_i32_397 : BitVec 32 := 200#32
  let c0_i32_396 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v529 : BitVec 32 := Scalar.subi v18 v496
  let v530 : BitVec 32 := Scalar.maxsi c0_i32_396 v529
  let v531 : BitVec 32 := Scalar.minsi c200_i32_397 v530
  let c1_i32_401 : BitVec 32 := 1#32
  let arg16 : BitVec 32 := Scf.iv v531 c1_i32_401 k0_t23
  let v651 : Index := Scalar.indexCast arg16
  let c48_458 : Index := 48#32
  ![v651.toNat, 48]
def k0_off171 (v18 : BitVec 32) (v21 : BitVec 32) (k0_t2 : Fin k0_t2_loop.trips) (k0_t23 : Fin (k0_t23_loop v18 v21 k0_t2).trips) : Fin 2 → Nat :=
  let c200_i32_397 : BitVec 32 := 200#32
  let c0_i32_396 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v529 : BitVec 32 := Scalar.subi v18 v496
  let v530 : BitVec 32 := Scalar.maxsi c0_i32_396 v529
  let v531 : BitVec 32 := Scalar.minsi c200_i32_397 v530
  let c1_i32_401 : BitVec 32 := 1#32
  let arg16 : BitVec 32 := Scf.iv v531 c1_i32_401 k0_t23
  let v658 : Index := Scalar.indexCast arg16
  let c64_461 : Index := 64#32
  ![v658.toNat, 64]
def k0_off172 (v18 : BitVec 32) (v21 : BitVec 32) (k0_t2 : Fin k0_t2_loop.trips) (k0_t23 : Fin (k0_t23_loop v18 v21 k0_t2).trips) : Fin 2 → Nat :=
  let c200_i32_397 : BitVec 32 := 200#32
  let c0_i32_396 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v529 : BitVec 32 := Scalar.subi v18 v496
  let v530 : BitVec 32 := Scalar.maxsi c0_i32_396 v529
  let v531 : BitVec 32 := Scalar.minsi c200_i32_397 v530
  let c1_i32_401 : BitVec 32 := 1#32
  let arg16 : BitVec 32 := Scf.iv v531 c1_i32_401 k0_t23
  let v665 : Index := Scalar.indexCast arg16
  let c80_464 : Index := 80#32
  ![v665.toNat, 80]
def k0_off173 (v18 : BitVec 32) (v21 : BitVec 32) (k0_t2 : Fin k0_t2_loop.trips) (k0_t23 : Fin (k0_t23_loop v18 v21 k0_t2).trips) : Fin 2 → Nat :=
  let c200_i32_397 : BitVec 32 := 200#32
  let c0_i32_396 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v529 : BitVec 32 := Scalar.subi v18 v496
  let v530 : BitVec 32 := Scalar.maxsi c0_i32_396 v529
  let v531 : BitVec 32 := Scalar.minsi c200_i32_397 v530
  let c1_i32_401 : BitVec 32 := 1#32
  let arg16 : BitVec 32 := Scf.iv v531 c1_i32_401 k0_t23
  let v672 : Index := Scalar.indexCast arg16
  let c96_467 : Index := 96#32
  ![v672.toNat, 96]
def k0_off174 (v18 : BitVec 32) (v21 : BitVec 32) (k0_t2 : Fin k0_t2_loop.trips) (k0_t23 : Fin (k0_t23_loop v18 v21 k0_t2).trips) : Fin 2 → Nat :=
  let c200_i32_397 : BitVec 32 := 200#32
  let c0_i32_396 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v529 : BitVec 32 := Scalar.subi v18 v496
  let v530 : BitVec 32 := Scalar.maxsi c0_i32_396 v529
  let v531 : BitVec 32 := Scalar.minsi c200_i32_397 v530
  let c1_i32_401 : BitVec 32 := 1#32
  let arg16 : BitVec 32 := Scf.iv v531 c1_i32_401 k0_t23
  let v679 : Index := Scalar.indexCast arg16
  let c112_470 : Index := 112#32
  ![v679.toNat, 112]
@[reducible] def k0_t24_loop (v18 : BitVec 32) (v21 : BitVec 32) (k0_t2 : Fin k0_t2_loop.trips) : Scf.Loop 32 :=
  let c200_i32_397 : BitVec 32 := 200#32
  let c0_i32_396 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v529 : BitVec 32 := Scalar.subi v18 v496
  let v530 : BitVec 32 := Scalar.maxsi c0_i32_396 v529
  let v531 : BitVec 32 := Scalar.minsi c200_i32_397 v530
  let c200_i32_398 : BitVec 32 := 200#32
  let v532 : BitVec 32 := Scalar.subi v21 v496
  let v533 : BitVec 32 := Scalar.maxsi v531 v532
  let v534 : BitVec 32 := Scalar.minsi c200_i32_398 v533
  let v535 : BitVec 32 := Scalar.subi v534 v531
  let c1_i32_400 : BitVec 32 := 1#32
  let v537 : BitVec 32 := Scalar.divsi v535 c1_i32_400
  let v538 : BitVec 32 := Scalar.muli v537 c1_i32_400
  let v539 : BitVec 32 := Scalar.addi v531 v538
  let v536 : BitVec 32 := Scalar.addi v531 v535
  let c1_i32_402 : BitVec 32 := 1#32
  ⟨v539, v536, c1_i32_402⟩
def k0_off175 (v18 : BitVec 32) (v21 : BitVec 32) (k0_t2 : Fin k0_t2_loop.trips) (k0_t24 : Fin (k0_t24_loop v18 v21 k0_t2).trips) : Fin 2 → Nat :=
  let c200_i32_397 : BitVec 32 := 200#32
  let c0_i32_396 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v529 : BitVec 32 := Scalar.subi v18 v496
  let v530 : BitVec 32 := Scalar.maxsi c0_i32_396 v529
  let v531 : BitVec 32 := Scalar.minsi c200_i32_397 v530
  let c200_i32_398 : BitVec 32 := 200#32
  let v532 : BitVec 32 := Scalar.subi v21 v496
  let v533 : BitVec 32 := Scalar.maxsi v531 v532
  let v534 : BitVec 32 := Scalar.minsi c200_i32_398 v533
  let v535 : BitVec 32 := Scalar.subi v534 v531
  let c1_i32_400 : BitVec 32 := 1#32
  let v537 : BitVec 32 := Scalar.divsi v535 c1_i32_400
  let v538 : BitVec 32 := Scalar.muli v537 c1_i32_400
  let v539 : BitVec 32 := Scalar.addi v531 v538
  let c1_i32_402 : BitVec 32 := 1#32
  let arg16 : BitVec 32 := Scf.iv v539 c1_i32_402 k0_t24
  let v630 : Index := Scalar.indexCast arg16
  let c0_449 : Index := 0#32
  ![v630.toNat, 0]
def k0_off176 (v18 : BitVec 32) (v21 : BitVec 32) (k0_t2 : Fin k0_t2_loop.trips) (k0_t24 : Fin (k0_t24_loop v18 v21 k0_t2).trips) : Fin 2 → Nat :=
  let c200_i32_397 : BitVec 32 := 200#32
  let c0_i32_396 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v529 : BitVec 32 := Scalar.subi v18 v496
  let v530 : BitVec 32 := Scalar.maxsi c0_i32_396 v529
  let v531 : BitVec 32 := Scalar.minsi c200_i32_397 v530
  let c200_i32_398 : BitVec 32 := 200#32
  let v532 : BitVec 32 := Scalar.subi v21 v496
  let v533 : BitVec 32 := Scalar.maxsi v531 v532
  let v534 : BitVec 32 := Scalar.minsi c200_i32_398 v533
  let v535 : BitVec 32 := Scalar.subi v534 v531
  let c1_i32_400 : BitVec 32 := 1#32
  let v537 : BitVec 32 := Scalar.divsi v535 c1_i32_400
  let v538 : BitVec 32 := Scalar.muli v537 c1_i32_400
  let v539 : BitVec 32 := Scalar.addi v531 v538
  let c1_i32_402 : BitVec 32 := 1#32
  let arg16 : BitVec 32 := Scf.iv v539 c1_i32_402 k0_t24
  let v637 : Index := Scalar.indexCast arg16
  let c16_452 : Index := 16#32
  ![v637.toNat, 16]
def k0_off177 (v18 : BitVec 32) (v21 : BitVec 32) (k0_t2 : Fin k0_t2_loop.trips) (k0_t24 : Fin (k0_t24_loop v18 v21 k0_t2).trips) : Fin 2 → Nat :=
  let c200_i32_397 : BitVec 32 := 200#32
  let c0_i32_396 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v529 : BitVec 32 := Scalar.subi v18 v496
  let v530 : BitVec 32 := Scalar.maxsi c0_i32_396 v529
  let v531 : BitVec 32 := Scalar.minsi c200_i32_397 v530
  let c200_i32_398 : BitVec 32 := 200#32
  let v532 : BitVec 32 := Scalar.subi v21 v496
  let v533 : BitVec 32 := Scalar.maxsi v531 v532
  let v534 : BitVec 32 := Scalar.minsi c200_i32_398 v533
  let v535 : BitVec 32 := Scalar.subi v534 v531
  let c1_i32_400 : BitVec 32 := 1#32
  let v537 : BitVec 32 := Scalar.divsi v535 c1_i32_400
  let v538 : BitVec 32 := Scalar.muli v537 c1_i32_400
  let v539 : BitVec 32 := Scalar.addi v531 v538
  let c1_i32_402 : BitVec 32 := 1#32
  let arg16 : BitVec 32 := Scf.iv v539 c1_i32_402 k0_t24
  let v644 : Index := Scalar.indexCast arg16
  let c32_455 : Index := 32#32
  ![v644.toNat, 32]
def k0_off178 (v18 : BitVec 32) (v21 : BitVec 32) (k0_t2 : Fin k0_t2_loop.trips) (k0_t24 : Fin (k0_t24_loop v18 v21 k0_t2).trips) : Fin 2 → Nat :=
  let c200_i32_397 : BitVec 32 := 200#32
  let c0_i32_396 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v529 : BitVec 32 := Scalar.subi v18 v496
  let v530 : BitVec 32 := Scalar.maxsi c0_i32_396 v529
  let v531 : BitVec 32 := Scalar.minsi c200_i32_397 v530
  let c200_i32_398 : BitVec 32 := 200#32
  let v532 : BitVec 32 := Scalar.subi v21 v496
  let v533 : BitVec 32 := Scalar.maxsi v531 v532
  let v534 : BitVec 32 := Scalar.minsi c200_i32_398 v533
  let v535 : BitVec 32 := Scalar.subi v534 v531
  let c1_i32_400 : BitVec 32 := 1#32
  let v537 : BitVec 32 := Scalar.divsi v535 c1_i32_400
  let v538 : BitVec 32 := Scalar.muli v537 c1_i32_400
  let v539 : BitVec 32 := Scalar.addi v531 v538
  let c1_i32_402 : BitVec 32 := 1#32
  let arg16 : BitVec 32 := Scf.iv v539 c1_i32_402 k0_t24
  let v651 : Index := Scalar.indexCast arg16
  let c48_458 : Index := 48#32
  ![v651.toNat, 48]
def k0_off179 (v18 : BitVec 32) (v21 : BitVec 32) (k0_t2 : Fin k0_t2_loop.trips) (k0_t24 : Fin (k0_t24_loop v18 v21 k0_t2).trips) : Fin 2 → Nat :=
  let c200_i32_397 : BitVec 32 := 200#32
  let c0_i32_396 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v529 : BitVec 32 := Scalar.subi v18 v496
  let v530 : BitVec 32 := Scalar.maxsi c0_i32_396 v529
  let v531 : BitVec 32 := Scalar.minsi c200_i32_397 v530
  let c200_i32_398 : BitVec 32 := 200#32
  let v532 : BitVec 32 := Scalar.subi v21 v496
  let v533 : BitVec 32 := Scalar.maxsi v531 v532
  let v534 : BitVec 32 := Scalar.minsi c200_i32_398 v533
  let v535 : BitVec 32 := Scalar.subi v534 v531
  let c1_i32_400 : BitVec 32 := 1#32
  let v537 : BitVec 32 := Scalar.divsi v535 c1_i32_400
  let v538 : BitVec 32 := Scalar.muli v537 c1_i32_400
  let v539 : BitVec 32 := Scalar.addi v531 v538
  let c1_i32_402 : BitVec 32 := 1#32
  let arg16 : BitVec 32 := Scf.iv v539 c1_i32_402 k0_t24
  let v658 : Index := Scalar.indexCast arg16
  let c64_461 : Index := 64#32
  ![v658.toNat, 64]
def k0_off180 (v18 : BitVec 32) (v21 : BitVec 32) (k0_t2 : Fin k0_t2_loop.trips) (k0_t24 : Fin (k0_t24_loop v18 v21 k0_t2).trips) : Fin 2 → Nat :=
  let c200_i32_397 : BitVec 32 := 200#32
  let c0_i32_396 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v529 : BitVec 32 := Scalar.subi v18 v496
  let v530 : BitVec 32 := Scalar.maxsi c0_i32_396 v529
  let v531 : BitVec 32 := Scalar.minsi c200_i32_397 v530
  let c200_i32_398 : BitVec 32 := 200#32
  let v532 : BitVec 32 := Scalar.subi v21 v496
  let v533 : BitVec 32 := Scalar.maxsi v531 v532
  let v534 : BitVec 32 := Scalar.minsi c200_i32_398 v533
  let v535 : BitVec 32 := Scalar.subi v534 v531
  let c1_i32_400 : BitVec 32 := 1#32
  let v537 : BitVec 32 := Scalar.divsi v535 c1_i32_400
  let v538 : BitVec 32 := Scalar.muli v537 c1_i32_400
  let v539 : BitVec 32 := Scalar.addi v531 v538
  let c1_i32_402 : BitVec 32 := 1#32
  let arg16 : BitVec 32 := Scf.iv v539 c1_i32_402 k0_t24
  let v665 : Index := Scalar.indexCast arg16
  let c80_464 : Index := 80#32
  ![v665.toNat, 80]
def k0_off181 (v18 : BitVec 32) (v21 : BitVec 32) (k0_t2 : Fin k0_t2_loop.trips) (k0_t24 : Fin (k0_t24_loop v18 v21 k0_t2).trips) : Fin 2 → Nat :=
  let c200_i32_397 : BitVec 32 := 200#32
  let c0_i32_396 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v529 : BitVec 32 := Scalar.subi v18 v496
  let v530 : BitVec 32 := Scalar.maxsi c0_i32_396 v529
  let v531 : BitVec 32 := Scalar.minsi c200_i32_397 v530
  let c200_i32_398 : BitVec 32 := 200#32
  let v532 : BitVec 32 := Scalar.subi v21 v496
  let v533 : BitVec 32 := Scalar.maxsi v531 v532
  let v534 : BitVec 32 := Scalar.minsi c200_i32_398 v533
  let v535 : BitVec 32 := Scalar.subi v534 v531
  let c1_i32_400 : BitVec 32 := 1#32
  let v537 : BitVec 32 := Scalar.divsi v535 c1_i32_400
  let v538 : BitVec 32 := Scalar.muli v537 c1_i32_400
  let v539 : BitVec 32 := Scalar.addi v531 v538
  let c1_i32_402 : BitVec 32 := 1#32
  let arg16 : BitVec 32 := Scf.iv v539 c1_i32_402 k0_t24
  let v672 : Index := Scalar.indexCast arg16
  let c96_467 : Index := 96#32
  ![v672.toNat, 96]
def k0_off182 (v18 : BitVec 32) (v21 : BitVec 32) (k0_t2 : Fin k0_t2_loop.trips) (k0_t24 : Fin (k0_t24_loop v18 v21 k0_t2).trips) : Fin 2 → Nat :=
  let c200_i32_397 : BitVec 32 := 200#32
  let c0_i32_396 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v529 : BitVec 32 := Scalar.subi v18 v496
  let v530 : BitVec 32 := Scalar.maxsi c0_i32_396 v529
  let v531 : BitVec 32 := Scalar.minsi c200_i32_397 v530
  let c200_i32_398 : BitVec 32 := 200#32
  let v532 : BitVec 32 := Scalar.subi v21 v496
  let v533 : BitVec 32 := Scalar.maxsi v531 v532
  let v534 : BitVec 32 := Scalar.minsi c200_i32_398 v533
  let v535 : BitVec 32 := Scalar.subi v534 v531
  let c1_i32_400 : BitVec 32 := 1#32
  let v537 : BitVec 32 := Scalar.divsi v535 c1_i32_400
  let v538 : BitVec 32 := Scalar.muli v537 c1_i32_400
  let v539 : BitVec 32 := Scalar.addi v531 v538
  let c1_i32_402 : BitVec 32 := 1#32
  let arg16 : BitVec 32 := Scf.iv v539 c1_i32_402 k0_t24
  let v679 : Index := Scalar.indexCast arg16
  let c112_470 : Index := 112#32
  ![v679.toNat, 112]

def k0_chk3_0 (v18 : BitVec 32) (v21 : BitVec 32) : Prop :=
  (∀ k0_t2 : Fin k0_t2_loop.trips, (k0_t7_loop v18 v21 k0_t2).OK) ∧
  (∀ (k0_t2 : Fin k0_t2_loop.trips) (k0_t7 : Fin (k0_t7_loop v18 v21 k0_t2).trips), ∀ a, (k0_off37 v18 v21 k0_t2 k0_t7) a + S1x16.size a ≤ S200x128.size a) ∧
  (∀ (k0_t2 : Fin k0_t2_loop.trips) (k0_t7 : Fin (k0_t7_loop v18 v21 k0_t2).trips), ∀ a, (k0_off38 v18 v21 k0_t2 k0_t7) a + S1x16.size a ≤ S200x128.size a) ∧
  (∀ (k0_t2 : Fin k0_t2_loop.trips) (k0_t7 : Fin (k0_t7_loop v18 v21 k0_t2).trips), ∀ a, (k0_off39 v18 v21 k0_t2 k0_t7) a + S1x16.size a ≤ S200x128.size a) ∧
  (∀ (k0_t2 : Fin k0_t2_loop.trips) (k0_t7 : Fin (k0_t7_loop v18 v21 k0_t2).trips), ∀ a, (k0_off40 v18 v21 k0_t2 k0_t7) a + S1x16.size a ≤ S200x128.size a) ∧
  (∀ (k0_t2 : Fin k0_t2_loop.trips) (k0_t7 : Fin (k0_t7_loop v18 v21 k0_t2).trips), ∀ a, (k0_off41 v18 v21 k0_t2 k0_t7) a + S1x16.size a ≤ S200x128.size a) ∧
  (∀ (k0_t2 : Fin k0_t2_loop.trips) (k0_t7 : Fin (k0_t7_loop v18 v21 k0_t2).trips), ∀ a, (k0_off42 v18 v21 k0_t2 k0_t7) a + S1x16.size a ≤ S200x128.size a) ∧
  (∀ (k0_t2 : Fin k0_t2_loop.trips) (k0_t7 : Fin (k0_t7_loop v18 v21 k0_t2).trips), ∀ a, (k0_off43 v18 v21 k0_t2 k0_t7) a + S1x16.size a ≤ S200x128.size a) ∧
  (∀ (k0_t2 : Fin k0_t2_loop.trips) (k0_t7 : Fin (k0_t7_loop v18 v21 k0_t2).trips), ∀ a, (k0_off44 v18 v21 k0_t2 k0_t7) a + S1x16.size a ≤ S200x128.size a) ∧
  (∀ k0_t2 : Fin k0_t2_loop.trips, (k0_t8_loop v18 v21 k0_t2).OK) ∧
  (∀ (k0_t2 : Fin k0_t2_loop.trips) (k0_t8 : Fin (k0_t8_loop v18 v21 k0_t2).trips), ∀ a, (k0_off45 v18 v21 k0_t2 k0_t8) a + S1x16.size a ≤ S200x128.size a) ∧
  (∀ (k0_t2 : Fin k0_t2_loop.trips) (k0_t8 : Fin (k0_t8_loop v18 v21 k0_t2).trips), ∀ a, (k0_off46 v18 v21 k0_t2 k0_t8) a + S1x16.size a ≤ S200x128.size a) ∧
  (∀ (k0_t2 : Fin k0_t2_loop.trips) (k0_t8 : Fin (k0_t8_loop v18 v21 k0_t2).trips), ∀ a, (k0_off47 v18 v21 k0_t2 k0_t8) a + S1x16.size a ≤ S200x128.size a) ∧
  (∀ (k0_t2 : Fin k0_t2_loop.trips) (k0_t8 : Fin (k0_t8_loop v18 v21 k0_t2).trips), ∀ a, (k0_off48 v18 v21 k0_t2 k0_t8) a + S1x16.size a ≤ S200x128.size a) ∧
  (∀ (k0_t2 : Fin k0_t2_loop.trips) (k0_t8 : Fin (k0_t8_loop v18 v21 k0_t2).trips), ∀ a, (k0_off49 v18 v21 k0_t2 k0_t8) a + S1x16.size a ≤ S200x128.size a) ∧
  (∀ (k0_t2 : Fin k0_t2_loop.trips) (k0_t8 : Fin (k0_t8_loop v18 v21 k0_t2).trips), ∀ a, (k0_off50 v18 v21 k0_t2 k0_t8) a + S1x16.size a ≤ S200x128.size a) ∧
  (∀ (k0_t2 : Fin k0_t2_loop.trips) (k0_t8 : Fin (k0_t8_loop v18 v21 k0_t2).trips), ∀ a, (k0_off51 v18 v21 k0_t2 k0_t8) a + S1x16.size a ≤ S200x128.size a) ∧
  (∀ (k0_t2 : Fin k0_t2_loop.trips) (k0_t8 : Fin (k0_t8_loop v18 v21 k0_t2).trips), ∀ a, (k0_off52 v18 v21 k0_t2 k0_t8) a + S1x16.size a ≤ S200x128.size a) ∧
  (∀ k0_t2 : Fin k0_t2_loop.trips, (k0_t23_loop v18 v21 k0_t2).OK) ∧
  (∀ (k0_t2 : Fin k0_t2_loop.trips) (k0_t23 : Fin (k0_t23_loop v18 v21 k0_t2).trips), ∀ a, (k0_off167 v18 v21 k0_t2 k0_t23) a + S1x16.size a ≤ S200x128.size a) ∧
  (∀ (k0_t2 : Fin k0_t2_loop.trips) (k0_t23 : Fin (k0_t23_loop v18 v21 k0_t2).trips), ∀ a, (k0_off168 v18 v21 k0_t2 k0_t23) a + S1x16.size a ≤ S200x128.size a) ∧
  (∀ (k0_t2 : Fin k0_t2_loop.trips) (k0_t23 : Fin (k0_t23_loop v18 v21 k0_t2).trips), ∀ a, (k0_off169 v18 v21 k0_t2 k0_t23) a + S1x16.size a ≤ S200x128.size a) ∧
  (∀ (k0_t2 : Fin k0_t2_loop.trips) (k0_t23 : Fin (k0_t23_loop v18 v21 k0_t2).trips), ∀ a, (k0_off170 v18 v21 k0_t2 k0_t23) a + S1x16.size a ≤ S200x128.size a) ∧
  (∀ (k0_t2 : Fin k0_t2_loop.trips) (k0_t23 : Fin (k0_t23_loop v18 v21 k0_t2).trips), ∀ a, (k0_off171 v18 v21 k0_t2 k0_t23) a + S1x16.size a ≤ S200x128.size a) ∧
  (∀ (k0_t2 : Fin k0_t2_loop.trips) (k0_t23 : Fin (k0_t23_loop v18 v21 k0_t2).trips), ∀ a, (k0_off172 v18 v21 k0_t2 k0_t23) a + S1x16.size a ≤ S200x128.size a) ∧
  (∀ (k0_t2 : Fin k0_t2_loop.trips) (k0_t23 : Fin (k0_t23_loop v18 v21 k0_t2).trips), ∀ a, (k0_off173 v18 v21 k0_t2 k0_t23) a + S1x16.size a ≤ S200x128.size a) ∧
  (∀ (k0_t2 : Fin k0_t2_loop.trips) (k0_t23 : Fin (k0_t23_loop v18 v21 k0_t2).trips), ∀ a, (k0_off174 v18 v21 k0_t2 k0_t23) a + S1x16.size a ≤ S200x128.size a) ∧
  (∀ k0_t2 : Fin k0_t2_loop.trips, (k0_t24_loop v18 v21 k0_t2).OK) ∧
  (∀ (k0_t2 : Fin k0_t2_loop.trips) (k0_t24 : Fin (k0_t24_loop v18 v21 k0_t2).trips), ∀ a, (k0_off175 v18 v21 k0_t2 k0_t24) a + S1x16.size a ≤ S200x128.size a) ∧
  (∀ (k0_t2 : Fin k0_t2_loop.trips) (k0_t24 : Fin (k0_t24_loop v18 v21 k0_t2).trips), ∀ a, (k0_off176 v18 v21 k0_t2 k0_t24) a + S1x16.size a ≤ S200x128.size a) ∧
  (∀ (k0_t2 : Fin k0_t2_loop.trips) (k0_t24 : Fin (k0_t24_loop v18 v21 k0_t2).trips), ∀ a, (k0_off177 v18 v21 k0_t2 k0_t24) a + S1x16.size a ≤ S200x128.size a) ∧
  (∀ (k0_t2 : Fin k0_t2_loop.trips) (k0_t24 : Fin (k0_t24_loop v18 v21 k0_t2).trips), ∀ a, (k0_off178 v18 v21 k0_t2 k0_t24) a + S1x16.size a ≤ S200x128.size a)
def k0_chk3_1 (v18 : BitVec 32) (v21 : BitVec 32) : Prop :=
  (∀ (k0_t2 : Fin k0_t2_loop.trips) (k0_t24 : Fin (k0_t24_loop v18 v21 k0_t2).trips), ∀ a, (k0_off179 v18 v21 k0_t2 k0_t24) a + S1x16.size a ≤ S200x128.size a) ∧
  (∀ (k0_t2 : Fin k0_t2_loop.trips) (k0_t24 : Fin (k0_t24_loop v18 v21 k0_t2).trips), ∀ a, (k0_off180 v18 v21 k0_t2 k0_t24) a + S1x16.size a ≤ S200x128.size a) ∧
  (∀ (k0_t2 : Fin k0_t2_loop.trips) (k0_t24 : Fin (k0_t24_loop v18 v21 k0_t2).trips), ∀ a, (k0_off181 v18 v21 k0_t2 k0_t24) a + S1x16.size a ≤ S200x128.size a) ∧
  (∀ (k0_t2 : Fin k0_t2_loop.trips) (k0_t24 : Fin (k0_t24_loop v18 v21 k0_t2).trips), ∀ a, (k0_off182 v18 v21 k0_t2 k0_t24) a + S1x16.size a ≤ S200x128.size a)
def k0_chk3 (v18 : BitVec 32) (v21 : BitVec 32) : Prop :=
  k0_chk3_0 v18 v21 ∧
  k0_chk3_1 v18 v21
theorem k0_t7_ok : ∀ (v18 : BitVec 32) (v21 : BitVec 32) (k0_hw3 : k0_chk3 v18 v21) (k0_t2 : Fin k0_t2_loop.trips), (k0_t7_loop v18 v21 k0_t2).OK := fun v18 v21 k0_hw3 k0_t2 => k0_hw3.1.1 k0_t2
theorem k0_off37_inb : ∀ (v18 : BitVec 32) (v21 : BitVec 32) (k0_hw3 : k0_chk3 v18 v21) (k0_t2 : Fin k0_t2_loop.trips) (k0_t7 : Fin (k0_t7_loop v18 v21 k0_t2).trips), ∀ a, (k0_off37 v18 v21 k0_t2 k0_t7) a + S1x16.size a ≤ S200x128.size a := fun v18 v21 k0_hw3 k0_t2 k0_t7 => k0_hw3.1.2.1 k0_t2 k0_t7
theorem k0_off38_inb : ∀ (v18 : BitVec 32) (v21 : BitVec 32) (k0_hw3 : k0_chk3 v18 v21) (k0_t2 : Fin k0_t2_loop.trips) (k0_t7 : Fin (k0_t7_loop v18 v21 k0_t2).trips), ∀ a, (k0_off38 v18 v21 k0_t2 k0_t7) a + S1x16.size a ≤ S200x128.size a := fun v18 v21 k0_hw3 k0_t2 k0_t7 => k0_hw3.1.2.2.1 k0_t2 k0_t7
theorem k0_off39_inb : ∀ (v18 : BitVec 32) (v21 : BitVec 32) (k0_hw3 : k0_chk3 v18 v21) (k0_t2 : Fin k0_t2_loop.trips) (k0_t7 : Fin (k0_t7_loop v18 v21 k0_t2).trips), ∀ a, (k0_off39 v18 v21 k0_t2 k0_t7) a + S1x16.size a ≤ S200x128.size a := fun v18 v21 k0_hw3 k0_t2 k0_t7 => k0_hw3.1.2.2.2.1 k0_t2 k0_t7
theorem k0_off40_inb : ∀ (v18 : BitVec 32) (v21 : BitVec 32) (k0_hw3 : k0_chk3 v18 v21) (k0_t2 : Fin k0_t2_loop.trips) (k0_t7 : Fin (k0_t7_loop v18 v21 k0_t2).trips), ∀ a, (k0_off40 v18 v21 k0_t2 k0_t7) a + S1x16.size a ≤ S200x128.size a := fun v18 v21 k0_hw3 k0_t2 k0_t7 => k0_hw3.1.2.2.2.2.1 k0_t2 k0_t7
theorem k0_off41_inb : ∀ (v18 : BitVec 32) (v21 : BitVec 32) (k0_hw3 : k0_chk3 v18 v21) (k0_t2 : Fin k0_t2_loop.trips) (k0_t7 : Fin (k0_t7_loop v18 v21 k0_t2).trips), ∀ a, (k0_off41 v18 v21 k0_t2 k0_t7) a + S1x16.size a ≤ S200x128.size a := fun v18 v21 k0_hw3 k0_t2 k0_t7 => k0_hw3.1.2.2.2.2.2.1 k0_t2 k0_t7
theorem k0_off42_inb : ∀ (v18 : BitVec 32) (v21 : BitVec 32) (k0_hw3 : k0_chk3 v18 v21) (k0_t2 : Fin k0_t2_loop.trips) (k0_t7 : Fin (k0_t7_loop v18 v21 k0_t2).trips), ∀ a, (k0_off42 v18 v21 k0_t2 k0_t7) a + S1x16.size a ≤ S200x128.size a := fun v18 v21 k0_hw3 k0_t2 k0_t7 => k0_hw3.1.2.2.2.2.2.2.1 k0_t2 k0_t7
theorem k0_off43_inb : ∀ (v18 : BitVec 32) (v21 : BitVec 32) (k0_hw3 : k0_chk3 v18 v21) (k0_t2 : Fin k0_t2_loop.trips) (k0_t7 : Fin (k0_t7_loop v18 v21 k0_t2).trips), ∀ a, (k0_off43 v18 v21 k0_t2 k0_t7) a + S1x16.size a ≤ S200x128.size a := fun v18 v21 k0_hw3 k0_t2 k0_t7 => k0_hw3.1.2.2.2.2.2.2.2.1 k0_t2 k0_t7
theorem k0_off44_inb : ∀ (v18 : BitVec 32) (v21 : BitVec 32) (k0_hw3 : k0_chk3 v18 v21) (k0_t2 : Fin k0_t2_loop.trips) (k0_t7 : Fin (k0_t7_loop v18 v21 k0_t2).trips), ∀ a, (k0_off44 v18 v21 k0_t2 k0_t7) a + S1x16.size a ≤ S200x128.size a := fun v18 v21 k0_hw3 k0_t2 k0_t7 => k0_hw3.1.2.2.2.2.2.2.2.2.1 k0_t2 k0_t7
theorem k0_t8_ok : ∀ (v18 : BitVec 32) (v21 : BitVec 32) (k0_hw3 : k0_chk3 v18 v21) (k0_t2 : Fin k0_t2_loop.trips), (k0_t8_loop v18 v21 k0_t2).OK := fun v18 v21 k0_hw3 k0_t2 => k0_hw3.1.2.2.2.2.2.2.2.2.2.1 k0_t2
theorem k0_off45_inb : ∀ (v18 : BitVec 32) (v21 : BitVec 32) (k0_hw3 : k0_chk3 v18 v21) (k0_t2 : Fin k0_t2_loop.trips) (k0_t8 : Fin (k0_t8_loop v18 v21 k0_t2).trips), ∀ a, (k0_off45 v18 v21 k0_t2 k0_t8) a + S1x16.size a ≤ S200x128.size a := fun v18 v21 k0_hw3 k0_t2 k0_t8 => k0_hw3.1.2.2.2.2.2.2.2.2.2.2.1 k0_t2 k0_t8
theorem k0_off46_inb : ∀ (v18 : BitVec 32) (v21 : BitVec 32) (k0_hw3 : k0_chk3 v18 v21) (k0_t2 : Fin k0_t2_loop.trips) (k0_t8 : Fin (k0_t8_loop v18 v21 k0_t2).trips), ∀ a, (k0_off46 v18 v21 k0_t2 k0_t8) a + S1x16.size a ≤ S200x128.size a := fun v18 v21 k0_hw3 k0_t2 k0_t8 => k0_hw3.1.2.2.2.2.2.2.2.2.2.2.2.1 k0_t2 k0_t8
theorem k0_off47_inb : ∀ (v18 : BitVec 32) (v21 : BitVec 32) (k0_hw3 : k0_chk3 v18 v21) (k0_t2 : Fin k0_t2_loop.trips) (k0_t8 : Fin (k0_t8_loop v18 v21 k0_t2).trips), ∀ a, (k0_off47 v18 v21 k0_t2 k0_t8) a + S1x16.size a ≤ S200x128.size a := fun v18 v21 k0_hw3 k0_t2 k0_t8 => k0_hw3.1.2.2.2.2.2.2.2.2.2.2.2.2.1 k0_t2 k0_t8
theorem k0_off48_inb : ∀ (v18 : BitVec 32) (v21 : BitVec 32) (k0_hw3 : k0_chk3 v18 v21) (k0_t2 : Fin k0_t2_loop.trips) (k0_t8 : Fin (k0_t8_loop v18 v21 k0_t2).trips), ∀ a, (k0_off48 v18 v21 k0_t2 k0_t8) a + S1x16.size a ≤ S200x128.size a := fun v18 v21 k0_hw3 k0_t2 k0_t8 => k0_hw3.1.2.2.2.2.2.2.2.2.2.2.2.2.2.1 k0_t2 k0_t8
theorem k0_off49_inb : ∀ (v18 : BitVec 32) (v21 : BitVec 32) (k0_hw3 : k0_chk3 v18 v21) (k0_t2 : Fin k0_t2_loop.trips) (k0_t8 : Fin (k0_t8_loop v18 v21 k0_t2).trips), ∀ a, (k0_off49 v18 v21 k0_t2 k0_t8) a + S1x16.size a ≤ S200x128.size a := fun v18 v21 k0_hw3 k0_t2 k0_t8 => k0_hw3.1.2.2.2.2.2.2.2.2.2.2.2.2.2.2.1 k0_t2 k0_t8
theorem k0_off50_inb : ∀ (v18 : BitVec 32) (v21 : BitVec 32) (k0_hw3 : k0_chk3 v18 v21) (k0_t2 : Fin k0_t2_loop.trips) (k0_t8 : Fin (k0_t8_loop v18 v21 k0_t2).trips), ∀ a, (k0_off50 v18 v21 k0_t2 k0_t8) a + S1x16.size a ≤ S200x128.size a := fun v18 v21 k0_hw3 k0_t2 k0_t8 => k0_hw3.1.2.2.2.2.2.2.2.2.2.2.2.2.2.2.2.1 k0_t2 k0_t8
theorem k0_off51_inb : ∀ (v18 : BitVec 32) (v21 : BitVec 32) (k0_hw3 : k0_chk3 v18 v21) (k0_t2 : Fin k0_t2_loop.trips) (k0_t8 : Fin (k0_t8_loop v18 v21 k0_t2).trips), ∀ a, (k0_off51 v18 v21 k0_t2 k0_t8) a + S1x16.size a ≤ S200x128.size a := fun v18 v21 k0_hw3 k0_t2 k0_t8 => k0_hw3.1.2.2.2.2.2.2.2.2.2.2.2.2.2.2.2.2.1 k0_t2 k0_t8
theorem k0_off52_inb : ∀ (v18 : BitVec 32) (v21 : BitVec 32) (k0_hw3 : k0_chk3 v18 v21) (k0_t2 : Fin k0_t2_loop.trips) (k0_t8 : Fin (k0_t8_loop v18 v21 k0_t2).trips), ∀ a, (k0_off52 v18 v21 k0_t2 k0_t8) a + S1x16.size a ≤ S200x128.size a := fun v18 v21 k0_hw3 k0_t2 k0_t8 => k0_hw3.1.2.2.2.2.2.2.2.2.2.2.2.2.2.2.2.2.2.1 k0_t2 k0_t8
theorem k0_t23_ok : ∀ (v18 : BitVec 32) (v21 : BitVec 32) (k0_hw3 : k0_chk3 v18 v21) (k0_t2 : Fin k0_t2_loop.trips), (k0_t23_loop v18 v21 k0_t2).OK := fun v18 v21 k0_hw3 k0_t2 => k0_hw3.1.2.2.2.2.2.2.2.2.2.2.2.2.2.2.2.2.2.2.1 k0_t2
theorem k0_off167_inb : ∀ (v18 : BitVec 32) (v21 : BitVec 32) (k0_hw3 : k0_chk3 v18 v21) (k0_t2 : Fin k0_t2_loop.trips) (k0_t23 : Fin (k0_t23_loop v18 v21 k0_t2).trips), ∀ a, (k0_off167 v18 v21 k0_t2 k0_t23) a + S1x16.size a ≤ S200x128.size a := fun v18 v21 k0_hw3 k0_t2 k0_t23 => k0_hw3.1.2.2.2.2.2.2.2.2.2.2.2.2.2.2.2.2.2.2.2.1 k0_t2 k0_t23
theorem k0_off168_inb : ∀ (v18 : BitVec 32) (v21 : BitVec 32) (k0_hw3 : k0_chk3 v18 v21) (k0_t2 : Fin k0_t2_loop.trips) (k0_t23 : Fin (k0_t23_loop v18 v21 k0_t2).trips), ∀ a, (k0_off168 v18 v21 k0_t2 k0_t23) a + S1x16.size a ≤ S200x128.size a := fun v18 v21 k0_hw3 k0_t2 k0_t23 => k0_hw3.1.2.2.2.2.2.2.2.2.2.2.2.2.2.2.2.2.2.2.2.2.1 k0_t2 k0_t23
theorem k0_off169_inb : ∀ (v18 : BitVec 32) (v21 : BitVec 32) (k0_hw3 : k0_chk3 v18 v21) (k0_t2 : Fin k0_t2_loop.trips) (k0_t23 : Fin (k0_t23_loop v18 v21 k0_t2).trips), ∀ a, (k0_off169 v18 v21 k0_t2 k0_t23) a + S1x16.size a ≤ S200x128.size a := fun v18 v21 k0_hw3 k0_t2 k0_t23 => k0_hw3.1.2.2.2.2.2.2.2.2.2.2.2.2.2.2.2.2.2.2.2.2.2.1 k0_t2 k0_t23
theorem k0_off170_inb : ∀ (v18 : BitVec 32) (v21 : BitVec 32) (k0_hw3 : k0_chk3 v18 v21) (k0_t2 : Fin k0_t2_loop.trips) (k0_t23 : Fin (k0_t23_loop v18 v21 k0_t2).trips), ∀ a, (k0_off170 v18 v21 k0_t2 k0_t23) a + S1x16.size a ≤ S200x128.size a := fun v18 v21 k0_hw3 k0_t2 k0_t23 => k0_hw3.1.2.2.2.2.2.2.2.2.2.2.2.2.2.2.2.2.2.2.2.2.2.2.1 k0_t2 k0_t23
theorem k0_off171_inb : ∀ (v18 : BitVec 32) (v21 : BitVec 32) (k0_hw3 : k0_chk3 v18 v21) (k0_t2 : Fin k0_t2_loop.trips) (k0_t23 : Fin (k0_t23_loop v18 v21 k0_t2).trips), ∀ a, (k0_off171 v18 v21 k0_t2 k0_t23) a + S1x16.size a ≤ S200x128.size a := fun v18 v21 k0_hw3 k0_t2 k0_t23 => k0_hw3.1.2.2.2.2.2.2.2.2.2.2.2.2.2.2.2.2.2.2.2.2.2.2.2.1 k0_t2 k0_t23
theorem k0_off172_inb : ∀ (v18 : BitVec 32) (v21 : BitVec 32) (k0_hw3 : k0_chk3 v18 v21) (k0_t2 : Fin k0_t2_loop.trips) (k0_t23 : Fin (k0_t23_loop v18 v21 k0_t2).trips), ∀ a, (k0_off172 v18 v21 k0_t2 k0_t23) a + S1x16.size a ≤ S200x128.size a := fun v18 v21 k0_hw3 k0_t2 k0_t23 => k0_hw3.1.2.2.2.2.2.2.2.2.2.2.2.2.2.2.2.2.2.2.2.2.2.2.2.2.1 k0_t2 k0_t23
theorem k0_off173_inb : ∀ (v18 : BitVec 32) (v21 : BitVec 32) (k0_hw3 : k0_chk3 v18 v21) (k0_t2 : Fin k0_t2_loop.trips) (k0_t23 : Fin (k0_t23_loop v18 v21 k0_t2).trips), ∀ a, (k0_off173 v18 v21 k0_t2 k0_t23) a + S1x16.size a ≤ S200x128.size a := fun v18 v21 k0_hw3 k0_t2 k0_t23 => k0_hw3.1.2.2.2.2.2.2.2.2.2.2.2.2.2.2.2.2.2.2.2.2.2.2.2.2.2.1 k0_t2 k0_t23
theorem k0_off174_inb : ∀ (v18 : BitVec 32) (v21 : BitVec 32) (k0_hw3 : k0_chk3 v18 v21) (k0_t2 : Fin k0_t2_loop.trips) (k0_t23 : Fin (k0_t23_loop v18 v21 k0_t2).trips), ∀ a, (k0_off174 v18 v21 k0_t2 k0_t23) a + S1x16.size a ≤ S200x128.size a := fun v18 v21 k0_hw3 k0_t2 k0_t23 => k0_hw3.1.2.2.2.2.2.2.2.2.2.2.2.2.2.2.2.2.2.2.2.2.2.2.2.2.2.2.1 k0_t2 k0_t23
theorem k0_t24_ok : ∀ (v18 : BitVec 32) (v21 : BitVec 32) (k0_hw3 : k0_chk3 v18 v21) (k0_t2 : Fin k0_t2_loop.trips), (k0_t24_loop v18 v21 k0_t2).OK := fun v18 v21 k0_hw3 k0_t2 => k0_hw3.1.2.2.2.2.2.2.2.2.2.2.2.2.2.2.2.2.2.2.2.2.2.2.2.2.2.2.2.1 k0_t2
theorem k0_off175_inb : ∀ (v18 : BitVec 32) (v21 : BitVec 32) (k0_hw3 : k0_chk3 v18 v21) (k0_t2 : Fin k0_t2_loop.trips) (k0_t24 : Fin (k0_t24_loop v18 v21 k0_t2).trips), ∀ a, (k0_off175 v18 v21 k0_t2 k0_t24) a + S1x16.size a ≤ S200x128.size a := fun v18 v21 k0_hw3 k0_t2 k0_t24 => k0_hw3.1.2.2.2.2.2.2.2.2.2.2.2.2.2.2.2.2.2.2.2.2.2.2.2.2.2.2.2.2.1 k0_t2 k0_t24
theorem k0_off176_inb : ∀ (v18 : BitVec 32) (v21 : BitVec 32) (k0_hw3 : k0_chk3 v18 v21) (k0_t2 : Fin k0_t2_loop.trips) (k0_t24 : Fin (k0_t24_loop v18 v21 k0_t2).trips), ∀ a, (k0_off176 v18 v21 k0_t2 k0_t24) a + S1x16.size a ≤ S200x128.size a := fun v18 v21 k0_hw3 k0_t2 k0_t24 => k0_hw3.1.2.2.2.2.2.2.2.2.2.2.2.2.2.2.2.2.2.2.2.2.2.2.2.2.2.2.2.2.2.1 k0_t2 k0_t24
theorem k0_off177_inb : ∀ (v18 : BitVec 32) (v21 : BitVec 32) (k0_hw3 : k0_chk3 v18 v21) (k0_t2 : Fin k0_t2_loop.trips) (k0_t24 : Fin (k0_t24_loop v18 v21 k0_t2).trips), ∀ a, (k0_off177 v18 v21 k0_t2 k0_t24) a + S1x16.size a ≤ S200x128.size a := fun v18 v21 k0_hw3 k0_t2 k0_t24 => k0_hw3.1.2.2.2.2.2.2.2.2.2.2.2.2.2.2.2.2.2.2.2.2.2.2.2.2.2.2.2.2.2.2.1 k0_t2 k0_t24
theorem k0_off178_inb : ∀ (v18 : BitVec 32) (v21 : BitVec 32) (k0_hw3 : k0_chk3 v18 v21) (k0_t2 : Fin k0_t2_loop.trips) (k0_t24 : Fin (k0_t24_loop v18 v21 k0_t2).trips), ∀ a, (k0_off178 v18 v21 k0_t2 k0_t24) a + S1x16.size a ≤ S200x128.size a := fun v18 v21 k0_hw3 k0_t2 k0_t24 => k0_hw3.1.2.2.2.2.2.2.2.2.2.2.2.2.2.2.2.2.2.2.2.2.2.2.2.2.2.2.2.2.2.2.2 k0_t2 k0_t24
theorem k0_off179_inb : ∀ (v18 : BitVec 32) (v21 : BitVec 32) (k0_hw3 : k0_chk3 v18 v21) (k0_t2 : Fin k0_t2_loop.trips) (k0_t24 : Fin (k0_t24_loop v18 v21 k0_t2).trips), ∀ a, (k0_off179 v18 v21 k0_t2 k0_t24) a + S1x16.size a ≤ S200x128.size a := fun v18 v21 k0_hw3 k0_t2 k0_t24 => k0_hw3.2.1 k0_t2 k0_t24
theorem k0_off180_inb : ∀ (v18 : BitVec 32) (v21 : BitVec 32) (k0_hw3 : k0_chk3 v18 v21) (k0_t2 : Fin k0_t2_loop.trips) (k0_t24 : Fin (k0_t24_loop v18 v21 k0_t2).trips), ∀ a, (k0_off180 v18 v21 k0_t2 k0_t24) a + S1x16.size a ≤ S200x128.size a := fun v18 v21 k0_hw3 k0_t2 k0_t24 => k0_hw3.2.2.1 k0_t2 k0_t24
theorem k0_off181_inb : ∀ (v18 : BitVec 32) (v21 : BitVec 32) (k0_hw3 : k0_chk3 v18 v21) (k0_t2 : Fin k0_t2_loop.trips) (k0_t24 : Fin (k0_t24_loop v18 v21 k0_t2).trips), ∀ a, (k0_off181 v18 v21 k0_t2 k0_t24) a + S1x16.size a ≤ S200x128.size a := fun v18 v21 k0_hw3 k0_t2 k0_t24 => k0_hw3.2.2.2.1 k0_t2 k0_t24
theorem k0_off182_inb : ∀ (v18 : BitVec 32) (v21 : BitVec 32) (k0_hw3 : k0_chk3 v18 v21) (k0_t2 : Fin k0_t2_loop.trips) (k0_t24 : Fin (k0_t24_loop v18 v21 k0_t2).trips), ∀ a, (k0_off182 v18 v21 k0_t2 k0_t24) a + S1x16.size a ≤ S200x128.size a := fun v18 v21 k0_hw3 k0_t2 k0_t24 => k0_hw3.2.2.2.2 k0_t2 k0_t24

@[reducible] def k0_t25_loop (v21 : BitVec 32) (v24 : BitVec 32) (k0_t2 : Fin k0_t2_loop.trips) : Scf.Loop 32 :=
  let c200_i32_405 : BitVec 32 := 200#32
  let c0_i32_404 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v545 : BitVec 32 := Scalar.subi v21 v496
  let v546 : BitVec 32 := Scalar.maxsi c0_i32_404 v545
  let v547 : BitVec 32 := Scalar.minsi c200_i32_405 v546
  let c200_i32_406 : BitVec 32 := 200#32
  let v548 : BitVec 32 := Scalar.subi v24 v496
  let v549 : BitVec 32 := Scalar.maxsi v547 v548
  let v550 : BitVec 32 := Scalar.minsi c200_i32_406 v549
  let v551 : BitVec 32 := Scalar.subi v550 v547
  let c1_i32_408 : BitVec 32 := 1#32
  let v553 : BitVec 32 := Scalar.divsi v551 c1_i32_408
  let v554 : BitVec 32 := Scalar.muli v553 c1_i32_408
  let v555 : BitVec 32 := Scalar.addi v547 v554
  let c1_i32_409 : BitVec 32 := 1#32
  ⟨v547, v555, c1_i32_409⟩
def k0_off183 (v21 : BitVec 32) (v24 : BitVec 32) (k0_t2 : Fin k0_t2_loop.trips) (k0_t25 : Fin (k0_t25_loop v21 v24 k0_t2).trips) : Fin 2 → Nat :=
  let c200_i32_405 : BitVec 32 := 200#32
  let c0_i32_404 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v545 : BitVec 32 := Scalar.subi v21 v496
  let v546 : BitVec 32 := Scalar.maxsi c0_i32_404 v545
  let v547 : BitVec 32 := Scalar.minsi c200_i32_405 v546
  let c1_i32_409 : BitVec 32 := 1#32
  let arg16 : BitVec 32 := Scf.iv v547 c1_i32_409 k0_t25
  let v630 : Index := Scalar.indexCast arg16
  let c0_449 : Index := 0#32
  ![v630.toNat, 0]
def k0_off184 (v21 : BitVec 32) (v24 : BitVec 32) (k0_t2 : Fin k0_t2_loop.trips) (k0_t25 : Fin (k0_t25_loop v21 v24 k0_t2).trips) : Fin 2 → Nat :=
  let c200_i32_405 : BitVec 32 := 200#32
  let c0_i32_404 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v545 : BitVec 32 := Scalar.subi v21 v496
  let v546 : BitVec 32 := Scalar.maxsi c0_i32_404 v545
  let v547 : BitVec 32 := Scalar.minsi c200_i32_405 v546
  let c1_i32_409 : BitVec 32 := 1#32
  let arg16 : BitVec 32 := Scf.iv v547 c1_i32_409 k0_t25
  let v637 : Index := Scalar.indexCast arg16
  let c16_452 : Index := 16#32
  ![v637.toNat, 16]
def k0_off185 (v21 : BitVec 32) (v24 : BitVec 32) (k0_t2 : Fin k0_t2_loop.trips) (k0_t25 : Fin (k0_t25_loop v21 v24 k0_t2).trips) : Fin 2 → Nat :=
  let c200_i32_405 : BitVec 32 := 200#32
  let c0_i32_404 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v545 : BitVec 32 := Scalar.subi v21 v496
  let v546 : BitVec 32 := Scalar.maxsi c0_i32_404 v545
  let v547 : BitVec 32 := Scalar.minsi c200_i32_405 v546
  let c1_i32_409 : BitVec 32 := 1#32
  let arg16 : BitVec 32 := Scf.iv v547 c1_i32_409 k0_t25
  let v644 : Index := Scalar.indexCast arg16
  let c32_455 : Index := 32#32
  ![v644.toNat, 32]
def k0_off186 (v21 : BitVec 32) (v24 : BitVec 32) (k0_t2 : Fin k0_t2_loop.trips) (k0_t25 : Fin (k0_t25_loop v21 v24 k0_t2).trips) : Fin 2 → Nat :=
  let c200_i32_405 : BitVec 32 := 200#32
  let c0_i32_404 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v545 : BitVec 32 := Scalar.subi v21 v496
  let v546 : BitVec 32 := Scalar.maxsi c0_i32_404 v545
  let v547 : BitVec 32 := Scalar.minsi c200_i32_405 v546
  let c1_i32_409 : BitVec 32 := 1#32
  let arg16 : BitVec 32 := Scf.iv v547 c1_i32_409 k0_t25
  let v651 : Index := Scalar.indexCast arg16
  let c48_458 : Index := 48#32
  ![v651.toNat, 48]
def k0_off187 (v21 : BitVec 32) (v24 : BitVec 32) (k0_t2 : Fin k0_t2_loop.trips) (k0_t25 : Fin (k0_t25_loop v21 v24 k0_t2).trips) : Fin 2 → Nat :=
  let c200_i32_405 : BitVec 32 := 200#32
  let c0_i32_404 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v545 : BitVec 32 := Scalar.subi v21 v496
  let v546 : BitVec 32 := Scalar.maxsi c0_i32_404 v545
  let v547 : BitVec 32 := Scalar.minsi c200_i32_405 v546
  let c1_i32_409 : BitVec 32 := 1#32
  let arg16 : BitVec 32 := Scf.iv v547 c1_i32_409 k0_t25
  let v658 : Index := Scalar.indexCast arg16
  let c64_461 : Index := 64#32
  ![v658.toNat, 64]
def k0_off188 (v21 : BitVec 32) (v24 : BitVec 32) (k0_t2 : Fin k0_t2_loop.trips) (k0_t25 : Fin (k0_t25_loop v21 v24 k0_t2).trips) : Fin 2 → Nat :=
  let c200_i32_405 : BitVec 32 := 200#32
  let c0_i32_404 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v545 : BitVec 32 := Scalar.subi v21 v496
  let v546 : BitVec 32 := Scalar.maxsi c0_i32_404 v545
  let v547 : BitVec 32 := Scalar.minsi c200_i32_405 v546
  let c1_i32_409 : BitVec 32 := 1#32
  let arg16 : BitVec 32 := Scf.iv v547 c1_i32_409 k0_t25
  let v665 : Index := Scalar.indexCast arg16
  let c80_464 : Index := 80#32
  ![v665.toNat, 80]
def k0_off189 (v21 : BitVec 32) (v24 : BitVec 32) (k0_t2 : Fin k0_t2_loop.trips) (k0_t25 : Fin (k0_t25_loop v21 v24 k0_t2).trips) : Fin 2 → Nat :=
  let c200_i32_405 : BitVec 32 := 200#32
  let c0_i32_404 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v545 : BitVec 32 := Scalar.subi v21 v496
  let v546 : BitVec 32 := Scalar.maxsi c0_i32_404 v545
  let v547 : BitVec 32 := Scalar.minsi c200_i32_405 v546
  let c1_i32_409 : BitVec 32 := 1#32
  let arg16 : BitVec 32 := Scf.iv v547 c1_i32_409 k0_t25
  let v672 : Index := Scalar.indexCast arg16
  let c96_467 : Index := 96#32
  ![v672.toNat, 96]
def k0_off190 (v21 : BitVec 32) (v24 : BitVec 32) (k0_t2 : Fin k0_t2_loop.trips) (k0_t25 : Fin (k0_t25_loop v21 v24 k0_t2).trips) : Fin 2 → Nat :=
  let c200_i32_405 : BitVec 32 := 200#32
  let c0_i32_404 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v545 : BitVec 32 := Scalar.subi v21 v496
  let v546 : BitVec 32 := Scalar.maxsi c0_i32_404 v545
  let v547 : BitVec 32 := Scalar.minsi c200_i32_405 v546
  let c1_i32_409 : BitVec 32 := 1#32
  let arg16 : BitVec 32 := Scf.iv v547 c1_i32_409 k0_t25
  let v679 : Index := Scalar.indexCast arg16
  let c112_470 : Index := 112#32
  ![v679.toNat, 112]
@[reducible] def k0_t26_loop (v21 : BitVec 32) (v24 : BitVec 32) (k0_t2 : Fin k0_t2_loop.trips) : Scf.Loop 32 :=
  let c200_i32_405 : BitVec 32 := 200#32
  let c0_i32_404 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v545 : BitVec 32 := Scalar.subi v21 v496
  let v546 : BitVec 32 := Scalar.maxsi c0_i32_404 v545
  let v547 : BitVec 32 := Scalar.minsi c200_i32_405 v546
  let c200_i32_406 : BitVec 32 := 200#32
  let v548 : BitVec 32 := Scalar.subi v24 v496
  let v549 : BitVec 32 := Scalar.maxsi v547 v548
  let v550 : BitVec 32 := Scalar.minsi c200_i32_406 v549
  let v551 : BitVec 32 := Scalar.subi v550 v547
  let c1_i32_408 : BitVec 32 := 1#32
  let v553 : BitVec 32 := Scalar.divsi v551 c1_i32_408
  let v554 : BitVec 32 := Scalar.muli v553 c1_i32_408
  let v555 : BitVec 32 := Scalar.addi v547 v554
  let v552 : BitVec 32 := Scalar.addi v547 v551
  let c1_i32_410 : BitVec 32 := 1#32
  ⟨v555, v552, c1_i32_410⟩
def k0_off191 (v21 : BitVec 32) (v24 : BitVec 32) (k0_t2 : Fin k0_t2_loop.trips) (k0_t26 : Fin (k0_t26_loop v21 v24 k0_t2).trips) : Fin 2 → Nat :=
  let c200_i32_405 : BitVec 32 := 200#32
  let c0_i32_404 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v545 : BitVec 32 := Scalar.subi v21 v496
  let v546 : BitVec 32 := Scalar.maxsi c0_i32_404 v545
  let v547 : BitVec 32 := Scalar.minsi c200_i32_405 v546
  let c200_i32_406 : BitVec 32 := 200#32
  let v548 : BitVec 32 := Scalar.subi v24 v496
  let v549 : BitVec 32 := Scalar.maxsi v547 v548
  let v550 : BitVec 32 := Scalar.minsi c200_i32_406 v549
  let v551 : BitVec 32 := Scalar.subi v550 v547
  let c1_i32_408 : BitVec 32 := 1#32
  let v553 : BitVec 32 := Scalar.divsi v551 c1_i32_408
  let v554 : BitVec 32 := Scalar.muli v553 c1_i32_408
  let v555 : BitVec 32 := Scalar.addi v547 v554
  let c1_i32_410 : BitVec 32 := 1#32
  let arg16 : BitVec 32 := Scf.iv v555 c1_i32_410 k0_t26
  let v630 : Index := Scalar.indexCast arg16
  let c0_449 : Index := 0#32
  ![v630.toNat, 0]
def k0_off192 (v21 : BitVec 32) (v24 : BitVec 32) (k0_t2 : Fin k0_t2_loop.trips) (k0_t26 : Fin (k0_t26_loop v21 v24 k0_t2).trips) : Fin 2 → Nat :=
  let c200_i32_405 : BitVec 32 := 200#32
  let c0_i32_404 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v545 : BitVec 32 := Scalar.subi v21 v496
  let v546 : BitVec 32 := Scalar.maxsi c0_i32_404 v545
  let v547 : BitVec 32 := Scalar.minsi c200_i32_405 v546
  let c200_i32_406 : BitVec 32 := 200#32
  let v548 : BitVec 32 := Scalar.subi v24 v496
  let v549 : BitVec 32 := Scalar.maxsi v547 v548
  let v550 : BitVec 32 := Scalar.minsi c200_i32_406 v549
  let v551 : BitVec 32 := Scalar.subi v550 v547
  let c1_i32_408 : BitVec 32 := 1#32
  let v553 : BitVec 32 := Scalar.divsi v551 c1_i32_408
  let v554 : BitVec 32 := Scalar.muli v553 c1_i32_408
  let v555 : BitVec 32 := Scalar.addi v547 v554
  let c1_i32_410 : BitVec 32 := 1#32
  let arg16 : BitVec 32 := Scf.iv v555 c1_i32_410 k0_t26
  let v637 : Index := Scalar.indexCast arg16
  let c16_452 : Index := 16#32
  ![v637.toNat, 16]
def k0_off193 (v21 : BitVec 32) (v24 : BitVec 32) (k0_t2 : Fin k0_t2_loop.trips) (k0_t26 : Fin (k0_t26_loop v21 v24 k0_t2).trips) : Fin 2 → Nat :=
  let c200_i32_405 : BitVec 32 := 200#32
  let c0_i32_404 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v545 : BitVec 32 := Scalar.subi v21 v496
  let v546 : BitVec 32 := Scalar.maxsi c0_i32_404 v545
  let v547 : BitVec 32 := Scalar.minsi c200_i32_405 v546
  let c200_i32_406 : BitVec 32 := 200#32
  let v548 : BitVec 32 := Scalar.subi v24 v496
  let v549 : BitVec 32 := Scalar.maxsi v547 v548
  let v550 : BitVec 32 := Scalar.minsi c200_i32_406 v549
  let v551 : BitVec 32 := Scalar.subi v550 v547
  let c1_i32_408 : BitVec 32 := 1#32
  let v553 : BitVec 32 := Scalar.divsi v551 c1_i32_408
  let v554 : BitVec 32 := Scalar.muli v553 c1_i32_408
  let v555 : BitVec 32 := Scalar.addi v547 v554
  let c1_i32_410 : BitVec 32 := 1#32
  let arg16 : BitVec 32 := Scf.iv v555 c1_i32_410 k0_t26
  let v644 : Index := Scalar.indexCast arg16
  let c32_455 : Index := 32#32
  ![v644.toNat, 32]
def k0_off194 (v21 : BitVec 32) (v24 : BitVec 32) (k0_t2 : Fin k0_t2_loop.trips) (k0_t26 : Fin (k0_t26_loop v21 v24 k0_t2).trips) : Fin 2 → Nat :=
  let c200_i32_405 : BitVec 32 := 200#32
  let c0_i32_404 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v545 : BitVec 32 := Scalar.subi v21 v496
  let v546 : BitVec 32 := Scalar.maxsi c0_i32_404 v545
  let v547 : BitVec 32 := Scalar.minsi c200_i32_405 v546
  let c200_i32_406 : BitVec 32 := 200#32
  let v548 : BitVec 32 := Scalar.subi v24 v496
  let v549 : BitVec 32 := Scalar.maxsi v547 v548
  let v550 : BitVec 32 := Scalar.minsi c200_i32_406 v549
  let v551 : BitVec 32 := Scalar.subi v550 v547
  let c1_i32_408 : BitVec 32 := 1#32
  let v553 : BitVec 32 := Scalar.divsi v551 c1_i32_408
  let v554 : BitVec 32 := Scalar.muli v553 c1_i32_408
  let v555 : BitVec 32 := Scalar.addi v547 v554
  let c1_i32_410 : BitVec 32 := 1#32
  let arg16 : BitVec 32 := Scf.iv v555 c1_i32_410 k0_t26
  let v651 : Index := Scalar.indexCast arg16
  let c48_458 : Index := 48#32
  ![v651.toNat, 48]
def k0_off195 (v21 : BitVec 32) (v24 : BitVec 32) (k0_t2 : Fin k0_t2_loop.trips) (k0_t26 : Fin (k0_t26_loop v21 v24 k0_t2).trips) : Fin 2 → Nat :=
  let c200_i32_405 : BitVec 32 := 200#32
  let c0_i32_404 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v545 : BitVec 32 := Scalar.subi v21 v496
  let v546 : BitVec 32 := Scalar.maxsi c0_i32_404 v545
  let v547 : BitVec 32 := Scalar.minsi c200_i32_405 v546
  let c200_i32_406 : BitVec 32 := 200#32
  let v548 : BitVec 32 := Scalar.subi v24 v496
  let v549 : BitVec 32 := Scalar.maxsi v547 v548
  let v550 : BitVec 32 := Scalar.minsi c200_i32_406 v549
  let v551 : BitVec 32 := Scalar.subi v550 v547
  let c1_i32_408 : BitVec 32 := 1#32
  let v553 : BitVec 32 := Scalar.divsi v551 c1_i32_408
  let v554 : BitVec 32 := Scalar.muli v553 c1_i32_408
  let v555 : BitVec 32 := Scalar.addi v547 v554
  let c1_i32_410 : BitVec 32 := 1#32
  let arg16 : BitVec 32 := Scf.iv v555 c1_i32_410 k0_t26
  let v658 : Index := Scalar.indexCast arg16
  let c64_461 : Index := 64#32
  ![v658.toNat, 64]
def k0_off196 (v21 : BitVec 32) (v24 : BitVec 32) (k0_t2 : Fin k0_t2_loop.trips) (k0_t26 : Fin (k0_t26_loop v21 v24 k0_t2).trips) : Fin 2 → Nat :=
  let c200_i32_405 : BitVec 32 := 200#32
  let c0_i32_404 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v545 : BitVec 32 := Scalar.subi v21 v496
  let v546 : BitVec 32 := Scalar.maxsi c0_i32_404 v545
  let v547 : BitVec 32 := Scalar.minsi c200_i32_405 v546
  let c200_i32_406 : BitVec 32 := 200#32
  let v548 : BitVec 32 := Scalar.subi v24 v496
  let v549 : BitVec 32 := Scalar.maxsi v547 v548
  let v550 : BitVec 32 := Scalar.minsi c200_i32_406 v549
  let v551 : BitVec 32 := Scalar.subi v550 v547
  let c1_i32_408 : BitVec 32 := 1#32
  let v553 : BitVec 32 := Scalar.divsi v551 c1_i32_408
  let v554 : BitVec 32 := Scalar.muli v553 c1_i32_408
  let v555 : BitVec 32 := Scalar.addi v547 v554
  let c1_i32_410 : BitVec 32 := 1#32
  let arg16 : BitVec 32 := Scf.iv v555 c1_i32_410 k0_t26
  let v665 : Index := Scalar.indexCast arg16
  let c80_464 : Index := 80#32
  ![v665.toNat, 80]
def k0_off197 (v21 : BitVec 32) (v24 : BitVec 32) (k0_t2 : Fin k0_t2_loop.trips) (k0_t26 : Fin (k0_t26_loop v21 v24 k0_t2).trips) : Fin 2 → Nat :=
  let c200_i32_405 : BitVec 32 := 200#32
  let c0_i32_404 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v545 : BitVec 32 := Scalar.subi v21 v496
  let v546 : BitVec 32 := Scalar.maxsi c0_i32_404 v545
  let v547 : BitVec 32 := Scalar.minsi c200_i32_405 v546
  let c200_i32_406 : BitVec 32 := 200#32
  let v548 : BitVec 32 := Scalar.subi v24 v496
  let v549 : BitVec 32 := Scalar.maxsi v547 v548
  let v550 : BitVec 32 := Scalar.minsi c200_i32_406 v549
  let v551 : BitVec 32 := Scalar.subi v550 v547
  let c1_i32_408 : BitVec 32 := 1#32
  let v553 : BitVec 32 := Scalar.divsi v551 c1_i32_408
  let v554 : BitVec 32 := Scalar.muli v553 c1_i32_408
  let v555 : BitVec 32 := Scalar.addi v547 v554
  let c1_i32_410 : BitVec 32 := 1#32
  let arg16 : BitVec 32 := Scf.iv v555 c1_i32_410 k0_t26
  let v672 : Index := Scalar.indexCast arg16
  let c96_467 : Index := 96#32
  ![v672.toNat, 96]
def k0_off198 (v21 : BitVec 32) (v24 : BitVec 32) (k0_t2 : Fin k0_t2_loop.trips) (k0_t26 : Fin (k0_t26_loop v21 v24 k0_t2).trips) : Fin 2 → Nat :=
  let c200_i32_405 : BitVec 32 := 200#32
  let c0_i32_404 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v545 : BitVec 32 := Scalar.subi v21 v496
  let v546 : BitVec 32 := Scalar.maxsi c0_i32_404 v545
  let v547 : BitVec 32 := Scalar.minsi c200_i32_405 v546
  let c200_i32_406 : BitVec 32 := 200#32
  let v548 : BitVec 32 := Scalar.subi v24 v496
  let v549 : BitVec 32 := Scalar.maxsi v547 v548
  let v550 : BitVec 32 := Scalar.minsi c200_i32_406 v549
  let v551 : BitVec 32 := Scalar.subi v550 v547
  let c1_i32_408 : BitVec 32 := 1#32
  let v553 : BitVec 32 := Scalar.divsi v551 c1_i32_408
  let v554 : BitVec 32 := Scalar.muli v553 c1_i32_408
  let v555 : BitVec 32 := Scalar.addi v547 v554
  let c1_i32_410 : BitVec 32 := 1#32
  let arg16 : BitVec 32 := Scf.iv v555 c1_i32_410 k0_t26
  let v679 : Index := Scalar.indexCast arg16
  let c112_470 : Index := 112#32
  ![v679.toNat, 112]

def k0_chk4_0 (v21 : BitVec 32) (v24 : BitVec 32) : Prop :=
  (∀ k0_t2 : Fin k0_t2_loop.trips, (k0_t9_loop v21 v24 k0_t2).OK) ∧
  (∀ (k0_t2 : Fin k0_t2_loop.trips) (k0_t9 : Fin (k0_t9_loop v21 v24 k0_t2).trips), ∀ a, (k0_off53 v21 v24 k0_t2 k0_t9) a + S1x16.size a ≤ S200x128.size a) ∧
  (∀ (k0_t2 : Fin k0_t2_loop.trips) (k0_t9 : Fin (k0_t9_loop v21 v24 k0_t2).trips), ∀ a, (k0_off54 v21 v24 k0_t2 k0_t9) a + S1x16.size a ≤ S200x128.size a) ∧
  (∀ (k0_t2 : Fin k0_t2_loop.trips) (k0_t9 : Fin (k0_t9_loop v21 v24 k0_t2).trips), ∀ a, (k0_off55 v21 v24 k0_t2 k0_t9) a + S1x16.size a ≤ S200x128.size a) ∧
  (∀ (k0_t2 : Fin k0_t2_loop.trips) (k0_t9 : Fin (k0_t9_loop v21 v24 k0_t2).trips), ∀ a, (k0_off56 v21 v24 k0_t2 k0_t9) a + S1x16.size a ≤ S200x128.size a) ∧
  (∀ (k0_t2 : Fin k0_t2_loop.trips) (k0_t9 : Fin (k0_t9_loop v21 v24 k0_t2).trips), ∀ a, (k0_off57 v21 v24 k0_t2 k0_t9) a + S1x16.size a ≤ S200x128.size a) ∧
  (∀ (k0_t2 : Fin k0_t2_loop.trips) (k0_t9 : Fin (k0_t9_loop v21 v24 k0_t2).trips), ∀ a, (k0_off58 v21 v24 k0_t2 k0_t9) a + S1x16.size a ≤ S200x128.size a) ∧
  (∀ (k0_t2 : Fin k0_t2_loop.trips) (k0_t9 : Fin (k0_t9_loop v21 v24 k0_t2).trips), ∀ a, (k0_off59 v21 v24 k0_t2 k0_t9) a + S1x16.size a ≤ S200x128.size a) ∧
  (∀ (k0_t2 : Fin k0_t2_loop.trips) (k0_t9 : Fin (k0_t9_loop v21 v24 k0_t2).trips), ∀ a, (k0_off60 v21 v24 k0_t2 k0_t9) a + S1x16.size a ≤ S200x128.size a) ∧
  (∀ k0_t2 : Fin k0_t2_loop.trips, (k0_t10_loop v21 v24 k0_t2).OK) ∧
  (∀ (k0_t2 : Fin k0_t2_loop.trips) (k0_t10 : Fin (k0_t10_loop v21 v24 k0_t2).trips), ∀ a, (k0_off61 v21 v24 k0_t2 k0_t10) a + S1x16.size a ≤ S200x128.size a) ∧
  (∀ (k0_t2 : Fin k0_t2_loop.trips) (k0_t10 : Fin (k0_t10_loop v21 v24 k0_t2).trips), ∀ a, (k0_off62 v21 v24 k0_t2 k0_t10) a + S1x16.size a ≤ S200x128.size a) ∧
  (∀ (k0_t2 : Fin k0_t2_loop.trips) (k0_t10 : Fin (k0_t10_loop v21 v24 k0_t2).trips), ∀ a, (k0_off63 v21 v24 k0_t2 k0_t10) a + S1x16.size a ≤ S200x128.size a) ∧
  (∀ (k0_t2 : Fin k0_t2_loop.trips) (k0_t10 : Fin (k0_t10_loop v21 v24 k0_t2).trips), ∀ a, (k0_off64 v21 v24 k0_t2 k0_t10) a + S1x16.size a ≤ S200x128.size a) ∧
  (∀ (k0_t2 : Fin k0_t2_loop.trips) (k0_t10 : Fin (k0_t10_loop v21 v24 k0_t2).trips), ∀ a, (k0_off65 v21 v24 k0_t2 k0_t10) a + S1x16.size a ≤ S200x128.size a) ∧
  (∀ (k0_t2 : Fin k0_t2_loop.trips) (k0_t10 : Fin (k0_t10_loop v21 v24 k0_t2).trips), ∀ a, (k0_off66 v21 v24 k0_t2 k0_t10) a + S1x16.size a ≤ S200x128.size a) ∧
  (∀ (k0_t2 : Fin k0_t2_loop.trips) (k0_t10 : Fin (k0_t10_loop v21 v24 k0_t2).trips), ∀ a, (k0_off67 v21 v24 k0_t2 k0_t10) a + S1x16.size a ≤ S200x128.size a) ∧
  (∀ (k0_t2 : Fin k0_t2_loop.trips) (k0_t10 : Fin (k0_t10_loop v21 v24 k0_t2).trips), ∀ a, (k0_off68 v21 v24 k0_t2 k0_t10) a + S1x16.size a ≤ S200x128.size a) ∧
  (∀ k0_t2 : Fin k0_t2_loop.trips, (k0_t25_loop v21 v24 k0_t2).OK) ∧
  (∀ (k0_t2 : Fin k0_t2_loop.trips) (k0_t25 : Fin (k0_t25_loop v21 v24 k0_t2).trips), ∀ a, (k0_off183 v21 v24 k0_t2 k0_t25) a + S1x16.size a ≤ S200x128.size a) ∧
  (∀ (k0_t2 : Fin k0_t2_loop.trips) (k0_t25 : Fin (k0_t25_loop v21 v24 k0_t2).trips), ∀ a, (k0_off184 v21 v24 k0_t2 k0_t25) a + S1x16.size a ≤ S200x128.size a) ∧
  (∀ (k0_t2 : Fin k0_t2_loop.trips) (k0_t25 : Fin (k0_t25_loop v21 v24 k0_t2).trips), ∀ a, (k0_off185 v21 v24 k0_t2 k0_t25) a + S1x16.size a ≤ S200x128.size a) ∧
  (∀ (k0_t2 : Fin k0_t2_loop.trips) (k0_t25 : Fin (k0_t25_loop v21 v24 k0_t2).trips), ∀ a, (k0_off186 v21 v24 k0_t2 k0_t25) a + S1x16.size a ≤ S200x128.size a) ∧
  (∀ (k0_t2 : Fin k0_t2_loop.trips) (k0_t25 : Fin (k0_t25_loop v21 v24 k0_t2).trips), ∀ a, (k0_off187 v21 v24 k0_t2 k0_t25) a + S1x16.size a ≤ S200x128.size a) ∧
  (∀ (k0_t2 : Fin k0_t2_loop.trips) (k0_t25 : Fin (k0_t25_loop v21 v24 k0_t2).trips), ∀ a, (k0_off188 v21 v24 k0_t2 k0_t25) a + S1x16.size a ≤ S200x128.size a) ∧
  (∀ (k0_t2 : Fin k0_t2_loop.trips) (k0_t25 : Fin (k0_t25_loop v21 v24 k0_t2).trips), ∀ a, (k0_off189 v21 v24 k0_t2 k0_t25) a + S1x16.size a ≤ S200x128.size a) ∧
  (∀ (k0_t2 : Fin k0_t2_loop.trips) (k0_t25 : Fin (k0_t25_loop v21 v24 k0_t2).trips), ∀ a, (k0_off190 v21 v24 k0_t2 k0_t25) a + S1x16.size a ≤ S200x128.size a) ∧
  (∀ k0_t2 : Fin k0_t2_loop.trips, (k0_t26_loop v21 v24 k0_t2).OK) ∧
  (∀ (k0_t2 : Fin k0_t2_loop.trips) (k0_t26 : Fin (k0_t26_loop v21 v24 k0_t2).trips), ∀ a, (k0_off191 v21 v24 k0_t2 k0_t26) a + S1x16.size a ≤ S200x128.size a) ∧
  (∀ (k0_t2 : Fin k0_t2_loop.trips) (k0_t26 : Fin (k0_t26_loop v21 v24 k0_t2).trips), ∀ a, (k0_off192 v21 v24 k0_t2 k0_t26) a + S1x16.size a ≤ S200x128.size a) ∧
  (∀ (k0_t2 : Fin k0_t2_loop.trips) (k0_t26 : Fin (k0_t26_loop v21 v24 k0_t2).trips), ∀ a, (k0_off193 v21 v24 k0_t2 k0_t26) a + S1x16.size a ≤ S200x128.size a) ∧
  (∀ (k0_t2 : Fin k0_t2_loop.trips) (k0_t26 : Fin (k0_t26_loop v21 v24 k0_t2).trips), ∀ a, (k0_off194 v21 v24 k0_t2 k0_t26) a + S1x16.size a ≤ S200x128.size a)
def k0_chk4_1 (v21 : BitVec 32) (v24 : BitVec 32) : Prop :=
  (∀ (k0_t2 : Fin k0_t2_loop.trips) (k0_t26 : Fin (k0_t26_loop v21 v24 k0_t2).trips), ∀ a, (k0_off195 v21 v24 k0_t2 k0_t26) a + S1x16.size a ≤ S200x128.size a) ∧
  (∀ (k0_t2 : Fin k0_t2_loop.trips) (k0_t26 : Fin (k0_t26_loop v21 v24 k0_t2).trips), ∀ a, (k0_off196 v21 v24 k0_t2 k0_t26) a + S1x16.size a ≤ S200x128.size a) ∧
  (∀ (k0_t2 : Fin k0_t2_loop.trips) (k0_t26 : Fin (k0_t26_loop v21 v24 k0_t2).trips), ∀ a, (k0_off197 v21 v24 k0_t2 k0_t26) a + S1x16.size a ≤ S200x128.size a) ∧
  (∀ (k0_t2 : Fin k0_t2_loop.trips) (k0_t26 : Fin (k0_t26_loop v21 v24 k0_t2).trips), ∀ a, (k0_off198 v21 v24 k0_t2 k0_t26) a + S1x16.size a ≤ S200x128.size a)
def k0_chk4 (v21 : BitVec 32) (v24 : BitVec 32) : Prop :=
  k0_chk4_0 v21 v24 ∧
  k0_chk4_1 v21 v24
theorem k0_t9_ok : ∀ (v21 : BitVec 32) (v24 : BitVec 32) (k0_hw4 : k0_chk4 v21 v24) (k0_t2 : Fin k0_t2_loop.trips), (k0_t9_loop v21 v24 k0_t2).OK := fun v21 v24 k0_hw4 k0_t2 => k0_hw4.1.1 k0_t2
theorem k0_off53_inb : ∀ (v21 : BitVec 32) (v24 : BitVec 32) (k0_hw4 : k0_chk4 v21 v24) (k0_t2 : Fin k0_t2_loop.trips) (k0_t9 : Fin (k0_t9_loop v21 v24 k0_t2).trips), ∀ a, (k0_off53 v21 v24 k0_t2 k0_t9) a + S1x16.size a ≤ S200x128.size a := fun v21 v24 k0_hw4 k0_t2 k0_t9 => k0_hw4.1.2.1 k0_t2 k0_t9
theorem k0_off54_inb : ∀ (v21 : BitVec 32) (v24 : BitVec 32) (k0_hw4 : k0_chk4 v21 v24) (k0_t2 : Fin k0_t2_loop.trips) (k0_t9 : Fin (k0_t9_loop v21 v24 k0_t2).trips), ∀ a, (k0_off54 v21 v24 k0_t2 k0_t9) a + S1x16.size a ≤ S200x128.size a := fun v21 v24 k0_hw4 k0_t2 k0_t9 => k0_hw4.1.2.2.1 k0_t2 k0_t9
theorem k0_off55_inb : ∀ (v21 : BitVec 32) (v24 : BitVec 32) (k0_hw4 : k0_chk4 v21 v24) (k0_t2 : Fin k0_t2_loop.trips) (k0_t9 : Fin (k0_t9_loop v21 v24 k0_t2).trips), ∀ a, (k0_off55 v21 v24 k0_t2 k0_t9) a + S1x16.size a ≤ S200x128.size a := fun v21 v24 k0_hw4 k0_t2 k0_t9 => k0_hw4.1.2.2.2.1 k0_t2 k0_t9
theorem k0_off56_inb : ∀ (v21 : BitVec 32) (v24 : BitVec 32) (k0_hw4 : k0_chk4 v21 v24) (k0_t2 : Fin k0_t2_loop.trips) (k0_t9 : Fin (k0_t9_loop v21 v24 k0_t2).trips), ∀ a, (k0_off56 v21 v24 k0_t2 k0_t9) a + S1x16.size a ≤ S200x128.size a := fun v21 v24 k0_hw4 k0_t2 k0_t9 => k0_hw4.1.2.2.2.2.1 k0_t2 k0_t9
theorem k0_off57_inb : ∀ (v21 : BitVec 32) (v24 : BitVec 32) (k0_hw4 : k0_chk4 v21 v24) (k0_t2 : Fin k0_t2_loop.trips) (k0_t9 : Fin (k0_t9_loop v21 v24 k0_t2).trips), ∀ a, (k0_off57 v21 v24 k0_t2 k0_t9) a + S1x16.size a ≤ S200x128.size a := fun v21 v24 k0_hw4 k0_t2 k0_t9 => k0_hw4.1.2.2.2.2.2.1 k0_t2 k0_t9
theorem k0_off58_inb : ∀ (v21 : BitVec 32) (v24 : BitVec 32) (k0_hw4 : k0_chk4 v21 v24) (k0_t2 : Fin k0_t2_loop.trips) (k0_t9 : Fin (k0_t9_loop v21 v24 k0_t2).trips), ∀ a, (k0_off58 v21 v24 k0_t2 k0_t9) a + S1x16.size a ≤ S200x128.size a := fun v21 v24 k0_hw4 k0_t2 k0_t9 => k0_hw4.1.2.2.2.2.2.2.1 k0_t2 k0_t9
theorem k0_off59_inb : ∀ (v21 : BitVec 32) (v24 : BitVec 32) (k0_hw4 : k0_chk4 v21 v24) (k0_t2 : Fin k0_t2_loop.trips) (k0_t9 : Fin (k0_t9_loop v21 v24 k0_t2).trips), ∀ a, (k0_off59 v21 v24 k0_t2 k0_t9) a + S1x16.size a ≤ S200x128.size a := fun v21 v24 k0_hw4 k0_t2 k0_t9 => k0_hw4.1.2.2.2.2.2.2.2.1 k0_t2 k0_t9
theorem k0_off60_inb : ∀ (v21 : BitVec 32) (v24 : BitVec 32) (k0_hw4 : k0_chk4 v21 v24) (k0_t2 : Fin k0_t2_loop.trips) (k0_t9 : Fin (k0_t9_loop v21 v24 k0_t2).trips), ∀ a, (k0_off60 v21 v24 k0_t2 k0_t9) a + S1x16.size a ≤ S200x128.size a := fun v21 v24 k0_hw4 k0_t2 k0_t9 => k0_hw4.1.2.2.2.2.2.2.2.2.1 k0_t2 k0_t9
theorem k0_t10_ok : ∀ (v21 : BitVec 32) (v24 : BitVec 32) (k0_hw4 : k0_chk4 v21 v24) (k0_t2 : Fin k0_t2_loop.trips), (k0_t10_loop v21 v24 k0_t2).OK := fun v21 v24 k0_hw4 k0_t2 => k0_hw4.1.2.2.2.2.2.2.2.2.2.1 k0_t2
theorem k0_off61_inb : ∀ (v21 : BitVec 32) (v24 : BitVec 32) (k0_hw4 : k0_chk4 v21 v24) (k0_t2 : Fin k0_t2_loop.trips) (k0_t10 : Fin (k0_t10_loop v21 v24 k0_t2).trips), ∀ a, (k0_off61 v21 v24 k0_t2 k0_t10) a + S1x16.size a ≤ S200x128.size a := fun v21 v24 k0_hw4 k0_t2 k0_t10 => k0_hw4.1.2.2.2.2.2.2.2.2.2.2.1 k0_t2 k0_t10
theorem k0_off62_inb : ∀ (v21 : BitVec 32) (v24 : BitVec 32) (k0_hw4 : k0_chk4 v21 v24) (k0_t2 : Fin k0_t2_loop.trips) (k0_t10 : Fin (k0_t10_loop v21 v24 k0_t2).trips), ∀ a, (k0_off62 v21 v24 k0_t2 k0_t10) a + S1x16.size a ≤ S200x128.size a := fun v21 v24 k0_hw4 k0_t2 k0_t10 => k0_hw4.1.2.2.2.2.2.2.2.2.2.2.2.1 k0_t2 k0_t10
theorem k0_off63_inb : ∀ (v21 : BitVec 32) (v24 : BitVec 32) (k0_hw4 : k0_chk4 v21 v24) (k0_t2 : Fin k0_t2_loop.trips) (k0_t10 : Fin (k0_t10_loop v21 v24 k0_t2).trips), ∀ a, (k0_off63 v21 v24 k0_t2 k0_t10) a + S1x16.size a ≤ S200x128.size a := fun v21 v24 k0_hw4 k0_t2 k0_t10 => k0_hw4.1.2.2.2.2.2.2.2.2.2.2.2.2.1 k0_t2 k0_t10
theorem k0_off64_inb : ∀ (v21 : BitVec 32) (v24 : BitVec 32) (k0_hw4 : k0_chk4 v21 v24) (k0_t2 : Fin k0_t2_loop.trips) (k0_t10 : Fin (k0_t10_loop v21 v24 k0_t2).trips), ∀ a, (k0_off64 v21 v24 k0_t2 k0_t10) a + S1x16.size a ≤ S200x128.size a := fun v21 v24 k0_hw4 k0_t2 k0_t10 => k0_hw4.1.2.2.2.2.2.2.2.2.2.2.2.2.2.1 k0_t2 k0_t10
theorem k0_off65_inb : ∀ (v21 : BitVec 32) (v24 : BitVec 32) (k0_hw4 : k0_chk4 v21 v24) (k0_t2 : Fin k0_t2_loop.trips) (k0_t10 : Fin (k0_t10_loop v21 v24 k0_t2).trips), ∀ a, (k0_off65 v21 v24 k0_t2 k0_t10) a + S1x16.size a ≤ S200x128.size a := fun v21 v24 k0_hw4 k0_t2 k0_t10 => k0_hw4.1.2.2.2.2.2.2.2.2.2.2.2.2.2.2.1 k0_t2 k0_t10
theorem k0_off66_inb : ∀ (v21 : BitVec 32) (v24 : BitVec 32) (k0_hw4 : k0_chk4 v21 v24) (k0_t2 : Fin k0_t2_loop.trips) (k0_t10 : Fin (k0_t10_loop v21 v24 k0_t2).trips), ∀ a, (k0_off66 v21 v24 k0_t2 k0_t10) a + S1x16.size a ≤ S200x128.size a := fun v21 v24 k0_hw4 k0_t2 k0_t10 => k0_hw4.1.2.2.2.2.2.2.2.2.2.2.2.2.2.2.2.1 k0_t2 k0_t10
theorem k0_off67_inb : ∀ (v21 : BitVec 32) (v24 : BitVec 32) (k0_hw4 : k0_chk4 v21 v24) (k0_t2 : Fin k0_t2_loop.trips) (k0_t10 : Fin (k0_t10_loop v21 v24 k0_t2).trips), ∀ a, (k0_off67 v21 v24 k0_t2 k0_t10) a + S1x16.size a ≤ S200x128.size a := fun v21 v24 k0_hw4 k0_t2 k0_t10 => k0_hw4.1.2.2.2.2.2.2.2.2.2.2.2.2.2.2.2.2.1 k0_t2 k0_t10
theorem k0_off68_inb : ∀ (v21 : BitVec 32) (v24 : BitVec 32) (k0_hw4 : k0_chk4 v21 v24) (k0_t2 : Fin k0_t2_loop.trips) (k0_t10 : Fin (k0_t10_loop v21 v24 k0_t2).trips), ∀ a, (k0_off68 v21 v24 k0_t2 k0_t10) a + S1x16.size a ≤ S200x128.size a := fun v21 v24 k0_hw4 k0_t2 k0_t10 => k0_hw4.1.2.2.2.2.2.2.2.2.2.2.2.2.2.2.2.2.2.1 k0_t2 k0_t10
theorem k0_t25_ok : ∀ (v21 : BitVec 32) (v24 : BitVec 32) (k0_hw4 : k0_chk4 v21 v24) (k0_t2 : Fin k0_t2_loop.trips), (k0_t25_loop v21 v24 k0_t2).OK := fun v21 v24 k0_hw4 k0_t2 => k0_hw4.1.2.2.2.2.2.2.2.2.2.2.2.2.2.2.2.2.2.2.1 k0_t2
theorem k0_off183_inb : ∀ (v21 : BitVec 32) (v24 : BitVec 32) (k0_hw4 : k0_chk4 v21 v24) (k0_t2 : Fin k0_t2_loop.trips) (k0_t25 : Fin (k0_t25_loop v21 v24 k0_t2).trips), ∀ a, (k0_off183 v21 v24 k0_t2 k0_t25) a + S1x16.size a ≤ S200x128.size a := fun v21 v24 k0_hw4 k0_t2 k0_t25 => k0_hw4.1.2.2.2.2.2.2.2.2.2.2.2.2.2.2.2.2.2.2.2.1 k0_t2 k0_t25
theorem k0_off184_inb : ∀ (v21 : BitVec 32) (v24 : BitVec 32) (k0_hw4 : k0_chk4 v21 v24) (k0_t2 : Fin k0_t2_loop.trips) (k0_t25 : Fin (k0_t25_loop v21 v24 k0_t2).trips), ∀ a, (k0_off184 v21 v24 k0_t2 k0_t25) a + S1x16.size a ≤ S200x128.size a := fun v21 v24 k0_hw4 k0_t2 k0_t25 => k0_hw4.1.2.2.2.2.2.2.2.2.2.2.2.2.2.2.2.2.2.2.2.2.1 k0_t2 k0_t25
theorem k0_off185_inb : ∀ (v21 : BitVec 32) (v24 : BitVec 32) (k0_hw4 : k0_chk4 v21 v24) (k0_t2 : Fin k0_t2_loop.trips) (k0_t25 : Fin (k0_t25_loop v21 v24 k0_t2).trips), ∀ a, (k0_off185 v21 v24 k0_t2 k0_t25) a + S1x16.size a ≤ S200x128.size a := fun v21 v24 k0_hw4 k0_t2 k0_t25 => k0_hw4.1.2.2.2.2.2.2.2.2.2.2.2.2.2.2.2.2.2.2.2.2.2.1 k0_t2 k0_t25
theorem k0_off186_inb : ∀ (v21 : BitVec 32) (v24 : BitVec 32) (k0_hw4 : k0_chk4 v21 v24) (k0_t2 : Fin k0_t2_loop.trips) (k0_t25 : Fin (k0_t25_loop v21 v24 k0_t2).trips), ∀ a, (k0_off186 v21 v24 k0_t2 k0_t25) a + S1x16.size a ≤ S200x128.size a := fun v21 v24 k0_hw4 k0_t2 k0_t25 => k0_hw4.1.2.2.2.2.2.2.2.2.2.2.2.2.2.2.2.2.2.2.2.2.2.2.1 k0_t2 k0_t25
theorem k0_off187_inb : ∀ (v21 : BitVec 32) (v24 : BitVec 32) (k0_hw4 : k0_chk4 v21 v24) (k0_t2 : Fin k0_t2_loop.trips) (k0_t25 : Fin (k0_t25_loop v21 v24 k0_t2).trips), ∀ a, (k0_off187 v21 v24 k0_t2 k0_t25) a + S1x16.size a ≤ S200x128.size a := fun v21 v24 k0_hw4 k0_t2 k0_t25 => k0_hw4.1.2.2.2.2.2.2.2.2.2.2.2.2.2.2.2.2.2.2.2.2.2.2.2.1 k0_t2 k0_t25
theorem k0_off188_inb : ∀ (v21 : BitVec 32) (v24 : BitVec 32) (k0_hw4 : k0_chk4 v21 v24) (k0_t2 : Fin k0_t2_loop.trips) (k0_t25 : Fin (k0_t25_loop v21 v24 k0_t2).trips), ∀ a, (k0_off188 v21 v24 k0_t2 k0_t25) a + S1x16.size a ≤ S200x128.size a := fun v21 v24 k0_hw4 k0_t2 k0_t25 => k0_hw4.1.2.2.2.2.2.2.2.2.2.2.2.2.2.2.2.2.2.2.2.2.2.2.2.2.1 k0_t2 k0_t25
theorem k0_off189_inb : ∀ (v21 : BitVec 32) (v24 : BitVec 32) (k0_hw4 : k0_chk4 v21 v24) (k0_t2 : Fin k0_t2_loop.trips) (k0_t25 : Fin (k0_t25_loop v21 v24 k0_t2).trips), ∀ a, (k0_off189 v21 v24 k0_t2 k0_t25) a + S1x16.size a ≤ S200x128.size a := fun v21 v24 k0_hw4 k0_t2 k0_t25 => k0_hw4.1.2.2.2.2.2.2.2.2.2.2.2.2.2.2.2.2.2.2.2.2.2.2.2.2.2.1 k0_t2 k0_t25
theorem k0_off190_inb : ∀ (v21 : BitVec 32) (v24 : BitVec 32) (k0_hw4 : k0_chk4 v21 v24) (k0_t2 : Fin k0_t2_loop.trips) (k0_t25 : Fin (k0_t25_loop v21 v24 k0_t2).trips), ∀ a, (k0_off190 v21 v24 k0_t2 k0_t25) a + S1x16.size a ≤ S200x128.size a := fun v21 v24 k0_hw4 k0_t2 k0_t25 => k0_hw4.1.2.2.2.2.2.2.2.2.2.2.2.2.2.2.2.2.2.2.2.2.2.2.2.2.2.2.1 k0_t2 k0_t25
theorem k0_t26_ok : ∀ (v21 : BitVec 32) (v24 : BitVec 32) (k0_hw4 : k0_chk4 v21 v24) (k0_t2 : Fin k0_t2_loop.trips), (k0_t26_loop v21 v24 k0_t2).OK := fun v21 v24 k0_hw4 k0_t2 => k0_hw4.1.2.2.2.2.2.2.2.2.2.2.2.2.2.2.2.2.2.2.2.2.2.2.2.2.2.2.2.1 k0_t2
theorem k0_off191_inb : ∀ (v21 : BitVec 32) (v24 : BitVec 32) (k0_hw4 : k0_chk4 v21 v24) (k0_t2 : Fin k0_t2_loop.trips) (k0_t26 : Fin (k0_t26_loop v21 v24 k0_t2).trips), ∀ a, (k0_off191 v21 v24 k0_t2 k0_t26) a + S1x16.size a ≤ S200x128.size a := fun v21 v24 k0_hw4 k0_t2 k0_t26 => k0_hw4.1.2.2.2.2.2.2.2.2.2.2.2.2.2.2.2.2.2.2.2.2.2.2.2.2.2.2.2.2.1 k0_t2 k0_t26
theorem k0_off192_inb : ∀ (v21 : BitVec 32) (v24 : BitVec 32) (k0_hw4 : k0_chk4 v21 v24) (k0_t2 : Fin k0_t2_loop.trips) (k0_t26 : Fin (k0_t26_loop v21 v24 k0_t2).trips), ∀ a, (k0_off192 v21 v24 k0_t2 k0_t26) a + S1x16.size a ≤ S200x128.size a := fun v21 v24 k0_hw4 k0_t2 k0_t26 => k0_hw4.1.2.2.2.2.2.2.2.2.2.2.2.2.2.2.2.2.2.2.2.2.2.2.2.2.2.2.2.2.2.1 k0_t2 k0_t26
theorem k0_off193_inb : ∀ (v21 : BitVec 32) (v24 : BitVec 32) (k0_hw4 : k0_chk4 v21 v24) (k0_t2 : Fin k0_t2_loop.trips) (k0_t26 : Fin (k0_t26_loop v21 v24 k0_t2).trips), ∀ a, (k0_off193 v21 v24 k0_t2 k0_t26) a + S1x16.size a ≤ S200x128.size a := fun v21 v24 k0_hw4 k0_t2 k0_t26 => k0_hw4.1.2.2.2.2.2.2.2.2.2.2.2.2.2.2.2.2.2.2.2.2.2.2.2.2.2.2.2.2.2.2.1 k0_t2 k0_t26
theorem k0_off194_inb : ∀ (v21 : BitVec 32) (v24 : BitVec 32) (k0_hw4 : k0_chk4 v21 v24) (k0_t2 : Fin k0_t2_loop.trips) (k0_t26 : Fin (k0_t26_loop v21 v24 k0_t2).trips), ∀ a, (k0_off194 v21 v24 k0_t2 k0_t26) a + S1x16.size a ≤ S200x128.size a := fun v21 v24 k0_hw4 k0_t2 k0_t26 => k0_hw4.1.2.2.2.2.2.2.2.2.2.2.2.2.2.2.2.2.2.2.2.2.2.2.2.2.2.2.2.2.2.2.2 k0_t2 k0_t26
theorem k0_off195_inb : ∀ (v21 : BitVec 32) (v24 : BitVec 32) (k0_hw4 : k0_chk4 v21 v24) (k0_t2 : Fin k0_t2_loop.trips) (k0_t26 : Fin (k0_t26_loop v21 v24 k0_t2).trips), ∀ a, (k0_off195 v21 v24 k0_t2 k0_t26) a + S1x16.size a ≤ S200x128.size a := fun v21 v24 k0_hw4 k0_t2 k0_t26 => k0_hw4.2.1 k0_t2 k0_t26
theorem k0_off196_inb : ∀ (v21 : BitVec 32) (v24 : BitVec 32) (k0_hw4 : k0_chk4 v21 v24) (k0_t2 : Fin k0_t2_loop.trips) (k0_t26 : Fin (k0_t26_loop v21 v24 k0_t2).trips), ∀ a, (k0_off196 v21 v24 k0_t2 k0_t26) a + S1x16.size a ≤ S200x128.size a := fun v21 v24 k0_hw4 k0_t2 k0_t26 => k0_hw4.2.2.1 k0_t2 k0_t26
theorem k0_off197_inb : ∀ (v21 : BitVec 32) (v24 : BitVec 32) (k0_hw4 : k0_chk4 v21 v24) (k0_t2 : Fin k0_t2_loop.trips) (k0_t26 : Fin (k0_t26_loop v21 v24 k0_t2).trips), ∀ a, (k0_off197 v21 v24 k0_t2 k0_t26) a + S1x16.size a ≤ S200x128.size a := fun v21 v24 k0_hw4 k0_t2 k0_t26 => k0_hw4.2.2.2.1 k0_t2 k0_t26
theorem k0_off198_inb : ∀ (v21 : BitVec 32) (v24 : BitVec 32) (k0_hw4 : k0_chk4 v21 v24) (k0_t2 : Fin k0_t2_loop.trips) (k0_t26 : Fin (k0_t26_loop v21 v24 k0_t2).trips), ∀ a, (k0_off198 v21 v24 k0_t2 k0_t26) a + S1x16.size a ≤ S200x128.size a := fun v21 v24 k0_hw4 k0_t2 k0_t26 => k0_hw4.2.2.2.2 k0_t2 k0_t26

@[reducible] def k0_t27_loop (v24 : BitVec 32) (v27 : BitVec 32) (k0_t2 : Fin k0_t2_loop.trips) : Scf.Loop 32 :=
  let c200_i32_413 : BitVec 32 := 200#32
  let c0_i32_412 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v561 : BitVec 32 := Scalar.subi v24 v496
  let v562 : BitVec 32 := Scalar.maxsi c0_i32_412 v561
  let v563 : BitVec 32 := Scalar.minsi c200_i32_413 v562
  let c200_i32_414 : BitVec 32 := 200#32
  let v564 : BitVec 32 := Scalar.subi v27 v496
  let v565 : BitVec 32 := Scalar.maxsi v563 v564
  let v566 : BitVec 32 := Scalar.minsi c200_i32_414 v565
  let v567 : BitVec 32 := Scalar.subi v566 v563
  let c1_i32_416 : BitVec 32 := 1#32
  let v569 : BitVec 32 := Scalar.divsi v567 c1_i32_416
  let v570 : BitVec 32 := Scalar.muli v569 c1_i32_416
  let v571 : BitVec 32 := Scalar.addi v563 v570
  let c1_i32_417 : BitVec 32 := 1#32
  ⟨v563, v571, c1_i32_417⟩
def k0_off199 (v24 : BitVec 32) (v27 : BitVec 32) (k0_t2 : Fin k0_t2_loop.trips) (k0_t27 : Fin (k0_t27_loop v24 v27 k0_t2).trips) : Fin 2 → Nat :=
  let c200_i32_413 : BitVec 32 := 200#32
  let c0_i32_412 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v561 : BitVec 32 := Scalar.subi v24 v496
  let v562 : BitVec 32 := Scalar.maxsi c0_i32_412 v561
  let v563 : BitVec 32 := Scalar.minsi c200_i32_413 v562
  let c1_i32_417 : BitVec 32 := 1#32
  let arg16 : BitVec 32 := Scf.iv v563 c1_i32_417 k0_t27
  let v630 : Index := Scalar.indexCast arg16
  let c0_449 : Index := 0#32
  ![v630.toNat, 0]
def k0_off200 (v24 : BitVec 32) (v27 : BitVec 32) (k0_t2 : Fin k0_t2_loop.trips) (k0_t27 : Fin (k0_t27_loop v24 v27 k0_t2).trips) : Fin 2 → Nat :=
  let c200_i32_413 : BitVec 32 := 200#32
  let c0_i32_412 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v561 : BitVec 32 := Scalar.subi v24 v496
  let v562 : BitVec 32 := Scalar.maxsi c0_i32_412 v561
  let v563 : BitVec 32 := Scalar.minsi c200_i32_413 v562
  let c1_i32_417 : BitVec 32 := 1#32
  let arg16 : BitVec 32 := Scf.iv v563 c1_i32_417 k0_t27
  let v637 : Index := Scalar.indexCast arg16
  let c16_452 : Index := 16#32
  ![v637.toNat, 16]
def k0_off201 (v24 : BitVec 32) (v27 : BitVec 32) (k0_t2 : Fin k0_t2_loop.trips) (k0_t27 : Fin (k0_t27_loop v24 v27 k0_t2).trips) : Fin 2 → Nat :=
  let c200_i32_413 : BitVec 32 := 200#32
  let c0_i32_412 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v561 : BitVec 32 := Scalar.subi v24 v496
  let v562 : BitVec 32 := Scalar.maxsi c0_i32_412 v561
  let v563 : BitVec 32 := Scalar.minsi c200_i32_413 v562
  let c1_i32_417 : BitVec 32 := 1#32
  let arg16 : BitVec 32 := Scf.iv v563 c1_i32_417 k0_t27
  let v644 : Index := Scalar.indexCast arg16
  let c32_455 : Index := 32#32
  ![v644.toNat, 32]
def k0_off202 (v24 : BitVec 32) (v27 : BitVec 32) (k0_t2 : Fin k0_t2_loop.trips) (k0_t27 : Fin (k0_t27_loop v24 v27 k0_t2).trips) : Fin 2 → Nat :=
  let c200_i32_413 : BitVec 32 := 200#32
  let c0_i32_412 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v561 : BitVec 32 := Scalar.subi v24 v496
  let v562 : BitVec 32 := Scalar.maxsi c0_i32_412 v561
  let v563 : BitVec 32 := Scalar.minsi c200_i32_413 v562
  let c1_i32_417 : BitVec 32 := 1#32
  let arg16 : BitVec 32 := Scf.iv v563 c1_i32_417 k0_t27
  let v651 : Index := Scalar.indexCast arg16
  let c48_458 : Index := 48#32
  ![v651.toNat, 48]
def k0_off203 (v24 : BitVec 32) (v27 : BitVec 32) (k0_t2 : Fin k0_t2_loop.trips) (k0_t27 : Fin (k0_t27_loop v24 v27 k0_t2).trips) : Fin 2 → Nat :=
  let c200_i32_413 : BitVec 32 := 200#32
  let c0_i32_412 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v561 : BitVec 32 := Scalar.subi v24 v496
  let v562 : BitVec 32 := Scalar.maxsi c0_i32_412 v561
  let v563 : BitVec 32 := Scalar.minsi c200_i32_413 v562
  let c1_i32_417 : BitVec 32 := 1#32
  let arg16 : BitVec 32 := Scf.iv v563 c1_i32_417 k0_t27
  let v658 : Index := Scalar.indexCast arg16
  let c64_461 : Index := 64#32
  ![v658.toNat, 64]
def k0_off204 (v24 : BitVec 32) (v27 : BitVec 32) (k0_t2 : Fin k0_t2_loop.trips) (k0_t27 : Fin (k0_t27_loop v24 v27 k0_t2).trips) : Fin 2 → Nat :=
  let c200_i32_413 : BitVec 32 := 200#32
  let c0_i32_412 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v561 : BitVec 32 := Scalar.subi v24 v496
  let v562 : BitVec 32 := Scalar.maxsi c0_i32_412 v561
  let v563 : BitVec 32 := Scalar.minsi c200_i32_413 v562
  let c1_i32_417 : BitVec 32 := 1#32
  let arg16 : BitVec 32 := Scf.iv v563 c1_i32_417 k0_t27
  let v665 : Index := Scalar.indexCast arg16
  let c80_464 : Index := 80#32
  ![v665.toNat, 80]
def k0_off205 (v24 : BitVec 32) (v27 : BitVec 32) (k0_t2 : Fin k0_t2_loop.trips) (k0_t27 : Fin (k0_t27_loop v24 v27 k0_t2).trips) : Fin 2 → Nat :=
  let c200_i32_413 : BitVec 32 := 200#32
  let c0_i32_412 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v561 : BitVec 32 := Scalar.subi v24 v496
  let v562 : BitVec 32 := Scalar.maxsi c0_i32_412 v561
  let v563 : BitVec 32 := Scalar.minsi c200_i32_413 v562
  let c1_i32_417 : BitVec 32 := 1#32
  let arg16 : BitVec 32 := Scf.iv v563 c1_i32_417 k0_t27
  let v672 : Index := Scalar.indexCast arg16
  let c96_467 : Index := 96#32
  ![v672.toNat, 96]
def k0_off206 (v24 : BitVec 32) (v27 : BitVec 32) (k0_t2 : Fin k0_t2_loop.trips) (k0_t27 : Fin (k0_t27_loop v24 v27 k0_t2).trips) : Fin 2 → Nat :=
  let c200_i32_413 : BitVec 32 := 200#32
  let c0_i32_412 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v561 : BitVec 32 := Scalar.subi v24 v496
  let v562 : BitVec 32 := Scalar.maxsi c0_i32_412 v561
  let v563 : BitVec 32 := Scalar.minsi c200_i32_413 v562
  let c1_i32_417 : BitVec 32 := 1#32
  let arg16 : BitVec 32 := Scf.iv v563 c1_i32_417 k0_t27
  let v679 : Index := Scalar.indexCast arg16
  let c112_470 : Index := 112#32
  ![v679.toNat, 112]
@[reducible] def k0_t28_loop (v24 : BitVec 32) (v27 : BitVec 32) (k0_t2 : Fin k0_t2_loop.trips) : Scf.Loop 32 :=
  let c200_i32_413 : BitVec 32 := 200#32
  let c0_i32_412 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v561 : BitVec 32 := Scalar.subi v24 v496
  let v562 : BitVec 32 := Scalar.maxsi c0_i32_412 v561
  let v563 : BitVec 32 := Scalar.minsi c200_i32_413 v562
  let c200_i32_414 : BitVec 32 := 200#32
  let v564 : BitVec 32 := Scalar.subi v27 v496
  let v565 : BitVec 32 := Scalar.maxsi v563 v564
  let v566 : BitVec 32 := Scalar.minsi c200_i32_414 v565
  let v567 : BitVec 32 := Scalar.subi v566 v563
  let c1_i32_416 : BitVec 32 := 1#32
  let v569 : BitVec 32 := Scalar.divsi v567 c1_i32_416
  let v570 : BitVec 32 := Scalar.muli v569 c1_i32_416
  let v571 : BitVec 32 := Scalar.addi v563 v570
  let v568 : BitVec 32 := Scalar.addi v563 v567
  let c1_i32_418 : BitVec 32 := 1#32
  ⟨v571, v568, c1_i32_418⟩
def k0_off207 (v24 : BitVec 32) (v27 : BitVec 32) (k0_t2 : Fin k0_t2_loop.trips) (k0_t28 : Fin (k0_t28_loop v24 v27 k0_t2).trips) : Fin 2 → Nat :=
  let c200_i32_413 : BitVec 32 := 200#32
  let c0_i32_412 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v561 : BitVec 32 := Scalar.subi v24 v496
  let v562 : BitVec 32 := Scalar.maxsi c0_i32_412 v561
  let v563 : BitVec 32 := Scalar.minsi c200_i32_413 v562
  let c200_i32_414 : BitVec 32 := 200#32
  let v564 : BitVec 32 := Scalar.subi v27 v496
  let v565 : BitVec 32 := Scalar.maxsi v563 v564
  let v566 : BitVec 32 := Scalar.minsi c200_i32_414 v565
  let v567 : BitVec 32 := Scalar.subi v566 v563
  let c1_i32_416 : BitVec 32 := 1#32
  let v569 : BitVec 32 := Scalar.divsi v567 c1_i32_416
  let v570 : BitVec 32 := Scalar.muli v569 c1_i32_416
  let v571 : BitVec 32 := Scalar.addi v563 v570
  let c1_i32_418 : BitVec 32 := 1#32
  let arg16 : BitVec 32 := Scf.iv v571 c1_i32_418 k0_t28
  let v630 : Index := Scalar.indexCast arg16
  let c0_449 : Index := 0#32
  ![v630.toNat, 0]
def k0_off208 (v24 : BitVec 32) (v27 : BitVec 32) (k0_t2 : Fin k0_t2_loop.trips) (k0_t28 : Fin (k0_t28_loop v24 v27 k0_t2).trips) : Fin 2 → Nat :=
  let c200_i32_413 : BitVec 32 := 200#32
  let c0_i32_412 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v561 : BitVec 32 := Scalar.subi v24 v496
  let v562 : BitVec 32 := Scalar.maxsi c0_i32_412 v561
  let v563 : BitVec 32 := Scalar.minsi c200_i32_413 v562
  let c200_i32_414 : BitVec 32 := 200#32
  let v564 : BitVec 32 := Scalar.subi v27 v496
  let v565 : BitVec 32 := Scalar.maxsi v563 v564
  let v566 : BitVec 32 := Scalar.minsi c200_i32_414 v565
  let v567 : BitVec 32 := Scalar.subi v566 v563
  let c1_i32_416 : BitVec 32 := 1#32
  let v569 : BitVec 32 := Scalar.divsi v567 c1_i32_416
  let v570 : BitVec 32 := Scalar.muli v569 c1_i32_416
  let v571 : BitVec 32 := Scalar.addi v563 v570
  let c1_i32_418 : BitVec 32 := 1#32
  let arg16 : BitVec 32 := Scf.iv v571 c1_i32_418 k0_t28
  let v637 : Index := Scalar.indexCast arg16
  let c16_452 : Index := 16#32
  ![v637.toNat, 16]
def k0_off209 (v24 : BitVec 32) (v27 : BitVec 32) (k0_t2 : Fin k0_t2_loop.trips) (k0_t28 : Fin (k0_t28_loop v24 v27 k0_t2).trips) : Fin 2 → Nat :=
  let c200_i32_413 : BitVec 32 := 200#32
  let c0_i32_412 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v561 : BitVec 32 := Scalar.subi v24 v496
  let v562 : BitVec 32 := Scalar.maxsi c0_i32_412 v561
  let v563 : BitVec 32 := Scalar.minsi c200_i32_413 v562
  let c200_i32_414 : BitVec 32 := 200#32
  let v564 : BitVec 32 := Scalar.subi v27 v496
  let v565 : BitVec 32 := Scalar.maxsi v563 v564
  let v566 : BitVec 32 := Scalar.minsi c200_i32_414 v565
  let v567 : BitVec 32 := Scalar.subi v566 v563
  let c1_i32_416 : BitVec 32 := 1#32
  let v569 : BitVec 32 := Scalar.divsi v567 c1_i32_416
  let v570 : BitVec 32 := Scalar.muli v569 c1_i32_416
  let v571 : BitVec 32 := Scalar.addi v563 v570
  let c1_i32_418 : BitVec 32 := 1#32
  let arg16 : BitVec 32 := Scf.iv v571 c1_i32_418 k0_t28
  let v644 : Index := Scalar.indexCast arg16
  let c32_455 : Index := 32#32
  ![v644.toNat, 32]
def k0_off210 (v24 : BitVec 32) (v27 : BitVec 32) (k0_t2 : Fin k0_t2_loop.trips) (k0_t28 : Fin (k0_t28_loop v24 v27 k0_t2).trips) : Fin 2 → Nat :=
  let c200_i32_413 : BitVec 32 := 200#32
  let c0_i32_412 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v561 : BitVec 32 := Scalar.subi v24 v496
  let v562 : BitVec 32 := Scalar.maxsi c0_i32_412 v561
  let v563 : BitVec 32 := Scalar.minsi c200_i32_413 v562
  let c200_i32_414 : BitVec 32 := 200#32
  let v564 : BitVec 32 := Scalar.subi v27 v496
  let v565 : BitVec 32 := Scalar.maxsi v563 v564
  let v566 : BitVec 32 := Scalar.minsi c200_i32_414 v565
  let v567 : BitVec 32 := Scalar.subi v566 v563
  let c1_i32_416 : BitVec 32 := 1#32
  let v569 : BitVec 32 := Scalar.divsi v567 c1_i32_416
  let v570 : BitVec 32 := Scalar.muli v569 c1_i32_416
  let v571 : BitVec 32 := Scalar.addi v563 v570
  let c1_i32_418 : BitVec 32 := 1#32
  let arg16 : BitVec 32 := Scf.iv v571 c1_i32_418 k0_t28
  let v651 : Index := Scalar.indexCast arg16
  let c48_458 : Index := 48#32
  ![v651.toNat, 48]
def k0_off211 (v24 : BitVec 32) (v27 : BitVec 32) (k0_t2 : Fin k0_t2_loop.trips) (k0_t28 : Fin (k0_t28_loop v24 v27 k0_t2).trips) : Fin 2 → Nat :=
  let c200_i32_413 : BitVec 32 := 200#32
  let c0_i32_412 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v561 : BitVec 32 := Scalar.subi v24 v496
  let v562 : BitVec 32 := Scalar.maxsi c0_i32_412 v561
  let v563 : BitVec 32 := Scalar.minsi c200_i32_413 v562
  let c200_i32_414 : BitVec 32 := 200#32
  let v564 : BitVec 32 := Scalar.subi v27 v496
  let v565 : BitVec 32 := Scalar.maxsi v563 v564
  let v566 : BitVec 32 := Scalar.minsi c200_i32_414 v565
  let v567 : BitVec 32 := Scalar.subi v566 v563
  let c1_i32_416 : BitVec 32 := 1#32
  let v569 : BitVec 32 := Scalar.divsi v567 c1_i32_416
  let v570 : BitVec 32 := Scalar.muli v569 c1_i32_416
  let v571 : BitVec 32 := Scalar.addi v563 v570
  let c1_i32_418 : BitVec 32 := 1#32
  let arg16 : BitVec 32 := Scf.iv v571 c1_i32_418 k0_t28
  let v658 : Index := Scalar.indexCast arg16
  let c64_461 : Index := 64#32
  ![v658.toNat, 64]
def k0_off212 (v24 : BitVec 32) (v27 : BitVec 32) (k0_t2 : Fin k0_t2_loop.trips) (k0_t28 : Fin (k0_t28_loop v24 v27 k0_t2).trips) : Fin 2 → Nat :=
  let c200_i32_413 : BitVec 32 := 200#32
  let c0_i32_412 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v561 : BitVec 32 := Scalar.subi v24 v496
  let v562 : BitVec 32 := Scalar.maxsi c0_i32_412 v561
  let v563 : BitVec 32 := Scalar.minsi c200_i32_413 v562
  let c200_i32_414 : BitVec 32 := 200#32
  let v564 : BitVec 32 := Scalar.subi v27 v496
  let v565 : BitVec 32 := Scalar.maxsi v563 v564
  let v566 : BitVec 32 := Scalar.minsi c200_i32_414 v565
  let v567 : BitVec 32 := Scalar.subi v566 v563
  let c1_i32_416 : BitVec 32 := 1#32
  let v569 : BitVec 32 := Scalar.divsi v567 c1_i32_416
  let v570 : BitVec 32 := Scalar.muli v569 c1_i32_416
  let v571 : BitVec 32 := Scalar.addi v563 v570
  let c1_i32_418 : BitVec 32 := 1#32
  let arg16 : BitVec 32 := Scf.iv v571 c1_i32_418 k0_t28
  let v665 : Index := Scalar.indexCast arg16
  let c80_464 : Index := 80#32
  ![v665.toNat, 80]
def k0_off213 (v24 : BitVec 32) (v27 : BitVec 32) (k0_t2 : Fin k0_t2_loop.trips) (k0_t28 : Fin (k0_t28_loop v24 v27 k0_t2).trips) : Fin 2 → Nat :=
  let c200_i32_413 : BitVec 32 := 200#32
  let c0_i32_412 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v561 : BitVec 32 := Scalar.subi v24 v496
  let v562 : BitVec 32 := Scalar.maxsi c0_i32_412 v561
  let v563 : BitVec 32 := Scalar.minsi c200_i32_413 v562
  let c200_i32_414 : BitVec 32 := 200#32
  let v564 : BitVec 32 := Scalar.subi v27 v496
  let v565 : BitVec 32 := Scalar.maxsi v563 v564
  let v566 : BitVec 32 := Scalar.minsi c200_i32_414 v565
  let v567 : BitVec 32 := Scalar.subi v566 v563
  let c1_i32_416 : BitVec 32 := 1#32
  let v569 : BitVec 32 := Scalar.divsi v567 c1_i32_416
  let v570 : BitVec 32 := Scalar.muli v569 c1_i32_416
  let v571 : BitVec 32 := Scalar.addi v563 v570
  let c1_i32_418 : BitVec 32 := 1#32
  let arg16 : BitVec 32 := Scf.iv v571 c1_i32_418 k0_t28
  let v672 : Index := Scalar.indexCast arg16
  let c96_467 : Index := 96#32
  ![v672.toNat, 96]
def k0_off214 (v24 : BitVec 32) (v27 : BitVec 32) (k0_t2 : Fin k0_t2_loop.trips) (k0_t28 : Fin (k0_t28_loop v24 v27 k0_t2).trips) : Fin 2 → Nat :=
  let c200_i32_413 : BitVec 32 := 200#32
  let c0_i32_412 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v561 : BitVec 32 := Scalar.subi v24 v496
  let v562 : BitVec 32 := Scalar.maxsi c0_i32_412 v561
  let v563 : BitVec 32 := Scalar.minsi c200_i32_413 v562
  let c200_i32_414 : BitVec 32 := 200#32
  let v564 : BitVec 32 := Scalar.subi v27 v496
  let v565 : BitVec 32 := Scalar.maxsi v563 v564
  let v566 : BitVec 32 := Scalar.minsi c200_i32_414 v565
  let v567 : BitVec 32 := Scalar.subi v566 v563
  let c1_i32_416 : BitVec 32 := 1#32
  let v569 : BitVec 32 := Scalar.divsi v567 c1_i32_416
  let v570 : BitVec 32 := Scalar.muli v569 c1_i32_416
  let v571 : BitVec 32 := Scalar.addi v563 v570
  let c1_i32_418 : BitVec 32 := 1#32
  let arg16 : BitVec 32 := Scf.iv v571 c1_i32_418 k0_t28
  let v679 : Index := Scalar.indexCast arg16
  let c112_470 : Index := 112#32
  ![v679.toNat, 112]

def k0_chk5_0 (v24 : BitVec 32) (v27 : BitVec 32) : Prop :=
  (∀ k0_t2 : Fin k0_t2_loop.trips, (k0_t11_loop v24 v27 k0_t2).OK) ∧
  (∀ (k0_t2 : Fin k0_t2_loop.trips) (k0_t11 : Fin (k0_t11_loop v24 v27 k0_t2).trips), ∀ a, (k0_off69 v24 v27 k0_t2 k0_t11) a + S1x16.size a ≤ S200x128.size a) ∧
  (∀ (k0_t2 : Fin k0_t2_loop.trips) (k0_t11 : Fin (k0_t11_loop v24 v27 k0_t2).trips), ∀ a, (k0_off70 v24 v27 k0_t2 k0_t11) a + S1x16.size a ≤ S200x128.size a) ∧
  (∀ (k0_t2 : Fin k0_t2_loop.trips) (k0_t11 : Fin (k0_t11_loop v24 v27 k0_t2).trips), ∀ a, (k0_off71 v24 v27 k0_t2 k0_t11) a + S1x16.size a ≤ S200x128.size a) ∧
  (∀ (k0_t2 : Fin k0_t2_loop.trips) (k0_t11 : Fin (k0_t11_loop v24 v27 k0_t2).trips), ∀ a, (k0_off72 v24 v27 k0_t2 k0_t11) a + S1x16.size a ≤ S200x128.size a) ∧
  (∀ (k0_t2 : Fin k0_t2_loop.trips) (k0_t11 : Fin (k0_t11_loop v24 v27 k0_t2).trips), ∀ a, (k0_off73 v24 v27 k0_t2 k0_t11) a + S1x16.size a ≤ S200x128.size a) ∧
  (∀ (k0_t2 : Fin k0_t2_loop.trips) (k0_t11 : Fin (k0_t11_loop v24 v27 k0_t2).trips), ∀ a, (k0_off74 v24 v27 k0_t2 k0_t11) a + S1x16.size a ≤ S200x128.size a) ∧
  (∀ (k0_t2 : Fin k0_t2_loop.trips) (k0_t11 : Fin (k0_t11_loop v24 v27 k0_t2).trips), ∀ a, (k0_off75 v24 v27 k0_t2 k0_t11) a + S1x16.size a ≤ S200x128.size a) ∧
  (∀ (k0_t2 : Fin k0_t2_loop.trips) (k0_t11 : Fin (k0_t11_loop v24 v27 k0_t2).trips), ∀ a, (k0_off76 v24 v27 k0_t2 k0_t11) a + S1x16.size a ≤ S200x128.size a) ∧
  (∀ k0_t2 : Fin k0_t2_loop.trips, (k0_t12_loop v24 v27 k0_t2).OK) ∧
  (∀ (k0_t2 : Fin k0_t2_loop.trips) (k0_t12 : Fin (k0_t12_loop v24 v27 k0_t2).trips), ∀ a, (k0_off77 v24 v27 k0_t2 k0_t12) a + S1x16.size a ≤ S200x128.size a) ∧
  (∀ (k0_t2 : Fin k0_t2_loop.trips) (k0_t12 : Fin (k0_t12_loop v24 v27 k0_t2).trips), ∀ a, (k0_off78 v24 v27 k0_t2 k0_t12) a + S1x16.size a ≤ S200x128.size a) ∧
  (∀ (k0_t2 : Fin k0_t2_loop.trips) (k0_t12 : Fin (k0_t12_loop v24 v27 k0_t2).trips), ∀ a, (k0_off79 v24 v27 k0_t2 k0_t12) a + S1x16.size a ≤ S200x128.size a) ∧
  (∀ (k0_t2 : Fin k0_t2_loop.trips) (k0_t12 : Fin (k0_t12_loop v24 v27 k0_t2).trips), ∀ a, (k0_off80 v24 v27 k0_t2 k0_t12) a + S1x16.size a ≤ S200x128.size a) ∧
  (∀ (k0_t2 : Fin k0_t2_loop.trips) (k0_t12 : Fin (k0_t12_loop v24 v27 k0_t2).trips), ∀ a, (k0_off81 v24 v27 k0_t2 k0_t12) a + S1x16.size a ≤ S200x128.size a) ∧
  (∀ (k0_t2 : Fin k0_t2_loop.trips) (k0_t12 : Fin (k0_t12_loop v24 v27 k0_t2).trips), ∀ a, (k0_off82 v24 v27 k0_t2 k0_t12) a + S1x16.size a ≤ S200x128.size a) ∧
  (∀ (k0_t2 : Fin k0_t2_loop.trips) (k0_t12 : Fin (k0_t12_loop v24 v27 k0_t2).trips), ∀ a, (k0_off83 v24 v27 k0_t2 k0_t12) a + S1x16.size a ≤ S200x128.size a) ∧
  (∀ (k0_t2 : Fin k0_t2_loop.trips) (k0_t12 : Fin (k0_t12_loop v24 v27 k0_t2).trips), ∀ a, (k0_off84 v24 v27 k0_t2 k0_t12) a + S1x16.size a ≤ S200x128.size a) ∧
  (∀ k0_t2 : Fin k0_t2_loop.trips, (k0_t27_loop v24 v27 k0_t2).OK) ∧
  (∀ (k0_t2 : Fin k0_t2_loop.trips) (k0_t27 : Fin (k0_t27_loop v24 v27 k0_t2).trips), ∀ a, (k0_off199 v24 v27 k0_t2 k0_t27) a + S1x16.size a ≤ S200x128.size a) ∧
  (∀ (k0_t2 : Fin k0_t2_loop.trips) (k0_t27 : Fin (k0_t27_loop v24 v27 k0_t2).trips), ∀ a, (k0_off200 v24 v27 k0_t2 k0_t27) a + S1x16.size a ≤ S200x128.size a) ∧
  (∀ (k0_t2 : Fin k0_t2_loop.trips) (k0_t27 : Fin (k0_t27_loop v24 v27 k0_t2).trips), ∀ a, (k0_off201 v24 v27 k0_t2 k0_t27) a + S1x16.size a ≤ S200x128.size a) ∧
  (∀ (k0_t2 : Fin k0_t2_loop.trips) (k0_t27 : Fin (k0_t27_loop v24 v27 k0_t2).trips), ∀ a, (k0_off202 v24 v27 k0_t2 k0_t27) a + S1x16.size a ≤ S200x128.size a) ∧
  (∀ (k0_t2 : Fin k0_t2_loop.trips) (k0_t27 : Fin (k0_t27_loop v24 v27 k0_t2).trips), ∀ a, (k0_off203 v24 v27 k0_t2 k0_t27) a + S1x16.size a ≤ S200x128.size a) ∧
  (∀ (k0_t2 : Fin k0_t2_loop.trips) (k0_t27 : Fin (k0_t27_loop v24 v27 k0_t2).trips), ∀ a, (k0_off204 v24 v27 k0_t2 k0_t27) a + S1x16.size a ≤ S200x128.size a) ∧
  (∀ (k0_t2 : Fin k0_t2_loop.trips) (k0_t27 : Fin (k0_t27_loop v24 v27 k0_t2).trips), ∀ a, (k0_off205 v24 v27 k0_t2 k0_t27) a + S1x16.size a ≤ S200x128.size a) ∧
  (∀ (k0_t2 : Fin k0_t2_loop.trips) (k0_t27 : Fin (k0_t27_loop v24 v27 k0_t2).trips), ∀ a, (k0_off206 v24 v27 k0_t2 k0_t27) a + S1x16.size a ≤ S200x128.size a) ∧
  (∀ k0_t2 : Fin k0_t2_loop.trips, (k0_t28_loop v24 v27 k0_t2).OK) ∧
  (∀ (k0_t2 : Fin k0_t2_loop.trips) (k0_t28 : Fin (k0_t28_loop v24 v27 k0_t2).trips), ∀ a, (k0_off207 v24 v27 k0_t2 k0_t28) a + S1x16.size a ≤ S200x128.size a) ∧
  (∀ (k0_t2 : Fin k0_t2_loop.trips) (k0_t28 : Fin (k0_t28_loop v24 v27 k0_t2).trips), ∀ a, (k0_off208 v24 v27 k0_t2 k0_t28) a + S1x16.size a ≤ S200x128.size a) ∧
  (∀ (k0_t2 : Fin k0_t2_loop.trips) (k0_t28 : Fin (k0_t28_loop v24 v27 k0_t2).trips), ∀ a, (k0_off209 v24 v27 k0_t2 k0_t28) a + S1x16.size a ≤ S200x128.size a) ∧
  (∀ (k0_t2 : Fin k0_t2_loop.trips) (k0_t28 : Fin (k0_t28_loop v24 v27 k0_t2).trips), ∀ a, (k0_off210 v24 v27 k0_t2 k0_t28) a + S1x16.size a ≤ S200x128.size a)
def k0_chk5_1 (v24 : BitVec 32) (v27 : BitVec 32) : Prop :=
  (∀ (k0_t2 : Fin k0_t2_loop.trips) (k0_t28 : Fin (k0_t28_loop v24 v27 k0_t2).trips), ∀ a, (k0_off211 v24 v27 k0_t2 k0_t28) a + S1x16.size a ≤ S200x128.size a) ∧
  (∀ (k0_t2 : Fin k0_t2_loop.trips) (k0_t28 : Fin (k0_t28_loop v24 v27 k0_t2).trips), ∀ a, (k0_off212 v24 v27 k0_t2 k0_t28) a + S1x16.size a ≤ S200x128.size a) ∧
  (∀ (k0_t2 : Fin k0_t2_loop.trips) (k0_t28 : Fin (k0_t28_loop v24 v27 k0_t2).trips), ∀ a, (k0_off213 v24 v27 k0_t2 k0_t28) a + S1x16.size a ≤ S200x128.size a) ∧
  (∀ (k0_t2 : Fin k0_t2_loop.trips) (k0_t28 : Fin (k0_t28_loop v24 v27 k0_t2).trips), ∀ a, (k0_off214 v24 v27 k0_t2 k0_t28) a + S1x16.size a ≤ S200x128.size a)
def k0_chk5 (v24 : BitVec 32) (v27 : BitVec 32) : Prop :=
  k0_chk5_0 v24 v27 ∧
  k0_chk5_1 v24 v27
theorem k0_t11_ok : ∀ (v24 : BitVec 32) (v27 : BitVec 32) (k0_hw5 : k0_chk5 v24 v27) (k0_t2 : Fin k0_t2_loop.trips), (k0_t11_loop v24 v27 k0_t2).OK := fun v24 v27 k0_hw5 k0_t2 => k0_hw5.1.1 k0_t2
theorem k0_off69_inb : ∀ (v24 : BitVec 32) (v27 : BitVec 32) (k0_hw5 : k0_chk5 v24 v27) (k0_t2 : Fin k0_t2_loop.trips) (k0_t11 : Fin (k0_t11_loop v24 v27 k0_t2).trips), ∀ a, (k0_off69 v24 v27 k0_t2 k0_t11) a + S1x16.size a ≤ S200x128.size a := fun v24 v27 k0_hw5 k0_t2 k0_t11 => k0_hw5.1.2.1 k0_t2 k0_t11
theorem k0_off70_inb : ∀ (v24 : BitVec 32) (v27 : BitVec 32) (k0_hw5 : k0_chk5 v24 v27) (k0_t2 : Fin k0_t2_loop.trips) (k0_t11 : Fin (k0_t11_loop v24 v27 k0_t2).trips), ∀ a, (k0_off70 v24 v27 k0_t2 k0_t11) a + S1x16.size a ≤ S200x128.size a := fun v24 v27 k0_hw5 k0_t2 k0_t11 => k0_hw5.1.2.2.1 k0_t2 k0_t11
theorem k0_off71_inb : ∀ (v24 : BitVec 32) (v27 : BitVec 32) (k0_hw5 : k0_chk5 v24 v27) (k0_t2 : Fin k0_t2_loop.trips) (k0_t11 : Fin (k0_t11_loop v24 v27 k0_t2).trips), ∀ a, (k0_off71 v24 v27 k0_t2 k0_t11) a + S1x16.size a ≤ S200x128.size a := fun v24 v27 k0_hw5 k0_t2 k0_t11 => k0_hw5.1.2.2.2.1 k0_t2 k0_t11
theorem k0_off72_inb : ∀ (v24 : BitVec 32) (v27 : BitVec 32) (k0_hw5 : k0_chk5 v24 v27) (k0_t2 : Fin k0_t2_loop.trips) (k0_t11 : Fin (k0_t11_loop v24 v27 k0_t2).trips), ∀ a, (k0_off72 v24 v27 k0_t2 k0_t11) a + S1x16.size a ≤ S200x128.size a := fun v24 v27 k0_hw5 k0_t2 k0_t11 => k0_hw5.1.2.2.2.2.1 k0_t2 k0_t11
theorem k0_off73_inb : ∀ (v24 : BitVec 32) (v27 : BitVec 32) (k0_hw5 : k0_chk5 v24 v27) (k0_t2 : Fin k0_t2_loop.trips) (k0_t11 : Fin (k0_t11_loop v24 v27 k0_t2).trips), ∀ a, (k0_off73 v24 v27 k0_t2 k0_t11) a + S1x16.size a ≤ S200x128.size a := fun v24 v27 k0_hw5 k0_t2 k0_t11 => k0_hw5.1.2.2.2.2.2.1 k0_t2 k0_t11
theorem k0_off74_inb : ∀ (v24 : BitVec 32) (v27 : BitVec 32) (k0_hw5 : k0_chk5 v24 v27) (k0_t2 : Fin k0_t2_loop.trips) (k0_t11 : Fin (k0_t11_loop v24 v27 k0_t2).trips), ∀ a, (k0_off74 v24 v27 k0_t2 k0_t11) a + S1x16.size a ≤ S200x128.size a := fun v24 v27 k0_hw5 k0_t2 k0_t11 => k0_hw5.1.2.2.2.2.2.2.1 k0_t2 k0_t11
theorem k0_off75_inb : ∀ (v24 : BitVec 32) (v27 : BitVec 32) (k0_hw5 : k0_chk5 v24 v27) (k0_t2 : Fin k0_t2_loop.trips) (k0_t11 : Fin (k0_t11_loop v24 v27 k0_t2).trips), ∀ a, (k0_off75 v24 v27 k0_t2 k0_t11) a + S1x16.size a ≤ S200x128.size a := fun v24 v27 k0_hw5 k0_t2 k0_t11 => k0_hw5.1.2.2.2.2.2.2.2.1 k0_t2 k0_t11
theorem k0_off76_inb : ∀ (v24 : BitVec 32) (v27 : BitVec 32) (k0_hw5 : k0_chk5 v24 v27) (k0_t2 : Fin k0_t2_loop.trips) (k0_t11 : Fin (k0_t11_loop v24 v27 k0_t2).trips), ∀ a, (k0_off76 v24 v27 k0_t2 k0_t11) a + S1x16.size a ≤ S200x128.size a := fun v24 v27 k0_hw5 k0_t2 k0_t11 => k0_hw5.1.2.2.2.2.2.2.2.2.1 k0_t2 k0_t11
theorem k0_t12_ok : ∀ (v24 : BitVec 32) (v27 : BitVec 32) (k0_hw5 : k0_chk5 v24 v27) (k0_t2 : Fin k0_t2_loop.trips), (k0_t12_loop v24 v27 k0_t2).OK := fun v24 v27 k0_hw5 k0_t2 => k0_hw5.1.2.2.2.2.2.2.2.2.2.1 k0_t2
theorem k0_off77_inb : ∀ (v24 : BitVec 32) (v27 : BitVec 32) (k0_hw5 : k0_chk5 v24 v27) (k0_t2 : Fin k0_t2_loop.trips) (k0_t12 : Fin (k0_t12_loop v24 v27 k0_t2).trips), ∀ a, (k0_off77 v24 v27 k0_t2 k0_t12) a + S1x16.size a ≤ S200x128.size a := fun v24 v27 k0_hw5 k0_t2 k0_t12 => k0_hw5.1.2.2.2.2.2.2.2.2.2.2.1 k0_t2 k0_t12
theorem k0_off78_inb : ∀ (v24 : BitVec 32) (v27 : BitVec 32) (k0_hw5 : k0_chk5 v24 v27) (k0_t2 : Fin k0_t2_loop.trips) (k0_t12 : Fin (k0_t12_loop v24 v27 k0_t2).trips), ∀ a, (k0_off78 v24 v27 k0_t2 k0_t12) a + S1x16.size a ≤ S200x128.size a := fun v24 v27 k0_hw5 k0_t2 k0_t12 => k0_hw5.1.2.2.2.2.2.2.2.2.2.2.2.1 k0_t2 k0_t12
theorem k0_off79_inb : ∀ (v24 : BitVec 32) (v27 : BitVec 32) (k0_hw5 : k0_chk5 v24 v27) (k0_t2 : Fin k0_t2_loop.trips) (k0_t12 : Fin (k0_t12_loop v24 v27 k0_t2).trips), ∀ a, (k0_off79 v24 v27 k0_t2 k0_t12) a + S1x16.size a ≤ S200x128.size a := fun v24 v27 k0_hw5 k0_t2 k0_t12 => k0_hw5.1.2.2.2.2.2.2.2.2.2.2.2.2.1 k0_t2 k0_t12
theorem k0_off80_inb : ∀ (v24 : BitVec 32) (v27 : BitVec 32) (k0_hw5 : k0_chk5 v24 v27) (k0_t2 : Fin k0_t2_loop.trips) (k0_t12 : Fin (k0_t12_loop v24 v27 k0_t2).trips), ∀ a, (k0_off80 v24 v27 k0_t2 k0_t12) a + S1x16.size a ≤ S200x128.size a := fun v24 v27 k0_hw5 k0_t2 k0_t12 => k0_hw5.1.2.2.2.2.2.2.2.2.2.2.2.2.2.1 k0_t2 k0_t12
theorem k0_off81_inb : ∀ (v24 : BitVec 32) (v27 : BitVec 32) (k0_hw5 : k0_chk5 v24 v27) (k0_t2 : Fin k0_t2_loop.trips) (k0_t12 : Fin (k0_t12_loop v24 v27 k0_t2).trips), ∀ a, (k0_off81 v24 v27 k0_t2 k0_t12) a + S1x16.size a ≤ S200x128.size a := fun v24 v27 k0_hw5 k0_t2 k0_t12 => k0_hw5.1.2.2.2.2.2.2.2.2.2.2.2.2.2.2.1 k0_t2 k0_t12
theorem k0_off82_inb : ∀ (v24 : BitVec 32) (v27 : BitVec 32) (k0_hw5 : k0_chk5 v24 v27) (k0_t2 : Fin k0_t2_loop.trips) (k0_t12 : Fin (k0_t12_loop v24 v27 k0_t2).trips), ∀ a, (k0_off82 v24 v27 k0_t2 k0_t12) a + S1x16.size a ≤ S200x128.size a := fun v24 v27 k0_hw5 k0_t2 k0_t12 => k0_hw5.1.2.2.2.2.2.2.2.2.2.2.2.2.2.2.2.1 k0_t2 k0_t12
theorem k0_off83_inb : ∀ (v24 : BitVec 32) (v27 : BitVec 32) (k0_hw5 : k0_chk5 v24 v27) (k0_t2 : Fin k0_t2_loop.trips) (k0_t12 : Fin (k0_t12_loop v24 v27 k0_t2).trips), ∀ a, (k0_off83 v24 v27 k0_t2 k0_t12) a + S1x16.size a ≤ S200x128.size a := fun v24 v27 k0_hw5 k0_t2 k0_t12 => k0_hw5.1.2.2.2.2.2.2.2.2.2.2.2.2.2.2.2.2.1 k0_t2 k0_t12
theorem k0_off84_inb : ∀ (v24 : BitVec 32) (v27 : BitVec 32) (k0_hw5 : k0_chk5 v24 v27) (k0_t2 : Fin k0_t2_loop.trips) (k0_t12 : Fin (k0_t12_loop v24 v27 k0_t2).trips), ∀ a, (k0_off84 v24 v27 k0_t2 k0_t12) a + S1x16.size a ≤ S200x128.size a := fun v24 v27 k0_hw5 k0_t2 k0_t12 => k0_hw5.1.2.2.2.2.2.2.2.2.2.2.2.2.2.2.2.2.2.1 k0_t2 k0_t12
theorem k0_t27_ok : ∀ (v24 : BitVec 32) (v27 : BitVec 32) (k0_hw5 : k0_chk5 v24 v27) (k0_t2 : Fin k0_t2_loop.trips), (k0_t27_loop v24 v27 k0_t2).OK := fun v24 v27 k0_hw5 k0_t2 => k0_hw5.1.2.2.2.2.2.2.2.2.2.2.2.2.2.2.2.2.2.2.1 k0_t2
theorem k0_off199_inb : ∀ (v24 : BitVec 32) (v27 : BitVec 32) (k0_hw5 : k0_chk5 v24 v27) (k0_t2 : Fin k0_t2_loop.trips) (k0_t27 : Fin (k0_t27_loop v24 v27 k0_t2).trips), ∀ a, (k0_off199 v24 v27 k0_t2 k0_t27) a + S1x16.size a ≤ S200x128.size a := fun v24 v27 k0_hw5 k0_t2 k0_t27 => k0_hw5.1.2.2.2.2.2.2.2.2.2.2.2.2.2.2.2.2.2.2.2.1 k0_t2 k0_t27
theorem k0_off200_inb : ∀ (v24 : BitVec 32) (v27 : BitVec 32) (k0_hw5 : k0_chk5 v24 v27) (k0_t2 : Fin k0_t2_loop.trips) (k0_t27 : Fin (k0_t27_loop v24 v27 k0_t2).trips), ∀ a, (k0_off200 v24 v27 k0_t2 k0_t27) a + S1x16.size a ≤ S200x128.size a := fun v24 v27 k0_hw5 k0_t2 k0_t27 => k0_hw5.1.2.2.2.2.2.2.2.2.2.2.2.2.2.2.2.2.2.2.2.2.1 k0_t2 k0_t27
theorem k0_off201_inb : ∀ (v24 : BitVec 32) (v27 : BitVec 32) (k0_hw5 : k0_chk5 v24 v27) (k0_t2 : Fin k0_t2_loop.trips) (k0_t27 : Fin (k0_t27_loop v24 v27 k0_t2).trips), ∀ a, (k0_off201 v24 v27 k0_t2 k0_t27) a + S1x16.size a ≤ S200x128.size a := fun v24 v27 k0_hw5 k0_t2 k0_t27 => k0_hw5.1.2.2.2.2.2.2.2.2.2.2.2.2.2.2.2.2.2.2.2.2.2.1 k0_t2 k0_t27
theorem k0_off202_inb : ∀ (v24 : BitVec 32) (v27 : BitVec 32) (k0_hw5 : k0_chk5 v24 v27) (k0_t2 : Fin k0_t2_loop.trips) (k0_t27 : Fin (k0_t27_loop v24 v27 k0_t2).trips), ∀ a, (k0_off202 v24 v27 k0_t2 k0_t27) a + S1x16.size a ≤ S200x128.size a := fun v24 v27 k0_hw5 k0_t2 k0_t27 => k0_hw5.1.2.2.2.2.2.2.2.2.2.2.2.2.2.2.2.2.2.2.2.2.2.2.1 k0_t2 k0_t27
theorem k0_off203_inb : ∀ (v24 : BitVec 32) (v27 : BitVec 32) (k0_hw5 : k0_chk5 v24 v27) (k0_t2 : Fin k0_t2_loop.trips) (k0_t27 : Fin (k0_t27_loop v24 v27 k0_t2).trips), ∀ a, (k0_off203 v24 v27 k0_t2 k0_t27) a + S1x16.size a ≤ S200x128.size a := fun v24 v27 k0_hw5 k0_t2 k0_t27 => k0_hw5.1.2.2.2.2.2.2.2.2.2.2.2.2.2.2.2.2.2.2.2.2.2.2.2.1 k0_t2 k0_t27
theorem k0_off204_inb : ∀ (v24 : BitVec 32) (v27 : BitVec 32) (k0_hw5 : k0_chk5 v24 v27) (k0_t2 : Fin k0_t2_loop.trips) (k0_t27 : Fin (k0_t27_loop v24 v27 k0_t2).trips), ∀ a, (k0_off204 v24 v27 k0_t2 k0_t27) a + S1x16.size a ≤ S200x128.size a := fun v24 v27 k0_hw5 k0_t2 k0_t27 => k0_hw5.1.2.2.2.2.2.2.2.2.2.2.2.2.2.2.2.2.2.2.2.2.2.2.2.2.1 k0_t2 k0_t27
theorem k0_off205_inb : ∀ (v24 : BitVec 32) (v27 : BitVec 32) (k0_hw5 : k0_chk5 v24 v27) (k0_t2 : Fin k0_t2_loop.trips) (k0_t27 : Fin (k0_t27_loop v24 v27 k0_t2).trips), ∀ a, (k0_off205 v24 v27 k0_t2 k0_t27) a + S1x16.size a ≤ S200x128.size a := fun v24 v27 k0_hw5 k0_t2 k0_t27 => k0_hw5.1.2.2.2.2.2.2.2.2.2.2.2.2.2.2.2.2.2.2.2.2.2.2.2.2.2.1 k0_t2 k0_t27
theorem k0_off206_inb : ∀ (v24 : BitVec 32) (v27 : BitVec 32) (k0_hw5 : k0_chk5 v24 v27) (k0_t2 : Fin k0_t2_loop.trips) (k0_t27 : Fin (k0_t27_loop v24 v27 k0_t2).trips), ∀ a, (k0_off206 v24 v27 k0_t2 k0_t27) a + S1x16.size a ≤ S200x128.size a := fun v24 v27 k0_hw5 k0_t2 k0_t27 => k0_hw5.1.2.2.2.2.2.2.2.2.2.2.2.2.2.2.2.2.2.2.2.2.2.2.2.2.2.2.1 k0_t2 k0_t27
theorem k0_t28_ok : ∀ (v24 : BitVec 32) (v27 : BitVec 32) (k0_hw5 : k0_chk5 v24 v27) (k0_t2 : Fin k0_t2_loop.trips), (k0_t28_loop v24 v27 k0_t2).OK := fun v24 v27 k0_hw5 k0_t2 => k0_hw5.1.2.2.2.2.2.2.2.2.2.2.2.2.2.2.2.2.2.2.2.2.2.2.2.2.2.2.2.1 k0_t2
theorem k0_off207_inb : ∀ (v24 : BitVec 32) (v27 : BitVec 32) (k0_hw5 : k0_chk5 v24 v27) (k0_t2 : Fin k0_t2_loop.trips) (k0_t28 : Fin (k0_t28_loop v24 v27 k0_t2).trips), ∀ a, (k0_off207 v24 v27 k0_t2 k0_t28) a + S1x16.size a ≤ S200x128.size a := fun v24 v27 k0_hw5 k0_t2 k0_t28 => k0_hw5.1.2.2.2.2.2.2.2.2.2.2.2.2.2.2.2.2.2.2.2.2.2.2.2.2.2.2.2.2.1 k0_t2 k0_t28
theorem k0_off208_inb : ∀ (v24 : BitVec 32) (v27 : BitVec 32) (k0_hw5 : k0_chk5 v24 v27) (k0_t2 : Fin k0_t2_loop.trips) (k0_t28 : Fin (k0_t28_loop v24 v27 k0_t2).trips), ∀ a, (k0_off208 v24 v27 k0_t2 k0_t28) a + S1x16.size a ≤ S200x128.size a := fun v24 v27 k0_hw5 k0_t2 k0_t28 => k0_hw5.1.2.2.2.2.2.2.2.2.2.2.2.2.2.2.2.2.2.2.2.2.2.2.2.2.2.2.2.2.2.1 k0_t2 k0_t28
theorem k0_off209_inb : ∀ (v24 : BitVec 32) (v27 : BitVec 32) (k0_hw5 : k0_chk5 v24 v27) (k0_t2 : Fin k0_t2_loop.trips) (k0_t28 : Fin (k0_t28_loop v24 v27 k0_t2).trips), ∀ a, (k0_off209 v24 v27 k0_t2 k0_t28) a + S1x16.size a ≤ S200x128.size a := fun v24 v27 k0_hw5 k0_t2 k0_t28 => k0_hw5.1.2.2.2.2.2.2.2.2.2.2.2.2.2.2.2.2.2.2.2.2.2.2.2.2.2.2.2.2.2.2.1 k0_t2 k0_t28
theorem k0_off210_inb : ∀ (v24 : BitVec 32) (v27 : BitVec 32) (k0_hw5 : k0_chk5 v24 v27) (k0_t2 : Fin k0_t2_loop.trips) (k0_t28 : Fin (k0_t28_loop v24 v27 k0_t2).trips), ∀ a, (k0_off210 v24 v27 k0_t2 k0_t28) a + S1x16.size a ≤ S200x128.size a := fun v24 v27 k0_hw5 k0_t2 k0_t28 => k0_hw5.1.2.2.2.2.2.2.2.2.2.2.2.2.2.2.2.2.2.2.2.2.2.2.2.2.2.2.2.2.2.2.2 k0_t2 k0_t28
theorem k0_off211_inb : ∀ (v24 : BitVec 32) (v27 : BitVec 32) (k0_hw5 : k0_chk5 v24 v27) (k0_t2 : Fin k0_t2_loop.trips) (k0_t28 : Fin (k0_t28_loop v24 v27 k0_t2).trips), ∀ a, (k0_off211 v24 v27 k0_t2 k0_t28) a + S1x16.size a ≤ S200x128.size a := fun v24 v27 k0_hw5 k0_t2 k0_t28 => k0_hw5.2.1 k0_t2 k0_t28
theorem k0_off212_inb : ∀ (v24 : BitVec 32) (v27 : BitVec 32) (k0_hw5 : k0_chk5 v24 v27) (k0_t2 : Fin k0_t2_loop.trips) (k0_t28 : Fin (k0_t28_loop v24 v27 k0_t2).trips), ∀ a, (k0_off212 v24 v27 k0_t2 k0_t28) a + S1x16.size a ≤ S200x128.size a := fun v24 v27 k0_hw5 k0_t2 k0_t28 => k0_hw5.2.2.1 k0_t2 k0_t28
theorem k0_off213_inb : ∀ (v24 : BitVec 32) (v27 : BitVec 32) (k0_hw5 : k0_chk5 v24 v27) (k0_t2 : Fin k0_t2_loop.trips) (k0_t28 : Fin (k0_t28_loop v24 v27 k0_t2).trips), ∀ a, (k0_off213 v24 v27 k0_t2 k0_t28) a + S1x16.size a ≤ S200x128.size a := fun v24 v27 k0_hw5 k0_t2 k0_t28 => k0_hw5.2.2.2.1 k0_t2 k0_t28
theorem k0_off214_inb : ∀ (v24 : BitVec 32) (v27 : BitVec 32) (k0_hw5 : k0_chk5 v24 v27) (k0_t2 : Fin k0_t2_loop.trips) (k0_t28 : Fin (k0_t28_loop v24 v27 k0_t2).trips), ∀ a, (k0_off214 v24 v27 k0_t2 k0_t28) a + S1x16.size a ≤ S200x128.size a := fun v24 v27 k0_hw5 k0_t2 k0_t28 => k0_hw5.2.2.2.2 k0_t2 k0_t28

@[reducible] def k0_t29_loop (v27 : BitVec 32) (v30 : BitVec 32) (k0_t2 : Fin k0_t2_loop.trips) : Scf.Loop 32 :=
  let c200_i32_421 : BitVec 32 := 200#32
  let c0_i32_420 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v577 : BitVec 32 := Scalar.subi v27 v496
  let v578 : BitVec 32 := Scalar.maxsi c0_i32_420 v577
  let v579 : BitVec 32 := Scalar.minsi c200_i32_421 v578
  let c200_i32_422 : BitVec 32 := 200#32
  let v580 : BitVec 32 := Scalar.subi v30 v496
  let v581 : BitVec 32 := Scalar.maxsi v579 v580
  let v582 : BitVec 32 := Scalar.minsi c200_i32_422 v581
  let v583 : BitVec 32 := Scalar.subi v582 v579
  let c1_i32_424 : BitVec 32 := 1#32
  let v585 : BitVec 32 := Scalar.divsi v583 c1_i32_424
  let v586 : BitVec 32 := Scalar.muli v585 c1_i32_424
  let v587 : BitVec 32 := Scalar.addi v579 v586
  let c1_i32_425 : BitVec 32 := 1#32
  ⟨v579, v587, c1_i32_425⟩
def k0_off215 (v27 : BitVec 32) (v30 : BitVec 32) (k0_t2 : Fin k0_t2_loop.trips) (k0_t29 : Fin (k0_t29_loop v27 v30 k0_t2).trips) : Fin 2 → Nat :=
  let c200_i32_421 : BitVec 32 := 200#32
  let c0_i32_420 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v577 : BitVec 32 := Scalar.subi v27 v496
  let v578 : BitVec 32 := Scalar.maxsi c0_i32_420 v577
  let v579 : BitVec 32 := Scalar.minsi c200_i32_421 v578
  let c1_i32_425 : BitVec 32 := 1#32
  let arg16 : BitVec 32 := Scf.iv v579 c1_i32_425 k0_t29
  let v630 : Index := Scalar.indexCast arg16
  let c0_449 : Index := 0#32
  ![v630.toNat, 0]
def k0_off216 (v27 : BitVec 32) (v30 : BitVec 32) (k0_t2 : Fin k0_t2_loop.trips) (k0_t29 : Fin (k0_t29_loop v27 v30 k0_t2).trips) : Fin 2 → Nat :=
  let c200_i32_421 : BitVec 32 := 200#32
  let c0_i32_420 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v577 : BitVec 32 := Scalar.subi v27 v496
  let v578 : BitVec 32 := Scalar.maxsi c0_i32_420 v577
  let v579 : BitVec 32 := Scalar.minsi c200_i32_421 v578
  let c1_i32_425 : BitVec 32 := 1#32
  let arg16 : BitVec 32 := Scf.iv v579 c1_i32_425 k0_t29
  let v637 : Index := Scalar.indexCast arg16
  let c16_452 : Index := 16#32
  ![v637.toNat, 16]
def k0_off217 (v27 : BitVec 32) (v30 : BitVec 32) (k0_t2 : Fin k0_t2_loop.trips) (k0_t29 : Fin (k0_t29_loop v27 v30 k0_t2).trips) : Fin 2 → Nat :=
  let c200_i32_421 : BitVec 32 := 200#32
  let c0_i32_420 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v577 : BitVec 32 := Scalar.subi v27 v496
  let v578 : BitVec 32 := Scalar.maxsi c0_i32_420 v577
  let v579 : BitVec 32 := Scalar.minsi c200_i32_421 v578
  let c1_i32_425 : BitVec 32 := 1#32
  let arg16 : BitVec 32 := Scf.iv v579 c1_i32_425 k0_t29
  let v644 : Index := Scalar.indexCast arg16
  let c32_455 : Index := 32#32
  ![v644.toNat, 32]
def k0_off218 (v27 : BitVec 32) (v30 : BitVec 32) (k0_t2 : Fin k0_t2_loop.trips) (k0_t29 : Fin (k0_t29_loop v27 v30 k0_t2).trips) : Fin 2 → Nat :=
  let c200_i32_421 : BitVec 32 := 200#32
  let c0_i32_420 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v577 : BitVec 32 := Scalar.subi v27 v496
  let v578 : BitVec 32 := Scalar.maxsi c0_i32_420 v577
  let v579 : BitVec 32 := Scalar.minsi c200_i32_421 v578
  let c1_i32_425 : BitVec 32 := 1#32
  let arg16 : BitVec 32 := Scf.iv v579 c1_i32_425 k0_t29
  let v651 : Index := Scalar.indexCast arg16
  let c48_458 : Index := 48#32
  ![v651.toNat, 48]
def k0_off219 (v27 : BitVec 32) (v30 : BitVec 32) (k0_t2 : Fin k0_t2_loop.trips) (k0_t29 : Fin (k0_t29_loop v27 v30 k0_t2).trips) : Fin 2 → Nat :=
  let c200_i32_421 : BitVec 32 := 200#32
  let c0_i32_420 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v577 : BitVec 32 := Scalar.subi v27 v496
  let v578 : BitVec 32 := Scalar.maxsi c0_i32_420 v577
  let v579 : BitVec 32 := Scalar.minsi c200_i32_421 v578
  let c1_i32_425 : BitVec 32 := 1#32
  let arg16 : BitVec 32 := Scf.iv v579 c1_i32_425 k0_t29
  let v658 : Index := Scalar.indexCast arg16
  let c64_461 : Index := 64#32
  ![v658.toNat, 64]
def k0_off220 (v27 : BitVec 32) (v30 : BitVec 32) (k0_t2 : Fin k0_t2_loop.trips) (k0_t29 : Fin (k0_t29_loop v27 v30 k0_t2).trips) : Fin 2 → Nat :=
  let c200_i32_421 : BitVec 32 := 200#32
  let c0_i32_420 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v577 : BitVec 32 := Scalar.subi v27 v496
  let v578 : BitVec 32 := Scalar.maxsi c0_i32_420 v577
  let v579 : BitVec 32 := Scalar.minsi c200_i32_421 v578
  let c1_i32_425 : BitVec 32 := 1#32
  let arg16 : BitVec 32 := Scf.iv v579 c1_i32_425 k0_t29
  let v665 : Index := Scalar.indexCast arg16
  let c80_464 : Index := 80#32
  ![v665.toNat, 80]
def k0_off221 (v27 : BitVec 32) (v30 : BitVec 32) (k0_t2 : Fin k0_t2_loop.trips) (k0_t29 : Fin (k0_t29_loop v27 v30 k0_t2).trips) : Fin 2 → Nat :=
  let c200_i32_421 : BitVec 32 := 200#32
  let c0_i32_420 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v577 : BitVec 32 := Scalar.subi v27 v496
  let v578 : BitVec 32 := Scalar.maxsi c0_i32_420 v577
  let v579 : BitVec 32 := Scalar.minsi c200_i32_421 v578
  let c1_i32_425 : BitVec 32 := 1#32
  let arg16 : BitVec 32 := Scf.iv v579 c1_i32_425 k0_t29
  let v672 : Index := Scalar.indexCast arg16
  let c96_467 : Index := 96#32
  ![v672.toNat, 96]
def k0_off222 (v27 : BitVec 32) (v30 : BitVec 32) (k0_t2 : Fin k0_t2_loop.trips) (k0_t29 : Fin (k0_t29_loop v27 v30 k0_t2).trips) : Fin 2 → Nat :=
  let c200_i32_421 : BitVec 32 := 200#32
  let c0_i32_420 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v577 : BitVec 32 := Scalar.subi v27 v496
  let v578 : BitVec 32 := Scalar.maxsi c0_i32_420 v577
  let v579 : BitVec 32 := Scalar.minsi c200_i32_421 v578
  let c1_i32_425 : BitVec 32 := 1#32
  let arg16 : BitVec 32 := Scf.iv v579 c1_i32_425 k0_t29
  let v679 : Index := Scalar.indexCast arg16
  let c112_470 : Index := 112#32
  ![v679.toNat, 112]
@[reducible] def k0_t30_loop (v27 : BitVec 32) (v30 : BitVec 32) (k0_t2 : Fin k0_t2_loop.trips) : Scf.Loop 32 :=
  let c200_i32_421 : BitVec 32 := 200#32
  let c0_i32_420 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v577 : BitVec 32 := Scalar.subi v27 v496
  let v578 : BitVec 32 := Scalar.maxsi c0_i32_420 v577
  let v579 : BitVec 32 := Scalar.minsi c200_i32_421 v578
  let c200_i32_422 : BitVec 32 := 200#32
  let v580 : BitVec 32 := Scalar.subi v30 v496
  let v581 : BitVec 32 := Scalar.maxsi v579 v580
  let v582 : BitVec 32 := Scalar.minsi c200_i32_422 v581
  let v583 : BitVec 32 := Scalar.subi v582 v579
  let c1_i32_424 : BitVec 32 := 1#32
  let v585 : BitVec 32 := Scalar.divsi v583 c1_i32_424
  let v586 : BitVec 32 := Scalar.muli v585 c1_i32_424
  let v587 : BitVec 32 := Scalar.addi v579 v586
  let v584 : BitVec 32 := Scalar.addi v579 v583
  let c1_i32_426 : BitVec 32 := 1#32
  ⟨v587, v584, c1_i32_426⟩
def k0_off223 (v27 : BitVec 32) (v30 : BitVec 32) (k0_t2 : Fin k0_t2_loop.trips) (k0_t30 : Fin (k0_t30_loop v27 v30 k0_t2).trips) : Fin 2 → Nat :=
  let c200_i32_421 : BitVec 32 := 200#32
  let c0_i32_420 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v577 : BitVec 32 := Scalar.subi v27 v496
  let v578 : BitVec 32 := Scalar.maxsi c0_i32_420 v577
  let v579 : BitVec 32 := Scalar.minsi c200_i32_421 v578
  let c200_i32_422 : BitVec 32 := 200#32
  let v580 : BitVec 32 := Scalar.subi v30 v496
  let v581 : BitVec 32 := Scalar.maxsi v579 v580
  let v582 : BitVec 32 := Scalar.minsi c200_i32_422 v581
  let v583 : BitVec 32 := Scalar.subi v582 v579
  let c1_i32_424 : BitVec 32 := 1#32
  let v585 : BitVec 32 := Scalar.divsi v583 c1_i32_424
  let v586 : BitVec 32 := Scalar.muli v585 c1_i32_424
  let v587 : BitVec 32 := Scalar.addi v579 v586
  let c1_i32_426 : BitVec 32 := 1#32
  let arg16 : BitVec 32 := Scf.iv v587 c1_i32_426 k0_t30
  let v630 : Index := Scalar.indexCast arg16
  let c0_449 : Index := 0#32
  ![v630.toNat, 0]
def k0_off224 (v27 : BitVec 32) (v30 : BitVec 32) (k0_t2 : Fin k0_t2_loop.trips) (k0_t30 : Fin (k0_t30_loop v27 v30 k0_t2).trips) : Fin 2 → Nat :=
  let c200_i32_421 : BitVec 32 := 200#32
  let c0_i32_420 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v577 : BitVec 32 := Scalar.subi v27 v496
  let v578 : BitVec 32 := Scalar.maxsi c0_i32_420 v577
  let v579 : BitVec 32 := Scalar.minsi c200_i32_421 v578
  let c200_i32_422 : BitVec 32 := 200#32
  let v580 : BitVec 32 := Scalar.subi v30 v496
  let v581 : BitVec 32 := Scalar.maxsi v579 v580
  let v582 : BitVec 32 := Scalar.minsi c200_i32_422 v581
  let v583 : BitVec 32 := Scalar.subi v582 v579
  let c1_i32_424 : BitVec 32 := 1#32
  let v585 : BitVec 32 := Scalar.divsi v583 c1_i32_424
  let v586 : BitVec 32 := Scalar.muli v585 c1_i32_424
  let v587 : BitVec 32 := Scalar.addi v579 v586
  let c1_i32_426 : BitVec 32 := 1#32
  let arg16 : BitVec 32 := Scf.iv v587 c1_i32_426 k0_t30
  let v637 : Index := Scalar.indexCast arg16
  let c16_452 : Index := 16#32
  ![v637.toNat, 16]
def k0_off225 (v27 : BitVec 32) (v30 : BitVec 32) (k0_t2 : Fin k0_t2_loop.trips) (k0_t30 : Fin (k0_t30_loop v27 v30 k0_t2).trips) : Fin 2 → Nat :=
  let c200_i32_421 : BitVec 32 := 200#32
  let c0_i32_420 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v577 : BitVec 32 := Scalar.subi v27 v496
  let v578 : BitVec 32 := Scalar.maxsi c0_i32_420 v577
  let v579 : BitVec 32 := Scalar.minsi c200_i32_421 v578
  let c200_i32_422 : BitVec 32 := 200#32
  let v580 : BitVec 32 := Scalar.subi v30 v496
  let v581 : BitVec 32 := Scalar.maxsi v579 v580
  let v582 : BitVec 32 := Scalar.minsi c200_i32_422 v581
  let v583 : BitVec 32 := Scalar.subi v582 v579
  let c1_i32_424 : BitVec 32 := 1#32
  let v585 : BitVec 32 := Scalar.divsi v583 c1_i32_424
  let v586 : BitVec 32 := Scalar.muli v585 c1_i32_424
  let v587 : BitVec 32 := Scalar.addi v579 v586
  let c1_i32_426 : BitVec 32 := 1#32
  let arg16 : BitVec 32 := Scf.iv v587 c1_i32_426 k0_t30
  let v644 : Index := Scalar.indexCast arg16
  let c32_455 : Index := 32#32
  ![v644.toNat, 32]
def k0_off226 (v27 : BitVec 32) (v30 : BitVec 32) (k0_t2 : Fin k0_t2_loop.trips) (k0_t30 : Fin (k0_t30_loop v27 v30 k0_t2).trips) : Fin 2 → Nat :=
  let c200_i32_421 : BitVec 32 := 200#32
  let c0_i32_420 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v577 : BitVec 32 := Scalar.subi v27 v496
  let v578 : BitVec 32 := Scalar.maxsi c0_i32_420 v577
  let v579 : BitVec 32 := Scalar.minsi c200_i32_421 v578
  let c200_i32_422 : BitVec 32 := 200#32
  let v580 : BitVec 32 := Scalar.subi v30 v496
  let v581 : BitVec 32 := Scalar.maxsi v579 v580
  let v582 : BitVec 32 := Scalar.minsi c200_i32_422 v581
  let v583 : BitVec 32 := Scalar.subi v582 v579
  let c1_i32_424 : BitVec 32 := 1#32
  let v585 : BitVec 32 := Scalar.divsi v583 c1_i32_424
  let v586 : BitVec 32 := Scalar.muli v585 c1_i32_424
  let v587 : BitVec 32 := Scalar.addi v579 v586
  let c1_i32_426 : BitVec 32 := 1#32
  let arg16 : BitVec 32 := Scf.iv v587 c1_i32_426 k0_t30
  let v651 : Index := Scalar.indexCast arg16
  let c48_458 : Index := 48#32
  ![v651.toNat, 48]
def k0_off227 (v27 : BitVec 32) (v30 : BitVec 32) (k0_t2 : Fin k0_t2_loop.trips) (k0_t30 : Fin (k0_t30_loop v27 v30 k0_t2).trips) : Fin 2 → Nat :=
  let c200_i32_421 : BitVec 32 := 200#32
  let c0_i32_420 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v577 : BitVec 32 := Scalar.subi v27 v496
  let v578 : BitVec 32 := Scalar.maxsi c0_i32_420 v577
  let v579 : BitVec 32 := Scalar.minsi c200_i32_421 v578
  let c200_i32_422 : BitVec 32 := 200#32
  let v580 : BitVec 32 := Scalar.subi v30 v496
  let v581 : BitVec 32 := Scalar.maxsi v579 v580
  let v582 : BitVec 32 := Scalar.minsi c200_i32_422 v581
  let v583 : BitVec 32 := Scalar.subi v582 v579
  let c1_i32_424 : BitVec 32 := 1#32
  let v585 : BitVec 32 := Scalar.divsi v583 c1_i32_424
  let v586 : BitVec 32 := Scalar.muli v585 c1_i32_424
  let v587 : BitVec 32 := Scalar.addi v579 v586
  let c1_i32_426 : BitVec 32 := 1#32
  let arg16 : BitVec 32 := Scf.iv v587 c1_i32_426 k0_t30
  let v658 : Index := Scalar.indexCast arg16
  let c64_461 : Index := 64#32
  ![v658.toNat, 64]
def k0_off228 (v27 : BitVec 32) (v30 : BitVec 32) (k0_t2 : Fin k0_t2_loop.trips) (k0_t30 : Fin (k0_t30_loop v27 v30 k0_t2).trips) : Fin 2 → Nat :=
  let c200_i32_421 : BitVec 32 := 200#32
  let c0_i32_420 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v577 : BitVec 32 := Scalar.subi v27 v496
  let v578 : BitVec 32 := Scalar.maxsi c0_i32_420 v577
  let v579 : BitVec 32 := Scalar.minsi c200_i32_421 v578
  let c200_i32_422 : BitVec 32 := 200#32
  let v580 : BitVec 32 := Scalar.subi v30 v496
  let v581 : BitVec 32 := Scalar.maxsi v579 v580
  let v582 : BitVec 32 := Scalar.minsi c200_i32_422 v581
  let v583 : BitVec 32 := Scalar.subi v582 v579
  let c1_i32_424 : BitVec 32 := 1#32
  let v585 : BitVec 32 := Scalar.divsi v583 c1_i32_424
  let v586 : BitVec 32 := Scalar.muli v585 c1_i32_424
  let v587 : BitVec 32 := Scalar.addi v579 v586
  let c1_i32_426 : BitVec 32 := 1#32
  let arg16 : BitVec 32 := Scf.iv v587 c1_i32_426 k0_t30
  let v665 : Index := Scalar.indexCast arg16
  let c80_464 : Index := 80#32
  ![v665.toNat, 80]
def k0_off229 (v27 : BitVec 32) (v30 : BitVec 32) (k0_t2 : Fin k0_t2_loop.trips) (k0_t30 : Fin (k0_t30_loop v27 v30 k0_t2).trips) : Fin 2 → Nat :=
  let c200_i32_421 : BitVec 32 := 200#32
  let c0_i32_420 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v577 : BitVec 32 := Scalar.subi v27 v496
  let v578 : BitVec 32 := Scalar.maxsi c0_i32_420 v577
  let v579 : BitVec 32 := Scalar.minsi c200_i32_421 v578
  let c200_i32_422 : BitVec 32 := 200#32
  let v580 : BitVec 32 := Scalar.subi v30 v496
  let v581 : BitVec 32 := Scalar.maxsi v579 v580
  let v582 : BitVec 32 := Scalar.minsi c200_i32_422 v581
  let v583 : BitVec 32 := Scalar.subi v582 v579
  let c1_i32_424 : BitVec 32 := 1#32
  let v585 : BitVec 32 := Scalar.divsi v583 c1_i32_424
  let v586 : BitVec 32 := Scalar.muli v585 c1_i32_424
  let v587 : BitVec 32 := Scalar.addi v579 v586
  let c1_i32_426 : BitVec 32 := 1#32
  let arg16 : BitVec 32 := Scf.iv v587 c1_i32_426 k0_t30
  let v672 : Index := Scalar.indexCast arg16
  let c96_467 : Index := 96#32
  ![v672.toNat, 96]
def k0_off230 (v27 : BitVec 32) (v30 : BitVec 32) (k0_t2 : Fin k0_t2_loop.trips) (k0_t30 : Fin (k0_t30_loop v27 v30 k0_t2).trips) : Fin 2 → Nat :=
  let c200_i32_421 : BitVec 32 := 200#32
  let c0_i32_420 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v577 : BitVec 32 := Scalar.subi v27 v496
  let v578 : BitVec 32 := Scalar.maxsi c0_i32_420 v577
  let v579 : BitVec 32 := Scalar.minsi c200_i32_421 v578
  let c200_i32_422 : BitVec 32 := 200#32
  let v580 : BitVec 32 := Scalar.subi v30 v496
  let v581 : BitVec 32 := Scalar.maxsi v579 v580
  let v582 : BitVec 32 := Scalar.minsi c200_i32_422 v581
  let v583 : BitVec 32 := Scalar.subi v582 v579
  let c1_i32_424 : BitVec 32 := 1#32
  let v585 : BitVec 32 := Scalar.divsi v583 c1_i32_424
  let v586 : BitVec 32 := Scalar.muli v585 c1_i32_424
  let v587 : BitVec 32 := Scalar.addi v579 v586
  let c1_i32_426 : BitVec 32 := 1#32
  let arg16 : BitVec 32 := Scf.iv v587 c1_i32_426 k0_t30
  let v679 : Index := Scalar.indexCast arg16
  let c112_470 : Index := 112#32
  ![v679.toNat, 112]

def k0_chk6_0 (v27 : BitVec 32) (v30 : BitVec 32) : Prop :=
  (∀ k0_t2 : Fin k0_t2_loop.trips, (k0_t13_loop v27 v30 k0_t2).OK) ∧
  (∀ (k0_t2 : Fin k0_t2_loop.trips) (k0_t13 : Fin (k0_t13_loop v27 v30 k0_t2).trips), ∀ a, (k0_off85 v27 v30 k0_t2 k0_t13) a + S1x16.size a ≤ S200x128.size a) ∧
  (∀ (k0_t2 : Fin k0_t2_loop.trips) (k0_t13 : Fin (k0_t13_loop v27 v30 k0_t2).trips), ∀ a, (k0_off86 v27 v30 k0_t2 k0_t13) a + S1x16.size a ≤ S200x128.size a) ∧
  (∀ (k0_t2 : Fin k0_t2_loop.trips) (k0_t13 : Fin (k0_t13_loop v27 v30 k0_t2).trips), ∀ a, (k0_off87 v27 v30 k0_t2 k0_t13) a + S1x16.size a ≤ S200x128.size a) ∧
  (∀ (k0_t2 : Fin k0_t2_loop.trips) (k0_t13 : Fin (k0_t13_loop v27 v30 k0_t2).trips), ∀ a, (k0_off88 v27 v30 k0_t2 k0_t13) a + S1x16.size a ≤ S200x128.size a) ∧
  (∀ (k0_t2 : Fin k0_t2_loop.trips) (k0_t13 : Fin (k0_t13_loop v27 v30 k0_t2).trips), ∀ a, (k0_off89 v27 v30 k0_t2 k0_t13) a + S1x16.size a ≤ S200x128.size a) ∧
  (∀ (k0_t2 : Fin k0_t2_loop.trips) (k0_t13 : Fin (k0_t13_loop v27 v30 k0_t2).trips), ∀ a, (k0_off90 v27 v30 k0_t2 k0_t13) a + S1x16.size a ≤ S200x128.size a) ∧
  (∀ (k0_t2 : Fin k0_t2_loop.trips) (k0_t13 : Fin (k0_t13_loop v27 v30 k0_t2).trips), ∀ a, (k0_off91 v27 v30 k0_t2 k0_t13) a + S1x16.size a ≤ S200x128.size a) ∧
  (∀ (k0_t2 : Fin k0_t2_loop.trips) (k0_t13 : Fin (k0_t13_loop v27 v30 k0_t2).trips), ∀ a, (k0_off92 v27 v30 k0_t2 k0_t13) a + S1x16.size a ≤ S200x128.size a) ∧
  (∀ k0_t2 : Fin k0_t2_loop.trips, (k0_t14_loop v27 v30 k0_t2).OK) ∧
  (∀ (k0_t2 : Fin k0_t2_loop.trips) (k0_t14 : Fin (k0_t14_loop v27 v30 k0_t2).trips), ∀ a, (k0_off93 v27 v30 k0_t2 k0_t14) a + S1x16.size a ≤ S200x128.size a) ∧
  (∀ (k0_t2 : Fin k0_t2_loop.trips) (k0_t14 : Fin (k0_t14_loop v27 v30 k0_t2).trips), ∀ a, (k0_off94 v27 v30 k0_t2 k0_t14) a + S1x16.size a ≤ S200x128.size a) ∧
  (∀ (k0_t2 : Fin k0_t2_loop.trips) (k0_t14 : Fin (k0_t14_loop v27 v30 k0_t2).trips), ∀ a, (k0_off95 v27 v30 k0_t2 k0_t14) a + S1x16.size a ≤ S200x128.size a) ∧
  (∀ (k0_t2 : Fin k0_t2_loop.trips) (k0_t14 : Fin (k0_t14_loop v27 v30 k0_t2).trips), ∀ a, (k0_off96 v27 v30 k0_t2 k0_t14) a + S1x16.size a ≤ S200x128.size a) ∧
  (∀ (k0_t2 : Fin k0_t2_loop.trips) (k0_t14 : Fin (k0_t14_loop v27 v30 k0_t2).trips), ∀ a, (k0_off97 v27 v30 k0_t2 k0_t14) a + S1x16.size a ≤ S200x128.size a) ∧
  (∀ (k0_t2 : Fin k0_t2_loop.trips) (k0_t14 : Fin (k0_t14_loop v27 v30 k0_t2).trips), ∀ a, (k0_off98 v27 v30 k0_t2 k0_t14) a + S1x16.size a ≤ S200x128.size a) ∧
  (∀ (k0_t2 : Fin k0_t2_loop.trips) (k0_t14 : Fin (k0_t14_loop v27 v30 k0_t2).trips), ∀ a, (k0_off99 v27 v30 k0_t2 k0_t14) a + S1x16.size a ≤ S200x128.size a) ∧
  (∀ (k0_t2 : Fin k0_t2_loop.trips) (k0_t14 : Fin (k0_t14_loop v27 v30 k0_t2).trips), ∀ a, (k0_off100 v27 v30 k0_t2 k0_t14) a + S1x16.size a ≤ S200x128.size a) ∧
  (∀ k0_t2 : Fin k0_t2_loop.trips, (k0_t29_loop v27 v30 k0_t2).OK) ∧
  (∀ (k0_t2 : Fin k0_t2_loop.trips) (k0_t29 : Fin (k0_t29_loop v27 v30 k0_t2).trips), ∀ a, (k0_off215 v27 v30 k0_t2 k0_t29) a + S1x16.size a ≤ S200x128.size a) ∧
  (∀ (k0_t2 : Fin k0_t2_loop.trips) (k0_t29 : Fin (k0_t29_loop v27 v30 k0_t2).trips), ∀ a, (k0_off216 v27 v30 k0_t2 k0_t29) a + S1x16.size a ≤ S200x128.size a) ∧
  (∀ (k0_t2 : Fin k0_t2_loop.trips) (k0_t29 : Fin (k0_t29_loop v27 v30 k0_t2).trips), ∀ a, (k0_off217 v27 v30 k0_t2 k0_t29) a + S1x16.size a ≤ S200x128.size a) ∧
  (∀ (k0_t2 : Fin k0_t2_loop.trips) (k0_t29 : Fin (k0_t29_loop v27 v30 k0_t2).trips), ∀ a, (k0_off218 v27 v30 k0_t2 k0_t29) a + S1x16.size a ≤ S200x128.size a) ∧
  (∀ (k0_t2 : Fin k0_t2_loop.trips) (k0_t29 : Fin (k0_t29_loop v27 v30 k0_t2).trips), ∀ a, (k0_off219 v27 v30 k0_t2 k0_t29) a + S1x16.size a ≤ S200x128.size a) ∧
  (∀ (k0_t2 : Fin k0_t2_loop.trips) (k0_t29 : Fin (k0_t29_loop v27 v30 k0_t2).trips), ∀ a, (k0_off220 v27 v30 k0_t2 k0_t29) a + S1x16.size a ≤ S200x128.size a) ∧
  (∀ (k0_t2 : Fin k0_t2_loop.trips) (k0_t29 : Fin (k0_t29_loop v27 v30 k0_t2).trips), ∀ a, (k0_off221 v27 v30 k0_t2 k0_t29) a + S1x16.size a ≤ S200x128.size a) ∧
  (∀ (k0_t2 : Fin k0_t2_loop.trips) (k0_t29 : Fin (k0_t29_loop v27 v30 k0_t2).trips), ∀ a, (k0_off222 v27 v30 k0_t2 k0_t29) a + S1x16.size a ≤ S200x128.size a) ∧
  (∀ k0_t2 : Fin k0_t2_loop.trips, (k0_t30_loop v27 v30 k0_t2).OK) ∧
  (∀ (k0_t2 : Fin k0_t2_loop.trips) (k0_t30 : Fin (k0_t30_loop v27 v30 k0_t2).trips), ∀ a, (k0_off223 v27 v30 k0_t2 k0_t30) a + S1x16.size a ≤ S200x128.size a) ∧
  (∀ (k0_t2 : Fin k0_t2_loop.trips) (k0_t30 : Fin (k0_t30_loop v27 v30 k0_t2).trips), ∀ a, (k0_off224 v27 v30 k0_t2 k0_t30) a + S1x16.size a ≤ S200x128.size a) ∧
  (∀ (k0_t2 : Fin k0_t2_loop.trips) (k0_t30 : Fin (k0_t30_loop v27 v30 k0_t2).trips), ∀ a, (k0_off225 v27 v30 k0_t2 k0_t30) a + S1x16.size a ≤ S200x128.size a) ∧
  (∀ (k0_t2 : Fin k0_t2_loop.trips) (k0_t30 : Fin (k0_t30_loop v27 v30 k0_t2).trips), ∀ a, (k0_off226 v27 v30 k0_t2 k0_t30) a + S1x16.size a ≤ S200x128.size a)
def k0_chk6_1 (v27 : BitVec 32) (v30 : BitVec 32) : Prop :=
  (∀ (k0_t2 : Fin k0_t2_loop.trips) (k0_t30 : Fin (k0_t30_loop v27 v30 k0_t2).trips), ∀ a, (k0_off227 v27 v30 k0_t2 k0_t30) a + S1x16.size a ≤ S200x128.size a) ∧
  (∀ (k0_t2 : Fin k0_t2_loop.trips) (k0_t30 : Fin (k0_t30_loop v27 v30 k0_t2).trips), ∀ a, (k0_off228 v27 v30 k0_t2 k0_t30) a + S1x16.size a ≤ S200x128.size a) ∧
  (∀ (k0_t2 : Fin k0_t2_loop.trips) (k0_t30 : Fin (k0_t30_loop v27 v30 k0_t2).trips), ∀ a, (k0_off229 v27 v30 k0_t2 k0_t30) a + S1x16.size a ≤ S200x128.size a) ∧
  (∀ (k0_t2 : Fin k0_t2_loop.trips) (k0_t30 : Fin (k0_t30_loop v27 v30 k0_t2).trips), ∀ a, (k0_off230 v27 v30 k0_t2 k0_t30) a + S1x16.size a ≤ S200x128.size a)
def k0_chk6 (v27 : BitVec 32) (v30 : BitVec 32) : Prop :=
  k0_chk6_0 v27 v30 ∧
  k0_chk6_1 v27 v30
theorem k0_t13_ok : ∀ (v27 : BitVec 32) (v30 : BitVec 32) (k0_hw6 : k0_chk6 v27 v30) (k0_t2 : Fin k0_t2_loop.trips), (k0_t13_loop v27 v30 k0_t2).OK := fun v27 v30 k0_hw6 k0_t2 => k0_hw6.1.1 k0_t2
theorem k0_off85_inb : ∀ (v27 : BitVec 32) (v30 : BitVec 32) (k0_hw6 : k0_chk6 v27 v30) (k0_t2 : Fin k0_t2_loop.trips) (k0_t13 : Fin (k0_t13_loop v27 v30 k0_t2).trips), ∀ a, (k0_off85 v27 v30 k0_t2 k0_t13) a + S1x16.size a ≤ S200x128.size a := fun v27 v30 k0_hw6 k0_t2 k0_t13 => k0_hw6.1.2.1 k0_t2 k0_t13
theorem k0_off86_inb : ∀ (v27 : BitVec 32) (v30 : BitVec 32) (k0_hw6 : k0_chk6 v27 v30) (k0_t2 : Fin k0_t2_loop.trips) (k0_t13 : Fin (k0_t13_loop v27 v30 k0_t2).trips), ∀ a, (k0_off86 v27 v30 k0_t2 k0_t13) a + S1x16.size a ≤ S200x128.size a := fun v27 v30 k0_hw6 k0_t2 k0_t13 => k0_hw6.1.2.2.1 k0_t2 k0_t13
theorem k0_off87_inb : ∀ (v27 : BitVec 32) (v30 : BitVec 32) (k0_hw6 : k0_chk6 v27 v30) (k0_t2 : Fin k0_t2_loop.trips) (k0_t13 : Fin (k0_t13_loop v27 v30 k0_t2).trips), ∀ a, (k0_off87 v27 v30 k0_t2 k0_t13) a + S1x16.size a ≤ S200x128.size a := fun v27 v30 k0_hw6 k0_t2 k0_t13 => k0_hw6.1.2.2.2.1 k0_t2 k0_t13
theorem k0_off88_inb : ∀ (v27 : BitVec 32) (v30 : BitVec 32) (k0_hw6 : k0_chk6 v27 v30) (k0_t2 : Fin k0_t2_loop.trips) (k0_t13 : Fin (k0_t13_loop v27 v30 k0_t2).trips), ∀ a, (k0_off88 v27 v30 k0_t2 k0_t13) a + S1x16.size a ≤ S200x128.size a := fun v27 v30 k0_hw6 k0_t2 k0_t13 => k0_hw6.1.2.2.2.2.1 k0_t2 k0_t13
theorem k0_off89_inb : ∀ (v27 : BitVec 32) (v30 : BitVec 32) (k0_hw6 : k0_chk6 v27 v30) (k0_t2 : Fin k0_t2_loop.trips) (k0_t13 : Fin (k0_t13_loop v27 v30 k0_t2).trips), ∀ a, (k0_off89 v27 v30 k0_t2 k0_t13) a + S1x16.size a ≤ S200x128.size a := fun v27 v30 k0_hw6 k0_t2 k0_t13 => k0_hw6.1.2.2.2.2.2.1 k0_t2 k0_t13
theorem k0_off90_inb : ∀ (v27 : BitVec 32) (v30 : BitVec 32) (k0_hw6 : k0_chk6 v27 v30) (k0_t2 : Fin k0_t2_loop.trips) (k0_t13 : Fin (k0_t13_loop v27 v30 k0_t2).trips), ∀ a, (k0_off90 v27 v30 k0_t2 k0_t13) a + S1x16.size a ≤ S200x128.size a := fun v27 v30 k0_hw6 k0_t2 k0_t13 => k0_hw6.1.2.2.2.2.2.2.1 k0_t2 k0_t13
theorem k0_off91_inb : ∀ (v27 : BitVec 32) (v30 : BitVec 32) (k0_hw6 : k0_chk6 v27 v30) (k0_t2 : Fin k0_t2_loop.trips) (k0_t13 : Fin (k0_t13_loop v27 v30 k0_t2).trips), ∀ a, (k0_off91 v27 v30 k0_t2 k0_t13) a + S1x16.size a ≤ S200x128.size a := fun v27 v30 k0_hw6 k0_t2 k0_t13 => k0_hw6.1.2.2.2.2.2.2.2.1 k0_t2 k0_t13
theorem k0_off92_inb : ∀ (v27 : BitVec 32) (v30 : BitVec 32) (k0_hw6 : k0_chk6 v27 v30) (k0_t2 : Fin k0_t2_loop.trips) (k0_t13 : Fin (k0_t13_loop v27 v30 k0_t2).trips), ∀ a, (k0_off92 v27 v30 k0_t2 k0_t13) a + S1x16.size a ≤ S200x128.size a := fun v27 v30 k0_hw6 k0_t2 k0_t13 => k0_hw6.1.2.2.2.2.2.2.2.2.1 k0_t2 k0_t13
theorem k0_t14_ok : ∀ (v27 : BitVec 32) (v30 : BitVec 32) (k0_hw6 : k0_chk6 v27 v30) (k0_t2 : Fin k0_t2_loop.trips), (k0_t14_loop v27 v30 k0_t2).OK := fun v27 v30 k0_hw6 k0_t2 => k0_hw6.1.2.2.2.2.2.2.2.2.2.1 k0_t2
theorem k0_off93_inb : ∀ (v27 : BitVec 32) (v30 : BitVec 32) (k0_hw6 : k0_chk6 v27 v30) (k0_t2 : Fin k0_t2_loop.trips) (k0_t14 : Fin (k0_t14_loop v27 v30 k0_t2).trips), ∀ a, (k0_off93 v27 v30 k0_t2 k0_t14) a + S1x16.size a ≤ S200x128.size a := fun v27 v30 k0_hw6 k0_t2 k0_t14 => k0_hw6.1.2.2.2.2.2.2.2.2.2.2.1 k0_t2 k0_t14
theorem k0_off94_inb : ∀ (v27 : BitVec 32) (v30 : BitVec 32) (k0_hw6 : k0_chk6 v27 v30) (k0_t2 : Fin k0_t2_loop.trips) (k0_t14 : Fin (k0_t14_loop v27 v30 k0_t2).trips), ∀ a, (k0_off94 v27 v30 k0_t2 k0_t14) a + S1x16.size a ≤ S200x128.size a := fun v27 v30 k0_hw6 k0_t2 k0_t14 => k0_hw6.1.2.2.2.2.2.2.2.2.2.2.2.1 k0_t2 k0_t14
theorem k0_off95_inb : ∀ (v27 : BitVec 32) (v30 : BitVec 32) (k0_hw6 : k0_chk6 v27 v30) (k0_t2 : Fin k0_t2_loop.trips) (k0_t14 : Fin (k0_t14_loop v27 v30 k0_t2).trips), ∀ a, (k0_off95 v27 v30 k0_t2 k0_t14) a + S1x16.size a ≤ S200x128.size a := fun v27 v30 k0_hw6 k0_t2 k0_t14 => k0_hw6.1.2.2.2.2.2.2.2.2.2.2.2.2.1 k0_t2 k0_t14
theorem k0_off96_inb : ∀ (v27 : BitVec 32) (v30 : BitVec 32) (k0_hw6 : k0_chk6 v27 v30) (k0_t2 : Fin k0_t2_loop.trips) (k0_t14 : Fin (k0_t14_loop v27 v30 k0_t2).trips), ∀ a, (k0_off96 v27 v30 k0_t2 k0_t14) a + S1x16.size a ≤ S200x128.size a := fun v27 v30 k0_hw6 k0_t2 k0_t14 => k0_hw6.1.2.2.2.2.2.2.2.2.2.2.2.2.2.1 k0_t2 k0_t14
theorem k0_off97_inb : ∀ (v27 : BitVec 32) (v30 : BitVec 32) (k0_hw6 : k0_chk6 v27 v30) (k0_t2 : Fin k0_t2_loop.trips) (k0_t14 : Fin (k0_t14_loop v27 v30 k0_t2).trips), ∀ a, (k0_off97 v27 v30 k0_t2 k0_t14) a + S1x16.size a ≤ S200x128.size a := fun v27 v30 k0_hw6 k0_t2 k0_t14 => k0_hw6.1.2.2.2.2.2.2.2.2.2.2.2.2.2.2.1 k0_t2 k0_t14
theorem k0_off98_inb : ∀ (v27 : BitVec 32) (v30 : BitVec 32) (k0_hw6 : k0_chk6 v27 v30) (k0_t2 : Fin k0_t2_loop.trips) (k0_t14 : Fin (k0_t14_loop v27 v30 k0_t2).trips), ∀ a, (k0_off98 v27 v30 k0_t2 k0_t14) a + S1x16.size a ≤ S200x128.size a := fun v27 v30 k0_hw6 k0_t2 k0_t14 => k0_hw6.1.2.2.2.2.2.2.2.2.2.2.2.2.2.2.2.1 k0_t2 k0_t14
theorem k0_off99_inb : ∀ (v27 : BitVec 32) (v30 : BitVec 32) (k0_hw6 : k0_chk6 v27 v30) (k0_t2 : Fin k0_t2_loop.trips) (k0_t14 : Fin (k0_t14_loop v27 v30 k0_t2).trips), ∀ a, (k0_off99 v27 v30 k0_t2 k0_t14) a + S1x16.size a ≤ S200x128.size a := fun v27 v30 k0_hw6 k0_t2 k0_t14 => k0_hw6.1.2.2.2.2.2.2.2.2.2.2.2.2.2.2.2.2.1 k0_t2 k0_t14
theorem k0_off100_inb : ∀ (v27 : BitVec 32) (v30 : BitVec 32) (k0_hw6 : k0_chk6 v27 v30) (k0_t2 : Fin k0_t2_loop.trips) (k0_t14 : Fin (k0_t14_loop v27 v30 k0_t2).trips), ∀ a, (k0_off100 v27 v30 k0_t2 k0_t14) a + S1x16.size a ≤ S200x128.size a := fun v27 v30 k0_hw6 k0_t2 k0_t14 => k0_hw6.1.2.2.2.2.2.2.2.2.2.2.2.2.2.2.2.2.2.1 k0_t2 k0_t14
theorem k0_t29_ok : ∀ (v27 : BitVec 32) (v30 : BitVec 32) (k0_hw6 : k0_chk6 v27 v30) (k0_t2 : Fin k0_t2_loop.trips), (k0_t29_loop v27 v30 k0_t2).OK := fun v27 v30 k0_hw6 k0_t2 => k0_hw6.1.2.2.2.2.2.2.2.2.2.2.2.2.2.2.2.2.2.2.1 k0_t2
theorem k0_off215_inb : ∀ (v27 : BitVec 32) (v30 : BitVec 32) (k0_hw6 : k0_chk6 v27 v30) (k0_t2 : Fin k0_t2_loop.trips) (k0_t29 : Fin (k0_t29_loop v27 v30 k0_t2).trips), ∀ a, (k0_off215 v27 v30 k0_t2 k0_t29) a + S1x16.size a ≤ S200x128.size a := fun v27 v30 k0_hw6 k0_t2 k0_t29 => k0_hw6.1.2.2.2.2.2.2.2.2.2.2.2.2.2.2.2.2.2.2.2.1 k0_t2 k0_t29
theorem k0_off216_inb : ∀ (v27 : BitVec 32) (v30 : BitVec 32) (k0_hw6 : k0_chk6 v27 v30) (k0_t2 : Fin k0_t2_loop.trips) (k0_t29 : Fin (k0_t29_loop v27 v30 k0_t2).trips), ∀ a, (k0_off216 v27 v30 k0_t2 k0_t29) a + S1x16.size a ≤ S200x128.size a := fun v27 v30 k0_hw6 k0_t2 k0_t29 => k0_hw6.1.2.2.2.2.2.2.2.2.2.2.2.2.2.2.2.2.2.2.2.2.1 k0_t2 k0_t29
theorem k0_off217_inb : ∀ (v27 : BitVec 32) (v30 : BitVec 32) (k0_hw6 : k0_chk6 v27 v30) (k0_t2 : Fin k0_t2_loop.trips) (k0_t29 : Fin (k0_t29_loop v27 v30 k0_t2).trips), ∀ a, (k0_off217 v27 v30 k0_t2 k0_t29) a + S1x16.size a ≤ S200x128.size a := fun v27 v30 k0_hw6 k0_t2 k0_t29 => k0_hw6.1.2.2.2.2.2.2.2.2.2.2.2.2.2.2.2.2.2.2.2.2.2.1 k0_t2 k0_t29
theorem k0_off218_inb : ∀ (v27 : BitVec 32) (v30 : BitVec 32) (k0_hw6 : k0_chk6 v27 v30) (k0_t2 : Fin k0_t2_loop.trips) (k0_t29 : Fin (k0_t29_loop v27 v30 k0_t2).trips), ∀ a, (k0_off218 v27 v30 k0_t2 k0_t29) a + S1x16.size a ≤ S200x128.size a := fun v27 v30 k0_hw6 k0_t2 k0_t29 => k0_hw6.1.2.2.2.2.2.2.2.2.2.2.2.2.2.2.2.2.2.2.2.2.2.2.1 k0_t2 k0_t29
theorem k0_off219_inb : ∀ (v27 : BitVec 32) (v30 : BitVec 32) (k0_hw6 : k0_chk6 v27 v30) (k0_t2 : Fin k0_t2_loop.trips) (k0_t29 : Fin (k0_t29_loop v27 v30 k0_t2).trips), ∀ a, (k0_off219 v27 v30 k0_t2 k0_t29) a + S1x16.size a ≤ S200x128.size a := fun v27 v30 k0_hw6 k0_t2 k0_t29 => k0_hw6.1.2.2.2.2.2.2.2.2.2.2.2.2.2.2.2.2.2.2.2.2.2.2.2.1 k0_t2 k0_t29
theorem k0_off220_inb : ∀ (v27 : BitVec 32) (v30 : BitVec 32) (k0_hw6 : k0_chk6 v27 v30) (k0_t2 : Fin k0_t2_loop.trips) (k0_t29 : Fin (k0_t29_loop v27 v30 k0_t2).trips), ∀ a, (k0_off220 v27 v30 k0_t2 k0_t29) a + S1x16.size a ≤ S200x128.size a := fun v27 v30 k0_hw6 k0_t2 k0_t29 => k0_hw6.1.2.2.2.2.2.2.2.2.2.2.2.2.2.2.2.2.2.2.2.2.2.2.2.2.1 k0_t2 k0_t29
theorem k0_off221_inb : ∀ (v27 : BitVec 32) (v30 : BitVec 32) (k0_hw6 : k0_chk6 v27 v30) (k0_t2 : Fin k0_t2_loop.trips) (k0_t29 : Fin (k0_t29_loop v27 v30 k0_t2).trips), ∀ a, (k0_off221 v27 v30 k0_t2 k0_t29) a + S1x16.size a ≤ S200x128.size a := fun v27 v30 k0_hw6 k0_t2 k0_t29 => k0_hw6.1.2.2.2.2.2.2.2.2.2.2.2.2.2.2.2.2.2.2.2.2.2.2.2.2.2.1 k0_t2 k0_t29
theorem k0_off222_inb : ∀ (v27 : BitVec 32) (v30 : BitVec 32) (k0_hw6 : k0_chk6 v27 v30) (k0_t2 : Fin k0_t2_loop.trips) (k0_t29 : Fin (k0_t29_loop v27 v30 k0_t2).trips), ∀ a, (k0_off222 v27 v30 k0_t2 k0_t29) a + S1x16.size a ≤ S200x128.size a := fun v27 v30 k0_hw6 k0_t2 k0_t29 => k0_hw6.1.2.2.2.2.2.2.2.2.2.2.2.2.2.2.2.2.2.2.2.2.2.2.2.2.2.2.1 k0_t2 k0_t29
theorem k0_t30_ok : ∀ (v27 : BitVec 32) (v30 : BitVec 32) (k0_hw6 : k0_chk6 v27 v30) (k0_t2 : Fin k0_t2_loop.trips), (k0_t30_loop v27 v30 k0_t2).OK := fun v27 v30 k0_hw6 k0_t2 => k0_hw6.1.2.2.2.2.2.2.2.2.2.2.2.2.2.2.2.2.2.2.2.2.2.2.2.2.2.2.2.1 k0_t2
theorem k0_off223_inb : ∀ (v27 : BitVec 32) (v30 : BitVec 32) (k0_hw6 : k0_chk6 v27 v30) (k0_t2 : Fin k0_t2_loop.trips) (k0_t30 : Fin (k0_t30_loop v27 v30 k0_t2).trips), ∀ a, (k0_off223 v27 v30 k0_t2 k0_t30) a + S1x16.size a ≤ S200x128.size a := fun v27 v30 k0_hw6 k0_t2 k0_t30 => k0_hw6.1.2.2.2.2.2.2.2.2.2.2.2.2.2.2.2.2.2.2.2.2.2.2.2.2.2.2.2.2.1 k0_t2 k0_t30
theorem k0_off224_inb : ∀ (v27 : BitVec 32) (v30 : BitVec 32) (k0_hw6 : k0_chk6 v27 v30) (k0_t2 : Fin k0_t2_loop.trips) (k0_t30 : Fin (k0_t30_loop v27 v30 k0_t2).trips), ∀ a, (k0_off224 v27 v30 k0_t2 k0_t30) a + S1x16.size a ≤ S200x128.size a := fun v27 v30 k0_hw6 k0_t2 k0_t30 => k0_hw6.1.2.2.2.2.2.2.2.2.2.2.2.2.2.2.2.2.2.2.2.2.2.2.2.2.2.2.2.2.2.1 k0_t2 k0_t30
theorem k0_off225_inb : ∀ (v27 : BitVec 32) (v30 : BitVec 32) (k0_hw6 : k0_chk6 v27 v30) (k0_t2 : Fin k0_t2_loop.trips) (k0_t30 : Fin (k0_t30_loop v27 v30 k0_t2).trips), ∀ a, (k0_off225 v27 v30 k0_t2 k0_t30) a + S1x16.size a ≤ S200x128.size a := fun v27 v30 k0_hw6 k0_t2 k0_t30 => k0_hw6.1.2.2.2.2.2.2.2.2.2.2.2.2.2.2.2.2.2.2.2.2.2.2.2.2.2.2.2.2.2.2.1 k0_t2 k0_t30
theorem k0_off226_inb : ∀ (v27 : BitVec 32) (v30 : BitVec 32) (k0_hw6 : k0_chk6 v27 v30) (k0_t2 : Fin k0_t2_loop.trips) (k0_t30 : Fin (k0_t30_loop v27 v30 k0_t2).trips), ∀ a, (k0_off226 v27 v30 k0_t2 k0_t30) a + S1x16.size a ≤ S200x128.size a := fun v27 v30 k0_hw6 k0_t2 k0_t30 => k0_hw6.1.2.2.2.2.2.2.2.2.2.2.2.2.2.2.2.2.2.2.2.2.2.2.2.2.2.2.2.2.2.2.2 k0_t2 k0_t30
theorem k0_off227_inb : ∀ (v27 : BitVec 32) (v30 : BitVec 32) (k0_hw6 : k0_chk6 v27 v30) (k0_t2 : Fin k0_t2_loop.trips) (k0_t30 : Fin (k0_t30_loop v27 v30 k0_t2).trips), ∀ a, (k0_off227 v27 v30 k0_t2 k0_t30) a + S1x16.size a ≤ S200x128.size a := fun v27 v30 k0_hw6 k0_t2 k0_t30 => k0_hw6.2.1 k0_t2 k0_t30
theorem k0_off228_inb : ∀ (v27 : BitVec 32) (v30 : BitVec 32) (k0_hw6 : k0_chk6 v27 v30) (k0_t2 : Fin k0_t2_loop.trips) (k0_t30 : Fin (k0_t30_loop v27 v30 k0_t2).trips), ∀ a, (k0_off228 v27 v30 k0_t2 k0_t30) a + S1x16.size a ≤ S200x128.size a := fun v27 v30 k0_hw6 k0_t2 k0_t30 => k0_hw6.2.2.1 k0_t2 k0_t30
theorem k0_off229_inb : ∀ (v27 : BitVec 32) (v30 : BitVec 32) (k0_hw6 : k0_chk6 v27 v30) (k0_t2 : Fin k0_t2_loop.trips) (k0_t30 : Fin (k0_t30_loop v27 v30 k0_t2).trips), ∀ a, (k0_off229 v27 v30 k0_t2 k0_t30) a + S1x16.size a ≤ S200x128.size a := fun v27 v30 k0_hw6 k0_t2 k0_t30 => k0_hw6.2.2.2.1 k0_t2 k0_t30
theorem k0_off230_inb : ∀ (v27 : BitVec 32) (v30 : BitVec 32) (k0_hw6 : k0_chk6 v27 v30) (k0_t2 : Fin k0_t2_loop.trips) (k0_t30 : Fin (k0_t30_loop v27 v30 k0_t2).trips), ∀ a, (k0_off230 v27 v30 k0_t2 k0_t30) a + S1x16.size a ≤ S200x128.size a := fun v27 v30 k0_hw6 k0_t2 k0_t30 => k0_hw6.2.2.2.2 k0_t2 k0_t30

@[reducible] def k0_t31_loop (v30 : BitVec 32) (v33 : BitVec 32) (k0_t2 : Fin k0_t2_loop.trips) : Scf.Loop 32 :=
  let c200_i32_429 : BitVec 32 := 200#32
  let c0_i32_428 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v593 : BitVec 32 := Scalar.subi v30 v496
  let v594 : BitVec 32 := Scalar.maxsi c0_i32_428 v593
  let v595 : BitVec 32 := Scalar.minsi c200_i32_429 v594
  let c200_i32_430 : BitVec 32 := 200#32
  let v596 : BitVec 32 := Scalar.subi v33 v496
  let v597 : BitVec 32 := Scalar.maxsi v595 v596
  let v598 : BitVec 32 := Scalar.minsi c200_i32_430 v597
  let v599 : BitVec 32 := Scalar.subi v598 v595
  let c1_i32_432 : BitVec 32 := 1#32
  let v601 : BitVec 32 := Scalar.divsi v599 c1_i32_432
  let v602 : BitVec 32 := Scalar.muli v601 c1_i32_432
  let v603 : BitVec 32 := Scalar.addi v595 v602
  let c1_i32_433 : BitVec 32 := 1#32
  ⟨v595, v603, c1_i32_433⟩
def k0_off231 (v30 : BitVec 32) (v33 : BitVec 32) (k0_t2 : Fin k0_t2_loop.trips) (k0_t31 : Fin (k0_t31_loop v30 v33 k0_t2).trips) : Fin 2 → Nat :=
  let c200_i32_429 : BitVec 32 := 200#32
  let c0_i32_428 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v593 : BitVec 32 := Scalar.subi v30 v496
  let v594 : BitVec 32 := Scalar.maxsi c0_i32_428 v593
  let v595 : BitVec 32 := Scalar.minsi c200_i32_429 v594
  let c1_i32_433 : BitVec 32 := 1#32
  let arg16 : BitVec 32 := Scf.iv v595 c1_i32_433 k0_t31
  let v630 : Index := Scalar.indexCast arg16
  let c0_449 : Index := 0#32
  ![v630.toNat, 0]
def k0_off232 (v30 : BitVec 32) (v33 : BitVec 32) (k0_t2 : Fin k0_t2_loop.trips) (k0_t31 : Fin (k0_t31_loop v30 v33 k0_t2).trips) : Fin 2 → Nat :=
  let c200_i32_429 : BitVec 32 := 200#32
  let c0_i32_428 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v593 : BitVec 32 := Scalar.subi v30 v496
  let v594 : BitVec 32 := Scalar.maxsi c0_i32_428 v593
  let v595 : BitVec 32 := Scalar.minsi c200_i32_429 v594
  let c1_i32_433 : BitVec 32 := 1#32
  let arg16 : BitVec 32 := Scf.iv v595 c1_i32_433 k0_t31
  let v637 : Index := Scalar.indexCast arg16
  let c16_452 : Index := 16#32
  ![v637.toNat, 16]
def k0_off233 (v30 : BitVec 32) (v33 : BitVec 32) (k0_t2 : Fin k0_t2_loop.trips) (k0_t31 : Fin (k0_t31_loop v30 v33 k0_t2).trips) : Fin 2 → Nat :=
  let c200_i32_429 : BitVec 32 := 200#32
  let c0_i32_428 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v593 : BitVec 32 := Scalar.subi v30 v496
  let v594 : BitVec 32 := Scalar.maxsi c0_i32_428 v593
  let v595 : BitVec 32 := Scalar.minsi c200_i32_429 v594
  let c1_i32_433 : BitVec 32 := 1#32
  let arg16 : BitVec 32 := Scf.iv v595 c1_i32_433 k0_t31
  let v644 : Index := Scalar.indexCast arg16
  let c32_455 : Index := 32#32
  ![v644.toNat, 32]
def k0_off234 (v30 : BitVec 32) (v33 : BitVec 32) (k0_t2 : Fin k0_t2_loop.trips) (k0_t31 : Fin (k0_t31_loop v30 v33 k0_t2).trips) : Fin 2 → Nat :=
  let c200_i32_429 : BitVec 32 := 200#32
  let c0_i32_428 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v593 : BitVec 32 := Scalar.subi v30 v496
  let v594 : BitVec 32 := Scalar.maxsi c0_i32_428 v593
  let v595 : BitVec 32 := Scalar.minsi c200_i32_429 v594
  let c1_i32_433 : BitVec 32 := 1#32
  let arg16 : BitVec 32 := Scf.iv v595 c1_i32_433 k0_t31
  let v651 : Index := Scalar.indexCast arg16
  let c48_458 : Index := 48#32
  ![v651.toNat, 48]
def k0_off235 (v30 : BitVec 32) (v33 : BitVec 32) (k0_t2 : Fin k0_t2_loop.trips) (k0_t31 : Fin (k0_t31_loop v30 v33 k0_t2).trips) : Fin 2 → Nat :=
  let c200_i32_429 : BitVec 32 := 200#32
  let c0_i32_428 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v593 : BitVec 32 := Scalar.subi v30 v496
  let v594 : BitVec 32 := Scalar.maxsi c0_i32_428 v593
  let v595 : BitVec 32 := Scalar.minsi c200_i32_429 v594
  let c1_i32_433 : BitVec 32 := 1#32
  let arg16 : BitVec 32 := Scf.iv v595 c1_i32_433 k0_t31
  let v658 : Index := Scalar.indexCast arg16
  let c64_461 : Index := 64#32
  ![v658.toNat, 64]
def k0_off236 (v30 : BitVec 32) (v33 : BitVec 32) (k0_t2 : Fin k0_t2_loop.trips) (k0_t31 : Fin (k0_t31_loop v30 v33 k0_t2).trips) : Fin 2 → Nat :=
  let c200_i32_429 : BitVec 32 := 200#32
  let c0_i32_428 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v593 : BitVec 32 := Scalar.subi v30 v496
  let v594 : BitVec 32 := Scalar.maxsi c0_i32_428 v593
  let v595 : BitVec 32 := Scalar.minsi c200_i32_429 v594
  let c1_i32_433 : BitVec 32 := 1#32
  let arg16 : BitVec 32 := Scf.iv v595 c1_i32_433 k0_t31
  let v665 : Index := Scalar.indexCast arg16
  let c80_464 : Index := 80#32
  ![v665.toNat, 80]
def k0_off237 (v30 : BitVec 32) (v33 : BitVec 32) (k0_t2 : Fin k0_t2_loop.trips) (k0_t31 : Fin (k0_t31_loop v30 v33 k0_t2).trips) : Fin 2 → Nat :=
  let c200_i32_429 : BitVec 32 := 200#32
  let c0_i32_428 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v593 : BitVec 32 := Scalar.subi v30 v496
  let v594 : BitVec 32 := Scalar.maxsi c0_i32_428 v593
  let v595 : BitVec 32 := Scalar.minsi c200_i32_429 v594
  let c1_i32_433 : BitVec 32 := 1#32
  let arg16 : BitVec 32 := Scf.iv v595 c1_i32_433 k0_t31
  let v672 : Index := Scalar.indexCast arg16
  let c96_467 : Index := 96#32
  ![v672.toNat, 96]
def k0_off238 (v30 : BitVec 32) (v33 : BitVec 32) (k0_t2 : Fin k0_t2_loop.trips) (k0_t31 : Fin (k0_t31_loop v30 v33 k0_t2).trips) : Fin 2 → Nat :=
  let c200_i32_429 : BitVec 32 := 200#32
  let c0_i32_428 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v593 : BitVec 32 := Scalar.subi v30 v496
  let v594 : BitVec 32 := Scalar.maxsi c0_i32_428 v593
  let v595 : BitVec 32 := Scalar.minsi c200_i32_429 v594
  let c1_i32_433 : BitVec 32 := 1#32
  let arg16 : BitVec 32 := Scf.iv v595 c1_i32_433 k0_t31
  let v679 : Index := Scalar.indexCast arg16
  let c112_470 : Index := 112#32
  ![v679.toNat, 112]
@[reducible] def k0_t32_loop (v30 : BitVec 32) (v33 : BitVec 32) (k0_t2 : Fin k0_t2_loop.trips) : Scf.Loop 32 :=
  let c200_i32_429 : BitVec 32 := 200#32
  let c0_i32_428 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v593 : BitVec 32 := Scalar.subi v30 v496
  let v594 : BitVec 32 := Scalar.maxsi c0_i32_428 v593
  let v595 : BitVec 32 := Scalar.minsi c200_i32_429 v594
  let c200_i32_430 : BitVec 32 := 200#32
  let v596 : BitVec 32 := Scalar.subi v33 v496
  let v597 : BitVec 32 := Scalar.maxsi v595 v596
  let v598 : BitVec 32 := Scalar.minsi c200_i32_430 v597
  let v599 : BitVec 32 := Scalar.subi v598 v595
  let c1_i32_432 : BitVec 32 := 1#32
  let v601 : BitVec 32 := Scalar.divsi v599 c1_i32_432
  let v602 : BitVec 32 := Scalar.muli v601 c1_i32_432
  let v603 : BitVec 32 := Scalar.addi v595 v602
  let v600 : BitVec 32 := Scalar.addi v595 v599
  let c1_i32_434 : BitVec 32 := 1#32
  ⟨v603, v600, c1_i32_434⟩
def k0_off239 (v30 : BitVec 32) (v33 : BitVec 32) (k0_t2 : Fin k0_t2_loop.trips) (k0_t32 : Fin (k0_t32_loop v30 v33 k0_t2).trips) : Fin 2 → Nat :=
  let c200_i32_429 : BitVec 32 := 200#32
  let c0_i32_428 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v593 : BitVec 32 := Scalar.subi v30 v496
  let v594 : BitVec 32 := Scalar.maxsi c0_i32_428 v593
  let v595 : BitVec 32 := Scalar.minsi c200_i32_429 v594
  let c200_i32_430 : BitVec 32 := 200#32
  let v596 : BitVec 32 := Scalar.subi v33 v496
  let v597 : BitVec 32 := Scalar.maxsi v595 v596
  let v598 : BitVec 32 := Scalar.minsi c200_i32_430 v597
  let v599 : BitVec 32 := Scalar.subi v598 v595
  let c1_i32_432 : BitVec 32 := 1#32
  let v601 : BitVec 32 := Scalar.divsi v599 c1_i32_432
  let v602 : BitVec 32 := Scalar.muli v601 c1_i32_432
  let v603 : BitVec 32 := Scalar.addi v595 v602
  let c1_i32_434 : BitVec 32 := 1#32
  let arg16 : BitVec 32 := Scf.iv v603 c1_i32_434 k0_t32
  let v630 : Index := Scalar.indexCast arg16
  let c0_449 : Index := 0#32
  ![v630.toNat, 0]
def k0_off240 (v30 : BitVec 32) (v33 : BitVec 32) (k0_t2 : Fin k0_t2_loop.trips) (k0_t32 : Fin (k0_t32_loop v30 v33 k0_t2).trips) : Fin 2 → Nat :=
  let c200_i32_429 : BitVec 32 := 200#32
  let c0_i32_428 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v593 : BitVec 32 := Scalar.subi v30 v496
  let v594 : BitVec 32 := Scalar.maxsi c0_i32_428 v593
  let v595 : BitVec 32 := Scalar.minsi c200_i32_429 v594
  let c200_i32_430 : BitVec 32 := 200#32
  let v596 : BitVec 32 := Scalar.subi v33 v496
  let v597 : BitVec 32 := Scalar.maxsi v595 v596
  let v598 : BitVec 32 := Scalar.minsi c200_i32_430 v597
  let v599 : BitVec 32 := Scalar.subi v598 v595
  let c1_i32_432 : BitVec 32 := 1#32
  let v601 : BitVec 32 := Scalar.divsi v599 c1_i32_432
  let v602 : BitVec 32 := Scalar.muli v601 c1_i32_432
  let v603 : BitVec 32 := Scalar.addi v595 v602
  let c1_i32_434 : BitVec 32 := 1#32
  let arg16 : BitVec 32 := Scf.iv v603 c1_i32_434 k0_t32
  let v637 : Index := Scalar.indexCast arg16
  let c16_452 : Index := 16#32
  ![v637.toNat, 16]
def k0_off241 (v30 : BitVec 32) (v33 : BitVec 32) (k0_t2 : Fin k0_t2_loop.trips) (k0_t32 : Fin (k0_t32_loop v30 v33 k0_t2).trips) : Fin 2 → Nat :=
  let c200_i32_429 : BitVec 32 := 200#32
  let c0_i32_428 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v593 : BitVec 32 := Scalar.subi v30 v496
  let v594 : BitVec 32 := Scalar.maxsi c0_i32_428 v593
  let v595 : BitVec 32 := Scalar.minsi c200_i32_429 v594
  let c200_i32_430 : BitVec 32 := 200#32
  let v596 : BitVec 32 := Scalar.subi v33 v496
  let v597 : BitVec 32 := Scalar.maxsi v595 v596
  let v598 : BitVec 32 := Scalar.minsi c200_i32_430 v597
  let v599 : BitVec 32 := Scalar.subi v598 v595
  let c1_i32_432 : BitVec 32 := 1#32
  let v601 : BitVec 32 := Scalar.divsi v599 c1_i32_432
  let v602 : BitVec 32 := Scalar.muli v601 c1_i32_432
  let v603 : BitVec 32 := Scalar.addi v595 v602
  let c1_i32_434 : BitVec 32 := 1#32
  let arg16 : BitVec 32 := Scf.iv v603 c1_i32_434 k0_t32
  let v644 : Index := Scalar.indexCast arg16
  let c32_455 : Index := 32#32
  ![v644.toNat, 32]
def k0_off242 (v30 : BitVec 32) (v33 : BitVec 32) (k0_t2 : Fin k0_t2_loop.trips) (k0_t32 : Fin (k0_t32_loop v30 v33 k0_t2).trips) : Fin 2 → Nat :=
  let c200_i32_429 : BitVec 32 := 200#32
  let c0_i32_428 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v593 : BitVec 32 := Scalar.subi v30 v496
  let v594 : BitVec 32 := Scalar.maxsi c0_i32_428 v593
  let v595 : BitVec 32 := Scalar.minsi c200_i32_429 v594
  let c200_i32_430 : BitVec 32 := 200#32
  let v596 : BitVec 32 := Scalar.subi v33 v496
  let v597 : BitVec 32 := Scalar.maxsi v595 v596
  let v598 : BitVec 32 := Scalar.minsi c200_i32_430 v597
  let v599 : BitVec 32 := Scalar.subi v598 v595
  let c1_i32_432 : BitVec 32 := 1#32
  let v601 : BitVec 32 := Scalar.divsi v599 c1_i32_432
  let v602 : BitVec 32 := Scalar.muli v601 c1_i32_432
  let v603 : BitVec 32 := Scalar.addi v595 v602
  let c1_i32_434 : BitVec 32 := 1#32
  let arg16 : BitVec 32 := Scf.iv v603 c1_i32_434 k0_t32
  let v651 : Index := Scalar.indexCast arg16
  let c48_458 : Index := 48#32
  ![v651.toNat, 48]
def k0_off243 (v30 : BitVec 32) (v33 : BitVec 32) (k0_t2 : Fin k0_t2_loop.trips) (k0_t32 : Fin (k0_t32_loop v30 v33 k0_t2).trips) : Fin 2 → Nat :=
  let c200_i32_429 : BitVec 32 := 200#32
  let c0_i32_428 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v593 : BitVec 32 := Scalar.subi v30 v496
  let v594 : BitVec 32 := Scalar.maxsi c0_i32_428 v593
  let v595 : BitVec 32 := Scalar.minsi c200_i32_429 v594
  let c200_i32_430 : BitVec 32 := 200#32
  let v596 : BitVec 32 := Scalar.subi v33 v496
  let v597 : BitVec 32 := Scalar.maxsi v595 v596
  let v598 : BitVec 32 := Scalar.minsi c200_i32_430 v597
  let v599 : BitVec 32 := Scalar.subi v598 v595
  let c1_i32_432 : BitVec 32 := 1#32
  let v601 : BitVec 32 := Scalar.divsi v599 c1_i32_432
  let v602 : BitVec 32 := Scalar.muli v601 c1_i32_432
  let v603 : BitVec 32 := Scalar.addi v595 v602
  let c1_i32_434 : BitVec 32 := 1#32
  let arg16 : BitVec 32 := Scf.iv v603 c1_i32_434 k0_t32
  let v658 : Index := Scalar.indexCast arg16
  let c64_461 : Index := 64#32
  ![v658.toNat, 64]
def k0_off244 (v30 : BitVec 32) (v33 : BitVec 32) (k0_t2 : Fin k0_t2_loop.trips) (k0_t32 : Fin (k0_t32_loop v30 v33 k0_t2).trips) : Fin 2 → Nat :=
  let c200_i32_429 : BitVec 32 := 200#32
  let c0_i32_428 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v593 : BitVec 32 := Scalar.subi v30 v496
  let v594 : BitVec 32 := Scalar.maxsi c0_i32_428 v593
  let v595 : BitVec 32 := Scalar.minsi c200_i32_429 v594
  let c200_i32_430 : BitVec 32 := 200#32
  let v596 : BitVec 32 := Scalar.subi v33 v496
  let v597 : BitVec 32 := Scalar.maxsi v595 v596
  let v598 : BitVec 32 := Scalar.minsi c200_i32_430 v597
  let v599 : BitVec 32 := Scalar.subi v598 v595
  let c1_i32_432 : BitVec 32 := 1#32
  let v601 : BitVec 32 := Scalar.divsi v599 c1_i32_432
  let v602 : BitVec 32 := Scalar.muli v601 c1_i32_432
  let v603 : BitVec 32 := Scalar.addi v595 v602
  let c1_i32_434 : BitVec 32 := 1#32
  let arg16 : BitVec 32 := Scf.iv v603 c1_i32_434 k0_t32
  let v665 : Index := Scalar.indexCast arg16
  let c80_464 : Index := 80#32
  ![v665.toNat, 80]
def k0_off245 (v30 : BitVec 32) (v33 : BitVec 32) (k0_t2 : Fin k0_t2_loop.trips) (k0_t32 : Fin (k0_t32_loop v30 v33 k0_t2).trips) : Fin 2 → Nat :=
  let c200_i32_429 : BitVec 32 := 200#32
  let c0_i32_428 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v593 : BitVec 32 := Scalar.subi v30 v496
  let v594 : BitVec 32 := Scalar.maxsi c0_i32_428 v593
  let v595 : BitVec 32 := Scalar.minsi c200_i32_429 v594
  let c200_i32_430 : BitVec 32 := 200#32
  let v596 : BitVec 32 := Scalar.subi v33 v496
  let v597 : BitVec 32 := Scalar.maxsi v595 v596
  let v598 : BitVec 32 := Scalar.minsi c200_i32_430 v597
  let v599 : BitVec 32 := Scalar.subi v598 v595
  let c1_i32_432 : BitVec 32 := 1#32
  let v601 : BitVec 32 := Scalar.divsi v599 c1_i32_432
  let v602 : BitVec 32 := Scalar.muli v601 c1_i32_432
  let v603 : BitVec 32 := Scalar.addi v595 v602
  let c1_i32_434 : BitVec 32 := 1#32
  let arg16 : BitVec 32 := Scf.iv v603 c1_i32_434 k0_t32
  let v672 : Index := Scalar.indexCast arg16
  let c96_467 : Index := 96#32
  ![v672.toNat, 96]
def k0_off246 (v30 : BitVec 32) (v33 : BitVec 32) (k0_t2 : Fin k0_t2_loop.trips) (k0_t32 : Fin (k0_t32_loop v30 v33 k0_t2).trips) : Fin 2 → Nat :=
  let c200_i32_429 : BitVec 32 := 200#32
  let c0_i32_428 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v593 : BitVec 32 := Scalar.subi v30 v496
  let v594 : BitVec 32 := Scalar.maxsi c0_i32_428 v593
  let v595 : BitVec 32 := Scalar.minsi c200_i32_429 v594
  let c200_i32_430 : BitVec 32 := 200#32
  let v596 : BitVec 32 := Scalar.subi v33 v496
  let v597 : BitVec 32 := Scalar.maxsi v595 v596
  let v598 : BitVec 32 := Scalar.minsi c200_i32_430 v597
  let v599 : BitVec 32 := Scalar.subi v598 v595
  let c1_i32_432 : BitVec 32 := 1#32
  let v601 : BitVec 32 := Scalar.divsi v599 c1_i32_432
  let v602 : BitVec 32 := Scalar.muli v601 c1_i32_432
  let v603 : BitVec 32 := Scalar.addi v595 v602
  let c1_i32_434 : BitVec 32 := 1#32
  let arg16 : BitVec 32 := Scf.iv v603 c1_i32_434 k0_t32
  let v679 : Index := Scalar.indexCast arg16
  let c112_470 : Index := 112#32
  ![v679.toNat, 112]
@[reducible] def k0_t33_loop (v33 : BitVec 32) (k0_t2 : Fin k0_t2_loop.trips) : Scf.Loop 32 :=
  let c200_i32_437 : BitVec 32 := 200#32
  let c0_i32_436 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v609 : BitVec 32 := Scalar.subi v33 v496
  let v610 : BitVec 32 := Scalar.maxsi c0_i32_436 v609
  let v611 : BitVec 32 := Scalar.minsi c200_i32_437 v610
  let c200_i32_438 : BitVec 32 := 200#32
  let c5600_i32_273 : BitVec 32 := 5600#32
  let v612 : BitVec 32 := Scalar.subi c5600_i32_273 v496
  let v613 : BitVec 32 := Scalar.maxsi v611 v612
  let v614 : BitVec 32 := Scalar.minsi c200_i32_438 v613
  let v615 : BitVec 32 := Scalar.subi v614 v611
  let c1_i32_440 : BitVec 32 := 1#32
  let v617 : BitVec 32 := Scalar.divsi v615 c1_i32_440
  let v618 : BitVec 32 := Scalar.muli v617 c1_i32_440
  let v619 : BitVec 32 := Scalar.addi v611 v618
  let c1_i32_441 : BitVec 32 := 1#32
  ⟨v611, v619, c1_i32_441⟩
def k0_off247 (v33 : BitVec 32) (k0_t2 : Fin k0_t2_loop.trips) (k0_t33 : Fin (k0_t33_loop v33 k0_t2).trips) : Fin 2 → Nat :=
  let c200_i32_437 : BitVec 32 := 200#32
  let c0_i32_436 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v609 : BitVec 32 := Scalar.subi v33 v496
  let v610 : BitVec 32 := Scalar.maxsi c0_i32_436 v609
  let v611 : BitVec 32 := Scalar.minsi c200_i32_437 v610
  let c1_i32_441 : BitVec 32 := 1#32
  let arg16 : BitVec 32 := Scf.iv v611 c1_i32_441 k0_t33
  let v630 : Index := Scalar.indexCast arg16
  let c0_449 : Index := 0#32
  ![v630.toNat, 0]
def k0_off248 (v33 : BitVec 32) (k0_t2 : Fin k0_t2_loop.trips) (k0_t33 : Fin (k0_t33_loop v33 k0_t2).trips) : Fin 2 → Nat :=
  let c200_i32_437 : BitVec 32 := 200#32
  let c0_i32_436 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v609 : BitVec 32 := Scalar.subi v33 v496
  let v610 : BitVec 32 := Scalar.maxsi c0_i32_436 v609
  let v611 : BitVec 32 := Scalar.minsi c200_i32_437 v610
  let c1_i32_441 : BitVec 32 := 1#32
  let arg16 : BitVec 32 := Scf.iv v611 c1_i32_441 k0_t33
  let v637 : Index := Scalar.indexCast arg16
  let c16_452 : Index := 16#32
  ![v637.toNat, 16]
def k0_off249 (v33 : BitVec 32) (k0_t2 : Fin k0_t2_loop.trips) (k0_t33 : Fin (k0_t33_loop v33 k0_t2).trips) : Fin 2 → Nat :=
  let c200_i32_437 : BitVec 32 := 200#32
  let c0_i32_436 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v609 : BitVec 32 := Scalar.subi v33 v496
  let v610 : BitVec 32 := Scalar.maxsi c0_i32_436 v609
  let v611 : BitVec 32 := Scalar.minsi c200_i32_437 v610
  let c1_i32_441 : BitVec 32 := 1#32
  let arg16 : BitVec 32 := Scf.iv v611 c1_i32_441 k0_t33
  let v644 : Index := Scalar.indexCast arg16
  let c32_455 : Index := 32#32
  ![v644.toNat, 32]
def k0_off250 (v33 : BitVec 32) (k0_t2 : Fin k0_t2_loop.trips) (k0_t33 : Fin (k0_t33_loop v33 k0_t2).trips) : Fin 2 → Nat :=
  let c200_i32_437 : BitVec 32 := 200#32
  let c0_i32_436 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v609 : BitVec 32 := Scalar.subi v33 v496
  let v610 : BitVec 32 := Scalar.maxsi c0_i32_436 v609
  let v611 : BitVec 32 := Scalar.minsi c200_i32_437 v610
  let c1_i32_441 : BitVec 32 := 1#32
  let arg16 : BitVec 32 := Scf.iv v611 c1_i32_441 k0_t33
  let v651 : Index := Scalar.indexCast arg16
  let c48_458 : Index := 48#32
  ![v651.toNat, 48]
def k0_off251 (v33 : BitVec 32) (k0_t2 : Fin k0_t2_loop.trips) (k0_t33 : Fin (k0_t33_loop v33 k0_t2).trips) : Fin 2 → Nat :=
  let c200_i32_437 : BitVec 32 := 200#32
  let c0_i32_436 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v609 : BitVec 32 := Scalar.subi v33 v496
  let v610 : BitVec 32 := Scalar.maxsi c0_i32_436 v609
  let v611 : BitVec 32 := Scalar.minsi c200_i32_437 v610
  let c1_i32_441 : BitVec 32 := 1#32
  let arg16 : BitVec 32 := Scf.iv v611 c1_i32_441 k0_t33
  let v658 : Index := Scalar.indexCast arg16
  let c64_461 : Index := 64#32
  ![v658.toNat, 64]
def k0_off252 (v33 : BitVec 32) (k0_t2 : Fin k0_t2_loop.trips) (k0_t33 : Fin (k0_t33_loop v33 k0_t2).trips) : Fin 2 → Nat :=
  let c200_i32_437 : BitVec 32 := 200#32
  let c0_i32_436 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v609 : BitVec 32 := Scalar.subi v33 v496
  let v610 : BitVec 32 := Scalar.maxsi c0_i32_436 v609
  let v611 : BitVec 32 := Scalar.minsi c200_i32_437 v610
  let c1_i32_441 : BitVec 32 := 1#32
  let arg16 : BitVec 32 := Scf.iv v611 c1_i32_441 k0_t33
  let v665 : Index := Scalar.indexCast arg16
  let c80_464 : Index := 80#32
  ![v665.toNat, 80]
def k0_off253 (v33 : BitVec 32) (k0_t2 : Fin k0_t2_loop.trips) (k0_t33 : Fin (k0_t33_loop v33 k0_t2).trips) : Fin 2 → Nat :=
  let c200_i32_437 : BitVec 32 := 200#32
  let c0_i32_436 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v609 : BitVec 32 := Scalar.subi v33 v496
  let v610 : BitVec 32 := Scalar.maxsi c0_i32_436 v609
  let v611 : BitVec 32 := Scalar.minsi c200_i32_437 v610
  let c1_i32_441 : BitVec 32 := 1#32
  let arg16 : BitVec 32 := Scf.iv v611 c1_i32_441 k0_t33
  let v672 : Index := Scalar.indexCast arg16
  let c96_467 : Index := 96#32
  ![v672.toNat, 96]
def k0_off254 (v33 : BitVec 32) (k0_t2 : Fin k0_t2_loop.trips) (k0_t33 : Fin (k0_t33_loop v33 k0_t2).trips) : Fin 2 → Nat :=
  let c200_i32_437 : BitVec 32 := 200#32
  let c0_i32_436 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v609 : BitVec 32 := Scalar.subi v33 v496
  let v610 : BitVec 32 := Scalar.maxsi c0_i32_436 v609
  let v611 : BitVec 32 := Scalar.minsi c200_i32_437 v610
  let c1_i32_441 : BitVec 32 := 1#32
  let arg16 : BitVec 32 := Scf.iv v611 c1_i32_441 k0_t33
  let v679 : Index := Scalar.indexCast arg16
  let c112_470 : Index := 112#32
  ![v679.toNat, 112]
@[reducible] def k0_t34_loop (v33 : BitVec 32) (k0_t2 : Fin k0_t2_loop.trips) : Scf.Loop 32 :=
  let c200_i32_437 : BitVec 32 := 200#32
  let c0_i32_436 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v609 : BitVec 32 := Scalar.subi v33 v496
  let v610 : BitVec 32 := Scalar.maxsi c0_i32_436 v609
  let v611 : BitVec 32 := Scalar.minsi c200_i32_437 v610
  let c200_i32_438 : BitVec 32 := 200#32
  let c5600_i32_273 : BitVec 32 := 5600#32
  let v612 : BitVec 32 := Scalar.subi c5600_i32_273 v496
  let v613 : BitVec 32 := Scalar.maxsi v611 v612
  let v614 : BitVec 32 := Scalar.minsi c200_i32_438 v613
  let v615 : BitVec 32 := Scalar.subi v614 v611
  let c1_i32_440 : BitVec 32 := 1#32
  let v617 : BitVec 32 := Scalar.divsi v615 c1_i32_440
  let v618 : BitVec 32 := Scalar.muli v617 c1_i32_440
  let v619 : BitVec 32 := Scalar.addi v611 v618
  let v616 : BitVec 32 := Scalar.addi v611 v615
  let c1_i32_442 : BitVec 32 := 1#32
  ⟨v619, v616, c1_i32_442⟩
def k0_off255 (v33 : BitVec 32) (k0_t2 : Fin k0_t2_loop.trips) (k0_t34 : Fin (k0_t34_loop v33 k0_t2).trips) : Fin 2 → Nat :=
  let c200_i32_437 : BitVec 32 := 200#32
  let c0_i32_436 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v609 : BitVec 32 := Scalar.subi v33 v496
  let v610 : BitVec 32 := Scalar.maxsi c0_i32_436 v609
  let v611 : BitVec 32 := Scalar.minsi c200_i32_437 v610
  let c200_i32_438 : BitVec 32 := 200#32
  let c5600_i32_273 : BitVec 32 := 5600#32
  let v612 : BitVec 32 := Scalar.subi c5600_i32_273 v496
  let v613 : BitVec 32 := Scalar.maxsi v611 v612
  let v614 : BitVec 32 := Scalar.minsi c200_i32_438 v613
  let v615 : BitVec 32 := Scalar.subi v614 v611
  let c1_i32_440 : BitVec 32 := 1#32
  let v617 : BitVec 32 := Scalar.divsi v615 c1_i32_440
  let v618 : BitVec 32 := Scalar.muli v617 c1_i32_440
  let v619 : BitVec 32 := Scalar.addi v611 v618
  let c1_i32_442 : BitVec 32 := 1#32
  let arg16 : BitVec 32 := Scf.iv v619 c1_i32_442 k0_t34
  let v630 : Index := Scalar.indexCast arg16
  let c0_449 : Index := 0#32
  ![v630.toNat, 0]
def k0_off256 (v33 : BitVec 32) (k0_t2 : Fin k0_t2_loop.trips) (k0_t34 : Fin (k0_t34_loop v33 k0_t2).trips) : Fin 2 → Nat :=
  let c200_i32_437 : BitVec 32 := 200#32
  let c0_i32_436 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v609 : BitVec 32 := Scalar.subi v33 v496
  let v610 : BitVec 32 := Scalar.maxsi c0_i32_436 v609
  let v611 : BitVec 32 := Scalar.minsi c200_i32_437 v610
  let c200_i32_438 : BitVec 32 := 200#32
  let c5600_i32_273 : BitVec 32 := 5600#32
  let v612 : BitVec 32 := Scalar.subi c5600_i32_273 v496
  let v613 : BitVec 32 := Scalar.maxsi v611 v612
  let v614 : BitVec 32 := Scalar.minsi c200_i32_438 v613
  let v615 : BitVec 32 := Scalar.subi v614 v611
  let c1_i32_440 : BitVec 32 := 1#32
  let v617 : BitVec 32 := Scalar.divsi v615 c1_i32_440
  let v618 : BitVec 32 := Scalar.muli v617 c1_i32_440
  let v619 : BitVec 32 := Scalar.addi v611 v618
  let c1_i32_442 : BitVec 32 := 1#32
  let arg16 : BitVec 32 := Scf.iv v619 c1_i32_442 k0_t34
  let v637 : Index := Scalar.indexCast arg16
  let c16_452 : Index := 16#32
  ![v637.toNat, 16]
def k0_off257 (v33 : BitVec 32) (k0_t2 : Fin k0_t2_loop.trips) (k0_t34 : Fin (k0_t34_loop v33 k0_t2).trips) : Fin 2 → Nat :=
  let c200_i32_437 : BitVec 32 := 200#32
  let c0_i32_436 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v609 : BitVec 32 := Scalar.subi v33 v496
  let v610 : BitVec 32 := Scalar.maxsi c0_i32_436 v609
  let v611 : BitVec 32 := Scalar.minsi c200_i32_437 v610
  let c200_i32_438 : BitVec 32 := 200#32
  let c5600_i32_273 : BitVec 32 := 5600#32
  let v612 : BitVec 32 := Scalar.subi c5600_i32_273 v496
  let v613 : BitVec 32 := Scalar.maxsi v611 v612
  let v614 : BitVec 32 := Scalar.minsi c200_i32_438 v613
  let v615 : BitVec 32 := Scalar.subi v614 v611
  let c1_i32_440 : BitVec 32 := 1#32
  let v617 : BitVec 32 := Scalar.divsi v615 c1_i32_440
  let v618 : BitVec 32 := Scalar.muli v617 c1_i32_440
  let v619 : BitVec 32 := Scalar.addi v611 v618
  let c1_i32_442 : BitVec 32 := 1#32
  let arg16 : BitVec 32 := Scf.iv v619 c1_i32_442 k0_t34
  let v644 : Index := Scalar.indexCast arg16
  let c32_455 : Index := 32#32
  ![v644.toNat, 32]
def k0_off258 (v33 : BitVec 32) (k0_t2 : Fin k0_t2_loop.trips) (k0_t34 : Fin (k0_t34_loop v33 k0_t2).trips) : Fin 2 → Nat :=
  let c200_i32_437 : BitVec 32 := 200#32
  let c0_i32_436 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v609 : BitVec 32 := Scalar.subi v33 v496
  let v610 : BitVec 32 := Scalar.maxsi c0_i32_436 v609
  let v611 : BitVec 32 := Scalar.minsi c200_i32_437 v610
  let c200_i32_438 : BitVec 32 := 200#32
  let c5600_i32_273 : BitVec 32 := 5600#32
  let v612 : BitVec 32 := Scalar.subi c5600_i32_273 v496
  let v613 : BitVec 32 := Scalar.maxsi v611 v612
  let v614 : BitVec 32 := Scalar.minsi c200_i32_438 v613
  let v615 : BitVec 32 := Scalar.subi v614 v611
  let c1_i32_440 : BitVec 32 := 1#32
  let v617 : BitVec 32 := Scalar.divsi v615 c1_i32_440
  let v618 : BitVec 32 := Scalar.muli v617 c1_i32_440
  let v619 : BitVec 32 := Scalar.addi v611 v618
  let c1_i32_442 : BitVec 32 := 1#32
  let arg16 : BitVec 32 := Scf.iv v619 c1_i32_442 k0_t34
  let v651 : Index := Scalar.indexCast arg16
  let c48_458 : Index := 48#32
  ![v651.toNat, 48]
def k0_off259 (v33 : BitVec 32) (k0_t2 : Fin k0_t2_loop.trips) (k0_t34 : Fin (k0_t34_loop v33 k0_t2).trips) : Fin 2 → Nat :=
  let c200_i32_437 : BitVec 32 := 200#32
  let c0_i32_436 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v609 : BitVec 32 := Scalar.subi v33 v496
  let v610 : BitVec 32 := Scalar.maxsi c0_i32_436 v609
  let v611 : BitVec 32 := Scalar.minsi c200_i32_437 v610
  let c200_i32_438 : BitVec 32 := 200#32
  let c5600_i32_273 : BitVec 32 := 5600#32
  let v612 : BitVec 32 := Scalar.subi c5600_i32_273 v496
  let v613 : BitVec 32 := Scalar.maxsi v611 v612
  let v614 : BitVec 32 := Scalar.minsi c200_i32_438 v613
  let v615 : BitVec 32 := Scalar.subi v614 v611
  let c1_i32_440 : BitVec 32 := 1#32
  let v617 : BitVec 32 := Scalar.divsi v615 c1_i32_440
  let v618 : BitVec 32 := Scalar.muli v617 c1_i32_440
  let v619 : BitVec 32 := Scalar.addi v611 v618
  let c1_i32_442 : BitVec 32 := 1#32
  let arg16 : BitVec 32 := Scf.iv v619 c1_i32_442 k0_t34
  let v658 : Index := Scalar.indexCast arg16
  let c64_461 : Index := 64#32
  ![v658.toNat, 64]
def k0_off260 (v33 : BitVec 32) (k0_t2 : Fin k0_t2_loop.trips) (k0_t34 : Fin (k0_t34_loop v33 k0_t2).trips) : Fin 2 → Nat :=
  let c200_i32_437 : BitVec 32 := 200#32
  let c0_i32_436 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v609 : BitVec 32 := Scalar.subi v33 v496
  let v610 : BitVec 32 := Scalar.maxsi c0_i32_436 v609
  let v611 : BitVec 32 := Scalar.minsi c200_i32_437 v610
  let c200_i32_438 : BitVec 32 := 200#32
  let c5600_i32_273 : BitVec 32 := 5600#32
  let v612 : BitVec 32 := Scalar.subi c5600_i32_273 v496
  let v613 : BitVec 32 := Scalar.maxsi v611 v612
  let v614 : BitVec 32 := Scalar.minsi c200_i32_438 v613
  let v615 : BitVec 32 := Scalar.subi v614 v611
  let c1_i32_440 : BitVec 32 := 1#32
  let v617 : BitVec 32 := Scalar.divsi v615 c1_i32_440
  let v618 : BitVec 32 := Scalar.muli v617 c1_i32_440
  let v619 : BitVec 32 := Scalar.addi v611 v618
  let c1_i32_442 : BitVec 32 := 1#32
  let arg16 : BitVec 32 := Scf.iv v619 c1_i32_442 k0_t34
  let v665 : Index := Scalar.indexCast arg16
  let c80_464 : Index := 80#32
  ![v665.toNat, 80]
def k0_off261 (v33 : BitVec 32) (k0_t2 : Fin k0_t2_loop.trips) (k0_t34 : Fin (k0_t34_loop v33 k0_t2).trips) : Fin 2 → Nat :=
  let c200_i32_437 : BitVec 32 := 200#32
  let c0_i32_436 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v609 : BitVec 32 := Scalar.subi v33 v496
  let v610 : BitVec 32 := Scalar.maxsi c0_i32_436 v609
  let v611 : BitVec 32 := Scalar.minsi c200_i32_437 v610
  let c200_i32_438 : BitVec 32 := 200#32
  let c5600_i32_273 : BitVec 32 := 5600#32
  let v612 : BitVec 32 := Scalar.subi c5600_i32_273 v496
  let v613 : BitVec 32 := Scalar.maxsi v611 v612
  let v614 : BitVec 32 := Scalar.minsi c200_i32_438 v613
  let v615 : BitVec 32 := Scalar.subi v614 v611
  let c1_i32_440 : BitVec 32 := 1#32
  let v617 : BitVec 32 := Scalar.divsi v615 c1_i32_440
  let v618 : BitVec 32 := Scalar.muli v617 c1_i32_440
  let v619 : BitVec 32 := Scalar.addi v611 v618
  let c1_i32_442 : BitVec 32 := 1#32
  let arg16 : BitVec 32 := Scf.iv v619 c1_i32_442 k0_t34
  let v672 : Index := Scalar.indexCast arg16
  let c96_467 : Index := 96#32
  ![v672.toNat, 96]
def k0_off262 (v33 : BitVec 32) (k0_t2 : Fin k0_t2_loop.trips) (k0_t34 : Fin (k0_t34_loop v33 k0_t2).trips) : Fin 2 → Nat :=
  let c200_i32_437 : BitVec 32 := 200#32
  let c0_i32_436 : BitVec 32 := 0#32
  let c2_i32_377 : BitVec 32 := 2#32
  let c0_i32_275 : BitVec 32 := 0#32
  let c1_i32_276 : BitVec 32 := 1#32
  let arg14 : BitVec 32 := Scf.iv c0_i32_275 c1_i32_276 k0_t2
  let v494 : BitVec 32 := Scalar.muli c2_i32_377 arg14
  let c1_i32_378 : BitVec 32 := 1#32
  let v495 : BitVec 32 := Scalar.addi v494 c1_i32_378
  let c200_i32_379 : BitVec 32 := 200#32
  let v496 : BitVec 32 := Scalar.muli v495 c200_i32_379
  let v609 : BitVec 32 := Scalar.subi v33 v496
  let v610 : BitVec 32 := Scalar.maxsi c0_i32_436 v609
  let v611 : BitVec 32 := Scalar.minsi c200_i32_437 v610
  let c200_i32_438 : BitVec 32 := 200#32
  let c5600_i32_273 : BitVec 32 := 5600#32
  let v612 : BitVec 32 := Scalar.subi c5600_i32_273 v496
  let v613 : BitVec 32 := Scalar.maxsi v611 v612
  let v614 : BitVec 32 := Scalar.minsi c200_i32_438 v613
  let v615 : BitVec 32 := Scalar.subi v614 v611
  let c1_i32_440 : BitVec 32 := 1#32
  let v617 : BitVec 32 := Scalar.divsi v615 c1_i32_440
  let v618 : BitVec 32 := Scalar.muli v617 c1_i32_440
  let v619 : BitVec 32 := Scalar.addi v611 v618
  let c1_i32_442 : BitVec 32 := 1#32
  let arg16 : BitVec 32 := Scf.iv v619 c1_i32_442 k0_t34
  let v679 : Index := Scalar.indexCast arg16
  let c112_470 : Index := 112#32
  ![v679.toNat, 112]

def k0_chk7_0 (v30 : BitVec 32) (v33 : BitVec 32) : Prop :=
  (∀ k0_t2 : Fin k0_t2_loop.trips, (k0_t15_loop v30 v33 k0_t2).OK) ∧
  (∀ (k0_t2 : Fin k0_t2_loop.trips) (k0_t15 : Fin (k0_t15_loop v30 v33 k0_t2).trips), ∀ a, (k0_off101 v30 v33 k0_t2 k0_t15) a + S1x16.size a ≤ S200x128.size a) ∧
  (∀ (k0_t2 : Fin k0_t2_loop.trips) (k0_t15 : Fin (k0_t15_loop v30 v33 k0_t2).trips), ∀ a, (k0_off102 v30 v33 k0_t2 k0_t15) a + S1x16.size a ≤ S200x128.size a) ∧
  (∀ (k0_t2 : Fin k0_t2_loop.trips) (k0_t15 : Fin (k0_t15_loop v30 v33 k0_t2).trips), ∀ a, (k0_off103 v30 v33 k0_t2 k0_t15) a + S1x16.size a ≤ S200x128.size a) ∧
  (∀ (k0_t2 : Fin k0_t2_loop.trips) (k0_t15 : Fin (k0_t15_loop v30 v33 k0_t2).trips), ∀ a, (k0_off104 v30 v33 k0_t2 k0_t15) a + S1x16.size a ≤ S200x128.size a) ∧
  (∀ (k0_t2 : Fin k0_t2_loop.trips) (k0_t15 : Fin (k0_t15_loop v30 v33 k0_t2).trips), ∀ a, (k0_off105 v30 v33 k0_t2 k0_t15) a + S1x16.size a ≤ S200x128.size a) ∧
  (∀ (k0_t2 : Fin k0_t2_loop.trips) (k0_t15 : Fin (k0_t15_loop v30 v33 k0_t2).trips), ∀ a, (k0_off106 v30 v33 k0_t2 k0_t15) a + S1x16.size a ≤ S200x128.size a) ∧
  (∀ (k0_t2 : Fin k0_t2_loop.trips) (k0_t15 : Fin (k0_t15_loop v30 v33 k0_t2).trips), ∀ a, (k0_off107 v30 v33 k0_t2 k0_t15) a + S1x16.size a ≤ S200x128.size a) ∧
  (∀ (k0_t2 : Fin k0_t2_loop.trips) (k0_t15 : Fin (k0_t15_loop v30 v33 k0_t2).trips), ∀ a, (k0_off108 v30 v33 k0_t2 k0_t15) a + S1x16.size a ≤ S200x128.size a) ∧
  (∀ k0_t2 : Fin k0_t2_loop.trips, (k0_t16_loop v30 v33 k0_t2).OK) ∧
  (∀ (k0_t2 : Fin k0_t2_loop.trips) (k0_t16 : Fin (k0_t16_loop v30 v33 k0_t2).trips), ∀ a, (k0_off109 v30 v33 k0_t2 k0_t16) a + S1x16.size a ≤ S200x128.size a) ∧
  (∀ (k0_t2 : Fin k0_t2_loop.trips) (k0_t16 : Fin (k0_t16_loop v30 v33 k0_t2).trips), ∀ a, (k0_off110 v30 v33 k0_t2 k0_t16) a + S1x16.size a ≤ S200x128.size a) ∧
  (∀ (k0_t2 : Fin k0_t2_loop.trips) (k0_t16 : Fin (k0_t16_loop v30 v33 k0_t2).trips), ∀ a, (k0_off111 v30 v33 k0_t2 k0_t16) a + S1x16.size a ≤ S200x128.size a) ∧
  (∀ (k0_t2 : Fin k0_t2_loop.trips) (k0_t16 : Fin (k0_t16_loop v30 v33 k0_t2).trips), ∀ a, (k0_off112 v30 v33 k0_t2 k0_t16) a + S1x16.size a ≤ S200x128.size a) ∧
  (∀ (k0_t2 : Fin k0_t2_loop.trips) (k0_t16 : Fin (k0_t16_loop v30 v33 k0_t2).trips), ∀ a, (k0_off113 v30 v33 k0_t2 k0_t16) a + S1x16.size a ≤ S200x128.size a) ∧
  (∀ (k0_t2 : Fin k0_t2_loop.trips) (k0_t16 : Fin (k0_t16_loop v30 v33 k0_t2).trips), ∀ a, (k0_off114 v30 v33 k0_t2 k0_t16) a + S1x16.size a ≤ S200x128.size a) ∧
  (∀ (k0_t2 : Fin k0_t2_loop.trips) (k0_t16 : Fin (k0_t16_loop v30 v33 k0_t2).trips), ∀ a, (k0_off115 v30 v33 k0_t2 k0_t16) a + S1x16.size a ≤ S200x128.size a) ∧
  (∀ (k0_t2 : Fin k0_t2_loop.trips) (k0_t16 : Fin (k0_t16_loop v30 v33 k0_t2).trips), ∀ a, (k0_off116 v30 v33 k0_t2 k0_t16) a + S1x16.size a ≤ S200x128.size a) ∧
  (∀ k0_t2 : Fin k0_t2_loop.trips, (k0_t17_loop v33 k0_t2).OK) ∧
  (∀ (k0_t2 : Fin k0_t2_loop.trips) (k0_t17 : Fin (k0_t17_loop v33 k0_t2).trips), ∀ a, (k0_off117 v33 k0_t2 k0_t17) a + S1x16.size a ≤ S200x128.size a) ∧
  (∀ (k0_t2 : Fin k0_t2_loop.trips) (k0_t17 : Fin (k0_t17_loop v33 k0_t2).trips), ∀ a, (k0_off118 v33 k0_t2 k0_t17) a + S1x16.size a ≤ S200x128.size a) ∧
  (∀ (k0_t2 : Fin k0_t2_loop.trips) (k0_t17 : Fin (k0_t17_loop v33 k0_t2).trips), ∀ a, (k0_off119 v33 k0_t2 k0_t17) a + S1x16.size a ≤ S200x128.size a) ∧
  (∀ (k0_t2 : Fin k0_t2_loop.trips) (k0_t17 : Fin (k0_t17_loop v33 k0_t2).trips), ∀ a, (k0_off120 v33 k0_t2 k0_t17) a + S1x16.size a ≤ S200x128.size a) ∧
  (∀ (k0_t2 : Fin k0_t2_loop.trips) (k0_t17 : Fin (k0_t17_loop v33 k0_t2).trips), ∀ a, (k0_off121 v33 k0_t2 k0_t17) a + S1x16.size a ≤ S200x128.size a) ∧
  (∀ (k0_t2 : Fin k0_t2_loop.trips) (k0_t17 : Fin (k0_t17_loop v33 k0_t2).trips), ∀ a, (k0_off122 v33 k0_t2 k0_t17) a + S1x16.size a ≤ S200x128.size a) ∧
  (∀ (k0_t2 : Fin k0_t2_loop.trips) (k0_t17 : Fin (k0_t17_loop v33 k0_t2).trips), ∀ a, (k0_off123 v33 k0_t2 k0_t17) a + S1x16.size a ≤ S200x128.size a) ∧
  (∀ (k0_t2 : Fin k0_t2_loop.trips) (k0_t17 : Fin (k0_t17_loop v33 k0_t2).trips), ∀ a, (k0_off124 v33 k0_t2 k0_t17) a + S1x16.size a ≤ S200x128.size a) ∧
  (∀ k0_t2 : Fin k0_t2_loop.trips, (k0_t18_loop v33 k0_t2).OK) ∧
  (∀ (k0_t2 : Fin k0_t2_loop.trips) (k0_t18 : Fin (k0_t18_loop v33 k0_t2).trips), ∀ a, (k0_off125 v33 k0_t2 k0_t18) a + S1x16.size a ≤ S200x128.size a) ∧
  (∀ (k0_t2 : Fin k0_t2_loop.trips) (k0_t18 : Fin (k0_t18_loop v33 k0_t2).trips), ∀ a, (k0_off126 v33 k0_t2 k0_t18) a + S1x16.size a ≤ S200x128.size a) ∧
  (∀ (k0_t2 : Fin k0_t2_loop.trips) (k0_t18 : Fin (k0_t18_loop v33 k0_t2).trips), ∀ a, (k0_off127 v33 k0_t2 k0_t18) a + S1x16.size a ≤ S200x128.size a) ∧
  (∀ (k0_t2 : Fin k0_t2_loop.trips) (k0_t18 : Fin (k0_t18_loop v33 k0_t2).trips), ∀ a, (k0_off128 v33 k0_t2 k0_t18) a + S1x16.size a ≤ S200x128.size a)
def k0_chk7_1 (v30 : BitVec 32) (v33 : BitVec 32) : Prop :=
  (∀ (k0_t2 : Fin k0_t2_loop.trips) (k0_t18 : Fin (k0_t18_loop v33 k0_t2).trips), ∀ a, (k0_off129 v33 k0_t2 k0_t18) a + S1x16.size a ≤ S200x128.size a) ∧
  (∀ (k0_t2 : Fin k0_t2_loop.trips) (k0_t18 : Fin (k0_t18_loop v33 k0_t2).trips), ∀ a, (k0_off130 v33 k0_t2 k0_t18) a + S1x16.size a ≤ S200x128.size a) ∧
  (∀ (k0_t2 : Fin k0_t2_loop.trips) (k0_t18 : Fin (k0_t18_loop v33 k0_t2).trips), ∀ a, (k0_off131 v33 k0_t2 k0_t18) a + S1x16.size a ≤ S200x128.size a) ∧
  (∀ (k0_t2 : Fin k0_t2_loop.trips) (k0_t18 : Fin (k0_t18_loop v33 k0_t2).trips), ∀ a, (k0_off132 v33 k0_t2 k0_t18) a + S1x16.size a ≤ S200x128.size a) ∧
  (∀ k0_t2 : Fin k0_t2_loop.trips, (k0_t31_loop v30 v33 k0_t2).OK) ∧
  (∀ (k0_t2 : Fin k0_t2_loop.trips) (k0_t31 : Fin (k0_t31_loop v30 v33 k0_t2).trips), ∀ a, (k0_off231 v30 v33 k0_t2 k0_t31) a + S1x16.size a ≤ S200x128.size a) ∧
  (∀ (k0_t2 : Fin k0_t2_loop.trips) (k0_t31 : Fin (k0_t31_loop v30 v33 k0_t2).trips), ∀ a, (k0_off232 v30 v33 k0_t2 k0_t31) a + S1x16.size a ≤ S200x128.size a) ∧
  (∀ (k0_t2 : Fin k0_t2_loop.trips) (k0_t31 : Fin (k0_t31_loop v30 v33 k0_t2).trips), ∀ a, (k0_off233 v30 v33 k0_t2 k0_t31) a + S1x16.size a ≤ S200x128.size a) ∧
  (∀ (k0_t2 : Fin k0_t2_loop.trips) (k0_t31 : Fin (k0_t31_loop v30 v33 k0_t2).trips), ∀ a, (k0_off234 v30 v33 k0_t2 k0_t31) a + S1x16.size a ≤ S200x128.size a) ∧
  (∀ (k0_t2 : Fin k0_t2_loop.trips) (k0_t31 : Fin (k0_t31_loop v30 v33 k0_t2).trips), ∀ a, (k0_off235 v30 v33 k0_t2 k0_t31) a + S1x16.size a ≤ S200x128.size a) ∧
  (∀ (k0_t2 : Fin k0_t2_loop.trips) (k0_t31 : Fin (k0_t31_loop v30 v33 k0_t2).trips), ∀ a, (k0_off236 v30 v33 k0_t2 k0_t31) a + S1x16.size a ≤ S200x128.size a) ∧
  (∀ (k0_t2 : Fin k0_t2_loop.trips) (k0_t31 : Fin (k0_t31_loop v30 v33 k0_t2).trips), ∀ a, (k0_off237 v30 v33 k0_t2 k0_t31) a + S1x16.size a ≤ S200x128.size a) ∧
  (∀ (k0_t2 : Fin k0_t2_loop.trips) (k0_t31 : Fin (k0_t31_loop v30 v33 k0_t2).trips), ∀ a, (k0_off238 v30 v33 k0_t2 k0_t31) a + S1x16.size a ≤ S200x128.size a) ∧
  (∀ k0_t2 : Fin k0_t2_loop.trips, (k0_t32_loop v30 v33 k0_t2).OK) ∧
  (∀ (k0_t2 : Fin k0_t2_loop.trips) (k0_t32 : Fin (k0_t32_loop v30 v33 k0_t2).trips), ∀ a, (k0_off239 v30 v33 k0_t2 k0_t32) a + S1x16.size a ≤ S200x128.size a) ∧
  (∀ (k0_t2 : Fin k0_t2_loop.trips) (k0_t32 : Fin (k0_t32_loop v30 v33 k0_t2).trips), ∀ a, (k0_off240 v30 v33 k0_t2 k0_t32) a + S1x16.size a ≤ S200x128.size a) ∧
  (∀ (k0_t2 : Fin k0_t2_loop.trips) (k0_t32 : Fin (k0_t32_loop v30 v33 k0_t2).trips), ∀ a, (k0_off241 v30 v33 k0_t2 k0_t32) a + S1x16.size a ≤ S200x128.size a) ∧
  (∀ (k0_t2 : Fin k0_t2_loop.trips) (k0_t32 : Fin (k0_t32_loop v30 v33 k0_t2).trips), ∀ a, (k0_off242 v30 v33 k0_t2 k0_t32) a + S1x16.size a ≤ S200x128.size a) ∧
  (∀ (k0_t2 : Fin k0_t2_loop.trips) (k0_t32 : Fin (k0_t32_loop v30 v33 k0_t2).trips), ∀ a, (k0_off243 v30 v33 k0_t2 k0_t32) a + S1x16.size a ≤ S200x128.size a) ∧
  (∀ (k0_t2 : Fin k0_t2_loop.trips) (k0_t32 : Fin (k0_t32_loop v30 v33 k0_t2).trips), ∀ a, (k0_off244 v30 v33 k0_t2 k0_t32) a + S1x16.size a ≤ S200x128.size a) ∧
  (∀ (k0_t2 : Fin k0_t2_loop.trips) (k0_t32 : Fin (k0_t32_loop v30 v33 k0_t2).trips), ∀ a, (k0_off245 v30 v33 k0_t2 k0_t32) a + S1x16.size a ≤ S200x128.size a) ∧
  (∀ (k0_t2 : Fin k0_t2_loop.trips) (k0_t32 : Fin (k0_t32_loop v30 v33 k0_t2).trips), ∀ a, (k0_off246 v30 v33 k0_t2 k0_t32) a + S1x16.size a ≤ S200x128.size a) ∧
  (∀ k0_t2 : Fin k0_t2_loop.trips, (k0_t33_loop v33 k0_t2).OK) ∧
  (∀ (k0_t2 : Fin k0_t2_loop.trips) (k0_t33 : Fin (k0_t33_loop v33 k0_t2).trips), ∀ a, (k0_off247 v33 k0_t2 k0_t33) a + S1x16.size a ≤ S200x128.size a) ∧
  (∀ (k0_t2 : Fin k0_t2_loop.trips) (k0_t33 : Fin (k0_t33_loop v33 k0_t2).trips), ∀ a, (k0_off248 v33 k0_t2 k0_t33) a + S1x16.size a ≤ S200x128.size a) ∧
  (∀ (k0_t2 : Fin k0_t2_loop.trips) (k0_t33 : Fin (k0_t33_loop v33 k0_t2).trips), ∀ a, (k0_off249 v33 k0_t2 k0_t33) a + S1x16.size a ≤ S200x128.size a) ∧
  (∀ (k0_t2 : Fin k0_t2_loop.trips) (k0_t33 : Fin (k0_t33_loop v33 k0_t2).trips), ∀ a, (k0_off250 v33 k0_t2 k0_t33) a + S1x16.size a ≤ S200x128.size a) ∧
  (∀ (k0_t2 : Fin k0_t2_loop.trips) (k0_t33 : Fin (k0_t33_loop v33 k0_t2).trips), ∀ a, (k0_off251 v33 k0_t2 k0_t33) a + S1x16.size a ≤ S200x128.size a) ∧
  (∀ (k0_t2 : Fin k0_t2_loop.trips) (k0_t33 : Fin (k0_t33_loop v33 k0_t2).trips), ∀ a, (k0_off252 v33 k0_t2 k0_t33) a + S1x16.size a ≤ S200x128.size a) ∧
  (∀ (k0_t2 : Fin k0_t2_loop.trips) (k0_t33 : Fin (k0_t33_loop v33 k0_t2).trips), ∀ a, (k0_off253 v33 k0_t2 k0_t33) a + S1x16.size a ≤ S200x128.size a) ∧
  (∀ (k0_t2 : Fin k0_t2_loop.trips) (k0_t33 : Fin (k0_t33_loop v33 k0_t2).trips), ∀ a, (k0_off254 v33 k0_t2 k0_t33) a + S1x16.size a ≤ S200x128.size a) ∧
  (∀ k0_t2 : Fin k0_t2_loop.trips, (k0_t34_loop v33 k0_t2).OK)
def k0_chk7_2 (v30 : BitVec 32) (v33 : BitVec 32) : Prop :=
  (∀ (k0_t2 : Fin k0_t2_loop.trips) (k0_t34 : Fin (k0_t34_loop v33 k0_t2).trips), ∀ a, (k0_off255 v33 k0_t2 k0_t34) a + S1x16.size a ≤ S200x128.size a) ∧
  (∀ (k0_t2 : Fin k0_t2_loop.trips) (k0_t34 : Fin (k0_t34_loop v33 k0_t2).trips), ∀ a, (k0_off256 v33 k0_t2 k0_t34) a + S1x16.size a ≤ S200x128.size a) ∧
  (∀ (k0_t2 : Fin k0_t2_loop.trips) (k0_t34 : Fin (k0_t34_loop v33 k0_t2).trips), ∀ a, (k0_off257 v33 k0_t2 k0_t34) a + S1x16.size a ≤ S200x128.size a) ∧
  (∀ (k0_t2 : Fin k0_t2_loop.trips) (k0_t34 : Fin (k0_t34_loop v33 k0_t2).trips), ∀ a, (k0_off258 v33 k0_t2 k0_t34) a + S1x16.size a ≤ S200x128.size a) ∧
  (∀ (k0_t2 : Fin k0_t2_loop.trips) (k0_t34 : Fin (k0_t34_loop v33 k0_t2).trips), ∀ a, (k0_off259 v33 k0_t2 k0_t34) a + S1x16.size a ≤ S200x128.size a) ∧
  (∀ (k0_t2 : Fin k0_t2_loop.trips) (k0_t34 : Fin (k0_t34_loop v33 k0_t2).trips), ∀ a, (k0_off260 v33 k0_t2 k0_t34) a + S1x16.size a ≤ S200x128.size a) ∧
  (∀ (k0_t2 : Fin k0_t2_loop.trips) (k0_t34 : Fin (k0_t34_loop v33 k0_t2).trips), ∀ a, (k0_off261 v33 k0_t2 k0_t34) a + S1x16.size a ≤ S200x128.size a) ∧
  (∀ (k0_t2 : Fin k0_t2_loop.trips) (k0_t34 : Fin (k0_t34_loop v33 k0_t2).trips), ∀ a, (k0_off262 v33 k0_t2 k0_t34) a + S1x16.size a ≤ S200x128.size a)
def k0_chk7 (v30 : BitVec 32) (v33 : BitVec 32) : Prop :=
  k0_chk7_0 v30 v33 ∧
  k0_chk7_1 v30 v33 ∧
  k0_chk7_2 v30 v33
theorem k0_t15_ok : ∀ (v30 : BitVec 32) (v33 : BitVec 32) (k0_hw7 : k0_chk7 v30 v33) (k0_t2 : Fin k0_t2_loop.trips), (k0_t15_loop v30 v33 k0_t2).OK := fun v30 v33 k0_hw7 k0_t2 => k0_hw7.1.1 k0_t2
theorem k0_off101_inb : ∀ (v30 : BitVec 32) (v33 : BitVec 32) (k0_hw7 : k0_chk7 v30 v33) (k0_t2 : Fin k0_t2_loop.trips) (k0_t15 : Fin (k0_t15_loop v30 v33 k0_t2).trips), ∀ a, (k0_off101 v30 v33 k0_t2 k0_t15) a + S1x16.size a ≤ S200x128.size a := fun v30 v33 k0_hw7 k0_t2 k0_t15 => k0_hw7.1.2.1 k0_t2 k0_t15
theorem k0_off102_inb : ∀ (v30 : BitVec 32) (v33 : BitVec 32) (k0_hw7 : k0_chk7 v30 v33) (k0_t2 : Fin k0_t2_loop.trips) (k0_t15 : Fin (k0_t15_loop v30 v33 k0_t2).trips), ∀ a, (k0_off102 v30 v33 k0_t2 k0_t15) a + S1x16.size a ≤ S200x128.size a := fun v30 v33 k0_hw7 k0_t2 k0_t15 => k0_hw7.1.2.2.1 k0_t2 k0_t15
theorem k0_off103_inb : ∀ (v30 : BitVec 32) (v33 : BitVec 32) (k0_hw7 : k0_chk7 v30 v33) (k0_t2 : Fin k0_t2_loop.trips) (k0_t15 : Fin (k0_t15_loop v30 v33 k0_t2).trips), ∀ a, (k0_off103 v30 v33 k0_t2 k0_t15) a + S1x16.size a ≤ S200x128.size a := fun v30 v33 k0_hw7 k0_t2 k0_t15 => k0_hw7.1.2.2.2.1 k0_t2 k0_t15
theorem k0_off104_inb : ∀ (v30 : BitVec 32) (v33 : BitVec 32) (k0_hw7 : k0_chk7 v30 v33) (k0_t2 : Fin k0_t2_loop.trips) (k0_t15 : Fin (k0_t15_loop v30 v33 k0_t2).trips), ∀ a, (k0_off104 v30 v33 k0_t2 k0_t15) a + S1x16.size a ≤ S200x128.size a := fun v30 v33 k0_hw7 k0_t2 k0_t15 => k0_hw7.1.2.2.2.2.1 k0_t2 k0_t15
theorem k0_off105_inb : ∀ (v30 : BitVec 32) (v33 : BitVec 32) (k0_hw7 : k0_chk7 v30 v33) (k0_t2 : Fin k0_t2_loop.trips) (k0_t15 : Fin (k0_t15_loop v30 v33 k0_t2).trips), ∀ a, (k0_off105 v30 v33 k0_t2 k0_t15) a + S1x16.size a ≤ S200x128.size a := fun v30 v33 k0_hw7 k0_t2 k0_t15 => k0_hw7.1.2.2.2.2.2.1 k0_t2 k0_t15
theorem k0_off106_inb : ∀ (v30 : BitVec 32) (v33 : BitVec 32) (k0_hw7 : k0_chk7 v30 v33) (k0_t2 : Fin k0_t2_loop.trips) (k0_t15 : Fin (k0_t15_loop v30 v33 k0_t2).trips), ∀ a, (k0_off106 v30 v33 k0_t2 k0_t15) a + S1x16.size a ≤ S200x128.size a := fun v30 v33 k0_hw7 k0_t2 k0_t15 => k0_hw7.1.2.2.2.2.2.2.1 k0_t2 k0_t15
theorem k0_off107_inb : ∀ (v30 : BitVec 32) (v33 : BitVec 32) (k0_hw7 : k0_chk7 v30 v33) (k0_t2 : Fin k0_t2_loop.trips) (k0_t15 : Fin (k0_t15_loop v30 v33 k0_t2).trips), ∀ a, (k0_off107 v30 v33 k0_t2 k0_t15) a + S1x16.size a ≤ S200x128.size a := fun v30 v33 k0_hw7 k0_t2 k0_t15 => k0_hw7.1.2.2.2.2.2.2.2.1 k0_t2 k0_t15
theorem k0_off108_inb : ∀ (v30 : BitVec 32) (v33 : BitVec 32) (k0_hw7 : k0_chk7 v30 v33) (k0_t2 : Fin k0_t2_loop.trips) (k0_t15 : Fin (k0_t15_loop v30 v33 k0_t2).trips), ∀ a, (k0_off108 v30 v33 k0_t2 k0_t15) a + S1x16.size a ≤ S200x128.size a := fun v30 v33 k0_hw7 k0_t2 k0_t15 => k0_hw7.1.2.2.2.2.2.2.2.2.1 k0_t2 k0_t15
theorem k0_t16_ok : ∀ (v30 : BitVec 32) (v33 : BitVec 32) (k0_hw7 : k0_chk7 v30 v33) (k0_t2 : Fin k0_t2_loop.trips), (k0_t16_loop v30 v33 k0_t2).OK := fun v30 v33 k0_hw7 k0_t2 => k0_hw7.1.2.2.2.2.2.2.2.2.2.1 k0_t2
theorem k0_off109_inb : ∀ (v30 : BitVec 32) (v33 : BitVec 32) (k0_hw7 : k0_chk7 v30 v33) (k0_t2 : Fin k0_t2_loop.trips) (k0_t16 : Fin (k0_t16_loop v30 v33 k0_t2).trips), ∀ a, (k0_off109 v30 v33 k0_t2 k0_t16) a + S1x16.size a ≤ S200x128.size a := fun v30 v33 k0_hw7 k0_t2 k0_t16 => k0_hw7.1.2.2.2.2.2.2.2.2.2.2.1 k0_t2 k0_t16
theorem k0_off110_inb : ∀ (v30 : BitVec 32) (v33 : BitVec 32) (k0_hw7 : k0_chk7 v30 v33) (k0_t2 : Fin k0_t2_loop.trips) (k0_t16 : Fin (k0_t16_loop v30 v33 k0_t2).trips), ∀ a, (k0_off110 v30 v33 k0_t2 k0_t16) a + S1x16.size a ≤ S200x128.size a := fun v30 v33 k0_hw7 k0_t2 k0_t16 => k0_hw7.1.2.2.2.2.2.2.2.2.2.2.2.1 k0_t2 k0_t16
theorem k0_off111_inb : ∀ (v30 : BitVec 32) (v33 : BitVec 32) (k0_hw7 : k0_chk7 v30 v33) (k0_t2 : Fin k0_t2_loop.trips) (k0_t16 : Fin (k0_t16_loop v30 v33 k0_t2).trips), ∀ a, (k0_off111 v30 v33 k0_t2 k0_t16) a + S1x16.size a ≤ S200x128.size a := fun v30 v33 k0_hw7 k0_t2 k0_t16 => k0_hw7.1.2.2.2.2.2.2.2.2.2.2.2.2.1 k0_t2 k0_t16
theorem k0_off112_inb : ∀ (v30 : BitVec 32) (v33 : BitVec 32) (k0_hw7 : k0_chk7 v30 v33) (k0_t2 : Fin k0_t2_loop.trips) (k0_t16 : Fin (k0_t16_loop v30 v33 k0_t2).trips), ∀ a, (k0_off112 v30 v33 k0_t2 k0_t16) a + S1x16.size a ≤ S200x128.size a := fun v30 v33 k0_hw7 k0_t2 k0_t16 => k0_hw7.1.2.2.2.2.2.2.2.2.2.2.2.2.2.1 k0_t2 k0_t16
theorem k0_off113_inb : ∀ (v30 : BitVec 32) (v33 : BitVec 32) (k0_hw7 : k0_chk7 v30 v33) (k0_t2 : Fin k0_t2_loop.trips) (k0_t16 : Fin (k0_t16_loop v30 v33 k0_t2).trips), ∀ a, (k0_off113 v30 v33 k0_t2 k0_t16) a + S1x16.size a ≤ S200x128.size a := fun v30 v33 k0_hw7 k0_t2 k0_t16 => k0_hw7.1.2.2.2.2.2.2.2.2.2.2.2.2.2.2.1 k0_t2 k0_t16
theorem k0_off114_inb : ∀ (v30 : BitVec 32) (v33 : BitVec 32) (k0_hw7 : k0_chk7 v30 v33) (k0_t2 : Fin k0_t2_loop.trips) (k0_t16 : Fin (k0_t16_loop v30 v33 k0_t2).trips), ∀ a, (k0_off114 v30 v33 k0_t2 k0_t16) a + S1x16.size a ≤ S200x128.size a := fun v30 v33 k0_hw7 k0_t2 k0_t16 => k0_hw7.1.2.2.2.2.2.2.2.2.2.2.2.2.2.2.2.1 k0_t2 k0_t16
theorem k0_off115_inb : ∀ (v30 : BitVec 32) (v33 : BitVec 32) (k0_hw7 : k0_chk7 v30 v33) (k0_t2 : Fin k0_t2_loop.trips) (k0_t16 : Fin (k0_t16_loop v30 v33 k0_t2).trips), ∀ a, (k0_off115 v30 v33 k0_t2 k0_t16) a + S1x16.size a ≤ S200x128.size a := fun v30 v33 k0_hw7 k0_t2 k0_t16 => k0_hw7.1.2.2.2.2.2.2.2.2.2.2.2.2.2.2.2.2.1 k0_t2 k0_t16
theorem k0_off116_inb : ∀ (v30 : BitVec 32) (v33 : BitVec 32) (k0_hw7 : k0_chk7 v30 v33) (k0_t2 : Fin k0_t2_loop.trips) (k0_t16 : Fin (k0_t16_loop v30 v33 k0_t2).trips), ∀ a, (k0_off116 v30 v33 k0_t2 k0_t16) a + S1x16.size a ≤ S200x128.size a := fun v30 v33 k0_hw7 k0_t2 k0_t16 => k0_hw7.1.2.2.2.2.2.2.2.2.2.2.2.2.2.2.2.2.2.1 k0_t2 k0_t16
theorem k0_t17_ok : ∀ (v30 : BitVec 32) (v33 : BitVec 32) (k0_hw7 : k0_chk7 v30 v33) (k0_t2 : Fin k0_t2_loop.trips), (k0_t17_loop v33 k0_t2).OK := fun v30 v33 k0_hw7 k0_t2 => k0_hw7.1.2.2.2.2.2.2.2.2.2.2.2.2.2.2.2.2.2.2.1 k0_t2
theorem k0_off117_inb : ∀ (v30 : BitVec 32) (v33 : BitVec 32) (k0_hw7 : k0_chk7 v30 v33) (k0_t2 : Fin k0_t2_loop.trips) (k0_t17 : Fin (k0_t17_loop v33 k0_t2).trips), ∀ a, (k0_off117 v33 k0_t2 k0_t17) a + S1x16.size a ≤ S200x128.size a := fun v30 v33 k0_hw7 k0_t2 k0_t17 => k0_hw7.1.2.2.2.2.2.2.2.2.2.2.2.2.2.2.2.2.2.2.2.1 k0_t2 k0_t17
theorem k0_off118_inb : ∀ (v30 : BitVec 32) (v33 : BitVec 32) (k0_hw7 : k0_chk7 v30 v33) (k0_t2 : Fin k0_t2_loop.trips) (k0_t17 : Fin (k0_t17_loop v33 k0_t2).trips), ∀ a, (k0_off118 v33 k0_t2 k0_t17) a + S1x16.size a ≤ S200x128.size a := fun v30 v33 k0_hw7 k0_t2 k0_t17 => k0_hw7.1.2.2.2.2.2.2.2.2.2.2.2.2.2.2.2.2.2.2.2.2.1 k0_t2 k0_t17
theorem k0_off119_inb : ∀ (v30 : BitVec 32) (v33 : BitVec 32) (k0_hw7 : k0_chk7 v30 v33) (k0_t2 : Fin k0_t2_loop.trips) (k0_t17 : Fin (k0_t17_loop v33 k0_t2).trips), ∀ a, (k0_off119 v33 k0_t2 k0_t17) a + S1x16.size a ≤ S200x128.size a := fun v30 v33 k0_hw7 k0_t2 k0_t17 => k0_hw7.1.2.2.2.2.2.2.2.2.2.2.2.2.2.2.2.2.2.2.2.2.2.1 k0_t2 k0_t17
theorem k0_off120_inb : ∀ (v30 : BitVec 32) (v33 : BitVec 32) (k0_hw7 : k0_chk7 v30 v33) (k0_t2 : Fin k0_t2_loop.trips) (k0_t17 : Fin (k0_t17_loop v33 k0_t2).trips), ∀ a, (k0_off120 v33 k0_t2 k0_t17) a + S1x16.size a ≤ S200x128.size a := fun v30 v33 k0_hw7 k0_t2 k0_t17 => k0_hw7.1.2.2.2.2.2.2.2.2.2.2.2.2.2.2.2.2.2.2.2.2.2.2.1 k0_t2 k0_t17
theorem k0_off121_inb : ∀ (v30 : BitVec 32) (v33 : BitVec 32) (k0_hw7 : k0_chk7 v30 v33) (k0_t2 : Fin k0_t2_loop.trips) (k0_t17 : Fin (k0_t17_loop v33 k0_t2).trips), ∀ a, (k0_off121 v33 k0_t2 k0_t17) a + S1x16.size a ≤ S200x128.size a := fun v30 v33 k0_hw7 k0_t2 k0_t17 => k0_hw7.1.2.2.2.2.2.2.2.2.2.2.2.2.2.2.2.2.2.2.2.2.2.2.2.1 k0_t2 k0_t17
theorem k0_off122_inb : ∀ (v30 : BitVec 32) (v33 : BitVec 32) (k0_hw7 : k0_chk7 v30 v33) (k0_t2 : Fin k0_t2_loop.trips) (k0_t17 : Fin (k0_t17_loop v33 k0_t2).trips), ∀ a, (k0_off122 v33 k0_t2 k0_t17) a + S1x16.size a ≤ S200x128.size a := fun v30 v33 k0_hw7 k0_t2 k0_t17 => k0_hw7.1.2.2.2.2.2.2.2.2.2.2.2.2.2.2.2.2.2.2.2.2.2.2.2.2.1 k0_t2 k0_t17
theorem k0_off123_inb : ∀ (v30 : BitVec 32) (v33 : BitVec 32) (k0_hw7 : k0_chk7 v30 v33) (k0_t2 : Fin k0_t2_loop.trips) (k0_t17 : Fin (k0_t17_loop v33 k0_t2).trips), ∀ a, (k0_off123 v33 k0_t2 k0_t17) a + S1x16.size a ≤ S200x128.size a := fun v30 v33 k0_hw7 k0_t2 k0_t17 => k0_hw7.1.2.2.2.2.2.2.2.2.2.2.2.2.2.2.2.2.2.2.2.2.2.2.2.2.2.1 k0_t2 k0_t17
theorem k0_off124_inb : ∀ (v30 : BitVec 32) (v33 : BitVec 32) (k0_hw7 : k0_chk7 v30 v33) (k0_t2 : Fin k0_t2_loop.trips) (k0_t17 : Fin (k0_t17_loop v33 k0_t2).trips), ∀ a, (k0_off124 v33 k0_t2 k0_t17) a + S1x16.size a ≤ S200x128.size a := fun v30 v33 k0_hw7 k0_t2 k0_t17 => k0_hw7.1.2.2.2.2.2.2.2.2.2.2.2.2.2.2.2.2.2.2.2.2.2.2.2.2.2.2.1 k0_t2 k0_t17
theorem k0_t18_ok : ∀ (v30 : BitVec 32) (v33 : BitVec 32) (k0_hw7 : k0_chk7 v30 v33) (k0_t2 : Fin k0_t2_loop.trips), (k0_t18_loop v33 k0_t2).OK := fun v30 v33 k0_hw7 k0_t2 => k0_hw7.1.2.2.2.2.2.2.2.2.2.2.2.2.2.2.2.2.2.2.2.2.2.2.2.2.2.2.2.1 k0_t2
theorem k0_off125_inb : ∀ (v30 : BitVec 32) (v33 : BitVec 32) (k0_hw7 : k0_chk7 v30 v33) (k0_t2 : Fin k0_t2_loop.trips) (k0_t18 : Fin (k0_t18_loop v33 k0_t2).trips), ∀ a, (k0_off125 v33 k0_t2 k0_t18) a + S1x16.size a ≤ S200x128.size a := fun v30 v33 k0_hw7 k0_t2 k0_t18 => k0_hw7.1.2.2.2.2.2.2.2.2.2.2.2.2.2.2.2.2.2.2.2.2.2.2.2.2.2.2.2.2.1 k0_t2 k0_t18
theorem k0_off126_inb : ∀ (v30 : BitVec 32) (v33 : BitVec 32) (k0_hw7 : k0_chk7 v30 v33) (k0_t2 : Fin k0_t2_loop.trips) (k0_t18 : Fin (k0_t18_loop v33 k0_t2).trips), ∀ a, (k0_off126 v33 k0_t2 k0_t18) a + S1x16.size a ≤ S200x128.size a := fun v30 v33 k0_hw7 k0_t2 k0_t18 => k0_hw7.1.2.2.2.2.2.2.2.2.2.2.2.2.2.2.2.2.2.2.2.2.2.2.2.2.2.2.2.2.2.1 k0_t2 k0_t18
theorem k0_off127_inb : ∀ (v30 : BitVec 32) (v33 : BitVec 32) (k0_hw7 : k0_chk7 v30 v33) (k0_t2 : Fin k0_t2_loop.trips) (k0_t18 : Fin (k0_t18_loop v33 k0_t2).trips), ∀ a, (k0_off127 v33 k0_t2 k0_t18) a + S1x16.size a ≤ S200x128.size a := fun v30 v33 k0_hw7 k0_t2 k0_t18 => k0_hw7.1.2.2.2.2.2.2.2.2.2.2.2.2.2.2.2.2.2.2.2.2.2.2.2.2.2.2.2.2.2.2.1 k0_t2 k0_t18
theorem k0_off128_inb : ∀ (v30 : BitVec 32) (v33 : BitVec 32) (k0_hw7 : k0_chk7 v30 v33) (k0_t2 : Fin k0_t2_loop.trips) (k0_t18 : Fin (k0_t18_loop v33 k0_t2).trips), ∀ a, (k0_off128 v33 k0_t2 k0_t18) a + S1x16.size a ≤ S200x128.size a := fun v30 v33 k0_hw7 k0_t2 k0_t18 => k0_hw7.1.2.2.2.2.2.2.2.2.2.2.2.2.2.2.2.2.2.2.2.2.2.2.2.2.2.2.2.2.2.2.2 k0_t2 k0_t18
theorem k0_off129_inb : ∀ (v30 : BitVec 32) (v33 : BitVec 32) (k0_hw7 : k0_chk7 v30 v33) (k0_t2 : Fin k0_t2_loop.trips) (k0_t18 : Fin (k0_t18_loop v33 k0_t2).trips), ∀ a, (k0_off129 v33 k0_t2 k0_t18) a + S1x16.size a ≤ S200x128.size a := fun v30 v33 k0_hw7 k0_t2 k0_t18 => k0_hw7.2.1.1 k0_t2 k0_t18
theorem k0_off130_inb : ∀ (v30 : BitVec 32) (v33 : BitVec 32) (k0_hw7 : k0_chk7 v30 v33) (k0_t2 : Fin k0_t2_loop.trips) (k0_t18 : Fin (k0_t18_loop v33 k0_t2).trips), ∀ a, (k0_off130 v33 k0_t2 k0_t18) a + S1x16.size a ≤ S200x128.size a := fun v30 v33 k0_hw7 k0_t2 k0_t18 => k0_hw7.2.1.2.1 k0_t2 k0_t18
theorem k0_off131_inb : ∀ (v30 : BitVec 32) (v33 : BitVec 32) (k0_hw7 : k0_chk7 v30 v33) (k0_t2 : Fin k0_t2_loop.trips) (k0_t18 : Fin (k0_t18_loop v33 k0_t2).trips), ∀ a, (k0_off131 v33 k0_t2 k0_t18) a + S1x16.size a ≤ S200x128.size a := fun v30 v33 k0_hw7 k0_t2 k0_t18 => k0_hw7.2.1.2.2.1 k0_t2 k0_t18
theorem k0_off132_inb : ∀ (v30 : BitVec 32) (v33 : BitVec 32) (k0_hw7 : k0_chk7 v30 v33) (k0_t2 : Fin k0_t2_loop.trips) (k0_t18 : Fin (k0_t18_loop v33 k0_t2).trips), ∀ a, (k0_off132 v33 k0_t2 k0_t18) a + S1x16.size a ≤ S200x128.size a := fun v30 v33 k0_hw7 k0_t2 k0_t18 => k0_hw7.2.1.2.2.2.1 k0_t2 k0_t18
theorem k0_t31_ok : ∀ (v30 : BitVec 32) (v33 : BitVec 32) (k0_hw7 : k0_chk7 v30 v33) (k0_t2 : Fin k0_t2_loop.trips), (k0_t31_loop v30 v33 k0_t2).OK := fun v30 v33 k0_hw7 k0_t2 => k0_hw7.2.1.2.2.2.2.1 k0_t2
theorem k0_off231_inb : ∀ (v30 : BitVec 32) (v33 : BitVec 32) (k0_hw7 : k0_chk7 v30 v33) (k0_t2 : Fin k0_t2_loop.trips) (k0_t31 : Fin (k0_t31_loop v30 v33 k0_t2).trips), ∀ a, (k0_off231 v30 v33 k0_t2 k0_t31) a + S1x16.size a ≤ S200x128.size a := fun v30 v33 k0_hw7 k0_t2 k0_t31 => k0_hw7.2.1.2.2.2.2.2.1 k0_t2 k0_t31
theorem k0_off232_inb : ∀ (v30 : BitVec 32) (v33 : BitVec 32) (k0_hw7 : k0_chk7 v30 v33) (k0_t2 : Fin k0_t2_loop.trips) (k0_t31 : Fin (k0_t31_loop v30 v33 k0_t2).trips), ∀ a, (k0_off232 v30 v33 k0_t2 k0_t31) a + S1x16.size a ≤ S200x128.size a := fun v30 v33 k0_hw7 k0_t2 k0_t31 => k0_hw7.2.1.2.2.2.2.2.2.1 k0_t2 k0_t31
theorem k0_off233_inb : ∀ (v30 : BitVec 32) (v33 : BitVec 32) (k0_hw7 : k0_chk7 v30 v33) (k0_t2 : Fin k0_t2_loop.trips) (k0_t31 : Fin (k0_t31_loop v30 v33 k0_t2).trips), ∀ a, (k0_off233 v30 v33 k0_t2 k0_t31) a + S1x16.size a ≤ S200x128.size a := fun v30 v33 k0_hw7 k0_t2 k0_t31 => k0_hw7.2.1.2.2.2.2.2.2.2.1 k0_t2 k0_t31
theorem k0_off234_inb : ∀ (v30 : BitVec 32) (v33 : BitVec 32) (k0_hw7 : k0_chk7 v30 v33) (k0_t2 : Fin k0_t2_loop.trips) (k0_t31 : Fin (k0_t31_loop v30 v33 k0_t2).trips), ∀ a, (k0_off234 v30 v33 k0_t2 k0_t31) a + S1x16.size a ≤ S200x128.size a := fun v30 v33 k0_hw7 k0_t2 k0_t31 => k0_hw7.2.1.2.2.2.2.2.2.2.2.1 k0_t2 k0_t31
theorem k0_off235_inb : ∀ (v30 : BitVec 32) (v33 : BitVec 32) (k0_hw7 : k0_chk7 v30 v33) (k0_t2 : Fin k0_t2_loop.trips) (k0_t31 : Fin (k0_t31_loop v30 v33 k0_t2).trips), ∀ a, (k0_off235 v30 v33 k0_t2 k0_t31) a + S1x16.size a ≤ S200x128.size a := fun v30 v33 k0_hw7 k0_t2 k0_t31 => k0_hw7.2.1.2.2.2.2.2.2.2.2.2.1 k0_t2 k0_t31
theorem k0_off236_inb : ∀ (v30 : BitVec 32) (v33 : BitVec 32) (k0_hw7 : k0_chk7 v30 v33) (k0_t2 : Fin k0_t2_loop.trips) (k0_t31 : Fin (k0_t31_loop v30 v33 k0_t2).trips), ∀ a, (k0_off236 v30 v33 k0_t2 k0_t31) a + S1x16.size a ≤ S200x128.size a := fun v30 v33 k0_hw7 k0_t2 k0_t31 => k0_hw7.2.1.2.2.2.2.2.2.2.2.2.2.1 k0_t2 k0_t31
theorem k0_off237_inb : ∀ (v30 : BitVec 32) (v33 : BitVec 32) (k0_hw7 : k0_chk7 v30 v33) (k0_t2 : Fin k0_t2_loop.trips) (k0_t31 : Fin (k0_t31_loop v30 v33 k0_t2).trips), ∀ a, (k0_off237 v30 v33 k0_t2 k0_t31) a + S1x16.size a ≤ S200x128.size a := fun v30 v33 k0_hw7 k0_t2 k0_t31 => k0_hw7.2.1.2.2.2.2.2.2.2.2.2.2.2.1 k0_t2 k0_t31
theorem k0_off238_inb : ∀ (v30 : BitVec 32) (v33 : BitVec 32) (k0_hw7 : k0_chk7 v30 v33) (k0_t2 : Fin k0_t2_loop.trips) (k0_t31 : Fin (k0_t31_loop v30 v33 k0_t2).trips), ∀ a, (k0_off238 v30 v33 k0_t2 k0_t31) a + S1x16.size a ≤ S200x128.size a := fun v30 v33 k0_hw7 k0_t2 k0_t31 => k0_hw7.2.1.2.2.2.2.2.2.2.2.2.2.2.2.1 k0_t2 k0_t31
theorem k0_t32_ok : ∀ (v30 : BitVec 32) (v33 : BitVec 32) (k0_hw7 : k0_chk7 v30 v33) (k0_t2 : Fin k0_t2_loop.trips), (k0_t32_loop v30 v33 k0_t2).OK := fun v30 v33 k0_hw7 k0_t2 => k0_hw7.2.1.2.2.2.2.2.2.2.2.2.2.2.2.2.1 k0_t2
theorem k0_off239_inb : ∀ (v30 : BitVec 32) (v33 : BitVec 32) (k0_hw7 : k0_chk7 v30 v33) (k0_t2 : Fin k0_t2_loop.trips) (k0_t32 : Fin (k0_t32_loop v30 v33 k0_t2).trips), ∀ a, (k0_off239 v30 v33 k0_t2 k0_t32) a + S1x16.size a ≤ S200x128.size a := fun v30 v33 k0_hw7 k0_t2 k0_t32 => k0_hw7.2.1.2.2.2.2.2.2.2.2.2.2.2.2.2.2.1 k0_t2 k0_t32
theorem k0_off240_inb : ∀ (v30 : BitVec 32) (v33 : BitVec 32) (k0_hw7 : k0_chk7 v30 v33) (k0_t2 : Fin k0_t2_loop.trips) (k0_t32 : Fin (k0_t32_loop v30 v33 k0_t2).trips), ∀ a, (k0_off240 v30 v33 k0_t2 k0_t32) a + S1x16.size a ≤ S200x128.size a := fun v30 v33 k0_hw7 k0_t2 k0_t32 => k0_hw7.2.1.2.2.2.2.2.2.2.2.2.2.2.2.2.2.2.1 k0_t2 k0_t32
theorem k0_off241_inb : ∀ (v30 : BitVec 32) (v33 : BitVec 32) (k0_hw7 : k0_chk7 v30 v33) (k0_t2 : Fin k0_t2_loop.trips) (k0_t32 : Fin (k0_t32_loop v30 v33 k0_t2).trips), ∀ a, (k0_off241 v30 v33 k0_t2 k0_t32) a + S1x16.size a ≤ S200x128.size a := fun v30 v33 k0_hw7 k0_t2 k0_t32 => k0_hw7.2.1.2.2.2.2.2.2.2.2.2.2.2.2.2.2.2.2.1 k0_t2 k0_t32
theorem k0_off242_inb : ∀ (v30 : BitVec 32) (v33 : BitVec 32) (k0_hw7 : k0_chk7 v30 v33) (k0_t2 : Fin k0_t2_loop.trips) (k0_t32 : Fin (k0_t32_loop v30 v33 k0_t2).trips), ∀ a, (k0_off242 v30 v33 k0_t2 k0_t32) a + S1x16.size a ≤ S200x128.size a := fun v30 v33 k0_hw7 k0_t2 k0_t32 => k0_hw7.2.1.2.2.2.2.2.2.2.2.2.2.2.2.2.2.2.2.2.1 k0_t2 k0_t32
theorem k0_off243_inb : ∀ (v30 : BitVec 32) (v33 : BitVec 32) (k0_hw7 : k0_chk7 v30 v33) (k0_t2 : Fin k0_t2_loop.trips) (k0_t32 : Fin (k0_t32_loop v30 v33 k0_t2).trips), ∀ a, (k0_off243 v30 v33 k0_t2 k0_t32) a + S1x16.size a ≤ S200x128.size a := fun v30 v33 k0_hw7 k0_t2 k0_t32 => k0_hw7.2.1.2.2.2.2.2.2.2.2.2.2.2.2.2.2.2.2.2.2.1 k0_t2 k0_t32
theorem k0_off244_inb : ∀ (v30 : BitVec 32) (v33 : BitVec 32) (k0_hw7 : k0_chk7 v30 v33) (k0_t2 : Fin k0_t2_loop.trips) (k0_t32 : Fin (k0_t32_loop v30 v33 k0_t2).trips), ∀ a, (k0_off244 v30 v33 k0_t2 k0_t32) a + S1x16.size a ≤ S200x128.size a := fun v30 v33 k0_hw7 k0_t2 k0_t32 => k0_hw7.2.1.2.2.2.2.2.2.2.2.2.2.2.2.2.2.2.2.2.2.2.1 k0_t2 k0_t32
theorem k0_off245_inb : ∀ (v30 : BitVec 32) (v33 : BitVec 32) (k0_hw7 : k0_chk7 v30 v33) (k0_t2 : Fin k0_t2_loop.trips) (k0_t32 : Fin (k0_t32_loop v30 v33 k0_t2).trips), ∀ a, (k0_off245 v30 v33 k0_t2 k0_t32) a + S1x16.size a ≤ S200x128.size a := fun v30 v33 k0_hw7 k0_t2 k0_t32 => k0_hw7.2.1.2.2.2.2.2.2.2.2.2.2.2.2.2.2.2.2.2.2.2.2.1 k0_t2 k0_t32
theorem k0_off246_inb : ∀ (v30 : BitVec 32) (v33 : BitVec 32) (k0_hw7 : k0_chk7 v30 v33) (k0_t2 : Fin k0_t2_loop.trips) (k0_t32 : Fin (k0_t32_loop v30 v33 k0_t2).trips), ∀ a, (k0_off246 v30 v33 k0_t2 k0_t32) a + S1x16.size a ≤ S200x128.size a := fun v30 v33 k0_hw7 k0_t2 k0_t32 => k0_hw7.2.1.2.2.2.2.2.2.2.2.2.2.2.2.2.2.2.2.2.2.2.2.2.1 k0_t2 k0_t32
theorem k0_t33_ok : ∀ (v30 : BitVec 32) (v33 : BitVec 32) (k0_hw7 : k0_chk7 v30 v33) (k0_t2 : Fin k0_t2_loop.trips), (k0_t33_loop v33 k0_t2).OK := fun v30 v33 k0_hw7 k0_t2 => k0_hw7.2.1.2.2.2.2.2.2.2.2.2.2.2.2.2.2.2.2.2.2.2.2.2.2.1 k0_t2
theorem k0_off247_inb : ∀ (v30 : BitVec 32) (v33 : BitVec 32) (k0_hw7 : k0_chk7 v30 v33) (k0_t2 : Fin k0_t2_loop.trips) (k0_t33 : Fin (k0_t33_loop v33 k0_t2).trips), ∀ a, (k0_off247 v33 k0_t2 k0_t33) a + S1x16.size a ≤ S200x128.size a := fun v30 v33 k0_hw7 k0_t2 k0_t33 => k0_hw7.2.1.2.2.2.2.2.2.2.2.2.2.2.2.2.2.2.2.2.2.2.2.2.2.2.1 k0_t2 k0_t33
theorem k0_off248_inb : ∀ (v30 : BitVec 32) (v33 : BitVec 32) (k0_hw7 : k0_chk7 v30 v33) (k0_t2 : Fin k0_t2_loop.trips) (k0_t33 : Fin (k0_t33_loop v33 k0_t2).trips), ∀ a, (k0_off248 v33 k0_t2 k0_t33) a + S1x16.size a ≤ S200x128.size a := fun v30 v33 k0_hw7 k0_t2 k0_t33 => k0_hw7.2.1.2.2.2.2.2.2.2.2.2.2.2.2.2.2.2.2.2.2.2.2.2.2.2.2.1 k0_t2 k0_t33
theorem k0_off249_inb : ∀ (v30 : BitVec 32) (v33 : BitVec 32) (k0_hw7 : k0_chk7 v30 v33) (k0_t2 : Fin k0_t2_loop.trips) (k0_t33 : Fin (k0_t33_loop v33 k0_t2).trips), ∀ a, (k0_off249 v33 k0_t2 k0_t33) a + S1x16.size a ≤ S200x128.size a := fun v30 v33 k0_hw7 k0_t2 k0_t33 => k0_hw7.2.1.2.2.2.2.2.2.2.2.2.2.2.2.2.2.2.2.2.2.2.2.2.2.2.2.2.1 k0_t2 k0_t33
theorem k0_off250_inb : ∀ (v30 : BitVec 32) (v33 : BitVec 32) (k0_hw7 : k0_chk7 v30 v33) (k0_t2 : Fin k0_t2_loop.trips) (k0_t33 : Fin (k0_t33_loop v33 k0_t2).trips), ∀ a, (k0_off250 v33 k0_t2 k0_t33) a + S1x16.size a ≤ S200x128.size a := fun v30 v33 k0_hw7 k0_t2 k0_t33 => k0_hw7.2.1.2.2.2.2.2.2.2.2.2.2.2.2.2.2.2.2.2.2.2.2.2.2.2.2.2.2.1 k0_t2 k0_t33
theorem k0_off251_inb : ∀ (v30 : BitVec 32) (v33 : BitVec 32) (k0_hw7 : k0_chk7 v30 v33) (k0_t2 : Fin k0_t2_loop.trips) (k0_t33 : Fin (k0_t33_loop v33 k0_t2).trips), ∀ a, (k0_off251 v33 k0_t2 k0_t33) a + S1x16.size a ≤ S200x128.size a := fun v30 v33 k0_hw7 k0_t2 k0_t33 => k0_hw7.2.1.2.2.2.2.2.2.2.2.2.2.2.2.2.2.2.2.2.2.2.2.2.2.2.2.2.2.2.1 k0_t2 k0_t33
theorem k0_off252_inb : ∀ (v30 : BitVec 32) (v33 : BitVec 32) (k0_hw7 : k0_chk7 v30 v33) (k0_t2 : Fin k0_t2_loop.trips) (k0_t33 : Fin (k0_t33_loop v33 k0_t2).trips), ∀ a, (k0_off252 v33 k0_t2 k0_t33) a + S1x16.size a ≤ S200x128.size a := fun v30 v33 k0_hw7 k0_t2 k0_t33 => k0_hw7.2.1.2.2.2.2.2.2.2.2.2.2.2.2.2.2.2.2.2.2.2.2.2.2.2.2.2.2.2.2.1 k0_t2 k0_t33
theorem k0_off253_inb : ∀ (v30 : BitVec 32) (v33 : BitVec 32) (k0_hw7 : k0_chk7 v30 v33) (k0_t2 : Fin k0_t2_loop.trips) (k0_t33 : Fin (k0_t33_loop v33 k0_t2).trips), ∀ a, (k0_off253 v33 k0_t2 k0_t33) a + S1x16.size a ≤ S200x128.size a := fun v30 v33 k0_hw7 k0_t2 k0_t33 => k0_hw7.2.1.2.2.2.2.2.2.2.2.2.2.2.2.2.2.2.2.2.2.2.2.2.2.2.2.2.2.2.2.2.1 k0_t2 k0_t33
theorem k0_off254_inb : ∀ (v30 : BitVec 32) (v33 : BitVec 32) (k0_hw7 : k0_chk7 v30 v33) (k0_t2 : Fin k0_t2_loop.trips) (k0_t33 : Fin (k0_t33_loop v33 k0_t2).trips), ∀ a, (k0_off254 v33 k0_t2 k0_t33) a + S1x16.size a ≤ S200x128.size a := fun v30 v33 k0_hw7 k0_t2 k0_t33 => k0_hw7.2.1.2.2.2.2.2.2.2.2.2.2.2.2.2.2.2.2.2.2.2.2.2.2.2.2.2.2.2.2.2.2.1 k0_t2 k0_t33
theorem k0_t34_ok : ∀ (v30 : BitVec 32) (v33 : BitVec 32) (k0_hw7 : k0_chk7 v30 v33) (k0_t2 : Fin k0_t2_loop.trips), (k0_t34_loop v33 k0_t2).OK := fun v30 v33 k0_hw7 k0_t2 => k0_hw7.2.1.2.2.2.2.2.2.2.2.2.2.2.2.2.2.2.2.2.2.2.2.2.2.2.2.2.2.2.2.2.2.2 k0_t2
theorem k0_off255_inb : ∀ (v30 : BitVec 32) (v33 : BitVec 32) (k0_hw7 : k0_chk7 v30 v33) (k0_t2 : Fin k0_t2_loop.trips) (k0_t34 : Fin (k0_t34_loop v33 k0_t2).trips), ∀ a, (k0_off255 v33 k0_t2 k0_t34) a + S1x16.size a ≤ S200x128.size a := fun v30 v33 k0_hw7 k0_t2 k0_t34 => k0_hw7.2.2.1 k0_t2 k0_t34
theorem k0_off256_inb : ∀ (v30 : BitVec 32) (v33 : BitVec 32) (k0_hw7 : k0_chk7 v30 v33) (k0_t2 : Fin k0_t2_loop.trips) (k0_t34 : Fin (k0_t34_loop v33 k0_t2).trips), ∀ a, (k0_off256 v33 k0_t2 k0_t34) a + S1x16.size a ≤ S200x128.size a := fun v30 v33 k0_hw7 k0_t2 k0_t34 => k0_hw7.2.2.2.1 k0_t2 k0_t34
theorem k0_off257_inb : ∀ (v30 : BitVec 32) (v33 : BitVec 32) (k0_hw7 : k0_chk7 v30 v33) (k0_t2 : Fin k0_t2_loop.trips) (k0_t34 : Fin (k0_t34_loop v33 k0_t2).trips), ∀ a, (k0_off257 v33 k0_t2 k0_t34) a + S1x16.size a ≤ S200x128.size a := fun v30 v33 k0_hw7 k0_t2 k0_t34 => k0_hw7.2.2.2.2.1 k0_t2 k0_t34
theorem k0_off258_inb : ∀ (v30 : BitVec 32) (v33 : BitVec 32) (k0_hw7 : k0_chk7 v30 v33) (k0_t2 : Fin k0_t2_loop.trips) (k0_t34 : Fin (k0_t34_loop v33 k0_t2).trips), ∀ a, (k0_off258 v33 k0_t2 k0_t34) a + S1x16.size a ≤ S200x128.size a := fun v30 v33 k0_hw7 k0_t2 k0_t34 => k0_hw7.2.2.2.2.2.1 k0_t2 k0_t34
theorem k0_off259_inb : ∀ (v30 : BitVec 32) (v33 : BitVec 32) (k0_hw7 : k0_chk7 v30 v33) (k0_t2 : Fin k0_t2_loop.trips) (k0_t34 : Fin (k0_t34_loop v33 k0_t2).trips), ∀ a, (k0_off259 v33 k0_t2 k0_t34) a + S1x16.size a ≤ S200x128.size a := fun v30 v33 k0_hw7 k0_t2 k0_t34 => k0_hw7.2.2.2.2.2.2.1 k0_t2 k0_t34
theorem k0_off260_inb : ∀ (v30 : BitVec 32) (v33 : BitVec 32) (k0_hw7 : k0_chk7 v30 v33) (k0_t2 : Fin k0_t2_loop.trips) (k0_t34 : Fin (k0_t34_loop v33 k0_t2).trips), ∀ a, (k0_off260 v33 k0_t2 k0_t34) a + S1x16.size a ≤ S200x128.size a := fun v30 v33 k0_hw7 k0_t2 k0_t34 => k0_hw7.2.2.2.2.2.2.2.1 k0_t2 k0_t34
theorem k0_off261_inb : ∀ (v30 : BitVec 32) (v33 : BitVec 32) (k0_hw7 : k0_chk7 v30 v33) (k0_t2 : Fin k0_t2_loop.trips) (k0_t34 : Fin (k0_t34_loop v33 k0_t2).trips), ∀ a, (k0_off261 v33 k0_t2 k0_t34) a + S1x16.size a ≤ S200x128.size a := fun v30 v33 k0_hw7 k0_t2 k0_t34 => k0_hw7.2.2.2.2.2.2.2.2.1 k0_t2 k0_t34
theorem k0_off262_inb : ∀ (v30 : BitVec 32) (v33 : BitVec 32) (k0_hw7 : k0_chk7 v30 v33) (k0_t2 : Fin k0_t2_loop.trips) (k0_t34 : Fin (k0_t34_loop v33 k0_t2).trips), ∀ a, (k0_off262 v33 k0_t2 k0_t34) a + S1x16.size a ≤ S200x128.size a := fun v30 v33 k0_hw7 k0_t2 k0_t34 => k0_hw7.2.2.2.2.2.2.2.2.2 k0_t2 k0_t34

def k0_cond18 (k0_t2 : Fin k0_t2_loop.trips) : BitVec 1 :=
  let c0_i32_275 : BitVec 32 := 0#32
  let c1_i32_276 : BitVec 32 := 1#32
  let arg14 : BitVec 32 := Scf.iv c0_i32_275 c1_i32_276 k0_t2
  let c13_i32_444 : BitVec 32 := 13#32
  let v625 : BitVec 1 := Scalar.cmpi .slt arg14 c13_i32_444
  let v626 : BitVec 32 := Scalar.extui v625
  let c0_i32_445 : BitVec 32 := 0#32
  let v627 : BitVec 1 := Scalar.cmpi .ne v626 c0_i32_445
  v627

def k0_mult5 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5600_i32 : BitVec 32 := 5600#32
  let v2 : BitVec 32 := Scalar.muli v1 c5600_i32
  let v3 : BitVec 32 := v2
  let c2_i32_447 : BitVec 32 := 2#32
  let c0_i32_275 : BitVec 32 := 0#32
  let c1_i32_276 : BitVec 32 := 1#32
  let arg14 : BitVec 32 := Scf.iv c0_i32_275 c1_i32_276 k0_t2
  let v628 : BitVec 32 := Scalar.muli c2_i32_447 arg14
  let c3_i32_448 : BitVec 32 := 3#32
  let v629 : BitVec 32 := Scalar.addi v628 c3_i32_448
  let c200_i32_449 : BitVec 32 := 200#32
  let v630 : BitVec 32 := Scalar.muli v629 c200_i32_449
  let v631 : BitVec 32 := Scalar.addi v3 v630
  v631
def k0_off263 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5600_i32 : BitVec 32 := 5600#32
  let v2 : BitVec 32 := Scalar.muli v1 c5600_i32
  let v3 : BitVec 32 := v2
  let c2_i32_447 : BitVec 32 := 2#32
  let c0_i32_275 : BitVec 32 := 0#32
  let c1_i32_276 : BitVec 32 := 1#32
  let arg14 : BitVec 32 := Scf.iv c0_i32_275 c1_i32_276 k0_t2
  let v628 : BitVec 32 := Scalar.muli c2_i32_447 arg14
  let c3_i32_448 : BitVec 32 := 3#32
  let v629 : BitVec 32 := Scalar.addi v628 c3_i32_448
  let c200_i32_449 : BitVec 32 := 200#32
  let v630 : BitVec 32 := Scalar.muli v629 c200_i32_449
  let v631 : BitVec 32 := Scalar.addi v3 v630
  let v632 : BitVec 32 := v631
  let c0_i32_453 : BitVec 32 := 0#32
  ![v632.toNat, 0]
def k0_off264 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_296_r1 : BitVec 32 := 0#32
  let c0_i32_297_r1 : BitVec 32 := 0#32
  ![v1.toNat, 0, 0]
def k0_off265 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_296_r3 : BitVec 32 := 0#32
  let c0_i32_297_r3 : BitVec 32 := 0#32
  ![v1.toNat, 0, 0]
abbrev grid1 : Pipeline.Grid := ⟨1, ![44], ![false]⟩

def k1_cond2 (i : grid1.Coords) : BitVec 1 :=
  let arg0 : BitVec 32 := BitVec.ofNat 32 (i 0).val
  let c43_i32 : BitVec 32 := 43#32
  let v34 : BitVec 1 := Scalar.cmpi .eq arg0 c43_i32
  let v35 : BitVec 32 := Scalar.extui v34
  let c0_i32_19 : BitVec 32 := 0#32
  let v36 : BitVec 1 := Scalar.cmpi .ne v35 c0_i32_19
  v36

def cc1_transform_0 (i : grid1.Coords) : Fin 3 → Nat :=
  let arg0 : BitVec 32 := BitVec.ofNat 32 (i 0).val
  let c56_i32 : BitVec 32 := 56#32
  let v0 : BitVec 32 := Scalar.addi c56_i32 arg0
  let c0_i32 : BitVec 32 := 0#32
  let c0_i32_0 : BitVec 32 := 0#32
  let c0_i32_1 : BitVec 32 := 0#32
  ![v0.toNat, c0_i32.toNat, c0_i32_0.toNat]

def cc1_transform_1 (i : grid1.Coords) : Fin 2 → Nat :=
  let arg0 : BitVec 32 := BitVec.ofNat 32 (i 0).val
  let c56_i32 : BitVec 32 := 56#32
  let v0 : BitVec 32 := Scalar.addi c56_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1x3200 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1x1x20000 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S20000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x8x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x8x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x8x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S8x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S8x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S8x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S20000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S320000x128 : Shape := ⟨2, ![320000, 128]⟩
abbrev S320000 : Shape := ⟨1, ![320000]⟩
abbrev S_ : Shape := ⟨0, ![]⟩
abbrev S8 : Shape := ⟨1, ![8]⟩
abbrev S320000x1 : Shape := ⟨2, ![320000, 1]⟩
abbrev S8x128 : Shape := ⟨2, ![8, 128]⟩
abbrev S8x1 : Shape := ⟨2, ![8, 1]⟩
abbrev S1 : Shape := ⟨1, ![1]⟩
abbrev S1x1 : Shape := ⟨2, ![1, 1]⟩

abbrev nBuf : Space → Nat
  | .hbm => 84
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S_, .f32⟩
  | .hbm, ⟨3, _⟩ => ⟨S320000, .f32⟩
  | .hbm, ⟨4, _⟩ => ⟨S_, .f32⟩
  | .hbm, ⟨5, _⟩ => ⟨S8, .f32⟩
  | .hbm, ⟨6, _⟩ => ⟨S320000x1, .i32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8x128, .f32⟩
  | .hbm, ⟨13, _⟩ => ⟨S320000x1, .i32⟩
  | .hbm, ⟨14, _⟩ => ⟨S8x128, .f32⟩
  | .hbm, ⟨15, _⟩ => ⟨S8x1, .f32⟩
  | .hbm, ⟨16, _⟩ => ⟨S8x128, .f32⟩
  | .hbm, ⟨17, _⟩ => ⟨S8x128, .f32⟩
  | .hbm, ⟨18, _⟩ => ⟨S320000x128, .f32⟩
  | .hbm, ⟨19, _⟩ => ⟨S_, .f32⟩
  | .hbm, ⟨20, _⟩ => ⟨S8x128, .f32⟩
  | .hbm, ⟨21, _⟩ => ⟨S320000x1, .i32⟩
  | .hbm, ⟨22, _⟩ => ⟨S8x128, .f32⟩
  | .hbm, ⟨23, _⟩ => ⟨S8x1, .f32⟩
  | .hbm, ⟨24, _⟩ => ⟨S8x128, .f32⟩
  | .hbm, ⟨25, _⟩ => ⟨S8x128, .f32⟩
  | .hbm, ⟨26, _⟩ => ⟨S8x128, .f32⟩
  | .hbm, ⟨27, _⟩ => ⟨S8x128, .f32⟩
  | .hbm, ⟨28, _⟩ => ⟨S_, .f32⟩
  | .hbm, ⟨29, _⟩ => ⟨S_, .f32⟩
  | .hbm, ⟨30, _⟩ => ⟨S8x128, .f32⟩
  | .hbm, ⟨31, _⟩ => ⟨S8x128, .f32⟩
  | .hbm, ⟨32, _⟩ => ⟨S_, .f32⟩
  | .hbm, ⟨33, _⟩ => ⟨S8x128, .f32⟩
  | .hbm, ⟨34, _⟩ => ⟨S8x128, .f32⟩
  | .hbm, ⟨35, _⟩ => ⟨S8x128, .f32⟩
  | .hbm, ⟨36, _⟩ => ⟨S_, .i32⟩
  | .hbm, ⟨37, _⟩ => ⟨S320000, .i32⟩
  | .hbm, ⟨38, _⟩ => ⟨S320000, .i1⟩
  | .hbm, ⟨39, _⟩ => ⟨S_, .i32⟩
  | .hbm, ⟨40, _⟩ => ⟨S320000, .i32⟩
  | .hbm, ⟨41, _⟩ => ⟨S320000, .i32⟩
  | .hbm, ⟨42, _⟩ => ⟨S320000, .i32⟩
  | .hbm, ⟨43, _⟩ => ⟨S320000x1, .i32⟩
  | .hbm, ⟨44, _⟩ => ⟨S1, .i32⟩
  | .hbm, ⟨45, _⟩ => ⟨S_, .i32⟩
  | .hbm, ⟨46, _⟩ => ⟨S320000x1, .i32⟩
  | .hbm, ⟨47, _⟩ => ⟨S320000x1, .i1⟩
  | .hbm, ⟨48, _⟩ => ⟨S1x1, .i32⟩
  | .hbm, ⟨49, _⟩ => ⟨S320000x1, .i32⟩
  | .hbm, ⟨50, _⟩ => ⟨S320000x1, .i1⟩
  | .hbm, ⟨51, _⟩ => ⟨S320000x1, .i1⟩
  | .hbm, ⟨52, _⟩ => ⟨S_, .i1⟩
  | .hbm, ⟨53, _⟩ => ⟨S320000, .i1⟩
  | .hbm, ⟨54, _⟩ => ⟨S320000x128, .f32⟩
  | .hbm, ⟨55, _⟩ => ⟨S320000x128, .i1⟩
  | .hbm, ⟨56, _⟩ => ⟨S_, .f32⟩
  | .hbm, ⟨57, _⟩ => ⟨S320000x128, .f32⟩
  | .hbm, ⟨58, _⟩ => ⟨S320000x128, .f32⟩
  | .hbm, ⟨59, _⟩ => ⟨S320000x128, .f32⟩
  | .hbm, ⟨60, _⟩ => ⟨S_, .i32⟩
  | .hbm, ⟨61, _⟩ => ⟨S320000, .i32⟩
  | .hbm, ⟨62, _⟩ => ⟨S320000, .i1⟩
  | .hbm, ⟨63, _⟩ => ⟨S_, .i32⟩
  | .hbm, ⟨64, _⟩ => ⟨S320000, .i32⟩
  | .hbm, ⟨65, _⟩ => ⟨S320000, .i32⟩
  | .hbm, ⟨66, _⟩ => ⟨S320000, .i32⟩
  | .hbm, ⟨67, _⟩ => ⟨S320000x1, .i32⟩
  | .hbm, ⟨68, _⟩ => ⟨S1, .i32⟩
  | .hbm, ⟨69, _⟩ => ⟨S_, .i32⟩
  | .hbm, ⟨70, _⟩ => ⟨S320000x1, .i32⟩
  | .hbm, ⟨71, _⟩ => ⟨S320000x1, .i1⟩
  | .hbm, ⟨72, _⟩ => ⟨S1x1, .i32⟩
  | .hbm, ⟨73, _⟩ => ⟨S320000x1, .i32⟩
  | .hbm, ⟨74, _⟩ => ⟨S320000x1, .i1⟩
  | .hbm, ⟨75, _⟩ => ⟨S320000x1, .i1⟩
  | .hbm, ⟨76, _⟩ => ⟨S_, .i1⟩
  | .hbm, ⟨77, _⟩ => ⟨S320000, .i1⟩
  | .hbm, ⟨78, _⟩ => ⟨S320000x128, .f32⟩
  | .hbm, ⟨79, _⟩ => ⟨S320000x128, .i1⟩
  | .hbm, ⟨80, _⟩ => ⟨S_, .f32⟩
  | .hbm, ⟨81, _⟩ => ⟨S320000x128, .f32⟩
  | .hbm, ⟨82, _⟩ => ⟨S320000x128, .f32⟩
  | .hbm, ⟨83, _⟩ => ⟨S320000x128, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v25 : Ref sig .tc := ⟨.hbm, 58, rfl⟩
abbrev main_v26 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v27 : Ref sig .tc := ⟨.hbm, 82, rfl⟩
abbrev main_v28 : Ref sig .tc := ⟨.hbm, 83, rfl⟩

abbrev nD : Nat := 1
abbrev τ : Topo := Topo.v7x

variable {F : FTy → Type} [FloatOps F]
-- ==== Proof.Base.lean ====
/-
  The setting of the proof: the program's configuration, the resource algebra (the SparseCore handshakes' rounds, the
  TensorCore pipelines' rounds, the counters of local transfers), and the buffers by name.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Writes
public import Idealize.ShloMosaic.Lib.Tactic
public import proofs.«01_k».proof.Proof.Gen.KernelIdeal

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := UR sig nD τ
abbrev UU : Type := UH × (UP × Counters)

abbrev 𝕄 (F : FTy → Type) := MT nD τ sig (HIx 1) (Elt F) ℕ UU ℕ

abbrev EH : Emb UH (𝕄 F) := embL

abbrev cV (L : grid0.Coords) : Fin τ.nSC := (L 0).castLE hcore0
abbrev jV (L : grid0.Coords) : Fin τ.nSub := (L 1).castLE hsub0

/-- The vector subcore running the task at grid coordinates `L`. -/
abbrev tileThr (d : Dev nD) (L : grid0.Coords) : Thread nD τ := V d (cV L) (jV L)

end Cert.Proof

end
-- ==== Proof.Rows.lean ====
module

public import proofs.«01_k».proof.Proof.Base
public import Idealize.ShloMosaic.Lib.LoopRemainder
public import Idealize.ShloMosaic.Lib.Pipeline.Value
public import Idealize.ShloMosaic.Lib.WritesUnit

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

abbrev L16 (F : FTy → Type) : Type := FVec F S16 .f32
abbrev Acc (F : FTy → Type) : Type := L16 F × L16 F × L16 F × L16 F × L16 F × L16 F × L16 F × L16 F × L16 F × L16 F × L16 F × L16 F × L16 F × L16 F × L16 F × L16 F

abbrev TileProg (F : FTy → Type) (L : grid0.Coords) (α : Type) := Prog (TpuEff nD τ sig (Elt F) Λ₀ (.scVector (cV L) (jV L))) α

/-- Lane group `j` of the row an index names. -/
abbrev rowOff (r : BitVec 32) (j : ℕ) : Fin 2 → ℕ := ![(Scalar.indexCast r).toNat, j]

theorem rowOff_inb {r : BitVec 32} (hr : (Scalar.indexCast r).toNat + 1 ≤ 200) (j : ℕ) (hj : j + 16 ≤ 128) :
    ∀ a, rowOff r j a + S1x16.size a ≤ S200x128.size a
  | 0 => hr
  | 1 => hj

/-- The load of one lane group of a row of a chunk. -/
def ldRow (L : grid0.Coords) (v : Memref sig .scVector .vmem S200x128 .f32) (r : BitVec 32) (hr : (Scalar.indexCast r).toNat + 1 ≤ 200)
    (j : ℕ) (hj : j + 16 ≤ 128) : TileProg F L (Vec F S1x16 .f32) :=
  Prog.lift (.load v (Rect.unit (s := S200x128) (rowOff r j) S1x16.size (rowOff_inb hr j hj)).toLoadRect (View.loadsAt_vmem h_S1x16))

abbrev c16 (x : Vec F S1x16 .f32) : L16 F := shapeCast S16 x shapeCasts_S1x16_S16

/-- One row of a chunk added into the eight lane groups of sums and the eight of squares. -/
def rowBody (L : grid0.Coords) (v : Memref sig .scVector .vmem S200x128 .f32) (r : BitVec 32) (hr : (Scalar.indexCast r).toNat + 1 ≤ 200) :
    Acc F → TileProg F L (Acc F) := fun (a0, a1, a2, a3, a4, a5, a6, a7, b0, b1, b2, b3, b4, b5, b6, b7) => do
  let x0 ← ldRow L v r hr 0 (by decide)
  let x1 ← ldRow L v r hr 16 (by decide)
  let x2 ← ldRow L v r hr 32 (by decide)
  let x3 ← ldRow L v r hr 48 (by decide)
  let x4 ← ldRow L v r hr 64 (by decide)
  let x5 ← ldRow L v r hr 80 (by decide)
  let x6 ← ldRow L v r hr 96 (by decide)
  let x7 ← ldRow L v r hr 112 (by decide)
  pure (addf a0 (c16 x0), addf a1 (c16 x1), addf a2 (c16 x2), addf a3 (c16 x3), addf a4 (c16 x4), addf a5 (c16 x5), addf a6 (c16 x6), addf a7 (c16 x7),
    addf b0 (mulf (c16 x0) (c16 x0)), addf b1 (mulf (c16 x1) (c16 x1)), addf b2 (mulf (c16 x2) (c16 x2)), addf b3 (mulf (c16 x3) (c16 x3)),
    addf b4 (mulf (c16 x4) (c16 x4)), addf b5 (mulf (c16 x5) (c16 x5)), addf b6 (mulf (c16 x6) (c16 x6)), addf b7 (mulf (c16 x7) (c16 x7)))

/-- The eight lane groups of a row of 128 numbers, twice: the sums and the squares. -/
def mkAcc (S Q : ℕ → Elt F .f32) : Acc F :=
  (fun i => S (0 + (i 0).val), fun i => S (16 + (i 0).val), fun i => S (32 + (i 0).val), fun i => S (48 + (i 0).val),
    fun i => S (64 + (i 0).val), fun i => S (80 + (i 0).val), fun i => S (96 + (i 0).val), fun i => S (112 + (i 0).val),
    fun i => Q (0 + (i 0).val), fun i => Q (16 + (i 0).val), fun i => Q (32 + (i 0).val), fun i => Q (48 + (i 0).val),
    fun i => Q (64 + (i 0).val), fun i => Q (80 + (i 0).val), fun i => Q (96 + (i 0).val), fun i => Q (112 + (i 0).val))

/-- The chunk row named by `r`, lane group from `j`, where the chunk holds `X`. -/
abbrev lanes (X : ℕ → ℕ → Elt F .f32) (r j : ℕ) : L16 F := fun i => X r (j + (i 0).val)

/-- The sum, from `z`, of `n` rows from `lo`, column by column, in order; and of their squares. -/
def sumRows (X : ℕ → ℕ → Elt F .f32) (z : Elt F .f32) (lo : ℕ) : ℕ → ℕ → Elt F .f32
  | 0, _ => z
  | n + 1, c => FloatOps.addf (sumRows X z lo n c) (X (lo + n) c)

theorem c16_read (v : Memref sig .scVector .vmem S200x128 .f32) (f : v.view.ty.Contents (Elt F)) (X : ℕ → ℕ → Elt F .f32)
    (hX : ∀ y : S200x128.Idx, v.view.read (Elt F) f y = X (y 0).val (y 1).val) (r : BitVec 32)
    (hr : (Scalar.indexCast r).toNat + 1 ≤ 200) (j : ℕ) (hj : j + 16 ≤ 128) :
    c16 (v.view.readAt (Elt F) (Rect.unit (s := S200x128) (rowOff r j) S1x16.size (rowOff_inb hr j hj)).toLoadRect f) = lanes X (Scalar.indexCast r).toNat j := by
  funext i
  refine (shapeCast_dropUnit_apply (n := 1) ![16] _ shapeCasts_S1x16_S16 i).trans ?_
  rw [View.readAt_apply, hX]
  congr 1
  show j + 1 * _ = _
  rw [Nat.one_mul]; rfl

theorem rowBody_wp (d : Dev nD) (L : grid0.Coords) (v : Memref sig .scVector .vmem S200x128 .f32) (r : BitVec 32)
    (hr : (Scalar.indexCast r).toNat + 1 ≤ 200) (f : Buf (Elt F) (v.view.loc (tileThr d L))) (q : PosShare TreeShare) (S Q : ℕ → Elt F .f32)
    (X : ℕ → ℕ → Elt F .f32) (hX : ∀ y : S200x128.Idx, v.view.read (Elt F) f y = X (y 0).val (y 1).val) :
    (v.view.loc (tileThr d L) ↦[v.view.set]{q} f : sProp (𝕄 F))
      ⊢ wp frame (wpE (defs₀ (F := F)) 𝒱₀ (tileThr d L) none) Set.univ (rowBody L v r hr (mkAcc S Q))
          fun acc' => iprop((v.view.loc (tileThr d L) ↦[v.view.set]{q} f)
            ∗ ⌜acc' = mkAcc (fun c => FloatOps.addf (S c) (X (Scalar.indexCast r).toNat c))
                (fun c => FloatOps.addf (Q c) (FloatOps.mulf (X (Scalar.indexCast r).toNat c) (X (Scalar.indexCast r).toNat c)))⌝) := by
  unfold rowBody ldRow mkAcc
  iintro Hv
  sl_exec
  sl_step
  isplitl [Hv]
  · iexact Hv
  · ipureintro
    have h := c16_read v f X hX r hr
    rw [h 0 (by decide), h 16 (by decide), h 32 (by decide), h 48 (by decide), h 64 (by decide), h 80 (by decide), h 96 (by decide), h 112 (by decide)]
    rfl

/-- A row range of a chunk: its first row and the row past its last. -/
structure InR (lo hi : BitVec 32) : Prop where
  lo_nonneg : 0 ≤ lo.toInt
  le : lo.toInt ≤ hi.toInt
  hi_le : hi.toInt ≤ 200

/-- The number of rows of a range. -/
def nRows (lo hi : BitVec 32) : ℕ := (hi.toInt - lo.toInt).toNat

abbrev mainUb (lo hi : BitVec 32) : BitVec 32 := Scalar.addi lo (Scalar.muli (Scalar.divsi (Scalar.subi hi lo) 1#32) 1#32)

theorem mainUb_eq (lo hi : BitVec 32) : mainUb lo hi = hi := by
  unfold mainUb
  rw [Scalar.muli_divsi_one]
  simp [Scalar.addi, Scalar.subi, IntOp.addi, IntOp.subi]

theorem trips_main (lo hi : BitVec 32) : Scf.trips lo (mainUb lo hi) 1#32 = nRows lo hi := by
  rw [mainUb_eq]
  have h1 : (1#32 : BitVec 32).toInt = 1 := by decide
  unfold Scf.trips nRows
  rw [h1]; congr 1; omega

theorem main_ok {lo hi : BitVec 32} (h : InR lo hi) : Scf.OK lo (mainUb lo hi) 1#32 := by
  have h1 : (1#32 : BitVec 32).toInt = 1 := by decide
  refine ⟨by rw [h1]; decide, ?_⟩
  rw [trips_main, h1]
  unfold nRows
  have := h.lo_nonneg; have := h.le; have := h.hi_le
  have : (2 : ℤ) ^ (32 - 1) = 2147483648 := by norm_num
  omega

theorem iv_row {lo hi : BitVec 32} (h : InR lo hi) {k : ℕ} (hk : k < Scf.trips lo (mainUb lo hi) 1#32) :
    (Scalar.indexCast (Scf.iv lo 1#32 k)).toNat = lo.toInt.toNat + k := by
  have h1 : (1#32 : BitVec 32).toInt = 1 := by decide
  have e := Scf.toInt_iv (main_ok h) (Nat.le_of_lt hk)
  rw [h1] at e
  have := h.lo_nonneg; have := h.le; have := h.hi_le
  rw [trips_main] at hk
  unfold nRows at hk
  have hb : (Scf.iv lo 1#32 k).toInt = lo.toInt + k := by rw [e]; omega
  show (Scf.iv lo 1#32 k).toNat = _
  have hlt := (Scf.iv lo 1#32 k).isLt
  rw [BitVec.toInt_eq_toNat_cond] at hb
  split at hb <;> omega

theorem iv_inb {lo hi : BitVec 32} (h : InR lo hi) {k : ℕ} (hk : k < Scf.trips lo (mainUb lo hi) 1#32) :
    (Scalar.indexCast (Scf.iv lo 1#32 k)).toNat + 1 ≤ 200 := by
  rw [iv_row h hk]
  rw [trips_main] at hk
  unfold nRows at hk
  have := h.lo_nonneg; have := h.le; have := h.hi_le
  omega

/-- Rows `[lo, hi)` of a chunk added up from `z`. -/
abbrev sumR (X : ℕ → ℕ → Elt F .f32) (z : Elt F .f32) (lo hi : BitVec 32) : ℕ → Elt F .f32 := sumRows X z lo.toInt.toNat (nRows lo hi)
abbrev sqr (X : ℕ → ℕ → Elt F .f32) : ℕ → ℕ → Elt F .f32 := fun r c => FloatOps.mulf (X r c) (X r c)

theorem rowLoop_wp (d : Dev nD) (L : grid0.Coords) (v : Memref sig .scVector .vmem S200x128 .f32) {lo hi : BitVec 32} (hR : InR lo hi)
    (f : Buf (Elt F) (v.view.loc (tileThr d L))) (q : PosShare TreeShare) (z : Elt F .f32)
    (X : ℕ → ℕ → Elt F .f32) (hX : ∀ y : S200x128.Idx, v.view.read (Elt F) f y = X (y 0).val (y 1).val)
    (hok : Scf.OK lo (mainUb lo hi) 1#32) (body : Fin (Scf.trips lo (mainUb lo hi) 1#32) → Acc F → TileProg F L (Acc F))
    (hbody : ∀ k acc, body k acc = rowBody L v (Scf.iv lo 1#32 k) (iv_inb hR k.isLt) acc) :
    (v.view.loc (tileThr d L) ↦[v.view.set]{q} f : sProp (𝕄 F))
      ⊢ wp frame (wpE (defs₀ (F := F)) 𝒱₀ (tileThr d L) none) Set.univ (Scf.for lo (mainUb lo hi) 1#32 hok (mkAcc (fun _ => z) (fun _ => z)) body)
          fun acc => iprop((v.view.loc (tileThr d L) ↦[v.view.set]{q} f) ∗ ⌜acc = mkAcc (sumR X z lo hi) (sumR (sqr X) z lo hi)⌝) := by
  iintro Hv
  iapply (Scf.wp_for frame (wpE (defs₀ (F := F)) 𝒱₀ (tileThr d L) none) Set.univ lo (mainUb lo hi) 1#32 hok _ body
    (fun k acc => iprop((v.view.loc (tileThr d L) ↦[v.view.set]{q} f)
      ∗ ⌜acc = mkAcc (sumRows X z lo.toInt.toNat k) (sumRows (sqr X) z lo.toInt.toNat k)⌝)) ?hb)
  case hb =>
    intro k acc
    rw [hbody]
    iintro ⟨Hv, %e⟩
    subst e
    iapply (wp_wand_r frame (wpE (defs₀ (F := F)) 𝒱₀ (tileThr d L) none) Set.univ)
    isplitl [Hv]
    · iapply (rowBody_wp d L v _ (iv_inb hR k.isLt) f q _ _ X hX) $$ Hv
    · iintro %acc' ⟨Hv, %e'⟩
      isplitl [Hv]
      · iexact Hv
      · ipureintro
        rw [e', iv_row hR k.isLt]
        rfl
  isplitl [Hv]
  · isplitl [Hv]
    · iexact Hv
    · ipureintro; rfl
  · iintro %acc ⟨Hv, %e⟩
    isplitl [Hv]
    · iexact Hv
    · ipureintro
      rw [e, trips_main]

end Cert.Proof

end
-- ==== Proof.Flush.lean ====
/-
  A row of partial sums added into the row of an accumulator buffer, lane group by lane group.
-/
module

public import proofs.«01_k».proof.Proof.Rows

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- Lane group `j` of row `t` of an accumulator. -/
theorem rowRect_inb {t j : ℕ} (ht : t + 1 ≤ 8) (hj : j + 16 ≤ 128) : ∀ a, (![t, j] : Fin 2 → ℕ) a + S1x16.size a ≤ S8x128.size a
  | 0 => ht
  | 1 => hj

abbrev rowRect {t j : ℕ} (ht : t + 1 ≤ 8) (hj : j + 16 ≤ 128) : Rect S8x128 := Rect.unit (s := S8x128) ![t, j] S1x16.size (rowRect_inb ht hj)

/-- One lane group: read, added to, read again, written. -/
def laneAdd (L : grid0.Coords) (m : Memref sig .scVector .vmem S8x128 .f32) {t j : ℕ} (ht : t + 1 ≤ 8) (hj : j + 16 ≤ 128) (a : L16 F) :
    TileProg F L PUnit := do
  let x ← Prog.lift (.load m (rowRect ht hj).toLoadRect (View.loadsAt_vmem h_S1x16))
  let _ ← Prog.lift (.load m (rowRect ht hj).toLoadRect (View.loadsAt_vmem h_S1x16))
  Prog.lift (.store m (rowRect ht hj) (shapeCast S1x16 (addf (c16 x) a) shapeCasts_S16_S1x16) Finset.univ (View.stores_vmem_bits_univ h_S1x16 rfl) (.inl rfl))

/-- The eight lane groups of row `t`, of the sums and of the squares in turn. -/
def flush (L : grid0.Coords) (m n : Memref sig .scVector .vmem S8x128 .f32) {t : ℕ} (ht : t + 1 ≤ 8) :
    Acc F → TileProg F L PUnit := fun (a0, a1, a2, a3, a4, a5, a6, a7, b0, b1, b2, b3, b4, b5, b6, b7) => do
  laneAdd L m ht (j := 0) (by decide) a0
  laneAdd L n ht (j := 0) (by decide) b0
  laneAdd L m ht (j := 16) (by decide) a1
  laneAdd L n ht (j := 16) (by decide) b1
  laneAdd L m ht (j := 32) (by decide) a2
  laneAdd L n ht (j := 32) (by decide) b2
  laneAdd L m ht (j := 48) (by decide) a3
  laneAdd L n ht (j := 48) (by decide) b3
  laneAdd L m ht (j := 64) (by decide) a4
  laneAdd L n ht (j := 64) (by decide) b4
  laneAdd L m ht (j := 80) (by decide) a5
  laneAdd L n ht (j := 80) (by decide) b5
  laneAdd L m ht (j := 96) (by decide) a6
  laneAdd L n ht (j := 96) (by decide) b6
  laneAdd L m ht (j := 112) (by decide) a7
  laneAdd L n ht (j := 112) (by decide) b7

/-- The buffer holds the table `G`. -/
def Holds (d : Dev nD) (L : grid0.Coords) (m : Memref sig .scVector .vmem S8x128 .f32) (G : ℕ → ℕ → Elt F .f32) : sProp (𝕄 F) :=
  iprop(∃ f : Buf (Elt F) (m.view.loc (tileThr d L)), (m.view.loc (tileThr d L) ↦[m.view.set]{fullShare} f)
    ∗ ⌜∀ y : S8x128.Idx, m.view.read (Elt F) f y = G (y 0).val (y 1).val⌝)

theorem Holds.congr {d : Dev nD} {L : grid0.Coords} {m : Memref sig .scVector .vmem S8x128 .f32} {G G' : ℕ → ℕ → Elt F .f32}
    (h : ∀ t c, t < 8 → c < 128 → G t c = G' t c) : Holds d L m G ⊢ Holds d L m G' := by
  unfold Holds
  iintro ⟨%f, Hf, %e⟩
  iexists f
  isplitl [Hf]
  · iexact Hf
  · ipureintro
    intro y
    rw [e y]
    exact h _ _ (y 0).isLt (y 1).isLt

/-- `A` added into lanes `[j, j + 16)` of row `t`. -/
def laneG (t j : ℕ) (A : ℕ → Elt F .f32) (G : ℕ → ℕ → Elt F .f32) : ℕ → ℕ → Elt F .f32 :=
  fun r c => if r = t ∧ j ≤ c ∧ c < j + 16 then FloatOps.addf (G r c) (A c) else G r c

/-- `A` added into row `t`. -/
def rowG (t : ℕ) (A : ℕ → Elt F .f32) (G : ℕ → ℕ → Elt F .f32) : ℕ → ℕ → Elt F .f32 :=
  fun r c => if r = t then FloatOps.addf (G r c) (A c) else G r c

theorem laneAdd_wp (d : Dev nD) (L : grid0.Coords) (m : Memref sig .scVector .vmem S8x128 .f32) {t j : ℕ} (ht : t + 1 ≤ 8) (hj : j + 16 ≤ 128)
    (A : ℕ → Elt F .f32) (G : ℕ → ℕ → Elt F .f32) :
    Holds d L m G ⊢ wp frame (wpE (defs₀ (F := F)) 𝒱₀ (tileThr d L) none) Set.univ (laneAdd L m ht hj fun i => A (j + (i 0).val))
      fun _ => Holds d L m (laneG t j A G) := by
  unfold laneAdd Holds
  iintro ⟨%f, Hm, %e⟩
  sl_exec
  sl_step
  iexists _
  isplitl [Hm]
  · iexact Hm
  · ipureintro
    intro y
    have hload : ∀ x : S16.Idx, c16 (m.view.readAt (Elt F) (rowRect ht hj).toLoadRect f) x = G t (j + (x 0).val) := by
      intro x
      refine (shapeCast_dropUnit_apply (n := 1) ![16] _ shapeCasts_S1x16_S16 x).trans ?_
      rw [View.readAt_apply, e]
      congr 1
      show j + 1 * _ = _
      rw [Nat.one_mul]; rfl
    by_cases h : (y 0).val = t ∧ j ≤ (y 1).val ∧ (y 1).val < j + 16
    · have hG : laneG t j A G (y 0).val (y 1).val = FloatOps.addf (G (y 0).val (y 1).val) (A (y 1).val) := if_pos h
      rw [hG]
      let x : S1x16.Idx := fun | 0 => (0 : Fin 1) | 1 => (⟨(y 1).val - j, by omega⟩ : Fin 16)
      have hx : ∀ a, (y a).val = (![t, j] : Fin 2 → ℕ) a + (x a).val := fun
        | 0 => h.1
        | 1 => show (y 1).val = j + ((y 1).val - j) by omega
      refine (View.read_writes_cons_unit_of_mem m.view f (rowRect_inb ht hj) _ [] y x rfl hx).trans ?_
      refine (shapeCast_addUnit_apply (n := 1) ![16] _ shapeCasts_S16_S1x16 x).trans ?_
      refine (congrArg (FloatOps.addf · _) (hload _)).trans ?_
      have h1 : j + ((y 1).val - j) = (y 1).val := by omega
      show FloatOps.addf (G t (j + ((y 1).val - j))) (A (j + ((y 1).val - j))) = _
      rw [h1, h.1]
    · have hG : laneG t j A G (y 0).val (y 1).val = G (y 0).val (y 1).val := if_neg h
      rw [hG, ← e y]
      by_cases h0 : (y 0).val = t
      · exact View.read_writes_cons_unit_of_not_mem m.view f (rowRect_inb ht hj) _ [] y rfl (1 : Fin 2) (by show (y 1).val < j ∨ j + 16 ≤ (y 1).val; omega)
      · exact View.read_writes_cons_unit_of_not_mem m.view f (rowRect_inb ht hj) _ [] y rfl (0 : Fin 2) (by show (y 0).val < t ∨ t + 1 ≤ (y 0).val; omega)

theorem swap {P Q : sProp (𝕄 F)} : iprop(P ∗ Q) ⊢ iprop(Q ∗ P) := by
  iintro ⟨HP, HQ⟩
  isplitl [HQ] <;> iassumption

/-- Two programs in sequence, the second under the first's post-condition, the rest of what is held kept aside. -/
theorem seq_wp {d : Dev nD} {L : grid0.Coords} {β γ : Type} {P R : sProp (𝕄 F)} {Q : β → sProp (𝕄 F)} {Q' : γ → sProp (𝕄 F)} {e : TileProg F L β} {k : β → TileProg F L γ}
    (h₁ : P ⊢ wp frame (wpE (defs₀ (F := F)) 𝒱₀ (tileThr d L) none) Set.univ e Q)
    (h₂ : ∀ b, iprop(Q b ∗ R) ⊢ wp frame (wpE (defs₀ (F := F)) 𝒱₀ (tileThr d L) none) Set.univ (k b) Q') :
    iprop(P ∗ R) ⊢ wp frame (wpE (defs₀ (F := F)) 𝒱₀ (tileThr d L) none) Set.univ (e >>= k) Q' := by
  rw [wp_bind]
  iintro ⟨HP, HR⟩
  iapply (wp_wand_r frame (wpE (defs₀ (F := F)) 𝒱₀ (tileThr d L) none) Set.univ)
  isplitl [HP]
  · iapply h₁ $$ HP
  · iintro %b HQ
    iapply (h₂ b)
    isplitl [HQ] <;> iassumption

/-- A flush of row `t` that has got to lane `n`. -/
def rowTo (t n : ℕ) (A : ℕ → Elt F .f32) (G : ℕ → ℕ → Elt F .f32) (r c : ℕ) : Elt F .f32 :=
  if r = t ∧ c < n then FloatOps.addf (G r c) (A c) else G r c

theorem laneG_rowTo (t j : ℕ) (A : ℕ → Elt F .f32) (G : ℕ → ℕ → Elt F .f32) (r c : ℕ) :
    laneG t j A (rowTo t j A G) r c = rowTo t (j + 16) A G r c := by
  unfold laneG rowTo
  by_cases hr : r = t
  · by_cases h1 : c < j
    · rw [if_neg (by omega), if_pos ⟨hr, h1⟩, if_pos ⟨hr, by omega⟩]
    · by_cases h2 : c < j + 16
      · rw [if_pos ⟨hr, by omega, h2⟩, if_neg (by omega), if_pos ⟨hr, h2⟩]
      · rw [if_neg (by omega), if_neg (by omega), if_neg (by omega)]
  · rw [if_neg (by omega), if_neg (by omega), if_neg (by omega)]

theorem laneTo_wp (d : Dev nD) (L : grid0.Coords) (m : Memref sig .scVector .vmem S8x128 .f32) {t j : ℕ} (ht : t + 1 ≤ 8) (hj : j + 16 ≤ 128)
    (A : ℕ → Elt F .f32) (G : ℕ → ℕ → Elt F .f32) :
    Holds d L m (rowTo t j A G) ⊢ wp frame (wpE (defs₀ (F := F)) 𝒱₀ (tileThr d L) none) Set.univ (laneAdd L m ht hj fun i => A (j + (i 0).val))
      fun _ => Holds d L m (rowTo t (j + 16) A G) := by
  iintro H
  iapply (wp_wand_r frame (wpE (defs₀ (F := F)) 𝒱₀ (tileThr d L) none) Set.univ)
  isplitl [H]
  · iapply (laneAdd_wp d L m ht hj A _) $$ H
  · iintro %_ H
    iapply (Holds.congr fun r c _ _ => laneG_rowTo t j A G r c) $$ H

theorem pair_wp (d : Dev nD) (L : grid0.Coords) (m n : Memref sig .scVector .vmem S8x128 .f32) {t j : ℕ} (ht : t + 1 ≤ 8) (hj : j + 16 ≤ 128)
    (A B : ℕ → Elt F .f32) (G H : ℕ → ℕ → Elt F .f32) {γ : Type} {Q' : γ → sProp (𝕄 F)} {k : PUnit → TileProg F L γ}
    (h : iprop(Holds d L m (rowTo t (j + 16) A G) ∗ Holds d L n (rowTo t (j + 16) B H))
      ⊢ wp frame (wpE (defs₀ (F := F)) 𝒱₀ (tileThr d L) none) Set.univ (k ⟨⟩) Q') :
    iprop(Holds d L m (rowTo t j A G) ∗ Holds d L n (rowTo t j B H)) ⊢ wp frame (wpE (defs₀ (F := F)) 𝒱₀ (tileThr d L) none) Set.univ
      (laneAdd L m ht hj (fun i => A (j + (i 0).val)) >>= fun _ => laneAdd L n ht hj (fun i => B (j + (i 0).val)) >>= k) Q' :=
  seq_wp (laneTo_wp d L m ht hj A G) fun _ => BIBase.Entails.trans swap <| seq_wp (laneTo_wp d L n ht hj B H) fun _ => BIBase.Entails.trans swap h

theorem flush_wp (d : Dev nD) (L : grid0.Coords) (m n : Memref sig .scVector .vmem S8x128 .f32) {t : ℕ} (ht : t + 1 ≤ 8)
    (A B : ℕ → Elt F .f32) (G H : ℕ → ℕ → Elt F .f32) :
    iprop(Holds d L m G ∗ Holds d L n H) ⊢ wp frame (wpE (defs₀ (F := F)) 𝒱₀ (tileThr d L) none) Set.univ (flush L m n ht (mkAcc A B))
      fun _ => iprop(Holds d L m (rowG t A G) ∗ Holds d L n (rowG t B H)) := by
  have h0 : ∀ (A : ℕ → Elt F .f32) G, rowTo t 0 A G = G := fun A G => funext fun r => funext fun c => if_neg (by omega)
  have h8 : ∀ (A : ℕ → Elt F .f32) G r c, c < 128 → rowTo t 128 A G r c = rowG t A G r c := fun A G r c hc => by
    unfold rowTo rowG; simp only [hc, and_true]
  rw [← h0 A G, ← h0 B H]
  unfold flush mkAcc
  refine pair_wp d L m n ht (by decide) A B G H ?_
  refine pair_wp d L m n ht (by decide) A B G H ?_
  refine pair_wp d L m n ht (by decide) A B G H ?_
  refine pair_wp d L m n ht (by decide) A B G H ?_
  refine pair_wp d L m n ht (by decide) A B G H ?_
  refine pair_wp d L m n ht (by decide) A B G H ?_
  refine pair_wp d L m n ht (by decide) A B G H ?_
  refine seq_wp (laneTo_wp d L m ht (by decide) A G) fun _ => BIBase.Entails.trans swap ?_
  rw [h0 A G, h0 B H]
  iintro ⟨Hn, Hm⟩
  iapply (wp_wand_r frame (wpE (defs₀ (F := F)) 𝒱₀ (tileThr d L) none) Set.univ)
  isplitl [Hn]
  · iapply (laneTo_wp d L n ht _ B H) $$ Hn
  · iintro %_ Hn
    isplitl [Hm]
    · iapply (Holds.congr fun r c _ hc => h8 A G r c hc) $$ Hm
    · iapply (Holds.congr fun r c _ hc => h8 B H r c hc) $$ Hn

end Cert.Proof

end
-- ==== Proof.Case.lean ====
/-
  One type of one chunk: its rows added up, and the sums added into the accumulators if the type has rows in the chunk.
-/
module

public import proofs.«01_k».proof.Proof.Flush
public import Idealize.ShloMosaic.Lib.LoopRemainder

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- A chunk buffer that holds the rows `X`. -/
def Chunk (d : Dev nD) (L : grid0.Coords) (v : Memref sig .scVector .vmem S200x128 .f32) (X : ℕ → ℕ → Elt F .f32) : sProp (𝕄 F) :=
  iprop(∃ f : Buf (Elt F) (v.view.loc (tileThr d L)), (v.view.loc (tileThr d L) ↦[v.view.set]{fullShare} f)
    ∗ ⌜∀ y : S200x128.Idx, v.view.read (Elt F) f y = X (y 0).val (y 1).val⌝)

/-- Whether a range has rows, as the program asks it. -/
abbrev some? (lo hi : BitVec 32) : BitVec 1 := Scalar.cmpi .ne (Scalar.extui (Scalar.cmpi .sgt hi lo)) 0#32

/-- The rows `[lo, hi)` added up, and the sums added into row `t`; then `k`. -/
def caseProg (L : grid0.Coords) (v : Memref sig .scVector .vmem S200x128 .f32) (m n : Memref sig .scVector .vmem S8x128 .f32) {t : ℕ} (ht : t + 1 ≤ 8)
    {lo hi : BitVec 32} (hR : InR lo hi) (z : Elt F .f32) (hok : Scf.OK (mainUb lo hi) (Scalar.addi lo (Scalar.subi hi lo)) 1#32)
    (rem : Fin (Scf.trips (mainUb lo hi) (Scalar.addi lo (Scalar.subi hi lo)) 1#32) → Acc F → TileProg F L (Acc F)) {α : Type} (k : TileProg F L α) :
    TileProg F L α := do
  let a ← Scf.for lo (mainUb lo hi) 1#32 (main_ok hR) (mkAcc (fun _ => z) fun _ => z) fun k acc => rowBody L v (Scf.iv lo 1#32 k) (iv_inb hR k.isLt) acc
  let a ← Scf.for (mainUb lo hi) (Scalar.addi lo (Scalar.subi hi lo)) 1#32 hok a rem
  if some? lo hi = 1#1 then flush L m n ht a >>= fun _ => k else k

/-- Row `t` of `G` after the case of type `t`. -/
def caseG (t : ℕ) (lo hi : BitVec 32) (A : ℕ → Elt F .f32) (G : ℕ → ℕ → Elt F .f32) : ℕ → ℕ → Elt F .f32 :=
  if lo.toInt < hi.toInt then rowG t A G else G

theorem some?_iff (lo hi : BitVec 32) : some? lo hi = 1#1 ↔ lo.toInt < hi.toInt := by
  have e : some? lo hi = Scalar.cmpi .sgt hi lo := by
    show Scalar.cmpi .ne (Scalar.extui (Scalar.cmpi .sgt hi lo)) 0#32 = _
    generalize Scalar.cmpi .sgt hi lo = b
    revert b; decide
  rw [e]
  show IntOp.cmpi .sgt hi lo = 1#1 ↔ _
  simp only [IntOp.cmpi, BitVec.slt]
  by_cases h : lo.toInt < hi.toInt <;> simp [h]

theorem tail_wp (d : Dev nD) (L : grid0.Coords) (m n : Memref sig .scVector .vmem S8x128 .f32) {t : ℕ} (ht : t + 1 ≤ 8) (lo hi : BitVec 32)
    (A B : ℕ → Elt F .f32) (G H : ℕ → ℕ → Elt F .f32) {R : sProp (𝕄 F)} {α : Type} {k : TileProg F L α} {Q : α → sProp (𝕄 F)}
    (hk : iprop((Holds d L m (caseG t lo hi A G) ∗ Holds d L n (caseG t lo hi B H)) ∗ R)
      ⊢ wp frame (wpE (defs₀ (F := F)) 𝒱₀ (tileThr d L) none) Set.univ k Q) :
    iprop((Holds d L m G ∗ Holds d L n H) ∗ R) ⊢ wp frame (wpE (defs₀ (F := F)) 𝒱₀ (tileThr d L) none) Set.univ
      (if some? lo hi = 1#1 then flush L m n ht (mkAcc A B) >>= fun _ => k else k) Q := by
  by_cases h : some? lo hi = 1#1
  · have h' := (some?_iff lo hi).mp h
    rw [if_pos h]
    have e1 : ∀ (A : ℕ → Elt F .f32) G, caseG t lo hi A G = rowG t A G := fun _ _ => if_pos h'
    rw [e1, e1] at hk
    exact seq_wp (flush_wp d L m n ht A B G H) fun _ => hk
  · have h' : ¬ lo.toInt < hi.toInt := fun h' => h ((some?_iff lo hi).mpr h')
    rw [if_neg h]
    have e1 : ∀ (A : ℕ → Elt F .f32) G, caseG t lo hi A G = G := fun _ _ => if_neg h'
    rw [e1, e1] at hk
    exact hk

theorem case_wp (d : Dev nD) (L : grid0.Coords) (v : Memref sig .scVector .vmem S200x128 .f32) (m n : Memref sig .scVector .vmem S8x128 .f32)
    {t : ℕ} (ht : t + 1 ≤ 8) {lo hi : BitVec 32} (hR : InR lo hi) (z : Elt F .f32)
    (hok : Scf.OK (mainUb lo hi) (Scalar.addi lo (Scalar.subi hi lo)) 1#32)
    (rem : Fin (Scf.trips (mainUb lo hi) (Scalar.addi lo (Scalar.subi hi lo)) 1#32) → Acc F → TileProg F L (Acc F)) (X G H : ℕ → ℕ → Elt F .f32)
    {R : sProp (𝕄 F)} {α : Type} {k : TileProg F L α} {Q : α → sProp (𝕄 F)}
    (hk : iprop(Chunk d L v X ∗ Holds d L m (caseG t lo hi (sumR X z lo hi) G) ∗ Holds d L n (caseG t lo hi (sumR (sqr X) z lo hi) H) ∗ R)
      ⊢ wp frame (wpE (defs₀ (F := F)) 𝒱₀ (tileThr d L) none) Set.univ k Q) :
    iprop(Chunk d L v X ∗ Holds d L m G ∗ Holds d L n H ∗ R)
      ⊢ wp frame (wpE (defs₀ (F := F)) 𝒱₀ (tileThr d L) none) Set.univ (caseProg L v m n ht hR z hok rem k) Q := by
  unfold caseProg
  rw [wp_bind]
  unfold Chunk
  iintro ⟨⟨%f, Hv, %hX⟩, Hm, Hn, HR⟩
  iapply (wp_wand_r frame (wpE (defs₀ (F := F)) 𝒱₀ (tileThr d L) none) Set.univ)
  isplitl [Hv]
  · iapply (rowLoop_wp d L v hR f fullShare z X hX (main_ok hR) _ fun _ _ => rfl) $$ Hv
  iintro %acc ⟨Hv, %e⟩
  subst e
  have hrem : Scf.for (mainUb lo hi) (Scalar.addi lo (Scalar.subi hi lo)) 1#32 hok (mkAcc (sumR X z lo hi) (sumR (sqr X) z lo hi)) rem
      = .ret (mkAcc (sumR X z lo hi) (sumR (sqr X) z lo hi)) := Scf.for_rem_eq _ _ _ _ _
  rw [hrem]
  iapply (tail_wp d L m n ht lo hi (sumR X z lo hi) (sumR (sqr X) z lo hi) G H (R := iprop(Chunk d L v X ∗ R)) (k := k) (Q := Q) ?hk)
  case hk =>
    refine BIBase.Entails.trans ?_ hk
    iintro ⟨⟨Hm, Hn⟩, Hv, HR⟩
    isplitl [Hv]
    · iexact Hv
    isplitl [Hm]
    · iexact Hm
    isplitl [Hn] <;> iassumption
  isplitl [Hm Hn]
  · isplitl [Hm] <;> iassumption
  isplitl [Hv]
  · unfold Chunk
    iexists f
    isplitl [Hv]
    · iexact Hv
    · ipureintro; exact hX
  · iexact HR

/-- The bounds of a type in a chunk: its first and last row, cut to the chunk. -/
abbrev loOf (b base : BitVec 32) : BitVec 32 := Scalar.minsi 200#32 (Scalar.maxsi 0#32 (Scalar.subi b base))
abbrev hiOf (b b' base : BitVec 32) : BitVec 32 := Scalar.minsi 200#32 (Scalar.maxsi (loOf b base) (Scalar.subi b' base))

theorem inR (b b' base : BitVec 32) : InR (loOf b base) (hiOf b b' base) := by
  have h0 : ((0#32 : BitVec 32)).toInt = 0 := by decide
  have h2 : ((200#32 : BitVec 32)).toInt = 200 := by decide
  have hmin : ∀ x y : BitVec 32, (Scalar.minsi x y).toInt = min x.toInt y.toInt := fun x y => by
    simp only [Scalar.minsi, IntOp.minsi, BitVec.slt, decide_eq_true_eq]; split <;> omega
  have hmax : ∀ x y : BitVec 32, (Scalar.maxsi x y).toInt = max x.toInt y.toInt := fun x y => by
    simp only [Scalar.maxsi, IntOp.maxsi, BitVec.slt, decide_eq_true_eq]; split <;> omega
  constructor <;> simp only [hmin, hmax, h0, h2] <;> omega

end Cert.Proof

end
-- ==== Proof.Parts.lean ====
/-
  The loop over the chunks, part by part: each part is a row of cases, one for each type it covers.
-/
module

public import proofs.«01_k».proof.Proof.Case

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The two chunk buffers. -/
abbrev slot0 (a : Memref sig .scVector .vmem S2x200x128 .f32) : Memref sig .scVector .vmem S200x128 .f32 :=
  (a.slice (Rect.unit (s := S2x200x128) ![0, 0, 0] S1x200x128.size inb_S2x200x128_S1x200x128_0_0_0) (fun _ => rfl)).squeeze S200x128 squeezes_S1x200x128_S200x128
abbrev slot1 (a : Memref sig .scVector .vmem S2x200x128 .f32) : Memref sig .scVector .vmem S200x128 .f32 :=
  (a.slice (Rect.unit (s := S2x200x128) ![1, 0, 0] S1x200x128.size inb_S2x200x128_S1x200x128_1_0_0) (fun _ => rfl)).squeeze S200x128 squeezes_S1x200x128_S200x128

/-- The first row of the even and of the odd chunk of trip `t`, of the tile's 5600. -/
abbrev iv2 (t : Fin k0_t2_loop.trips) : BitVec 32 := Scf.iv 0#32 1#32 t
abbrev base0 (t : Fin k0_t2_loop.trips) : BitVec 32 := Scalar.muli (Scalar.muli 2#32 (iv2 t)) 200#32
abbrev base1 (t : Fin k0_t2_loop.trips) : BitVec 32 := Scalar.muli (Scalar.addi (Scalar.muli 2#32 (iv2 t)) 1#32) 200#32

variable (i : grid0.Coords) (arg2 : Memref sig .scVector .hbm S320000x128 .f32) (harg2 : arg2.IsWhole) (arg3 : Memref sig .scVector .hbm S320000 .i32) (harg3 : arg3.IsWhole)
  (arg4 : Memref sig .scVector .hbm S32x8x128 .f32) (harg4 : arg4.IsWhole) (arg5 : Memref sig .scVector .hbm S32x8x128 .f32) (harg5 : arg5.IsWhole)
  (arg6 : Memref sig .scVector .hbm S32x8x16 .f32) (harg6 : arg6.IsWhole) (arg7 : Memref sig .scVector .vmem S5600 .i32) (harg7 : arg7.IsWhole)
  (arg8 : Memref sig .scVector .vmem S2x200x128 .f32) (harg8 : arg8.IsWhole) (arg9 : Memref sig .scVector .vmem S8x128 .f32) (harg9 : arg9.IsWhole)
  (arg10 : Memref sig .scVector .vmem S8x128 .f32) (harg10 : arg10.IsWhole) (arg11 : Memref sig .scVector .vmem S8x16 .f32) (harg11 : arg11.IsWhole)
  (arg12 : DmaSems sig S_) (arg13 : DmaSems sig S_) (v349_r0 : DmaSems sig S_) (v349_r1 : DmaSems sig S_) (v349_r2 : DmaSems sig S_) (v349_r3 : DmaSems sig S_)

  (v15 v18 v21 v24 v27 v30 v33 : BitVec 32) (k0_hw1 : k0_chk1 v15) (k0_hw2 : k0_chk2 v15 v18) (k0_hw3 : k0_chk3 v18 v21) (k0_hw4 : k0_chk4 v21 v24)
  (k0_hw5 : k0_chk5 v24 v27) (k0_hw6 : k0_chk6 v27 v30) (k0_hw7 : k0_chk7 v30 v33) (z : Elt F .f32) (k0_t2 : Fin k0_t2_loop.trips)

set_option maxHeartbeats 4000000 in
theorem part82_eq : ∃ hok0 rem0,
    k0_part82 (F := F) i arg2 harg2 arg3 harg3 arg4 harg4 arg5 harg5 arg6 harg6 arg7 harg7 arg8 harg8 arg9 harg9 arg10 harg10 arg11 harg11 arg12 arg13 v349_r0 v349_r1 v349_r2 v349_r3
        v15 k0_hw1 v18 (fun _ => z) 0#32 0#32 1#32 k0_t2
      = (Prog.lift (.waitDma2 arg12.sem (arg2.slice (Rect.unit (s := S320000x128) (k0_off4 i) S200x128.size (k0_off4_inb i)) (fun _ => rfl)) (slot0 arg8) (View.wordExact_bits rfl) ((View.wordExact_bits rfl).reshape _ _)) >>= fun _ =>
        caseProg i (slot0 arg8) arg9 arg10 (t := 0) (by decide) (inR 0#32 v15 (base0 k0_t2)) z hok0 rem0 <|
        pure ⟨iv2 k0_t2, base0 k0_t2, loOf v15 (base0 k0_t2), hiOf v15 v18 (base0 k0_t2), mainUb (loOf v15 (base0 k0_t2)) (hiOf v15 v18 (base0 k0_t2))⟩) := by
  unfold k0_part82
  exact ⟨k0_t4_ok v15 k0_hw1 k0_t2, _, rfl⟩

set_option maxHeartbeats 4000000 in
theorem part83_eq : ∃ hok1 rem1 hok2 rem2 hok3 rem3,
    k0_part83 (F := F) i arg2 harg2 arg3 harg3 arg4 harg4 arg5 harg5 arg6 harg6 arg7 harg7 arg8 harg8 arg9 harg9 arg10 harg10 arg11 harg11 arg12 arg13 v349_r0 v349_r1 v349_r2 v349_r3
        v15 v18 k0_hw2 v21 k0_hw3 v24 k0_hw4 (fun _ => z) k0_t2 (base0 k0_t2) (loOf v15 (base0 k0_t2)) (hiOf v15 v18 (base0 k0_t2)) (mainUb (loOf v15 (base0 k0_t2)) (hiOf v15 v18 (base0 k0_t2)))
      = (caseProg i (slot0 arg8) arg9 arg10 (t := 1) (by decide) (inR v15 v18 (base0 k0_t2)) z hok1 rem1 <|
        caseProg i (slot0 arg8) arg9 arg10 (t := 2) (by decide) (inR v18 v21 (base0 k0_t2)) z hok2 rem2 <|
        caseProg i (slot0 arg8) arg9 arg10 (t := 3) (by decide) (inR v21 v24 (base0 k0_t2)) z hok3 rem3 <|
        pure (Scalar.subi v24 (base0 k0_t2))) := by
  unfold k0_part83
  exact ⟨k0_t6_ok v15 v18 k0_hw2 k0_t2, _, k0_t8_ok v18 v21 k0_hw3 k0_t2, _, k0_t10_ok v21 v24 k0_hw4 k0_t2, _, rfl⟩

set_option maxHeartbeats 4000000 in
theorem part84_eq : ∃ hok4 rem4 hok5 rem5,
    k0_part84 (F := F) i arg2 harg2 arg3 harg3 arg4 harg4 arg5 harg5 arg6 harg6 arg7 harg7 arg8 harg8 arg9 harg9 arg10 harg10 arg11 harg11 arg12 arg13 v349_r0 v349_r1 v349_r2 v349_r3
        v24 v27 k0_hw5 v30 k0_hw6 v33 (fun _ => z) k0_t2 (base0 k0_t2) (Scalar.subi v24 (base0 k0_t2))
      = (caseProg i (slot0 arg8) arg9 arg10 (t := 4) (by decide) (inR v24 v27 (base0 k0_t2)) z hok4 rem4 <|
        caseProg i (slot0 arg8) arg9 arg10 (t := 5) (by decide) (inR v27 v30 (base0 k0_t2)) z hok5 rem5 <|
        pure ⟨loOf v30 (base0 k0_t2), hiOf v30 v33 (base0 k0_t2), Scalar.subi (hiOf v30 v33 (base0 k0_t2)) (loOf v30 (base0 k0_t2))⟩) := by
  unfold k0_part84
  exact ⟨k0_t12_ok v24 v27 k0_hw5 k0_t2, _, k0_t14_ok v27 v30 k0_hw6 k0_t2, _, rfl⟩

set_option maxHeartbeats 4000000 in
theorem part85_eq (v3 : BitVec 32) : ∃ hok6 rem6 hok7 rem7,
    k0_part85 (F := F) i arg2 harg2 arg3 harg3 arg4 harg4 arg5 harg5 arg6 harg6 arg7 harg7 arg8 harg8 arg9 harg9 arg10 harg10 arg11 harg11 arg12 arg13 v349_r0 v349_r1 v349_r2 v349_r3
        v3 v30 v33 k0_hw7 (fun _ => z) 5600#32 k0_t2 (iv2 k0_t2) (base0 k0_t2) (loOf v30 (base0 k0_t2)) (hiOf v30 v33 (base0 k0_t2)) (Scalar.subi (hiOf v30 v33 (base0 k0_t2)) (loOf v30 (base0 k0_t2)))
      = (caseProg i (slot0 arg8) arg9 arg10 (t := 6) (by decide) (inR v30 v33 (base0 k0_t2)) z hok6 rem6 <|
        caseProg i (slot0 arg8) arg9 arg10 (t := 7) (by decide) (inR v33 5600#32 (base0 k0_t2)) z hok7 rem7 <|
        if h : k0_cond9 k0_t2 = 1#1 then
          Prog.lift (.enqueueDma (arg2.slice (Rect.unit (s := S320000x128) (k0_off133 i k0_t2) S200x128.size (k0_off133_inb i k0_t2 h)) (fun _ => rfl)) (.here (slot0 arg8)) (.dma arg12.sem) (View.wordExact_bits rfl) ((View.wordExact_bits rfl).reshape _ _) ⟨Or.inl rfl, trivial⟩) >>= fun _ => (Prog.lift (.waitDma2 arg13.sem (arg2.slice (Rect.unit (s := S320000x128) (k0_off134 i) S200x128.size (k0_off134_inb i)) (fun _ => rfl)) (slot1 arg8) (View.wordExact_bits rfl) ((View.wordExact_bits rfl).reshape _ _)) >>= fun _ => pure 2#32)
        else (Prog.lift (.waitDma2 arg13.sem (arg2.slice (Rect.unit (s := S320000x128) (k0_off134 i) S200x128.size (k0_off134_inb i)) (fun _ => rfl)) (slot1 arg8) (View.wordExact_bits rfl) ((View.wordExact_bits rfl).reshape _ _)) >>= fun _ => pure 2#32)) := by
  unfold k0_part85
  exact ⟨k0_t16_ok v30 v33 k0_hw7 k0_t2, _, k0_t18_ok v30 v33 k0_hw7 k0_t2, _, rfl⟩

set_option maxHeartbeats 4000000 in
theorem part86_eq : ∃ hok0 rem0 hok1 rem1,
    k0_part86 (F := F) i arg2 harg2 arg3 harg3 arg4 harg4 arg5 harg5 arg6 harg6 arg7 harg7 arg8 harg8 arg9 harg9 arg10 harg10 arg11 harg11 arg12 arg13 v349_r0 v349_r1 v349_r2 v349_r3
        v15 k0_hw1 v18 k0_hw2 (fun _ => z) 0#32 k0_t2 (iv2 k0_t2) 2#32
      = (caseProg i (slot1 arg8) arg9 arg10 (t := 0) (by decide) (inR 0#32 v15 (base1 k0_t2)) z hok0 rem0 <|
        caseProg i (slot1 arg8) arg9 arg10 (t := 1) (by decide) (inR v15 v18 (base1 k0_t2)) z hok1 rem1 <|
        pure ⟨base1 k0_t2, loOf v18 (base1 k0_t2)⟩) := by
  unfold k0_part86
  exact ⟨k0_t20_ok v15 k0_hw1 k0_t2, _, k0_t22_ok v15 v18 k0_hw2 k0_t2, _, rfl⟩

set_option maxHeartbeats 4000000 in
theorem part87_eq : ∃ hok2 rem2 hok3 rem3,
    k0_part87 (F := F) i arg2 harg2 arg3 harg3 arg4 harg4 arg5 harg5 arg6 harg6 arg7 harg7 arg8 harg8 arg9 harg9 arg10 harg10 arg11 harg11 arg12 arg13 v349_r0 v349_r1 v349_r2 v349_r3
        v18 v21 k0_hw3 v24 k0_hw4 v27 (fun _ => z) k0_t2 (base1 k0_t2) (loOf v18 (base1 k0_t2))
      = (caseProg i (slot1 arg8) arg9 arg10 (t := 2) (by decide) (inR v18 v21 (base1 k0_t2)) z hok2 rem2 <|
        caseProg i (slot1 arg8) arg9 arg10 (t := 3) (by decide) (inR v21 v24 (base1 k0_t2)) z hok3 rem3 <|
        pure ⟨loOf v24 (base1 k0_t2), hiOf v24 v27 (base1 k0_t2), Scalar.muli (Scalar.divsi (Scalar.subi (hiOf v24 v27 (base1 k0_t2)) (loOf v24 (base1 k0_t2))) 1#32) 1#32⟩) := by
  unfold k0_part87
  exact ⟨k0_t24_ok v18 v21 k0_hw3 k0_t2, _, k0_t26_ok v21 v24 k0_hw4 k0_t2, _, rfl⟩

set_option maxHeartbeats 4000000 in
theorem part88_eq : ∃ hok4 rem4 hok5 rem5 hok6 rem6,
    k0_part88 (F := F) i arg2 harg2 arg3 harg3 arg4 harg4 arg5 harg5 arg6 harg6 arg7 harg7 arg8 harg8 arg9 harg9 arg10 harg10 arg11 harg11 arg12 arg13 v349_r0 v349_r1 v349_r2 v349_r3
        v24 v27 k0_hw5 v30 k0_hw6 v33 k0_hw7 (fun _ => z) k0_t2 (base1 k0_t2) (loOf v24 (base1 k0_t2)) (hiOf v24 v27 (base1 k0_t2)) (Scalar.muli (Scalar.divsi (Scalar.subi (hiOf v24 v27 (base1 k0_t2)) (loOf v24 (base1 k0_t2))) 1#32) 1#32)
      = (caseProg i (slot1 arg8) arg9 arg10 (t := 4) (by decide) (inR v24 v27 (base1 k0_t2)) z hok4 rem4 <|
        caseProg i (slot1 arg8) arg9 arg10 (t := 5) (by decide) (inR v27 v30 (base1 k0_t2)) z hok5 rem5 <|
        caseProg i (slot1 arg8) arg9 arg10 (t := 6) (by decide) (inR v30 v33 (base1 k0_t2)) z hok6 rem6 <|
        pure ⟨⟩) := by
  unfold k0_part88
  exact ⟨k0_t28_ok v24 v27 k0_hw5 k0_t2, _, k0_t30_ok v27 v30 k0_hw6 k0_t2, _, k0_t32_ok v30 v33 k0_hw7 k0_t2, _, rfl⟩

end Cert.Proof

end
-- ==== Proof.Copies.lean ====
/-
  The copies of chunks of rows of the array into a chunk buffer: started, awaited.
-/
module

public import proofs.«01_k».proof.Proof.Case
public import Idealize.ShloMosaic.Lib.Transfers

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The rows of the array from row `r₀` on. -/
def rowsFrom (xN : ℕ → ℕ → Elt F .f32) (r₀ : ℕ) : ℕ → ℕ → Elt F .f32 := fun r c => xN (r₀ + r) c

abbrev ECt : UEmb Counters (𝕄 F) := countersEmb (U := UU)

/-- What a tile owes, its waits so far beyond `W` all plain, and that it may wait so. -/
def Owed (thr : Thread nD τ) (O : CellTallies nD τ sig (HIx 1)) (W : Waits sig (HIx 1)) : sProp (𝕄 F) :=
  iprop(∃ W', ⌜∀ p ∈ W', p ∈ W ∨ p.2 = none⌝ ∗ owes thr O W' ∗ Transfers.MayWaits thr (none : HIx 1) O)

/-- A share of the array, for a copy to read. -/
abbrev XShare (d : Dev nD) (L : grid0.Coords) (x : Memref sig .scVector .hbm S320000x128 .f32) (q : PosShare TreeShare)
    (fx : Buf (Elt F) (x.view.loc (tileThr d L))) : sProp (𝕄 F) :=
  x.view.loc (tileThr d L) ↦{q} fx

/-- A chunk buffer not in use, with its share of the array and its semaphore. -/
def Idle (d : Dev nD) (L : grid0.Coords) (x : Memref sig .scVector .hbm S320000x128 .f32) (v : Memref sig .scVector .vmem S200x128 .f32) (sem : DmaSem sig)
    (q : PosShare TreeShare) (fx : Buf (Elt F) (x.view.loc (tileThr d L))) : sProp (𝕄 F) :=
  iprop((∃ X, Chunk d L v X) ∗ XShare d L x q fx ∗ semVal (tileThr d L, SemLoc.dma sem) 0)

/-- A copy of the rows `X` into a chunk buffer on its way. -/
def Pending (d : Dev nD) (L : grid0.Coords) (x : Memref sig .scVector .hbm S320000x128 .f32) (v : Memref sig .scVector .vmem S200x128 .f32) (sem : DmaSem sig)
    (q : PosShare TreeShare) (fx : Buf (Elt F) (x.view.loc (tileThr d L))) (X : ℕ → ℕ → Elt F .f32) : sProp (𝕄 F) :=
  iprop(∃ I : Finset (Idx (x.view.loc (tileThr d L))), ⌜I ⊆ Finset.univ⌝
    ∗ Transfers.Flight ECt (tileThr d L) (.dma sem) (none : HIx 1) v.view.dmaCredit iprop(Chunk d L v X ∗ (x.view.loc (tileThr d L) ↦[I]{q} fx))
    ∗ (x.view.loc (tileThr d L) ↦[Finset.univ \ I]{q} fx))

theorem issue_wp (d : Dev nD) (L : grid0.Coords) (x : Memref sig .scVector .hbm S320000x128 .f32) (v : Memref sig .scVector .vmem S200x128 .f32) (sem : DmaSem sig)
    (q : PosShare TreeShare) (fx : Buf (Elt F) (x.view.loc (tileThr d L))) (xN : ℕ → ℕ → Elt F .f32) (hx : ∀ y : S320000x128.Idx, x.view.read (Elt F) fx y = xN (y 0).val (y 1).val)
    (off : Fin 2 → ℕ) (inb : ∀ a, off a + S200x128.size a ≤ S320000x128.size a) (r₀ : ℕ) (h0 : off 0 = r₀) (h1 : off 1 = 0)
    {hu : ∀ a, (Rect.unit (s := S320000x128) off S200x128.size inb).stride a = 1}
    {hsrc : (x.slice (Rect.unit (s := S320000x128) off S200x128.size inb) hu).view.WordExact} {hdst : v.view.WordExact}
    {hsem : DmaTarget.Typed (nD := nD) (p := Proc.scVector (cV L) (jV L)) .hbm (.dma sem) (.here v)}
    {R : sProp (𝕄 F)} {α : Type} {k : TileProg F L α} {Q : α → sProp (𝕄 F)}
    (hk : iprop(Pending d L x v sem q fx (rowsFrom xN r₀) ∗ R) ⊢ wp frame (wpE (defs₀ (F := F)) 𝒱₀ (tileThr d L) none) Set.univ k Q) :
    iprop(Idle d L x v sem q fx ∗ R) ⊢ wp frame (wpE (defs₀ (F := F)) 𝒱₀ (tileThr d L) none) Set.univ
      ((Prog.lift (.enqueueDma (x.slice (Rect.unit (s := S320000x128) off S200x128.size inb) hu) (.here v) (.dma sem) hsrc hdst hsem) : TileProg F L PUnit) >>= fun _ => k) Q := by
  unfold Idle Chunk
  iintro ⟨⟨⟨%X, %f, Hv, -⟩, Hx, Hs⟩, HR⟩
  ihave Hx' := (pointsTo_split_subset (q := q) (f := fx) (S := Finset.univ) (Finset.subset_univ (x.slice (Rect.unit (s := S320000x128) off S200x128.size inb) hu).view.set)).1 $$ Hx
  icases Hx' with ⟨Hx, Hxr⟩
  iapply (Transfers.wp_dmaLocal (defs := defs₀ (F := F)) ECt 𝒱₀ (tileThr d L) none
    (src := x.slice (Rect.unit (s := S320000x128) off S200x128.size inb) hu) (dst := v) (q := q) (fs := fx) (Sd := v.view.set) (fd := f)
    (none : HIx 1) v.view.dmaCredit rfl (View.amount_pos _ (.dma sem) (show 0 < S200x128.numel by decide)) (Finset.Subset.refl _)) $$ [Hx Hv Hs]
  · isplitl [Hx]
    · iexact Hx
    isplitl [Hv] <;> iassumption
  iintro Hf
  iapply hk
  isplitr [HR]
  · unfold Pending
    iexists (x.slice (Rect.unit (s := S320000x128) off S200x128.size inb) hu).view.set
    isplitr
    · ipureintro; exact Finset.subset_univ _
    isplitl [Hf]
    · iapply (Transfers.Flight_mono ECt (tileThr d L) ?hm) $$ Hf
      case hm =>
        iintro ⟨Hv, Hx⟩
        isplitl [Hv]
        · unfold Chunk
          iexists _
          isplitl [Hv]
          · iexact Hv
          ipureintro
          intro y
          rw [View.read_write_univ]
          refine (hx _).trans ?_
          have e0 : ((Rect.unit (s := S320000x128) off S200x128.size inb).emb y 0).val = r₀ + (y 0).val := by
            rw [← h0]; simp [Rect.emb, Rect.unit]
          have e1 : ((Rect.unit (s := S320000x128) off S200x128.size inb).emb y 1).val = (y 1).val := by
            simp [Rect.emb, Rect.unit, h1]
          rw [e0, e1]; rfl
        · iexact Hx
    · iexact Hxr
  · iexact HR

theorem await_wp (d : Dev nD) (L : grid0.Coords) (x : Memref sig .scVector .hbm S320000x128 .f32) (v : Memref sig .scVector .vmem S200x128 .f32) (sem : DmaSem sig)
    (q : PosShare TreeShare) (fx : Buf (Elt F) (x.view.loc (tileThr d L))) (X : ℕ → ℕ → Elt F .f32) (O : CellTallies nD τ sig (HIx 1)) (W : Waits sig (HIx 1))
    (xw : Memref sig .scVector .hbm S200x128 .f32) {hsrc : xw.view.WordExact} {hdst : v.view.WordExact}
    {R : sProp (𝕄 F)} {α : Type} {k : TileProg F L α} {Q : α → sProp (𝕄 F)}
    (hk : iprop(Chunk d L v X ∗ (XShare d L x q fx ∗ semVal (tileThr d L, SemLoc.dma sem) 0) ∗ Owed (tileThr d L) O W ∗ R)
      ⊢ wp frame (wpE (defs₀ (F := F)) 𝒱₀ (tileThr d L) none) Set.univ k Q) :
    iprop(Pending d L x v sem q fx X ∗ Owed (tileThr d L) O W ∗ R) ⊢ wp frame (wpE (defs₀ (F := F)) 𝒱₀ (tileThr d L) none) Set.univ
      ((Prog.lift (.waitDma2 sem xw v hsrc hdst) : TileProg F L PUnit) >>= fun _ => k) Q := by
  unfold Pending Owed
  iintro ⟨⟨%I, %hI, Hf, Hxr⟩, ⟨%W', %hW, HO, #Hmw⟩, HR⟩
  iapply (Transfers.wp_waitLocalO (defs := defs₀ (F := F)) ECt 𝒱₀ (tileThr d L) none (none : HIx 1) rfl) $$ [Hf HO]
  · isplitl [Hf]
    · iexact Hf
    isplitl [HO]
    · iexact HO
    · iapply (Transfers.MayWaits.elim (SemLoc.dma sem)) $$ Hmw
  iintro ⟨⟨Hv, Hx⟩, Hs, HO⟩
  iapply hk
  isplitl [Hv]
  · iexact Hv
  isplitl [Hx Hxr Hs]
  · isplitl [Hx Hxr]
    · iapply (pointsTo_split_subset (q := q) (f := fx) (S := Finset.univ) hI).2
      isplitl [Hx] <;> iassumption
    · iexact Hs
  isplitl [HO]
  · unfold Owed
    iexists (insert (SemLoc.dma sem, (none : HIx 1)) W')
    isplitr [HO]
    · ipureintro
      intro p hp
      rcases Finset.mem_insert.mp hp with hp | hp
      · exact .inr (hp ▸ rfl)
      · exact hW p hp
    isplitl [HO] <;> iassumption
  · iexact HR

end Cert.Proof

end
-- ==== Proof.PartsWp.lean ====
/-
  What the cases of a trip do to the two tables.
-/
module

public import proofs.«01_k».proof.Proof.Parts
public import proofs.«01_k».proof.Proof.Copies

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The bounds of the types in the tile's rows: type `t` has the rows from bound `t` up to bound `t + 1`. -/
def bds (v15 v18 v21 v24 v27 v30 v33 : BitVec 32) : ℕ → BitVec 32
  | 0 => 0#32
  | 1 => v15
  | 2 => v18
  | 3 => v21
  | 4 => v24
  | 5 => v27
  | 6 => v30
  | 7 => v33
  | _ => 5600#32

/-- A table after the cases of the first `n` types, of the chunk of rows `X` from row `base` on. -/
def casesG (b : ℕ → BitVec 32) (base : BitVec 32) (X : ℕ → ℕ → Elt F .f32) (z : Elt F .f32) (G : ℕ → ℕ → Elt F .f32) : ℕ → ℕ → ℕ → Elt F .f32
  | 0 => G
  | n + 1 => caseG n (loOf (b n) base) (hiOf (b n) (b (n + 1)) base) (sumR X z (loOf (b n) base) (hiOf (b n) (b (n + 1)) base)) (casesG b base X z G n)

/-- Both tables after `n` cases. -/
def Tabs (d : Dev nD) (L : grid0.Coords) (m n : Memref sig .scVector .vmem S8x128 .f32) (b : ℕ → BitVec 32) (base : BitVec 32) (X : ℕ → ℕ → Elt F .f32)
    (z : Elt F .f32) (G H : ℕ → ℕ → Elt F .f32) (k : ℕ) : sProp (𝕄 F) :=
  iprop(Holds d L m (casesG b base X z G k) ∗ Holds d L n (casesG b base (sqr X) z H k))

theorem step_wp (d : Dev nD) (L : grid0.Coords) (v : Memref sig .scVector .vmem S200x128 .f32) (m n : Memref sig .scVector .vmem S8x128 .f32)
    (b : ℕ → BitVec 32) (base : BitVec 32) (t : ℕ) (ht : t + 1 ≤ 8) (z : Elt F .f32)
    (hok : Scf.OK (mainUb (loOf (b t) base) (hiOf (b t) (b (t + 1)) base)) (Scalar.addi (loOf (b t) base) (Scalar.subi (hiOf (b t) (b (t + 1)) base) (loOf (b t) base))) 1#32)
    (rem : Fin (Scf.trips (mainUb (loOf (b t) base) (hiOf (b t) (b (t + 1)) base)) (Scalar.addi (loOf (b t) base) (Scalar.subi (hiOf (b t) (b (t + 1)) base) (loOf (b t) base))) 1#32) → Acc F → TileProg F L (Acc F))
    (X G H : ℕ → ℕ → Elt F .f32) {R : sProp (𝕄 F)} {α : Type} {k : TileProg F L α} {Q : α → sProp (𝕄 F)}
    (hk : iprop(Chunk d L v X ∗ Tabs d L m n b base X z G H (t + 1) ∗ R) ⊢ wp frame (wpE (defs₀ (F := F)) 𝒱₀ (tileThr d L) none) Set.univ k Q) :
    iprop(Chunk d L v X ∗ Tabs d L m n b base X z G H t ∗ R)
      ⊢ wp frame (wpE (defs₀ (F := F)) 𝒱₀ (tileThr d L) none) Set.univ (caseProg L v m n ht (inR (b t) (b (t + 1)) base) z hok rem k) Q := by
  refine BIBase.Entails.trans ?_ (case_wp d L v m n ht (inR (b t) (b (t + 1)) base) z hok rem X (casesG b base X z G t) (casesG b base (sqr X) z H t) (R := R) (BIBase.Entails.trans ?_ hk))
  · unfold Tabs
    iintro ⟨Hv, ⟨Hm, Hn⟩, HR⟩
    isplitl [Hv]
    · iexact Hv
    isplitl [Hm]
    · iexact Hm
    isplitl [Hn] <;> iassumption
  · unfold Tabs
    iintro ⟨Hv, Hm, Hn, HR⟩
    isplitl [Hv]
    · iexact Hv
    isplitl [Hm Hn]
    · isplitl [Hm]
      · iexact Hm
      · iexact Hn
    · iexact HR

/-- A finished program: its postcondition at its value. -/
theorem pure_wp (d : Dev nD) (L : grid0.Coords) {α : Type} {P : sProp (𝕄 F)} {Q : α → sProp (𝕄 F)} (a : α) (h : P ⊢ Q a) :
    P ⊢ wp frame (wpE (defs₀ (F := F)) 𝒱₀ (tileThr d L) none) Set.univ (pure a : TileProg F L α) Q :=
  BIBase.Entails.trans h (le_wp_ret _ _ _ a Q)

variable (i : grid0.Coords) (arg2 : Memref sig .scVector .hbm S320000x128 .f32) (harg2 : arg2.IsWhole) (arg3 : Memref sig .scVector .hbm S320000 .i32) (harg3 : arg3.IsWhole)
  (arg4 : Memref sig .scVector .hbm S32x8x128 .f32) (harg4 : arg4.IsWhole) (arg5 : Memref sig .scVector .hbm S32x8x128 .f32) (harg5 : arg5.IsWhole)
  (arg6 : Memref sig .scVector .hbm S32x8x16 .f32) (harg6 : arg6.IsWhole) (arg7 : Memref sig .scVector .vmem S5600 .i32) (harg7 : arg7.IsWhole)
  (arg8 : Memref sig .scVector .vmem S2x200x128 .f32) (harg8 : arg8.IsWhole) (arg9 : Memref sig .scVector .vmem S8x128 .f32) (harg9 : arg9.IsWhole)
  (arg10 : Memref sig .scVector .vmem S8x128 .f32) (harg10 : arg10.IsWhole) (arg11 : Memref sig .scVector .vmem S8x16 .f32) (harg11 : arg11.IsWhole)
  (arg12 : DmaSems sig S_) (arg13 : DmaSems sig S_) (v349_r0 : DmaSems sig S_) (v349_r1 : DmaSems sig S_) (v349_r2 : DmaSems sig S_) (v349_r3 : DmaSems sig S_)

  (v15 v18 v21 v24 v27 v30 v33 : BitVec 32) (k0_hw1 : k0_chk1 v15) (k0_hw2 : k0_chk2 v15 v18) (k0_hw3 : k0_chk3 v18 v21) (k0_hw4 : k0_chk4 v21 v24)
  (k0_hw5 : k0_chk5 v24 v27) (k0_hw6 : k0_chk6 v27 v30) (k0_hw7 : k0_chk7 v30 v33) (z : Elt F .f32) (k0_t2 : Fin k0_t2_loop.trips) (d : Dev nD)

theorem part83_wp (X G H : ℕ → ℕ → Elt F .f32) {R : sProp (𝕄 F)} {Q : _ → sProp (𝕄 F)}
    (hk : iprop(Chunk d i (slot0 arg8) X ∗ Tabs d i arg9 arg10 (bds v15 v18 v21 v24 v27 v30 v33) (base0 k0_t2) X z G H 4 ∗ R) ⊢ Q (Scalar.subi v24 (base0 k0_t2))) :
    iprop(Chunk d i (slot0 arg8) X ∗ Tabs d i arg9 arg10 (bds v15 v18 v21 v24 v27 v30 v33) (base0 k0_t2) X z G H 1 ∗ R) ⊢ wp frame (wpE (defs₀ (F := F)) 𝒱₀ (tileThr d i) none) Set.univ
      (k0_part83 (F := F) i arg2 harg2 arg3 harg3 arg4 harg4 arg5 harg5 arg6 harg6 arg7 harg7 arg8 harg8 arg9 harg9 arg10 harg10 arg11 harg11 arg12 arg13 v349_r0 v349_r1 v349_r2 v349_r3 v15 v18 k0_hw2 v21 k0_hw3 v24 k0_hw4 (fun _ => z) k0_t2 (base0 k0_t2) (loOf v15 (base0 k0_t2)) (hiOf v15 v18 (base0 k0_t2)) (mainUb (loOf v15 (base0 k0_t2)) (hiOf v15 v18 (base0 k0_t2)))) Q := by
  obtain ⟨hok1, rem1, hok2, rem2, hok3, rem3, h⟩ := part83_eq i arg2 harg2 arg3 harg3 arg4 harg4 arg5 harg5 arg6 harg6 arg7 harg7 arg8 harg8 arg9 harg9 arg10 harg10 arg11 harg11 arg12 arg13 v349_r0 v349_r1 v349_r2 v349_r3 v15 v18 v21 v24 k0_hw2 k0_hw3 k0_hw4 z k0_t2
  rw [h]
  refine step_wp d i (slot0 arg8) arg9 arg10 (bds v15 v18 v21 v24 v27 v30 v33) (base0 k0_t2) 1 (by decide) z hok1 rem1 X G H ?_
  refine step_wp d i (slot0 arg8) arg9 arg10 (bds v15 v18 v21 v24 v27 v30 v33) (base0 k0_t2) 2 (by decide) z hok2 rem2 X G H ?_
  refine step_wp d i (slot0 arg8) arg9 arg10 (bds v15 v18 v21 v24 v27 v30 v33) (base0 k0_t2) 3 (by decide) z hok3 rem3 X G H ?_
  exact pure_wp d i _ hk

theorem part84_wp (X G H : ℕ → ℕ → Elt F .f32) {R : sProp (𝕄 F)} {Q : _ → sProp (𝕄 F)}
    (hk : iprop(Chunk d i (slot0 arg8) X ∗ Tabs d i arg9 arg10 (bds v15 v18 v21 v24 v27 v30 v33) (base0 k0_t2) X z G H 6 ∗ R) ⊢ Q ⟨(loOf v30 (base0 k0_t2)), (hiOf v30 v33 (base0 k0_t2)), Scalar.subi (hiOf v30 v33 (base0 k0_t2)) (loOf v30 (base0 k0_t2))⟩) :
    iprop(Chunk d i (slot0 arg8) X ∗ Tabs d i arg9 arg10 (bds v15 v18 v21 v24 v27 v30 v33) (base0 k0_t2) X z G H 4 ∗ R) ⊢ wp frame (wpE (defs₀ (F := F)) 𝒱₀ (tileThr d i) none) Set.univ
      (k0_part84 (F := F) i arg2 harg2 arg3 harg3 arg4 harg4 arg5 harg5 arg6 harg6 arg7 harg7 arg8 harg8 arg9 harg9 arg10 harg10 arg11 harg11 arg12 arg13 v349_r0 v349_r1 v349_r2 v349_r3 v24 v27 k0_hw5 v30 k0_hw6 v33 (fun _ => z) k0_t2 (base0 k0_t2) (Scalar.subi v24 (base0 k0_t2))) Q := by
  obtain ⟨hok4, rem4, hok5, rem5, h⟩ := part84_eq i arg2 harg2 arg3 harg3 arg4 harg4 arg5 harg5 arg6 harg6 arg7 harg7 arg8 harg8 arg9 harg9 arg10 harg10 arg11 harg11 arg12 arg13 v349_r0 v349_r1 v349_r2 v349_r3 v24 v27 v30 v33 k0_hw5 k0_hw6 z k0_t2
  rw [h]
  refine step_wp d i (slot0 arg8) arg9 arg10 (bds v15 v18 v21 v24 v27 v30 v33) (base0 k0_t2) 4 (by decide) z hok4 rem4 X G H ?_
  refine step_wp d i (slot0 arg8) arg9 arg10 (bds v15 v18 v21 v24 v27 v30 v33) (base0 k0_t2) 5 (by decide) z hok5 rem5 X G H ?_
  exact pure_wp d i _ hk

theorem part86_wp (X G H : ℕ → ℕ → Elt F .f32) {R : sProp (𝕄 F)} {Q : _ → sProp (𝕄 F)}
    (hk : iprop(Chunk d i (slot1 arg8) X ∗ Tabs d i arg9 arg10 (bds v15 v18 v21 v24 v27 v30 v33) (base1 k0_t2) X z G H 2 ∗ R) ⊢ Q ⟨base1 k0_t2, (loOf v18 (base1 k0_t2))⟩) :
    iprop(Chunk d i (slot1 arg8) X ∗ Tabs d i arg9 arg10 (bds v15 v18 v21 v24 v27 v30 v33) (base1 k0_t2) X z G H 0 ∗ R) ⊢ wp frame (wpE (defs₀ (F := F)) 𝒱₀ (tileThr d i) none) Set.univ
      (k0_part86 (F := F) i arg2 harg2 arg3 harg3 arg4 harg4 arg5 harg5 arg6 harg6 arg7 harg7 arg8 harg8 arg9 harg9 arg10 harg10 arg11 harg11 arg12 arg13 v349_r0 v349_r1 v349_r2 v349_r3 v15 k0_hw1 v18 k0_hw2 (fun _ => z) 0#32 k0_t2 (iv2 k0_t2) 2#32) Q := by
  obtain ⟨hok0, rem0, hok1, rem1, h⟩ := part86_eq i arg2 harg2 arg3 harg3 arg4 harg4 arg5 harg5 arg6 harg6 arg7 harg7 arg8 harg8 arg9 harg9 arg10 harg10 arg11 harg11 arg12 arg13 v349_r0 v349_r1 v349_r2 v349_r3 v15 v18 k0_hw1 k0_hw2 z k0_t2
  rw [h]
  refine step_wp d i (slot1 arg8) arg9 arg10 (bds v15 v18 v21 v24 v27 v30 v33) (base1 k0_t2) 0 (by decide) z hok0 rem0 X G H ?_
  refine step_wp d i (slot1 arg8) arg9 arg10 (bds v15 v18 v21 v24 v27 v30 v33) (base1 k0_t2) 1 (by decide) z hok1 rem1 X G H ?_
  exact pure_wp d i _ hk

theorem part87_wp (X G H : ℕ → ℕ → Elt F .f32) {R : sProp (𝕄 F)} {Q : _ → sProp (𝕄 F)}
    (hk : iprop(Chunk d i (slot1 arg8) X ∗ Tabs d i arg9 arg10 (bds v15 v18 v21 v24 v27 v30 v33) (base1 k0_t2) X z G H 4 ∗ R) ⊢ Q ⟨(loOf v24 (base1 k0_t2)), (hiOf v24 v27 (base1 k0_t2)), Scalar.muli (Scalar.divsi (Scalar.subi (hiOf v24 v27 (base1 k0_t2)) (loOf v24 (base1 k0_t2))) 1#32) 1#32⟩) :
    iprop(Chunk d i (slot1 arg8) X ∗ Tabs d i arg9 arg10 (bds v15 v18 v21 v24 v27 v30 v33) (base1 k0_t2) X z G H 2 ∗ R) ⊢ wp frame (wpE (defs₀ (F := F)) 𝒱₀ (tileThr d i) none) Set.univ
      (k0_part87 (F := F) i arg2 harg2 arg3 harg3 arg4 harg4 arg5 harg5 arg6 harg6 arg7 harg7 arg8 harg8 arg9 harg9 arg10 harg10 arg11 harg11 arg12 arg13 v349_r0 v349_r1 v349_r2 v349_r3 v18 v21 k0_hw3 v24 k0_hw4 v27 (fun _ => z) k0_t2 (base1 k0_t2) (loOf v18 (base1 k0_t2))) Q := by
  obtain ⟨hok2, rem2, hok3, rem3, h⟩ := part87_eq i arg2 harg2 arg3 harg3 arg4 harg4 arg5 harg5 arg6 harg6 arg7 harg7 arg8 harg8 arg9 harg9 arg10 harg10 arg11 harg11 arg12 arg13 v349_r0 v349_r1 v349_r2 v349_r3 v18 v21 v24 v27 k0_hw3 k0_hw4 z k0_t2
  rw [h]
  refine step_wp d i (slot1 arg8) arg9 arg10 (bds v15 v18 v21 v24 v27 v30 v33) (base1 k0_t2) 2 (by decide) z hok2 rem2 X G H ?_
  refine step_wp d i (slot1 arg8) arg9 arg10 (bds v15 v18 v21 v24 v27 v30 v33) (base1 k0_t2) 3 (by decide) z hok3 rem3 X G H ?_
  exact pure_wp d i _ hk

theorem part88_wp (X G H : ℕ → ℕ → Elt F .f32) {R : sProp (𝕄 F)} {Q : _ → sProp (𝕄 F)}
    (hk : iprop(Chunk d i (slot1 arg8) X ∗ Tabs d i arg9 arg10 (bds v15 v18 v21 v24 v27 v30 v33) (base1 k0_t2) X z G H 7 ∗ R) ⊢ Q ⟨⟩) :
    iprop(Chunk d i (slot1 arg8) X ∗ Tabs d i arg9 arg10 (bds v15 v18 v21 v24 v27 v30 v33) (base1 k0_t2) X z G H 4 ∗ R) ⊢ wp frame (wpE (defs₀ (F := F)) 𝒱₀ (tileThr d i) none) Set.univ
      (k0_part88 (F := F) i arg2 harg2 arg3 harg3 arg4 harg4 arg5 harg5 arg6 harg6 arg7 harg7 arg8 harg8 arg9 harg9 arg10 harg10 arg11 harg11 arg12 arg13 v349_r0 v349_r1 v349_r2 v349_r3 v24 v27 k0_hw5 v30 k0_hw6 v33 k0_hw7 (fun _ => z) k0_t2 (base1 k0_t2) (loOf v24 (base1 k0_t2)) (hiOf v24 v27 (base1 k0_t2)) (Scalar.muli (Scalar.divsi (Scalar.subi (hiOf v24 v27 (base1 k0_t2)) (loOf v24 (base1 k0_t2))) 1#32) 1#32)) Q := by
  obtain ⟨hok4, rem4, hok5, rem5, hok6, rem6, h⟩ := part88_eq i arg2 harg2 arg3 harg3 arg4 harg4 arg5 harg5 arg6 harg6 arg7 harg7 arg8 harg8 arg9 harg9 arg10 harg10 arg11 harg11 arg12 arg13 v349_r0 v349_r1 v349_r2 v349_r3 v24 v27 v30 v33 k0_hw5 k0_hw6 k0_hw7 z k0_t2
  rw [h]
  refine step_wp d i (slot1 arg8) arg9 arg10 (bds v15 v18 v21 v24 v27 v30 v33) (base1 k0_t2) 4 (by decide) z hok4 rem4 X G H ?_
  refine step_wp d i (slot1 arg8) arg9 arg10 (bds v15 v18 v21 v24 v27 v30 v33) (base1 k0_t2) 5 (by decide) z hok5 rem5 X G H ?_
  refine step_wp d i (slot1 arg8) arg9 arg10 (bds v15 v18 v21 v24 v27 v30 v33) (base1 k0_t2) 6 (by decide) z hok6 rem6 X G H ?_
  exact pure_wp d i _ hk

theorem part82_wp (O : CellTallies nD τ sig (HIx 1)) (W : Waits sig (HIx 1)) (q0 q1 : PosShare TreeShare) (fx : Buf (Elt F) (arg2.view.loc (tileThr d i))) (X G H : ℕ → ℕ → Elt F .f32) {R : sProp (𝕄 F)} {Q : _ → sProp (𝕄 F)}
    (hk : iprop(Chunk d i (slot0 arg8) X ∗ Tabs d i arg9 arg10 (bds v15 v18 v21 v24 v27 v30 v33) (base0 k0_t2) X z G H 1
        ∗ (XShare d i arg2 q0 fx ∗ semVal (tileThr d i, SemLoc.dma arg12.sem) 0) ∗ Owed (tileThr d i) O W ∗ R)
      ⊢ Q ⟨iv2 k0_t2, base0 k0_t2, (loOf v15 (base0 k0_t2)), (hiOf v15 v18 (base0 k0_t2)), mainUb (loOf v15 (base0 k0_t2)) (hiOf v15 v18 (base0 k0_t2))⟩) :
    iprop(Pending d i arg2 (slot0 arg8) arg12.sem q0 fx X ∗ Owed (tileThr d i) O W ∗ Tabs d i arg9 arg10 (bds v15 v18 v21 v24 v27 v30 v33) (base0 k0_t2) X z G H 0 ∗ R) ⊢ wp frame (wpE (defs₀ (F := F)) 𝒱₀ (tileThr d i) none) Set.univ
      (k0_part82 (F := F) i arg2 harg2 arg3 harg3 arg4 harg4 arg5 harg5 arg6 harg6 arg7 harg7 arg8 harg8 arg9 harg9 arg10 harg10 arg11 harg11 arg12 arg13 v349_r0 v349_r1 v349_r2 v349_r3 v15 k0_hw1 v18 (fun _ => z) 0#32 0#32 1#32 k0_t2) Q := by
  obtain ⟨hok0, rem0, h⟩ := part82_eq i arg2 harg2 arg3 harg3 arg4 harg4 arg5 harg5 arg6 harg6 arg7 harg7 arg8 harg8 arg9 harg9 arg10 harg10 arg11 harg11 arg12 arg13 v349_r0 v349_r1 v349_r2 v349_r3 v15 v18 k0_hw1 z k0_t2
  rw [h]
  refine await_wp d i arg2 (slot0 arg8) arg12.sem q0 fx X O W _ ?_
  refine BIBase.Entails.trans ?_ (step_wp d i (slot0 arg8) arg9 arg10 (bds v15 v18 v21 v24 v27 v30 v33) (base0 k0_t2) 0 (by decide) z hok0 rem0 X G H (R := iprop((XShare d i arg2 q0 fx ∗ semVal (tileThr d i, SemLoc.dma arg12.sem) 0) ∗ Owed (tileThr d i) O W ∗ R)) (pure_wp d i _ ?_))
  iintro ⟨Hv, Hx, HO, HT, HR⟩
  isplitl [Hv]
  · iexact Hv
  isplitl [HT]
  · iexact HT
  isplitl [Hx]
  · iexact Hx
  isplitl [HO]
  · iexact HO
  · iexact HR
  · refine BIBase.Entails.trans ?_ hk
    iintro ⟨Hv, HT, Hx, HO, HR⟩
    isplitl [Hv]
    · iexact Hv
    isplitl [HT]
    · iexact HT
    isplitl [Hx]
    · iexact Hx
    isplitl [HO] <;> iassumption

/-- The even chunks' next copy: on its way while there is one, else none. -/
def Next (v : Memref sig .scVector .vmem S200x128 .f32) (sem : DmaSem sig) (q : PosShare TreeShare) (fx : Buf (Elt F) (arg2.view.loc (tileThr d i)))
    (xN : ℕ → ℕ → Elt F .f32) (w n r₀ : ℕ) : sProp (𝕄 F) :=
  if n < 14 then Pending d i arg2 v sem q fx (rowsFrom xN (w + r₀)) else Idle d i arg2 v sem q fx

theorem part85_wp (v3 : BitVec 32) (O : CellTallies nD τ sig (HIx 1)) (W : Waits sig (HIx 1)) (q0 q1 : PosShare TreeShare) (fx : Buf (Elt F) (arg2.view.loc (tileThr d i))) (xN : ℕ → ℕ → Elt F .f32) (hx : ∀ y : S320000x128.Idx, arg2.view.read (Elt F) fx y = xN (y 0).val (y 1).val) (w : ℕ)
    (hoff : k0_cond9 k0_t2 = 1#1 ↔ k0_t2.val + 1 < 14) (h0 : k0_t2.val + 1 < 14 → k0_off133 i k0_t2 0 = w + 400 * (k0_t2.val + 1)) (h1 : k0_off133 i k0_t2 1 = 0)
    (X Y G H : ℕ → ℕ → Elt F .f32) {R : sProp (𝕄 F)} {Q : _ → sProp (𝕄 F)}
    (hk : iprop(Chunk d i (slot1 arg8) Y ∗ (XShare d i arg2 q1 fx ∗ semVal (tileThr d i, SemLoc.dma arg13.sem) 0) ∗ Owed (tileThr d i) O W
        ∗ Next i arg2 d (slot0 arg8) arg12.sem q0 fx xN w (k0_t2.val + 1) (400 * (k0_t2.val + 1))
        ∗ Tabs d i arg9 arg10 (bds v15 v18 v21 v24 v27 v30 v33) (base0 k0_t2) X z G H 8 ∗ R)
      ⊢ Q 2#32) :
    iprop(Chunk d i (slot0 arg8) X ∗ Tabs d i arg9 arg10 (bds v15 v18 v21 v24 v27 v30 v33) (base0 k0_t2) X z G H 6
        ∗ (XShare d i arg2 q0 fx ∗ semVal (tileThr d i, SemLoc.dma arg12.sem) 0) ∗ Owed (tileThr d i) O W ∗ Pending d i arg2 (slot1 arg8) arg13.sem q1 fx Y ∗ R) ⊢ wp frame (wpE (defs₀ (F := F)) 𝒱₀ (tileThr d i) none) Set.univ
      (k0_part85 (F := F) i arg2 harg2 arg3 harg3 arg4 harg4 arg5 harg5 arg6 harg6 arg7 harg7 arg8 harg8 arg9 harg9 arg10 harg10 arg11 harg11 arg12 arg13 v349_r0 v349_r1 v349_r2 v349_r3 v3 v30 v33 k0_hw7 (fun _ => z) 5600#32 k0_t2 (iv2 k0_t2) (base0 k0_t2) (loOf v30 (base0 k0_t2)) (hiOf v30 v33 (base0 k0_t2)) (Scalar.subi (hiOf v30 v33 (base0 k0_t2)) (loOf v30 (base0 k0_t2)))) Q := by
  obtain ⟨hok6, rem6, hok7, rem7, h⟩ := part85_eq i arg2 harg2 arg3 harg3 arg4 harg4 arg5 harg5 arg6 harg6 arg7 harg7 arg8 harg8 arg9 harg9 arg10 harg10 arg11 harg11 arg12 arg13 v349_r0 v349_r1 v349_r2 v349_r3 v30 v33 k0_hw7 z k0_t2 v3
  rw [h]
  refine step_wp d i (slot0 arg8) arg9 arg10 (bds v15 v18 v21 v24 v27 v30 v33) (base0 k0_t2) 6 (by decide) z hok6 rem6 X G H ?_
  refine step_wp d i (slot0 arg8) arg9 arg10 (bds v15 v18 v21 v24 v27 v30 v33) (base0 k0_t2) 7 (by decide) z hok7 rem7 X G H ?_
  by_cases hc : k0_cond9 k0_t2 = 1#1
  · rw [dif_pos hc]
    have hlt := hoff.mp hc
    refine BIBase.Entails.trans ?_ (issue_wp d i arg2 (slot0 arg8) arg12.sem q0 fx xN hx (k0_off133 i k0_t2) (k0_off133_inb i k0_t2 hc) (w + 400 * (k0_t2.val + 1)) (h0 hlt) h1
      (R := iprop(Owed (tileThr d i) O W ∗ Pending d i arg2 (slot1 arg8) arg13.sem q1 fx Y ∗ Tabs d i arg9 arg10 (bds v15 v18 v21 v24 v27 v30 v33) (base0 k0_t2) X z G H 8 ∗ R)) ?_)
    · unfold Idle
      iintro ⟨Hv, HT, ⟨Hx, Hs⟩, HO, HP, HR⟩
      isplitl [Hv Hx Hs]
      · isplitl [Hv]
        · iexists X; iexact Hv
        · isplitl [Hx] <;> iassumption
      isplitl [HO]
      · iexact HO
      isplitl [HP]
      · iexact HP
      · isplitl [HT] <;> iassumption
    · refine BIBase.Entails.trans ?_ (await_wp d i arg2 (slot1 arg8) arg13.sem q1 fx Y O W _
        (R := iprop(Next i arg2 d (slot0 arg8) arg12.sem q0 fx xN w (k0_t2.val + 1) (400 * (k0_t2.val + 1)) ∗ Tabs d i arg9 arg10 (bds v15 v18 v21 v24 v27 v30 v33) (base0 k0_t2) X z G H 8 ∗ R)) (pure_wp d i _ ?_))
      · unfold Next
        rw [if_pos hlt]
        iintro ⟨Hn, HO, HP, HT, HR⟩
        isplitl [HP]
        · iexact HP
        isplitl [HO]
        · iexact HO
        isplitl [Hn]
        · iexact Hn
        isplitl [HT] <;> iassumption
      · refine BIBase.Entails.trans ?_ hk
        iintro ⟨Hv, Hx, HO, HR⟩
        isplitl [Hv]
        · iexact Hv
        isplitl [Hx]
        · iexact Hx
        isplitl [HO]
        · iexact HO
        · iexact HR
  · rw [dif_neg hc]
    have hlt : ¬ k0_t2.val + 1 < 14 := fun h => hc (hoff.mpr h)
    refine BIBase.Entails.trans ?_ (await_wp d i arg2 (slot1 arg8) arg13.sem q1 fx Y O W _
        (R := iprop(Next i arg2 d (slot0 arg8) arg12.sem q0 fx xN w (k0_t2.val + 1) (400 * (k0_t2.val + 1)) ∗ Tabs d i arg9 arg10 (bds v15 v18 v21 v24 v27 v30 v33) (base0 k0_t2) X z G H 8 ∗ R)) (pure_wp d i _ ?_))
    · unfold Next
      rw [if_neg hlt]
      unfold Idle
      iintro ⟨Hv, HT, ⟨Hx, Hs⟩, HO, HP, HR⟩
      isplitl [HP]
      · iexact HP
      isplitl [HO]
      · iexact HO
      isplitl [Hv Hx Hs]
      · isplitl [Hv]
        · iexists X; iexact Hv
        · isplitl [Hx] <;> iassumption
      isplitl [HT] <;> iassumption
    · refine BIBase.Entails.trans ?_ hk
      iintro ⟨Hv, Hx, HO, HR⟩
      isplitl [Hv]
      · iexact Hv
      isplitl [Hx]
      · iexact Hx
      isplitl [HO]
      · iexact HO
      · iexact HR

end Cert.Proof

end
-- ==== Proof.Fill.lean ====
/-
  The tables set to zero, and the counts written row by row.
-/
module

public import proofs.«01_k».proof.Proof.PartsWp

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- `z` put into lanes `[j, j + 16)` of row `t`. -/
def putG (t j : ℕ) (z : Elt F .f32) (G : ℕ → ℕ → Elt F .f32) : ℕ → ℕ → Elt F .f32 :=
  fun r c => if r = t ∧ j ≤ c ∧ c < j + 16 then z else G r c

/-- The first `n` groups of sixteen lanes filled with `z`. -/
def fillTo (z : Elt F .f32) (G : ℕ → ℕ → Elt F .f32) (n : ℕ) : ℕ → ℕ → Elt F .f32 :=
  fun r c => if 8 * r + c / 16 < n then z else G r c

theorem cntRect_inb {t : ℕ} (ht : t + 1 ≤ 8) : ∀ a, (![t, 0] : Fin 2 → ℕ) a + S1x16.size a ≤ S8x16.size a
  | 0 => ht
  | 1 => show 0 + 16 ≤ 16 by decide

abbrev cntRect {t : ℕ} (ht : t + 1 ≤ 8) : Rect S8x16 := Rect.unit (s := S8x16) ![t, 0] S1x16.size (cntRect_inb ht)

/-- The buffer of the counts holds the table `G`. -/
def HoldsC (d : Dev nD) (L : grid0.Coords) (m : Memref sig .scVector .vmem S8x16 .f32) (G : ℕ → ℕ → Elt F .f32) : sProp (𝕄 F) :=
  iprop(∃ f : Buf (Elt F) (m.view.loc (tileThr d L)), (m.view.loc (tileThr d L) ↦[m.view.set]{fullShare} f)
    ∗ ⌜∀ y : S8x16.Idx, m.view.read (Elt F) f y = G (y 0).val (y 1).val⌝)

theorem load_wp (d : Dev nD) (L : grid0.Coords) (m : Memref sig .scVector .vmem S8x128 .f32) {t j : ℕ} (ht : t + 1 ≤ 8) (hj : j + 16 ≤ 128) (G : ℕ → ℕ → Elt F .f32) :
    Holds d L m G ⊢ wp frame (wpE (defs₀ (F := F)) 𝒱₀ (tileThr d L) none) Set.univ
      (Prog.lift (.load m (rowRect ht hj).toLoadRect (View.loadsAt_vmem h_S1x16)) : TileProg F L _) fun _ => Holds d L m G := by
  unfold Holds
  iintro ⟨%f, Hm, %e⟩
  sl_exec
  sl_step
  iexists _
  isplitl [Hm]
  · iexact Hm
  · ipureintro; exact e

theorem put_wp (d : Dev nD) (L : grid0.Coords) (m : Memref sig .scVector .vmem S8x128 .f32) {t j : ℕ} (ht : t + 1 ≤ 8) (hj : j + 16 ≤ 128) (z : Elt F .f32) (G : ℕ → ℕ → Elt F .f32) :
    Holds d L m G ⊢ wp frame (wpE (defs₀ (F := F)) 𝒱₀ (tileThr d L) none) Set.univ
      (Prog.lift (.store m (rowRect ht hj) (shapeCast S1x16 (fun _ => z : L16 F) shapeCasts_S16_S1x16) Finset.univ (View.stores_vmem_bits_univ h_S1x16 rfl) (.inl rfl)) : TileProg F L PUnit)
      fun _ => Holds d L m (putG t j z G) := by
  unfold Holds
  iintro ⟨%f, Hm, %e⟩
  sl_exec
  sl_step
  iexists _
  isplitl [Hm]
  · iexact Hm
  · ipureintro
    intro y
    have hy1 : (y 1).val < 128 := (y 1).isLt
    by_cases h : (y 0).val = t ∧ j ≤ (y 1).val ∧ (y 1).val < j + 16
    · have hG : putG t j z G (y 0).val (y 1).val = z := if_pos h
      rw [hG]
      let x : S1x16.Idx := fun | 0 => (0 : Fin 1) | 1 => (⟨(y 1).val - j, by omega⟩ : Fin 16)
      have hx : ∀ a, (y a).val = (![t, j] : Fin 2 → ℕ) a + (x a).val := fun
        | 0 => h.1
        | 1 => show (y 1).val = j + ((y 1).val - j) by omega
      exact View.read_writes_cons_unit_of_mem m.view f (rowRect_inb ht hj) _ [] y x rfl hx
    · have hG : putG t j z G (y 0).val (y 1).val = G (y 0).val (y 1).val := if_neg h
      rw [hG, ← e y]
      by_cases h0 : (y 0).val = t
      · exact View.read_writes_cons_unit_of_not_mem m.view f (rowRect_inb ht hj) _ [] y rfl (1 : Fin 2) (by show (y 1).val < j ∨ j + 16 ≤ (y 1).val; omega)
      · exact View.read_writes_cons_unit_of_not_mem m.view f (rowRect_inb ht hj) _ [] y rfl (0 : Fin 2) (by show (y 0).val < t ∨ t + 1 ≤ (y 0).val; omega)

theorem loadC_wp (d : Dev nD) (L : grid0.Coords) (m : Memref sig .scVector .vmem S8x16 .f32) {t : ℕ} (ht : t + 1 ≤ 8) (G : ℕ → ℕ → Elt F .f32) :
    HoldsC d L m G ⊢ wp frame (wpE (defs₀ (F := F)) 𝒱₀ (tileThr d L) none) Set.univ
      (Prog.lift (.load m (cntRect ht).toLoadRect (View.loadsAt_vmem h_S1x16)) : TileProg F L _) fun _ => HoldsC d L m G := by
  unfold HoldsC
  iintro ⟨%f, Hm, %e⟩
  sl_exec
  sl_step
  iexists _
  isplitl [Hm]
  · iexact Hm
  · ipureintro; exact e

theorem putC_wp (d : Dev nD) (L : grid0.Coords) (m : Memref sig .scVector .vmem S8x16 .f32) {t : ℕ} (ht : t + 1 ≤ 8) (z : Elt F .f32) (G : ℕ → ℕ → Elt F .f32) :
    HoldsC d L m G ⊢ wp frame (wpE (defs₀ (F := F)) 𝒱₀ (tileThr d L) none) Set.univ
      (Prog.lift (.store m (cntRect ht) (shapeCast S1x16 (fun _ => z : L16 F) shapeCasts_S16_S1x16) Finset.univ (View.stores_vmem_bits_univ h_S1x16 rfl) (.inl rfl)) : TileProg F L PUnit)
      fun _ => HoldsC d L m (putG t 0 z G) := by
  unfold HoldsC
  iintro ⟨%f, Hm, %e⟩
  sl_exec
  sl_step
  iexists _
  isplitl [Hm]
  · iexact Hm
  · ipureintro
    intro y
    have hy1 : (y 1).val < 16 := (y 1).isLt
    by_cases h : (y 0).val = t ∧ 0 ≤ (y 1).val ∧ (y 1).val < 0 + 16
    · have hG : putG t 0 z G (y 0).val (y 1).val = z := if_pos h
      rw [hG]
      let x : S1x16.Idx := fun | 0 => (0 : Fin 1) | 1 => (⟨(y 1).val - 0, by omega⟩ : Fin 16)
      have hx : ∀ a, (y a).val = (![t, 0] : Fin 2 → ℕ) a + (x a).val := fun
        | 0 => h.1
        | 1 => show (y 1).val = 0 + ((y 1).val - 0) by omega
      exact View.read_writes_cons_unit_of_mem m.view f (cntRect_inb ht) _ [] y x rfl hx
    · have hG : putG t 0 z G (y 0).val (y 1).val = G (y 0).val (y 1).val := if_neg h
      rw [hG, ← e y]
      by_cases h0 : (y 0).val = t
      · exact View.read_writes_cons_unit_of_not_mem m.view f (cntRect_inb ht) _ [] y rfl (1 : Fin 2) (by show (y 1).val < 0 ∨ 0 + 16 ≤ (y 1).val; omega)
      · exact View.read_writes_cons_unit_of_not_mem m.view f (cntRect_inb ht) _ [] y rfl (0 : Fin 2) (by show (y 0).val < t ∨ t + 1 ≤ (y 0).val; omega)

theorem putG_fillTo {t j k : ℕ} (hk : k = 8 * t + j / 16) (h16 : 16 * (j / 16) = j) (z : Elt F .f32) (G : ℕ → ℕ → Elt F .f32) (r c : ℕ) (hc : c < 128) (hj : j + 16 ≤ 128) :
    putG t j z (fillTo z G k) r c = fillTo z G (k + 1) r c := by
  unfold putG fillTo
  by_cases h : r = t ∧ j ≤ c ∧ c < j + 16
  · rw [if_pos h, if_pos (by omega)]
  · rw [if_neg h]
    by_cases h2 : 8 * r + c / 16 < k
    · rw [if_pos h2, if_pos (by omega)]
    · rw [if_neg h2, if_neg (by omega)]

/-- One lane group of both tables filled. -/
theorem fillPair_wp (d : Dev nD) (L : grid0.Coords) (m n : Memref sig .scVector .vmem S8x128 .f32) (z : Elt F .f32) (G H : ℕ → ℕ → Elt F .f32)
    {t j k : ℕ} (ht : t + 1 ≤ 8) (hj : j + 16 ≤ 128) (hk : k = 8 * t + j / 16) (h16 : 16 * (j / 16) = j)
    {R : sProp (𝕄 F)} {α : Type} {e : TileProg F L α} {Q : α → sProp (𝕄 F)}
    (h : iprop(Holds d L m (fillTo z G (k + 1)) ∗ Holds d L n (fillTo z H (k + 1)) ∗ R) ⊢ wp frame (wpE (defs₀ (F := F)) 𝒱₀ (tileThr d L) none) Set.univ e Q) :
    iprop(Holds d L m (fillTo z G k) ∗ Holds d L n (fillTo z H k) ∗ R) ⊢ wp frame (wpE (defs₀ (F := F)) 𝒱₀ (tileThr d L) none) Set.univ
      ((Prog.lift (.load m (rowRect ht hj).toLoadRect (View.loadsAt_vmem h_S1x16)) : TileProg F L _) >>= fun _ =>
        (Prog.lift (.store m (rowRect ht hj) (shapeCast S1x16 (fun _ => z : L16 F) shapeCasts_S16_S1x16) Finset.univ (View.stores_vmem_bits_univ h_S1x16 rfl) (.inl rfl)) : TileProg F L PUnit) >>= fun _ =>
        (Prog.lift (.load n (rowRect ht hj).toLoadRect (View.loadsAt_vmem h_S1x16)) : TileProg F L _) >>= fun _ =>
        (Prog.lift (.store n (rowRect ht hj) (shapeCast S1x16 (fun _ => z : L16 F) shapeCasts_S16_S1x16) Finset.univ (View.stores_vmem_bits_univ h_S1x16 rfl) (.inl rfl)) : TileProg F L PUnit) >>= fun _ => e) Q := by
  refine seq_wp (load_wp d L m ht hj _) fun _ => seq_wp (put_wp d L m ht hj z _) fun _ => ?_
  refine BIBase.Entails.trans (Q := iprop(Holds d L n (fillTo z H k) ∗ (Holds d L m (putG t j z (fillTo z G k)) ∗ R))) ?_
    (seq_wp (load_wp d L n ht hj _) fun _ => seq_wp (put_wp d L n ht hj z _) fun _ => BIBase.Entails.trans ?_ h)
  · iintro ⟨Hm, Hn, HR⟩
    isplitl [Hn]
    · iexact Hn
    isplitl [Hm] <;> iassumption
  · iintro ⟨Hn, Hm, HR⟩
    isplitl [Hm]
    · iapply (Holds.congr fun r c _ hc => putG_fillTo hk h16 z G r c hc hj) $$ Hm
    isplitl [Hn]
    · iapply (Holds.congr fun r c _ hc => putG_fillTo hk h16 z H r c hc hj) $$ Hn
    · iexact HR

/-- The counts written so far: row `r` below `n` holds `v r`. -/
def cntTo (v : ℕ → Elt F .f32) (G : ℕ → ℕ → Elt F .f32) (n : ℕ) : ℕ → ℕ → Elt F .f32 :=
  fun r c => if r < n then v r else G r c

theorem putC_to (d : Dev nD) (L : grid0.Coords) (m : Memref sig .scVector .vmem S8x16 .f32) {t : ℕ} (ht : t + 1 ≤ 8) (v : ℕ → Elt F .f32) (G : ℕ → ℕ → Elt F .f32)
    {R : sProp (𝕄 F)} {α : Type} {e : TileProg F L α} {Q : α → sProp (𝕄 F)}
    (h : iprop(HoldsC d L m (cntTo v G (t + 1)) ∗ R) ⊢ wp frame (wpE (defs₀ (F := F)) 𝒱₀ (tileThr d L) none) Set.univ e Q) :
    iprop(HoldsC d L m (cntTo v G t) ∗ R) ⊢ wp frame (wpE (defs₀ (F := F)) 𝒱₀ (tileThr d L) none) Set.univ
      ((Prog.lift (.store m (cntRect ht) (shapeCast S1x16 (fun _ => v t : L16 F) shapeCasts_S16_S1x16) Finset.univ (View.stores_vmem_bits_univ h_S1x16 rfl) (.inl rfl)) : TileProg F L PUnit) >>= fun _ => e) Q := by
  refine seq_wp (putC_wp d L m ht (v t) _) fun _ => BIBase.Entails.trans ?_ h
  unfold HoldsC
  iintro ⟨⟨%f, Hf, %e⟩, HR⟩
  isplitl [Hf]
  · iexists f
    isplitl [Hf]
    · iexact Hf
    · ipureintro
      intro y
      rw [e y]
      have hy : (y 1).val < 16 := (y 1).isLt
      unfold putG cntTo
      by_cases hr : (y 0).val = t
      · rw [if_pos ⟨hr, by omega, by omega⟩, if_pos (by omega), hr]
      · rw [if_neg (fun hh => hr hh.1)]
        by_cases h2 : (y 0).val < t
        · rw [if_pos h2, if_pos (by omega)]
        · rw [if_neg h2, if_neg (by omega)]
  · iexact HR

theorem loadC_to (d : Dev nD) (L : grid0.Coords) (m : Memref sig .scVector .vmem S8x16 .f32) {t : ℕ} (ht : t + 1 ≤ 8) (G : ℕ → ℕ → Elt F .f32)
    {R : sProp (𝕄 F)} {α : Type} {e : TileProg F L α} {Q : α → sProp (𝕄 F)}
    (h : iprop(HoldsC d L m G ∗ R) ⊢ wp frame (wpE (defs₀ (F := F)) 𝒱₀ (tileThr d L) none) Set.univ e Q) :
    iprop(HoldsC d L m G ∗ R) ⊢ wp frame (wpE (defs₀ (F := F)) 𝒱₀ (tileThr d L) none) Set.univ
      ((Prog.lift (.load m (cntRect ht).toLoadRect (View.loadsAt_vmem h_S1x16)) : TileProg F L _) >>= fun _ => e) Q :=
  seq_wp (loadC_wp d L m ht G) fun _ => h

end Cert.Proof

end
-- ==== Proof.Checks.lean ====
/-
  The side conditions on the loops over the rows of a type hold whatever the bounds are: the bounds are cut to the chunk.
-/
module

public import proofs.«01_k».proof.Proof.Parts

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

theorem main_inb (b b' base : BitVec 32) (k : Fin (Scf.trips (loOf b base) (mainUb (loOf b base) (hiOf b b' base)) 1#32)) {j : ℕ} (hj : j + 16 ≤ 128) :
    ∀ a, (![(Scalar.indexCast (Scf.iv (loOf b base) 1#32 k)).toNat, j] : Fin 2 → ℕ) a + S1x16.size a ≤ S200x128.size a
  | 0 => iv_inb (inR b b' base) k.isLt
  | 1 => hj

theorem main_loop_ok (b b' base : BitVec 32) : Scf.OK (loOf b base) (mainUb (loOf b base) (hiOf b b' base)) 1#32 := main_ok (inR b b' base)

theorem rem_none (b b' base : BitVec 32)
    (k : Fin (Scf.trips (mainUb (loOf b base) (hiOf b b' base)) (Scalar.addi (loOf b base) (Scalar.subi (hiOf b b' base) (loOf b base))) 1#32)) {P : Prop} : P :=
  (Scf.rem_no_trip _ _ k).elim

theorem rem_loop_ok (b b' base : BitVec 32) :
    Scf.OK (mainUb (loOf b base) (hiOf b b' base)) (Scalar.addi (loOf b base) (Scalar.subi (hiOf b b' base) (loOf b base))) 1#32 := Scf.rem_ok _ _

set_option maxHeartbeats 4000000 in
theorem chk1 (v15 : BitVec 32) : k0_chk1 v15 := by
  unfold k0_chk1 k0_chk1_0 k0_chk1_1
  refine ⟨?_, ?_⟩
  · refine ⟨fun t => main_loop_ok 0#32 v15 (base0 t), ?_⟩
    iterate 8 refine ⟨fun t k => main_inb 0#32 v15 (base0 t) k (by decide), ?_⟩
    refine ⟨fun t => rem_loop_ok 0#32 v15 (base0 t), ?_⟩
    iterate 8 refine ⟨fun t k => rem_none 0#32 v15 (base0 t) k, ?_⟩
    refine ⟨fun t => main_loop_ok 0#32 v15 (base1 t), ?_⟩
    iterate 8 refine ⟨fun t k => main_inb 0#32 v15 (base1 t) k (by decide), ?_⟩
    refine ⟨fun t => rem_loop_ok 0#32 v15 (base1 t), ?_⟩
    iterate 3 refine ⟨fun t k => rem_none 0#32 v15 (base1 t) k, ?_⟩
    exact fun t k => rem_none 0#32 v15 (base1 t) k
  · iterate 3 refine ⟨fun t k => rem_none 0#32 v15 (base1 t) k, ?_⟩
    exact fun t k => rem_none 0#32 v15 (base1 t) k

theorem chk2 (v15 v18 : BitVec 32) : k0_chk2 v15 v18 := by
  unfold k0_chk2 k0_chk2_0 k0_chk2_1
  refine ⟨?_, ?_⟩
  · refine ⟨fun t => main_loop_ok v15 v18 (base0 t), ?_⟩
    iterate 8 refine ⟨fun t k => main_inb v15 v18 (base0 t) k (by decide), ?_⟩
    refine ⟨fun t => rem_loop_ok v15 v18 (base0 t), ?_⟩
    iterate 8 refine ⟨fun t k => rem_none v15 v18 (base0 t) k, ?_⟩
    refine ⟨fun t => main_loop_ok v15 v18 (base1 t), ?_⟩
    iterate 8 refine ⟨fun t k => main_inb v15 v18 (base1 t) k (by decide), ?_⟩
    refine ⟨fun t => rem_loop_ok v15 v18 (base1 t), ?_⟩
    iterate 3 refine ⟨fun t k => rem_none v15 v18 (base1 t) k, ?_⟩
    exact fun t k => rem_none v15 v18 (base1 t) k
  · iterate 3 refine ⟨fun t k => rem_none v15 v18 (base1 t) k, ?_⟩
    exact fun t k => rem_none v15 v18 (base1 t) k

theorem chk3 (v18 v21 : BitVec 32) : k0_chk3 v18 v21 := by
  unfold k0_chk3 k0_chk3_0 k0_chk3_1
  refine ⟨?_, ?_⟩
  · refine ⟨fun t => main_loop_ok v18 v21 (base0 t), ?_⟩
    iterate 8 refine ⟨fun t k => main_inb v18 v21 (base0 t) k (by decide), ?_⟩
    refine ⟨fun t => rem_loop_ok v18 v21 (base0 t), ?_⟩
    iterate 8 refine ⟨fun t k => rem_none v18 v21 (base0 t) k, ?_⟩
    refine ⟨fun t => main_loop_ok v18 v21 (base1 t), ?_⟩
    iterate 8 refine ⟨fun t k => main_inb v18 v21 (base1 t) k (by decide), ?_⟩
    refine ⟨fun t => rem_loop_ok v18 v21 (base1 t), ?_⟩
    iterate 3 refine ⟨fun t k => rem_none v18 v21 (base1 t) k, ?_⟩
    exact fun t k => rem_none v18 v21 (base1 t) k
  · iterate 3 refine ⟨fun t k => rem_none v18 v21 (base1 t) k, ?_⟩
    exact fun t k => rem_none v18 v21 (base1 t) k

theorem chk4 (v21 v24 : BitVec 32) : k0_chk4 v21 v24 := by
  unfold k0_chk4 k0_chk4_0 k0_chk4_1
  refine ⟨?_, ?_⟩
  · refine ⟨fun t => main_loop_ok v21 v24 (base0 t), ?_⟩
    iterate 8 refine ⟨fun t k => main_inb v21 v24 (base0 t) k (by decide), ?_⟩
    refine ⟨fun t => rem_loop_ok v21 v24 (base0 t), ?_⟩
    iterate 8 refine ⟨fun t k => rem_none v21 v24 (base0 t) k, ?_⟩
    refine ⟨fun t => main_loop_ok v21 v24 (base1 t), ?_⟩
    iterate 8 refine ⟨fun t k => main_inb v21 v24 (base1 t) k (by decide), ?_⟩
    refine ⟨fun t => rem_loop_ok v21 v24 (base1 t), ?_⟩
    iterate 3 refine ⟨fun t k => rem_none v21 v24 (base1 t) k, ?_⟩
    exact fun t k => rem_none v21 v24 (base1 t) k
  · iterate 3 refine ⟨fun t k => rem_none v21 v24 (base1 t) k, ?_⟩
    exact fun t k => rem_none v21 v24 (base1 t) k

theorem chk5 (v24 v27 : BitVec 32) : k0_chk5 v24 v27 := by
  unfold k0_chk5 k0_chk5_0 k0_chk5_1
  refine ⟨?_, ?_⟩
  · refine ⟨fun t => main_loop_ok v24 v27 (base0 t), ?_⟩
    iterate 8 refine ⟨fun t k => main_inb v24 v27 (base0 t) k (by decide), ?_⟩
    refine ⟨fun t => rem_loop_ok v24 v27 (base0 t), ?_⟩
    iterate 8 refine ⟨fun t k => rem_none v24 v27 (base0 t) k, ?_⟩
    refine ⟨fun t => main_loop_ok v24 v27 (base1 t), ?_⟩
    iterate 8 refine ⟨fun t k => main_inb v24 v27 (base1 t) k (by decide), ?_⟩
    refine ⟨fun t => rem_loop_ok v24 v27 (base1 t), ?_⟩
    iterate 3 refine ⟨fun t k => rem_none v24 v27 (base1 t) k, ?_⟩
    exact fun t k => rem_none v24 v27 (base1 t) k
  · iterate 3 refine ⟨fun t k => rem_none v24 v27 (base1 t) k, ?_⟩
    exact fun t k => rem_none v24 v27 (base1 t) k

theorem chk6 (v27 v30 : BitVec 32) : k0_chk6 v27 v30 := by
  unfold k0_chk6 k0_chk6_0 k0_chk6_1
  refine ⟨?_, ?_⟩
  · refine ⟨fun t => main_loop_ok v27 v30 (base0 t), ?_⟩
    iterate 8 refine ⟨fun t k => main_inb v27 v30 (base0 t) k (by decide), ?_⟩
    refine ⟨fun t => rem_loop_ok v27 v30 (base0 t), ?_⟩
    iterate 8 refine ⟨fun t k => rem_none v27 v30 (base0 t) k, ?_⟩
    refine ⟨fun t => main_loop_ok v27 v30 (base1 t), ?_⟩
    iterate 8 refine ⟨fun t k => main_inb v27 v30 (base1 t) k (by decide), ?_⟩
    refine ⟨fun t => rem_loop_ok v27 v30 (base1 t), ?_⟩
    iterate 3 refine ⟨fun t k => rem_none v27 v30 (base1 t) k, ?_⟩
    exact fun t k => rem_none v27 v30 (base1 t) k
  · iterate 3 refine ⟨fun t k => rem_none v27 v30 (base1 t) k, ?_⟩
    exact fun t k => rem_none v27 v30 (base1 t) k

theorem chk7 (v30 v33 : BitVec 32) : k0_chk7 v30 v33 := by
  unfold k0_chk7 k0_chk7_0 k0_chk7_1 k0_chk7_2
  refine ⟨?_, ?_, ?_⟩
  · refine ⟨fun t => main_loop_ok v30 v33 (base0 t), ?_⟩
    iterate 8 refine ⟨fun t k => main_inb v30 v33 (base0 t) k (by decide), ?_⟩
    refine ⟨fun t => rem_loop_ok v30 v33 (base0 t), ?_⟩
    iterate 8 refine ⟨fun t k => rem_none v30 v33 (base0 t) k, ?_⟩
    refine ⟨fun t => main_loop_ok v33 5600#32 (base0 t), ?_⟩
    iterate 8 refine ⟨fun t k => main_inb v33 5600#32 (base0 t) k (by decide), ?_⟩
    refine ⟨fun t => rem_loop_ok v33 5600#32 (base0 t), ?_⟩
    iterate 3 refine ⟨fun t k => rem_none v33 5600#32 (base0 t) k, ?_⟩
    exact fun t k => rem_none v33 5600#32 (base0 t) k
  · iterate 4 refine ⟨fun t k => rem_none v33 5600#32 (base0 t) k, ?_⟩
    refine ⟨fun t => main_loop_ok v30 v33 (base1 t), ?_⟩
    iterate 8 refine ⟨fun t k => main_inb v30 v33 (base1 t) k (by decide), ?_⟩
    refine ⟨fun t => rem_loop_ok v30 v33 (base1 t), ?_⟩
    iterate 8 refine ⟨fun t k => rem_none v30 v33 (base1 t) k, ?_⟩
    refine ⟨fun t => main_loop_ok v33 5600#32 (base1 t), ?_⟩
    iterate 8 refine ⟨fun t k => main_inb v33 5600#32 (base1 t) k (by decide), ?_⟩
    exact fun t => rem_loop_ok v33 5600#32 (base1 t)
  · iterate 7 refine ⟨fun t k => rem_none v33 5600#32 (base1 t) k, ?_⟩
    exact fun t k => rem_none v33 5600#32 (base1 t) k

end Cert.Proof

end
-- ==== Proof.Zero.lean ====
/-
  The tables zeroed.
-/
module

public import proofs.«01_k».proof.Proof.Fill
public import proofs.«01_k».proof.Proof.Checks

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- Both tables with their first `k` sixteenths of a row zeroed. -/
def Zeroed (d : Dev nD) (L : grid0.Coords) (m n : Memref sig .scVector .vmem S8x128 .f32) (z : Elt F .f32) (G H : ℕ → ℕ → Elt F .f32) (R : sProp (𝕄 F)) (k : ℕ) : sProp (𝕄 F) :=
  iprop(Holds d L m (fillTo z G k) ∗ Holds d L n (fillTo z H k) ∗ R)

/-- The lanes added up. -/
def laneTotal (c : IVec S16 32) : BitVec 32 := extractAt ![15] (scan .sum c) inpos_S16_p15

/-- The condition assumed holds: the program goes on with it. -/
theorem assume_wp (d : Dev nD) (L : grid0.Coords) {P : sProp (𝕄 F)} {p : Prop} (hp : p) {dec : Decidable p} {α : Type} {k : PLift p → TileProg F L α} {Q : α → sProp (𝕄 F)}
    (h : P ⊢ wp frame (wpE (defs₀ (F := F)) 𝒱₀ (tileThr d L) none) Set.univ (k ⟨hp⟩) Q) :
    P ⊢ wp frame (wpE (defs₀ (F := F)) 𝒱₀ (tileThr d L) none) Set.univ ((Prog.lift (TpuEff.assume p dec) : TileProg F L (PLift p)) >>= k) Q :=
  BIBase.Entails.trans h (wp_assume 𝒱₀ (tileThr d L) none Set.univ hp)

variable (i : grid0.Coords) (arg2 : Memref sig .scVector .hbm S320000x128 .f32) (harg2 : arg2.IsWhole) (arg3 : Memref sig .scVector .hbm S320000 .i32) (harg3 : arg3.IsWhole)
  (arg4 : Memref sig .scVector .hbm S32x8x128 .f32) (harg4 : arg4.IsWhole) (arg5 : Memref sig .scVector .hbm S32x8x128 .f32) (harg5 : arg5.IsWhole)
  (arg6 : Memref sig .scVector .hbm S32x8x16 .f32) (harg6 : arg6.IsWhole) (arg7 : Memref sig .scVector .vmem S5600 .i32) (harg7 : arg7.IsWhole)
  (arg8 : Memref sig .scVector .vmem S2x200x128 .f32) (harg8 : arg8.IsWhole) (arg9 : Memref sig .scVector .vmem S8x128 .f32) (harg9 : arg9.IsWhole)
  (arg10 : Memref sig .scVector .vmem S8x128 .f32) (harg10 : arg10.IsWhole) (arg11 : Memref sig .scVector .vmem S8x16 .f32) (harg11 : arg11.IsWhole)
  (arg12 : DmaSems sig S_) (arg13 : DmaSems sig S_) (v349_r0 : DmaSems sig S_) (v349_r1 : DmaSems sig S_) (v349_r2 : DmaSems sig S_) (v349_r3 : DmaSems sig S_)
  (z : Elt F .f32) (d : Dev nD) (G H : ℕ → ℕ → Elt F .f32) {R : sProp (𝕄 F)}

theorem part91_wp (c : BitVec 32) {Q : BitVec 32 → sProp (𝕄 F)} (hk : ∀ c, Zeroed d i arg9 arg10 z G H R 9 ⊢ Q c) :
    Zeroed d i arg9 arg10 z G H R 4 ⊢ wp frame (wpE (defs₀ (F := F)) 𝒱₀ (tileThr d i) none) Set.univ (k0_part91 (F := F) i arg2 harg2 arg3 harg3 arg4 harg4 arg5 harg5 arg6 harg6 arg7 harg7 arg8 harg8 arg9 harg9 arg10 harg10 arg11 harg11 arg12 arg13 v349_r0 v349_r1 v349_r2 v349_r3 (fun _ => z) c) Q := by
  unfold k0_part91
  iterate 5 refine fillPair_wp d i arg9 arg10 z G H (by decide) (by decide) (by decide) (by decide) ?_
  exact pure_wp d i _ (hk _)

theorem part92_wp (c : BitVec 32) {Q : BitVec 32 → sProp (𝕄 F)} (hk : ∀ c, Zeroed d i arg9 arg10 z G H R 14 ⊢ Q c) :
    Zeroed d i arg9 arg10 z G H R 9 ⊢ wp frame (wpE (defs₀ (F := F)) 𝒱₀ (tileThr d i) none) Set.univ (k0_part92 (F := F) i arg2 harg2 arg3 harg3 arg4 harg4 arg5 harg5 arg6 harg6 arg7 harg7 arg8 harg8 arg9 harg9 arg10 harg10 arg11 harg11 arg12 arg13 v349_r0 v349_r1 v349_r2 v349_r3 (fun _ => z) c) Q := by
  unfold k0_part92
  iterate 5 refine fillPair_wp d i arg9 arg10 z G H (by decide) (by decide) (by decide) (by decide) ?_
  exact pure_wp d i _ (hk _)

theorem part93_wp (c : BitVec 32) {Q : BitVec 32 → sProp (𝕄 F)} (hk : ∀ c, Zeroed d i arg9 arg10 z G H R 19 ⊢ Q c) :
    Zeroed d i arg9 arg10 z G H R 14 ⊢ wp frame (wpE (defs₀ (F := F)) 𝒱₀ (tileThr d i) none) Set.univ (k0_part93 (F := F) i arg2 harg2 arg3 harg3 arg4 harg4 arg5 harg5 arg6 harg6 arg7 harg7 arg8 harg8 arg9 harg9 arg10 harg10 arg11 harg11 arg12 arg13 v349_r0 v349_r1 v349_r2 v349_r3 (fun _ => z) c) Q := by
  unfold k0_part93
  iterate 5 refine fillPair_wp d i arg9 arg10 z G H (by decide) (by decide) (by decide) (by decide) ?_
  exact pure_wp d i _ (hk _)

theorem part94_wp (c : BitVec 32) {Q : BitVec 32 → sProp (𝕄 F)} (hk : ∀ c, Zeroed d i arg9 arg10 z G H R 24 ⊢ Q c) :
    Zeroed d i arg9 arg10 z G H R 19 ⊢ wp frame (wpE (defs₀ (F := F)) 𝒱₀ (tileThr d i) none) Set.univ (k0_part94 (F := F) i arg2 harg2 arg3 harg3 arg4 harg4 arg5 harg5 arg6 harg6 arg7 harg7 arg8 harg8 arg9 harg9 arg10 harg10 arg11 harg11 arg12 arg13 v349_r0 v349_r1 v349_r2 v349_r3 (fun _ => z) c) Q := by
  unfold k0_part94
  iterate 5 refine fillPair_wp d i arg9 arg10 z G H (by decide) (by decide) (by decide) (by decide) ?_
  exact pure_wp d i _ (hk _)

theorem part95_wp (c : BitVec 32) {Q : BitVec 32 → sProp (𝕄 F)} (hk : ∀ c, Zeroed d i arg9 arg10 z G H R 29 ⊢ Q c) :
    Zeroed d i arg9 arg10 z G H R 24 ⊢ wp frame (wpE (defs₀ (F := F)) 𝒱₀ (tileThr d i) none) Set.univ (k0_part95 (F := F) i arg2 harg2 arg3 harg3 arg4 harg4 arg5 harg5 arg6 harg6 arg7 harg7 arg8 harg8 arg9 harg9 arg10 harg10 arg11 harg11 arg12 arg13 v349_r0 v349_r1 v349_r2 v349_r3 (fun _ => z) c) Q := by
  unfold k0_part95
  iterate 5 refine fillPair_wp d i arg9 arg10 z G H (by decide) (by decide) (by decide) (by decide) ?_
  exact pure_wp d i _ (hk _)

theorem part96_wp (c : BitVec 32) {Q : BitVec 32 → sProp (𝕄 F)} (hk : ∀ c, Zeroed d i arg9 arg10 z G H R 34 ⊢ Q c) :
    Zeroed d i arg9 arg10 z G H R 29 ⊢ wp frame (wpE (defs₀ (F := F)) 𝒱₀ (tileThr d i) none) Set.univ (k0_part96 (F := F) i arg2 harg2 arg3 harg3 arg4 harg4 arg5 harg5 arg6 harg6 arg7 harg7 arg8 harg8 arg9 harg9 arg10 harg10 arg11 harg11 arg12 arg13 v349_r0 v349_r1 v349_r2 v349_r3 (fun _ => z) c) Q := by
  unfold k0_part96
  iterate 5 refine fillPair_wp d i arg9 arg10 z G H (by decide) (by decide) (by decide) (by decide) ?_
  exact pure_wp d i _ (hk _)

theorem part97_wp (c : BitVec 32) {Q : BitVec 32 → sProp (𝕄 F)} (hk : ∀ c, Zeroed d i arg9 arg10 z G H R 39 ⊢ Q c) :
    Zeroed d i arg9 arg10 z G H R 34 ⊢ wp frame (wpE (defs₀ (F := F)) 𝒱₀ (tileThr d i) none) Set.univ (k0_part97 (F := F) i arg2 harg2 arg3 harg3 arg4 harg4 arg5 harg5 arg6 harg6 arg7 harg7 arg8 harg8 arg9 harg9 arg10 harg10 arg11 harg11 arg12 arg13 v349_r0 v349_r1 v349_r2 v349_r3 (fun _ => z) c) Q := by
  unfold k0_part97
  iterate 5 refine fillPair_wp d i arg9 arg10 z G H (by decide) (by decide) (by decide) (by decide) ?_
  exact pure_wp d i _ (hk _)

theorem part98_wp (c : BitVec 32) {Q : BitVec 32 → sProp (𝕄 F)} (hk : ∀ c, Zeroed d i arg9 arg10 z G H R 44 ⊢ Q c) :
    Zeroed d i arg9 arg10 z G H R 39 ⊢ wp frame (wpE (defs₀ (F := F)) 𝒱₀ (tileThr d i) none) Set.univ (k0_part98 (F := F) i arg2 harg2 arg3 harg3 arg4 harg4 arg5 harg5 arg6 harg6 arg7 harg7 arg8 harg8 arg9 harg9 arg10 harg10 arg11 harg11 arg12 arg13 v349_r0 v349_r1 v349_r2 v349_r3 (fun _ => z) c) Q := by
  unfold k0_part98
  iterate 5 refine fillPair_wp d i arg9 arg10 z G H (by decide) (by decide) (by decide) (by decide) ?_
  exact pure_wp d i _ (hk _)

theorem part99_wp (c : BitVec 32) {Q : BitVec 32 → sProp (𝕄 F)} (hk : ∀ c, Zeroed d i arg9 arg10 z G H R 49 ⊢ Q c) :
    Zeroed d i arg9 arg10 z G H R 44 ⊢ wp frame (wpE (defs₀ (F := F)) 𝒱₀ (tileThr d i) none) Set.univ (k0_part99 (F := F) i arg2 harg2 arg3 harg3 arg4 harg4 arg5 harg5 arg6 harg6 arg7 harg7 arg8 harg8 arg9 harg9 arg10 harg10 arg11 harg11 arg12 arg13 v349_r0 v349_r1 v349_r2 v349_r3 (fun _ => z) c) Q := by
  unfold k0_part99
  iterate 5 refine fillPair_wp d i arg9 arg10 z G H (by decide) (by decide) (by decide) (by decide) ?_
  exact pure_wp d i _ (hk _)

theorem part100_wp (c : BitVec 32) {Q : BitVec 32 → sProp (𝕄 F)} (hk : ∀ c, Zeroed d i arg9 arg10 z G H R 54 ⊢ Q c) :
    Zeroed d i arg9 arg10 z G H R 49 ⊢ wp frame (wpE (defs₀ (F := F)) 𝒱₀ (tileThr d i) none) Set.univ (k0_part100 (F := F) i arg2 harg2 arg3 harg3 arg4 harg4 arg5 harg5 arg6 harg6 arg7 harg7 arg8 harg8 arg9 harg9 arg10 harg10 arg11 harg11 arg12 arg13 v349_r0 v349_r1 v349_r2 v349_r3 (fun _ => z) c) Q := by
  unfold k0_part100
  iterate 5 refine fillPair_wp d i arg9 arg10 z G H (by decide) (by decide) (by decide) (by decide) ?_
  exact pure_wp d i _ (hk _)

theorem part101_wp (c : BitVec 32) {Q : BitVec 32 → sProp (𝕄 F)} (hk : ∀ c, Zeroed d i arg9 arg10 z G H R 59 ⊢ Q c) :
    Zeroed d i arg9 arg10 z G H R 54 ⊢ wp frame (wpE (defs₀ (F := F)) 𝒱₀ (tileThr d i) none) Set.univ (k0_part101 (F := F) i arg2 harg2 arg3 harg3 arg4 harg4 arg5 harg5 arg6 harg6 arg7 harg7 arg8 harg8 arg9 harg9 arg10 harg10 arg11 harg11 arg12 arg13 v349_r0 v349_r1 v349_r2 v349_r3 (fun _ => z) c) Q := by
  unfold k0_part101
  iterate 5 refine fillPair_wp d i arg9 arg10 z G H (by decide) (by decide) (by decide) (by decide) ?_
  exact pure_wp d i _ (hk _)

theorem part102_wp (c : BitVec 32) {Q : BitVec 32 → sProp (𝕄 F)} (hk : ∀ c, Zeroed d i arg9 arg10 z G H R 64 ⊢ Q c) :
    Zeroed d i arg9 arg10 z G H R 59 ⊢ wp frame (wpE (defs₀ (F := F)) 𝒱₀ (tileThr d i) none) Set.univ (k0_part102 (F := F) i arg2 harg2 arg3 harg3 arg4 harg4 arg5 harg5 arg6 harg6 arg7 harg7 arg8 harg8 arg9 harg9 arg10 harg10 arg11 harg11 arg12 arg13 v349_r0 v349_r1 v349_r2 v349_r3 (fun _ => z) c) Q := by
  unfold k0_part102
  iterate 5 refine fillPair_wp d i arg9 arg10 z G H (by decide) (by decide) (by decide) (by decide) ?_
  exact pure_wp d i _ (hk _)

theorem part90_wp (c6 c7 : IVec S16 32) (v27 : BitVec 32) (c : BitVec 1) (hz : z = Scalar.ofBits .f32 0x00000000#32) {Q : _ → sProp (𝕄 F)}
    (hk : ∀ h6 h7 c, Zeroed d i arg9 arg10 z G H R 4 ⊢ Q ⟨laneTotal c6, h6, laneTotal c7, h7, fun _ => z, c⟩) :
    Zeroed d i arg9 arg10 z G H R 0 ⊢ wp frame (wpE (defs₀ (F := F)) 𝒱₀ (tileThr d i) none) Set.univ (k0_part90 (F := F) i arg2 harg2 arg3 harg3 arg4 harg4 arg5 harg5 arg6 harg6 arg7 harg7 arg8 harg8 arg9 harg9 arg10 harg10 arg11 harg11 arg12 arg13 v349_r0 v349_r1 v349_r2 v349_r3 c6 c7 v27 c) Q := by
  subst hz
  unfold k0_part90
  refine assume_wp d i (chk6 _ _) ?_
  refine assume_wp d i (chk7 _ _) ?_
  iterate 4 refine fillPair_wp d i arg9 arg10 _ G H (by decide) (by decide) (by decide) (by decide) ?_
  exact pure_wp d i _ (hk _ _ _)

end Cert.Proof

end
-- ==== Proof.Count.lean ====
/-
  The bounds of the types in the rows of a tile.
-/
module

public import proofs.«01_k».proof.Proof.Zero

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The types of the tile's rows from row `16 k` on. -/
def lanes16 (tN : ℕ → BitVec 32) (k : ℕ) : IVec S16 32 := fun x => tN (16 * k + (x 0).val)

/-- Lane by lane, how many of the types below row `16 n` are below `t`. -/
def cntAcc (tN : ℕ → BitVec 32) (t : BitVec 32) : ℕ → IVec S16 32
  | 0 => broadcast S16 0#32
  | n + 1 => addi (cntAcc tN t n) (select (cmpi .slt (lanes16 tN n) (broadcast S16 t)) (broadcast S16 1#32) (broadcast S16 0#32))

/-- The counters of the seven bounds after `n` sixteens. -/
def cntAll (tN : ℕ → BitVec 32) (n : ℕ) : IVec S16 32 × IVec S16 32 × IVec S16 32 × IVec S16 32 × IVec S16 32 × IVec S16 32 × IVec S16 32 :=
  (cntAcc tN 1#32 n, cntAcc tN 2#32 n, cntAcc tN 3#32 n, cntAcc tN 4#32 n, cntAcc tN 5#32 n, cntAcc tN 6#32 n, cntAcc tN 7#32 n)

/-- The first row of the tile of a type not below `t`. -/
def bound (tN : ℕ → BitVec 32) (t : BitVec 32) : BitVec 32 := laneTotal (cntAcc tN t 350)

/-- The tile's types, in its buffer. -/
def HoldsT (d : Dev nD) (L : grid0.Coords) (m : Memref sig .scVector .vmem S5600 .i32) (tN : ℕ → BitVec 32) : sProp (𝕄 F) :=
  iprop(∃ f : Buf (Elt F) (m.view.loc (tileThr d L)), (m.view.loc (tileThr d L) ↦[m.view.set]{fullShare} f)
    ∗ ⌜∀ y : S5600.Idx, m.view.read (Elt F) f y = tN (y 0).val⌝)

theorem off2_0 (k : Fin k0_t1_loop.trips) : k0_off2 k 0 = 16 * k.val := by
  have h : k.val < 350 := k.isLt
  show ((0#32 + BitVec.ofNat 32 k.val * 1#32) * 16#32).toNat = 16 * k.val
  simp only [BitVec.toNat_add, BitVec.toNat_mul, BitVec.toNat_ofNat]
  omega

variable (i : grid0.Coords) (arg2 : Memref sig .scVector .hbm S320000x128 .f32) (harg2 : arg2.IsWhole) (arg3 : Memref sig .scVector .hbm S320000 .i32) (harg3 : arg3.IsWhole)
  (arg4 : Memref sig .scVector .hbm S32x8x128 .f32) (harg4 : arg4.IsWhole) (arg5 : Memref sig .scVector .hbm S32x8x128 .f32) (harg5 : arg5.IsWhole)
  (arg6 : Memref sig .scVector .hbm S32x8x16 .f32) (harg6 : arg6.IsWhole) (arg7 : Memref sig .scVector .vmem S5600 .i32) (harg7 : arg7.IsWhole)
  (arg8 : Memref sig .scVector .vmem S2x200x128 .f32) (harg8 : arg8.IsWhole) (arg9 : Memref sig .scVector .vmem S8x128 .f32) (harg9 : arg9.IsWhole)
  (arg10 : Memref sig .scVector .vmem S8x128 .f32) (harg10 : arg10.IsWhole) (arg11 : Memref sig .scVector .vmem S8x16 .f32) (harg11 : arg11.IsWhole)
  (arg12 : DmaSems sig S_) (arg13 : DmaSems sig S_) (v349_r0 : DmaSems sig S_) (v349_r1 : DmaSems sig S_) (v349_r2 : DmaSems sig S_) (v349_r3 : DmaSems sig S_)
  (d : Dev nD) (tN : ℕ → BitVec 32)

theorem part1_wp (k : Fin k0_t1_loop.trips) (f : Buf (Elt F) (arg7.view.loc (tileThr d i))) (hf : ∀ y : S5600.Idx, arg7.view.read (Elt F) f y = tN (y 0).val)
    (a : IVec S16 32 × IVec S16 32 × IVec S16 32 × IVec S16 32 × IVec S16 32 × IVec S16 32 × IVec S16 32) (ha : a = cntAll tN k.val) :
    (arg7.view.loc (tileThr d i) ↦[arg7.view.set]{fullShare} f : sProp (𝕄 F)) ⊢ wp frame (wpE (defs₀ (F := F)) 𝒱₀ (tileThr d i) none) Set.univ
      (k0_part1 (F := F) i arg2 harg2 arg3 harg3 arg4 harg4 arg5 harg5 arg6 harg6 arg7 harg7 arg8 harg8 arg9 harg9 arg10 harg10 arg11 harg11 arg12 arg13 v349_r0 v349_r1 v349_r2 v349_r3 0#32 1#32 k a.1 a.2.1 a.2.2.1 a.2.2.2.1 a.2.2.2.2.1 a.2.2.2.2.2.1)
      (fun r => iprop((arg7.view.loc (tileThr d i) ↦[arg7.view.set]{fullShare} f)
        ∗ ⌜r = ⟨lanes16 tN k.val, cntAcc tN 1#32 (k.val + 1), cntAcc tN 2#32 (k.val + 1), cntAcc tN 3#32 (k.val + 1), cntAcc tN 4#32 (k.val + 1), cntAcc tN 5#32 (k.val + 1), cntAcc tN 6#32 (k.val + 1), 7#32⟩⌝)) := by
  subst ha
  have hl : arg7.view.readAt (Elt F) (Rect.unit (s := S5600) (k0_off2 k) S16.size (k0_off2_inb k)).toLoadRect f = lanes16 tN k.val := by
    funext x
    rw [View.readAt_apply, hf]
    show tN (k0_off2 k 0 + 1 * (x 0).val) = _
    rw [off2_0, Nat.one_mul]; rfl
  unfold k0_part1
  iintro Hf
  sl_exec
  sl_step
  isplitl [Hf]
  · iexact Hf
  · ipureintro
    rfl

/-- The loop that counts the types below each bound. -/
theorem countLoop_wp (f : Buf (Elt F) (arg7.view.loc (tileThr d i))) (hf : ∀ y : S5600.Idx, arg7.view.read (Elt F) f y = tN (y 0).val)
    (body : Fin k0_t1_loop.trips → IVec S16 32 × IVec S16 32 × IVec S16 32 × IVec S16 32 × IVec S16 32 × IVec S16 32 × IVec S16 32 → TileProg F i (IVec S16 32 × IVec S16 32 × IVec S16 32 × IVec S16 32 × IVec S16 32 × IVec S16 32 × IVec S16 32))
    (hbody : ∀ k a, body k a = (do
      let r ← k0_part1 (F := F) i arg2 harg2 arg3 harg3 arg4 harg4 arg5 harg5 arg6 harg6 arg7 harg7 arg8 harg8 arg9 harg9 arg10 harg10 arg11 harg11 arg12 arg13 v349_r0 v349_r1 v349_r2 v349_r3 0#32 1#32 k a.1 a.2.1 a.2.2.1 a.2.2.2.1 a.2.2.2.2.1 a.2.2.2.2.2.1
      pure (r.2.1, r.2.2.1, r.2.2.2.1, r.2.2.2.2.1, r.2.2.2.2.2.1, r.2.2.2.2.2.2.1, addi a.2.2.2.2.2.2 (select (cmpi .slt r.1 (broadcast S16 r.2.2.2.2.2.2.2)) (broadcast S16 1#32) (broadcast S16 0#32)))))
    {R : sProp (𝕄 F)} {α : Type} {k : _ → TileProg F i α} {Q : α → sProp (𝕄 F)}
    (hk : iprop((arg7.view.loc (tileThr d i) ↦[arg7.view.set]{fullShare} f) ∗ R) ⊢ wp frame (wpE (defs₀ (F := F)) 𝒱₀ (tileThr d i) none) Set.univ (k (cntAll tN 350)) Q) :
    iprop((arg7.view.loc (tileThr d i) ↦[arg7.view.set]{fullShare} f) ∗ R) ⊢ wp frame (wpE (defs₀ (F := F)) 𝒱₀ (tileThr d i) none) Set.univ
      (Scf.Loop.for k0_t1_loop k0_t1_ok (broadcast S16 0#32, broadcast S16 0#32, broadcast S16 0#32, broadcast S16 0#32, broadcast S16 0#32, broadcast S16 0#32, broadcast S16 0#32) body >>= k) Q := by
  refine seq_wp (Q := fun a => iprop((arg7.view.loc (tileThr d i) ↦[arg7.view.set]{fullShare} f) ∗ ⌜a = cntAll tN 350⌝)) ?_ fun a => ?_
  · iintro Hf
    iapply (Scf.wp_for frame (wpE (defs₀ (F := F)) 𝒱₀ (tileThr d i) none) Set.univ _ _ _ _ _ _
      (fun k a => iprop((arg7.view.loc (tileThr d i) ↦[arg7.view.set]{fullShare} f) ∗ ⌜a = cntAll tN k⌝)) ?hb)
    case hb =>
      intro k a
      rw [hbody]
      iintro ⟨Hf, %e⟩
      rw [wp_bind]
      iapply (wp_wand_r frame (wpE (defs₀ (F := F)) 𝒱₀ (tileThr d i) none) Set.univ)
      isplitl [Hf]
      · iapply (part1_wp i arg2 harg2 arg3 harg3 arg4 harg4 arg5 harg5 arg6 harg6 arg7 harg7 arg8 harg8 arg9 harg9 arg10 harg10 arg11 harg11 arg12 arg13 v349_r0 v349_r1 v349_r2 v349_r3 d tN k f hf a e) $$ Hf
      · iintro %r ⟨Hf, %er⟩
        subst er e
        iapply (le_wp_ret _ _ _ _ _)
        isplitl [Hf]
        · iexact Hf
        · ipureintro; rfl
    isplitl [Hf]
    · isplitl [Hf]
      · iexact Hf
      · ipureintro; rfl
    · iintro %a ⟨Hf, %e⟩
      isplitl [Hf]
      · iexact Hf
      · ipureintro; exact e
  · iintro ⟨⟨Hf, %e⟩, HR⟩
    subst e
    iapply hk
    isplitl [Hf] <;> iassumption

end Cert.Proof

end
-- ==== Proof.Send.lean ====
/-
  A copy of the tile, started and waited for.
-/
module

public import proofs.«01_k».proof.Proof.Copies

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

theorem send_wp (d : Dev nD) (L : grid0.Coords) {sp sp' : Space} {s : Shape} {e : EltTy} (src : Memref sig .scVector sp s e) (dst : Memref sig .scVector sp' s e) (sem : DmaSem sig)
    (hpos : 0 < s.numel) (q : PosShare TreeShare) (fs : Buf (Elt F) (src.view.loc (tileThr d L))) (fd : Buf (Elt F) (dst.view.loc (tileThr d L)))
    {hsrc : src.view.WordExact} {hdst : dst.view.WordExact}
    {hsem : DmaTarget.Typed (nD := nD) (p := Proc.scVector (cV L) (jV L)) sp (.dma sem) (.here dst)}
    {R : sProp (𝕄 F)} {α : Type} {k : TileProg F L α} {Q : α → sProp (𝕄 F)}
    (hk : iprop(Transfers.Flight ECt (tileThr d L) (.dma sem) (none : HIx 1) dst.view.dmaCredit
        iprop((dst.view.loc (tileThr d L) ↦[dst.view.set]{fullShare} (dst.view.write (Elt F) fd (src.view.read (Elt F) fs) Finset.univ)) ∗ (src.view.loc (tileThr d L) ↦[src.view.set]{q} fs)) ∗ R)
      ⊢ wp frame (wpE (defs₀ (F := F)) 𝒱₀ (tileThr d L) none) Set.univ k Q) :
    iprop(((src.view.loc (tileThr d L) ↦[src.view.set]{q} fs) ∗ (dst.view.loc (tileThr d L) ↦[dst.view.set]{fullShare} fd) ∗ semVal (tileThr d L, SemLoc.dma sem) 0) ∗ R)
      ⊢ wp frame (wpE (defs₀ (F := F)) 𝒱₀ (tileThr d L) none) Set.univ
      ((Prog.lift (.enqueueDma src (.here dst) (.dma sem) hsrc hdst hsem) : TileProg F L PUnit) >>= fun _ => k) Q := by
  iintro ⟨HS, HR⟩
  iapply (Transfers.wp_dmaLocal (defs := defs₀ (F := F)) ECt 𝒱₀ (tileThr d L) none
    (src := src) (dst := dst) (q := q) (fs := fs) (Sd := dst.view.set) (fd := fd)
    (none : HIx 1) dst.view.dmaCredit rfl (View.amount_pos _ (.dma sem) hpos) (Finset.Subset.refl _)) $$ HS
  iintro Hf
  iapply hk
  isplitl [Hf] <;> iassumption

theorem recv_wp (d : Dev nD) (L : grid0.Coords) {sp sp' : Space} {s s' : Shape} {e e' : EltTy} (src : Memref sig .scVector sp s e) (dst : Memref sig .scVector sp' s' e') (sem : DmaSem sig)
    (O : CellTallies nD τ sig (HIx 1)) (W : Waits sig (HIx 1)) (P : sProp (𝕄 F)) {N : ℕ} (hN : dst.view.dmaCredit = N)
    {hsrc : src.view.WordExact} {hdst : dst.view.WordExact}
    {R : sProp (𝕄 F)} {α : Type} {k : TileProg F L α} {Q : α → sProp (𝕄 F)}
    (hk : iprop(P ∗ semVal (tileThr d L, SemLoc.dma sem) 0 ∗ Owed (tileThr d L) O W ∗ R) ⊢ wp frame (wpE (defs₀ (F := F)) 𝒱₀ (tileThr d L) none) Set.univ k Q) :
    iprop(Transfers.Flight ECt (tileThr d L) (.dma sem) (none : HIx 1) N P ∗ Owed (tileThr d L) O W ∗ R)
      ⊢ wp frame (wpE (defs₀ (F := F)) 𝒱₀ (tileThr d L) none) Set.univ
      ((Prog.lift (.waitDma2 sem src dst hsrc hdst) : TileProg F L PUnit) >>= fun _ => k) Q := by
  unfold Owed
  iintro ⟨Hf, ⟨%W', %hW, HO, #Hmw⟩, HR⟩
  iapply (Transfers.wp_waitLocalO (defs := defs₀ (F := F)) ECt 𝒱₀ (tileThr d L) none (none : HIx 1) hN) $$ [Hf HO]
  · isplitl [Hf]
    · iexact Hf
    isplitl [HO]
    · iexact HO
    · iapply (Transfers.MayWaits.elim (SemLoc.dma sem)) $$ Hmw
  iintro ⟨HP, Hs, HO⟩
  iapply hk
  isplitl [HP]
  · iexact HP
  isplitl [Hs]
  · iexact Hs
  isplitl [HO]
  · unfold Owed
    iexists (insert (SemLoc.dma sem, (none : HIx 1)) W')
    isplitr [HO]
    · ipureintro
      intro p hp
      rcases Finset.mem_insert.mp hp with hp | hp
      · exact .inr (hp ▸ rfl)
      · exact hW p hp
    isplitl [HO] <;> iassumption
  · iexact HR

end Cert.Proof

end
-- ==== Proof.Outer.lean ====
/-
  The loop over the chunks of a tile.
-/
module

public import proofs.«01_k».proof.Proof.Fill

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The first row of the tile at `i`. -/
def tileRow (i : grid0.Coords) : ℕ := ((i 1).val * 2 + (i 0).val) * 5600

theorem off3_0 (i : grid0.Coords) : k0_off3 i 0#32 0 = tileRow i ∧ k0_off3 i 0#32 1 = 0 ∧ k0_off3 i 200#32 0 = tileRow i + 200 ∧ k0_off3 i 200#32 1 = 0 := by
  have h0 : (i 0).val < 2 := (i 0).isLt
  have h1 : (i 1).val < 16 := (i 1).isLt
  refine ⟨?_, rfl, ?_, rfl⟩
  · show ((BitVec.ofNat 32 (i 1).val * 2#32 + BitVec.ofNat 32 (i 0).val) * 5600#32 + 0#32).toNat = ((i 1).val * 2 + (i 0).val) * 5600
    simp only [BitVec.toNat_add, BitVec.toNat_mul, BitVec.toNat_ofNat]
    omega
  · show ((BitVec.ofNat 32 (i 1).val * 2#32 + BitVec.ofNat 32 (i 0).val) * 5600#32 + 200#32).toNat = ((i 1).val * 2 + (i 0).val) * 5600 + 200
    simp only [BitVec.toNat_add, BitVec.toNat_mul, BitVec.toNat_ofNat]
    omega

theorem iv_toNat (t : Fin k0_t2_loop.trips) : (Scf.iv 0#32 1#32 t.val).toNat = t.val := by
  have h : t.val < 14 := t.isLt
  show (0#32 + BitVec.ofNat 32 t.val * 1#32).toNat = t.val
  simp only [BitVec.toNat_add, BitVec.toNat_mul, BitVec.toNat_ofNat]
  omega

theorem off133_0 (i : grid0.Coords) (t : Fin k0_t2_loop.trips) : k0_off133 i t 0 = tileRow i + 400 * (t.val + 1) ∧ k0_off133 i t 1 = 0 := by
  have h0 : (i 0).val < 2 := (i 0).isLt
  have h1 : (i 1).val < 16 := (i 1).isLt
  have h : t.val < 14 := t.isLt
  refine ⟨?_, rfl⟩
  show ((BitVec.ofNat 32 (i 1).val * 2#32 + BitVec.ofNat 32 (i 0).val) * 5600#32 + (2#32 * Scf.iv 0#32 1#32 t.val + 2#32) * 200#32).toNat = ((i 1).val * 2 + (i 0).val) * 5600 + 400 * (t.val + 1)
  simp only [BitVec.toNat_add, BitVec.toNat_mul, BitVec.toNat_ofNat, iv_toNat]
  omega

theorem off263_0 (i : grid0.Coords) (t : Fin k0_t2_loop.trips) : k0_off263 i t 0 = tileRow i + (400 * (t.val + 1) + 200) ∧ k0_off263 i t 1 = 0 := by
  have h0 : (i 0).val < 2 := (i 0).isLt
  have h1 : (i 1).val < 16 := (i 1).isLt
  have h : t.val < 14 := t.isLt
  refine ⟨?_, rfl⟩
  show ((BitVec.ofNat 32 (i 1).val * 2#32 + BitVec.ofNat 32 (i 0).val) * 5600#32 + (2#32 * Scf.iv 0#32 1#32 t.val + 3#32) * 200#32).toNat = ((i 1).val * 2 + (i 0).val) * 5600 + (400 * (t.val + 1) + 200)
  simp only [BitVec.toNat_add, BitVec.toNat_mul, BitVec.toNat_ofNat, iv_toNat]
  omega

theorem cond9 : ∀ t : Fin k0_t2_loop.trips, k0_cond9 t = 1#1 ↔ t.val + 1 < 14 := by
  have h : ∀ t : Fin 14, k0_cond9 t = 1#1 ↔ t.val + 1 < 14 := fun t => by
    fin_cases t <;> simp (config := { decide := true })
  exact h

theorem cond18 : ∀ t : Fin k0_t2_loop.trips, k0_cond18 t = 1#1 ↔ t.val + 1 < 14 := by
  have h : ∀ t : Fin 14, k0_cond18 t = 1#1 ↔ t.val + 1 < 14 := fun t => by
    fin_cases t <;> simp (config := { decide := true })
  exact h

/-- A table after `k` trips: the cases of the even chunk, then those of the odd chunk, trip by trip. -/
def tabAt (b : ℕ → BitVec 32) (xN : ℕ → ℕ → Elt F .f32) (w : ℕ) (z : Elt F .f32) (G : ℕ → ℕ → Elt F .f32) : ℕ → ℕ → ℕ → Elt F .f32
  | 0 => G
  | k + 1 => casesG b (Scalar.muli (Scalar.addi (Scalar.muli 2#32 (Scf.iv 0#32 1#32 k)) 1#32) 200#32) (rowsFrom xN (w + (400 * k + 200))) z
      (casesG b (Scalar.muli (Scalar.muli 2#32 (Scf.iv 0#32 1#32 k)) 200#32) (rowsFrom xN (w + 400 * k)) z (tabAt b xN w z G k) 8) 8

theorem bind_wp (d : Dev nD) (L : grid0.Coords) {α β : Type} {P : sProp (𝕄 F)} {e : TileProg F L α} {k : α → TileProg F L β} {Q : β → sProp (𝕄 F)}
    (h : P ⊢ wp frame (wpE (defs₀ (F := F)) 𝒱₀ (tileThr d L) none) Set.univ e fun a => wp frame (wpE (defs₀ (F := F)) 𝒱₀ (tileThr d L) none) Set.univ (k a) Q) :
    P ⊢ wp frame (wpE (defs₀ (F := F)) 𝒱₀ (tileThr d L) none) Set.univ (e >>= k) Q := by
  rw [wp_bind]; exact h

variable (i : grid0.Coords) (arg2 : Memref sig .scVector .hbm S320000x128 .f32) (harg2 : arg2.IsWhole) (arg3 : Memref sig .scVector .hbm S320000 .i32) (harg3 : arg3.IsWhole)
  (arg4 : Memref sig .scVector .hbm S32x8x128 .f32) (harg4 : arg4.IsWhole) (arg5 : Memref sig .scVector .hbm S32x8x128 .f32) (harg5 : arg5.IsWhole)
  (arg6 : Memref sig .scVector .hbm S32x8x16 .f32) (harg6 : arg6.IsWhole) (arg7 : Memref sig .scVector .vmem S5600 .i32) (harg7 : arg7.IsWhole)
  (arg8 : Memref sig .scVector .vmem S2x200x128 .f32) (harg8 : arg8.IsWhole) (arg9 : Memref sig .scVector .vmem S8x128 .f32) (harg9 : arg9.IsWhole)
  (arg10 : Memref sig .scVector .vmem S8x128 .f32) (harg10 : arg10.IsWhole) (arg11 : Memref sig .scVector .vmem S8x16 .f32) (harg11 : arg11.IsWhole)
  (arg12 : DmaSems sig S_) (arg13 : DmaSems sig S_) (v349_r0 : DmaSems sig S_) (v349_r1 : DmaSems sig S_) (v349_r2 : DmaSems sig S_) (v349_r3 : DmaSems sig S_)

  (v15 v18 v21 v24 v27 v30 v33 : BitVec 32) (k0_hw1 : k0_chk1 v15) (k0_hw2 : k0_chk2 v15 v18) (k0_hw3 : k0_chk3 v18 v21) (k0_hw4 : k0_chk4 v21 v24)
  (k0_hw5 : k0_chk5 v24 v27) (k0_hw6 : k0_chk6 v27 v30) (k0_hw7 : k0_chk7 v30 v33) (z : Elt F .f32)
  (d : Dev nD) (O : CellTallies nD τ sig (HIx 1)) (W : Waits sig (HIx 1)) (q0 q1 : PosShare TreeShare) (fx : Buf (Elt F) (arg2.view.loc (tileThr d i)))
  (xN : ℕ → ℕ → Elt F .f32) (hx : ∀ y : S320000x128.Idx, arg2.view.read (Elt F) fx y = xN (y 0).val (y 1).val)

/-- The count of type `t`, as a float. -/
def cntv (b : ℕ → BitVec 32) (t : ℕ) : Elt F .f32 := Scalar.sitofp .f32 (Scalar.subi (b (t + 1)) (b t))

def LoopInv (G H : ℕ → ℕ → Elt F .f32) (R : sProp (𝕄 F)) (k : ℕ) : sProp (𝕄 F) :=
  iprop(Next i arg2 d (slot0 arg8) arg12.sem q0 fx xN (tileRow i) k (400 * k) ∗ Next i arg2 d (slot1 arg8) arg13.sem q1 fx xN (tileRow i) k (400 * k + 200) ∗ Owed (tileThr d i) O W ∗ Holds d i arg9 (tabAt (bds v15 v18 v21 v24 v27 v30 v33) xN (tileRow i) z G k) ∗ Holds d i arg10 (tabAt (bds v15 v18 v21 v24 v27 v30 v33) (sqr xN) (tileRow i) z H k) ∗ R)

set_option maxHeartbeats 2000000 in
include hx in
theorem part103_wp (v3 : BitVec 32) (G H C : ℕ → ℕ → Elt F .f32)
    {R : sProp (𝕄 F)} {Q : _ → sProp (𝕄 F)}
    (hk : iprop((Idle d i arg2 (slot0 arg8) arg12.sem q0 fx ∗ Idle d i arg2 (slot1 arg8) arg13.sem q1 fx ∗ Owed (tileThr d i) O W
        ∗ Holds d i arg9 (tabAt (bds v15 v18 v21 v24 v27 v30 v33) xN (tileRow i) z G 14) ∗ Holds d i arg10 (tabAt (bds v15 v18 v21 v24 v27 v30 v33) (sqr xN) (tileRow i) z H 14)) ∗ HoldsC d i arg11 (cntTo (cntv (bds v15 v18 v21 v24 v27 v30 v33)) C 1) ∗ R)
      ⊢ Q (fun _ => cntv (bds v15 v18 v21 v24 v27 v30 v33) 1)) :
    iprop(Idle d i arg2 (slot0 arg8) arg12.sem q0 fx ∗ Idle d i arg2 (slot1 arg8) arg13.sem q1 fx ∗ Owed (tileThr d i) O W ∗ Holds d i arg9 G ∗ Holds d i arg10 H ∗ HoldsC d i arg11 C ∗ R) ⊢ wp frame (wpE (defs₀ (F := F)) 𝒱₀ (tileThr d i) none) Set.univ
      (k0_part103 (F := F) i arg2 harg2 arg3 harg3 arg4 harg4 arg5 harg5 arg6 harg6 arg7 harg7 arg8 harg8 arg9 harg9 arg10 harg10 arg11 harg11 arg12 arg13 v349_r0 v349_r1 v349_r2 v349_r3 v3 v15 k0_hw1 v18 k0_hw2 v21 k0_hw3 v24 k0_hw4 v27 k0_hw5 v30 k0_hw6 v33 k0_hw7 (fun _ => z) 0#32) Q := by
  have tail : ∀ _ : BitVec 32, LoopInv i arg2 arg8 arg9 arg10 arg12 arg13 v15 v18 v21 v24 v27 v30 v33 z d O W q0 q1 fx xN G H iprop(HoldsC d i arg11 C ∗ R) (Scf.trips k0_t2_loop.lb k0_t2_loop.ub k0_t2_loop.st) ⊢ wp frame (wpE (defs₀ (F := F)) 𝒱₀ (tileThr d i) none) Set.univ (do
      let _ : Vec F S1x16 .f32 ← Prog.lift (.load arg11 (cntRect (t := 0) (by decide)).toLoadRect (View.loadsAt_vmem h_S1x16))
      Prog.lift (.store arg11 (cntRect (t := 0) (by decide)) (shapeCast S1x16 (fun _ => cntv (bds v15 v18 v21 v24 v27 v30 v33) 0 : L16 F) shapeCasts_S16_S1x16) Finset.univ (View.stores_vmem_bits_univ h_S1x16 rfl) (.inl rfl))
      let _ : Vec F S1x16 .f32 ← Prog.lift (.load arg11 (cntRect (t := 1) (by decide)).toLoadRect (View.loadsAt_vmem h_S1x16))
      pure (fun _ => cntv (bds v15 v18 v21 v24 v27 v30 v33) 1 : L16 F)) Q := by
    intro _
    rw [show Scf.trips k0_t2_loop.lb k0_t2_loop.ub k0_t2_loop.st = 14 by decide]
    refine BIBase.Entails.trans (Q := iprop(HoldsC d i arg11 C ∗ (Idle d i arg2 (slot0 arg8) arg12.sem q0 fx ∗ Idle d i arg2 (slot1 arg8) arg13.sem q1 fx ∗ Owed (tileThr d i) O W
        ∗ Holds d i arg9 (tabAt (bds v15 v18 v21 v24 v27 v30 v33) xN (tileRow i) z G 14) ∗ Holds d i arg10 (tabAt (bds v15 v18 v21 v24 v27 v30 v33) (sqr xN) (tileRow i) z H 14)) ∗ R)) ?_ ?_
    · unfold LoopInv Next
      rw [if_neg (by decide), if_neg (by decide)]
      iintro ⟨H0, H1, HO, H9, H10, HC, HR⟩
      isplitl [HC]
      · iexact HC
      isplitr [HR]
      · isplitl [H0]
        · iexact H0
        isplitl [H1]
        · iexact H1
        isplitl [HO]
        · iexact HO
        isplitl [H9] <;> iassumption
      · iexact HR
    refine loadC_to d i arg11 (t := 0) (by decide) _ (putC_to d i arg11 (t := 0) (by decide) (cntv (bds v15 v18 v21 v24 v27 v30 v33)) C (loadC_to d i arg11 (t := 1) (by decide) _ (pure_wp d i _ ?_)))
    refine BIBase.Entails.trans ?_ hk
    iintro ⟨HC, HI, HR⟩
    isplitl [HI]
    · iexact HI
    isplitl [HC]
    · iexact HC
    · iexact HR
  unfold k0_part103
  refine issue_wp d i arg2 (slot0 arg8) arg12.sem q0 fx xN hx (k0_off3 i 0#32) (k0_off3_inb i 0) (tileRow i) (off3_0 i).1 (off3_0 i).2.1 ?_
  refine BIBase.Entails.trans ?_ (issue_wp d i arg2 (slot1 arg8) arg13.sem q1 fx xN hx (k0_off3 i 200#32) (k0_off3_inb i 1) (tileRow i + 200) (off3_0 i).2.2.1 (off3_0 i).2.2.2
    (R := iprop(Pending d i arg2 (slot0 arg8) arg12.sem q0 fx (rowsFrom xN (tileRow i)) ∗ Owed (tileThr d i) O W ∗ Holds d i arg9 G ∗ Holds d i arg10 H ∗ HoldsC d i arg11 C ∗ R)) ?_)
  · iintro ⟨H0, H1, HR⟩
    isplitl [H1]
    · iexact H1
    isplitl [H0] <;> iassumption
  refine BIBase.Entails.trans (Q := iprop(LoopInv i arg2 arg8 arg9 arg10 arg12 arg13 v15 v18 v21 v24 v27 v30 v33 z d O W q0 q1 fx xN G H iprop(HoldsC d i arg11 C ∗ R) 0)) ?_ ?_
  · unfold LoopInv Next
    rw [if_pos (by decide), if_pos (by decide)]
    iintro ⟨H1, H0, HO, H9, H10, HC⟩
    isplitl [H0]
    · iexact H0
    isplitl [H1]
    · iexact H1
    isplitl [HO]
    · iexact HO
    isplitl [H9]
    · iexact H9
    isplitl [H10]
    · iexact H10
    · iexact HC
  refine bind_wp d i ?_
  refine BIBase.Entails.trans ?_ (Scf.wp_for frame (wpE (defs₀ (F := F)) 𝒱₀ (tileThr d i) none) Set.univ _ _ _ _ _ _ (fun k _ => LoopInv i arg2 arg8 arg9 arg10 arg12 arg13 v15 v18 v21 v24 v27 v30 v33 z d O W q0 q1 fx xN G H iprop(HoldsC d i arg11 C ∗ R) k) ?body)
  case body =>
    intro k0_t2 _
    have hlt : k0_t2.val < 14 := k0_t2.isLt
    refine BIBase.Entails.trans (Q := iprop(Pending d i arg2 (slot0 arg8) arg12.sem q0 fx (rowsFrom xN (tileRow i + 400 * k0_t2.val)) ∗ Owed (tileThr d i) O W ∗ Tabs d i arg9 arg10 (bds v15 v18 v21 v24 v27 v30 v33) (base0 k0_t2) (rowsFrom xN (tileRow i + 400 * k0_t2.val)) z (tabAt (bds v15 v18 v21 v24 v27 v30 v33) xN (tileRow i) z G k0_t2.val) (tabAt (bds v15 v18 v21 v24 v27 v30 v33) (sqr xN) (tileRow i) z H k0_t2.val) 0 ∗ Pending d i arg2 (slot1 arg8) arg13.sem q1 fx (rowsFrom xN (tileRow i + (400 * k0_t2.val + 200))) ∗ HoldsC d i arg11 C ∗ R)) ?_ ?_
    · unfold LoopInv Next Tabs
      rw [if_pos hlt, if_pos hlt]
      iintro ⟨H0, H1, HO, H9, H10, HR⟩
      isplitl [H0]
      · iexact H0
      isplitl [HO]
      · iexact HO
      isplitl [H9 H10]
      · isplitl [H9]
        · iexact H9
        · iexact H10
      isplitl [H1]
      · iexact H1
      · iexact HR
    refine bind_wp d i (part82_wp i arg2 harg2 arg3 harg3 arg4 harg4 arg5 harg5 arg6 harg6 arg7 harg7 arg8 harg8 arg9 harg9 arg10 harg10 arg11 harg11 arg12 arg13 v349_r0 v349_r1 v349_r2 v349_r3 v15 v18 v21 v24 v27 v30 v33 k0_hw1 z k0_t2 d O W q0 q1 fx _ _ _ ?_)
    refine bind_wp d i (part83_wp i arg2 harg2 arg3 harg3 arg4 harg4 arg5 harg5 arg6 harg6 arg7 harg7 arg8 harg8 arg9 harg9 arg10 harg10 arg11 harg11 arg12 arg13 v349_r0 v349_r1 v349_r2 v349_r3 v15 v18 v21 v24 v27 v30 v33 k0_hw2 k0_hw3 k0_hw4 z k0_t2 d _ _ _ ?_)
    refine bind_wp d i (part84_wp i arg2 harg2 arg3 harg3 arg4 harg4 arg5 harg5 arg6 harg6 arg7 harg7 arg8 harg8 arg9 harg9 arg10 harg10 arg11 harg11 arg12 arg13 v349_r0 v349_r1 v349_r2 v349_r3 v15 v18 v21 v24 v27 v30 v33 k0_hw5 k0_hw6 z k0_t2 d _ _ _ ?_)
    refine bind_wp d i (part85_wp i arg2 harg2 arg3 harg3 arg4 harg4 arg5 harg5 arg6 harg6 arg7 harg7 arg8 harg8 arg9 harg9 arg10 harg10 arg11 harg11 arg12 arg13 v349_r0 v349_r1 v349_r2 v349_r3 v15 v18 v21 v24 v27 v30 v33 k0_hw7 z k0_t2 d v3 O W q0 q1 fx xN hx (tileRow i) (cond9 k0_t2) (fun _ => (off133_0 i k0_t2).1) (off133_0 i k0_t2).2 _ _ _ _ ?_)
    refine BIBase.Entails.trans (Q := iprop(Chunk d i (slot1 arg8) (rowsFrom xN (tileRow i + (400 * k0_t2.val + 200))) ∗ Tabs d i arg9 arg10 (bds v15 v18 v21 v24 v27 v30 v33) (base1 k0_t2) (rowsFrom xN (tileRow i + (400 * k0_t2.val + 200))) z (casesG (bds v15 v18 v21 v24 v27 v30 v33) (base0 k0_t2) (rowsFrom xN (tileRow i + 400 * k0_t2.val)) z (tabAt (bds v15 v18 v21 v24 v27 v30 v33) xN (tileRow i) z G k0_t2.val) 8) (casesG (bds v15 v18 v21 v24 v27 v30 v33) (base0 k0_t2) (sqr (rowsFrom xN (tileRow i + 400 * k0_t2.val))) z (tabAt (bds v15 v18 v21 v24 v27 v30 v33) (sqr xN) (tileRow i) z H k0_t2.val) 8) 0 ∗ (XShare d i arg2 q1 fx ∗ semVal (tileThr d i, SemLoc.dma arg13.sem) 0) ∗ Owed (tileThr d i) O W ∗ Next i arg2 d (slot0 arg8) arg12.sem q0 fx xN (tileRow i) (k0_t2.val + 1) (400 * (k0_t2.val + 1)) ∗ HoldsC d i arg11 C ∗ R)) ?_ ?_
    · iintro ⟨Hv, Hx, HO, HN, HT, HR⟩
      isplitl [Hv]
      · iexact Hv
      isplitl [HT]
      · iexact HT
      isplitl [Hx]
      · iexact Hx
      isplitl [HO]
      · iexact HO
      isplitl [HN]
      · iexact HN
      · iexact HR
    refine bind_wp d i (part86_wp i arg2 harg2 arg3 harg3 arg4 harg4 arg5 harg5 arg6 harg6 arg7 harg7 arg8 harg8 arg9 harg9 arg10 harg10 arg11 harg11 arg12 arg13 v349_r0 v349_r1 v349_r2 v349_r3 v15 v18 v21 v24 v27 v30 v33 k0_hw1 k0_hw2 z k0_t2 d _ _ _ ?_)
    refine bind_wp d i (part87_wp i arg2 harg2 arg3 harg3 arg4 harg4 arg5 harg5 arg6 harg6 arg7 harg7 arg8 harg8 arg9 harg9 arg10 harg10 arg11 harg11 arg12 arg13 v349_r0 v349_r1 v349_r2 v349_r3 v15 v18 v21 v24 v27 v30 v33 k0_hw3 k0_hw4 z k0_t2 d _ _ _ ?_)
    refine bind_wp d i (part88_wp i arg2 harg2 arg3 harg3 arg4 harg4 arg5 harg5 arg6 harg6 arg7 harg7 arg8 harg8 arg9 harg9 arg10 harg10 arg11 harg11 arg12 arg13 v349_r0 v349_r1 v349_r2 v349_r3 v15 v18 v21 v24 v27 v30 v33 k0_hw5 k0_hw6 k0_hw7 z k0_t2 d _ _ _ ?_)
    refine step_wp d i (slot1 arg8) arg9 arg10 (bds v15 v18 v21 v24 v27 v30 v33) (base1 k0_t2) 7 (by decide) z (k0_t34_ok v30 v33 k0_hw7 k0_t2) _ _ _ _ ?_
    by_cases hc : k0_cond18 k0_t2 = 1#1
    · rw [dif_pos hc]
      have hlt' := (cond18 k0_t2).mp hc
      refine BIBase.Entails.trans ?_ (issue_wp d i arg2 (slot1 arg8) arg13.sem q1 fx xN hx (k0_off263 i k0_t2) (k0_off263_inb i k0_t2 hc) (tileRow i + (400 * (k0_t2.val + 1) + 200)) (off263_0 i k0_t2).1 (off263_0 i k0_t2).2
        (R := iprop(Owed (tileThr d i) O W ∗ Next i arg2 d (slot0 arg8) arg12.sem q0 fx xN (tileRow i) (k0_t2.val + 1) (400 * (k0_t2.val + 1)) ∗ Tabs d i arg9 arg10 (bds v15 v18 v21 v24 v27 v30 v33) (base1 k0_t2) (rowsFrom xN (tileRow i + (400 * k0_t2.val + 200))) z (casesG (bds v15 v18 v21 v24 v27 v30 v33) (base0 k0_t2) (rowsFrom xN (tileRow i + 400 * k0_t2.val)) z (tabAt (bds v15 v18 v21 v24 v27 v30 v33) xN (tileRow i) z G k0_t2.val) 8) (casesG (bds v15 v18 v21 v24 v27 v30 v33) (base0 k0_t2) (sqr (rowsFrom xN (tileRow i + 400 * k0_t2.val))) z (tabAt (bds v15 v18 v21 v24 v27 v30 v33) (sqr xN) (tileRow i) z H k0_t2.val) 8) 8 ∗ HoldsC d i arg11 C ∗ R)) (pure_wp d i _ ?_))
      · unfold Idle
        iintro ⟨Hv, HT, ⟨Hx, Hs⟩, HO, HN, HR⟩
        isplitl [Hv Hx Hs]
        · isplitl [Hv]
          · iexists _; iexact Hv
          · isplitl [Hx] <;> iassumption
        isplitl [HO]
        · iexact HO
        isplitl [HN]
        · iexact HN
        isplitl [HT]
        · iexact HT
        · iexact HR
      · unfold LoopInv Tabs Next
        rw [if_pos hlt', if_pos hlt']
        iintro ⟨HP, HO, HN, ⟨H9, H10⟩, HR⟩
        isplitl [HN]
        · iexact HN
        isplitl [HP]
        · iexact HP
        isplitl [HO]
        · iexact HO
        isplitl [H9]
        · iexact H9
        isplitl [H10]
        · iexact H10
        · iexact HR
    · rw [dif_neg hc]
      have hlt' : ¬ k0_t2.val + 1 < 14 := fun h => hc ((cond18 k0_t2).mpr h)
      refine pure_wp d i _ ?_
      unfold LoopInv Tabs Next
      rw [if_neg hlt', if_neg hlt']
      iintro ⟨Hv, ⟨H9, H10⟩, ⟨Hx, Hs⟩, HO, HN, HR⟩
      isplitl [HN]
      · iexact HN
      isplitl [Hv Hx Hs]
      · unfold Idle
        isplitl [Hv]
        · iexists _; iexact Hv
        · isplitl [Hx] <;> iassumption
      isplitl [HO]
      · iexact HO
      isplitl [H9]
      · iexact H9
      isplitl [H10]
      · iexact H10
      · iexact HR
  · iintro HI
    isplitl [HI]
    · iexact HI
    iintro %_ HI
    iapply (tail 0#32) $$ HI

theorem part104_wp (C : ℕ → ℕ → Elt F .f32) {R : sProp (𝕄 F)} {Q : _ → sProp (𝕄 F)}
    (hk : iprop(HoldsC d i arg11 (cntTo (cntv (bds v15 v18 v21 v24 v27 v30 v33)) C 8) ∗ R) ⊢ Q ⟨⟩) :
    iprop(HoldsC d i arg11 (cntTo (cntv (bds v15 v18 v21 v24 v27 v30 v33)) C 1) ∗ R) ⊢ wp frame (wpE (defs₀ (F := F)) 𝒱₀ (tileThr d i) none) Set.univ
      (k0_part104 (F := F) i arg2 harg2 arg3 harg3 arg4 harg4 arg5 harg5 arg6 harg6 arg7 harg7 arg8 harg8 arg9 harg9 arg10 harg10 arg11 harg11 arg12 arg13 v349_r0 v349_r1 v349_r2 v349_r3 v18 v21 v24 v27 v30 v33 (fun _ => cntv (bds v15 v18 v21 v24 v27 v30 v33) 1)) Q := by
  unfold k0_part104
  refine putC_to d i arg11 (t := 1) (by decide) (cntv (bds v15 v18 v21 v24 v27 v30 v33)) C ?_
  refine loadC_to d i arg11 (t := 2) (by decide) _ (putC_to d i arg11 (t := 2) (by decide) (cntv (bds v15 v18 v21 v24 v27 v30 v33)) C ?_)
  refine loadC_to d i arg11 (t := 3) (by decide) _ (putC_to d i arg11 (t := 3) (by decide) (cntv (bds v15 v18 v21 v24 v27 v30 v33)) C ?_)
  refine loadC_to d i arg11 (t := 4) (by decide) _ (putC_to d i arg11 (t := 4) (by decide) (cntv (bds v15 v18 v21 v24 v27 v30 v33)) C ?_)
  refine loadC_to d i arg11 (t := 5) (by decide) _ (putC_to d i arg11 (t := 5) (by decide) (cntv (bds v15 v18 v21 v24 v27 v30 v33)) C ?_)
  refine loadC_to d i arg11 (t := 6) (by decide) _ (putC_to d i arg11 (t := 6) (by decide) (cntv (bds v15 v18 v21 v24 v27 v30 v33)) C ?_)
  refine loadC_to d i arg11 (t := 7) (by decide) _ (putC_to d i arg11 (t := 7) (by decide) (cntv (bds v15 v18 v21 v24 v27 v30 v33)) C ?_)
  exact pure_wp d i _ hk

end Cert.Proof

end
-- ==== Proof.Types.lean ====
/-
  The types of a tile read and its bounds found.
-/
module

public import proofs.«01_k».proof.Proof.Count
public import proofs.«01_k».proof.Proof.Send
public import proofs.«01_k».proof.Proof.Outer

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The bounds of the types in rows with types `tN`. -/
abbrev bnds (tN : ℕ → BitVec 32) : ℕ → BitVec 32 :=
  bds (bound tN 1#32) (bound tN 2#32) (bound tN 3#32) (bound tN 4#32) (bound tN 5#32) (bound tN 6#32) (bound tN 7#32)

/-- A memref's elements, at `Y`. -/
def At (d : Dev nD) (L : grid0.Coords) {sp : Space} {s : Shape} {e : EltTy} (m : Memref sig .scVector sp s e) (Y : s.Idx → Elt F e) : sProp (𝕄 F) :=
  iprop(∃ f : Buf (Elt F) (m.view.loc (tileThr d L)), (m.view.loc (tileThr d L) ↦[m.view.set]{fullShare} f) ∗ ⌜∀ y, m.view.read (Elt F) f y = Y y⌝)

/-- A memref's elements, at whatever they are. -/
def Any (d : Dev nD) (L : grid0.Coords) {sp : Space} {s : Shape} {e : EltTy} (m : Memref sig .scVector sp s e) : sProp (𝕄 F) :=
  iprop(∃ f : Buf (Elt F) (m.view.loc (tileThr d L)), (m.view.loc (tileThr d L) ↦[m.view.set]{fullShare} f))

/-- A memref sent to another and the copy waited for. -/
theorem move_wp (d : Dev nD) (L : grid0.Coords) {sp sp' : Space} {s : Shape} {e : EltTy} (src : Memref sig .scVector sp s e) (dst : Memref sig .scVector sp' s e) (sem : DmaSem sig)
    (hpos : 0 < s.numel) (Y : s.Idx → Elt F e) (O : CellTallies nD τ sig (HIx 1)) (W : Waits sig (HIx 1))
    {hsrc : src.view.WordExact} {hdst : dst.view.WordExact}
    {hsem : DmaTarget.Typed (nD := nD) (p := Proc.scVector (cV L) (jV L)) sp (.dma sem) (.here dst)} {hsrc' : src.view.WordExact} {hdst' : dst.view.WordExact}
    {R : sProp (𝕄 F)} {α : Type} {k : TileProg F L α} {Q : α → sProp (𝕄 F)}
    (hk : iprop((At d L src Y ∗ At d L dst Y ∗ semVal (tileThr d L, SemLoc.dma sem) 0 ∗ Owed (tileThr d L) O W) ∗ R) ⊢ wp frame (wpE (defs₀ (F := F)) 𝒱₀ (tileThr d L) none) Set.univ k Q) :
    iprop((At d L src Y ∗ Any d L dst ∗ semVal (tileThr d L, SemLoc.dma sem) 0 ∗ Owed (tileThr d L) O W) ∗ R)
      ⊢ wp frame (wpE (defs₀ (F := F)) 𝒱₀ (tileThr d L) none) Set.univ
      ((Prog.lift (.enqueueDma src (.here dst) (.dma sem) hsrc hdst hsem) : TileProg F L PUnit) >>= fun _ =>
        (Prog.lift (.waitDma2 sem src dst hsrc' hdst') : TileProg F L PUnit) >>= fun _ => k) Q := by
  unfold At Any
  iintro ⟨⟨⟨%fs, Hs, %hs⟩, ⟨%fd, Hd⟩, Hsem, HO⟩, HR⟩
  iapply (send_wp d L src dst sem hpos fullShare fs fd (R := iprop(Owed (tileThr d L) O W ∗ R)) (recv_wp d L src dst sem O W _ rfl (R := R) (BIBase.Entails.trans ?_ hk)))
  · unfold At
    iintro ⟨⟨Hd, Hs⟩, Hsem, HO, HR⟩
    isplitr [HR]
    · isplitl [Hs]
      · iexists fs
        isplitl [Hs]
        · iexact Hs
        · ipureintro; exact hs
      isplitl [Hd]
      · iexists _
        isplitl [Hd]
        · iexact Hd
        · ipureintro
          intro y
          rw [View.read_write_univ]
          exact hs y
      isplitl [Hsem] <;> iassumption
    · iexact HR
  · isplitl [Hs Hd Hsem]
    · isplitl [Hs]
      · iexact Hs
      isplitl [Hd] <;> iassumption
    · isplitl [HO] <;> iassumption

variable (i : grid0.Coords) (arg2 : Memref sig .scVector .hbm S320000x128 .f32) (harg2 : arg2.IsWhole) (arg3 : Memref sig .scVector .hbm S320000 .i32) (harg3 : arg3.IsWhole)
  (arg4 : Memref sig .scVector .hbm S32x8x128 .f32) (harg4 : arg4.IsWhole) (arg5 : Memref sig .scVector .hbm S32x8x128 .f32) (harg5 : arg5.IsWhole)
  (arg6 : Memref sig .scVector .hbm S32x8x16 .f32) (harg6 : arg6.IsWhole) (arg7 : Memref sig .scVector .vmem S5600 .i32) (harg7 : arg7.IsWhole)
  (arg8 : Memref sig .scVector .vmem S2x200x128 .f32) (harg8 : arg8.IsWhole) (arg9 : Memref sig .scVector .vmem S8x128 .f32) (harg9 : arg9.IsWhole)
  (arg10 : Memref sig .scVector .vmem S8x128 .f32) (harg10 : arg10.IsWhole) (arg11 : Memref sig .scVector .vmem S8x16 .f32) (harg11 : arg11.IsWhole)
  (arg12 : DmaSems sig S_) (arg13 : DmaSems sig S_) (v349_r0 : DmaSems sig S_) (v349_r1 : DmaSems sig S_) (v349_r2 : DmaSems sig S_) (v349_r3 : DmaSems sig S_)
  (d : Dev nD) (O : CellTallies nD τ sig (HIx 1)) (W : Waits sig (HIx 1)) (q0 q1 qt : PosShare TreeShare)
  (fx : Buf (Elt F) (arg2.view.loc (tileThr d i))) (xN : ℕ → ℕ → Elt F .f32) (hx : ∀ y : S320000x128.Idx, arg2.view.read (Elt F) fx y = xN (y 0).val (y 1).val)
  (ft : Buf (Elt F) (arg3.view.loc (tileThr d i))) (tyN : ℕ → BitVec 32) (ht : ∀ y : S320000.Idx, arg3.view.read (Elt F) ft y = tyN (y 0).val)

theorem off1_0 : k0_off1 i 0 = tileRow i := by
  have h0 : (i 0).val < 2 := (i 0).isLt
  have h1 : (i 1).val < 16 := (i 1).isLt
  show ((BitVec.ofNat 32 (i 1).val * 2#32 + BitVec.ofNat 32 (i 0).val) * 5600#32).toNat = ((i 1).val * 2 + (i 0).val) * 5600
  simp only [BitVec.toNat_add, BitVec.toNat_mul, BitVec.toNat_ofNat]
  omega

/-- The types of the tile's rows. -/
abbrev tileTypes (tyN : ℕ → BitVec 32) (i : grid0.Coords) : ℕ → BitVec 32 := fun r => tyN (tileRow i + r)

set_option maxHeartbeats 2000000 in
include ht in
theorem part89_wp {R : sProp (𝕄 F)} {Q : _ → sProp (𝕄 F)}
    (hk : ∀ v3 h1 h2 h3 h4 h5 c, iprop(((arg3.view.loc (tileThr d i) ↦{qt} ft) ∗ Any d i arg7 ∗ semVal (tileThr d i, SemLoc.dma v349_r0.sem) 0 ∗ Owed (tileThr d i) O W) ∗ R)
      ⊢ Q ⟨v3, cntAcc (tileTypes tyN i) 6#32 350, cntAcc (tileTypes tyN i) 7#32 350, (bound (tileTypes tyN i) 1#32), h1, (bound (tileTypes tyN i) 2#32), h2, (bound (tileTypes tyN i) 3#32), h3, (bound (tileTypes tyN i) 4#32), h4, (bound (tileTypes tyN i) 5#32), h5, c⟩) :
    iprop(((arg3.view.loc (tileThr d i) ↦{qt} ft) ∗ Any d i arg7 ∗ semVal (tileThr d i, SemLoc.dma v349_r0.sem) 0 ∗ Owed (tileThr d i) O W) ∗ R) ⊢ wp frame (wpE (defs₀ (F := F)) 𝒱₀ (tileThr d i) none) Set.univ
      (k0_part89 (F := F) i arg2 harg2 arg3 harg3 arg4 harg4 arg5 harg5 arg6 harg6 arg7 harg7 arg8 harg8 arg9 harg9 arg10 harg10 arg11 harg11 arg12 arg13 v349_r0 v349_r1 v349_r2 v349_r3) Q := by
  unfold k0_part89
  unfold Any
  iintro ⟨⟨Ht, ⟨%f, Hf⟩, Hs, HO⟩, HR⟩
  ihave Ht' := (pointsTo_split_subset (q := qt) (f := ft) (S := Finset.univ) (Finset.subset_univ (arg3.slice (Rect.unit (s := S320000) (k0_off1 i) S5600.size (k0_off1_inb i)) (fun _ => rfl)).view.set)).1 $$ Ht
  icases Ht' with ⟨Ht, Htr⟩
  iapply (send_wp d i (arg3.slice (Rect.unit (s := S320000) (k0_off1 i) S5600.size (k0_off1_inb i)) (fun _ => rfl)) arg7 v349_r0.sem (show 0 < S5600.numel by decide) qt ft f
    (R := iprop(Owed (tileThr d i) O W ∗ (arg3.view.loc (tileThr d i) ↦[Finset.univ \ (arg3.slice (Rect.unit (s := S320000) (k0_off1 i) S5600.size (k0_off1_inb i)) (fun _ => rfl)).view.set]{qt} ft) ∗ R))
    (recv_wp d i _ arg7 v349_r0.sem O W _ rfl
      (R := iprop((arg3.view.loc (tileThr d i) ↦[Finset.univ \ (arg3.slice (Rect.unit (s := S320000) (k0_off1 i) S5600.size (k0_off1_inb i)) (fun _ => rfl)).view.set]{qt} ft) ∗ R))
      ?_))
  · refine BIBase.Entails.trans ?_ (countLoop_wp i arg2 harg2 arg3 harg3 arg4 harg4 arg5 harg5 arg6 harg6 arg7 harg7 arg8 harg8 arg9 harg9 arg10 harg10 arg11 harg11 arg12 arg13 v349_r0 v349_r1 v349_r2 v349_r3 d (tileTypes tyN i)
      (arg7.view.write (Elt F) f ((arg3.slice (Rect.unit (s := S320000) (k0_off1 i) S5600.size (k0_off1_inb i)) (fun _ => rfl)).view.read (Elt F) ft) Finset.univ) ?_ _ ?_
      (R := iprop((arg3.view.loc (tileThr d i) ↦{qt} ft) ∗ semVal (tileThr d i, SemLoc.dma v349_r0.sem) 0 ∗ Owed (tileThr d i) O W ∗ R)) ?_)
    · iintro ⟨⟨Hf, Ht⟩, Hs, HO, Htr, HR⟩
      isplitl [Hf]
      · iexact Hf
      isplitl [Ht Htr]
      · iapply (pointsTo_split_subset (q := qt) (f := ft) (S := Finset.univ) (Finset.subset_univ _)).2
        isplitl [Ht]
        · iexact Ht
        · iexact Htr
      isplitl [Hs]
      · iexact Hs
      isplitl [HO] <;> iassumption
    · intro y
      rw [View.read_write_univ]
      refine (ht _).trans ?_
      have e : ((Rect.unit (s := S320000) (k0_off1 i) S5600.size (k0_off1_inb i)).emb y 0).val = tileRow i + (y 0).val := by
        rw [← off1_0]; simp [Rect.emb, Rect.unit]
      rw [e]
    · intro k a; rfl
    · refine assume_wp d i (chk1 _) (assume_wp d i (chk2 _ _) (assume_wp d i (chk3 _ _) (assume_wp d i (chk4 _ _) (assume_wp d i (chk5 _ _) (pure_wp d i _ (BIBase.Entails.trans ?_ (hk _ _ _ _ _ _ _)))))))
      unfold Any
      iintro ⟨Hf, Ht, Hs, HO, HR⟩
      isplitr [HR]
      · isplitl [Ht]
        · iexact Ht
        isplitl [Hf]
        · iexists _; iexact Hf
        isplitl [Hs] <;> iassumption
      · iexact HR
  · isplitl [Ht Hf Hs]
    · isplitl [Ht]
      · iexact Ht
      isplitl [Hf] <;> iassumption
    · isplitl [HO]
      · iexact HO
      isplitl [Htr]
      · iexact Htr
      · iexact HR

end Cert.Proof

end
-- ==== Proof.Body.lean ====
/-
  The whole run of a tile.
-/
module

public import proofs.«01_k».proof.Proof.Types

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

abbrev out4 (i : grid0.Coords) (a : Memref sig .scVector .hbm S32x8x128 .f32) : Memref sig .scVector .hbm S8x128 .f32 :=
  (a.slice (Rect.unit (s := S32x8x128) (k0_off264 i) S1x8x128.size (k0_off264_inb i)) (fun _ => rfl)).squeeze S8x128 squeezes_S1x8x128_S8x128
abbrev out6 (i : grid0.Coords) (a : Memref sig .scVector .hbm S32x8x16 .f32) : Memref sig .scVector .hbm S8x16 .f32 :=
  (a.slice (Rect.unit (s := S32x8x16) (k0_off265 i) S1x8x16.size (k0_off265_inb i)) (fun _ => rfl)).squeeze S8x16 squeezes_S1x8x16_S8x16

theorem At.congr {d : Dev nD} {L : grid0.Coords} {sp : Space} {s : Shape} {e : EltTy} {m : Memref sig .scVector sp s e} {Y Y' : s.Idx → Elt F e}
    (h : ∀ y, Y y = Y' y) : At d L m Y ⊢ At d L m Y' := by
  rw [show Y = Y' from funext h]

theorem At.any {d : Dev nD} {L : grid0.Coords} {sp : Space} {s : Shape} {e : EltTy} {m : Memref sig .scVector sp s e} {Y : s.Idx → Elt F e} : At d L m Y ⊢ Any d L m := by
  unfold At Any
  iintro ⟨%f, Hf, -⟩
  iexists f; iexact Hf

theorem Holds.toAt {d : Dev nD} {L : grid0.Coords} {m : Memref sig .scVector .vmem S8x128 .f32} {G : ℕ → ℕ → Elt F .f32} : Holds d L m G ⊢ At d L m (fun y => G (y 0).val (y 1).val) := by
  unfold Holds At
  exact .rfl

/-- Zero, as the program writes it. -/
abbrev zero : Elt F .f32 := Scalar.ofBits .f32 0x00000000#32

/-- The sums of the tile's rows, type by type. -/
def tileSum (tyN : ℕ → BitVec 32) (xN : ℕ → ℕ → Elt F .f32) (i : grid0.Coords) : ℕ → ℕ → Elt F .f32 :=
  tabAt (bnds (tileTypes tyN i)) xN (tileRow i) zero (fun _ _ => zero) 14

/-- How many of the tile's rows there are of a type. -/
def tileCnt (tyN : ℕ → BitVec 32) (i : grid0.Coords) (t : ℕ) : Elt F .f32 := cntv (bnds (tileTypes tyN i)) t

theorem Zeroed.done {d : Dev nD} {L : grid0.Coords} {m n : Memref sig .scVector .vmem S8x128 .f32} {z : Elt F .f32} {G H : ℕ → ℕ → Elt F .f32} {R : sProp (𝕄 F)} :
    Zeroed d L m n z G H R 64 ⊢ iprop(Holds d L m (fun _ _ => z) ∗ Holds d L n (fun _ _ => z) ∗ R) := by
  have h : ∀ G : ℕ → ℕ → Elt F .f32, ∀ t c, t < 8 → c < 128 → fillTo z G 64 t c = z := fun G t c ht hc => if_pos (by omega)
  unfold Zeroed
  iintro ⟨Hm, Hn, HR⟩
  isplitl [Hm]
  · iapply (Holds.congr (h G)) $$ Hm
  isplitl [Hn]
  · iapply (Holds.congr (h H)) $$ Hn
  · iexact HR

theorem Zeroed.start {d : Dev nD} {L : grid0.Coords} {m n : Memref sig .scVector .vmem S8x128 .f32} {z : Elt F .f32} {G H : ℕ → ℕ → Elt F .f32} {R : sProp (𝕄 F)} :
    iprop(Holds d L m G ∗ Holds d L n H ∗ R) ⊢ Zeroed d L m n z G H R 0 := by
  have h : ∀ G : ℕ → ℕ → Elt F .f32, ∀ t c, t < 8 → c < 128 → G t c = fillTo z G 0 t c := fun G t c ht hc => (if_neg (by omega)).symm
  unfold Zeroed
  iintro ⟨Hm, Hn, HR⟩
  isplitl [Hm]
  · iapply (Holds.congr (h G)) $$ Hm
  isplitl [Hn]
  · iapply (Holds.congr (h H)) $$ Hn
  · iexact HR

variable (i : grid0.Coords) (arg2 : Memref sig .scVector .hbm S320000x128 .f32) (harg2 : arg2.IsWhole) (arg3 : Memref sig .scVector .hbm S320000 .i32) (harg3 : arg3.IsWhole)
  (arg4 : Memref sig .scVector .hbm S32x8x128 .f32) (harg4 : arg4.IsWhole) (arg5 : Memref sig .scVector .hbm S32x8x128 .f32) (harg5 : arg5.IsWhole)
  (arg6 : Memref sig .scVector .hbm S32x8x16 .f32) (harg6 : arg6.IsWhole) (arg7 : Memref sig .scVector .vmem S5600 .i32) (harg7 : arg7.IsWhole)
  (arg8 : Memref sig .scVector .vmem S2x200x128 .f32) (harg8 : arg8.IsWhole) (arg9 : Memref sig .scVector .vmem S8x128 .f32) (harg9 : arg9.IsWhole)
  (arg10 : Memref sig .scVector .vmem S8x128 .f32) (harg10 : arg10.IsWhole) (arg11 : Memref sig .scVector .vmem S8x16 .f32) (harg11 : arg11.IsWhole)
  (arg12 : DmaSems sig S_) (arg13 : DmaSems sig S_) (v349_r0 : DmaSems sig S_) (v349_r1 : DmaSems sig S_) (v349_r2 : DmaSems sig S_) (v349_r3 : DmaSems sig S_)
  (d : Dev nD) (O : CellTallies nD τ sig (HIx 1)) (W : Waits sig (HIx 1)) (q0 q1 qt : PosShare TreeShare)
  (fx : Buf (Elt F) (arg2.view.loc (tileThr d i))) (xN : ℕ → ℕ → Elt F .f32) (hx : ∀ y : S320000x128.Idx, arg2.view.read (Elt F) fx y = xN (y 0).val (y 1).val)
  (ft : Buf (Elt F) (arg3.view.loc (tileThr d i))) (tyN : ℕ → BitVec 32) (ht : ∀ y : S320000.Idx, arg3.view.read (Elt F) ft y = tyN (y 0).val)

set_option maxHeartbeats 4000000 in
include hx ht in
theorem body_wp (G H C : ℕ → ℕ → Elt F .f32) (Q : PUnit → sProp (𝕄 F)) (R : sProp (𝕄 F))
    (hk : iprop(Idle d i arg2 (slot0 arg8) arg12.sem q0 fx ∗ Idle d i arg2 (slot1 arg8) arg13.sem q1 fx ∗ (At d i arg9 (fun y => tileSum tyN xN i (y 0).val (y 1).val) ∗ At d i (out4 i arg4) (fun y => tileSum tyN xN i (y 0).val (y 1).val) ∗ semVal (tileThr d i, SemLoc.dma v349_r1.sem) 0)
        ∗ (At d i arg10 (fun y => tileSum tyN (sqr xN) i (y 0).val (y 1).val) ∗ At d i (out4 i arg5) (fun y => tileSum tyN (sqr xN) i (y 0).val (y 1).val) ∗ semVal (tileThr d i, SemLoc.dma v349_r2.sem) 0)
        ∗ (At d i arg11 (fun y => tileCnt tyN i (y 0).val) ∗ At d i (out6 i arg6) (fun y => tileCnt tyN i (y 0).val) ∗ semVal (tileThr d i, SemLoc.dma v349_r3.sem) 0)
        ∗ ((arg3.view.loc (tileThr d i) ↦{qt} ft) ∗ Any d i arg7 ∗ semVal (tileThr d i, SemLoc.dma v349_r0.sem) 0 ∗ Owed (tileThr d i) O W) ∗ R) ⊢ Q ⟨⟩) :
    iprop(((arg3.view.loc (tileThr d i) ↦{qt} ft) ∗ Any d i arg7 ∗ semVal (tileThr d i, SemLoc.dma v349_r0.sem) 0 ∗ Owed (tileThr d i) O W) ∗ Idle d i arg2 (slot0 arg8) arg12.sem q0 fx ∗ Idle d i arg2 (slot1 arg8) arg13.sem q1 fx ∗ (Holds d i arg9 G ∗ Any d i (out4 i arg4) ∗ semVal (tileThr d i, SemLoc.dma v349_r1.sem) 0)
        ∗ (Holds d i arg10 H ∗ Any d i (out4 i arg5) ∗ semVal (tileThr d i, SemLoc.dma v349_r2.sem) 0) ∗ (HoldsC d i arg11 C ∗ Any d i (out6 i arg6) ∗ semVal (tileThr d i, SemLoc.dma v349_r3.sem) 0) ∗ R)
      ⊢ wp frame (wpE (defs₀ (F := F)) 𝒱₀ (tileThr d i) none) Set.univ (cc0__sc_stats_body (F := F) i arg2 harg2 arg3 harg3 arg4 harg4 arg5 harg5 arg6 harg6 arg7 harg7 arg8 harg8 arg9 harg9 arg10 harg10 arg11 harg11 arg12 arg13 v349_r0 v349_r1 v349_r2 v349_r3) Q := by
  unfold cc0__sc_stats_body
  refine bind_wp d i ?_
  unfold k0_part105
  refine bind_wp d i (part89_wp i arg2 harg2 arg3 harg3 arg4 harg4 arg5 harg5 arg6 harg6 arg7 harg7 arg8 harg8 arg9 harg9 arg10 harg10 arg11 harg11 arg12 arg13 v349_r0 v349_r1 v349_r2 v349_r3 d O W qt ft tyN ht fun v3 h1 h2 h3 h4 h5 c => ?_)
  refine BIBase.Entails.trans (Q := Zeroed d i arg9 arg10 zero G H iprop(Idle d i arg2 (slot0 arg8) arg12.sem q0 fx ∗ Idle d i arg2 (slot1 arg8) arg13.sem q1 fx ∗ Owed (tileThr d i) O W ∗ HoldsC d i arg11 C
     ∗ ((arg3.view.loc (tileThr d i) ↦{qt} ft) ∗ Any d i arg7 ∗ semVal (tileThr d i, SemLoc.dma v349_r0.sem) 0) ∗ (Any d i (out4 i arg4) ∗ semVal (tileThr d i, SemLoc.dma v349_r1.sem) 0) ∗ (Any d i (out4 i arg5) ∗ semVal (tileThr d i, SemLoc.dma v349_r2.sem) 0) ∗ (Any d i (out6 i arg6) ∗ semVal (tileThr d i, SemLoc.dma v349_r3.sem) 0) ∗ R) 0) ?_ ?_
  · refine BIBase.Entails.trans ?_ Zeroed.start
    iintro ⟨⟨Ht, H7, Hs0, HO⟩, HI0, HI1, ⟨H9, H4, Hs1⟩, ⟨H10, H5, Hs2⟩, ⟨H11, H6, Hs3⟩, HR⟩
    isplitl [H9]
    · iexact H9
    isplitl [H10]
    · iexact H10
    isplitl [HI0]
    · iexact HI0
    isplitl [HI1]
    · iexact HI1
    isplitl [HO]
    · iexact HO
    isplitl [H11]
    · iexact H11
    isplitl [Ht H7 Hs0]
    · isplitl [Ht]
      · iexact Ht
      isplitl [H7] <;> iassumption
    isplitl [H4 Hs1]
    · isplitl [H4] <;> iassumption
    isplitl [H5 Hs2]
    · isplitl [H5] <;> iassumption
    isplitl [H6 Hs3]
    · isplitl [H6] <;> iassumption
    · iexact HR
  refine bind_wp d i (part90_wp i arg2 harg2 arg3 harg3 arg4 harg4 arg5 harg5 arg6 harg6 arg7 harg7 arg8 harg8 arg9 harg9 arg10 harg10 arg11 harg11 arg12 arg13 v349_r0 v349_r1 v349_r2 v349_r3 zero d G H _ _ _ _ rfl fun h6 h7 _ => ?_)
  refine bind_wp d i (part91_wp i arg2 harg2 arg3 harg3 arg4 harg4 arg5 harg5 arg6 harg6 arg7 harg7 arg8 harg8 arg9 harg9 arg10 harg10 arg11 harg11 arg12 arg13 v349_r0 v349_r1 v349_r2 v349_r3 zero d G H _ fun _ => ?_)
  refine bind_wp d i (part92_wp i arg2 harg2 arg3 harg3 arg4 harg4 arg5 harg5 arg6 harg6 arg7 harg7 arg8 harg8 arg9 harg9 arg10 harg10 arg11 harg11 arg12 arg13 v349_r0 v349_r1 v349_r2 v349_r3 zero d G H _ fun _ => ?_)
  refine bind_wp d i (part93_wp i arg2 harg2 arg3 harg3 arg4 harg4 arg5 harg5 arg6 harg6 arg7 harg7 arg8 harg8 arg9 harg9 arg10 harg10 arg11 harg11 arg12 arg13 v349_r0 v349_r1 v349_r2 v349_r3 zero d G H _ fun _ => ?_)
  refine bind_wp d i (part94_wp i arg2 harg2 arg3 harg3 arg4 harg4 arg5 harg5 arg6 harg6 arg7 harg7 arg8 harg8 arg9 harg9 arg10 harg10 arg11 harg11 arg12 arg13 v349_r0 v349_r1 v349_r2 v349_r3 zero d G H _ fun _ => ?_)
  refine bind_wp d i (part95_wp i arg2 harg2 arg3 harg3 arg4 harg4 arg5 harg5 arg6 harg6 arg7 harg7 arg8 harg8 arg9 harg9 arg10 harg10 arg11 harg11 arg12 arg13 v349_r0 v349_r1 v349_r2 v349_r3 zero d G H _ fun _ => ?_)
  refine bind_wp d i (part96_wp i arg2 harg2 arg3 harg3 arg4 harg4 arg5 harg5 arg6 harg6 arg7 harg7 arg8 harg8 arg9 harg9 arg10 harg10 arg11 harg11 arg12 arg13 v349_r0 v349_r1 v349_r2 v349_r3 zero d G H _ fun _ => ?_)
  refine bind_wp d i (part97_wp i arg2 harg2 arg3 harg3 arg4 harg4 arg5 harg5 arg6 harg6 arg7 harg7 arg8 harg8 arg9 harg9 arg10 harg10 arg11 harg11 arg12 arg13 v349_r0 v349_r1 v349_r2 v349_r3 zero d G H _ fun _ => ?_)
  refine bind_wp d i (part98_wp i arg2 harg2 arg3 harg3 arg4 harg4 arg5 harg5 arg6 harg6 arg7 harg7 arg8 harg8 arg9 harg9 arg10 harg10 arg11 harg11 arg12 arg13 v349_r0 v349_r1 v349_r2 v349_r3 zero d G H _ fun _ => ?_)
  refine bind_wp d i (part99_wp i arg2 harg2 arg3 harg3 arg4 harg4 arg5 harg5 arg6 harg6 arg7 harg7 arg8 harg8 arg9 harg9 arg10 harg10 arg11 harg11 arg12 arg13 v349_r0 v349_r1 v349_r2 v349_r3 zero d G H _ fun _ => ?_)
  refine bind_wp d i (part100_wp i arg2 harg2 arg3 harg3 arg4 harg4 arg5 harg5 arg6 harg6 arg7 harg7 arg8 harg8 arg9 harg9 arg10 harg10 arg11 harg11 arg12 arg13 v349_r0 v349_r1 v349_r2 v349_r3 zero d G H _ fun _ => ?_)
  refine bind_wp d i (part101_wp i arg2 harg2 arg3 harg3 arg4 harg4 arg5 harg5 arg6 harg6 arg7 harg7 arg8 harg8 arg9 harg9 arg10 harg10 arg11 harg11 arg12 arg13 v349_r0 v349_r1 v349_r2 v349_r3 zero d G H _ fun _ => ?_)
  refine bind_wp d i (part102_wp i arg2 harg2 arg3 harg3 arg4 harg4 arg5 harg5 arg6 harg6 arg7 harg7 arg8 harg8 arg9 harg9 arg10 harg10 arg11 harg11 arg12 arg13 v349_r0 v349_r1 v349_r2 v349_r3 zero d G H _ fun _ => ?_)
  refine BIBase.Entails.trans Zeroed.done ?_
  refine bind_wp d i ?_
  refine BIBase.Entails.trans ?_ (part103_wp i arg2 harg2 arg3 harg3 arg4 harg4 arg5 harg5 arg6 harg6 arg7 harg7 arg8 harg8 arg9 harg9 arg10 harg10 arg11 harg11 arg12 arg13 v349_r0 v349_r1 v349_r2 v349_r3 (bound (tileTypes tyN i) 1#32) (bound (tileTypes tyN i) 2#32) (bound (tileTypes tyN i) 3#32) (bound (tileTypes tyN i) 4#32) (bound (tileTypes tyN i) 5#32) (bound (tileTypes tyN i) 6#32) (bound (tileTypes tyN i) 7#32) h1 h2 h3 h4 h5 h6 h7 zero d O W q0 q1 fx xN hx v3 (fun _ _ => zero) (fun _ _ => zero) C
    (R := iprop(((arg3.view.loc (tileThr d i) ↦{qt} ft) ∗ Any d i arg7 ∗ semVal (tileThr d i, SemLoc.dma v349_r0.sem) 0) ∗ (Any d i (out4 i arg4) ∗ semVal (tileThr d i, SemLoc.dma v349_r1.sem) 0) ∗ (Any d i (out4 i arg5) ∗ semVal (tileThr d i, SemLoc.dma v349_r2.sem) 0) ∗ (Any d i (out6 i arg6) ∗ semVal (tileThr d i, SemLoc.dma v349_r3.sem) 0) ∗ R)) ?_)
  · iintro ⟨H9, H10, HI0, HI1, HO, H11, HR⟩
    isplitl [HI0]
    · iexact HI0
    isplitl [HI1]
    · iexact HI1
    isplitl [HO]
    · iexact HO
    isplitl [H9]
    · iexact H9
    isplitl [H10]
    · iexact H10
    isplitl [H11]
    · iexact H11
    · iexact HR
  refine bind_wp d i ?_
  refine BIBase.Entails.trans ?_ (part104_wp i arg2 harg2 arg3 harg3 arg4 harg4 arg5 harg5 arg6 harg6 arg7 harg7 arg8 harg8 arg9 harg9 arg10 harg10 arg11 harg11 arg12 arg13 v349_r0 v349_r1 v349_r2 v349_r3 (bound (tileTypes tyN i) 1#32) (bound (tileTypes tyN i) 2#32) (bound (tileTypes tyN i) 3#32) (bound (tileTypes tyN i) 4#32) (bound (tileTypes tyN i) 5#32) (bound (tileTypes tyN i) 6#32) (bound (tileTypes tyN i) 7#32) d C
    (R := iprop((Idle d i arg2 (slot0 arg8) arg12.sem q0 fx ∗ Idle d i arg2 (slot1 arg8) arg13.sem q1 fx ∗ Owed (tileThr d i) O W ∗ Holds d i arg9 (tileSum tyN xN i) ∗ Holds d i arg10 (tileSum tyN (sqr xN) i)) ∗ ((arg3.view.loc (tileThr d i) ↦{qt} ft) ∗ Any d i arg7 ∗ semVal (tileThr d i, SemLoc.dma v349_r0.sem) 0) ∗ (Any d i (out4 i arg4) ∗ semVal (tileThr d i, SemLoc.dma v349_r1.sem) 0) ∗ (Any d i (out4 i arg5) ∗ semVal (tileThr d i, SemLoc.dma v349_r2.sem) 0) ∗ (Any d i (out6 i arg6) ∗ semVal (tileThr d i, SemLoc.dma v349_r3.sem) 0) ∗ R)) ?_)
  · iintro ⟨HI, H11, HR⟩
    isplitl [H11]
    · iexact H11
    isplitl [HI]
    · iexact HI
    · iexact HR
  refine BIBase.Entails.trans ?_ (move_wp d i arg9 (out4 i arg4) v349_r1.sem (by decide) (fun y => tileSum tyN xN i (y 0).val (y 1).val) O W
    (R := iprop(HoldsC d i arg11 (cntTo (cntv (bnds (tileTypes tyN i))) C 8) ∗ Idle d i arg2 (slot0 arg8) arg12.sem q0 fx ∗ Idle d i arg2 (slot1 arg8) arg13.sem q1 fx ∗ Holds d i arg10 (tileSum tyN (sqr xN) i) ∗ ((arg3.view.loc (tileThr d i) ↦{qt} ft) ∗ Any d i arg7 ∗ semVal (tileThr d i, SemLoc.dma v349_r0.sem) 0) ∗ (Any d i (out4 i arg5) ∗ semVal (tileThr d i, SemLoc.dma v349_r2.sem) 0) ∗ (Any d i (out6 i arg6) ∗ semVal (tileThr d i, SemLoc.dma v349_r3.sem) 0) ∗ R)) ?_)
  · iintro ⟨H11, ⟨HI0, HI1, HO, H9, H10⟩, HT, ⟨H4, Hs1⟩, H5, H6, HR⟩
    isplitl [H9 H4 Hs1 HO]
    · isplitl [H9]
      · iapply Holds.toAt $$ H9
      isplitl [H4]
      · iexact H4
      isplitl [Hs1] <;> iassumption
    isplitl [H11]
    · iexact H11
    isplitl [HI0]
    · iexact HI0
    isplitl [HI1]
    · iexact HI1
    isplitl [H10]
    · iexact H10
    isplitl [HT]
    · iexact HT
    isplitl [H5]
    · iexact H5
    isplitl [H6]
    · iexact H6
    · iexact HR
  refine BIBase.Entails.trans ?_ (move_wp d i arg10 (out4 i arg5) v349_r2.sem (by decide) (fun y => tileSum tyN (sqr xN) i (y 0).val (y 1).val) O W
    (R := iprop(HoldsC d i arg11 (cntTo (cntv (bnds (tileTypes tyN i))) C 8) ∗ Idle d i arg2 (slot0 arg8) arg12.sem q0 fx ∗ Idle d i arg2 (slot1 arg8) arg13.sem q1 fx ∗ (At d i arg9 (fun y => tileSum tyN xN i (y 0).val (y 1).val) ∗ At d i (out4 i arg4) (fun y => tileSum tyN xN i (y 0).val (y 1).val) ∗ semVal (tileThr d i, SemLoc.dma v349_r1.sem) 0) ∗ ((arg3.view.loc (tileThr d i) ↦{qt} ft) ∗ Any d i arg7 ∗ semVal (tileThr d i, SemLoc.dma v349_r0.sem) 0) ∗ (Any d i (out6 i arg6) ∗ semVal (tileThr d i, SemLoc.dma v349_r3.sem) 0) ∗ R)) ?_)
  · iintro ⟨⟨H9, H4, Hs1, HO⟩, H11, HI0, HI1, H10, HT, ⟨H5, Hs2⟩, H6, HR⟩
    isplitl [H10 H5 Hs2 HO]
    · isplitl [H10]
      · iapply Holds.toAt $$ H10
      isplitl [H5]
      · iexact H5
      isplitl [Hs2] <;> iassumption
    isplitl [H11]
    · iexact H11
    isplitl [HI0]
    · iexact HI0
    isplitl [HI1]
    · iexact HI1
    isplitl [H9 H4 Hs1]
    · isplitl [H9]
      · iexact H9
      isplitl [H4] <;> iassumption
    isplitl [HT]
    · iexact HT
    isplitl [H6]
    · iexact H6
    · iexact HR
  unfold Any HoldsC
  iintro ⟨⟨H10, H5, Hs2, HO⟩, ⟨%f, H11, %hf⟩, HI0, HI1, H9, ⟨Ht, H7, Hs0⟩, ⟨⟨%g, H6⟩, Hs3⟩, HR⟩
  iapply (send_wp d i arg11 (out6 i arg6) v349_r3.sem (by decide) fullShare f g
    (R := iprop(Owed (tileThr d i) O W ∗ Idle d i arg2 (slot0 arg8) arg12.sem q0 fx ∗ Idle d i arg2 (slot1 arg8) arg13.sem q1 fx ∗ (At d i arg9 (fun y => tileSum tyN xN i (y 0).val (y 1).val) ∗ At d i (out4 i arg4) (fun y => tileSum tyN xN i (y 0).val (y 1).val) ∗ semVal (tileThr d i, SemLoc.dma v349_r1.sem) 0)
        ∗ (At d i arg10 (fun y => tileSum tyN (sqr xN) i (y 0).val (y 1).val) ∗ At d i (out4 i arg5) (fun y => tileSum tyN (sqr xN) i (y 0).val (y 1).val) ∗ semVal (tileThr d i, SemLoc.dma v349_r2.sem) 0) ∗ ((arg3.view.loc (tileThr d i) ↦{qt} ft) ∗ Any d i arg7 ∗ semVal (tileThr d i, SemLoc.dma v349_r0.sem) 0) ∗ R))
    (pure_wp d i _ (recv_wp d i arg11 (out6 i arg6) v349_r3.sem O W _ rfl (pure_wp d i _ (BIBase.Entails.trans ?_ hk)))))
  · have hc : ∀ y : S8x16.Idx, cntTo (cntv (bnds (tileTypes tyN i))) C 8 (y 0).val (y 1).val = tileCnt tyN i (y 0).val := fun y => if_pos (y 0).isLt
    unfold At Any
    iintro ⟨⟨H6, H11⟩, Hs3, HO, HI0, HI1, H9, H10, ⟨Ht, H7, Hs0⟩, HR⟩
    isplitl [HI0]
    · iexact HI0
    isplitl [HI1]
    · iexact HI1
    isplitl [H9]
    · iexact H9
    isplitl [H10]
    · iexact H10
    isplitl [H11 H6 Hs3]
    · isplitl [H11]
      · iexists f
        isplitl [H11]
        · iexact H11
        · ipureintro; exact fun y => (hf y).trans (hc y)
      isplitl [H6]
      · iexists _
        isplitl [H6]
        · iexact H6
        · ipureintro
          intro y
          rw [View.read_write_univ]
          exact (hf y).trans (hc y)
      · iexact Hs3
    isplitl [Ht H7 Hs0 HO]
    · isplitl [Ht]
      · iexact Ht
      isplitl [H7]
      · iexact H7
      isplitl [Hs0] <;> iassumption
    · iexact HR
  · isplitl [H11 H6 Hs3]
    · isplitl [H11]
      · iexact H11
      isplitl [H6] <;> iassumption
    isplitl [HO]
    · iexact HO
    isplitl [HI0]
    · iexact HI0
    isplitl [HI1]
    · iexact HI1
    isplitl [H9]
    · iexact H9
    isplitl [H10 H5 Hs2]
    · isplitl [H10]
      · iexact H10
      isplitl [H5] <;> iassumption
    isplitl [Ht H7 Hs0]
    · unfold Any
      isplitl [Ht]
      · iexact Ht
      isplitl [H7] <;> iassumption
    · iexact HR

end Cert.Proof

end
-- ==== Proof.Tile.lean ====
/-
  What a tile leaves of the arrays of the SparseCore call, and the task of a tile from the resources its launch hands it.
-/
module

public import proofs.«01_k».proof.Proof.Body
public import Idealize.ShloMosaic.Lib.ValueLayout
public import Idealize.ShloMosaic.Lib.ShareLeaves

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

open Idealize.ShloMosaic.ValueIdx
open Idealize.ShloMosaic.SparseCore.Cfg

/-! ## The arrays of the call, and what a tile leaves of them -/

abbrev xLoc (d : Dev nD) : Loc nD τ sig := (SparseCore.T d).loc main_arg0
abbrev tLoc (d : Dev nD) : Loc nD τ sig := (SparseCore.T d).loc main_arg1
abbrev s1Loc (d : Dev nD) : Loc nD τ sig := (SparseCore.T d).loc main_v1_0
abbrev s2Loc (d : Dev nD) : Loc nD τ sig := (SparseCore.T d).loc main_v1_1
abbrev cLoc (d : Dev nD) : Loc nD τ sig := (SparseCore.T d).loc main_v1_2

/-- The array of the rows at natural numbers (outside the array, at whatever remainder). -/
def rowsN {α : Type} (f : S320000x128.Idx → α) : ℕ → ℕ → α := fun r c => f (ix2 (⟨r % 320000, Nat.mod_lt _ (by decide)⟩ : Fin 320000) (⟨c % 128, Nat.mod_lt _ (by decide)⟩ : Fin 128))
def typesN {α : Type} (f : S320000.Idx → α) : ℕ → α := fun r => f (ix1 (⟨r % 320000, Nat.mod_lt _ (by decide)⟩ : Fin 320000))

theorem rowsN_apply {α : Type} (f : S320000x128.Idx → α) (y : S320000x128.Idx) : rowsN f (y 0).val (y 1).val = f y := by
  unfold rowsN
  congr 1; funext a
  match a with
  | 0 => exact Fin.ext (Nat.mod_eq_of_lt (y 0).isLt)
  | 1 => exact Fin.ext (Nat.mod_eq_of_lt (y 1).isLt)
theorem typesN_apply {α : Type} (f : S320000.Idx → α) (y : S320000.Idx) : typesN f (y 0).val = f y := by
  unfold typesN
  congr 1; funext a
  match a with
  | 0 => exact Fin.ext (Nat.mod_eq_of_lt (y 0).isLt)

/-- Tile `w`'s sums of its 5600 rows, type by type, and its counts. -/
def wSum (tyN : ℕ → BitVec 32) (xN : ℕ → ℕ → Elt F .f32) (w : ℕ) : ℕ → ℕ → Elt F .f32 :=
  tabAt (bnds fun r => tyN (w * 5600 + r)) xN (w * 5600) zero (fun _ _ => zero) 14
def wCnt (tyN : ℕ → BitVec 32) (w : ℕ) (t : ℕ) : Elt F .f32 := cntv (bnds fun r => tyN (w * 5600 + r)) t

/-- What the call leaves in its outputs. -/
def sumBuf (tyN : ℕ → BitVec 32) (xN : ℕ → ℕ → Elt F .f32) : S32x8x128.Idx → Elt F .f32 := fun j => wSum tyN xN (j 0).val (j 1).val (j 2).val
def cntBuf (tyN : ℕ → BitVec 32) : S32x8x16.Idx → Elt F .f32 := fun j => wCnt tyN (j 0).val (j 1).val

theorem hdiv3 : 32 ∣ S32x8x128.size 0 := ⟨1, rfl⟩
theorem hdivC : 32 ∣ S32x8x16.size 0 := ⟨1, rfl⟩
abbrev row3 (w : Fin 32) : Rect S32x8x128 := Rect.part (s := S32x8x128) (a₀ := 0) hdiv3 w
abbrev rowC (w : Fin 32) : Rect S32x8x16 := Rect.part (s := S32x8x16) (a₀ := 0) hdivC w

/-- The tile's number among the 32. -/
def wid (L : grid0.Coords) : Fin 32 := ⟨(L 1).val * 2 + (L 0).val, by have h0 : (L 0).val < 2 := (L 0).isLt; have h1 : (L 1).val < 16 := (L 1).isLt; omega⟩

theorem off264_0 (L : grid0.Coords) : k0_off264 L 0 = (wid L).val := by
  have h0 : (L 0).val < 2 := (L 0).isLt
  have h1 : (L 1).val < 16 := (L 1).isLt
  show (BitVec.ofNat 32 (L 1).val * 2#32 + BitVec.ofNat 32 (L 0).val).toNat = _
  simp only [BitVec.toNat_add, BitVec.toNat_mul, BitVec.toNat_ofNat, wid]; omega
theorem off265_0 (L : grid0.Coords) : k0_off265 L 0 = (wid L).val := by
  have h0 : (L 0).val < 2 := (L 0).isLt
  have h1 : (L 1).val < 16 := (L 1).isLt
  show (BitVec.ofNat 32 (L 1).val * 2#32 + BitVec.ofNat 32 (L 0).val).toNat = _
  simp only [BitVec.toNat_add, BitVec.toNat_mul, BitVec.toNat_ofNat, wid]; omega

theorem row3_eq (L : grid0.Coords) : Rect.unit (s := S32x8x128) (k0_off264 L) S1x8x128.size (k0_off264_inb L) = row3 (wid L) := by
  unfold row3 Rect.part Rect.block
  congr 1 <;> funext a
  · match a with
    | 0 => simp [Shape.partIx, Shape.partSize, off264_0]
    | 1 => simp [Shape.partIx, Shape.partSize]; rfl
    | 2 => simp [Shape.partIx, Shape.partSize]; rfl
  · match a with
    | 0 => simp [Shape.partSize]
    | 1 => simp [Shape.partSize]
    | 2 => simp [Shape.partSize]
theorem rowC_eq (L : grid0.Coords) : Rect.unit (s := S32x8x16) (k0_off265 L) S1x8x16.size (k0_off265_inb L) = rowC (wid L) := by
  unfold rowC Rect.part Rect.block
  congr 1 <;> funext a
  · match a with
    | 0 => simp [Shape.partIx, Shape.partSize, off265_0]
    | 1 => simp [Shape.partIx, Shape.partSize]; rfl
    | 2 => simp [Shape.partIx, Shape.partSize]; rfl
  · match a with
    | 0 => simp [Shape.partSize]
    | 1 => simp [Shape.partSize]
    | 2 => simp [Shape.partSize]

/-! ## The elements of a tile's windows -/

theorem set_out4 (L : grid0.Coords) (a : Memref sig .scVector .hbm S32x8x128 .f32) : (out4 L a).view.set = (a.view.slice (row3 (wid L))).set := by
  show ((a.view.slice (Rect.unit (s := S32x8x128) (k0_off264 L) S1x8x128.size (k0_off264_inb L))).reshape S8x128 squeezes_S1x8x128_S8x128.numel_eq).set = _
  rw [View.set_reshape]
  exact row3_eq L ▸ rfl
theorem set_out6 (L : grid0.Coords) (a : Memref sig .scVector .hbm S32x8x16 .f32) : (out6 L a).view.set = (a.view.slice (rowC (wid L))).set := by
  show ((a.view.slice (Rect.unit (s := S32x8x16) (k0_off265 L) S1x8x16.size (k0_off265_inb L))).reshape S8x16 squeezes_S1x8x16_S8x16.numel_eq).set = _
  rw [View.set_reshape]
  exact rowC_eq L ▸ rfl

theorem read_out4 (L : grid0.Coords) (a : Memref sig .scVector .hbm S32x8x128 .f32) (g : a.view.ty.Contents (Elt F)) (G : ℕ → ℕ → ℕ → Elt F .f32)
    (hg : ∀ j : S32x8x128.Idx, a.view.read (Elt F) g j = G (j 0).val (j 1).val (j 2).val) (y : S8x128.Idx) :
    (out4 L a).view.read (Elt F) g y = G (wid L).val (y 0).val (y 1).val := by
  show shapeCast S8x128 (fun j => a.view.read (Elt F) g ((Rect.unit (s := S32x8x128) (k0_off264 L) S1x8x128.size (k0_off264_inb L)).emb j)) squeezes_S1x8x128_S8x128.numel_eq y = _
  have hy : y = ix2 (y 0) (y 1) := by funext a; match a with | 0 => rfl | 1 => rfl
  rw [hy]
  refine (shapeCast_1ab_ab_apply _ _ _ _).trans ?_
  rw [hg]
  have e0 : ((Rect.unit (s := S32x8x128) (k0_off264 L) S1x8x128.size (k0_off264_inb L)).emb (ix3 (0 : Fin 1) (y 0) (y 1)) 0).val = (wid L).val := by
    rw [← off264_0]; simp [Rect.emb, Rect.unit]
  have e1 : ((Rect.unit (s := S32x8x128) (k0_off264 L) S1x8x128.size (k0_off264_inb L)).emb (ix3 (0 : Fin 1) (y 0) (y 1)) 1).val = (y 0).val := by
    simp [Rect.emb, Rect.unit, k0_off264]
  have e2 : ((Rect.unit (s := S32x8x128) (k0_off264 L) S1x8x128.size (k0_off264_inb L)).emb (ix3 (0 : Fin 1) (y 0) (y 1)) 2).val = (y 1).val := by
    simp [Rect.emb, Rect.unit, k0_off264]
  rw [e0, e1, e2]
theorem read_out6 (L : grid0.Coords) (a : Memref sig .scVector .hbm S32x8x16 .f32) (g : a.view.ty.Contents (Elt F)) (G : ℕ → ℕ → ℕ → Elt F .f32)
    (hg : ∀ j : S32x8x16.Idx, a.view.read (Elt F) g j = G (j 0).val (j 1).val (j 2).val) (y : S8x16.Idx) :
    (out6 L a).view.read (Elt F) g y = G (wid L).val (y 0).val (y 1).val := by
  show shapeCast S8x16 (fun j => a.view.read (Elt F) g ((Rect.unit (s := S32x8x16) (k0_off265 L) S1x8x16.size (k0_off265_inb L)).emb j)) squeezes_S1x8x16_S8x16.numel_eq y = _
  have hy : y = ix2 (y 0) (y 1) := by funext a; match a with | 0 => rfl | 1 => rfl
  rw [hy]
  refine (shapeCast_1ab_ab_apply _ _ _ _).trans ?_
  rw [hg]
  have e0 : ((Rect.unit (s := S32x8x16) (k0_off265 L) S1x8x16.size (k0_off265_inb L)).emb (ix3 (0 : Fin 1) (y 0) (y 1)) 0).val = (wid L).val := by
    rw [← off265_0]; simp [Rect.emb, Rect.unit]
  have e1 : ((Rect.unit (s := S32x8x16) (k0_off265 L) S1x8x16.size (k0_off265_inb L)).emb (ix3 (0 : Fin 1) (y 0) (y 1)) 1).val = (y 0).val := by
    simp [Rect.emb, Rect.unit, k0_off265]
  have e2 : ((Rect.unit (s := S32x8x16) (k0_off265 L) S1x8x16.size (k0_off265_inb L)).emb (ix3 (0 : Fin 1) (y 0) (y 1)) 2).val = (y 1).val := by
    simp [Rect.emb, Rect.unit, k0_off265]
  rw [e0, e1, e2]

/-- A memref held by its values is held at any contents that read as they do. -/
theorem At.held {d : Dev nD} {L : grid0.Coords} {sp : Space} {s : Shape} {e : EltTy} {m : Memref sig .scVector sp s e} {Y : s.Idx → Elt F e}
    (g : Buf (Elt F) (m.view.loc (tileThr d L))) (hg : ∀ y, m.view.read (Elt F) g y = Y y) : At d L m Y ⊢ (m.view.loc (tileThr d L) ↦[m.view.set]{fullShare} g) := by
  unfold At
  iintro ⟨%f, Hf, %hf⟩
  have h : ∀ j ∈ m.view.set, f j = g j := by
    intro j hj
    obtain ⟨y, -, rfl⟩ := Finset.mem_map.mp hj
    have e := (hf y).trans (hg y).symm
    rw [View.read_apply, View.read_apply] at e
    exact (cast_inj _).mp e
  iapply (Entails.of_eq (pointsTo_congr h)) $$ Hf

/-! ## The two slots of the chunks' scratch -/

theorem hdiv2 : 2 ∣ S2x200x128.size 0 := ⟨1, rfl⟩
abbrev slotR (k : Fin 2) : Rect S2x200x128 := Rect.part (s := S2x200x128) (a₀ := 0) hdiv2 k

theorem slotR0_eq : Rect.unit (s := S2x200x128) ![0, 0, 0] S1x200x128.size inb_S2x200x128_S1x200x128_0_0_0 = slotR 0 := by
  unfold slotR Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]
theorem slotR1_eq : Rect.unit (s := S2x200x128) ![1, 0, 0] S1x200x128.size inb_S2x200x128_S1x200x128_1_0_0 = slotR 1 := by
  unfold slotR Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

abbrev chV : Memref sig .scVector .vmem S2x200x128 .f32 := Memref.whole cc0_scratch1
theorem set_slot0 : (slot0 chV).view.set = (slotR 0).set := by
  show ((chV.view.slice (Rect.unit (s := S2x200x128) ![0, 0, 0] S1x200x128.size inb_S2x200x128_S1x200x128_0_0_0)).reshape S200x128 squeezes_S1x200x128_S200x128.numel_eq).set = _
  rw [View.set_reshape]
  refine Eq.trans ?_ (show ((View.whole cc0_scratch1).slice (slotR 0)).set = (slotR 0).set by rw [View.set_slice]; exact Finset.map_refl)
  exact slotR0_eq ▸ rfl
theorem set_slot1 : (slot1 chV).view.set = (slotR 1).set := by
  show ((chV.view.slice (Rect.unit (s := S2x200x128) ![1, 0, 0] S1x200x128.size inb_S2x200x128_S1x200x128_1_0_0)).reshape S200x128 squeezes_S1x200x128_S200x128.numel_eq).set = _
  rw [View.set_reshape]
  refine Eq.trans ?_ (show ((View.whole cc0_scratch1).slice (slotR 1)).set = (slotR 1).set by rw [View.set_slice]; exact Finset.map_refl)
  exact slotR1_eq ▸ rfl

theorem slots_disjoint : Disjoint (slotR 0).set (slotR 1).set := Rect.part_disjoint hdiv2 (by decide)
theorem slots_cover : (slotR 0).set ∪ (slotR 1).set = Finset.univ := by
  rw [← Rect.biUnion_part hdiv2]
  ext j
  simp only [Finset.mem_union, Finset.mem_biUnion, Finset.mem_univ, true_and]
  constructor
  · rintro (h | h)
    · exact ⟨0, h⟩
    · exact ⟨1, h⟩
  · rintro ⟨k, h⟩
    rcases (by omega : k = 0 ∨ k = 1) with rfl | rfl
    · exact .inl h
    · exact .inr h

theorem slots_split (d : Dev nD) (L : grid0.Coords) :
    (iprop(∃ f, (tileThr d L).loc cc0_scratch1 ↦{fullShare} f) : sProp (𝕄 F)) ⊢ iprop((∃ X, Chunk d L (slot0 chV) X) ∗ ∃ X, Chunk d L (slot1 chV) X) := by
  have any : ∀ (v : Memref sig .scVector .vmem S200x128 .f32) (f : Buf (Elt F) (v.view.loc (tileThr d L))), (v.view.loc (tileThr d L) ↦[v.view.set]{fullShare} f : sProp (𝕄 F)) ⊢ iprop(∃ X, Chunk d L v X) := by
    intro v f
    unfold Chunk
    iintro Hf
    iexists (fun r c => if h : r < 200 ∧ c < 128 then v.view.read (Elt F) f (ix2 ⟨r, h.1⟩ ⟨c, h.2⟩) else zero)
    iexists f
    isplitl [Hf]
    · iexact Hf
    ipureintro
    intro y
    refine Eq.trans ?_ (dif_pos (show (y 0).val < 200 ∧ (y 1).val < 128 from ⟨(y 0).isLt, (y 1).isLt⟩)).symm
    congr 1; funext a
    match a with
    | 0 => rfl
    | 1 => rfl
  iintro ⟨%f, H⟩
  ihave H2 := (show ((tileThr d L).loc cc0_scratch1 ↦{fullShare} f : sProp (𝕄 F)) ⊢ iprop(((slot0 chV).view.loc (tileThr d L) ↦[(slot0 chV).view.set]{fullShare} f)
      ∗ (slot1 chV).view.loc (tileThr d L) ↦[(slot1 chV).view.set]{fullShare} f) by
    rw [set_slot0, set_slot1]
    refine BIBase.Entails.trans (Entails.of_eq ?_) (pointsTo_union (ℓ := (tileThr d L).loc cc0_scratch1) slots_disjoint).1
    rw [slots_cover]) $$ H
  icases H2 with ⟨H0, H1⟩
  isplitl [H0]
  · iapply (any (slot0 chV) f) $$ H0
  · iapply (any (slot1 chV) f) $$ H1

theorem slots_join (d : Dev nD) (L : grid0.Coords) :
    iprop((∃ X, Chunk d L (slot0 chV) X) ∗ ∃ X, Chunk d L (slot1 chV) X) ⊢ (iprop(∃ f, (tileThr d L).loc cc0_scratch1 ↦{fullShare} f) : sProp (𝕄 F)) := by
  unfold Chunk
  iintro ⟨⟨%X0, %f0, H0, -⟩, ⟨%X1, %f1, H1, -⟩⟩
  iexists _
  iapply (show iprop(((slot0 chV).view.loc (tileThr d L) ↦[(slot0 chV).view.set]{fullShare} f0) ∗ (slot1 chV).view.loc (tileThr d L) ↦[(slot1 chV).view.set]{fullShare} f1)
      ⊢ ((tileThr d L).loc cc0_scratch1 ↦{fullShare} (slotR 1).set.piecewise f1 f0 : sProp (𝕄 F)) by
    rw [set_slot0, set_slot1]
    refine BIBase.Entails.trans (pointsTo_join (ℓ := (tileThr d L).loc cc0_scratch1) slots_disjoint) (Entails.of_eq ?_)
    rw [slots_cover])
  isplitl [H0]
  · iexact H0
  · iexact H1

/-! ## The tile's own semaphores and buffers -/

def tileSems : Finset (SemLoc sig) := {.dma cc0_scratch5.sem, .dma cc0_scratch6.sem, .dma cc0_scoped0.sem, .dma cc0_scoped1.sem, .dma cc0_scoped2.sem, .dma cc0_scoped3.sem}
def tileRefs : Finset (Ref sig .scVector) := {cc0_scratch0, cc0_scratch1, cc0_scratch2, cc0_scratch3, cc0_scratch4}

abbrev cellOf (d : Dev nD) (L : grid0.Coords) (s : SemLoc sig) : GSem nD τ sig := (tileThr d L, s)

theorem ownSems0_tile (d : Dev nD) (L : grid0.Coords) :
    (ownSems0 (tileThr d L) : sProp (𝕄 F)) = iprop((semVal (cellOf d L (.dma cc0_scratch5.sem)) 0 ∗ semVal (cellOf d L (.dma cc0_scratch6.sem)) 0 ∗ semVal (cellOf d L (.dma cc0_scoped0.sem)) 0
      ∗ semVal (cellOf d L (.dma cc0_scoped1.sem)) 0 ∗ semVal (cellOf d L (.dma cc0_scoped2.sem)) 0 ∗ semVal (cellOf d L (.dma cc0_scoped3.sem)) 0)
      ∗ bigSep (ownCells (tileThr d L) \ tileSems.image (cellOf d L)) fun g => semVal g 0) := by
  have hs : ∀ s ∈ tileSems, s.isScoped .scVector = true := by decide
  have hsub : tileSems.image (cellOf d L) ⊆ ownCells (tileThr d L) := by
    intro g hg
    obtain ⟨s, h, rfl⟩ := Finset.mem_image.mp hg
    exact mem_ownCells.mpr ⟨rfl, hs s h⟩
  unfold ownSems0
  rw [SparseCore.bigSep_sdiff_split' hsub, SparseCore.bigSep_image_of_injOn (fun a _ b _ e => (Prod.mk.inj e).2)]
  unfold tileSems
  rw [SparseCore.bigSep_insert' (by decide), SparseCore.bigSep_insert' (by decide), SparseCore.bigSep_insert' (by decide), SparseCore.bigSep_insert' (by decide), SparseCore.bigSep_insert' (by decide), bigSep_singleton]

theorem ownBufs_tile (d : Dev nD) (L : grid0.Coords) :
    (ownBufs (tileThr d L) : sProp (𝕄 F)) = iprop(((∃ f, (tileThr d L).loc cc0_scratch0 ↦{fullShare} f) ∗ (∃ f, (tileThr d L).loc cc0_scratch1 ↦{fullShare} f) ∗ (∃ f, (tileThr d L).loc cc0_scratch2 ↦{fullShare} f)
      ∗ (∃ f, (tileThr d L).loc cc0_scratch3 ↦{fullShare} f) ∗ (∃ f, (tileThr d L).loc cc0_scratch4 ↦{fullShare} f))
      ∗ bigSep (ownRefs (τ := τ) (.scVector (cV L) (jV L)) \ tileRefs.image (Proc.scVector (cV L) (jV L)).devRef) fun b => iprop(∃ f, ((d, b) : Loc nD τ sig) ↦{fullShare} f)) := by
  have hsub : tileRefs.image (Proc.scVector (cV L) (jV L)).devRef ⊆ ownRefs (τ := τ) (.scVector (cV L) (jV L)) := by
    intro b hb
    obtain ⟨r, h, rfl⟩ := Finset.mem_image.mp hb
    refine mem_ownRefs_of_owner ?_
    unfold tileRefs at h
    simp only [Finset.mem_insert, Finset.mem_singleton] at h
    rcases h with rfl | rfl | rfl | rfl | rfl <;> rfl
  unfold ownBufs
  refine (SparseCore.bigSep_sdiff_split' hsub).trans ?_
  rw [SparseCore.bigSep_image_of_injOn (fun a _ b _ e => Proc.devRef_injective _ e)]
  have n0 : (cc0_scratch0 : Ref sig .scVector) ∉ ({cc0_scratch1, cc0_scratch2, cc0_scratch3, cc0_scratch4} : Finset (Ref sig .scVector)) := by decide
  have n1 : (cc0_scratch1 : Ref sig .scVector) ∉ ({cc0_scratch2, cc0_scratch3, cc0_scratch4} : Finset (Ref sig .scVector)) := by decide
  have n2 : (cc0_scratch2 : Ref sig .scVector) ∉ ({cc0_scratch3, cc0_scratch4} : Finset (Ref sig .scVector)) := by decide
  have n3 : (cc0_scratch3 : Ref sig .scVector) ∉ ({cc0_scratch4} : Finset (Ref sig .scVector)) := by decide
  unfold tileRefs
  rw [SparseCore.bigSep_insert' n0, SparseCore.bigSep_insert' n1, SparseCore.bigSep_insert' n2, SparseCore.bigSep_insert' n3, bigSep_singleton]

end Cert.Proof

end
-- ==== Proof.Task.lean ====
/-
  The task of a tile, from the resources its launch hands it to those it hands back.
-/
module

public import proofs.«01_k».proof.Proof.Tile

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

open Idealize.ShloMosaic.ValueIdx
open Idealize.ShloMosaic.SparseCore.Cfg

/-! ## What a task is handed and what it hands back -/

section Task

variable (d : Dev nD) (L : grid0.Coords)

theorem set_s1 : (out4 L (Memref.whole main_v1_0_scv)).view.set = (row3 (wid L)).set := by
  rw [set_out4]
  show ((View.whole main_v1_0_scv).slice (row3 (wid L))).set = _
  rw [View.set_slice]; exact Finset.map_refl
theorem set_s2 : (out4 L (Memref.whole main_v1_1_scv)).view.set = (row3 (wid L)).set := by
  rw [set_out4]
  show ((View.whole main_v1_1_scv).slice (row3 (wid L))).set = _
  rw [View.set_slice]; exact Finset.map_refl
theorem set_c : (out6 L (Memref.whole main_v1_2_scv)).view.set = (rowC (wid L)).set := by
  rw [set_out6]
  show ((View.whole main_v1_2_scv).slice (rowC (wid L))).set = _
  rw [View.set_slice]; exact Finset.map_refl

/-- Tile `w`'s rows of the three outputs, at given contents. -/
abbrev s1Row (w : Fin 32) (f : Buf (Elt F) (s1Loc d)) : sProp (𝕄 F) := s1Loc d ↦[(row3 w).set]{fullShare} f
abbrev s2Row (w : Fin 32) (f : Buf (Elt F) (s2Loc d)) : sProp (𝕄 F) := s2Loc d ↦[(row3 w).set]{fullShare} f
abbrev cRow (w : Fin 32) (f : Buf (Elt F) (cLoc d)) : sProp (𝕄 F) := cLoc d ↦[(rowC w).set]{fullShare} f

theorem any_s1 (f : Buf (Elt F) (s1Loc d)) : s1Row d (wid L) f ⊢ Any d L (out4 L (Memref.whole main_v1_0_scv)) := by
  unfold Any
  iintro H
  iexists f
  rw [set_s1]
  iexact H
theorem any_s2 (f : Buf (Elt F) (s2Loc d)) : s2Row d (wid L) f ⊢ Any d L (out4 L (Memref.whole main_v1_1_scv)) := by
  unfold Any
  iintro H
  iexists f
  rw [set_s2]
  iexact H
theorem any_c (f : Buf (Elt F) (cLoc d)) : cRow d (wid L) f ⊢ Any d L (out6 L (Memref.whole main_v1_2_scv)) := by
  unfold Any
  iintro H
  iexists f
  rw [set_c]
  iexact H

theorem tileSum_eq (tyN : ℕ → BitVec 32) (xN : ℕ → ℕ → Elt F .f32) : tileSum tyN xN L = wSum tyN xN (wid L).val := by
  have h : tileRow L = (wid L).val * 5600 := rfl
  unfold tileSum wSum tileTypes
  rw [h]
theorem sumBuf_apply (tyN : ℕ → BitVec 32) (xN : ℕ → ℕ → Elt F .f32) (j : S32x8x128.Idx) : sumBuf tyN xN j = wSum tyN xN (j 0).val (j 1).val (j 2).val := by
  unfold sumBuf
  rfl

theorem held_s1 (tyN : ℕ → BitVec 32) (xN : ℕ → ℕ → Elt F .f32) :
    At d L (out4 L (Memref.whole main_v1_0_scv)) (fun y => tileSum tyN xN L (y 0).val (y 1).val) ⊢ s1Row d (wid L) (sumBuf tyN xN) := by
  rw [tileSum_eq]
  refine BIBase.Entails.trans (At.held (sumBuf tyN xN) (read_out4 L _ _ (wSum tyN xN) fun j => Eq.trans ?_ (sumBuf_apply tyN xN j))) (Entails.of_eq ?_)
  · exact (View.read_apply _ _).trans (cast_eq _ _)
  · rw [set_s1]
theorem held_s2 (tyN : ℕ → BitVec 32) (xN : ℕ → ℕ → Elt F .f32) :
    At d L (out4 L (Memref.whole main_v1_1_scv)) (fun y => tileSum tyN xN L (y 0).val (y 1).val) ⊢ s2Row d (wid L) (sumBuf tyN xN) := by
  rw [tileSum_eq]
  refine BIBase.Entails.trans (At.held (sumBuf tyN xN) (read_out4 L _ _ (wSum tyN xN) fun j => Eq.trans ?_ (sumBuf_apply tyN xN j))) (Entails.of_eq ?_)
  · exact (View.read_apply _ _).trans (cast_eq _ _)
  · rw [set_s2]
theorem held_c (tyN : ℕ → BitVec 32) :
    At d L (out6 L (Memref.whole main_v1_2_scv)) (fun y => tileCnt tyN L (y 0).val) ⊢ cRow (F := F) d (wid L) (cntBuf tyN) := by
  refine BIBase.Entails.trans (At.held (cntBuf tyN) (read_out6 L _ _ (fun w t _ => wCnt tyN w t) fun _ => rfl)) (Entails.of_eq ?_)
  rw [set_c]

/-- A whole scratch buffer, at whatever it is, is its own elements so. -/
theorem whole_any {s : Shape} {e : EltTy} (m : Memref sig .scVector .vmem s e) (hm : m.view.set = Finset.univ) :
    (iprop(∃ f, m.view.loc (tileThr d L) ↦{fullShare} f) : sProp (𝕄 F)) ⊢ Any d L m := by
  unfold Any
  rw [hm]
theorem any_whole {s : Shape} {e : EltTy} (m : Memref sig .scVector .vmem s e) (hm : m.view.set = Finset.univ) :
    Any d L m ⊢ (iprop(∃ f, m.view.loc (tileThr d L) ↦{fullShare} f) : sProp (𝕄 F)) := by
  unfold Any
  rw [hm]

theorem any_holds (m : Memref sig .scVector .vmem S8x128 .f32) : Any d L m ⊢ (iprop(∃ G, Holds d L m G) : sProp (𝕄 F)) := by
  unfold Any Holds
  iintro ⟨%f, Hf⟩
  iexists (fun r c => if h : r < 8 ∧ c < 128 then m.view.read (Elt F) f (ix2 ⟨r, h.1⟩ ⟨c, h.2⟩) else zero)
  iexists f
  isplitl [Hf]
  · iexact Hf
  ipureintro
  intro y
  refine Eq.trans ?_ (dif_pos (show (y 0).val < 8 ∧ (y 1).val < 128 from ⟨(y 0).isLt, (y 1).isLt⟩)).symm
  congr 1; funext a
  match a with
  | 0 => rfl
  | 1 => rfl
theorem any_holdsC (m : Memref sig .scVector .vmem S8x16 .f32) : Any d L m ⊢ (iprop(∃ G, HoldsC d L m G) : sProp (𝕄 F)) := by
  unfold Any HoldsC
  iintro ⟨%f, Hf⟩
  iexists (fun r c => if h : r < 8 ∧ c < 16 then m.view.read (Elt F) f (ix2 ⟨r, h.1⟩ ⟨c, h.2⟩) else zero)
  iexists f
  isplitl [Hf]
  · iexact Hf
  ipureintro
  intro y
  refine Eq.trans ?_ (dif_pos (show (y 0).val < 8 ∧ (y 1).val < 16 from ⟨(y 0).isLt, (y 1).isLt⟩)).symm
  congr 1; funext a
  match a with
  | 0 => rfl
  | 1 => rfl

variable (q : PosShare TreeShare) (fx : Buf (Elt F) (xLoc d)) (ft : Buf (Elt F) (tLoc d))

/-- What tile `w` is handed: shares of the rows and of the types, and its rows of the outputs; what it hands back:
    the shares, and its rows at the sums, the sums of squares and the counts. -/
def goP (w : Fin 32) : sProp (𝕄 F) :=
  iprop((xLoc d ↦{q} fx) ∗ (tLoc d ↦{q} ft) ∗ (∃ f, s1Row d w f) ∗ (∃ f, s2Row d w f) ∗ ∃ f, cRow d w f)
def tdP (w : Fin 32) : sProp (𝕄 F) :=
  iprop((xLoc d ↦{q} fx) ∗ (tLoc d ↦{q} ft) ∗ s1Row d w (sumBuf (typesN ft) (rowsN fx)) ∗ s2Row d w (sumBuf (typesN ft) (sqr (rowsN fx))) ∗ cRow d w (cntBuf (typesN ft)))

set_option maxHeartbeats 2000000 in
theorem tile_body (hF : (K (F := F)).Facts) (O : CellTallies nD τ sig (HIx 1)) (W : Waits sig (HIx 1)) (hO : ∀ g, O g none = 0) :
    iprop(levAts (K (F := F)).L (K (F := F)).lev ∗ emp ∗ goP d q fx ft (wid L) ∗ scopedBufs (tileThr d L) ∗ scopedSems0 (tileThr d L) ∗ owes (tileThr d L) O W)
      ⊢ wp frame (wpE (defs₀ (F := F)) 𝒱₀ (tileThr d L) none) Set.univ
          (cc0__sc_stats_body L (Memref.whole main_arg0_scv) (Memref.isWhole_whole _) (Memref.whole main_arg1_scv) (Memref.isWhole_whole _) (Memref.whole main_v1_0_scv) (Memref.isWhole_whole _) (Memref.whole main_v1_1_scv) (Memref.isWhole_whole _) (Memref.whole main_v1_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scoped0 cc0_scoped1 cc0_scoped2 cc0_scoped3)
          fun _ => iprop(tdP d q fx ft (wid L) ∗ scopedBufs (tileThr d L) ∗ scopedSems0 (tileThr d L) ∗ ∃ W', ⌜∀ p ∈ W', p ∈ W ∨ p.2 = none⌝ ∗ owes (tileThr d L) O W') := by
  rw [(K (F := F)).scopedBufs_V hF d (cV L) (jV L), SparseCore.Cfg.scopedSems0_V (Val := Elt F) d (cV L) (jV L), ownSems0_tile, ownBufs_tile]
  unfold goP
  iintro ⟨#Hlv, -, ⟨Hx, Ht, ⟨%f1, H1⟩, ⟨%f2, H2⟩, ⟨%f3, H3⟩⟩, ⟨⟨Hb0, Hb1, Hb2, Hb3, Hb4⟩, Hbufs⟩, ⟨⟨S5, S6, S0, S1, S2, S3⟩, Hsems⟩, HO⟩
  ihave Hmw := (show levAts (K (F := F)).L (K (F := F)).lev ⊢ Transfers.MayWaits (tileThr d L) (none : HIx 1) O from
    (K (F := F)).mayWaits_none (thr := tileThr d L) hO) $$ Hlv
  ihave Hx2 := (pointsTo_share (PosShare.mem_left_op_right q)).1 $$ Hx
  icases Hx2 with ⟨Hx0, Hx1⟩
  ihave Hsl := (slots_split d L) $$ Hb1
  icases Hsl with ⟨Hc0, Hc1⟩
  ihave Hb2 := (whole_any d L (Memref.whole cc0_scratch2) (View.set_whole _)) $$ Hb2
  ihave Hb2 := (any_holds d L (Memref.whole cc0_scratch2)) $$ Hb2
  icases Hb2 with ⟨%G, Hb2⟩
  ihave Hb3 := (whole_any d L (Memref.whole cc0_scratch3) (View.set_whole _)) $$ Hb3
  ihave Hb3 := (any_holds d L (Memref.whole cc0_scratch3)) $$ Hb3
  icases Hb3 with ⟨%H, Hb3⟩
  ihave Hb4 := (whole_any d L (Memref.whole cc0_scratch4) (View.set_whole _)) $$ Hb4
  ihave Hb4 := (any_holdsC d L (Memref.whole cc0_scratch4)) $$ Hb4
  icases Hb4 with ⟨%C, Hb4⟩
  iapply (body_wp L (Memref.whole main_arg0_scv) (Memref.isWhole_whole _) (Memref.whole main_arg1_scv) (Memref.isWhole_whole _) (Memref.whole main_v1_0_scv) (Memref.isWhole_whole _) (Memref.whole main_v1_1_scv) (Memref.isWhole_whole _) (Memref.whole main_v1_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scoped0 cc0_scoped1 cc0_scoped2 cc0_scoped3
    d O W q.left q.right q fx (rowsN fx) (fun y => (rowsN_apply fx y).symm) ft (typesN ft) (fun y => (typesN_apply ft y).symm) G H C _
    iprop((bigSep (ownCells (tileThr d L) \ tileSems.image (cellOf d L)) fun g => semVal g 0)
      ∗ bigSep (ownRefs (τ := τ) (.scVector (cV L) (jV L)) \ tileRefs.image (Proc.scVector (cV L) (jV L)).devRef) fun b => iprop(∃ f, ((d, b) : Loc nD τ sig) ↦{fullShare} f)) ?_)
  · unfold Idle XShare Owed tdP
    iintro ⟨⟨Hc0, Hx0, S5⟩, ⟨Hc1, Hx1, S6⟩, ⟨Hb2, H1, S1⟩, ⟨Hb3, H2, S2⟩, ⟨Hb4, H3, S3⟩, ⟨Ht, Hb0, S0, ⟨%W', %hW, HO, -⟩⟩, Hsems, Hbufs⟩
    isplitl [Hx0 Hx1 Ht H1 H2 H3]
    · isplitl [Hx0 Hx1]
      · iapply (pointsTo_share (PosShare.mem_left_op_right q)).2
        isplitl [Hx0]
        · iexact Hx0
        · iexact Hx1
      isplitl [Ht]
      · iexact Ht
      isplitl [H1]
      · iapply (held_s1 d L _ _) $$ H1
      isplitl [H2]
      · iapply (held_s2 d L _ _) $$ H2
      · iapply (held_c d L _) $$ H3
    isplitl [Hb0 Hc0 Hc1 Hb2 Hb3 Hb4 Hbufs]
    · isplitr [Hbufs]
      · isplitl [Hb0]
        · iapply (any_whole d L (Memref.whole cc0_scratch0) (View.set_whole _)) $$ Hb0
        isplitl [Hc0 Hc1]
        · iapply (slots_join d L)
          isplitl [Hc0]
          · iexact Hc0
          · iexact Hc1
        isplitl [Hb2]
        · iapply (any_whole d L (Memref.whole cc0_scratch2) (View.set_whole _))
          iapply At.any $$ Hb2
        isplitl [Hb3]
        · iapply (any_whole d L (Memref.whole cc0_scratch3) (View.set_whole _))
          iapply At.any $$ Hb3
        · iapply (any_whole d L (Memref.whole cc0_scratch4) (View.set_whole _))
          iapply At.any $$ Hb4
      · iexact Hbufs
    isplitl [S5 S6 S0 S1 S2 S3 Hsems]
    · isplitr [Hsems]
      · isplitl [S5]
        · iexact S5
        isplitl [S6]
        · iexact S6
        isplitl [S0]
        · iexact S0
        isplitl [S1]
        · iexact S1
        isplitl [S2]
        · iexact S2
        · iexact S3
      · iexact Hsems
    iexists W'
    isplitr
    · ipureintro; exact hW
    · iexact HO
  unfold Idle XShare Owed
  isplitl [Ht Hb0 S0 HO]
  · isplitl [Ht]
    · iexact Ht
    isplitl [Hb0]
    · iapply (whole_any d L (Memref.whole cc0_scratch0) (View.set_whole _)) $$ Hb0
    isplitl [S0]
    · iexact S0
    iexists W
    isplitr
    · ipureintro; exact fun p hp => .inl hp
    isplitl [HO]
    · iexact HO
    · iexact Hmw
  isplitl [Hc0 Hx0 S5]
  · isplitl [Hc0]
    · iexact Hc0
    isplitl [Hx0]
    · iexact Hx0
    · iexact S5
  isplitl [Hc1 Hx1 S6]
  · isplitl [Hc1]
    · iexact Hc1
    isplitl [Hx1]
    · iexact Hx1
    · iexact S6
  isplitl [Hb2 H1 S1]
  · isplitl [Hb2]
    · iexact Hb2
    isplitl [H1]
    · iapply (any_s1 d L f1) $$ H1
    · iexact S1
  isplitl [Hb3 H2 S2]
  · isplitl [Hb3]
    · iexact Hb3
    isplitl [H2]
    · iapply (any_s2 d L f2) $$ H2
    · iexact S2
  isplitl [Hb4 H3 S3]
  · isplitl [Hb4]
    · iexact Hb4
    isplitl [H3]
    · iapply (any_c d L f3) $$ H3
    · iexact S3
  isplitl [Hsems]
  · iexact Hsems
  · iexact Hbufs

end Task

end Cert.Proof

end
-- ==== Proof.Launch.lean ====
/-
  What passes between the threads of the SparseCore call, the obligation of a tile, and how a SparseCore deals its part to its tiles.
-/
module

public import proofs.«01_k».proof.Proof.Task
public import Idealize.ShloMosaic.Lib.ShareLeaves

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

open Idealize.ShloMosaic.ValueIdx Idealize.ShloMosaic.ShareLeaves
open Idealize.ShloMosaic.SparseCore.Cfg

/-! ## What passes between the threads of the call -/

section Payload

variable (m : (ℓ : Loc nD τ sig) → Buf (Elt F) ℓ)

/-- The number of the tile on vector subcore `i` of SparseCore `c`. -/
def tileNo (c : Fin 2) (i : Fin 16) : Fin 32 := ⟨i.val * 2 + c.val, by omega⟩

/-- The share of the rows and of the types a SparseCore holds during the call, and one of its tiles. -/
abbrev coreSh (c : Fin 2) : PosShare TreeShare := ShareLeaves.leaf 1 fullShare c
abbrev tileSh (c : Fin 2) (i : Fin 16) : PosShare TreeShare := ShareLeaves.leaf 4 (coreSh c) i

/-- A SparseCore's part of the call: its shares, and the rows of the outputs its tiles write. -/
def stP (d : Dev nD) (c : Fin 2) : sProp (𝕄 F) :=
  iprop((xLoc d ↦{coreSh c} m (xLoc d)) ∗ (tLoc d ↦{coreSh c} m (tLoc d))
    ∗ bigSep Finset.univ fun i : Fin 16 => iprop((∃ f, s1Row d (tileNo c i) f) ∗ (∃ f, s2Row d (tileNo c i) f) ∗ ∃ f, cRow d (tileNo c i) f))
def dnP (d : Dev nD) (c : Fin 2) : sProp (𝕄 F) :=
  iprop((xLoc d ↦{coreSh c} m (xLoc d)) ∗ (tLoc d ↦{coreSh c} m (tLoc d))
    ∗ bigSep Finset.univ fun i : Fin 16 => iprop(s1Row d (tileNo c i) (sumBuf (typesN (m (tLoc d))) (rowsN (m (xLoc d))))
      ∗ s2Row d (tileNo c i) (sumBuf (typesN (m (tLoc d))) (sqr (rowsN (m (xLoc d))))) ∗ cRow (F := F) d (tileNo c i) (cntBuf (typesN (m (tLoc d))))))

def P : (K (F := F)).Pay (nD := nD) (Val := Elt F) (Name := ℕ) (U := UU) where
  st := fun q d c => match q with | 0 => stP m d (Fin.cast nCore_zero c)
  dn := fun q d c => match q with | 0 => dnP m d (Fin.cast nCore_zero c)
  go := fun q d c i => match q with
    | 0 => goP d (tileSh (Fin.cast nCore_zero c) (Fin.cast nSub_zero i)) (m (xLoc d)) (m (tLoc d)) (tileNo (Fin.cast nCore_zero c) (Fin.cast nSub_zero i))
  td := fun q d c i => match q with
    | 0 => tdP d (tileSh (Fin.cast nCore_zero c) (Fin.cast nSub_zero i)) (m (xLoc d)) (m (tLoc d)) (tileNo (Fin.cast nCore_zero c) (Fin.cast nSub_zero i))
  x := fun _ _ => iprop(emp)

instance stP_storable (d : Dev nD) (c : Fin 2) : BI.Storable (upEmb : UEmb _ (𝕄 F)) (stP m d c) := by unfold stP; infer_instance
instance dnP_storable (d : Dev nD) (c : Fin 2) : BI.Storable (upEmb : UEmb _ (𝕄 F)) (dnP m d c) := by unfold dnP; infer_instance
instance goP_storable (d : Dev nD) (q : PosShare TreeShare) (fx : Buf (Elt F) (xLoc d)) (ft : Buf (Elt F) (tLoc d)) (w : Fin 32) : BI.Storable (upEmb : UEmb _ (𝕄 F)) (goP d q fx ft w) := by
  unfold goP; infer_instance
instance tdP_storable (d : Dev nD) (q : PosShare TreeShare) (fx : Buf (Elt F) (xLoc d)) (ft : Buf (Elt F) (tLoc d)) (w : Fin 32) : BI.Storable (upEmb : UEmb _ (𝕄 F)) (tdP d q fx ft w) := by
  unfold tdP; infer_instance

instance P_storable : (P (F := F) m).IsStorable where
  st q d c := match q with | 0 => stP_storable m d (Fin.cast nCore_zero c)
  dn q d c := match q with | 0 => dnP_storable m d (Fin.cast nCore_zero c)
  go q d c i := match q with | 0 => goP_storable d _ _ _ _
  td q d c i := match q with | 0 => tdP_storable d _ _ _ _

/-! ## The obligation of a tile -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_stats_body (coordsV c s)
          (Memref.whole main_arg0_scv) (Memref.isWhole_whole _) (Memref.whole main_arg1_scv) (Memref.isWhole_whole _) (Memref.whole main_v1_0_scv) (Memref.isWhole_whole _) (Memref.whole main_v1_1_scv) (Memref.isWhole_whole _) (Memref.whole main_v1_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scoped0 cc0_scoped1 cc0_scoped2 cc0_scoped3) ⟨⟩ c s := rfl

theorem obl_post {thr : Thread nD τ} {A B C : sProp (𝕄 F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]
  · iexact HA
  isplitl [HB]
  · iexact HB
  isplitl [HC]
  · iexact HC
  iexists W'
  isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (tileSh (Fin.cast nCore_zero c) (Fin.cast nSub_zero i)) (m (xLoc d)) (m (tLoc d)) facts O W hO).trans (wp_mono frame _ _ fun _ => obl_post)

/-! ## A SparseCore's part dealt to its tiles -/

theorem bigSep_tasks (Φ : Fin 16 → sProp (𝕄 F)) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show stP m d (Fin.cast nCore_zero c) ⊢ |={Set.univ}=> iprop(
      (bigSep Finset.univ fun i : Fin ((K (F := F)).nSub 0) => goP d (tileSh (Fin.cast nCore_zero c) (Fin.cast nSub_zero i)) (m (xLoc d)) (m (tLoc d)) (tileNo (Fin.cast nCore_zero c) (Fin.cast nSub_zero i)))
      ∗ ((bigSep Finset.univ fun i : Fin ((K (F := F)).nSub 0) => tdP d (tileSh (Fin.cast nCore_zero c) (Fin.cast nSub_zero i)) (m (xLoc d)) (m (tLoc d)) (tileNo (Fin.cast nCore_zero c) (Fin.cast nSub_zero i)))
          -∗ dnP m d (Fin.cast nCore_zero c)))
  generalize Fin.cast nCore_zero c = c'
  rw [bigSep_tasks (F := F) (fun i => goP d (tileSh c' i) (m (xLoc d)) (m (tLoc d)) (tileNo c' i)),
    bigSep_tasks (F := F) (fun i => tdP d (tileSh c' i) (m (xLoc d)) (m (tLoc d)) (tileNo c' i))]
  unfold stP dnP goP tdP
  rw [bigSep_sep' (Φ := fun i => iprop(xLoc d ↦{tileSh c' i} m (xLoc d))), bigSep_sep' (Φ := fun i => iprop(tLoc d ↦{tileSh c' i} m (tLoc d))), bigSep_sep' (Φ := fun i => iprop(xLoc d ↦{tileSh c' i} m (xLoc d))), bigSep_sep' (Φ := fun i => iprop(tLoc d ↦{tileSh c' i} m (tLoc d)))]
  have hx : (xLoc d ↦{coreSh c'} m (xLoc d) : sProp (𝕄 F)) = bigSep Finset.univ fun i : Fin 16 => iprop(xLoc d ↦{tileSh c' i} m (xLoc d)) :=
    pointsTo_leaves Finset.univ (m (xLoc d)) 4 (coreSh c')
  have ht : (tLoc d ↦{coreSh c'} m (tLoc d) : sProp (𝕄 F)) = bigSep Finset.univ fun i : Fin 16 => iprop(tLoc d ↦{tileSh c' i} m (tLoc d)) :=
    pointsTo_leaves Finset.univ (m (tLoc d)) 4 (coreSh c')
  rw [hx, ht]
  iintro H
  imodintro
  isplitl [H]
  · iexact H
  iintro H
  iexact H

end Payload

end Cert.Proof

end
-- ==== Proof.Stats.lean ====
/-
  One point of the statistics pass over the rows the SparseCores leave.
-/
module

public import proofs.«01_k».proof.Proof.Launch
public import Idealize.ShloMosaic.Lib.VecWindow

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

open Idealize.ShloMosaic.TcCoe Idealize.ShloMosaic.ValueIdx

/-! ## One point of the statistics pass -/

/-- Row `t` marks the rows of the block whose type is `t`. -/
def hot1 (ty : S1x1x3200.Idx → Elt F .i32) : FVec F S8x3200 .f32 :=
  sitofp .f32 (extui 32 (cmpi .eq (iota .tc S8x3200 32 [0] iota_S8x3200_d0_w32)
    (broadcastTo S8x3200 (shapeCast S1x3200 (shapeCast S3200 (show IVec S1x1x3200 32 from ty) shapeCasts_S1x1x3200_S3200) shapeCasts_S3200_S1x3200) broadcasts_S1x3200_S8x3200)) natLt_1_32)

/-- The rows of a block added up by type, onto `acc`. -/
def addS (ty : S1x1x3200.Idx → Elt F .i32) (x : S3200x128.Idx → Elt F .f32) (acc : S8x128.Idx → Elt F .f32) : S8x128.Idx → Elt F .f32 :=
  addf (F := F) (s := S8x128) (φ := .f32) acc (matmul (F := F) dot_S8x3200_S3200x128_S8x128_1_0_0_1_n_n none (hot1 ty) (show FVec F S3200x128 .f32 from x) (constant S8x128 .f32 0x00000000#32))

/-- The rows of a block counted by type, onto `acc`, the same in every lane. -/
def addC (ty : S1x1x3200.Idx → Elt F .i32) (acc : S8x128.Idx → Elt F .f32) : S8x128.Idx → Elt F .f32 :=
  addf (F := F) (s := S8x128) (φ := .f32) acc (broadcastTo S8x128 (shapeCast S8x1 (shapeCast S8x1 (multiReduction .add [1] S8 (hot1 ty) 0x00000000#32 reduces_S8x3200_S8 (.inl rfl) rfl) shapeCasts_S8_S8x1) shapeCasts_S8x1_S8x1) broadcasts_S8x1_S8x128)

def sq1 (x : S3200x128.Idx → Elt F .f32) : S3200x128.Idx → Elt F .f32 := mulf (F := F) (s := S3200x128) (φ := .f32) x x
def zeroT : S8x128.Idx → Elt F .f32 := fun _ => (Scalar.ofBits .f32 0x00000000#32 : F .f32)

/-- Whether a point is the first, as the kernel asks it. -/
def isFirst1 (i : grid1.Coords) : BitVec 1 :=
  let v : BitVec 32 := Scalar.extui (Scalar.cmpi .eq (BitVec.ofNat 32 (i 0).val) 0#32)
  Scalar.cmpi .ne v 0#32

abbrev pt (d : Dev nD) {sp : Space} {S : Shape} {e : EltTy} (M : Memref sig .tc sp S e) (f : Buf (Elt F) (M.view.loc (d : Thread nD τ))) : sProp (𝕄 F) :=
  M.view.loc (d : Thread nD τ) ↦{fullShare} f

/-- A store over all of a buffer leaves what is stored. -/
theorem writes_all (b : Ref sig .tc) (f : b.ty.Contents (Elt F)) {off : Fin b.ty.shape.rank → ℕ} (inb : ∀ a, off a + b.ty.shape.size a ≤ b.ty.shape.size a)
    (w : (Rect.unit off b.ty.shape.size inb).shape.Idx → Elt F b.ty.elt) (L : List (View.Piece (Elt F) b.ty.shape b.ty.elt)) :
    (Memref.whole b).view.writes (Elt F) f (⟨Rect.unit off b.ty.shape.size inb, w⟩ :: L) = w := by
  have h := View.read_writes_full (Memref.whole b).view f inb w L
  exact (View.read_whole b _).symm.trans h

/-- What the kernel reads of the types' block. -/
abbrev rdT (M1 : Memref sig .tc .vmem S1x1x3200 .i32) (f : M1.view.ty.Contents (Elt F)) : S1x1x3200.Idx → Elt F .i32 :=
  M1.view.readAt (Elt F) (Rect.unit (s := S1x1x3200) ![0, 0, 0] S1x1x3200.size inb_S1x1x3200_S1x1x3200_0_0_0).toLoadRect f
abbrev rdX (M2 : Memref sig .tc .vmem S3200x128 .f32) (f : M2.view.ty.Contents (Elt F)) : S3200x128.Idx → Elt F .f32 :=
  M2.view.readAt (Elt F) (Rect.unit (s := S3200x128) ![0, 0] S3200x128.size inb_S3200x128_S3200x128_0_0).toLoadRect f

theorem rdT_rep (M1 : Memref sig .tc .vmem S1x1x3200 .i32) (ty : S1x1x3200.Idx → Elt F .i32) : rdT M1 (M1.view.rep ty) = ty :=
  (View.readAt_full M1.view _ _).trans (View.read_rep M1.view ty)
theorem rdX_rep (M2 : Memref sig .tc .vmem S3200x128 .f32) (x : S3200x128.Idx → Elt F .f32) : rdX M2 (M2.view.rep x) = x :=
  (View.readAt_full M2.view _ _).trans (View.read_rep M2.view x)

theorem addS_rd (M1 : Memref sig .tc .vmem S1x1x3200 .i32) (M2 : Memref sig .tc .vmem S3200x128 .f32) (ty : S1x1x3200.Idx → Elt F .i32) (x : S3200x128.Idx → Elt F .f32) {a b : S8x128.Idx → Elt F .f32} (h : a = b) :
    addS (rdT M1 (M1.view.rep ty)) (rdX M2 (M2.view.rep x)) a = addS ty x b := by rw [rdT_rep, rdX_rep, h]
theorem addQ_rd (M1 : Memref sig .tc .vmem S1x1x3200 .i32) (M2 : Memref sig .tc .vmem S3200x128 .f32) (ty : S1x1x3200.Idx → Elt F .i32) (x : S3200x128.Idx → Elt F .f32) {a b : S8x128.Idx → Elt F .f32} (h : a = b) :
    addS (rdT M1 (M1.view.rep ty)) (sq1 (rdX M2 (M2.view.rep x))) a = addS ty (sq1 x) b := by rw [rdT_rep, rdX_rep, h]
theorem addC_rd (M1 : Memref sig .tc .vmem S1x1x3200 .i32) (ty : S1x1x3200.Idx → Elt F .i32) {a b : S8x128.Idx → Elt F .f32} (h : a = b) :
    addC (rdT M1 (M1.view.rep ty)) a = addC ty b := by rw [rdT_rep, h]

/-- What is read back of a scratch buffer stored over whole. -/
theorem cov_all (b : Ref sig .tc) {off off' : Fin b.ty.shape.rank → ℕ} (inb : ∀ a, off a + b.ty.shape.size a ≤ b.ty.shape.size a) (inb' : ∀ a, off' a + b.ty.shape.size a ≤ b.ty.shape.size a)
    (w : (Rect.unit off' b.ty.shape.size inb').shape.Idx → Elt F b.ty.elt) (L : List (View.Piece (Elt F) b.ty.shape b.ty.elt)) :
    (Memref.whole b).view.readCov (⟨Rect.unit off' b.ty.shape.size inb', w⟩ :: L) (Rect.unit off b.ty.shape.size inb).toLoadRect = w :=
  View.readCov_full (Memref.whole b).view inb inb' w L

/-- What is read of a whole scratch buffer is what it holds. -/
theorem rd_all (b : Ref sig .tc) (f : b.ty.Contents (Elt F)) {off : Fin b.ty.shape.rank → ℕ} (inb : ∀ a, off a + b.ty.shape.size a ≤ b.ty.shape.size a) :
    (Memref.whole b).view.readAt (Elt F) (Rect.unit off b.ty.shape.size inb).toLoadRect f = f :=
  (View.readAt_full (Memref.whole b).view f inb).trans (View.read_whole b f)

set_option maxRecDepth 4096 in
theorem stats_first (d : Dev nD) (i : grid1.Coords) (h0 : isFirst1 i = 1#1) (h1 : k1_cond2 i ≠ 1#1)
    (M1 : Memref sig .tc .vmem S1x1x3200 .i32) (w1 : M1.IsWhole) (M2 : Memref sig .tc .vmem S3200x128 .f32) (w2 : M2.IsWhole)
    (M3 : Memref sig .tc .vmem S8x128 .f32) (w3 : M3.IsWhole) (M4 : Memref sig .tc .vmem S8x128 .f32) (w4 : M4.IsWhole) (M5 : Memref sig .tc .vmem S8x128 .f32) (w5 : M5.IsWhole)
    (ty : S1x1x3200.Idx → Elt F .i32) (x : S3200x128.Idx → Elt F .f32)
    (f6 f7 f8 : S8x128.Idx → Elt F .f32) (Q : PUnit → sProp (𝕄 F)) :
    iprop(pt d M1 (M1.view.rep ty) ∗ pt d M2 (M2.view.rep x) ∗ pt d (Memref.whole cc1_scratch0) f6 ∗ pt d (Memref.whole cc1_scratch1) f7 ∗ pt d (Memref.whole cc1_scratch2) f8
      ∗ (iprop(pt d M1 (M1.view.rep ty) ∗ pt d M2 (M2.view.rep x) ∗ (∃ f, ⌜f = addS ty x zeroT⌝ ∗ pt d (Memref.whole cc1_scratch0) f) ∗ (∃ f, ⌜f = addS ty (sq1 x) zeroT⌝ ∗ pt d (Memref.whole cc1_scratch1) f) ∗ (∃ f, ⌜f = addC ty zeroT⌝ ∗ pt d (Memref.whole cc1_scratch2) f)) -∗ Q ⟨⟩))
    ⊢ wp frame (wpE (defs₀ (F := F)) 𝒱₀ (d : Thread nD τ) none) Set.univ
        (cc1__tc_stats_body i M1 w1 M2 w2 M3 w3 M4 w4 M5 w5 (Memref.whole cc1_scratch0) (Memref.isWhole_whole _) (Memref.whole cc1_scratch1) (Memref.isWhole_whole _) (Memref.whole cc1_scratch2) (Memref.isWhole_whole _)) Q := by
  have hA : (Memref.whole cc1_scratch0).IsWhole := Memref.isWhole_whole _
  have hB : (Memref.whole cc1_scratch1).IsWhole := Memref.isWhole_whole _
  have hC : (Memref.whole cc1_scratch2).IsWhole := Memref.isWhole_whole _
  unfold cc1__tc_stats_body k1_part1
  unfold isFirst1 at h0
  simp only [h0, h1, ↓reduceDIte]
  iintro ⟨H1, H2, H6, H7, H8, Hk⟩
  sl_exec!
  sl_step
  iapply Hk
  isplitl [H1]
  · iexact H1
  isplitl [H2]
  · iexact H2
  isplitl [H6]
  · iexists _; isplitr; swap; (· iexact H6); ipureintro
    exact (writes_all cc1_scratch0 _ _ _ _).trans ((shapeCast_self _ _).trans (addS_rd M1 M2 ty x ((cov_all cc1_scratch0 _ _ _ _).trans (shapeCast_self _ _))))
  isplitl [H7]
  · iexists _; isplitr; swap; (· iexact H7); ipureintro
    exact (writes_all cc1_scratch1 _ _ _ _).trans ((shapeCast_self _ _).trans (addQ_rd M1 M2 ty x ((cov_all cc1_scratch1 _ _ _ _).trans (shapeCast_self _ _))))
  iexists _; isplitr; swap; (· iexact H8); ipureintro
  exact (writes_all cc1_scratch2 _ _ _ _).trans ((shapeCast_self _ _).trans (addC_rd M1 ty ((cov_all cc1_scratch2 _ _ _ _).trans (shapeCast_self _ _))))

set_option maxRecDepth 4096 in
theorem stats_mid (d : Dev nD) (i : grid1.Coords) (h0 : isFirst1 i ≠ 1#1) (h1 : k1_cond2 i ≠ 1#1)
    (M1 : Memref sig .tc .vmem S1x1x3200 .i32) (w1 : M1.IsWhole) (M2 : Memref sig .tc .vmem S3200x128 .f32) (w2 : M2.IsWhole)
    (M3 : Memref sig .tc .vmem S8x128 .f32) (w3 : M3.IsWhole) (M4 : Memref sig .tc .vmem S8x128 .f32) (w4 : M4.IsWhole) (M5 : Memref sig .tc .vmem S8x128 .f32) (w5 : M5.IsWhole)
    (ty : S1x1x3200.Idx → Elt F .i32) (x : S3200x128.Idx → Elt F .f32)
    (f6 f7 f8 : S8x128.Idx → Elt F .f32) (Q : PUnit → sProp (𝕄 F)) :
    iprop(pt d M1 (M1.view.rep ty) ∗ pt d M2 (M2.view.rep x) ∗ pt d (Memref.whole cc1_scratch0) f6 ∗ pt d (Memref.whole cc1_scratch1) f7 ∗ pt d (Memref.whole cc1_scratch2) f8
      ∗ (iprop(pt d M1 (M1.view.rep ty) ∗ pt d M2 (M2.view.rep x) ∗ (∃ f, ⌜f = addS ty x f6⌝ ∗ pt d (Memref.whole cc1_scratch0) f) ∗ (∃ f, ⌜f = addS ty (sq1 x) f7⌝ ∗ pt d (Memref.whole cc1_scratch1) f) ∗ (∃ f, ⌜f = addC ty f8⌝ ∗ pt d (Memref.whole cc1_scratch2) f)) -∗ Q ⟨⟩))
    ⊢ wp frame (wpE (defs₀ (F := F)) 𝒱₀ (d : Thread nD τ) none) Set.univ
        (cc1__tc_stats_body i M1 w1 M2 w2 M3 w3 M4 w4 M5 w5 (Memref.whole cc1_scratch0) (Memref.isWhole_whole _) (Memref.whole cc1_scratch1) (Memref.isWhole_whole _) (Memref.whole cc1_scratch2) (Memref.isWhole_whole _)) Q := by
  have hA : (Memref.whole cc1_scratch0).IsWhole := Memref.isWhole_whole _
  have hB : (Memref.whole cc1_scratch1).IsWhole := Memref.isWhole_whole _
  have hC : (Memref.whole cc1_scratch2).IsWhole := Memref.isWhole_whole _
  unfold cc1__tc_stats_body k1_part1
  unfold isFirst1 at h0
  simp only [h0, h1, ↓reduceDIte]
  iintro ⟨H1, H2, H6, H7, H8, Hk⟩
  sl_exec!
  sl_step
  iapply Hk
  isplitl [H1]
  · iexact H1
  isplitl [H2]
  · iexact H2
  isplitl [H6]
  · iexists _; isplitr; swap; (· iexact H6); ipureintro
    exact (writes_all cc1_scratch0 _ _ _ _).trans ((shapeCast_self _ _).trans (addS_rd M1 M2 ty x (rd_all cc1_scratch0 _ _)))
  isplitl [H7]
  · iexists _; isplitr; swap; (· iexact H7); ipureintro
    exact (writes_all cc1_scratch1 _ _ _ _).trans ((shapeCast_self _ _).trans (addQ_rd M1 M2 ty x (rd_all cc1_scratch1 _ _)))
  iexists _; isplitr; swap; (· iexact H8); ipureintro
  exact (writes_all cc1_scratch2 _ _ _ _).trans ((shapeCast_self _ _).trans (addC_rd M1 ty (rd_all cc1_scratch2 _ _)))

set_option maxRecDepth 4096 in
theorem stats_last (d : Dev nD) (i : grid1.Coords) (h0 : isFirst1 i ≠ 1#1) (h1 : k1_cond2 i = 1#1)
    (M1 : Memref sig .tc .vmem S1x1x3200 .i32) (w1 : M1.IsWhole) (M2 : Memref sig .tc .vmem S3200x128 .f32) (w2 : M2.IsWhole)
    (M3 : Memref sig .tc .vmem S8x128 .f32) (w3 : M3.IsWhole) (M4 : Memref sig .tc .vmem S8x128 .f32) (w4 : M4.IsWhole) (M5 : Memref sig .tc .vmem S8x128 .f32) (w5 : M5.IsWhole)
    (ty : S1x1x3200.Idx → Elt F .i32) (x : S3200x128.Idx → Elt F .f32)
    (f6 f7 f8 : S8x128.Idx → Elt F .f32) (f3 : Buf (Elt F) (M3.view.loc (d : Thread nD τ))) (f4 : Buf (Elt F) (M4.view.loc (d : Thread nD τ))) (f5 : Buf (Elt F) (M5.view.loc (d : Thread nD τ))) (Q : PUnit → sProp (𝕄 F)) :
    iprop(pt d M1 (M1.view.rep ty) ∗ pt d M2 (M2.view.rep x) ∗ pt d (Memref.whole cc1_scratch0) f6 ∗ pt d (Memref.whole cc1_scratch1) f7 ∗ pt d (Memref.whole cc1_scratch2) f8 ∗ pt d M3 f3 ∗ pt d M4 f4 ∗ pt d M5 f5
      ∗ (iprop(pt d M1 (M1.view.rep ty) ∗ pt d M2 (M2.view.rep x) ∗ (∃ f, ⌜f = addS ty x f6⌝ ∗ pt d (Memref.whole cc1_scratch0) f) ∗ (∃ f, ⌜f = addS ty (sq1 x) f7⌝ ∗ pt d (Memref.whole cc1_scratch1) f) ∗ (∃ f, ⌜f = addC ty f8⌝ ∗ pt d (Memref.whole cc1_scratch2) f)
        ∗ (∃ f, ⌜M3.view.read (Elt F) f = addS ty x f6⌝ ∗ pt d M3 f) ∗ (∃ f, ⌜M4.view.read (Elt F) f = addS ty (sq1 x) f7⌝ ∗ pt d M4 f) ∗ (∃ f, ⌜M5.view.read (Elt F) f = addC ty f8⌝ ∗ pt d M5 f)) -∗ Q ⟨⟩))
    ⊢ wp frame (wpE (defs₀ (F := F)) 𝒱₀ (d : Thread nD τ) none) Set.univ
        (cc1__tc_stats_body i M1 w1 M2 w2 M3 w3 M4 w4 M5 w5 (Memref.whole cc1_scratch0) (Memref.isWhole_whole _) (Memref.whole cc1_scratch1) (Memref.isWhole_whole _) (Memref.whole cc1_scratch2) (Memref.isWhole_whole _)) Q := by
  have hA : (Memref.whole cc1_scratch0).IsWhole := Memref.isWhole_whole _
  have hB : (Memref.whole cc1_scratch1).IsWhole := Memref.isWhole_whole _
  have hC : (Memref.whole cc1_scratch2).IsWhole := Memref.isWhole_whole _
  unfold cc1__tc_stats_body k1_part1
  unfold isFirst1 at h0
  simp only [h0, h1, ↓reduceDIte]
  iintro ⟨H1, H2, H6, H7, H8, H3, H4, H5, Hk⟩
  sl_exec!
  sl_step
  iapply Hk
  isplitl [H1]
  · iexact H1
  isplitl [H2]
  · iexact H2
  isplitl [H6]
  · iexists _; isplitr; swap; (· iexact H6); ipureintro
    exact (writes_all cc1_scratch0 _ _ _ _).trans ((shapeCast_self _ _).trans (addS_rd M1 M2 ty x (rd_all cc1_scratch0 _ _)))
  isplitl [H7]
  · iexists _; isplitr; swap; (· iexact H7); ipureintro
    exact (writes_all cc1_scratch1 _ _ _ _).trans ((shapeCast_self _ _).trans (addQ_rd M1 M2 ty x (rd_all cc1_scratch1 _ _)))
  isplitl [H8]
  · iexists _; isplitr; swap; (· iexact H8); ipureintro
    exact (writes_all cc1_scratch2 _ _ _ _).trans ((shapeCast_self _ _).trans (addC_rd M1 ty (rd_all cc1_scratch2 _ _)))
  isplitl [H3]
  · iexists _; isplitr; swap; (· iexact H3); ipureintro
    exact (View.read_writes_full M3.view _ _ _ _).trans ((cov_all cc1_scratch0 _ _ _ _).trans ((shapeCast_self _ _).trans (addS_rd M1 M2 ty x (rd_all cc1_scratch0 _ _))))
  isplitl [H4]
  · iexists _; isplitr; swap; (· iexact H4); ipureintro
    exact (View.read_writes_full M4.view _ _ _ _).trans ((cov_all cc1_scratch1 _ _ _ _).trans ((shapeCast_self _ _).trans (addQ_rd M1 M2 ty x (rd_all cc1_scratch1 _ _))))
  iexists _; isplitr; swap; (· iexact H5); ipureintro
  exact (View.read_writes_full M5.view _ _ _ _).trans ((cov_all cc1_scratch2 _ _ _ _).trans ((shapeCast_self _ _).trans (addC_rd M1 ty (rd_all cc1_scratch2 _ _))))

end Cert.Proof

end
-- ==== Proof.Norm.lean ====
/-
  One point of the normalising pass.
-/
module

public import proofs.«01_k».proof.Proof.Stats

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

open Idealize.ShloMosaic.TcCoe Idealize.ShloMosaic.ValueIdx

/-! ## One point of the normalising pass -/

/-- Column `t` marks the rows of the block whose type is `t`. -/
def hot2 (ty : S1x1x20000.Idx → Elt F .i32) : FVec F S20000x8 .f32 :=
  sitofp .f32 (extui 32 (cmpi .eq
    (broadcastTo S20000x8 (shapeCast S20000x1 (shapeCast S20000 (show IVec S1x1x20000 32 from ty) shapeCasts_S1x1x20000_S20000) shapeCasts_S20000_S20000x1) broadcasts_S20000x1_S20000x8)
    (iota .tc S20000x8 32 [1] iota_S20000x8_d1_w32)) natLt_1_32)

/-- The rows of a block, each less its type's mean and times its type's factor. -/
def normed (ty : S1x1x20000.Idx → Elt F .i32) (x : S20000x128.Idx → Elt F .f32) (mean rstd : S8x128.Idx → Elt F .f32) : S20000x128.Idx → Elt F .f32 :=
  mulf (F := F) (s := S20000x128) (φ := .f32)
    (subf (F := F) (s := S20000x128) (φ := .f32) x (matmul (F := F) dot_S20000x8_S8x128_S20000x128_1_0_0_1_n_n none (hot2 ty) (show FVec F S8x128 .f32 from mean) (constant S20000x128 .f32 0x00000000#32)))
    (matmul (F := F) dot_S20000x8_S8x128_S20000x128_1_0_0_1_n_n none (hot2 ty) (show FVec F S8x128 .f32 from rstd) (constant S20000x128 .f32 0x00000000#32))

/-- The first lane of the counts the statistics pass leaves. -/
def lane0 (cntt : S8x128.Idx → Elt F .f32) : S8x1.Idx → Elt F .f32 :=
  fun y => cntt ((Rect.unit (s := S8x128) ![0, 0] S8x1.size inb_S8x128_S8x1_0_0).toLoadRect.idx y)

/-- How many rows there are of a type, at least one. -/
def countOf (cnt : S32x8x16.Idx → Elt F .f32) (cntt : S8x128.Idx → Elt F .f32) : FVec F S8x1 .f32 :=
  maximumf (F := F) (s := S8x1) (φ := .f32)
    (addf (F := F) (s := S8x1) (φ := .f32) (extractStridedSlice S8x1 ![0, 0] (multiReduction (F := F) .add [0] S8x16 (show FVec F S32x8x16 .f32 from cnt) 0x00000000#32 reduces_S32x8x16_S8x16 (.inl rfl) rfl) slices_S8x16_o0_0_S8x1) (lane0 cntt))
    (broadcast S8x1 (Scalar.ofBits .f32 0x3F800000#32))

/-- What the tiles and the statistics pass add up together, over the count. -/
def meanOf (s : S32x8x128.Idx → Elt F .f32) (st : S8x128.Idx → Elt F .f32) (c : FVec F S8x1 .f32) : S8x128.Idx → Elt F .f32 :=
  divf (F := F) (s := S8x128) (φ := .f32)
    (addf (F := F) (s := S8x128) (φ := .f32) (multiReduction (F := F) .add [0] S8x128 (show FVec F S32x8x128 .f32 from s) 0x00000000#32 reduces_S32x8x128_S8x128 (.inl rfl) rfl) st)
    (broadcastTo S8x128 c broadcasts_S8x1_S8x128)

/-- One over the root of the variance. -/
def rstdOf (mean meanSq : S8x128.Idx → Elt F .f32) : S8x128.Idx → Elt F .f32 :=
  rsqrt (F := F) (s := S8x128) (φ := .f32)
    (addf (F := F) (s := S8x128) (φ := .f32)
      (maximumf (F := F) (s := S8x128) (φ := .f32) (subf (F := F) (s := S8x128) (φ := .f32) meanSq (mulf (F := F) (s := S8x128) (φ := .f32) mean mean)) (broadcast S8x128 (Scalar.ofBits .f32 0x00000000#32)))
      (broadcast S8x128 (Scalar.ofBits .f32 0x3727C5AC#32)))

/-- Whether a point is the first, as the kernel asks it. -/
def isFirst2 (i : grid2.Coords) : BitVec 1 :=
  let v : BitVec 32 := Scalar.extui (Scalar.cmpi .eq (BitVec.ofNat 32 (i 0).val) 0#32)
  Scalar.cmpi .ne v 0#32

/-- What a load of all of a memref reads of contents that read as `x`. -/
theorem rdRep {s : Shape} {e : EltTy} {sp : Space} (M : Memref sig .tc sp s e) (x : s.Idx → Elt F e) {off : Fin s.rank → ℕ} (inb : ∀ a, off a + s.size a ≤ s.size a) :
    M.view.readAt (Elt F) (Rect.unit off s.size inb).toLoadRect (M.view.rep x) = x :=
  (View.readAt_full M.view _ _).trans (View.read_rep M.view x)

theorem normed_rd {ty ty' : S1x1x20000.Idx → Elt F .i32} {x x' : S20000x128.Idx → Elt F .f32} {a a' b b' : S8x128.Idx → Elt F .f32}
    (h1 : ty = ty') (h2 : x = x') (h3 : a = a') (h4 : b = b') : normed ty x a b = normed ty' x' a' b' := by rw [h1, h2, h3, h4]
theorem countOf_rd {c c' : S32x8x16.Idx → Elt F .f32} {l l' : S8x1.Idx → Elt F .f32} (h1 : c = c') (h2 : l = l') :
    maximumf (F := F) (s := S8x1) (φ := .f32)
      (addf (F := F) (s := S8x1) (φ := .f32) (extractStridedSlice S8x1 ![0, 0] (multiReduction (F := F) .add [0] S8x16 (show FVec F S32x8x16 .f32 from c) 0x00000000#32 reduces_S32x8x16_S8x16 (.inl rfl) rfl) slices_S8x16_o0_0_S8x1) l)
      (broadcast S8x1 (Scalar.ofBits .f32 0x3F800000#32))
    = maximumf (F := F) (s := S8x1) (φ := .f32)
      (addf (F := F) (s := S8x1) (φ := .f32) (extractStridedSlice S8x1 ![0, 0] (multiReduction (F := F) .add [0] S8x16 (show FVec F S32x8x16 .f32 from c') 0x00000000#32 reduces_S32x8x16_S8x16 (.inl rfl) rfl) slices_S8x16_o0_0_S8x1) l')
      (broadcast S8x1 (Scalar.ofBits .f32 0x3F800000#32)) := by rw [h1, h2]
theorem meanOf_rd {s s' : S32x8x128.Idx → Elt F .f32} {st st' : S8x128.Idx → Elt F .f32} {c c' : FVec F S8x1 .f32} (h1 : s = s') (h2 : st = st') (h3 : c = c') :
    meanOf s st c = meanOf s' st' c' := by rw [h1, h2, h3]
theorem rstdOf_rd {a a' b b' : S8x128.Idx → Elt F .f32} (h1 : a = a') (h2 : b = b') : rstdOf a b = rstdOf a' b' := by rw [h1, h2]
/-- A cast of a shape to itself, of equal contents. -/
theorem castEq {s : Shape} {α : Type} {v w : s.Idx → α} (h : s.ShapeCasts s) (e : v = w) : shapeCast s v h = w := (shapeCast_self v h).trans e

set_option maxRecDepth 4096 in
theorem norm_rest (d : Dev nD) (i : grid2.Coords) (h0 : isFirst2 i ≠ 1#1)
    (M1 : Memref sig .tc .vmem S1x1x20000 .i32) (w1 : M1.IsWhole) (M2 : Memref sig .tc .vmem S20000x128 .f32) (w2 : M2.IsWhole)
    (M3 : Memref sig .tc .vmem S32x8x128 .f32) (w3 : M3.IsWhole) (M4 : Memref sig .tc .vmem S32x8x128 .f32) (w4 : M4.IsWhole) (M5 : Memref sig .tc .vmem S32x8x16 .f32) (w5 : M5.IsWhole)
    (M6 : Memref sig .tc .vmem S8x128 .f32) (w6 : M6.IsWhole) (M7 : Memref sig .tc .vmem S8x128 .f32) (w7 : M7.IsWhole) (M8 : Memref sig .tc .vmem S8x128 .f32) (w8 : M8.IsWhole)
    (M9 : Memref sig .tc .vmem S20000x128 .f32) (w9 : M9.IsWhole)
    (ty : S1x1x20000.Idx → Elt F .i32) (x : S20000x128.Idx → Elt F .f32)
    (f9 : Buf (Elt F) (M9.view.loc (d : Thread nD τ))) (mean rstd : S8x128.Idx → Elt F .f32) (Q : PUnit → sProp (𝕄 F)) :
    iprop(pt d M1 (M1.view.rep ty) ∗ pt d M2 (M2.view.rep x) ∗ pt d M9 f9 ∗ pt d (Memref.whole cc2_scratch0) mean ∗ pt d (Memref.whole cc2_scratch1) rstd
      ∗ (iprop(pt d M1 (M1.view.rep ty) ∗ pt d M2 (M2.view.rep x) ∗ (∃ f, ⌜M9.view.read (Elt F) f = normed ty x mean rstd⌝ ∗ pt d M9 f)
          ∗ pt d (Memref.whole cc2_scratch0) mean ∗ pt d (Memref.whole cc2_scratch1) rstd) -∗ Q ⟨⟩))
    ⊢ wp frame (wpE (defs₀ (F := F)) 𝒱₀ (d : Thread nD τ) none) Set.univ
        (cc2__norm_body i M1 w1 M2 w2 M3 w3 M4 w4 M5 w5 M6 w6 M7 w7 M8 w8 M9 w9 (Memref.whole cc2_scratch0) (Memref.isWhole_whole _) (Memref.whole cc2_scratch1) (Memref.isWhole_whole _)) Q := by
  have hA : (Memref.whole cc2_scratch0).IsWhole := Memref.isWhole_whole _
  have hB : (Memref.whole cc2_scratch1).IsWhole := Memref.isWhole_whole _
  unfold cc2__norm_body
  unfold isFirst2 at h0
  simp only [h0, ↓reduceDIte]
  iintro ⟨H1, H2, H9, HA, HB, Hk⟩
  sl_exec!
  sl_step
  iapply Hk
  isplitl [H1]
  · iexact H1
  isplitl [H2]
  · iexact H2
  isplitl [H9]
  · iexists _; isplitr; swap; (· iexact H9); ipureintro
    exact (View.read_writes_full M9.view _ _ _ _).trans (normed_rd (rdRep M1 ty _) (rdRep M2 x _) (rd_all cc2_scratch0 _ _) (rd_all cc2_scratch1 _ _))
  isplitl [HA]
  · iexact HA
  iexact HB

set_option maxRecDepth 4096 in
theorem norm_first (d : Dev nD) (i : grid2.Coords) (h0 : isFirst2 i = 1#1)
    (M1 : Memref sig .tc .vmem S1x1x20000 .i32) (w1 : M1.IsWhole) (M2 : Memref sig .tc .vmem S20000x128 .f32) (w2 : M2.IsWhole)
    (M3 : Memref sig .tc .vmem S32x8x128 .f32) (w3 : M3.IsWhole) (M4 : Memref sig .tc .vmem S32x8x128 .f32) (w4 : M4.IsWhole) (M5 : Memref sig .tc .vmem S32x8x16 .f32) (w5 : M5.IsWhole)
    (M6 : Memref sig .tc .vmem S8x128 .f32) (w6 : M6.IsWhole) (M7 : Memref sig .tc .vmem S8x128 .f32) (w7 : M7.IsWhole) (M8 : Memref sig .tc .vmem S8x128 .f32) (w8 : M8.IsWhole)
    (M9 : Memref sig .tc .vmem S20000x128 .f32) (w9 : M9.IsWhole)
    (ty : S1x1x20000.Idx → Elt F .i32) (x : S20000x128.Idx → Elt F .f32)
    (s1 s2 : S32x8x128.Idx → Elt F .f32) (cnt : S32x8x16.Idx → Elt F .f32) (s1t s2t cntt : S8x128.Idx → Elt F .f32)
    (f9 : Buf (Elt F) (M9.view.loc (d : Thread nD τ))) (fA fB : S8x128.Idx → Elt F .f32) (Q : PUnit → sProp (𝕄 F)) :
    iprop(pt d M1 (M1.view.rep ty) ∗ pt d M2 (M2.view.rep x) ∗ (pt d M3 (M3.view.rep s1) ∗ pt d M4 (M4.view.rep s2) ∗ pt d M5 (M5.view.rep cnt) ∗ pt d M6 (M6.view.rep s1t) ∗ pt d M7 (M7.view.rep s2t) ∗ pt d M8 (M8.view.rep cntt)) ∗ pt d M9 f9 ∗ pt d (Memref.whole cc2_scratch0) fA ∗ pt d (Memref.whole cc2_scratch1) fB
      ∗ (iprop(pt d M1 (M1.view.rep ty) ∗ pt d M2 (M2.view.rep x) ∗ (pt d M3 (M3.view.rep s1) ∗ pt d M4 (M4.view.rep s2) ∗ pt d M5 (M5.view.rep cnt) ∗ pt d M6 (M6.view.rep s1t) ∗ pt d M7 (M7.view.rep s2t) ∗ pt d M8 (M8.view.rep cntt))
          ∗ (∃ f, ⌜M9.view.read (Elt F) f = normed ty x (meanOf s1 s1t (countOf cnt cntt)) (rstdOf (meanOf s1 s1t (countOf cnt cntt)) (meanOf s2 s2t (countOf cnt cntt)))⌝ ∗ pt d M9 f)
          ∗ (∃ f, ⌜f = meanOf s1 s1t (countOf cnt cntt)⌝ ∗ pt d (Memref.whole cc2_scratch0) f) ∗ (∃ f, ⌜f = rstdOf (meanOf s1 s1t (countOf cnt cntt)) (meanOf s2 s2t (countOf cnt cntt))⌝ ∗ pt d (Memref.whole cc2_scratch1) f)) -∗ Q ⟨⟩))
    ⊢ wp frame (wpE (defs₀ (F := F)) 𝒱₀ (d : Thread nD τ) none) Set.univ
        (cc2__norm_body i M1 w1 M2 w2 M3 w3 M4 w4 M5 w5 M6 w6 M7 w7 M8 w8 M9 w9 (Memref.whole cc2_scratch0) (Memref.isWhole_whole _) (Memref.whole cc2_scratch1) (Memref.isWhole_whole _)) Q := by
  have hA : (Memref.whole cc2_scratch0).IsWhole := Memref.isWhole_whole _
  have hB : (Memref.whole cc2_scratch1).IsWhole := Memref.isWhole_whole _
  unfold cc2__norm_body k2_part1
  unfold isFirst2 at h0
  simp only [h0, ↓reduceDIte]
  iintro ⟨H1, H2, ⟨H3, H4, H5, H6, H7, H8⟩, H9, HA, HB, Hk⟩
  sl_exec!
  sl_step
  iapply Hk
  isplitl [H1]
  · iexact H1
  isplitl [H2]
  · iexact H2
  isplitl [H3 H4 H5 H6 H7 H8]
  · isplitl [H3]
    · iexact H3
    isplitl [H4]
    · iexact H4
    isplitl [H5]
    · iexact H5
    isplitl [H6]
    · iexact H6
    isplitl [H7]
    · iexact H7
    iexact H8
  isplitl [H9]
  · iexists _; isplitr; swap; (· iexact H9); ipureintro
    exact (View.read_writes_full M9.view _ _ _ _).trans (normed_rd (rdRep M1 ty _) (rdRep M2 x _)
      ((cov_all cc2_scratch0 _ _ _ _).trans (castEq _ (meanOf_rd (castEq _ (rdRep M3 s1 _)) (castEq _ (rdRep M6 s1t _)) (countOf_rd (castEq _ (rdRep M5 cnt _)) (castEq _ (View.readAt_rep M8.view _ cntt)))))) ((cov_all cc2_scratch1 _ _ _ _).trans (castEq _ (rstdOf_rd (meanOf_rd (castEq _ (rdRep M3 s1 _)) (castEq _ (rdRep M6 s1t _)) (countOf_rd (castEq _ (rdRep M5 cnt _)) (castEq _ (View.readAt_rep M8.view _ cntt)))) (meanOf_rd (castEq _ (rdRep M4 s2 _)) (castEq _ (rdRep M7 s2t _)) (countOf_rd (castEq _ (rdRep M5 cnt _)) (castEq _ (View.readAt_rep M8.view _ cntt))))))))
  isplitl [HA]
  · iexists _; isplitr; swap; (· iexact HA); ipureintro
    exact (writes_all cc2_scratch0 _ _ _ _).trans (castEq _ (meanOf_rd (castEq _ (rdRep M3 s1 _)) (castEq _ (rdRep M6 s1t _)) (countOf_rd (castEq _ (rdRep M5 cnt _)) (castEq _ (View.readAt_rep M8.view _ cntt)))))
  iexists _; isplitr; swap; (· iexact HB); ipureintro
  exact (writes_all cc2_scratch1 _ _ _ _).trans (castEq _ (rstdOf_rd (meanOf_rd (castEq _ (rdRep M3 s1 _)) (castEq _ (rdRep M6 s1t _)) (countOf_rd (castEq _ (rdRep M5 cnt _)) (castEq _ (View.readAt_rep M8.view _ cntt)))) (meanOf_rd (castEq _ (rdRep M4 s2 _)) (castEq _ (rdRep M7 s2t _)) (countOf_rd (castEq _ (rdRep M5 cnt _)) (castEq _ (View.readAt_rep M8.view _ cntt))))))

end Cert.Proof

end
-- ==== Proof.Region1.lean ====
/-
  The statistics pass: what its buffers hold from point to point.
-/
module

public import proofs.«01_k».proof.Proof.Norm
public import proofs.«01_k».proof.Proof.Gen.KernelIdeal.Points
public import proofs.«01_k».proof.Proof.Gen.KernelIdeal.Launch
public import Idealize.ShloMosaic.Lib.Pipeline.TableIdle

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

open Idealize.ShloMosaic.TcCoe Idealize.ShloMosaic.ValueIdx
open Idealize.ShloMosaic.Pipeline (Dat Window BodyObligation)

/-- The buffers of a core at a time. -/
abbrev Vals (F : FTy → Type) := (c : Dev nD) → (b : Ref sig .tc) → Buf (Elt F) ((c : Thread nD τ).loc b)

/-! ## Staging buffers as the bodies hold them -/

theorem owns_pt (d : Dev nD) {sp : Space} {S : Shape} {e : EltTy} (M : Memref sig .tc sp S e) (h : M.IsWhole) (X : S.Idx → Elt F e) :
    (owns (d : Thread nD τ) M fullShare X : sProp (𝕄 F)) = pt d M (M.view.rep X) := by
  rw [owns_eq_rep, h.set_eq_univ]

theorem pt_of_owns (d : Dev nD) {sp : Space} {S : Shape} {e : EltTy} (M : Memref sig .tc sp S e) (h : M.IsWhole) (X : S.Idx → Elt F e) :
    (owns (d : Thread nD τ) M fullShare X : sProp (𝕄 F)) ⊢ pt d M (M.view.rep X) := by rw [owns_pt d M h X]

theorem owns_of_pt (d : Dev nD) {sp : Space} {S : Shape} {e : EltTy} (M : Memref sig .tc sp S e) (h : M.IsWhole) (X : S.Idx → Elt F e) :
    pt d M (M.view.rep X) ⊢ (owns (d : Thread nD τ) M fullShare X : sProp (𝕄 F)) := by rw [owns_pt d M h X]

theorem owns_of_read (d : Dev nD) {sp : Space} {S : Shape} {e : EltTy} (M : Memref sig .tc sp S e) (h : M.IsWhole) (X : S.Idx → Elt F e) :
    iprop(∃ f, ⌜M.view.read (Elt F) f = X⌝ ∗ pt d M f) ⊢ (owns (d : Thread nD τ) M fullShare X : sProp (𝕄 F)) := by
  unfold owns
  rw [h.set_eq_univ]

/-! ## The statistics pass as proof data -/

section Dat1

variable (V : Vals F) (c : Dev nD)

/-- The types and the rows of a point's block. -/
abbrev ty1 (t : Fin cfg1.N) : S1x1x3200.Idx → Elt F .i32 := ((cfg1.win 0).blk t).view.read (Elt F) (V c main_v0)
abbrev x1 (t : Fin cfg1.N) : S3200x128.Idx → Elt F .f32 := ((cfg1.win 1).blk t).view.read (Elt F) (V c main_arg0)

/-- The sums, the sums of squares and the counts after `n` points. -/
def statS : ℕ → S8x128.Idx → Elt F .f32
  | 0 => zeroT
  | n + 1 => if h : n < cfg1.N then addS (ty1 V c ⟨n, h⟩) (x1 V c ⟨n, h⟩) (statS n) else statS n
def statQ : ℕ → S8x128.Idx → Elt F .f32
  | 0 => zeroT
  | n + 1 => if h : n < cfg1.N then addS (ty1 V c ⟨n, h⟩) (sq1 (x1 V c ⟨n, h⟩)) (statQ n) else statQ n
def statC : ℕ → S8x128.Idx → Elt F .f32
  | 0 => zeroT
  | n + 1 => if h : n < cfg1.N then addC (ty1 V c ⟨n, h⟩) (statC n) else statC n

theorem statS_succ (t : Fin cfg1.N) : statS V c (t.val + 1) = addS (ty1 V c t) (x1 V c t) (statS V c t.val) := dif_pos t.isLt
theorem statQ_succ (t : Fin cfg1.N) : statQ V c (t.val + 1) = addS (ty1 V c t) (sq1 (x1 V c t)) (statQ V c t.val) := dif_pos t.isLt
theorem statC_succ (t : Fin cfg1.N) : statC V c (t.val + 1) = addC (ty1 V c t) (statC V c t.val) := dif_pos t.isLt

/-- The pass's running sums before point `n`: anything before the first. -/
def acc1 (n : ℕ) : sProp (𝕄 F) :=
  iprop(∃ f6 f7 f8 : S8x128.Idx → Elt F .f32, ⌜n ≠ 0 → f6 = statS V c n ∧ f7 = statQ V c n ∧ f8 = statC V c n⌝
    ∗ pt c (Memref.whole cc1_scratch0) f6 ∗ pt c (Memref.whole cc1_scratch1) f7 ∗ pt c (Memref.whole cc1_scratch2) f8)

/-- The buffers of the other pass. -/
def rest1 : sProp (𝕄 F) :=
  Pipeline.scopedRestBut (Ix := HIx 1) (Name := ℕ) (U := UU) (Lvl := ℕ) (Val := Elt F) spec1 c [cc1_scratch0, cc1_scratch1, cc1_scratch2]

theorem scoped1_split : (Pipeline.scopedRest (Ix := HIx 1) (Name := ℕ) (U := UU) (Lvl := ℕ) (Val := Elt F) spec1 c : sProp (𝕄 F))
    = iprop(((∃ f : Buf (Elt F) ((c : Thread nD τ).loc cc1_scratch0), ((c : Thread nD τ).loc cc1_scratch0) ↦{fullShare} f)
        ∗ (∃ f : Buf (Elt F) ((c : Thread nD τ).loc cc1_scratch1), ((c : Thread nD τ).loc cc1_scratch1) ↦{fullShare} f)
        ∗ (∃ f : Buf (Elt F) ((c : Thread nD τ).loc cc1_scratch2), ((c : Thread nD τ).loc cc1_scratch2) ↦{fullShare} f)) ∗ rest1 c) := by
  unfold rest1
  exact Pipeline.scopedRest_split_of_list spec1 c [cc1_scratch0, cc1_scratch1, cc1_scratch2] (by decide) (by decide)

def dat1 : Dat τ (Elt F) (HIx 1) ℕ UU ℕ cfg1 c where
  A w := V c (Pipeline.arrRef spec1 w)
  after w t := match w with
    | ⟨0, _⟩ => ty1 V c t
    | ⟨1, _⟩ => x1 V c t
    | ⟨2, _⟩ => statS V c (t.val + 1)
    | ⟨3, _⟩ => statQ V c (t.val + 1)
    | ⟨4, _⟩ => statC V c (t.val + 1)
  Φ t := iprop(acc1 V c t.val ∗ rest1 c)
  q _ := fullShare
  owed _ := 0

theorem before1_0 (t : Fin cfg1.N) (d) : (dat1 V c).before 0 t d = ty1 V c t := by
  unfold Dat.before; rw [if_pos (Gen.fetch1_0 t)]; rfl
theorem before1_1 (t : Fin cfg1.N) (d) : (dat1 V c).before 1 t d = x1 V c t := by
  unfold Dat.before; rw [if_pos (Gen.fetch1_1 t)]; rfl

theorem first1 : ∀ t : Fin grid1.N, isFirst1 (grid1.coords t) = 1#1 ↔ t.val = 0 := by decide +kernel
theorem last1 : ∀ t : Fin grid1.N, k1_cond2 (grid1.coords t) = 1#1 ↔ t.val = 43 := by decide +kernel

/-- The running sums as the bodies leave them. -/
theorem acc1_step (n : ℕ) (a b e : S8x128.Idx → Elt F .f32) (ha : a = statS V c n) (hb : b = statQ V c n) (he : e = statC V c n) :
    iprop((∃ f, ⌜f = a⌝ ∗ pt c (Memref.whole cc1_scratch0) f) ∗ (∃ f, ⌜f = b⌝ ∗ pt c (Memref.whole cc1_scratch1) f) ∗ (∃ f, ⌜f = e⌝ ∗ pt c (Memref.whole cc1_scratch2) f))
      ⊢ acc1 V c n := by
  subst ha hb he
  unfold acc1
  iintro ⟨⟨%f6, %h6, H6⟩, ⟨%f7, %h7, H7⟩, ⟨%f8, %h8, H8⟩⟩
  iexists f6; iexists f7; iexists f8
  isplitr
  · ipureintro; exact fun _ => ⟨h6, h7, h8⟩
  isplitl [H6]
  · iexact H6
  isplitl [H7]
  · iexact H7
  iexact H8

theorem acc1_open (n : ℕ) : acc1 V c n ⊢ iprop(∃ f6 f7 f8 : S8x128.Idx → Elt F .f32,
    ⌜n ≠ 0 → f6 = statS V c n ∧ f7 = statQ V c n ∧ f8 = statC V c n⌝
      ∗ pt c (Memref.whole cc1_scratch0) f6 ∗ pt c (Memref.whole cc1_scratch1) f7 ∗ pt c (Memref.whole cc1_scratch2) f8) := by
  unfold acc1
  iintro H
  iexact H

abbrev M1 (t : Fin cfg1.N) := win1_0.stage (cfg1.slots t 0)
abbrev M2 (t : Fin cfg1.N) := win1_1.stage (cfg1.slots t 1)
abbrev M3 (t : Fin cfg1.N) := win1_2.stage (cfg1.slots t 2)
abbrev M4 (t : Fin cfg1.N) := win1_3.stage (cfg1.slots t 3)
abbrev M5 (t : Fin cfg1.N) := win1_4.stage (cfg1.slots t 4)
theorem hM1 (t : Fin cfg1.N) : (M1 t).IsWhole := hstage1_0 ((cfg1.slots t 0).cast nbuf1_0)
theorem hM2 (t : Fin cfg1.N) : (M2 t).IsWhole := hstage1_1 ((cfg1.slots t 1).cast nbuf1_1)
theorem hM3 (t : Fin cfg1.N) : (M3 t).IsWhole := hstage1_2 ((cfg1.slots t 2).cast nbuf1_2)
theorem hM4 (t : Fin cfg1.N) : (M4 t).IsWhole := hstage1_3 ((cfg1.slots t 3).cast nbuf1_3)
theorem hM5 (t : Fin cfg1.N) : (M5 t).IsWhole := hstage1_4 ((cfg1.slots t 4).cast nbuf1_4)

/-- A point before the last: the blocks are added, the outputs are as they were. -/
theorem body1_add (t : Fin cfg1.N) (ht : t.val ≠ 43) (Q : PUnit → sProp (𝕄 F)) :
    iprop(acc1 V c t.val ∗ owns (c : Thread nD τ) (M1 t) fullShare (ty1 V c t) ∗ owns (c : Thread nD τ) (M2 t) fullShare (x1 V c t)
      ∗ (iprop(acc1 V c (t.val + 1) ∗ owns (c : Thread nD τ) (M1 t) fullShare (ty1 V c t) ∗ owns (c : Thread nD τ) (M2 t) fullShare (x1 V c t)) -∗ Q ⟨⟩))
    ⊢ wp frame (wpE (defs₀ (F := F)) 𝒱₀ (c : Thread nD τ) none) Set.univ (Gen.bodyAt1 t) Q := by
  have hl : k1_cond2 (grid1.coords t) ≠ 1#1 := fun h => ht ((last1 t).mp h)
  rw [owns_pt c (M1 t) (hM1 t), owns_pt c (M2 t) (hM2 t)]
  iintro ⟨Hacc, H1, H2, Hk⟩
  ihave Hacc := (acc1_open V c t.val) $$ [Hacc]
  · iexact Hacc
  icases Hacc with ⟨%f6, %f7, %f8, %hf, H6, H7, H8⟩
  by_cases h0 : t.val = 0
  · have s6 : addS (ty1 V c t) (x1 V c t) zeroT = statS V c (t.val + 1) := ((statS_succ V c t).trans (by rw [h0]; rfl)).symm
    have s7 : addS (ty1 V c t) (sq1 (x1 V c t)) zeroT = statQ V c (t.val + 1) := ((statQ_succ V c t).trans (by rw [h0]; rfl)).symm
    have s8 : addC (ty1 V c t) zeroT = statC V c (t.val + 1) := ((statC_succ V c t).trans (by rw [h0]; rfl)).symm
    iapply (stats_first c (grid1.coords t) ((first1 t).mpr h0) hl (M1 t) (hM1 t) (M2 t) (hM2 t) (M3 t) (hM3 t) (M4 t) (hM4 t) (M5 t) (hM5 t) (ty1 V c t) (x1 V c t) f6 f7 f8 Q)
    isplitl [H1]
    · iexact H1
    isplitl [H2]
    · iexact H2
    isplitl [H6]
    · iexact H6
    isplitl [H7]
    · iexact H7
    isplitl [H8]
    · iexact H8
    iintro ⟨H1, H2, HS⟩
    iapply Hk
    isplitl [HS]
    · iapply (acc1_step V c (t.val + 1) _ _ _ s6 s7 s8)
      iexact HS
    isplitl [H1]
    · iexact H1
    iexact H2
  · obtain ⟨e6, e7, e8⟩ := hf h0
    have s6 : addS (ty1 V c t) (x1 V c t) f6 = statS V c (t.val + 1) := ((statS_succ V c t).trans (by rw [e6])).symm
    have s7 : addS (ty1 V c t) (sq1 (x1 V c t)) f7 = statQ V c (t.val + 1) := ((statQ_succ V c t).trans (by rw [e7])).symm
    have s8 : addC (ty1 V c t) f8 = statC V c (t.val + 1) := ((statC_succ V c t).trans (by rw [e8])).symm
    iapply (stats_mid c (grid1.coords t) (fun h => h0 ((first1 t).mp h)) hl (M1 t) (hM1 t) (M2 t) (hM2 t) (M3 t) (hM3 t) (M4 t) (hM4 t) (M5 t) (hM5 t) (ty1 V c t) (x1 V c t) f6 f7 f8 Q)
    isplitl [H1]
    · iexact H1
    isplitl [H2]
    · iexact H2
    isplitl [H6]
    · iexact H6
    isplitl [H7]
    · iexact H7
    isplitl [H8]
    · iexact H8
    iintro ⟨H1, H2, HS⟩
    iapply Hk
    isplitl [HS]
    · iapply (acc1_step V c (t.val + 1) _ _ _ s6 s7 s8)
      iexact HS
    isplitl [H1]
    · iexact H1
    iexact H2

/-- The last point: the sums go to the outputs too. -/
theorem body1_last (t : Fin cfg1.N) (ht : t.val = 43) (Y3 Y4 Y5 : S8x128.Idx → Elt F .f32) (Q : PUnit → sProp (𝕄 F)) :
    iprop(acc1 V c t.val ∗ owns (c : Thread nD τ) (M1 t) fullShare (ty1 V c t) ∗ owns (c : Thread nD τ) (M2 t) fullShare (x1 V c t)
      ∗ owns (c : Thread nD τ) (M3 t) fullShare Y3 ∗ owns (c : Thread nD τ) (M4 t) fullShare Y4 ∗ owns (c : Thread nD τ) (M5 t) fullShare Y5
      ∗ (iprop(acc1 V c (t.val + 1) ∗ owns (c : Thread nD τ) (M1 t) fullShare (ty1 V c t) ∗ owns (c : Thread nD τ) (M2 t) fullShare (x1 V c t)
          ∗ owns (c : Thread nD τ) (M3 t) fullShare (statS V c (t.val + 1)) ∗ owns (c : Thread nD τ) (M4 t) fullShare (statQ V c (t.val + 1)) ∗ owns (c : Thread nD τ) (M5 t) fullShare (statC V c (t.val + 1))) -∗ Q ⟨⟩))
    ⊢ wp frame (wpE (defs₀ (F := F)) 𝒱₀ (c : Thread nD τ) none) Set.univ (Gen.bodyAt1 t) Q := by
  have hl : k1_cond2 (grid1.coords t) = 1#1 := (last1 t).mpr ht
  have h0 : t.val ≠ 0 := by omega
  rw [owns_pt c (M1 t) (hM1 t), owns_pt c (M2 t) (hM2 t), owns_pt c (M3 t) (hM3 t) Y3, owns_pt c (M4 t) (hM4 t) Y4, owns_pt c (M5 t) (hM5 t) Y5]
  iintro ⟨Hacc, H1, H2, H3, H4, H5, Hk⟩
  ihave Hacc := (acc1_open V c t.val) $$ [Hacc]
  · iexact Hacc
  icases Hacc with ⟨%f6, %f7, %f8, %hf, H6, H7, H8⟩
  obtain ⟨e6, e7, e8⟩ := hf h0
  have s6 : addS (ty1 V c t) (x1 V c t) f6 = statS V c (t.val + 1) := ((statS_succ V c t).trans (by rw [e6])).symm
  have s7 : addS (ty1 V c t) (sq1 (x1 V c t)) f7 = statQ V c (t.val + 1) := ((statQ_succ V c t).trans (by rw [e7])).symm
  have s8 : addC (ty1 V c t) f8 = statC V c (t.val + 1) := ((statC_succ V c t).trans (by rw [e8])).symm
  iapply (stats_last c (grid1.coords t) (fun h => h0 ((first1 t).mp h)) hl (M1 t) (hM1 t) (M2 t) (hM2 t) (M3 t) (hM3 t) (M4 t) (hM4 t) (M5 t) (hM5 t) (ty1 V c t) (x1 V c t) f6 f7 f8 _ _ _ Q)
  isplitl [H1]
  · iexact H1
  isplitl [H2]
  · iexact H2
  isplitl [H6]
  · iexact H6
  isplitl [H7]
  · iexact H7
  isplitl [H8]
  · iexact H8
  isplitl [H3]
  · iexact H3
  isplitl [H4]
  · iexact H4
  isplitl [H5]
  · iexact H5
  rw [s6, s7, s8]
  iintro ⟨H1, H2, H6, H7, H8, H3, H4, H5⟩
  iapply Hk
  isplitl [H6 H7 H8]
  · iapply (acc1_step V c (t.val + 1) _ _ _ rfl rfl rfl)
    isplitl [H6]
    · iexact H6
    isplitl [H7]
    · iexact H7
    iexact H8
  isplitl [H1]
  · iexact H1
  isplitl [H2]
  · iexact H2
  isplitl [H3]
  · iapply (owns_of_read c (M3 t) (hM3 t)); iexact H3
  isplitl [H4]
  · iapply (owns_of_read c (M4 t) (hM4 t)); iexact H4
  iapply (owns_of_read c (M5 t) (hM5 t)); iexact H5

theorem obligation1 : BodyObligation (dat1 V c) (defs₀ (F := F)) 𝒱₀ (none : HIx 1) Set.univ := fun t => by
  rw [Gen.bigSep_W1, Gen.bigSep_W1]
  rw [show (dat1 V c).Φ t.castSucc = iprop(acc1 V c t.val ∗ rest1 c) from rfl, show (dat1 V c).Φ t.succ = iprop(acc1 V c (t.val + 1) ∗ rest1 c) from rfl,
    show (dat1 V c).owesAt (none : HIx 1) t.succ = (dat1 V c).owesAt (none : HIx 1) t.castSucc from rfl]
  change _ ⊢ wp _ _ _ (Gen.bodyAt1 t) _
  by_cases ht : t.val = 43
  · have hl : k1_cond2 (grid1.coords t) = 1#1 := (last1 t).mpr ht
    have i2 : idle1 2 (grid1.coords t) = false := by show (!(k1_cond2 (grid1.coords t) == 1#1)) = false; rw [hl]; rfl
    have i3 : idle1 3 (grid1.coords t) = false := i2
    have i4 : idle1 4 (grid1.coords t) = false := i2
    simp only [i2, i3, i4]
    iintro ⟨⟨Hacc, Hr⟩, Howes, ⟨%d0, H0⟩, ⟨%d1, H1⟩, ⟨%d2, H2⟩, ⟨%d3, H3⟩, ⟨%d4, H4⟩⟩
    rw [before1_0, before1_1]
    iapply (body1_last V c t ht _ _ _ _)
    isplitl [Hacc]
    · iexact Hacc
    isplitl [H0]
    · iexact H0
    isplitl [H1]
    · iexact H1
    isplitl [H2]
    · iexact H2
    isplitl [H3]
    · iexact H3
    isplitl [H4]
    · iexact H4
    iintro ⟨Hacc, H0, H1, H2, H3, H4⟩
    isplitl [Hacc Hr]
    · isplitl [Hacc]
      · iexact Hacc
      iexact Hr
    isplitl [Howes]
    · iexact Howes
    isplitl [H0]
    · iexact H0
    isplitl [H1]
    · iexact H1
    isplitl [H2]
    · iexact H2
    isplitl [H3]
    · iexact H3
    iexact H4
  · have hl : (k1_cond2 (grid1.coords t) == 1#1) = false := by
      rw [beq_eq_false_iff_ne]; exact fun h => ht ((last1 t).mp h)
    have i2 : idle1 2 (grid1.coords t) = true := by show (!(k1_cond2 (grid1.coords t) == 1#1)) = true; rw [hl]; rfl
    have i3 : idle1 3 (grid1.coords t) = true := i2
    have i4 : idle1 4 (grid1.coords t) = true := i2
    have h43 : ¬ t.val % 44 = 43 := by have := t.isLt; have e : cfg1.N = 44 := Gen.N_1; omega
    have g2 : (win1 2).flush t = false := by rw [← Bool.not_eq_true]; exact fun h => h43 ((Gen.flush1_2 t).mp h)
    have g3 : (win1 3).flush t = false := by rw [← Bool.not_eq_true]; exact fun h => h43 ((Gen.flush1_3 t).mp h)
    have g4 : (win1 4).flush t = false := by rw [← Bool.not_eq_true]; exact fun h => h43 ((Gen.flush1_4 t).mp h)
    simp only [i2, i3, i4, g2, g3, g4]
    iintro ⟨⟨Hacc, Hr⟩, Howes, ⟨%d0, H0⟩, ⟨%d1, H1⟩, H2, H3, H4⟩
    rw [before1_0, before1_1]
    iapply (body1_add V c t ht _)
    isplitl [Hacc]
    · iexact Hacc
    isplitl [H0]
    · iexact H0
    isplitl [H1]
    · iexact H1
    iintro ⟨Hacc, H0, H1⟩
    isplitl [Hacc Hr]
    · isplitl [Hacc]
      · iexact Hacc
      iexact Hr
    isplitl [Howes]
    · iexact Howes
    isplitl [H0]
    · iexact H0
    isplitl [H1]
    · iexact H1
    isplitl [H2]
    · iexact H2
    isplitl [H3]
    · iexact H3
    iexact H4

end Dat1

end Cert.Proof

end
-- ==== Proof.Region2.lean ====
/-
  The normalising pass: what its buffers hold from point to point.
-/
module

public import proofs.«01_k».proof.Proof.Region1
public import Idealize.ShloMosaic.Lib.Pipeline.ValueKit

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
open Idealize.ShloMosaic.TcCoe Idealize.ShloMosaic.ValueIdx
open Idealize.ShloMosaic.Pipeline (Dat Window BodyObligation)

section Dat2

variable (V : Vals F) (c : Dev nD)

/-! ## The normalising pass as proof data -/

/-- The types and the rows of a point's block. -/
abbrev ty2 (t : Fin cfg2.N) : S1x1x20000.Idx → Elt F .i32 := ((cfg2.win 0).blk t).view.read (Elt F) (V c main_v3)
abbrev x2 (t : Fin cfg2.N) : S20000x128.Idx → Elt F .f32 := ((cfg2.win 1).blk t).view.read (Elt F) (V c main_arg0)

/-- The means and the reciprocal deviations, from the sums. -/
def MEAN : S8x128.Idx → Elt F .f32 := meanOf (V c main_v1_0) (V c main_v2_0) (countOf (V c main_v1_2) (V c main_v2_2))
def RSTD : S8x128.Idx → Elt F .f32 := rstdOf (MEAN V c) (meanOf (V c main_v1_1) (V c main_v2_1) (countOf (V c main_v1_2) (V c main_v2_2)))

/-- The two tables before point `n`: anything before the first. -/
def acc2 (n : ℕ) : sProp (𝕄 F) :=
  iprop(∃ fA fB : S8x128.Idx → Elt F .f32, ⌜n ≠ 0 → fA = MEAN V c ∧ fB = RSTD V c⌝
    ∗ pt c (Memref.whole cc2_scratch0) fA ∗ pt c (Memref.whole cc2_scratch1) fB)

theorem acc2_open (n : ℕ) : acc2 V c n ⊢ iprop(∃ fA fB : S8x128.Idx → Elt F .f32, ⌜n ≠ 0 → fA = MEAN V c ∧ fB = RSTD V c⌝
    ∗ pt c (Memref.whole cc2_scratch0) fA ∗ pt c (Memref.whole cc2_scratch1) fB) := by
  unfold acc2
  iintro H
  iexact H

theorem acc2_close (n : ℕ) : iprop((∃ f, ⌜f = MEAN V c⌝ ∗ pt c (Memref.whole cc2_scratch0) f) ∗ (∃ f, ⌜f = RSTD V c⌝ ∗ pt c (Memref.whole cc2_scratch1) f)) ⊢ acc2 V c n := by
  unfold acc2
  iintro ⟨⟨%fA, %hA, HA⟩, ⟨%fB, %hB, HB⟩⟩
  iexists fA; iexists fB
  isplitr
  · ipureintro; exact fun _ => ⟨hA, hB⟩
  isplitl [HA]
  · iexact HA
  iexact HB

/-- The buffers of the other pass. -/
def rest2 : sProp (𝕄 F) :=
  Pipeline.scopedRestBut (Ix := HIx 1) (Name := ℕ) (U := UU) (Lvl := ℕ) (Val := Elt F) spec2 c [cc2_scratch0, cc2_scratch1]

theorem scoped2_split : (Pipeline.scopedRest (Ix := HIx 1) (Name := ℕ) (U := UU) (Lvl := ℕ) (Val := Elt F) spec2 c : sProp (𝕄 F))
    = iprop(((∃ f : Buf (Elt F) ((c : Thread nD τ).loc cc2_scratch0), ((c : Thread nD τ).loc cc2_scratch0) ↦{fullShare} f)
        ∗ (∃ f : Buf (Elt F) ((c : Thread nD τ).loc cc2_scratch1), ((c : Thread nD τ).loc cc2_scratch1) ↦{fullShare} f)) ∗ rest2 c) := by
  unfold rest2
  exact Pipeline.scopedRest_split_of_list spec2 c [cc2_scratch0, cc2_scratch1] (by decide) (by decide)

def dat2 : Dat τ (Elt F) (HIx 1) ℕ UU ℕ cfg2 c where
  A w := V c (Pipeline.arrRef spec2 w)
  after w t := match w with
    | ⟨0, _⟩ => ty2 V c t
    | ⟨1, _⟩ => x2 V c t
    | ⟨2, _⟩ => V c main_v1_0
    | ⟨3, _⟩ => V c main_v1_1
    | ⟨4, _⟩ => V c main_v1_2
    | ⟨5, _⟩ => V c main_v2_0
    | ⟨6, _⟩ => V c main_v2_1
    | ⟨7, _⟩ => V c main_v2_2
    | ⟨8, _⟩ => normed (ty2 V c t) (x2 V c t) (MEAN V c) (RSTD V c)
  Φ t := iprop(acc2 V c t.val ∗ rest2 c)
  q _ := fullShare
  owed _ := 0

theorem whole2_2 (t : Fin cfg2.N) : ∀ a, win2_2.index t a = 0 := by
  show ∀ a : Fin 3, _
  intro a
  fin_cases a <;> rfl
theorem whole2_3 (t : Fin cfg2.N) : ∀ a, win2_3.index t a = 0 := by
  show ∀ a : Fin 3, _
  intro a
  fin_cases a <;> rfl
theorem whole2_4 (t : Fin cfg2.N) : ∀ a, win2_4.index t a = 0 := by
  show ∀ a : Fin 3, _
  intro a
  fin_cases a <;> rfl
theorem whole2_5 (t : Fin cfg2.N) : ∀ a, win2_5.index t a = 0 := by
  show ∀ a : Fin 2, _
  intro a
  fin_cases a <;> rfl
theorem whole2_6 (t : Fin cfg2.N) : ∀ a, win2_6.index t a = 0 := by
  show ∀ a : Fin 2, _
  intro a
  fin_cases a <;> rfl
theorem whole2_7 (t : Fin cfg2.N) : ∀ a, win2_7.index t a = 0 := by
  show ∀ a : Fin 2, _
  intro a
  fin_cases a <;> rfl

theorem blk2_2 (t : Fin cfg2.N) : ((cfg2.win 2).blk t).view.read (Elt F) (V c main_v1_0) = V c main_v1_0 := by
  funext y
  refine congrArg (V c main_v1_0) (funext fun a => Fin.ext ?_)
  exact (Pipeline.Window.rect_emb_val_of_index_zero win2_2 t a (whole2_2 t a) y)
theorem blk2_3 (t : Fin cfg2.N) : ((cfg2.win 3).blk t).view.read (Elt F) (V c main_v1_1) = V c main_v1_1 := by
  funext y
  refine congrArg (V c main_v1_1) (funext fun a => Fin.ext ?_)
  exact (Pipeline.Window.rect_emb_val_of_index_zero win2_3 t a (whole2_3 t a) y)
theorem blk2_4 (t : Fin cfg2.N) : ((cfg2.win 4).blk t).view.read (Elt F) (V c main_v1_2) = V c main_v1_2 := by
  funext y
  refine congrArg (V c main_v1_2) (funext fun a => Fin.ext ?_)
  exact (Pipeline.Window.rect_emb_val_of_index_zero win2_4 t a (whole2_4 t a) y)
theorem blk2_5 (t : Fin cfg2.N) : ((cfg2.win 5).blk t).view.read (Elt F) (V c main_v2_0) = V c main_v2_0 := by
  funext y
  refine congrArg (V c main_v2_0) (funext fun a => Fin.ext ?_)
  exact (Pipeline.Window.rect_emb_val_of_index_zero win2_5 t a (whole2_5 t a) y)
theorem blk2_6 (t : Fin cfg2.N) : ((cfg2.win 6).blk t).view.read (Elt F) (V c main_v2_1) = V c main_v2_1 := by
  funext y
  refine congrArg (V c main_v2_1) (funext fun a => Fin.ext ?_)
  exact (Pipeline.Window.rect_emb_val_of_index_zero win2_6 t a (whole2_6 t a) y)
theorem blk2_7 (t : Fin cfg2.N) : ((cfg2.win 7).blk t).view.read (Elt F) (V c main_v2_2) = V c main_v2_2 := by
  funext y
  refine congrArg (V c main_v2_2) (funext fun a => Fin.ext ?_)
  exact (Pipeline.Window.rect_emb_val_of_index_zero win2_7 t a (whole2_7 t a) y)

theorem before2_0 (t : Fin cfg2.N) (d) : (dat2 V c).before 0 t d = ty2 V c t := by
  unfold Dat.before; rw [if_pos (Gen.fetch2_0 t)]; rfl
theorem before2_1 (t : Fin cfg2.N) (d) : (dat2 V c).before 1 t d = x2 V c t := by
  unfold Dat.before; rw [if_pos (Gen.fetch2_1 t)]; rfl
theorem before2_2 (t : Fin cfg2.N) (d) : (dat2 V c).before 2 t d = V c main_v1_0 :=
  ((dat2 V c).before_in_eq_fetched 2 rfl (fun _ => rfl) (fun _ _ _ => rfl) (fun t => (blk2_2 V c t).symm) t d).trans (blk2_2 V c t)
theorem before2_3 (t : Fin cfg2.N) (d) : (dat2 V c).before 3 t d = V c main_v1_1 :=
  ((dat2 V c).before_in_eq_fetched 3 rfl (fun _ => rfl) (fun _ _ _ => rfl) (fun t => (blk2_3 V c t).symm) t d).trans (blk2_3 V c t)
theorem before2_4 (t : Fin cfg2.N) (d) : (dat2 V c).before 4 t d = V c main_v1_2 :=
  ((dat2 V c).before_in_eq_fetched 4 rfl (fun _ => rfl) (fun _ _ _ => rfl) (fun t => (blk2_4 V c t).symm) t d).trans (blk2_4 V c t)
theorem before2_5 (t : Fin cfg2.N) (d) : (dat2 V c).before 5 t d = V c main_v2_0 :=
  ((dat2 V c).before_in_eq_fetched 5 rfl (fun _ => rfl) (fun _ _ _ => rfl) (fun t => (blk2_5 V c t).symm) t d).trans (blk2_5 V c t)
theorem before2_6 (t : Fin cfg2.N) (d) : (dat2 V c).before 6 t d = V c main_v2_1 :=
  ((dat2 V c).before_in_eq_fetched 6 rfl (fun _ => rfl) (fun _ _ _ => rfl) (fun t => (blk2_6 V c t).symm) t d).trans (blk2_6 V c t)
theorem before2_7 (t : Fin cfg2.N) (d) : (dat2 V c).before 7 t d = V c main_v2_2 :=
  ((dat2 V c).before_in_eq_fetched 7 rfl (fun _ => rfl) (fun _ _ _ => rfl) (fun t => (blk2_7 V c t).symm) t d).trans (blk2_7 V c t)

theorem first2 : ∀ t : Fin grid2.N, isFirst2 (grid2.coords t) = 1#1 ↔ t.val = 0 := by decide +kernel

abbrev N1 (t : Fin cfg2.N) := win2_0.stage (cfg2.slots t 0)
theorem hN1 (t : Fin cfg2.N) : (N1 t).IsWhole := hstage2_0 ((cfg2.slots t 0).cast nbuf2_0)
abbrev N2 (t : Fin cfg2.N) := win2_1.stage (cfg2.slots t 1)
theorem hN2 (t : Fin cfg2.N) : (N2 t).IsWhole := hstage2_1 ((cfg2.slots t 1).cast nbuf2_1)
abbrev N3 (t : Fin cfg2.N) := win2_2.stage (cfg2.slots t 2)
theorem hN3 (t : Fin cfg2.N) : (N3 t).IsWhole := hstage2_2 ((cfg2.slots t 2).cast nbuf2_2)
abbrev N4 (t : Fin cfg2.N) := win2_3.stage (cfg2.slots t 3)
theorem hN4 (t : Fin cfg2.N) : (N4 t).IsWhole := hstage2_3 ((cfg2.slots t 3).cast nbuf2_3)
abbrev N5 (t : Fin cfg2.N) := win2_4.stage (cfg2.slots t 4)
theorem hN5 (t : Fin cfg2.N) : (N5 t).IsWhole := hstage2_4 ((cfg2.slots t 4).cast nbuf2_4)
abbrev N6 (t : Fin cfg2.N) := win2_5.stage (cfg2.slots t 5)
theorem hN6 (t : Fin cfg2.N) : (N6 t).IsWhole := hstage2_5 ((cfg2.slots t 5).cast nbuf2_5)
abbrev N7 (t : Fin cfg2.N) := win2_6.stage (cfg2.slots t 6)
theorem hN7 (t : Fin cfg2.N) : (N7 t).IsWhole := hstage2_6 ((cfg2.slots t 6).cast nbuf2_6)
abbrev N8 (t : Fin cfg2.N) := win2_7.stage (cfg2.slots t 7)
theorem hN8 (t : Fin cfg2.N) : (N8 t).IsWhole := hstage2_7 ((cfg2.slots t 7).cast nbuf2_7)
abbrev N9 (t : Fin cfg2.N) := win2_8.stage (cfg2.slots t 8)
theorem hN9 (t : Fin cfg2.N) : (N9 t).IsWhole := hstage2_8 ((cfg2.slots t 8).cast nbuf2_8)

/-- Every point: the block normalised, the tables set at the first. -/
theorem body2 (t : Fin cfg2.N) (Y : S20000x128.Idx → Elt F .f32) (Q : PUnit → sProp (𝕄 F)) :
    iprop(acc2 V c t.val ∗ owns (c : Thread nD τ) (N1 t) fullShare (ty2 V c t) ∗ owns (c : Thread nD τ) (N2 t) fullShare (x2 V c t) ∗ owns (c : Thread nD τ) (N3 t) fullShare (V c main_v1_0) ∗ owns (c : Thread nD τ) (N4 t) fullShare (V c main_v1_1) ∗ owns (c : Thread nD τ) (N5 t) fullShare (V c main_v1_2) ∗ owns (c : Thread nD τ) (N6 t) fullShare (V c main_v2_0) ∗ owns (c : Thread nD τ) (N7 t) fullShare (V c main_v2_1) ∗ owns (c : Thread nD τ) (N8 t) fullShare (V c main_v2_2) ∗ owns (c : Thread nD τ) (N9 t) fullShare Y
      ∗ (iprop(acc2 V c (t.val + 1) ∗ owns (c : Thread nD τ) (N1 t) fullShare (ty2 V c t) ∗ owns (c : Thread nD τ) (N2 t) fullShare (x2 V c t) ∗ owns (c : Thread nD τ) (N3 t) fullShare (V c main_v1_0) ∗ owns (c : Thread nD τ) (N4 t) fullShare (V c main_v1_1) ∗ owns (c : Thread nD τ) (N5 t) fullShare (V c main_v1_2) ∗ owns (c : Thread nD τ) (N6 t) fullShare (V c main_v2_0) ∗ owns (c : Thread nD τ) (N7 t) fullShare (V c main_v2_1) ∗ owns (c : Thread nD τ) (N8 t) fullShare (V c main_v2_2) ∗ owns (c : Thread nD τ) (N9 t) fullShare (normed (ty2 V c t) (x2 V c t) (MEAN V c) (RSTD V c))) -∗ Q ⟨⟩))
    ⊢ wp frame (wpE (defs₀ (F := F)) 𝒱₀ (c : Thread nD τ) none) Set.univ (Gen.bodyAt2 t) Q := by
  rw [owns_pt c (N1 t) (hN1 t), owns_pt c (N2 t) (hN2 t), owns_pt c (N3 t) (hN3 t), owns_pt c (N4 t) (hN4 t), owns_pt c (N5 t) (hN5 t), owns_pt c (N6 t) (hN6 t),
    owns_pt c (N7 t) (hN7 t), owns_pt c (N8 t) (hN8 t), owns_pt c (N9 t) (hN9 t) Y]
  iintro ⟨Hacc, H1, H2, H3, H4, H5, H6, H7, H8, H9, Hk⟩
  ihave Hacc := (acc2_open V c t.val) $$ [Hacc]
  · iexact Hacc
  icases Hacc with ⟨%fA, %fB, %hf, HA, HB⟩
  by_cases h0 : t.val = 0
  · iapply (norm_first c (grid2.coords t) ((first2 t).mpr h0) (N1 t) (hN1 t) (N2 t) (hN2 t) (N3 t) (hN3 t) (N4 t) (hN4 t) (N5 t) (hN5 t) (N6 t) (hN6 t) (N7 t) (hN7 t) (N8 t) (hN8 t) (N9 t) (hN9 t) (ty2 V c t) (x2 V c t) (V c main_v1_0) (V c main_v1_1) (V c main_v1_2) (V c main_v2_0) (V c main_v2_1) (V c main_v2_2) _ fA fB Q)
    isplitl [H1]
    · iexact H1
    isplitl [H2]
    · iexact H2
    isplitl [H3 H4 H5 H6 H7 H8]
    · isplitl [H3]
      · iexact H3
      isplitl [H4]
      · iexact H4
      isplitl [H5]
      · iexact H5
      isplitl [H6]
      · iexact H6
      isplitl [H7]
      · iexact H7
      iexact H8
    isplitl [H9]
    · iexact H9
    isplitl [HA]
    · iexact HA
    isplitl [HB]
    · iexact HB
    iintro ⟨H1, H2, ⟨H3, H4, H5, H6, H7, H8⟩, H9, HA, HB⟩
    iapply Hk
    isplitl [HA HB]
    · iapply (acc2_close V c (t.val + 1))
      isplitl [HA]
      · iexact HA
      iexact HB
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iapply (owns_of_read c (N9 t) (hN9 t)); iexact H9

  · obtain ⟨eA, eB⟩ := hf h0
    subst eA eB
    iapply (norm_rest c (grid2.coords t) (fun h => h0 ((first2 t).mp h)) (N1 t) (hN1 t) (N2 t) (hN2 t) (N3 t) (hN3 t) (N4 t) (hN4 t) (N5 t) (hN5 t) (N6 t) (hN6 t) (N7 t) (hN7 t) (N8 t) (hN8 t) (N9 t) (hN9 t) (ty2 V c t) (x2 V c t) _ (MEAN V c) (RSTD V c) Q)
    isplitl [H1]
    · iexact H1
    isplitl [H2]
    · iexact H2
    isplitl [H9]
    · iexact H9
    isplitl [HA]
    · iexact HA
    isplitl [HB]
    · iexact HB
    iintro ⟨H1, H2, H9, HA, HB⟩
    iapply Hk
    isplitl [HA HB]
    · iapply (acc2_close V c (t.val + 1))
      isplitl [HA]
      · iexists _; isplitr; swap; (· iexact HA); ipureintro; rfl
      iexists _; isplitr; swap; (· iexact HB); ipureintro; rfl
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iapply (owns_of_read c (N9 t) (hN9 t)); iexact H9

theorem obligation2 : BodyObligation (dat2 V c) (defs₀ (F := F)) 𝒱₀ (none : HIx 1) Set.univ := fun t => by
  rw [Gen.bigSep_W2, Gen.bigSep_W2]
  rw [show (dat2 V c).Φ t.castSucc = iprop(acc2 V c t.val ∗ rest2 c) from rfl, show (dat2 V c).Φ t.succ = iprop(acc2 V c (t.val + 1) ∗ rest2 c) from rfl,
    show (dat2 V c).owesAt (none : HIx 1) t.succ = (dat2 V c).owesAt (none : HIx 1) t.castSucc from rfl]
  change _ ⊢ wp _ _ _ (Gen.bodyAt2 t) _
  iintro ⟨⟨Hacc, Hr⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before2_0, before2_1, before2_2, before2_3, before2_4, before2_5, before2_6, before2_7]
  iapply (body2 V c t _ _)
  isplitl [Hacc]
  · iexact Hacc
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8

  iintro ⟨Hacc, H0, H1, H2, H3, H4, H5, H6, H7, H8⟩
  isplitl [Hacc Hr]
  · isplitl [Hacc]
    · iexact Hacc
    iexact Hr
  isplitl [Howes]
  · iexact Howes
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  iexact H8

end Dat2

end Cert.Proof

end
-- ==== Proof.Regions.lean ====
/-
  The two dense passes as regions of the program.
-/
module

public import proofs.«01_k».proof.Proof.Region2
public import Idealize.ShloMosaic.Lib.Pipeline.Regions

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
open Idealize.ShloMosaic.TcCoe Idealize.ShloMosaic.ValueIdx
open Idealize.ShloMosaic.Pipeline (Dat Window BodyObligation)

abbrev adm : (p : Fin 2) → (pcfgs (F := F) p).Adm := fun p => (cfgs p).toPCfg_adm

/-- The proof data of the two passes, each at the buffers it is entered with. -/
def pdats (V W : Vals F) : (p : Fin 2) → (c : Dev nD) → Dat τ (Elt F) (HIx 1) ℕ UU ℕ (Pipeline.pin (pcfgs (F := F)) adm p) c
  | ⟨0, _⟩ => fun c => dat1 V c
  | ⟨1, _⟩ => fun c => dat2 W c

section Left

variable (V : Vals F)

/-- The buffers after the statistics pass. -/
def left1 : Vals F := fun c =>
  Function.update (Function.update (Function.update (V c) main_v2_0 (statS V c 44)) main_v2_1 (statQ V c 44)) main_v2_2 (statC V c 44)

/-- The normalised rows, block by block. -/
def normAll (c : Dev nD) : S320000x128.Idx → Elt F .f32 := fun j =>
  have h : (j 0).val / 20000 < 16 := by have : (j 0).val < 320000 := (j 0).isLt; omega
  normed (ty2 V c ⟨(j 0).val / 20000, h⟩) (x2 V c ⟨(j 0).val / 20000, h⟩) (MEAN V c) (RSTD V c) (ValueIdx.ix2 ⟨(j 0).val % 20000, Nat.mod_lt _ (by norm_num)⟩ (j 1))

/-- The buffers after the normalising pass. -/
def left2 : Vals F := fun c => Function.update (V c) main_v4 (normAll V c)

def last1pt : Fin cfg1.N := ⟨43, by decide⟩

theorem arr1_2 (c : Dev nD) : (dat1 V c).arrAt 2 cfg1.N = statS V c 44 := by
  refine (dat1 V c).arrAt_eq_of_after_last 2 last1pt (by decide +kernel) _ fun j => ?_
  blk_simp
  rfl
theorem arr1_3 (c : Dev nD) : (dat1 V c).arrAt 3 cfg1.N = statQ V c 44 := by
  refine (dat1 V c).arrAt_eq_of_after_last 3 last1pt (by decide +kernel) _ fun j => ?_
  blk_simp
  rfl
theorem arr1_4 (c : Dev nD) : (dat1 V c).arrAt 4 cfg1.N = statC V c 44 := by
  refine (dat1 V c).arrAt_eq_of_after_last 4 last1pt (by decide +kernel) _ fun j => ?_
  blk_simp
  rfl

theorem left1_0 (c : Dev nD) : left1 V c main_v2_0 = statS V c 44 := by
  unfold left1; rw [Function.update_of_ne (by decide), Function.update_of_ne (by decide), Function.update_self]
theorem left1_1 (c : Dev nD) : left1 V c main_v2_1 = statQ V c 44 := by
  unfold left1; rw [Function.update_of_ne (by decide), Function.update_self]
theorem left1_2 (c : Dev nD) : left1 V c main_v2_2 = statC V c 44 := by
  unfold left1; rw [Function.update_self]
theorem left1_ne (c : Dev nD) (b : Ref sig .tc) (h0 : b ≠ main_v2_0) (h1 : b ≠ main_v2_1) (h2 : b ≠ main_v2_2) : left1 V c b = V c b := by
  unfold left1; rw [Function.update_of_ne h2, Function.update_of_ne h1, Function.update_of_ne h0]
theorem left2_0 (c : Dev nD) : left2 V c main_v4 = normAll V c := by
  unfold left2; rw [Function.update_self]
theorem left2_ne (c : Dev nD) (b : Ref sig .tc) (h : b ≠ main_v4) : left2 V c b = V c b := by
  unfold left2; rw [Function.update_of_ne h]

theorem arr1 (c : Dev nD) : ∀ w : Fin 5, (dat1 V c).arrAt w cfg1.N = left1 V c (Pipeline.arrRef spec1 w)
  | 0 => ((dat1 V c).arrAt_in 0 rfl _).trans (left1_ne V c _ (by decide) (by decide) (by decide)).symm
  | 1 => ((dat1 V c).arrAt_in 1 rfl _).trans (left1_ne V c _ (by decide) (by decide) (by decide)).symm
  | 2 => (arr1_2 V c).trans (left1_0 V c).symm
  | 3 => (arr1_3 V c).trans (left1_1 V c).symm
  | 4 => (arr1_4 V c).trans (left1_2 V c).symm

theorem off1 (c : Dev nD) (b : Ref sig .tc) (hb : b ∉ Finset.univ.image (Pipeline.arrRef spec1)) : left1 V c b = V c b :=
  left1_ne V c b (fun h => hb (by rw [h]; exact Finset.mem_image.mpr ⟨2, Finset.mem_univ _, rfl⟩)) (fun h => hb (by rw [h]; exact Finset.mem_image.mpr ⟨3, Finset.mem_univ _, rfl⟩))
    (fun h => hb (by rw [h]; exact Finset.mem_image.mpr ⟨4, Finset.mem_univ _, rfl⟩))

theorem index2_8 : ∀ t : Fin grid2.N, win2_8.index t 0 = t.val ∧ win2_8.index t 1 = 0 := by decide +kernel

theorem arr2_8 (c : Dev nD) : (dat2 V c).arrAt 8 cfg2.N = normAll V c := by
  refine (dat2 V c).arrAt_eq_of_covers 8 _ (by decide +kernel) fun t hf y => ?_
  blk_simp
  have y0 : (y 0).val < 20000 := (y 0).isLt
  have e0 : (((cfg2.win 8).blk t).view.emb y 0).val = t.val * 20000 + (y 0).val := by
    have := Pipeline.Window.rect_emb_val win2_8 t y 0
    rw [(index2_8 t).1] at this
    exact this
  have e1 : (((cfg2.win 8).blk t).view.emb y 1).val = (y 1).val := by
    have := Pipeline.Window.rect_emb_val win2_8 t y 1
    rw [(index2_8 t).2] at this
    exact this.trans (by simp)
  show normed (ty2 V c t) (x2 V c t) (MEAN V c) (RSTD V c) y = normAll V c (((cfg2.win 8).blk t).view.emb y)
  unfold normAll
  have ht : (⟨(((cfg2.win 8).blk t).view.emb y 0).val / 20000, by rw [e0]; have : t.val < 16 := lt_of_lt_of_eq t.isLt Gen.N_2; show _ < cfg2.N; rw [show cfg2.N = 16 from Gen.N_2]; omega⟩ : Fin cfg2.N) = t :=
    Fin.ext (by show _ / 20000 = t.val; rw [e0]; omega)
  have hy : (ValueIdx.ix2 ⟨(((cfg2.win 8).blk t).view.emb y 0).val % 20000, Nat.mod_lt _ (by norm_num)⟩ (((cfg2.win 8).blk t).view.emb y 1) : S20000x128.Idx) = y := by
    funext a
    match a with
    | 0 => exact Fin.ext (by show _ % 20000 = (y 0).val; rw [e0]; omega)
    | 1 => exact Fin.ext e1
  exact (congrArg₂ (fun t y => normed (ty2 V c t) (x2 V c t) (MEAN V c) (RSTD V c) y) ht hy).symm

theorem arr2 (c : Dev nD) : ∀ w : Fin 9, (dat2 V c).arrAt w cfg2.N = left2 V c (Pipeline.arrRef spec2 w)
  | 0 => ((dat2 V c).arrAt_in 0 rfl _).trans (left2_ne V c _ (by decide)).symm
  | 1 => ((dat2 V c).arrAt_in 1 rfl _).trans (left2_ne V c _ (by decide)).symm
  | 2 => ((dat2 V c).arrAt_in 2 rfl _).trans (left2_ne V c _ (by decide)).symm
  | 3 => ((dat2 V c).arrAt_in 3 rfl _).trans (left2_ne V c _ (by decide)).symm
  | 4 => ((dat2 V c).arrAt_in 4 rfl _).trans (left2_ne V c _ (by decide)).symm
  | 5 => ((dat2 V c).arrAt_in 5 rfl _).trans (left2_ne V c _ (by decide)).symm
  | 6 => ((dat2 V c).arrAt_in 6 rfl _).trans (left2_ne V c _ (by decide)).symm
  | 7 => ((dat2 V c).arrAt_in 7 rfl _).trans (left2_ne V c _ (by decide)).symm
  | 8 => (arr2_8 V c).trans (left2_0 V c).symm

theorem off2 (c : Dev nD) (b : Ref sig .tc) (hb : b ∉ Finset.univ.image (Pipeline.arrRef spec2)) : left2 V c b = V c b :=
  left2_ne V c b (fun h => hb (by rw [h]; exact Finset.mem_image.mpr ⟨8, Finset.mem_univ _, rfl⟩))

theorem in1 (c : Dev nD) : (Pipeline.scopedRest (Ix := HIx 1) (Name := ℕ) (U := UU) (Lvl := ℕ) (Val := Elt F) spec1 c : sProp (𝕄 F)) ⊢ iprop(acc1 V c 0 ∗ rest1 c) := by
  rw [scoped1_split]
  iintro ⟨⟨⟨%f6, H6⟩, ⟨%f7, H7⟩, ⟨%f8, H8⟩⟩, Hr⟩
  isplitr [Hr]
  · unfold acc1
    iexists f6; iexists f7; iexists f8
    isplitr
    · ipureintro; exact fun h => absurd rfl h
    isplitl [H6]
    · iexact H6
    isplitl [H7]
    · iexact H7
    iexact H8
  iexact Hr

theorem out1 (c : Dev nD) (k : ℕ) : iprop(acc1 V c k ∗ rest1 c) ⊢ (Pipeline.scopedRest (Ix := HIx 1) (Name := ℕ) (U := UU) (Lvl := ℕ) (Val := Elt F) spec1 c : sProp (𝕄 F)) := by
  rw [scoped1_split]
  iintro ⟨Hacc, Hr⟩
  isplitr [Hr]
  · unfold acc1
    icases Hacc with ⟨%f6, %f7, %f8, -, H6, H7, H8⟩
    isplitl [H6]
    · iexists f6; iexact H6
    isplitl [H7]
    · iexists f7; iexact H7
    iexists f8; iexact H8
  iexact Hr

set_option backward.isDefEq.respectTransparency.types false in
/-- Pass 1 as a region: entered with the unscoped buffers at `V`, left with its outputs in them. -/
def reg1 (W : Vals F) (R : Dev nD → sProp (𝕄 F)) : Pipeline.RegionSeg (pcfgs (F := F)) adm (pdats V W) (none : HIx 1) (defs₀ (F := F)) 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (obligation1 V c).loose
  hwaits := Pipeline.hwaits_of_owed_zero _ _ _ _ (K (F := F)).L (K (F := F)).lev 0 fun _ _ => rfl
  pre c := iprop(unscopedBufs c (V c) ∗ R c ∗ ∃ W, owes (c : Thread nD τ) (0 : CellTallies nD τ sig (HIx 1)) W)
  post c := iprop(unscopedBufs c (left1 V c) ∗ R c ∗ ∃ W, owes (c : Thread nD τ) (0 : CellTallies nD τ sig (HIx 1)) W)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats V W) launch1.win launch1.arr_whole c
      ((pdats V W 0 c).share_full fun _ => rfl) (V c) fun _ => rfl
    iintro ⟨⟨Hub, HR, HO⟩, -, -⟩
    ihave H := hsplit $$ Hub
    icases H with ⟨Ha, Hrest⟩
    imodintro
    isplitl [Ha]
    · iexact Ha
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun _ _ => Or.inl trivial
      iexact HO
    isplitr
    · iempintro
    isplitl [Hrest]
    · iexact Hrest
    iexact HR
  hin c := by
    rw [show (pdats V W 0 c).Φ 0 = iprop(acc1 V c 0 ∗ rest1 c) from rfl]
    iintro ⟨-, -, Hr⟩
    iapply (in1 V c); iexact Hr
  hout c := by
    rw [Pipeline.ownSems0_none, show (pdats V W 0 c).Φ (Fin.last _) = iprop(acc1 V c cfg1.N ∗ rest1 c) from rfl]
    iintro Hr
    isplitr
    · iempintro
    isplitr
    · iempintro
    iapply (out1 V c cfg1.N); iexact Hr
  hexit c := by
    have hjoin := Pipeline.unscopedBufs_of_arrays (p := 0) (pcfgs (F := F)) adm (Ix := HIx 1) (Name := ℕ) (U := UU) (Lvl := ℕ) launch1.win launch1.arr_whole c
      (pdats V W) ((pdats V W 0 c).share_full fun _ => rfl) (V c) (left1 V c) ((pdats V W 0 c).arrAt · cfg1.N)
      (arr1 V c) (off1 V c)
    iintro ⟨Ha, HO, -, Hrest, HR⟩
    imodintro
    isplitl [Ha Hrest]
    · iapply hjoin
      isplitl [Ha]
      · iexact Ha
      iexact Hrest
    isplitl [HR]
    · iexact HR
    unfold Pipeline.Dat.owesAt Pipeline.owesWithin
    icases HO with ⟨%W, -, HO⟩; iexists W; iexact HO

theorem in2 (c : Dev nD) : (Pipeline.scopedRest (Ix := HIx 1) (Name := ℕ) (U := UU) (Lvl := ℕ) (Val := Elt F) spec2 c : sProp (𝕄 F)) ⊢ iprop(acc2 V c 0 ∗ rest2 c) := by
  rw [scoped2_split]
  iintro ⟨⟨⟨%f6, H6⟩, ⟨%f7, H7⟩⟩, Hr⟩
  isplitr [Hr]
  · unfold acc2
    iexists f6; iexists f7
    isplitr
    · ipureintro; exact fun h => absurd rfl h
    isplitl [H6]
    · iexact H6
    iexact H7
  iexact Hr

theorem out2 (c : Dev nD) (k : ℕ) : iprop(acc2 V c k ∗ rest2 c) ⊢ (Pipeline.scopedRest (Ix := HIx 1) (Name := ℕ) (U := UU) (Lvl := ℕ) (Val := Elt F) spec2 c : sProp (𝕄 F)) := by
  rw [scoped2_split]
  iintro ⟨Hacc, Hr⟩
  isplitr [Hr]
  · unfold acc2
    icases Hacc with ⟨%f6, %f7, -, H6, H7⟩
    isplitl [H6]
    · iexists f6; iexact H6
    iexists f7; iexact H7
  iexact Hr

set_option backward.isDefEq.respectTransparency.types false in
/-- Pass 2 as a region: entered with the unscoped buffers at `V`, left with its outputs in them. -/
def reg2 (W : Vals F) (R : Dev nD → sProp (𝕄 F)) : Pipeline.RegionSeg (pcfgs (F := F)) adm (pdats W V) (none : HIx 1) (defs₀ (F := F)) 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (obligation2 V c).loose
  hwaits := Pipeline.hwaits_of_owed_zero _ _ _ _ (K (F := F)).L (K (F := F)).lev 1 fun _ _ => rfl
  pre c := iprop(unscopedBufs c (V c) ∗ R c ∗ ∃ W, owes (c : Thread nD τ) (0 : CellTallies nD τ sig (HIx 1)) W)
  post c := iprop(unscopedBufs c (left2 V c) ∗ R c ∗ ∃ W, owes (c : Thread nD τ) (0 : CellTallies nD τ sig (HIx 1)) W)
  X _ := BI.emp
  Y _ := BI.emp
  Z c := iprop(Pipeline.unscopedRest (Ix := HIx 1) (Name := ℕ) (U := UU) (Lvl := ℕ) spec2 c (V c) ∗ R c)
  hentry c := by
    rw [Pipeline.ownSems0_none]
    have hsplit := Pipeline.arrays_of_unscopedBufs (p := 1) (pcfgs (F := F)) adm (pdats W V) launch2.win launch2.arr_whole c
      ((pdats W V 1 c).share_full fun _ => rfl) (V c) fun _ => rfl
    iintro ⟨⟨Hub, HR, HO⟩, -, -⟩
    ihave H := hsplit $$ Hub
    icases H with ⟨Ha, Hrest⟩
    imodintro
    isplitl [Ha]
    · iexact Ha
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun _ _ => Or.inl trivial
      iexact HO
    isplitr
    · iempintro
    isplitl [Hrest]
    · iexact Hrest
    iexact HR
  hin c := by
    rw [show (pdats W V 1 c).Φ 0 = iprop(acc2 V c 0 ∗ rest2 c) from rfl]
    iintro ⟨-, -, Hr⟩
    iapply (in2 V c); iexact Hr
  hout c := by
    rw [Pipeline.ownSems0_none, show (pdats W V 1 c).Φ (Fin.last _) = iprop(acc2 V c cfg2.N ∗ rest2 c) from rfl]
    iintro Hr
    isplitr
    · iempintro
    isplitr
    · iempintro
    iapply (out2 V c cfg2.N); iexact Hr
  hexit c := by
    have hjoin := Pipeline.unscopedBufs_of_arrays (p := 1) (pcfgs (F := F)) adm (Ix := HIx 1) (Name := ℕ) (U := UU) (Lvl := ℕ) launch2.win launch2.arr_whole c
      (pdats W V) ((pdats W V 1 c).share_full fun _ => rfl) (V c) (left2 V c) ((pdats W V 1 c).arrAt · cfg2.N)
      (arr2 V c) (off2 V c)
    iintro ⟨Ha, HO, -, Hrest, HR⟩
    imodintro
    isplitl [Ha Hrest]
    · iapply hjoin
      isplitl [Ha]
      · iexact Ha
      iexact Hrest
    isplitl [HR]
    · iexact HR
    unfold Pipeline.Dat.owesAt Pipeline.owesWithin
    icases HO with ⟨%W, -, HO⟩; iexists W; iexact HO

end Left

end Cert.Proof

end
-- ==== Proof.Deal.lean ====
/-
  The SparseCore call's resources dealt and taken back, and the ghost state the launch starts from.
-/
module

public import proofs.«01_k».proof.Proof.Regions
public import Idealize.ShloMosaic.Lib.ShareLeaves

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

open Idealize.ShloMosaic.ValueIdx Idealize.ShloMosaic.ShareLeaves
open Idealize.ShloMosaic.SparseCore.Cfg
open Idealize.ShloMosaic.Rounds
open Idealize.ShloMosaic.Pipeline (Seg ghostOn cells launchToks cellsGhost toksInit)

/-! ## The call's resources, dealt to the SparseCores and taken back -/

omit [FloatOps F] in
theorem tileNo_bij : Function.Bijective fun p : Fin 2 × Fin 16 => tileNo p.1 p.2 := by
  constructor
  · rintro ⟨⟨a, ha⟩, ⟨b, hb⟩⟩ ⟨⟨a', ha'⟩, ⟨b', hb'⟩⟩ h
    have h' : b * 2 + a = b' * 2 + a' := congrArg Fin.val h
    have e1 : a = a' := by omega
    have e2 : b = b' := by omega
    subst e1 e2; rfl
  · rintro ⟨w, hw⟩
    exact ⟨(⟨w % 2, by omega⟩, ⟨w / 2, by omega⟩), Fin.ext (show w / 2 * 2 + w % 2 = w by omega)⟩

omit [FloatOps F] in
theorem rows_two (Φ : Fin 32 → sProp (𝕄 F)) :
    bigSep Finset.univ Φ = bigSep Finset.univ fun c : Fin 2 => bigSep Finset.univ fun i : Fin 16 => Φ (tileNo c i) := by
  have e : (Finset.univ : Finset (Fin 32)) = (Finset.univ : Finset (Fin 2 × Fin 16)).map ⟨fun p => tileNo p.1 p.2, tileNo_bij.1⟩ :=
    (Finset.eq_univ_of_forall fun w => by
      obtain ⟨p, hp⟩ := tileNo_bij.2 w
      exact Finset.mem_map.2 ⟨p, Finset.mem_univ _, hp⟩).symm
  rw [e, BI.bigSep_map, bigSep_univ_prod]; rfl

section Deal

variable (d : Dev nD)

omit [FloatOps F] in
theorem rows_s1 (f : Buf (Elt F) (s1Loc d)) : (s1Loc d ↦{fullShare} f : sProp (𝕄 F)) = bigSep Finset.univ fun w : Fin 32 => s1Row d w f := by
  rw [← pointsTo_biUnion Finset.univ (ℓ := s1Loc d) (fun w : Fin 32 => (row3 w).set) (fun i _ j _ h => Rect.part_disjoint hdiv3 h), Rect.biUnion_part hdiv3]
omit [FloatOps F] in
theorem rows_s2 (f : Buf (Elt F) (s2Loc d)) : (s2Loc d ↦{fullShare} f : sProp (𝕄 F)) = bigSep Finset.univ fun w : Fin 32 => s2Row d w f := by
  rw [← pointsTo_biUnion Finset.univ (ℓ := s2Loc d) (fun w : Fin 32 => (row3 w).set) (fun i _ j _ h => Rect.part_disjoint hdiv3 h), Rect.biUnion_part hdiv3]
omit [FloatOps F] in
theorem rows_c (f : Buf (Elt F) (cLoc d)) : (cLoc d ↦{fullShare} f : sProp (𝕄 F)) = bigSep Finset.univ fun w : Fin 32 => cRow d w f := by
  rw [← pointsTo_biUnion Finset.univ (ℓ := cLoc d) (fun w : Fin 32 => (rowC w).set) (fun i _ j _ h => Rect.part_disjoint hdivC h), Rect.biUnion_part hdivC]

omit [FloatOps F] in
/-- The two inputs and the three outputs, whole, are the SparseCores' shares and rows. -/
theorem deal_eq (fx : Buf (Elt F) (xLoc d)) (ft : Buf (Elt F) (tLoc d)) (f1 : Buf (Elt F) (s1Loc d)) (f2 : Buf (Elt F) (s2Loc d)) (f3 : Buf (Elt F) (cLoc d)) :
    (iprop((xLoc d ↦{fullShare} fx) ∗ (tLoc d ↦{fullShare} ft) ∗ (s1Loc d ↦{fullShare} f1) ∗ (s2Loc d ↦{fullShare} f2) ∗ cLoc d ↦{fullShare} f3) : sProp (𝕄 F))
      = bigSep Finset.univ fun c : Fin 2 => iprop((xLoc d ↦{coreSh c} fx) ∗ (tLoc d ↦{coreSh c} ft)
        ∗ bigSep Finset.univ fun i : Fin 16 => iprop(s1Row d (tileNo c i) f1 ∗ s2Row d (tileNo c i) f2 ∗ cRow d (tileNo c i) f3)) := by
  have hx : (xLoc d ↦{fullShare} fx : sProp (𝕄 F)) = bigSep Finset.univ fun c : Fin 2 => iprop(xLoc d ↦{coreSh c} fx) := pointsTo_leaves Finset.univ fx 1 fullShare
  have ht : (tLoc d ↦{fullShare} ft : sProp (𝕄 F)) = bigSep Finset.univ fun c : Fin 2 => iprop(tLoc d ↦{coreSh c} ft) := pointsTo_leaves Finset.univ ft 1 fullShare
  rw [bigSep_sep' (Φ := fun c : Fin 2 => iprop(xLoc d ↦{coreSh c} fx)), bigSep_sep' (Φ := fun c : Fin 2 => iprop(tLoc d ↦{coreSh c} ft)),
    ← rows_two (F := F) (fun w => iprop(s1Row d w f1 ∗ s2Row d w f2 ∗ cRow d w f3)),
    bigSep_sep' (Φ := fun w : Fin 32 => s1Row d w f1), bigSep_sep' (Φ := fun w : Fin 32 => s2Row d w f2), ← rows_s1, ← rows_s2, ← rows_c, hx, ht]

variable (m : (ℓ : Loc nD τ sig) → Buf (Elt F) ℓ)

abbrev fs1 : Buf (Elt F) (s1Loc d) := sumBuf (typesN (m (tLoc d))) (rowsN (m (xLoc d)))
abbrev fs2 : Buf (Elt F) (s2Loc d) := sumBuf (typesN (m (tLoc d))) (sqr (rowsN (m (xLoc d))))
abbrev fsC : Buf (Elt F) (cLoc d) := cntBuf (typesN (m (tLoc d)))

omit [FloatOps F] in
theorem some_rows (w : Fin 32) (f1 : Buf (Elt F) (s1Loc d)) (f2 : Buf (Elt F) (s2Loc d)) (f3 : Buf (Elt F) (cLoc d)) :
    iprop(s1Row d w f1 ∗ s2Row d w f2 ∗ cRow d w f3) ⊢ iprop((∃ f, s1Row d w f) ∗ (∃ f, s2Row d w f) ∗ ∃ f, cRow d w f) := by
  iintro ⟨H1, H2, H3⟩
  isplitl [H1]; · iexists f1; iexact H1
  isplitl [H2]; · iexists f2; iexact H2
  iexists f3; iexact H3

theorem st_core (c : Fin 2) (f1 : Buf (Elt F) (s1Loc d)) (f2 : Buf (Elt F) (s2Loc d)) (f3 : Buf (Elt F) (cLoc d)) :
    iprop((xLoc d ↦{coreSh c} m (xLoc d)) ∗ (tLoc d ↦{coreSh c} m (tLoc d))
        ∗ bigSep Finset.univ fun i : Fin 16 => iprop(s1Row d (tileNo c i) f1 ∗ s2Row d (tileNo c i) f2 ∗ cRow d (tileNo c i) f3)) ⊢ stP m d c := by
  unfold stP
  iintro ⟨Hx, Ht, H⟩
  isplitl [Hx]; · iexact Hx
  isplitl [Ht]; · iexact Ht
  have hmono : (bigSep Finset.univ fun i : Fin 16 => iprop(s1Row d (tileNo c i) f1 ∗ s2Row d (tileNo c i) f2 ∗ cRow d (tileNo c i) f3) : sProp (𝕄 F))
      ⊢ bigSep Finset.univ fun i : Fin 16 => iprop((∃ f, s1Row d (tileNo c i) f) ∗ (∃ f, s2Row d (tileNo c i) f) ∗ ∃ f, cRow d (tileNo c i) f) := by
    exact bigSep_mono fun i _ => some_rows d (tileNo c i) f1 f2 f3
  iapply hmono; iexact H

theorem st_intro (f1 : Buf (Elt F) (s1Loc d)) (f2 : Buf (Elt F) (s2Loc d)) (f3 : Buf (Elt F) (cLoc d)) :
    iprop((xLoc d ↦{fullShare} m (xLoc d)) ∗ (tLoc d ↦{fullShare} m (tLoc d)) ∗ (s1Loc d ↦{fullShare} f1) ∗ (s2Loc d ↦{fullShare} f2) ∗ cLoc d ↦{fullShare} f3)
      ⊢ bigSep Finset.univ fun c : Fin ((K (F := F)).nCore 0) => (P m).st 0 d c := by
  rw [deal_eq]
  exact bigSep_mono fun c _ => st_core d m c f1 f2 f3

theorem dn_elim : (bigSep Finset.univ fun c : Fin ((K (F := F)).nCore 0) => (P m).dn 0 d c)
    ⊢ iprop((xLoc d ↦{fullShare} m (xLoc d)) ∗ (tLoc d ↦{fullShare} m (tLoc d)) ∗ (s1Loc d ↦{fullShare} fs1 d m) ∗ (s2Loc d ↦{fullShare} fs2 d m) ∗ cLoc d ↦{fullShare} fsC d m) := by
  rw [deal_eq]
  exact BI.Entails.refl _

end Deal

/-! ## The ghost state of the launch: the call's cells, and the two passes' -/

/-- The passes' rounds, inside the certificate's ghost state. -/
def EP : Emb UP (𝕄 F) :=
  ((Emb.inl : Emb UP (UP × Counters)).trans (Emb.inr : Emb (UP × Counters) UU)).trans (uEmb (nD := nD) (sig := sig) (Ix := HIx 1) (Val := Elt F) (Name := ℕ) (U := UU) (Lvl := ℕ)).toEmb

instance EP_lands : (EP (F := F)).LandsIn (upEmb : UEmb _ (𝕄 F)) := by unfold EP; infer_instance

abbrev pins := Pipeline.pin (pcfgs (F := F)) adm

theorem pinj : Function.Injective (Pipeline.cellOf (nD := nD) (τ := τ) (pins (F := F))) := Gen.cellOf_inj

def uP : UP := initOf (cells (pins (F := F)) pinj) (launchToks (pins (F := F)) pinj)

def u₀ : UU := (initOf (K (F := F)).hsCells (K (F := F)).hsToks, (uP (F := F), 1))

theorem ownU_parts (a : UH) (b : UP) : (ownU ((a, (b, 1)) : UU) : sProp (𝕄 F)) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- What a TensorCore is dealt for its two passes. -/
abbrev passGhost (d : Dev nD) : sProp (𝕄 F) :=
  iprop((bigSep Finset.univ fun p : Fin 2 => cellsGhost (pins (F := F)) EP p d) ∗ bigSep Finset.univ fun p : Fin 2 => toksInit (pins (F := F)) EP p d)

omit [FloatOps F] in
theorem bigSep_emp' {I : Type} (s : Finset I) : (bigSep s fun _ => iprop(emp)) = (iprop(emp) : sProp (𝕄 F)) := bigSep_emp_const s

theorem hu₀ (m : (ℓ : Loc nD τ sig) → Buf (Elt F) ℓ) : (ownU (u₀ (F := F)) : sProp (𝕄 F))
    ⊢ |={Set.univ}=> iprop(BI.own (EH (initOf (K (F := F)).hsCells (K (F := F)).hsToks)) ∗ (bigSep Finset.univ fun d : Dev nD => passGhost (F := F) d)
        ∗ bigSep Finset.univ fun thr : Thread nD τ => bigSep Finset.univ fun q : Fin 1 => (P m).x q thr) := by
  unfold u₀
  iintro Hu
  ihave H := (ownU_parts (F := F) (initOf (K (F := F)).hsCells (K (F := F)).hsToks) uP) $$ Hu
  icases H with ⟨HH, HP⟩
  unfold uP
  imod (Pipeline.fund_ghost (pins (F := F)) EP pinj) $$ HP with ⟨Hc, Ht⟩
  imodintro
  isplitl [HH]; · iexact HH
  isplitl [Hc Ht]
  · unfold passGhost
    rw [bigSep_sep' (Φ := fun d : Dev nD => bigSep Finset.univ fun p : Fin 2 => cellsGhost (pins (F := F)) EP p d)]
    isplitl [Hc]
    · iexact Hc
    · iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The TensorCore after its call: nothing owed -/

omit [FloatOps F] in
theorem wBelow_one (thr : Thread nD τ) (W : Waits sig (HIx 1)) : (K (F := F)).WBelow thr W 8 := fun p _ => by
  rcases p with ⟨sm, _ | q⟩
  · exact Nat.zero_le _
  · exact ((K (F := F)).lev_some_le (thr, sm) q).trans (by have := q.isLt; omega)

end Cert.Proof

end
-- ==== Proof.Main.lean ====
/-
  The program's run: the host operations, the SparseCore call, and the two passes of the TensorCore, in order.
-/
module

public import proofs.«01_k».proof.Proof.Deal

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

open Idealize.ShloMosaic.ValueIdx Idealize.ShloMosaic.ShareLeaves
open Idealize.ShloMosaic.SparseCore.Cfg
open Idealize.ShloMosaic.Rounds
open Idealize.ShloMosaic.TcCoe
open Idealize.ShloMosaic.StableHlo (held)
open Idealize.ShloMosaic.Pipeline (cells launchToks cellsGhost toksInit)

/-! ## A TensorCore's buffers, some of them taken out -/

abbrev tcBufs : Finset (Ref sig .tc) := Finset.univ.filter fun b : Ref sig .tc => ¬ b.isScoped

abbrev ptAt (d : Dev nD) (W : (b : Ref sig .tc) → Buf (Elt F) ((d : Thread nD τ).loc b)) (b : Ref sig .tc) : sProp (𝕄 F) :=
  (d : Thread nD τ).loc b ↦{fullShare} W b

omit [FloatOps F] in
theorem bufs_at (d : Dev nD) (A : Finset (Ref sig .tc)) (hA : A ⊆ tcBufs) (W : (b : Ref sig .tc) → Buf (Elt F) ((d : Thread nD τ).loc b)) :
    (unscopedBufs d W : sProp (𝕄 F)) = iprop(bigSep A (ptAt d W) ∗ bigSep (tcBufs \ A) (ptAt d W)) :=
  SparseCore.bigSep_sdiff_split' hA

omit [FloatOps F] in
theorem rest_congr (d : Dev nD) (A : Finset (Ref sig .tc)) (W W' : (b : Ref sig .tc) → Buf (Elt F) ((d : Thread nD τ).loc b)) (h : ∀ b, b ∉ A → W b = W' b) :
    (bigSep (tcBufs \ A) (ptAt d W) : sProp (𝕄 F)) = bigSep (tcBufs \ A) (ptAt d W') :=
  bigSep_congr fun b hb => by unfold ptAt; rw [h b (Finset.mem_sdiff.1 hb).2]

section Run

variable (m : (ℓ : Loc nD τ sig) → Buf (Elt F) ℓ) (ρ : Dev nD → PrngReg)

/-! ## The host operations -/

/-- The launch contents of a device's buffers. -/
abbrev M (d : Dev nD) : Valuation τ sig (Elt F) := fun b => m (d, b)

/-- A host operation from a buffer `x` to a buffer `y`, both still at their launch contents. -/
theorem host_step (d : Dev nD) (op : HloOp τ sig (Elt F)) (x y : Ref sig .tc) (hb : op.bufs = {Proc.devRef .tc x, Proc.devRef .tc y})
    (hxy : x ≠ y) (hS : ({x, y} : Finset (Ref sig .tc)) ⊆ tcBufs) (hf : op.fresh = ∅) (hr : op.result (M m d) (Proc.devRef .tc x) = M m d (Proc.devRef .tc x))
    (W : (b : Ref sig .tc) → Buf (Elt F) ((d : Thread nD τ).loc b)) (hx : W x = M m d (Proc.devRef .tc x)) (hy : W y = M m d (Proc.devRef .tc y)) (Q : PUnit → sProp (𝕄 F)) :
    iprop(boundary (SparseCore.T d) ∗ unscopedBufs d W
        ∗ ((boundary (SparseCore.T d) ∗ unscopedBufs d (Function.update W y (op.result (M m d) (Proc.devRef .tc y)))) -∗ Q ⟨⟩))
      ⊢ wp frame (wpE ((K (F := F)).defs (D (F := F))) 𝒱 (SparseCore.T d) none) Set.univ (hlo rfl op (fun _ => .ret ⟨⟩)) Q := by
  have hne : (Proc.devRef .tc x : DevRef τ sig) ≠ Proc.devRef .tc y := StableHlo.devRef_ne_of_ne hxy
  have e1 : (bigSep {x, y} (ptAt d W) : sProp (𝕄 F)) = held (SparseCore.T d) op.bufs (M m d) := by
    unfold held
    rw [hb, SparseCore.bigSep_insert' (by rw [Finset.mem_singleton]; exact hxy), SparseCore.bigSep_insert' (by rw [Finset.mem_singleton]; exact hne), bigSep_singleton, bigSep_singleton]
    unfold ptAt; rw [hx, hy]
  have e2 : (bigSep {x, y} (ptAt d (Function.update W y (op.result (M m d) (Proc.devRef .tc y)))) : sProp (𝕄 F)) = held (SparseCore.T d) op.bufs (op.result (M m d)) := by
    unfold held
    rw [hb, SparseCore.bigSep_insert' (by rw [Finset.mem_singleton]; exact hxy), SparseCore.bigSep_insert' (by rw [Finset.mem_singleton]; exact hne), bigSep_singleton, bigSep_singleton]
    unfold ptAt; rw [Function.update_self, Function.update_of_ne hxy, hx, hr]
  rw [bufs_at d {x, y} hS W, bufs_at d {x, y} hS (Function.update W y _), e1, e2,
    rest_congr d {x, y} (Function.update W y _) W fun b hb => Function.update_of_ne (fun h => hb (by rw [h]; simp)) _ _]
  iintro ⟨Hb, ⟨Hh, Hr⟩, Hk⟩
  iapply (StableHlo.wp_hlo_within 𝒱 (SparseCore.T d) none Set.univ (op := op) (S := op.bufs) (Finset.Subset.refl _) (V := M m d) hf) $$ [Hb Hh]
  · isplitl [Hb]; · iexact Hb
    iexact Hh
  iintro ⟨Hb, Hh⟩
  iapply le_wp_ret
  iapply Hk
  isplitl [Hb]; · iexact Hb
  isplitl [Hh]; · iexact Hh
  iexact Hr

/-! ## The passes -/

variable [∀ e, Nonempty (Elt F e)]

theorem pass_step (V W : Vals F) (p : Fin 2) (R : Pipeline.RegionSeg (pcfgs (F := F)) adm (pdats V W) (none : HIx 1) (defs₀ (F := F)) 𝒱₀ (K (F := F)).L (K (F := F)).lev p)
    (d : Dev nD) (Q : PUnit → sProp (𝕄 F)) :
    iprop(((boundary (SparseCore.T d) ∗ R.post d) -∗ Q ⟨⟩) ∗ boundary (SparseCore.T d) ∗ R.pre d ∗ levAts (K (F := F)).L (K (F := F)).lev
        ∗ cellsGhost (pins (F := F)) EP p d ∗ toksInit (pins (F := F)) EP p d)
      ⊢ wp frame (wpE ((K (F := F)).defs (D (F := F))) 𝒱 (SparseCore.T d) none) Set.univ (Prog.lift (.customCall (SparseCore.inner (Pipeline.entry p)) ())) Q := by
  refine BIBase.Entails.trans ?_ ((K (F := F)).wp_liftProg (D (F := F)) 𝒱 (SparseCore.T d) Set.univ none (.op (.customCall (Pipeline.entry p) ()) .ret) Q)
  refine BIBase.Entails.trans ?_ (R.wp (pcfgs (F := F)) adm (pdats V W) (none : HIx 1) pinj EP (defs₀ (F := F)) 𝒱₀ (K (F := F)).L (K (F := F)).lev d none (fun _ h => nomatch h) .ret Q)
  iintro ⟨Hk, H⟩
  isplitl [Hk]
  · iintro Hp
    iapply le_wp_ret
    iapply Hk
    iexact Hp
  iexact H

/-! ## The buffers after each operation of the program -/

abbrev op0 : HloOp τ sig (Elt F) := StableHlo.reshape main_arg1 main_v0 (rfl : (.i32 : EltTy) = .i32) shapeCasts_S320000_S100x1x3200
abbrev op3 : HloOp τ sig (Elt F) := StableHlo.reshape main_arg1 main_v3 (rfl : (.i32 : EltTy) = .i32) shapeCasts_S320000_S16x1x20000

def V0 : Vals F := fun c b => m ((c : Thread nD τ).loc b)
def V1 : Vals F := fun c => Function.update (V0 m c) main_v0 ((op0 (F := F)).result (M m c) (Proc.devRef .tc main_v0))
def V2 : Vals F := fun c => Function.update (Function.update (Function.update (V1 m c) main_v1_0 (fs1 c m)) main_v1_1 (fs2 c m)) main_v1_2 (fsC c m)
def V3 : Vals F := left1 (V2 m)
def V4 : Vals F := fun c => Function.update (V3 m c) main_v3 ((op3 (F := F)).result (M m c) (Proc.devRef .tc main_v3))
def V5 : Vals F := left2 (V4 m)

omit [∀ e, Nonempty (Elt F e)] in
theorem V1_ne (c : Dev nD) (b : Ref sig .tc) (h : b ≠ main_v0) : V1 m c b = m ((c : Thread nD τ).loc b) := by
  unfold V1; rw [Function.update_of_ne h]; rfl
omit [∀ e, Nonempty (Elt F e)] in
theorem V2_ne (c : Dev nD) (b : Ref sig .tc) (h0 : b ≠ main_v1_0) (h1 : b ≠ main_v1_1) (h2 : b ≠ main_v1_2) : V2 m c b = V1 m c b := by
  unfold V2; rw [Function.update_of_ne h2, Function.update_of_ne h1, Function.update_of_ne h0]
omit [∀ e, Nonempty (Elt F e)] in
theorem V2_0 (c : Dev nD) : V2 m c main_v1_0 = fs1 c m := by
  unfold V2; rw [Function.update_of_ne (by decide), Function.update_of_ne (by decide), Function.update_self]
omit [∀ e, Nonempty (Elt F e)] in
theorem V2_1 (c : Dev nD) : V2 m c main_v1_1 = fs2 c m := by
  unfold V2; rw [Function.update_of_ne (by decide), Function.update_self]
omit [∀ e, Nonempty (Elt F e)] in
theorem V2_2 (c : Dev nD) : V2 m c main_v1_2 = fsC c m := by
  unfold V2; rw [Function.update_self]
omit [∀ e, Nonempty (Elt F e)] in
theorem V3_ne (c : Dev nD) (b : Ref sig .tc) (h0 : b ≠ main_v2_0) (h1 : b ≠ main_v2_1) (h2 : b ≠ main_v2_2) : V3 m c b = V2 m c b :=
  left1_ne (V2 m) c b h0 h1 h2
omit [∀ e, Nonempty (Elt F e)] in
theorem V4_ne (c : Dev nD) (b : Ref sig .tc) (h : b ≠ main_v3) : V4 m c b = V3 m c b := by
  unfold V4; rw [Function.update_of_ne h]
omit [∀ e, Nonempty (Elt F e)] in
theorem V4_v3 (c : Dev nD) : V4 m c main_v3 = (op3 (F := F)).result (M m c) (Proc.devRef .tc main_v3) := by
  unfold V4; rw [Function.update_self]

/-- The call's five buffers. -/
abbrev callBufs : Finset (Ref sig .tc) := {main_arg0, main_arg1, main_v1_0, main_v1_1, main_v1_2}

omit [∀ e, Nonempty (Elt F e)] in
theorem callBufs_eq (d : Dev nD) (W : (b : Ref sig .tc) → Buf (Elt F) ((d : Thread nD τ).loc b)) :
    (bigSep callBufs (ptAt d W) : sProp (𝕄 F)) = iprop((xLoc d ↦{fullShare} W main_arg0) ∗ (tLoc d ↦{fullShare} W main_arg1)
      ∗ (s1Loc d ↦{fullShare} W main_v1_0) ∗ (s2Loc d ↦{fullShare} W main_v1_1) ∗ cLoc d ↦{fullShare} W main_v1_2) := by
  rw [SparseCore.bigSep_insert' (by decide), SparseCore.bigSep_insert' (by decide), SparseCore.bigSep_insert' (by decide), SparseCore.bigSep_insert' (by decide), bigSep_singleton]

omit [∀ e, Nonempty (Elt F e)] in
theorem call_pre (d : Dev nD) : (unscopedBufs d (V1 m d) : sProp (𝕄 F))
    ⊢ iprop((bigSep Finset.univ fun c : Fin ((K (F := F)).nCore 0) => (P m).st 0 d c) ∗ bigSep (tcBufs \ callBufs) (ptAt d (V1 m d))) := by
  rw [bufs_at d callBufs (by decide) (V1 m d), callBufs_eq, V1_ne m d main_arg0 (by decide), V1_ne m d main_arg1 (by decide)]
  exact sep_mono_left (st_intro d m _ _ _)

omit [∀ e, Nonempty (Elt F e)] in
theorem call_post (d : Dev nD) : iprop((bigSep Finset.univ fun c : Fin ((K (F := F)).nCore 0) => (P m).dn 0 d c) ∗ bigSep (tcBufs \ callBufs) (ptAt d (V1 m d)))
    ⊢ (unscopedBufs d (V2 m d) : sProp (𝕄 F)) := by
  rw [bufs_at d callBufs (by decide) (V2 m d), callBufs_eq, V2_0, V2_1, V2_2, V2_ne m d main_arg0 (by decide) (by decide) (by decide), V2_ne m d main_arg1 (by decide) (by decide) (by decide),
    V1_ne m d main_arg0 (by decide), V1_ne m d main_arg1 (by decide),
    rest_congr d callBufs (V2 m d) (V1 m d) fun b hb => V2_ne m d b (fun h => hb (by rw [h]; decide)) (fun h => hb (by rw [h]; decide)) (fun h => hb (by rw [h]; decide))]
  exact sep_mono_left (dn_elim d m)

/-! ## @main on a TensorCore -/

/-- What is read at the end: the inputs as they were, the result. -/
abbrev FIN (d : Dev nD) : sProp (𝕄 F) :=
  iprop((xLoc d ↦{fullShare} m (xLoc d)) ∗ (tLoc d ↦{fullShare} m (tLoc d)) ∗ (d : Thread nD τ).loc main_v4 ↦{fullShare} normAll (V4 m) d)

omit [∀ e, Nonempty (Elt F e)] in
theorem fin_of (d : Dev nD) : (unscopedBufs d (V5 m d) : sProp (𝕄 F)) ⊢ FIN m d := by
  rw [bufs_at d {main_arg0, main_arg1, main_v4} (by decide) (V5 m d), SparseCore.bigSep_insert' (by decide), SparseCore.bigSep_insert' (by decide), bigSep_singleton]
  have keep (b : Ref sig .tc) (h : b ∉ ({main_v0, main_v1_0, main_v1_1, main_v1_2, main_v2_0, main_v2_1, main_v2_2, main_v3, main_v4} : Finset (Ref sig .tc))) :
      V5 m d b = m ((d : Thread nD τ).loc b) := by
    simp only [Finset.mem_insert, Finset.mem_singleton, not_or] at h
    obtain ⟨h0, h1, h2, h3, h4, h5, h6, h7, h8⟩ := h
    exact (left2_ne (V4 m) d b h8).trans ((V4_ne m d b h7).trans ((V3_ne m d b h4 h5 h6).trans ((V2_ne m d b h1 h2 h3).trans (V1_ne m d b h0))))
  unfold ptAt
  rw [keep main_arg0 (by decide), keep main_arg1 (by decide), show V5 m d main_v4 = normAll (V4 m) d from left2_0 (V4 m) d]
  exact sep_elim_left

theorem owes_open (d : Dev nD) : (K (F := F)).tcSt EH d 1 ⊢ (iprop((∃ W, owes (SparseCore.T d) 0 W)
    ∗ ((∃ W, owes (SparseCore.T d) 0 W) -∗ (K (F := F)).tcSt EH d 1)) : sProp (𝕄 F)) := by
  unfold SparseCore.Cfg.tcSt
  rw [(K (F := F)).Otc_end d (le_refl 1)]
  iintro ⟨⟨%W, -, HO⟩, H⟩
  isplitl [HO]
  · iexists W; iexact HO
  iintro ⟨%W', HO⟩
  isplitl [HO]
  · iexists W'
    isplitr
    · ipureintro; exact wBelow_one _ W'
    · iexact HO
  iexact H

abbrev seg1 := reg1 (V2 m) (V4 m) (fun _ => iprop(emp))
abbrev seg2 := reg2 (V4 m) (V2 m) (fun _ => iprop(emp))

omit [∀ e, Nonempty (Elt F e)] in
theorem ghost_open (d : Dev nD) : passGhost (F := F) d ⊢ iprop((cellsGhost (pins (F := F)) EP 0 d ∗ cellsGhost (pins (F := F)) EP 1 d)
    ∗ toksInit (pins (F := F)) EP 0 d ∗ toksInit (pins (F := F)) EP 1 d) := by
  unfold passGhost
  rw [BI.bigSep_fin_two, BI.bigSep_fin_two]
  exact BI.Entails.refl _

theorem hmain (κ : GSem nD τ sig → ℕ) (d : Dev nD) :
    iprop((K (F := F)).ctx EH (P m) κ ∗ (K (F := F)).tcSt EH d 0 ∗ (K (F := F)).tcRes m ρ d ∗ passGhost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  simp only [main, wp_bind, wp_pure]
  iintro ⟨#Hctx, Hst, ⟨Hb, Hu, Hts, -⟩, Hg⟩
  ihave Hg' := (ghost_open d) $$ [Hg]
  · iexact Hg
  icases Hg' with ⟨⟨Hc0, Hc1⟩, Ht0, Ht1⟩
  ihave #Hlev := (ctx_levAts κ) $$ Hctx
  iapply (host_step m d (op0 (F := F)) main_arg1 main_v0 rfl (by decide) (by decide) rfl (StableHlo.reshape_result_ne _ _ _ _ _ _ _ (by decide)) (V0 m d) rfl rfl)
  isplitl [Hb]; · iexact Hb
  isplitl [Hu]; · iexact Hu
  iintro ⟨Hb, Hu⟩
  ihave Hu' := (show _ ⊢ _ from call_pre m d) $$ [Hu]
  · iexact Hu
  icases Hu' with ⟨Hcall, Hrest⟩
  iapply ((K (F := F)).wp_run (D (F := F)) 𝒱 (EH := EH) (P := P m) κ d 0)
  isplitr; · iexact Hctx
  isplitl [Hst]; · iexact Hst
  isplitl [Hcall]; · iexact Hcall
  iintro ⟨Hst, Hdn⟩
  ihave Hu := (call_post m d) $$ [Hdn Hrest]
  · isplitl [Hdn]; · iexact Hdn
    iexact Hrest
  ihave Hst' := (owes_open d) $$ [Hst]
  · iexact Hst
  icases Hst' with ⟨HO, Hst⟩
  iapply (pass_step (V2 m) (V4 m) 0 (seg1 m) d)
  isplitr [Hb Hu HO Hc0 Ht0]
  swap
  · isplitl [Hb]; · iexact Hb
    isplitl [Hu HO]
    · iapply (show iprop(unscopedBufs d (V2 m d) ∗ emp ∗ ∃ W, owes (SparseCore.T d) 0 W) ⊢ (seg1 m).pre d from BI.Entails.refl _)
      isplitl [Hu]; · iexact Hu
      isplitr; · iempintro
      iexact HO
    isplitr; · iexact Hlev
    isplitl [Hc0]; · iexact Hc0
    iexact Ht0
  iintro ⟨Hb, Hpost⟩
  ihave Hpost' := (show (seg1 m).post d ⊢ iprop(unscopedBufs d (V3 m d) ∗ emp ∗ ∃ W, owes (SparseCore.T d) 0 W) from BI.Entails.refl _) $$ [Hpost]
  · iexact Hpost
  icases Hpost' with ⟨Hu, -, HO⟩
  iapply (host_step m d (op3 (F := F)) main_arg1 main_v3 rfl (by decide) (by decide) rfl (StableHlo.reshape_result_ne _ _ _ _ _ _ _ (by decide)) (V3 m d)
    ((V3_ne m d _ (by decide) (by decide) (by decide)).trans ((V2_ne m d _ (by decide) (by decide) (by decide)).trans (V1_ne m d _ (by decide))))
    ((V3_ne m d _ (by decide) (by decide) (by decide)).trans ((V2_ne m d _ (by decide) (by decide) (by decide)).trans (V1_ne m d _ (by decide)))))
  isplitl [Hb]; · iexact Hb
  isplitl [Hu]; · iexact Hu
  iintro ⟨Hb, Hu⟩
  iapply (pass_step (V2 m) (V4 m) 1 (seg2 m) d)
  isplitr [Hb Hu HO Hc1 Ht1]
  swap
  · isplitl [Hb]; · iexact Hb
    isplitl [Hu HO]
    · iapply (show iprop(unscopedBufs d (V4 m d) ∗ emp ∗ ∃ W, owes (SparseCore.T d) 0 W) ⊢ (seg2 m).pre d from BI.Entails.refl _)
      isplitl [Hu]; · iexact Hu
      isplitr; · iempintro
      iexact HO
    isplitr; · iexact Hlev
    isplitl [Hc1]; · iexact Hc1
    iexact Ht1
  iintro ⟨Hb, Hpost⟩
  ihave Hpost' := (show (seg2 m).post d ⊢ iprop(unscopedBufs d (V5 m d) ∗ emp ∗ ∃ W, owes (SparseCore.T d) 0 W) from BI.Entails.refl _) $$ [Hpost]
  · iexact Hpost
  icases Hpost' with ⟨Hu, -, HO⟩
  imodintro
  isplitl [Hst HO]
  · iapply Hst; iexact HO
  isplitl [Hu]
  · iapply (fin_of m d); iexact Hu
  isplitl [Hb]; · iexact Hb
  iexact Hts

def fq (d : Dev nD) (s' : Phys nD τ sig (Elt F)) : Prop :=
  s'.mem.mem (xLoc d) = m (xLoc d) ∧ s'.mem.mem (tLoc d) = m (tLoc d) ∧ s'.mem.mem ((d : Thread nD τ).loc main_v4) = normAll (V4 m) d

omit [∀ e, Nonempty (Elt F e)] in
theorem hfin (d : Dev nD) (s' : Phys nD τ sig (Elt F)) : iprop(FIN m d ∗ SI s') ⊢ (⌜fq m d s'⌝ : sProp (𝕄 F)) := by
  iintro ⟨⟨Hx, Ht, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := (d : Thread nD τ).loc main_v4) (I := Finset.univ) (q := fullShare) (f := normAll (V4 m) d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  (∀ c : Dev nD, r.2.mem (xLoc c) = m (xLoc c) ∧ r.2.mem (tLoc c) = m (tLoc c) ∧ r.2.mem ((c : Thread nD τ).loc main_v4) = normAll (V4 m) c) ∧ r.2.sem = fun _ => 0

theorem run_main :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun d => passGhost d) (FIN m) (u₀ (F := F)) (sep_elim_left.trans (hu₀ m)) (hmain m ρ) (fq m) (hfin m) (QC m) (fun _ h hz => ⟨h, hz⟩)

end Run

end Cert.Proof

end
-- ==== Proof.Frames.lean ====
/-
  The frames of the programs.
-/
module

public import proofs.«01_k».proof.Proof.Main
public import proofs.«01_k».proof.Defs
public import proofs.«01_k».proof.Proof.Gen.Kernel
public import proofs.«01_k».proof.Proof.Gen.ReferenceIdeal.Run
public import Idealize.ShloMosaic.Lib.Quiescent

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## The programs' frames -/

set_option maxHeartbeats 16000000 in
/-- The two programs have the same bodies. -/
theorem defs₀_eq : Cert.Kernel.defs₀ (F := Bits) = Cert.KernelIdeal.defs₀ (F := Bits) := by
  funext p ℓ a
  match p, ℓ, a with
  | .tc, 0, _ => rfl
  | .tc, 1, (t, s) => rfl
  | .tc, 2, (t, s) => rfl
  | .scScalar _, 0, _ => rfl
  | .scScalar _, 1, _ => rfl
  | .scScalar _, 2, _ => rfl
  | .scVector _ _, 0, _ => rfl
  | .scVector _ _, 1, _ => rfl
  | .scVector _ _, 2, _ => rfl

theorem defs_eq : Cert.Kernel.defs (F := Bits) = Cert.KernelIdeal.defs (F := Bits) := by
  show Cert.Kernel.sc.defs (Pipeline.defs Cert.Kernel.pcfgs Cert.Kernel.defs₀) = _
  rw [defs₀_eq]; rfl

set_option maxHeartbeats 16000000 in
/-- The kernel's run, its values dropped: one text at the bit patterns and at the extended reals. -/
theorem frame_k : Cert.quiescent_Kernel := by
  intro m ρ _
  rw [defs_eq]
  exact (θ_run (Cert.KernelIdeal.defs (F := Bits)) (Cert.KernelIdeal.threads (F := Bits)) _).mono
    (fun _ h => ⟨fun c => ⟨(h.1 c).1, (h.1 c).2.1⟩, h.2⟩) (run_main (F := Bits) m ρ)

theorem frame_ki : Cert.quiescent_KernelIdeal := fun m ρ _ =>
  (θ_run Cert.KernelIdeal.defs _ _).mono (fun _ h => ⟨fun c => ⟨(h.1 c).1, (h.1 c).2.1⟩, h.2⟩) (run_main (F := Ideal) m ρ)

theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof

end
-- ==== Proof.OneHot.lean ====
/-
  The one-hot products at an index, over the extended reals: a row of marks times a block adds up the block's rows of the type; a column of marks picks a table's row.
-/
module

public import proofs.«01_k».proof.Proof.Stats
public import proofs.«01_k».proof.Proof.Norm
public import Idealize.ShloMosaic.PureOps.Ideal.Laws
public import Idealize.ShloMosaic.Lib.MatmulPlain
public import Idealize.ShloMosaic.Lib.ValueLayout
public import Idealize.ShloMosaic.Lib.ValueLayoutCasts

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

open Idealize.ShloMosaic.ValueIdx

/-- A mark: one where the condition holds. -/
theorem mark_ideal {s : Shape} (b : IVec s 1) (i : s.Idx) : (sitofp .f32 (extui 32 b natLt_1_32) : FVec Ideal s .f32) i = if b i = 1#1 then (1 : EReal) else 0 := by
  show (((((b i).setWidth 32).toInt : ℤ) : ℝ) : EReal) = _
  have h : b i = 0#1 ∨ b i = 1#1 := by generalize b i = v; revert v; decide
  rcases h with h | h
  · rw [h, if_neg (by decide), show ((0#1 : BitVec 1).setWidth 32).toInt = 0 by decide]; simp
  · rw [h, if_pos rfl, show ((1#1 : BitVec 1).setWidth 32).toInt = 1 by decide]; simp

theorem cmp_mark {s : Shape} (x y : IVec s 32) (i : s.Idx) : cmpi .eq x y i = 1#1 ↔ x i = y i := by
  show BitVec.ofBool (x i == y i) = 1#1 ↔ _
  by_cases h : x i = y i
  · simp [h]
  · have : (x i == y i) = false := by simpa using h
    rw [this]; exact ⟨fun e => absurd e (by decide), fun e => absurd e h⟩

theorem ofNat_eq_iff (x : BitVec 32) (t : ℕ) (ht : t < 8) : BitVec.ofNat 32 t = x ↔ x.toNat = t := by
  constructor
  · rintro rfl; rw [BitVec.toNat_ofNat, Nat.mod_eq_of_lt (by omega)]
  · rintro rfl; rw [BitVec.ofNat_toNat, BitVec.setWidth_eq]

theorem hot1_ideal (ty : S1x1x3200.Idx → BitVec 32) (t : Fin 8) (k : Fin 3200) :
    hot1 (F := Ideal) ty (ix2 t k) = if (ty (ix3 (0 : Fin 1) (0 : Fin 1) k)).toNat = t.val then (1 : EReal) else 0 := by
  refine (mark_ideal _ _).trans (if_congr ((cmp_mark _ _ _).trans ?_) rfl rfl)
  rw [iota_single_apply, broadcastTo_1b_ab_apply, shapeCast_a_1a_apply,
    shapeCast_apply (t := S3200) (show S1x1x3200.Idx → BitVec 32 from ty) shapeCasts_S1x1x3200_S3200 (ix1 k) (ix3 (0 : Fin 1) (0 : Fin 1) k) (by
      rw [Shape.rowMajor_val_three, Shape.rowMajor_val_one]; show ((0 * 1 + 0) * 3200 + k.val) = k.val; omega)]
  exact ofNat_eq_iff _ _ t.isLt

theorem hot2_ideal (ty : S1x1x20000.Idx → BitVec 32) (k : Fin 20000) (t : Fin 8) :
    hot2 (F := Ideal) ty (ix2 k t) = if (ty (ix3 (0 : Fin 1) (0 : Fin 1) k)).toNat = t.val then (1 : EReal) else 0 := by
  refine (mark_ideal _ _).trans (if_congr ((cmp_mark _ _ _).trans ?_) rfl rfl)
  rw [iota_single_apply, broadcastTo_apply (t := S20000x8) _ broadcasts_S20000x1_S20000x8 (ix2 k t) (ix2 k (0 : Fin 1)) (fun a => by match a with | 0 => rfl | 1 => rfl), shapeCast_a_a1_apply,
    shapeCast_apply (t := S20000) (show S1x1x20000.Idx → BitVec 32 from ty) shapeCasts_S1x1x20000_S20000 (ix1 k) (ix3 (0 : Fin 1) (0 : Fin 1) k) (by
      rw [Shape.rowMajor_val_three, Shape.rowMajor_val_one]; show ((0 * 1 + 0) * 20000 + k.val) = k.val; omega)]
  exact eq_comm.trans (ofNat_eq_iff _ _ t.isLt)

theorem mark_mul (p : Prop) [Decidable p] (x : EReal) : (if p then (1 : EReal) else 0) * x = if p then x else 0 := by
  split <;> simp

theorem plain1 : dot_S8x3200_S3200x128_S8x128_1_0_0_1_n_n = DotDims.plain 8 3200 128 := rfl
theorem plain2 : dot_S20000x8_S8x128_S20000x128_1_0_0_1_n_n = DotDims.plain 20000 8 128 := rfl

theorem zeroC (s : Shape) (i : s.Idx) : (constant s .f32 0x00000000#32 : FVec Ideal s .f32) i = (0 : EReal) := Ideal.ofBits_zero_f32

theorem addS_ideal (ty : S1x1x3200.Idx → BitVec 32) (x : S3200x128.Idx → EReal) (acc : S8x128.Idx → EReal) (t : Fin 8) (c : Fin 128) :
    addS (F := Ideal) ty x acc (ix2 t c) = acc (ix2 t c) + ∑ k : Fin 3200, if (ty (ix3 (0 : Fin 1) (0 : Fin 1) k)).toNat = t.val then x (ix2 k c) else (0 : EReal) := by
  unfold addS
  rw [plain1]
  refine congrArg (acc (ix2 t c) + ·) ?_
  refine (Ideal.matmul_plain_apply none _ _ _ t c).trans ?_
  rw [zeroC, zero_add]
  refine Finset.sum_congr rfl fun k _ => ?_
  rw [hot1_ideal]
  exact mark_mul _ _

theorem addC_ideal (ty : S1x1x3200.Idx → BitVec 32) (acc : S8x128.Idx → EReal) (t : Fin 8) (c : Fin 128) :
    addC (F := Ideal) ty acc (ix2 t c) = acc (ix2 t c) + ∑ k : Fin 3200, if (ty (ix3 (0 : Fin 1) (0 : Fin 1) k)).toNat = t.val then (1 : EReal) else 0 := by
  unfold addC
  refine congrArg (acc (ix2 t c) + ·) ?_
  rw [broadcastTo_apply (t := S8x128) _ broadcasts_S8x1_S8x128 (ix2 t c) (ix2 t (0 : Fin 1)) (fun a => by match a with | 0 => rfl | 1 => rfl), shapeCast_self, shapeCast_a_a1_apply]
  refine (Ideal.multiReduction_add_single _ _ _ _ _ _).trans (Finset.sum_congr rfl fun k _ => ?_)
  refine (congrArg (hot1 (F := Ideal) ty) ?_).trans (hot1_ideal ty t k)
  funext a
  match a with
  | 0 => rfl
  | 1 => rfl

/-- A table's row picked by a mark for each of its rows. -/
theorem pick (f : Fin 8 → EReal) (n : ℕ) (hn : n < 8) : (∑ k : Fin 8, (if n = k.val then (1 : EReal) else 0) * f k) = f ⟨n, hn⟩ := by
  simp only [mark_mul]
  rw [Finset.sum_eq_single (⟨n, hn⟩ : Fin 8) (fun b _ hb => if_neg fun h => hb (Fin.ext h.symm)) (fun h => absurd (Finset.mem_univ _) h), if_pos rfl]

theorem normed_ideal (ty : S1x1x20000.Idx → BitVec 32) (x : S20000x128.Idx → EReal) (mean rstd : S8x128.Idx → EReal) (k : Fin 20000) (c : Fin 128)
    (h : (ty (ix3 (0 : Fin 1) (0 : Fin 1) k)).toNat < 8) :
    normed (F := Ideal) ty x mean rstd (ix2 k c) = (x (ix2 k c) - mean (ix2 ⟨_, h⟩ c)) * rstd (ix2 ⟨_, h⟩ c) := by
  have e : ∀ T : S8x128.Idx → EReal, matmul (F := Ideal) dot_S20000x8_S8x128_S20000x128_1_0_0_1_n_n none (hot2 ty) (show FVec Ideal S8x128 .f32 from T) (constant S20000x128 .f32 0x00000000#32) (ix2 k c)
      = T (ix2 ⟨_, h⟩ c) := fun T => by
    rw [plain2]
    refine (Ideal.matmul_plain_apply none _ _ _ k c).trans ?_
    rw [zeroC, zero_add]
    simp only [hot2_ideal]
    exact pick (fun t => T (ix2 t c)) _ h
  unfold normed
  show (x (ix2 k c) - matmul (F := Ideal) dot_S20000x8_S8x128_S20000x128_1_0_0_1_n_n none (hot2 ty) (show FVec Ideal S8x128 .f32 from mean) (constant S20000x128 .f32 0x00000000#32) (ix2 k c))
    * matmul (F := Ideal) dot_S20000x8_S8x128_S20000x128_1_0_0_1_n_n none (hot2 ty) (show FVec Ideal S8x128 .f32 from rstd) (constant S20000x128 .f32 0x00000000#32) (ix2 k c) = _
  rw [e, e]

end Cert.Proof

end
-- ==== Proof.StatSums.lean ====
/-
  What the statistics pass adds up, over the extended reals: of its rows, the sum of the rows of each type; and the blocks both passes read.
-/
module

public import proofs.«01_k».proof.Proof.OneHot
public import proofs.«01_k».proof.Proof.Regions

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

open Idealize.ShloMosaic.TcCoe Idealize.ShloMosaic.ValueIdx
open Idealize.ShloMosaic.Pipeline (Dat Window BodyObligation)

section Blocks

variable (V : Vals F) (c : Dev nD) (tyN : ℕ → BitVec 32) (xN : ℕ → ℕ → Elt F .f32)
variable (h0 : ∀ y : S100x1x3200.Idx, V c main_v0 y = tyN ((y 0).val * 3200 + (y 2).val))
variable (h3 : ∀ y : S16x1x20000.Idx, V c main_v3 y = tyN ((y 0).val * 20000 + (y 2).val))
variable (hx : ∀ y : S320000x128.Idx, V c main_arg0 y = xN (y 0).val (y 1).val)

theorem index1_0 : ∀ t : Fin grid1.N, win1_0.index t 0 = t.val + 56 ∧ win1_0.index t 2 = 0 := by decide +kernel
theorem index1_1 : ∀ t : Fin grid1.N, win1_1.index t 0 = t.val + 56 ∧ win1_1.index t 1 = 0 := by decide +kernel
theorem index2_0 : ∀ t : Fin grid2.N, win2_0.index t 0 = t.val ∧ win2_0.index t 2 = 0 := by decide +kernel
theorem index2_1 : ∀ t : Fin grid2.N, win2_1.index t 0 = t.val ∧ win2_1.index t 1 = 0 := by decide +kernel

include h0 in
theorem ty1_at (t : Fin cfg1.N) (k : Fin 3200) : ty1 V c t (ValueIdx.ix3 (0 : Fin 1) (0 : Fin 1) k) = tyN (179200 + (3200 * t.val + k.val)) := by
  have e0 : (((cfg1.win 0).blk t).view.emb (ValueIdx.ix3 (0 : Fin 1) (0 : Fin 1) k) 0).val = t.val + 56 := by
    have := Pipeline.Window.rect_emb_val win1_0 t (ValueIdx.ix3 (0 : Fin 1) (0 : Fin 1) k) 0
    rw [(index1_0 t).1] at this
    exact this.trans (by show (t.val + 56) * 1 + 0 = _; omega)
  have e2 : (((cfg1.win 0).blk t).view.emb (ValueIdx.ix3 (0 : Fin 1) (0 : Fin 1) k) 2).val = k.val := by
    have := Pipeline.Window.rect_emb_val win1_0 t (ValueIdx.ix3 (0 : Fin 1) (0 : Fin 1) k) 2
    rw [(index1_0 t).2] at this
    exact this.trans (by show 0 * 3200 + k.val = _; omega)
  refine (h0 (((cfg1.win 0).blk t).view.emb (ValueIdx.ix3 (0 : Fin 1) (0 : Fin 1) k))).trans (congrArg tyN ?_)
  rw [e0, e2]; omega

include hx in
theorem x1_at (t : Fin cfg1.N) (k : Fin 3200) (j : Fin 128) : x1 V c t (ValueIdx.ix2 k j) = xN (179200 + (3200 * t.val + k.val)) j.val := by
  have e0 : (((cfg1.win 1).blk t).view.emb (ValueIdx.ix2 k j) 0).val = 179200 + (3200 * t.val + k.val) := by
    have := Pipeline.Window.rect_emb_val win1_1 t (ValueIdx.ix2 k j) 0
    rw [(index1_1 t).1] at this
    exact this.trans (by show (t.val + 56) * 3200 + k.val = _; omega)
  have e1 : (((cfg1.win 1).blk t).view.emb (ValueIdx.ix2 k j) 1).val = j.val := by
    have := Pipeline.Window.rect_emb_val win1_1 t (ValueIdx.ix2 k j) 1
    rw [(index1_1 t).2] at this
    exact this.trans (by show 0 * 128 + j.val = _; omega)
  refine (hx (((cfg1.win 1).blk t).view.emb (ValueIdx.ix2 k j))).trans ?_
  rw [e0, e1]

include h3 in
theorem ty2_at (t : Fin cfg2.N) (k : Fin 20000) : ty2 V c t (ValueIdx.ix3 (0 : Fin 1) (0 : Fin 1) k) = tyN (t.val * 20000 + k.val) := by
  have e0 : (((cfg2.win 0).blk t).view.emb (ValueIdx.ix3 (0 : Fin 1) (0 : Fin 1) k) 0).val = t.val := by
    have := Pipeline.Window.rect_emb_val win2_0 t (ValueIdx.ix3 (0 : Fin 1) (0 : Fin 1) k) 0
    rw [(index2_0 t).1] at this
    exact this.trans (by show t.val * 1 + 0 = _; omega)
  have e2 : (((cfg2.win 0).blk t).view.emb (ValueIdx.ix3 (0 : Fin 1) (0 : Fin 1) k) 2).val = k.val := by
    have := Pipeline.Window.rect_emb_val win2_0 t (ValueIdx.ix3 (0 : Fin 1) (0 : Fin 1) k) 2
    rw [(index2_0 t).2] at this
    exact this.trans (by show 0 * 20000 + k.val = _; omega)
  refine (h3 (((cfg2.win 0).blk t).view.emb (ValueIdx.ix3 (0 : Fin 1) (0 : Fin 1) k))).trans (congrArg tyN ?_)
  rw [e0, e2]

include hx in
theorem x2_at (t : Fin cfg2.N) (k : Fin 20000) (j : Fin 128) : x2 V c t (ValueIdx.ix2 k j) = xN (t.val * 20000 + k.val) j.val := by
  have e0 : (((cfg2.win 1).blk t).view.emb (ValueIdx.ix2 k j) 0).val = t.val * 20000 + k.val := by
    have := Pipeline.Window.rect_emb_val win2_1 t (ValueIdx.ix2 k j) 0
    rw [(index2_1 t).1] at this
    exact this
  have e1 : (((cfg2.win 1).blk t).view.emb (ValueIdx.ix2 k j) 1).val = j.val := by
    have := Pipeline.Window.rect_emb_val win2_1 t (ValueIdx.ix2 k j) 1
    rw [(index2_1 t).2] at this
    exact this.trans (by show 0 * 128 + j.val = _; omega)
  refine (hx (((cfg2.win 1).blk t).view.emb (ValueIdx.ix2 k j))).trans ?_
  rw [e0, e1]

end Blocks

section Sums

variable (V : Vals Ideal) (c : Dev nD) (tyN : ℕ → BitVec 32) (xN : ℕ → ℕ → EReal)
variable (h0 : ∀ y : S100x1x3200.Idx, V c main_v0 y = tyN ((y 0).val * 3200 + (y 2).val))
variable (hx : ∀ y : S320000x128.Idx, V c main_arg0 y = xN (y 0).val (y 1).val)

theorem zeroT_ideal (y : S8x128.Idx) : zeroT (F := Ideal) y = (0 : EReal) := Ideal.ofBits_zero_f32

/-- One block more of a sum over rows. -/
theorem block_more (f : ℕ → EReal) (n : ℕ) : (∑ r ∈ Finset.range (3200 * n), f r) + (∑ k : Fin 3200, f (3200 * n + k.val)) = ∑ r ∈ Finset.range (3200 * (n + 1)), f r := by
  rw [Nat.mul_succ, Finset.sum_range_add, Finset.sum_range fun k => f (3200 * n + k)]

theorem lt_N1 {n : ℕ} (h : n < 44) : n < cfg1.N := by rw [show cfg1.N = 44 from Gen.N_1]; exact h

include h0 hx in
theorem statS_ideal (t : Fin 8) (j : Fin 128) (n : ℕ) (hn : n ≤ 44) :
    statS V c n (ValueIdx.ix2 t j) = ∑ r ∈ Finset.range (3200 * n), if (tyN (179200 + r)).toNat = t.val then xN (179200 + r) j.val else (0 : EReal) := by
  induction n with
  | zero => exact (zeroT_ideal _).trans (by simp)
  | succ n ih =>
    refine (congrFun (statS_succ V c ⟨n, lt_N1 (by omega)⟩) _).trans ((addS_ideal _ _ _ t j).trans ?_)
    rw [ih (by omega), ← block_more]
    congr 1
    refine Finset.sum_congr rfl fun k _ => ?_
    rw [ty1_at V c tyN h0, x1_at V c xN hx]

include h0 hx in
theorem statQ_ideal (t : Fin 8) (j : Fin 128) (n : ℕ) (hn : n ≤ 44) :
    statQ V c n (ValueIdx.ix2 t j) = ∑ r ∈ Finset.range (3200 * n), if (tyN (179200 + r)).toNat = t.val then xN (179200 + r) j.val * xN (179200 + r) j.val else (0 : EReal) := by
  induction n with
  | zero => exact (zeroT_ideal _).trans (by simp)
  | succ n ih =>
    refine (congrFun (statQ_succ V c ⟨n, lt_N1 (by omega)⟩) _).trans ((addS_ideal _ _ _ t j).trans ?_)
    rw [ih (by omega), ← block_more]
    congr 1
    refine Finset.sum_congr rfl fun k _ => ?_
    rw [ty1_at V c tyN h0]
    refine if_congr Iff.rfl ?_ rfl
    show x1 V c ⟨n, lt_N1 (by omega)⟩ (ValueIdx.ix2 k j) * x1 V c ⟨n, lt_N1 (by omega)⟩ (ValueIdx.ix2 k j) = _
    rw [x1_at V c xN hx]

include h0 in
theorem statC_ideal (t : Fin 8) (j : Fin 128) (n : ℕ) (hn : n ≤ 44) :
    statC V c n (ValueIdx.ix2 t j) = ∑ r ∈ Finset.range (3200 * n), if (tyN (179200 + r)).toNat = t.val then (1 : EReal) else 0 := by
  induction n with
  | zero => exact (zeroT_ideal _).trans (by simp)
  | succ n ih =>
    refine (congrFun (statC_succ V c ⟨n, lt_N1 (by omega)⟩) _).trans ((addC_ideal _ _ t j).trans ?_)
    rw [ih (by omega), ← block_more]
    congr 1
    refine Finset.sum_congr rfl fun k _ => ?_
    rw [ty1_at V c tyN h0]

end Sums

end Cert.Proof

end
-- ==== Proof.Bounds.lean ====
/-
  The bounds a tile counts, as numbers: for sorted types, bound `t` is the first row of a type not below `t`.
-/
module

public import proofs.«01_k».proof.Proof.Types

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- How many of the first `n` of `τ` are below `t`. -/
def below (τ : ℕ → ℕ) (t n : ℕ) : ℕ := ∑ r ∈ Finset.range n, if τ r < t then 1 else 0

theorem below_le (τ : ℕ → ℕ) (t n : ℕ) : below τ t n ≤ n := by
  unfold below
  refine (Finset.sum_le_card_nsmul _ _ 1 fun r _ => ?_).trans (by simp)
  split <;> omega

theorem below_succ (τ : ℕ → ℕ) (t n : ℕ) : below τ t (n + 1) = below τ t n + if τ n < t then 1 else 0 := Finset.sum_range_succ ..

/-- Of a sorted `τ`, row `r` is below `t` exactly when it is among the first so many. -/
theorem lt_below (τ : ℕ → ℕ) (t n : ℕ) (hs : ∀ a b, a ≤ b → b < n → τ a ≤ τ b) (r : ℕ) (hr : r < n) : r < below τ t n ↔ τ r < t := by
  induction n with
  | zero => omega
  | succ n ih =>
    rw [below_succ]
    have hle := below_le τ t n
    have ih := ih fun a b h hb => hs a b h (by omega)
    have hm := hs r n (by omega) (by omega)
    rcases Nat.lt_or_eq_of_le (Nat.lt_succ_iff.mp hr) with h | rfl
    · have i := ih h
      by_cases hn : τ n < t
      · have : τ r < t := by omega
        simp only [if_pos hn]
        constructor
        · intro _; exact this
        · intro _; have := i.mpr this; omega
      · simp only [if_neg hn, Nat.add_zero]; exact i
    · by_cases hn : τ r < t
      · simp only [if_pos hn]
        refine ⟨fun _ => hn, fun _ => ?_⟩
        have : below τ t r = r := by
          unfold below
          rw [Finset.sum_congr rfl fun a ha => if_pos (lt_of_le_of_lt (hs a r (le_of_lt (Finset.mem_range.mp ha)) (by omega)) hn)]
          simp
        omega
      · simp only [if_neg hn, Nat.add_zero]
        refine ⟨fun h => ?_, fun h => absurd h hn⟩
        omega

theorem slt_small (x : BitVec 32) (t : ℕ) (hx : x.toNat < 8) (ht : t ≤ 8) : IntOp.cmpi .slt x (BitVec.ofNat 32 t) = if x.toNat < t then 1#1 else 0#1 := by
  have e1 : x.toInt = x.toNat := by rw [BitVec.toInt_eq_toNat_of_lt]; omega
  have e2 : (BitVec.ofNat 32 t).toInt = t := by
    rw [BitVec.toInt_eq_toNat_of_lt] <;> rw [BitVec.toNat_ofNat, Nat.mod_eq_of_lt (by omega)]
    omega
  simp only [IntOp.cmpi, BitVec.slt, e1, e2, Nat.cast_lt]
  by_cases h : x.toNat < t <;> simp [h]

theorem cntAcc_eq (tN : ℕ → BitVec 32) (t : ℕ) (ht : t ≤ 8) (h : ∀ r < 5600, (tN r).toNat < 8) (x : S16.Idx) (n : ℕ) (hn : n ≤ 350) :
    cntAcc tN (BitVec.ofNat 32 t) n x = BitVec.ofNat 32 (∑ k ∈ Finset.range n, if (tN (16 * k + (x 0).val)).toNat < t then 1 else 0) := by
  induction n with
  | zero => rfl
  | succ n ih =>
    have hx : (x 0).val < 16 := (x 0).isLt
    rw [Finset.sum_range_succ, BitVec.ofNat_add, ← ih (by omega)]
    show cntAcc tN (BitVec.ofNat 32 t) n x + Scalar.select (IntOp.cmpi .slt (tN (16 * n + (x 0).val)) (BitVec.ofNat 32 t)) 1#32 0#32 = _
    rw [slt_small _ t (h _ (by omega)) ht]
    split <;> rfl

theorem laneTotal_eq (c : IVec S16 32) (f : ℕ → ℕ) (h : ∀ x, c x = BitVec.ofNat 32 (f (x 0).val)) : laneTotal c = BitVec.ofNat 32 (∑ x ∈ Finset.range 16, f x) := by
  have e : laneTotal c = ([1, 2, 3, 4, 5, 6, 7, 8, 9, 10, 11, 12, 13, 14, 15] : List (Fin 16)).foldl (fun r k => r + c (Shape.ofLane k)) (c (Shape.ofLane (0 : Fin 16))) := rfl
  rw [e]
  simp only [h, List.foldl, Finset.sum_range_succ, Finset.sum_range_zero, BitVec.ofNat_add]
  simp only [BitVec.ofNat_eq_ofNat, BitVec.zero_add]
  rfl

/-- A sum over 16 lanes of sixteens of rows is the sum over the rows. -/
theorem sum_lanes (f : ℕ → ℕ) (n : ℕ) : (∑ x ∈ Finset.range 16, ∑ k ∈ Finset.range n, f (16 * k + x)) = ∑ r ∈ Finset.range (16 * n), f r := by
  rw [Finset.sum_comm]
  induction n with
  | zero => simp
  | succ n ih => rw [Finset.sum_range_succ, ih, Nat.mul_succ, Finset.sum_range_add]

theorem bound_eq (tN : ℕ → BitVec 32) (t : ℕ) (ht : t ≤ 8) (h : ∀ r < 5600, (tN r).toNat < 8) :
    bound tN (BitVec.ofNat 32 t) = BitVec.ofNat 32 (below (fun r => (tN r).toNat) t 5600) := by
  unfold bound
  rw [laneTotal_eq _ (fun x => ∑ k ∈ Finset.range 350, if (tN (16 * k + x)).toNat < t then 1 else 0) fun x => cntAcc_eq tN t ht h x 350 (le_refl _)]
  rw [sum_lanes (fun r => if (tN r).toNat < t then 1 else 0) 350]
  rfl

theorem below_zero (τ : ℕ → ℕ) (n : ℕ) : below τ 0 n = 0 := by simp [below]
theorem below_all (τ : ℕ → ℕ) (t n : ℕ) (h : ∀ r < n, τ r < t) : below τ t n = n := by
  unfold below
  rw [Finset.sum_congr rfl fun r hr => if_pos (h r (Finset.mem_range.mp hr))]
  simp

/-- The bounds a tile goes by are the numbers of its rows below each type. -/
theorem bnds_eq (tN : ℕ → BitVec 32) (h : ∀ r < 5600, (tN r).toNat < 8) : ∀ t ≤ 8, bnds tN t = BitVec.ofNat 32 (below (fun r => (tN r).toNat) t 5600)
  | 0, _ => by rw [below_zero]; rfl
  | 1, _ => bound_eq tN 1 (by decide) h
  | 2, _ => bound_eq tN 2 (by decide) h
  | 3, _ => bound_eq tN 3 (by decide) h
  | 4, _ => bound_eq tN 4 (by decide) h
  | 5, _ => bound_eq tN 5 (by decide) h
  | 6, _ => bound_eq tN 6 (by decide) h
  | 7, _ => bound_eq tN 7 (by decide) h
  | 8, _ => by rw [below_all _ 8 5600 h]; rfl
  | n + 9, hn => absurd hn (by omega)

end Cert.Proof

end
-- ==== Proof.TileSums.lean ====
/-
  What a tile adds up, over the extended reals: of rows of sorted types, the sum of the rows of each type.
-/
module

public import proofs.«01_k».proof.Proof.Bounds
public import proofs.«01_k».proof.Proof.Tile
public import Idealize.ShloMosaic.PureOps.Ideal.Laws

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

theorem ideal_zero : (zero : Elt Ideal .f32) = (0 : EReal) := Ideal.ofBits_zero_f32

theorem sumRows_ideal (X : ℕ → ℕ → EReal) (z : EReal) (lo n c : ℕ) : sumRows (F := Ideal) X z lo n c = z + ∑ i ∈ Finset.range n, X (lo + i) c := by
  induction n with
  | zero => show z = z + _; simp
  | succ n ih =>
    show (sumRows (F := Ideal) X z lo n c : EReal) + X (lo + n) c = _
    rw [ih, Finset.sum_range_succ, add_assoc]

/-- A sum over rows from `lo` below `hi` as one over all rows below `N`. -/
theorem sum_interval (f : ℕ → EReal) (lo hi N : ℕ) (h : hi ≤ N) :
    (∑ i ∈ Finset.range (hi - lo), f (lo + i)) = ∑ r ∈ Finset.range N, if lo ≤ r ∧ r < hi then f r else 0 := by
  rw [← Finset.sum_filter, ← Finset.sum_Ico_eq_sum_range]
  congr 1
  ext r
  simp only [Finset.mem_Ico, Finset.mem_filter, Finset.mem_range]
  omega

theorem caseG_ideal (t : ℕ) (lo hi : BitVec 32) (hR : InR lo hi) (X : ℕ → ℕ → EReal) (G : ℕ → ℕ → EReal) (a c : ℕ) :
    caseG (F := Ideal) t lo hi (sumR (F := Ideal) X (0 : EReal) lo hi) G a c
      = if a = t then G a c + ∑ r ∈ Finset.range 200, if lo.toInt ≤ r ∧ (r : ℤ) < hi.toInt then X r c else 0 else G a c := by
  have h0 := hR.lo_nonneg
  have h1 := hR.le
  have h2 := hR.hi_le
  have e : sumR (F := Ideal) X (0 : EReal) lo hi c = ∑ r ∈ Finset.range 200, if lo.toInt ≤ r ∧ (r : ℤ) < hi.toInt then X r c else 0 := by
    show sumRows (F := Ideal) X (0 : EReal) lo.toInt.toNat (nRows lo hi) c = _
    have en : nRows lo hi = hi.toInt.toNat - lo.toInt.toNat := by unfold nRows; omega
    rw [sumRows_ideal, zero_add, en, sum_interval (fun r => X r c) lo.toInt.toNat hi.toInt.toNat 200 (by omega)]
    refine Finset.sum_congr rfl fun r _ => if_congr ?_ rfl rfl
    omega
  unfold caseG
  split
  · show (if a = t then (G a c : EReal) + sumR (F := Ideal) X (0 : EReal) lo hi c else G a c) = _
    rw [e]
  · rename_i hlt
    rw [Finset.sum_eq_zero fun r _ => if_neg (by omega), add_zero, ite_self]

theorem casesG_ideal (b : ℕ → BitVec 32) (base : BitVec 32) (X : ℕ → ℕ → EReal) (G : ℕ → ℕ → EReal) (a c n : ℕ) :
    casesG (F := Ideal) b base X (0 : EReal) G n a c
      = if a < n then G a c + ∑ r ∈ Finset.range 200,
          if (loOf (b a) base).toInt ≤ r ∧ (r : ℤ) < (hiOf (b a) (b (a + 1)) base).toInt then X r c else 0 else G a c := by
  induction n with
  | zero => rfl
  | succ n ih =>
    show caseG (F := Ideal) n (loOf (b n) base) (hiOf (b n) (b (n + 1)) base) (sumR (F := Ideal) X (0 : EReal) (loOf (b n) base) (hiOf (b n) (b (n + 1)) base))
      (casesG (F := Ideal) b base X (0 : EReal) G n) a c = _
    rw [caseG_ideal n _ _ (inR _ _ _), ih]
    rcases Nat.lt_trichotomy a n with h | rfl | h
    · rw [if_neg (by omega), if_pos h, if_pos (by omega)]
    · rw [if_pos rfl, if_neg (by omega), if_pos (by omega)]
    · rw [if_neg (by omega), if_neg (by omega), if_neg (by omega)]

theorem toInt_min (x y : BitVec 32) : (Scalar.minsi x y).toInt = min x.toInt y.toInt := by
  simp only [Scalar.minsi, IntOp.minsi, BitVec.slt, decide_eq_true_eq]; split <;> omega
theorem toInt_max (x y : BitVec 32) : (Scalar.maxsi x y).toInt = max x.toInt y.toInt := by
  simp only [Scalar.maxsi, IntOp.maxsi, BitVec.slt, decide_eq_true_eq]; split <;> omega
theorem toInt_sub (a b : ℕ) (ha : a ≤ 5600) (hb : b ≤ 5600) : (Scalar.subi (BitVec.ofNat 32 a) (BitVec.ofNat 32 b)).toInt = (a : ℤ) - b := by
  show (BitVec.ofNat 32 a - BitVec.ofNat 32 b).toInt = _
  have e : ∀ n ≤ 5600, (BitVec.ofNat 32 n).toInt = n := fun n hn => by
    rw [BitVec.toInt_eq_toNat_of_lt] <;> rw [BitVec.toNat_ofNat, Nat.mod_eq_of_lt (by omega)]
    omega
  rw [BitVec.toInt_sub, e a ha, e b hb]
  simp only [Int.bmod_def]
  omega

/-- The rows a chunk's case takes, as rows of the tile. -/
theorem in_case (a a' k r : ℕ) (ha : a ≤ 5600) (ha' : a' ≤ 5600) (hk : k ≤ 5600) (hr : r < 200) :
    ((loOf (BitVec.ofNat 32 a) (BitVec.ofNat 32 k)).toInt ≤ r ∧ (r : ℤ) < (hiOf (BitVec.ofNat 32 a) (BitVec.ofNat 32 a') (BitVec.ofNat 32 k)).toInt)
      ↔ (a ≤ k + r ∧ k + r < a') := by
  have e0 : (0#32 : BitVec 32).toInt = 0 := by decide
  have e2 : (200#32 : BitVec 32).toInt = 200 := by decide
  unfold hiOf loOf
  simp only [toInt_min, toInt_max, toInt_sub _ _ ha hk, toInt_sub _ _ ha' hk, e0, e2]
  omega

/-- The types of a tile's rows: all below 8, and sorted. -/
structure Sorted (ty : ℕ → BitVec 32) (n : ℕ) : Prop where
  lt : ∀ r < n, (ty r).toNat < 8
  le : ∀ a b, a ≤ b → b < n → (ty a).toNat ≤ (ty b).toNat

/-- The rows from one bound up to the next are those of the type. -/
theorem between (ty : ℕ → BitVec 32) (h : Sorted ty 5600) (t r : ℕ) (hr : r < 5600) :
    (below (fun r => (ty r).toNat) t 5600 ≤ r ∧ r < below (fun r => (ty r).toNat) (t + 1) 5600) ↔ (ty r).toNat = t := by
  have h0 := lt_below (fun r => (ty r).toNat) t 5600 h.le r hr
  have h1 := lt_below (fun r => (ty r).toNat) (t + 1) 5600 h.le r hr
  have h2 : (ty r).toNat < 8 := h.lt r hr
  rw [h1, ← not_lt, h0]
  omega

/-- A chunk's cases add its rows by type. -/
theorem chunk_ideal (ty : ℕ → BitVec 32) (h : Sorted ty 5600) (X : ℕ → ℕ → EReal) (G : ℕ → ℕ → EReal) (k a c : ℕ) (hk : k + 200 ≤ 5600) (ha : a < 8) :
    casesG (F := Ideal) (bnds ty) (BitVec.ofNat 32 k) X (0 : EReal) G 8 a c
      = G a c + ∑ r ∈ Finset.range 200, if (ty (k + r)).toNat = a then X r c else 0 := by
  rw [casesG_ideal, if_pos ha, bnds_eq ty h.lt a (by omega), bnds_eq ty h.lt (a + 1) (by omega)]
  refine congrArg (G a c + ·) (Finset.sum_congr rfl fun r hr => if_congr ?_ rfl rfl)
  have hr := Finset.mem_range.mp hr
  rw [in_case _ _ k r (below_le _ _ _) (below_le _ _ _) (by omega) hr]
  exact between ty h a (k + r) (by omega)

theorem chunkBase_even (k : ℕ) (hk : k < 14) : Scalar.muli (Scalar.muli 2#32 (Scf.iv 0#32 1#32 k)) 200#32 = BitVec.ofNat 32 (400 * k) := by
  show 2#32 * (0#32 + BitVec.ofNat 32 k * 1#32) * 200#32 = _
  apply BitVec.eq_of_toNat_eq
  simp only [BitVec.toNat_add, BitVec.toNat_mul, BitVec.toNat_ofNat]
  omega
theorem chunkBase_odd (k : ℕ) (hk : k < 14) : Scalar.muli (Scalar.addi (Scalar.muli 2#32 (Scf.iv 0#32 1#32 k)) 1#32) 200#32 = BitVec.ofNat 32 (400 * k + 200) := by
  show (2#32 * (0#32 + BitVec.ofNat 32 k * 1#32) + 1#32) * 200#32 = _
  apply BitVec.eq_of_toNat_eq
  simp only [BitVec.toNat_add, BitVec.toNat_mul, BitVec.toNat_ofNat]
  omega

theorem tabAt_ideal (ty : ℕ → BitVec 32) (h : Sorted ty 5600) (xN : ℕ → ℕ → EReal) (w a c : ℕ) (ha : a < 8) (k : ℕ) (hk : k ≤ 14) :
    tabAt (F := Ideal) (bnds ty) xN w (0 : EReal) (fun _ _ => (0 : EReal)) k a c = ∑ r ∈ Finset.range (400 * k), if (ty r).toNat = a then xN (w + r) c else 0 := by
  induction k with
  | zero => simp [tabAt]
  | succ k ih =>
    unfold tabAt
    rw [chunkBase_even k (by omega), chunkBase_odd k (by omega), chunk_ideal ty h _ _ _ a c (by omega) ha, chunk_ideal ty h _ _ _ a c (by omega) ha, ih (by omega)]
    have e : 400 * (k + 1) = 400 * k + 200 + 200 := by omega
    rw [e, Finset.sum_range_add _ (400 * k + 200), Finset.sum_range_add _ (400 * k)]
    simp only [rowsFrom, Nat.add_assoc]

/-- A tile's sums: of the rows of each type. -/
theorem wSum_ideal (tyN : ℕ → BitVec 32) (xN : ℕ → ℕ → EReal) (w : ℕ) (h : Sorted (fun r => tyN (w * 5600 + r)) 5600) (a c : ℕ) (ha : a < 8) :
    wSum (F := Ideal) tyN xN w a c = ∑ r ∈ Finset.range 5600, if (tyN (w * 5600 + r)).toNat = a then xN (w * 5600 + r) c else (0 : EReal) := by
  unfold wSum
  rw [ideal_zero]
  exact tabAt_ideal (fun r => tyN (w * 5600 + r)) h xN (w * 5600) a c ha 14 (le_refl _)

theorem count_eq (τ : ℕ → ℕ) (a n : ℕ) : (below τ (a + 1) n : ℕ) = below τ a n + ∑ r ∈ Finset.range n, if τ r = a then 1 else 0 := by
  unfold below
  rw [← Finset.sum_add_distrib]
  refine Finset.sum_congr rfl fun r _ => ?_
  rcases Nat.lt_trichotomy (τ r) a with h | h | h
  · rw [if_pos (by omega), if_pos h, if_neg (by omega)]
  · rw [if_pos (by omega), if_neg (by omega), if_pos h]
  · rw [if_neg (by omega), if_neg (by omega), if_neg (by omega)]

/-- A tile's counts: how many of its rows are of each type. -/
theorem wCnt_ideal (tyN : ℕ → BitVec 32) (w : ℕ) (h : Sorted (fun r => tyN (w * 5600 + r)) 5600) (a : ℕ) (ha : a < 8) :
    wCnt (F := Ideal) tyN w a = ∑ r ∈ Finset.range 5600, if (tyN (w * 5600 + r)).toNat = a then (1 : EReal) else 0 := by
  unfold wCnt cntv
  rw [bnds_eq _ h.lt a (by omega), bnds_eq _ h.lt (a + 1) (by omega)]
  show (((Scalar.subi (BitVec.ofNat 32 (below (fun r => (tyN (w * 5600 + r)).toNat) (a + 1) 5600)) (BitVec.ofNat 32 (below (fun r => (tyN (w * 5600 + r)).toNat) a 5600))).toInt : ℝ) : EReal) = _
  rw [toInt_sub _ _ (below_le _ _ _) (below_le _ _ _), count_eq, Nat.cast_add, add_sub_cancel_left]
  have e : (∑ r ∈ Finset.range 5600, if (tyN (w * 5600 + r)).toNat = a then (1 : EReal) else 0)
      = ((∑ r ∈ Finset.range 5600, if (tyN (w * 5600 + r)).toNat = a then 1 else 0 : ℕ) : EReal) := by
    rw [Nat.cast_sum]
    exact Finset.sum_congr rfl fun r _ => by split <;> simp
  rw [e]
  simp

end Cert.Proof

end
-- ==== Proof.KernelSums.lean ====
/-
  The means and the factors the kernel normalises with, over the extended reals, from the sums over all rows of a type.
-/
module

public import proofs.«01_k».proof.Proof.StatSums
public import proofs.«01_k».proof.Proof.TileSums

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

open Idealize.ShloMosaic.TcCoe Idealize.ShloMosaic.ValueIdx

/-! ## The quantities -/

/-- The sum of `g` over the rows of type `t`. -/
def tot (tyN : ℕ → BitVec 32) (g : ℕ → EReal) (t : ℕ) : EReal := ∑ r ∈ Finset.range 320000, if (tyN r).toNat = t then g r else 0

/-- The number of rows of type `t`, at least one. -/
def cntT (tyN : ℕ → BitVec 32) (t : ℕ) : EReal := max (tot tyN (fun _ => 1) t) 1
/-- The mean of `g` over the rows of type `t`. -/
def meanT (tyN : ℕ → BitVec 32) (g : ℕ → EReal) (t : ℕ) : EReal := Ideal.div (tot tyN g t) (cntT tyN t)
def eps : EReal := Ideal.ofBits .f32 0x3727C5AC#32
/-- The variance of `g` over the rows of type `t`, made positive. -/
def varT (tyN : ℕ → BitVec 32) (g : ℕ → EReal) (t : ℕ) : EReal := max (meanT tyN (fun r => g r * g r) t - meanT tyN g t * meanT tyN g t) 0 + eps

/-! ## Sums over tiles and blocks -/

theorem fin_blocks (f : ℕ → EReal) (B n : ℕ) : (∑ w : Fin n, ∑ r ∈ Finset.range B, f (w.val * B + r)) = ∑ r ∈ Finset.range (n * B), f r := by
  rw [← Finset.sum_range fun w => ∑ r ∈ Finset.range B, f (w * B + r)]
  induction n with
  | zero => simp
  | succ n ih => rw [Finset.sum_range_succ, ih, Nat.succ_mul, Finset.sum_range_add]

/-- All rows: those of the tiles, then those of the statistics pass. -/
theorem all_rows (f : ℕ → EReal) : (∑ w : Fin 32, ∑ r ∈ Finset.range 5600, f (w.val * 5600 + r)) + (∑ r ∈ Finset.range (3200 * 44), f (179200 + r)) = ∑ r ∈ Finset.range 320000, f r := by
  rw [fin_blocks f 5600 32, ← Finset.sum_range_add f (32 * 5600) (3200 * 44)]

theorem tot_split (tyN : ℕ → BitVec 32) (g : ℕ → EReal) (t : ℕ) : tot tyN g t
    = (∑ w : Fin 32, ∑ r ∈ Finset.range 5600, if (tyN (w.val * 5600 + r)).toNat = t then g (w.val * 5600 + r) else 0)
      + ∑ r ∈ Finset.range (3200 * 44), if (tyN (179200 + r)).toNat = t then g (179200 + r) else 0 :=
  (all_rows fun r => if (tyN r).toNat = t then g r else 0).symm

theorem Sorted.tile {tyN : ℕ → BitVec 32} (h : Sorted tyN 320000) (w : Fin 32) : Sorted (fun r => tyN (w.val * 5600 + r)) 5600 where
  lt r hr := h.lt _ (by have := w.isLt; omega)
  le a b hab hb := h.le _ _ (by omega) (by have := w.isLt; omega)

/-! ## The kernel's arithmetic at an index -/

theorem sum_tiles (s : S32x8x128.Idx → EReal) (t : Fin 8) (j : Fin 128) :
    multiReduction (F := Ideal) .add [0] S8x128 (show FVec Ideal S32x8x128 .f32 from s) 0x00000000#32 reduces_S32x8x128_S8x128 (.inl rfl) rfl (ValueIdx.ix2 t j)
      = ∑ w : Fin 32, s (ValueIdx.ix3 w t j) := by
  refine (Ideal.multiReduction_add_single _ _ _ _ _ _).trans (Finset.sum_congr rfl fun w _ => congrArg s ?_)
  funext a
  match a with
  | 0 => rfl
  | 1 => rfl
  | 2 => rfl

theorem sum_tilesC (s : S32x8x16.Idx → EReal) (t : Fin 8) (j : Fin 16) :
    multiReduction (F := Ideal) .add [0] S8x16 (show FVec Ideal S32x8x16 .f32 from s) 0x00000000#32 reduces_S32x8x16_S8x16 (.inl rfl) rfl (ValueIdx.ix2 t j)
      = ∑ w : Fin 32, s (ValueIdx.ix3 w t j) := by
  refine (Ideal.multiReduction_add_single _ _ _ _ _ _).trans (Finset.sum_congr rfl fun w _ => congrArg s ?_)
  funext a
  match a with
  | 0 => rfl
  | 1 => rfl
  | 2 => rfl

theorem countOf_ideal (cnt : S32x8x16.Idx → EReal) (cntt : S8x128.Idx → EReal) (t : Fin 8) :
    countOf (F := Ideal) cnt cntt (ValueIdx.ix2 t (0 : Fin 1)) = max ((∑ w : Fin 32, cnt (ValueIdx.ix3 w t (0 : Fin 16))) + cntt (ValueIdx.ix2 t (0 : Fin 128))) (1 : EReal) := by
  unfold countOf
  refine congrArg₂ max (congrArg₂ (fun a b : EReal => a + b) ?_ ?_) Ideal.ofBits_one_f32
  · refine Eq.trans ?_ (sum_tilesC cnt t 0)
    unfold extractStridedSlice
    refine congrArg (multiReduction (F := Ideal) .add [0] S8x16 (show FVec Ideal S32x8x16 .f32 from cnt) 0x00000000#32 reduces_S32x8x16_S8x16 (.inl rfl) rfl) ?_
    funext a
    match a with
    | 0 => exact Fin.ext (Nat.zero_add _)
    | 1 => rfl
  · unfold lane0
    refine congrArg cntt ?_
    funext a
    match a with
    | 0 => exact Fin.ext (by show 0 + 1 * t.val = t.val; omega)
    | 1 => rfl

theorem meanOf_ideal (s : S32x8x128.Idx → EReal) (st : S8x128.Idx → EReal) (c : S8x1.Idx → EReal) (t : Fin 8) (j : Fin 128) :
    meanOf (F := Ideal) s st c (ValueIdx.ix2 t j) = Ideal.div ((∑ w : Fin 32, s (ValueIdx.ix3 w t j)) + st (ValueIdx.ix2 t j)) (c (ValueIdx.ix2 t (0 : Fin 1))) := by
  unfold meanOf
  refine congrArg₂ Ideal.div (congrArg (· + st (ValueIdx.ix2 t j)) (sum_tiles s t j)) ?_
  exact broadcastTo_apply (t := S8x128) _ broadcasts_S8x1_S8x128 (ValueIdx.ix2 t j) (ValueIdx.ix2 t (0 : Fin 1)) (fun a => by match a with | 0 => rfl | 1 => rfl)

theorem rstdOf_ideal (mean meanSq : S8x128.Idx → EReal) (y : S8x128.Idx) :
    rstdOf (F := Ideal) mean meanSq y = Ideal.rsqrt (max (meanSq y - mean y * mean y) 0 + eps) := by
  have h : (Scalar.ofBits .f32 0x00000000#32 : Ideal .f32) = (0 : EReal) := Ideal.ofBits_zero_f32
  rw [← h]
  rfl

/-! ## The tables -/

section Tables

variable (V : Vals Ideal) (c : Dev nD) (tyN : ℕ → BitVec 32) (xN : ℕ → ℕ → EReal) (hs : Sorted tyN 320000)
variable (h0 : ∀ y : S100x1x3200.Idx, V c main_v0 y = tyN ((y 0).val * 3200 + (y 2).val))
variable (hx : ∀ y : S320000x128.Idx, V c main_arg0 y = xN (y 0).val (y 1).val)

include hs h0 in
theorem count_total (t : Fin 8) : countOf (F := Ideal) (cntBuf tyN) (statC V c 44) (ValueIdx.ix2 t (0 : Fin 1)) = cntT tyN t.val := by
  rw [countOf_ideal, statC_ideal V c tyN h0 t 0 44 (le_refl _)]
  refine congrArg (max · 1) (Eq.trans ?_ (all_rows fun r => if (tyN r).toNat = t.val then (1 : EReal) else 0))
  refine congrArg (· + _) (Finset.sum_congr rfl fun w _ => ?_)
  exact wCnt_ideal tyN w.val (hs.tile w) t.val t.isLt

include hs h0 hx in
theorem mean_total (t : Fin 8) (j : Fin 128) :
    meanOf (F := Ideal) (sumBuf tyN xN) (statS V c 44) (countOf (F := Ideal) (cntBuf tyN) (statC V c 44)) (ValueIdx.ix2 t j) = meanT tyN (fun r => xN r j.val) t.val := by
  rw [meanOf_ideal, count_total V c tyN hs h0 t, statS_ideal V c tyN xN h0 hx t j 44 (le_refl _)]
  have e : (∑ w : Fin 32, sumBuf (F := Ideal) tyN xN (ValueIdx.ix3 w t j) : EReal)
      = ∑ w : Fin 32, ∑ r ∈ Finset.range 5600, if (tyN (w.val * 5600 + r)).toNat = t.val then xN (w.val * 5600 + r) j.val else 0 :=
    Finset.sum_congr rfl fun w _ => wSum_ideal tyN xN w.val (hs.tile w) t.val j.val t.isLt
  unfold meanT
  rw [e, tot_split tyN (fun r => xN r j.val)]

include hs h0 hx in
theorem meanSq_total (t : Fin 8) (j : Fin 128) :
    meanOf (F := Ideal) (sumBuf tyN (sqr (F := Ideal) xN)) (statQ V c 44) (countOf (F := Ideal) (cntBuf tyN) (statC V c 44)) (ValueIdx.ix2 t j)
      = meanT tyN (fun r => xN r j.val * xN r j.val) t.val := by
  rw [meanOf_ideal, count_total V c tyN hs h0 t, statQ_ideal V c tyN xN h0 hx t j 44 (le_refl _)]
  have e : (∑ w : Fin 32, sumBuf (F := Ideal) tyN (sqr (F := Ideal) xN) (ValueIdx.ix3 w t j) : EReal)
      = ∑ w : Fin 32, ∑ r ∈ Finset.range 5600, if (tyN (w.val * 5600 + r)).toNat = t.val then xN (w.val * 5600 + r) j.val * xN (w.val * 5600 + r) j.val else 0 :=
    Finset.sum_congr rfl fun w _ => wSum_ideal tyN (sqr (F := Ideal) xN) w.val (hs.tile w) t.val j.val t.isLt
  unfold meanT
  rw [e, tot_split tyN (fun r => xN r j.val * xN r j.val)]

end Tables

/-- What the kernel leaves, of a memory whose types are sorted. -/
theorem norm_total (V V' : Vals Ideal) (c : Dev nD) (tyN : ℕ → BitVec 32) (xN : ℕ → ℕ → EReal) (hs : Sorted tyN 320000)
    (h0 : ∀ y : S100x1x3200.Idx, V c main_v0 y = tyN ((y 0).val * 3200 + (y 2).val)) (hx : ∀ y : S320000x128.Idx, V c main_arg0 y = xN (y 0).val (y 1).val)
    (h3 : ∀ y : S16x1x20000.Idx, V' c main_v3 y = tyN ((y 0).val * 20000 + (y 2).val)) (hx' : ∀ y : S320000x128.Idx, V' c main_arg0 y = xN (y 0).val (y 1).val)
    (e0 : V' c main_v1_0 = sumBuf (F := Ideal) tyN xN) (e1 : V' c main_v1_1 = sumBuf (F := Ideal) tyN (sqr (F := Ideal) xN)) (eC : V' c main_v1_2 = cntBuf (F := Ideal) tyN)
    (g0 : V' c main_v2_0 = statS V c 44) (g1 : V' c main_v2_1 = statQ V c 44) (gC : V' c main_v2_2 = statC V c 44) (r : Fin 320000) (j : Fin 128) :
    normAll V' c (ValueIdx.ix2 r j) = (xN r.val j.val - meanT tyN (fun r => xN r j.val) (tyN r.val).toNat) * Ideal.rsqrt (varT tyN (fun r => xN r j.val) (tyN r.val).toNat) := by
  have hm : ∀ (t : Fin 8), MEAN V' c (ValueIdx.ix2 t j) = meanT tyN (fun r => xN r j.val) t.val := fun t => by
    unfold MEAN; rw [e0, eC, g0, gC]; exact mean_total V c tyN xN hs h0 hx t j
  have hr : ∀ (t : Fin 8), RSTD V' c (ValueIdx.ix2 t j) = Ideal.rsqrt (varT tyN (fun r => xN r j.val) t.val) := fun t => by
    unfold RSTD
    rw [rstdOf_ideal, hm t, e1, eC, g1, gC, meanSq_total V c tyN xN hs h0 hx t j]
    rfl
  have hq : r.val / 20000 * 20000 + r.val % 20000 = r.val := by omega
  have hN : r.val / 20000 < cfg2.N := by rw [show cfg2.N = 16 from Gen.N_2]; have := r.isLt; omega
  have ht : ty2 V' c ⟨r.val / 20000, hN⟩ (ValueIdx.ix3 (0 : Fin 1) (0 : Fin 1) ⟨r.val % 20000, Nat.mod_lt _ (by norm_num)⟩) = tyN r.val := by
    rw [ty2_at V' c tyN h3]; show tyN (r.val / 20000 * 20000 + r.val % 20000) = _; rw [hq]
  have hx2 : x2 V' c ⟨r.val / 20000, hN⟩ (ValueIdx.ix2 ⟨r.val % 20000, Nat.mod_lt _ (by norm_num)⟩ j) = xN r.val j.val := by
    rw [x2_at V' c xN hx']; show xN (r.val / 20000 * 20000 + r.val % 20000) j.val = _; rw [hq]
  have hl : (tyN r.val).toNat < 8 := hs.lt r.val r.isLt
  unfold normAll
  refine (normed_ideal _ _ _ _ ⟨r.val % 20000, Nat.mod_lt _ (by norm_num)⟩ j (lt_of_eq_of_lt (congrArg BitVec.toNat ht) hl)).trans ?_
  rw [hm, hr]
  refine congrArg₂ (fun a b : EReal => a * b) ?_ ?_
  · refine congrArg₂ (fun a b : EReal => a - b) hx2 ?_
    exact congrArg (meanT tyN _) (congrArg BitVec.toNat ht)
  · exact congrArg (fun n => Ideal.rsqrt (varT tyN _ n)) (congrArg BitVec.toNat ht)

end Cert.Proof

end
-- ==== Proof.KernelValue.lean ====
/-
  What the kernel leaves, as the means and the variances of the types, of a memory whose types are sorted.
-/
module

public import proofs.«01_k».proof.Proof.Main
public import proofs.«01_k».proof.Proof.KernelSums

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Memory

variable (m : (ℓ : Loc nD τ sig) → Buf (Elt Ideal) ℓ) (c : Dev nD)

/-- The rows of the memory, as numbers. -/
abbrev rowsOf : ℕ → ℕ → EReal := rowsN (m (xLoc c))
/-- The types of the memory. -/
abbrev typesOf : ℕ → BitVec 32 := typesN (m (tLoc c))

theorem V2_types (y : S100x1x3200.Idx) : V2 m c main_v0 y = typesN (m (tLoc c)) ((y 0).val * 3200 + (y 2).val) := by
  have e : V2 m c main_v0 = (op0 (F := Ideal)).result (M m c) (Proc.devRef .tc main_v0) := by
    rw [V2_ne m c main_v0 (by decide) (by decide) (by decide)]; exact Function.update_self _ _ _
  have h0 := (y 0).isLt
  have h2 := (y 2).isLt
  change (y 0).val < 100 at h0
  change (y 2).val < 3200 at h2
  have h1 : (y 1).val = 0 := by have := (y 1).isLt; change (y 1).val < 1 at this; omega
  have hlt : (y 0).val * 3200 + (y 2).val < 320000 := by omega
  rw [e]
  unfold op0
  rw [StableHlo.reshape_result]
  refine (shapeCast_apply (t := S100x1x3200) _ _ y (ValueIdx.ix1 (⟨(y 0).val * 3200 + (y 2).val, hlt⟩ : Fin 320000)) ?_).trans ?_
  · rw [Shape.rowMajor_val_one, Shape.rowMajor_val_three]
    show (y 0).val * 3200 + (y 2).val = ((y 0).val * 1 + (y 1).val) * 3200 + (y 2).val
    rw [h1]; omega
  · exact (typesN_apply (m (tLoc c)) (ValueIdx.ix1 (⟨(y 0).val * 3200 + (y 2).val, hlt⟩ : Fin 320000))).symm

theorem V4_types (y : S16x1x20000.Idx) : V4 m c main_v3 y = typesN (m (tLoc c)) ((y 0).val * 20000 + (y 2).val) := by
  have h0 := (y 0).isLt
  have h2 := (y 2).isLt
  change (y 0).val < 16 at h0
  change (y 2).val < 20000 at h2
  have h1 : (y 1).val = 0 := by have := (y 1).isLt; change (y 1).val < 1 at this; omega
  have hlt : (y 0).val * 20000 + (y 2).val < 320000 := by omega
  rw [V4_v3]
  unfold op3
  rw [StableHlo.reshape_result]
  refine (shapeCast_apply (t := S16x1x20000) _ _ y (ValueIdx.ix1 (⟨(y 0).val * 20000 + (y 2).val, hlt⟩ : Fin 320000)) ?_).trans ?_
  · rw [Shape.rowMajor_val_one, Shape.rowMajor_val_three]
    show (y 0).val * 20000 + (y 2).val = ((y 0).val * 1 + (y 1).val) * 20000 + (y 2).val
    rw [h1]; omega
  · exact (typesN_apply (m (tLoc c)) (ValueIdx.ix1 (⟨(y 0).val * 20000 + (y 2).val, hlt⟩ : Fin 320000))).symm

theorem V2_rows (y : S320000x128.Idx) : V2 m c main_arg0 y = rowsN (m (xLoc c)) (y 0).val (y 1).val := by
  rw [V2_ne m c main_arg0 (by decide) (by decide) (by decide), V1_ne m c main_arg0 (by decide)]
  exact (rowsN_apply (m (xLoc c)) y).symm

theorem V4_rows (y : S320000x128.Idx) : V4 m c main_arg0 y = rowsN (m (xLoc c)) (y 0).val (y 1).val := by
  rw [V4_ne m c main_arg0 (by decide), V3_ne m c main_arg0 (by decide) (by decide) (by decide)]
  exact V2_rows m c y

/-- What the program leaves at a row and a lane. -/
theorem kernel_value (hs : Sorted (typesOf m c) 320000) (r : Fin 320000) (j : Fin 128) :
    normAll (V4 m) c (ValueIdx.ix2 r j)
      = (rowsOf m c r.val j.val
          - meanT (typesOf m c) (fun r => rowsOf m c r j.val) (typesOf m c r.val).toNat)
        * Ideal.rsqrt (varT (typesOf m c) (fun r => rowsOf m c r j.val) (typesOf m c r.val).toNat) := by
  refine norm_total (V2 m) (V4 m) c (typesOf m c) (rowsOf m c) hs (V2_types m c) (V2_rows m c) (V4_types m c) (V4_rows m c)
    ?_ ?_ ?_ ?_ ?_ ?_ r j
  · rw [V4_ne m c main_v1_0 (by decide), V3_ne m c main_v1_0 (by decide) (by decide) (by decide), V2_0]
  · rw [V4_ne m c main_v1_1 (by decide), V3_ne m c main_v1_1 (by decide) (by decide) (by decide), V2_1]
  · rw [V4_ne m c main_v1_2 (by decide), V3_ne m c main_v1_2 (by decide) (by decide) (by decide), V2_2]
  · rw [V4_ne m c main_v2_0 (by decide)]; exact left1_0 (V2 m) c
  · rw [V4_ne m c main_v2_1 (by decide)]; exact left1_1 (V2 m) c
  · rw [V4_ne m c main_v2_2 (by decide)]; exact left1_2 (V2 m) c

end Memory

end Cert.Proof

end
-- ==== Proof.Precondition.lean ====
/-
  What the precondition says of the types: each is below eight, and they are in order.
-/
module

public import proofs.«01_k».proof.Proof.Deal
public import proofs.«01_k».proof.Proof.TileSums
public import proofs.«01_k».proof.Proof.Gen.Pre_sorted_types
public import Idealize.ShloMosaic.Lib.ReduceAll
public import proofs.«01_k».proof.Defs

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The one index of a vector of no axes. -/
theorem no_axes (i j : Cert.Pre_sorted_types.S_.Idx) : i = j := funext fun a => a.elim0

theorem fn_all (x : FVec Ideal S320000x128 .f32) (t : IVec S320000 32) (h : Cert.Pre_sorted_types.fn (F := Ideal) x t = fun _ => 1#1) :
    (∀ r : Fin 320000, 0 ≤ (t (ValueIdx.ix1 r)).toInt ∧ (t (ValueIdx.ix1 r)).toInt < 8)
      ∧ ∀ (r : ℕ) (hr : r + 1 < 320000), (t (ValueIdx.ix1 (⟨r, by omega⟩ : Fin 320000))).toInt ≤ (t (ValueIdx.ix1 (⟨r + 1, hr⟩ : Fin 320000))).toInt := by
  haveI : Subsingleton Cert.Pre_sorted_types.S_.Idx := ⟨no_axes⟩
  have e := congrFun h (fun a => a.elim0)
  obtain ⟨e1, e2⟩ := IntOp.andi_eq_one.1 e
  obtain ⟨e3, e4⟩ := IntOp.andi_eq_one.1 e1
  refine ⟨fun r => ⟨?_, ?_⟩, fun r hr => ?_⟩
  · have q := Host.reduce_andi_all _ _ _ _ _ e3 (ValueIdx.ix1 r)
    exact IntOp.cmpi_sge.1 q
  · have q := Host.reduce_andi_all _ _ _ _ _ e4 (ValueIdx.ix1 r)
    exact IntOp.cmpi_slt.1 q
  · have q := Host.reduce_andi_all _ _ _ _ _ e2 (ValueIdx.ix1 (⟨r, by omega⟩ : Fin 319999))
    have q' := IntOp.cmpi_sle.1 q
    have i0 : ∀ (h : S320000.Slices ![0] Cert.Pre_sorted_types.S319999), extractStridedSlice Cert.Pre_sorted_types.S319999 ![0] t h (ValueIdx.ix1 (⟨r, by omega⟩ : Fin 319999)) = t (ValueIdx.ix1 (⟨r, by omega⟩ : Fin 320000)) := fun h =>
      congrArg t (funext fun a => Fin.ext (by match a with | 0 => exact Nat.zero_add _))
    have i1 : ∀ (h : S320000.Slices ![1] Cert.Pre_sorted_types.S319999), extractStridedSlice Cert.Pre_sorted_types.S319999 ![1] t h (ValueIdx.ix1 (⟨r, by omega⟩ : Fin 319999)) = t (ValueIdx.ix1 (⟨r + 1, hr⟩ : Fin 320000)) := fun h =>
      congrArg t (funext fun a => Fin.ext (by match a with | 0 => exact Nat.add_comm _ _))
    beta_reduce at q'
    rw [i0, i1] at q'
    exact q'

/-- A word that reads between zero and eight as a signed number is below eight as a natural one. -/
theorem small_word (w : BitVec 32) (h0 : 0 ≤ w.toInt) (h8 : w.toInt < 8) : w.toNat < 8 ∧ w.toInt = (w.toNat : ℤ) := by
  have hw := w.isLt
  rw [BitVec.toInt_eq_toNat_cond] at h0 h8 ⊢
  split at h0 <;> rename_i hc
  · rw [if_pos hc] at h8 ⊢; exact ⟨by omega, rfl⟩
  · omega

/-- The types of a memory the precondition holds of are below eight and in order. -/
theorem sorted_of_pre (m : (ℓ : Loc nD τ sig) → Buf (Elt Ideal) ℓ) (h : Cert.Pre_KernelIdeal_sorted_types m) (c : Dev nD) :
    Sorted (typesN (m (tLoc c))) 320000 := by
  obtain ⟨h1, h2⟩ := fn_all (m (xLoc c)) (m (tLoc c)) (h c)
  have hv : ∀ r (hr : r < 320000), typesN (m (tLoc c)) r = m (tLoc c) (ValueIdx.ix1 (⟨r, hr⟩ : Fin 320000)) := fun r hr =>
    typesN_apply (m (tLoc c)) (ValueIdx.ix1 (⟨r, hr⟩ : Fin 320000))
  have hw : ∀ r, r < 320000 → (typesN (m (tLoc c)) r).toNat < 8 ∧ (typesN (m (tLoc c)) r).toInt = ((typesN (m (tLoc c)) r).toNat : ℤ) := fun r hr => by
    rw [hv r hr]; exact small_word _ (h1 ⟨r, hr⟩).1 (h1 ⟨r, hr⟩).2
  have hstep : ∀ r, r + 1 < 320000 → (typesN (m (tLoc c)) r).toNat ≤ (typesN (m (tLoc c)) (r + 1)).toNat := fun r hr => by
    have q := h2 r hr
    rw [← hv r (by omega), ← hv (r + 1) hr, (hw r (by omega)).2, (hw (r + 1) hr).2] at q
    exact_mod_cast q
  refine ⟨fun r hr => (hw r hr).1, fun a b hab => ?_⟩
  induction b, hab using Nat.le_induction with
  | base => intro _; exact le_refl _
  | succ b _ ih => intro hb; exact (ih (by omega)).trans (hstep b hb)

end Cert.Proof

end
-- ==== Proof.RefScatter.lean ====
/-
  Where the updates of the reference's scatters land, and what its gathers read.
-/
module

public import proofs.«01_k».proof.Proof.KernelSums
public import proofs.«01_k».proof.Proof.Gen.ReferenceIdeal.Run
public import Idealize.ShloMosaic.Lib.Pointwise.Index

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Landing

open Cert.ReferenceIdeal (scatter_S8x128_S320000x1_S320000x128_1_0_0_1 scatter_S8_S320000x1_S320000_n_0_0_1 gather_S8x128_S320000x1_S320000x128_1_0_n_n_0_1_1128)

variable (idx : IVec Cert.ReferenceIdeal.S320000x1 32)

theorem rows_start0 (i : Fin 320000) (j : Fin 128) :
    scatter_S8x128_S320000x1_S320000x128_1_0_0_1.start (ValueIdx.ix2 i j) idx 0 = (idx (ValueIdx.ix2 i (0 : Fin 1))).toInt := by
  have e : ∀ h, scatter_S8x128_S320000x1_S320000x128_1_0_0_1.siIdx (ValueIdx.ix2 i j) ⟨0, h⟩ = ValueIdx.ix2 i (0 : Fin 1) := fun h => by
    funext b
    match b with
    | 0 => rfl
    | 1 => rfl
  exact congrArg (fun y => (idx y).toInt) (e (by decide))

theorem rows_start1 (i : Fin 320000) (j : Fin 128) :
    scatter_S8x128_S320000x1_S320000x128_1_0_0_1.start (ValueIdx.ix2 i j) idx 1 = 0 := rfl

theorem rows_window0 (i : Fin 320000) (j : Fin 128) :
    scatter_S8x128_S320000x1_S320000x128_1_0_0_1.window (ValueIdx.ix2 i j) 0 = 0 := rfl

theorem rows_window1 (i : Fin 320000) (j : Fin 128) :
    scatter_S8x128_S320000x1_S320000x128_1_0_0_1.window (ValueIdx.ix2 i j) 1 = j.val := rfl

theorem rows_lands (i : Fin 320000) (j : Fin 128) (t : Fin 8) (k : Fin 128) :
    scatter_S8x128_S320000x1_S320000x128_1_0_0_1.resultIdx? (ValueIdx.ix2 i j) idx = some (ValueIdx.ix2 t k)
      ↔ (idx (ValueIdx.ix2 i (0 : Fin 1))).toInt = (t.val : ℤ) ∧ j = k := by
  have s0 := rows_start0 idx i j
  have s1 := rows_start1 idx i j
  have w0 := rows_window0 i j
  have w1 := rows_window1 i j
  have ht := t.isLt
  have hj := j.isLt
  unfold ScatterDims.resultIdx?
  constructor
  · intro e
    split at e
    · next h =>
      have h0 := h 0
      have f := Option.some.inj e
      have f0 : (scatter_S8x128_S320000x1_S320000x128_1_0_0_1.start (ValueIdx.ix2 i j) idx 0 + (scatter_S8x128_S320000x1_S320000x128_1_0_0_1.window (ValueIdx.ix2 i j) 0 : ℤ)).toNat = t.val :=
        congrArg Fin.val (congrFun f 0)
      have f1 : (scatter_S8x128_S320000x1_S320000x128_1_0_0_1.start (ValueIdx.ix2 i j) idx 1 + (scatter_S8x128_S320000x1_S320000x128_1_0_0_1.window (ValueIdx.ix2 i j) 1 : ℤ)).toNat = k.val :=
        congrArg Fin.val (congrFun f 1)
      rw [s0, w0] at h0 f0
      rw [s1, w1] at f1
      exact ⟨by omega, Fin.ext (by omega)⟩
    · cases e
  · rintro ⟨e, rfl⟩
    rw [dif_pos fun a => by
      match a with
      | 0 =>
        show 0 ≤ scatter_S8x128_S320000x1_S320000x128_1_0_0_1.start (ValueIdx.ix2 i j) idx 0 + (scatter_S8x128_S320000x1_S320000x128_1_0_0_1.window (ValueIdx.ix2 i j) 0 : ℤ)
          ∧ scatter_S8x128_S320000x1_S320000x128_1_0_0_1.start (ValueIdx.ix2 i j) idx 0 + (scatter_S8x128_S320000x1_S320000x128_1_0_0_1.window (ValueIdx.ix2 i j) 0 : ℤ) < 8
        rw [s0, w0]; omega
      | 1 =>
        show 0 ≤ scatter_S8x128_S320000x1_S320000x128_1_0_0_1.start (ValueIdx.ix2 i j) idx 1 + (scatter_S8x128_S320000x1_S320000x128_1_0_0_1.window (ValueIdx.ix2 i j) 1 : ℤ)
          ∧ scatter_S8x128_S320000x1_S320000x128_1_0_0_1.start (ValueIdx.ix2 i j) idx 1 + (scatter_S8x128_S320000x1_S320000x128_1_0_0_1.window (ValueIdx.ix2 i j) 1 : ℤ) < 128
        rw [s1, w1]; omega]
    refine congrArg some (funext fun a => Fin.ext ?_)
    match a with
    | 0 =>
      show (scatter_S8x128_S320000x1_S320000x128_1_0_0_1.start (ValueIdx.ix2 i j) idx 0 + (scatter_S8x128_S320000x1_S320000x128_1_0_0_1.window (ValueIdx.ix2 i j) 0 : ℤ)).toNat = t.val
      rw [s0, w0]; omega
    | 1 =>
      show (scatter_S8x128_S320000x1_S320000x128_1_0_0_1.start (ValueIdx.ix2 i j) idx 1 + (scatter_S8x128_S320000x1_S320000x128_1_0_0_1.window (ValueIdx.ix2 i j) 1 : ℤ)).toNat = j.val
      rw [s1, w1]; omega

theorem ones_start (i : Fin 320000) :
    scatter_S8_S320000x1_S320000_n_0_0_1.start (ValueIdx.ix1 i) idx 0 = (idx (ValueIdx.ix2 i (0 : Fin 1))).toInt := by
  have e : ∀ h, scatter_S8_S320000x1_S320000_n_0_0_1.siIdx (ValueIdx.ix1 i) ⟨0, h⟩ = ValueIdx.ix2 i (0 : Fin 1) := fun h => by
    funext b
    match b with
    | 0 => rfl
    | 1 => rfl
  exact congrArg (fun y => (idx y).toInt) (e (by decide))

theorem ones_lands (i : Fin 320000) (t : Fin 8) :
    scatter_S8_S320000x1_S320000_n_0_0_1.resultIdx? (ValueIdx.ix1 i) idx = some (ValueIdx.ix1 t)
      ↔ (idx (ValueIdx.ix2 i (0 : Fin 1))).toInt = (t.val : ℤ) := by
  have s0 := ones_start idx i
  have w0 : scatter_S8_S320000x1_S320000_n_0_0_1.window (ValueIdx.ix1 i) 0 = 0 := rfl
  have ht := t.isLt
  unfold ScatterDims.resultIdx?
  constructor
  · intro e
    split at e
    · next h =>
      have h0 := h 0
      have f0 : (scatter_S8_S320000x1_S320000_n_0_0_1.start (ValueIdx.ix1 i) idx 0 + (scatter_S8_S320000x1_S320000_n_0_0_1.window (ValueIdx.ix1 i) 0 : ℤ)).toNat = t.val :=
        congrArg Fin.val (congrFun (Option.some.inj e) 0)
      rw [s0, w0] at h0 f0
      omega
    · cases e
  · intro e
    rw [dif_pos fun a => by
      match a with
      | 0 =>
        show 0 ≤ scatter_S8_S320000x1_S320000_n_0_0_1.start (ValueIdx.ix1 i) idx 0 + (scatter_S8_S320000x1_S320000_n_0_0_1.window (ValueIdx.ix1 i) 0 : ℤ)
          ∧ scatter_S8_S320000x1_S320000_n_0_0_1.start (ValueIdx.ix1 i) idx 0 + (scatter_S8_S320000x1_S320000_n_0_0_1.window (ValueIdx.ix1 i) 0 : ℤ) < 8
        rw [s0, w0]; omega]
    refine congrArg some (funext fun a => Fin.ext ?_)
    match a with
    | 0 =>
      show (scatter_S8_S320000x1_S320000_n_0_0_1.start (ValueIdx.ix1 i) idx 0 + (scatter_S8_S320000x1_S320000_n_0_0_1.window (ValueIdx.ix1 i) 0 : ℤ)).toNat = t.val
      rw [s0, w0]; omega

/-- The sum of one type over the rows, as a sum over all rows. -/
theorem tot_fin (tyN : ℕ → BitVec 32) (g : ℕ → EReal) (t : ℕ) : tot tyN g t = ∑ i : Fin 320000, if (tyN i.val).toNat = t then g i.val else 0 :=
  Finset.sum_range fun r => if (tyN r).toNat = t then g r else 0

variable (tyN : ℕ → BitVec 32) (hlt : ∀ i : Fin 320000, (tyN i.val).toNat < 8) (hidx : ∀ i : Fin 320000, idx (ValueIdx.ix2 i (0 : Fin 1)) = tyN i.val)

include hlt hidx in
theorem word_iff (i : Fin 320000) (t : Fin 8) : (idx (ValueIdx.ix2 i (0 : Fin 1))).toInt = (t.val : ℤ) ↔ (tyN i.val).toNat = t.val := by
  have h := hlt i
  rw [hidx i, BitVec.toInt_eq_toNat_of_lt (by omega)]
  exact Nat.cast_inj

include hlt hidx in
/-- The sums of one type the reference scatters. -/
theorem rows_total (base : FVec Ideal Cert.ReferenceIdeal.S8x128 .f32) (upd : FVec Ideal Cert.ReferenceIdeal.S320000x128 .f32) (g : ℕ → ℕ → EReal)
    (hb : ∀ y, base y = (0 : EReal)) (hg : ∀ (i : Fin 320000) (k : Fin 128), upd (ValueIdx.ix2 i k) = g i.val k.val) (t : Fin 8) (k : Fin 128) :
    Host.scatterAdd (F := Ideal) scatter_S8x128_S320000x1_S320000x128_1_0_0_1 base idx upd (ValueIdx.ix2 t k) = tot tyN (fun r => g r k.val) t.val := by
  show (base (ValueIdx.ix2 t k) + ∑ y ∈ Finset.univ.filter (fun y => scatter_S8x128_S320000x1_S320000x128_1_0_0_1.resultIdx? y idx = some (ValueIdx.ix2 t k)), upd y : EReal) = _
  rw [hb, zero_add, Finset.sum_filter, tot_fin]
  refine (ValueIdx.sum_idx2 _).trans (Finset.sum_congr rfl fun i _ => ?_)
  have e : ∀ j : Fin 128, (if scatter_S8x128_S320000x1_S320000x128_1_0_0_1.resultIdx? (ValueIdx.ix2 i j) idx = some (ValueIdx.ix2 t k) then (upd (ValueIdx.ix2 i j) : EReal) else 0)
      = if j = k then (if (tyN i.val).toNat = t.val then g i.val k.val else 0) else 0 := fun j => by
    by_cases hj : j = k
    · subst hj
      rw [if_pos rfl, ← hg]
      exact if_congr ((rows_lands idx i j t j).trans ((and_iff_left rfl).trans (word_iff idx tyN hlt hidx i t))) rfl rfl
    · rw [if_neg hj, if_neg fun q => hj ((rows_lands idx i j t k).1 q).2]
  refine (Finset.sum_congr rfl fun j _ => e j).trans ?_
  rw [Finset.sum_ite_eq' Finset.univ k, if_pos (Finset.mem_univ k)]

include hlt hidx in
/-- The number of rows of one type the reference scatters. -/
theorem ones_total (base : FVec Ideal Cert.ReferenceIdeal.S8 .f32) (upd : FVec Ideal Cert.ReferenceIdeal.S320000 .f32)
    (hb : ∀ y, base y = (0 : EReal)) (hg : ∀ y, upd y = (1 : EReal)) (t : Fin 8) :
    Host.scatterAdd (F := Ideal) scatter_S8_S320000x1_S320000_n_0_0_1 base idx upd (ValueIdx.ix1 t) = tot tyN (fun _ => 1) t.val := by
  show (base (ValueIdx.ix1 t) + ∑ y ∈ Finset.univ.filter (fun y => scatter_S8_S320000x1_S320000_n_0_0_1.resultIdx? y idx = some (ValueIdx.ix1 t)), upd y : EReal) = _
  rw [hb, zero_add, Finset.sum_filter, tot_fin]
  refine (Idealize.ShloMosaic.sum_idx1 _).trans (Finset.sum_congr rfl fun i _ => ?_)
  rw [hg]
  exact if_congr ((ones_lands idx i t).trans (word_iff idx tyN hlt hidx i t)) rfl rfl

include hlt hidx in
/-- The row of the table the reference gathers. -/
theorem rows_gather {α : Type} (x : Cert.ReferenceIdeal.S8x128.Idx → α) (i : Fin 320000) (k : Fin 128) :
    Host.gather gather_S8x128_S320000x1_S320000x128_1_0_n_n_0_1_1128 x idx (ValueIdx.ix2 i k) = x (ValueIdx.ix2 (⟨(tyN i.val).toNat, hlt i⟩ : Fin 8) k) := by
  have h := hlt i
  have e : ∀ h, gather_S8x128_S320000x1_S320000x128_1_0_n_n_0_1_1128.siIdx (ValueIdx.ix2 i k) ⟨0, h⟩ = ValueIdx.ix2 i (0 : Fin 1) := fun h => by
    funext b
    match b with
    | 0 => rfl
    | 1 => rfl
  have hs : gather_S8x128_S320000x1_S320000x128_1_0_n_n_0_1_1128.start (ValueIdx.ix2 i k) idx 0 = min (idx (ValueIdx.ix2 i (0 : Fin 1))).toInt.toNat 7 :=
    congrArg (fun y => min (idx y).toInt.toNat 7) (e (by decide))
  have hs1 : gather_S8x128_S320000x1_S320000x128_1_0_n_n_0_1_1128.start (ValueIdx.ix2 i k) idx 1 = 0 := rfl
  unfold Host.gather
  refine congrArg x (funext fun a => Fin.ext ?_)
  match a with
  | 0 =>
    show gather_S8x128_S320000x1_S320000x128_1_0_n_n_0_1_1128.start (ValueIdx.ix2 i k) idx 0 + 0 + 0 = (tyN i.val).toNat
    rw [hs, hidx i, BitVec.toInt_eq_toNat_of_lt (by omega), Int.toNat_natCast]
    omega
  | 1 =>
    show gather_S8x128_S320000x1_S320000x128_1_0_n_n_0_1_1128.start (ValueIdx.ix2 i k) idx 1 + 0 + k.val = k.val
    rw [hs1, Nat.zero_add]

end Landing

end Cert.Proof

end
-- ==== Proof.RefValue.lean ====
/-
  What the reference leaves, as the means and the variances of the types, of types below eight.
-/
module

public import proofs.«01_k».proof.Proof.RefScatter
public import Idealize.ShloMosaic.Lib.ReduceAll
public import Idealize.ShloMosaic.Lib.IdealHost

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Terms

open Cert.ReferenceIdeal (scatter_S8x128_S320000x1_S320000x128_1_0_0_1 scatter_S8_S320000x1_S320000_n_0_0_1 gather_S8x128_S320000x1_S320000x128_1_0_n_n_0_1_1128)
open Cert.ReferenceIdeal.Facts₀
open Cert.ReferenceIdeal.Facts

/-- The types as a column. -/
def refCol (t : IVec Cert.ReferenceIdeal.S320000 32) : IVec Cert.ReferenceIdeal.S320000x1 32 :=
  broadcastInDim Cert.ReferenceIdeal.S320000x1 ![0] bcast_S320000_S320000x1_0 t

/-- The types, a negative one moved up by eight. -/
def refWrap (t : IVec Cert.ReferenceIdeal.S320000 32) : IVec Cert.ReferenceIdeal.S320000 32 :=
  select (cmpi .slt t (broadcastInDim Cert.ReferenceIdeal.S320000 ![] bcast_S_S320000 (constantI Cert.ReferenceIdeal.S_ 32 0#32)))
    (addi t (broadcastInDim Cert.ReferenceIdeal.S320000 ![] bcast_S_S320000 (constantI Cert.ReferenceIdeal.S_ 32 8#32))) t

/-- The mark of the rows whose type is a row of the table. -/
def refMark (idx : IVec Cert.ReferenceIdeal.S320000x1 32) : IVec Cert.ReferenceIdeal.S320000x128 1 :=
  broadcastInDim Cert.ReferenceIdeal.S320000x128 ![0] bcast_S320000_S320000x128_0 (Host.reduce IntOp.andi
    (andi (cmpi .sge idx (broadcastInDim Cert.ReferenceIdeal.S320000x1 ![] bcast_S_S320000x1 (constantI Cert.ReferenceIdeal.S_ 32 0#32)))
      (cmpi .sle idx (broadcastInDim Cert.ReferenceIdeal.S320000x1 ![0, 1] bcast_S1x1_S320000x1_0_1 (broadcastInDim Cert.ReferenceIdeal.S1x1 ![1] bcast_S1_S1x1_1 (constantI Cert.ReferenceIdeal.S1 32 7#32)))))
    (constantI Cert.ReferenceIdeal.S_ 1 1#1) reducesTo_S320000x1_S320000_d1 h_S_)

/-- A table's rows, one for each type. -/
def refTake (tab : FVec Ideal Cert.ReferenceIdeal.S8x128 .f32) (t : IVec Cert.ReferenceIdeal.S320000 32) : FVec Ideal Cert.ReferenceIdeal.S320000x128 .f32 :=
  select (refMark (refCol (refWrap t))) (Host.gather gather_S8x128_S320000x1_S320000x128_1_0_n_n_0_1_1128 tab (refCol (refWrap t)))
    (broadcastInDim Cert.ReferenceIdeal.S320000x128 ![] bcast_S_S320000x128 (constant Cert.ReferenceIdeal.S_ .f32 0x7FC00000#32))

/-- The sizes of the types, one at least, on every lane. -/
def refCount (t : IVec Cert.ReferenceIdeal.S320000 32) : FVec Ideal Cert.ReferenceIdeal.S8x128 .f32 :=
  broadcastInDim Cert.ReferenceIdeal.S8x128 ![0, 1] bcast_S8x1_S8x128_0_1 (broadcastInDim Cert.ReferenceIdeal.S8x1 ![0] bcast_S8_S8x1_0
    (maximumf (Host.scatterAdd scatter_S8_S320000x1_S320000_n_0_0_1 (broadcastInDim Cert.ReferenceIdeal.S8 ![] bcast_S_S8 (constant Cert.ReferenceIdeal.S_ .f32 0x00000000#32)) (refCol t)
        (broadcastInDim Cert.ReferenceIdeal.S320000 ![] bcast_S_S320000 (constant Cert.ReferenceIdeal.S_ .f32 0x3F800000#32)))
      (broadcastInDim Cert.ReferenceIdeal.S8 ![] bcast_S_S8 (constant Cert.ReferenceIdeal.S_ .f32 0x3F800000#32))))

/-- The means of the types. -/
def refMean (x : FVec Ideal Cert.ReferenceIdeal.S320000x128 .f32) (t : IVec Cert.ReferenceIdeal.S320000 32) : FVec Ideal Cert.ReferenceIdeal.S8x128 .f32 :=
  Host.divf (Host.scatterAdd scatter_S8x128_S320000x1_S320000x128_1_0_0_1 (broadcastInDim Cert.ReferenceIdeal.S8x128 ![] bcast_S_S8x128 (constant Cert.ReferenceIdeal.S_ .f32 0x00000000#32)) (refCol t) x) (refCount t)

/-- The deviations of the types. -/
def refStd (x : FVec Ideal Cert.ReferenceIdeal.S320000x128 .f32) (t : IVec Cert.ReferenceIdeal.S320000 32) : FVec Ideal Cert.ReferenceIdeal.S8x128 .f32 :=
  Host.sqrt (addf (maximumf (broadcastInDim Cert.ReferenceIdeal.S8x128 ![] bcast_S_S8x128 (id (constant Cert.ReferenceIdeal.S_ .f32 0x00000000#32)))
      (subf (refMean (mulf x x) t) (mulf (refMean x t) (refMean x t))))
    (broadcastInDim Cert.ReferenceIdeal.S8x128 ![] bcast_S_S8x128 (constant Cert.ReferenceIdeal.S_ .f32 0x3727C5AC#32)))

theorem ref_term (m : (ℓ : Loc Cert.ReferenceIdeal.nD Cert.ReferenceIdeal.τ Cert.ReferenceIdeal.sig) → Buf (Elt Ideal) ℓ) (c : Dev Cert.ReferenceIdeal.nD) :
    Cert.ReferenceIdeal.Value.res_out0 (F := Ideal) m c
      = Host.divf (F := Ideal) (φ := .f32) (subf (m ((c.tc : Thread Cert.ReferenceIdeal.nD Cert.ReferenceIdeal.τ).loc Cert.ReferenceIdeal.main_arg0))
          (refTake (refMean (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)))
            (m ((c.tc : Thread Cert.ReferenceIdeal.nD Cert.ReferenceIdeal.τ).loc Cert.ReferenceIdeal.main_arg1))))
        (refTake (refStd (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)))
          (m ((c.tc : Thread Cert.ReferenceIdeal.nD Cert.ReferenceIdeal.τ).loc Cert.ReferenceIdeal.main_arg1))) := rfl

variable (x : FVec Ideal Cert.ReferenceIdeal.S320000x128 .f32) (t : IVec Cert.ReferenceIdeal.S320000 32) (tyN : ℕ → BitVec 32) (xN : ℕ → ℕ → EReal)
  (hlt : ∀ i : Fin 320000, (tyN i.val).toNat < 8) (ht : ∀ i : Fin 320000, t (ValueIdx.ix1 i) = tyN i.val)
  (hx : ∀ (i : Fin 320000) (k : Fin 128), x (ValueIdx.ix2 i k) = xN i.val k.val)

theorem bits_zero {s : Shape} (h : Cert.ReferenceIdeal.S_.BroadcastsInDim s ![]) (y : s.Idx) :
    (broadcastInDim s ![] h (constant Cert.ReferenceIdeal.S_ .f32 0x00000000#32 : FVec Ideal Cert.ReferenceIdeal.S_ .f32)) y = (0 : EReal) := Ideal.ofBits_zero_f32
theorem bits_one {s : Shape} (h : Cert.ReferenceIdeal.S_.BroadcastsInDim s ![]) (y : s.Idx) :
    (broadcastInDim s ![] h (constant Cert.ReferenceIdeal.S_ .f32 0x3F800000#32 : FVec Ideal Cert.ReferenceIdeal.S_ .f32)) y = (1 : EReal) := Ideal.ofBits_one_f32

theorem bits_eps {s : Shape} (h : Cert.ReferenceIdeal.S_.BroadcastsInDim s ![]) (y : s.Idx) :
    (broadcastInDim s ![] h (constant Cert.ReferenceIdeal.S_ .f32 0x3727C5AC#32 : FVec Ideal Cert.ReferenceIdeal.S_ .f32)) y = eps := rfl

theorem mul_at {s : Shape} (a b : FVec Ideal s .f32) (y : s.Idx) : mulf a b y = ((a y : EReal) * b y : EReal) := rfl
theorem sub_at {s : Shape} (a b : FVec Ideal s .f32) (y : s.Idx) : subf a b y = ((a y : EReal) - b y : EReal) := rfl
theorem std_at {s : Shape} (z q u e : FVec Ideal s .f32) (y : s.Idx) :
    Host.sqrt (addf (maximumf z (subf q (mulf u u))) e) y = Ideal.sqrt (max (z y : EReal) ((q y : EReal) - (u y : EReal) * (u y : EReal)) + (e y : EReal)) := rfl

theorem refCol_apply (v : IVec Cert.ReferenceIdeal.S320000 32) (i : Fin 320000) : refCol v (ValueIdx.ix2 i (0 : Fin 1)) = v (ValueIdx.ix1 i) :=
  broadcastInDim_apply _ _ v _ (ValueIdx.ix1 i) fun a => by match a with | 0 => rfl

include hlt ht in
theorem refWrap_eq : refWrap t = t := by
  funext y
  obtain ⟨i, rfl⟩ : ∃ i : Fin 320000, y = ValueIdx.ix1 i := ⟨y 0, funext fun a => by match a with | 0 => rfl⟩
  have h := hlt i
  have e : (cmpi .slt t (broadcastInDim Cert.ReferenceIdeal.S320000 ![] bcast_S_S320000 (constantI Cert.ReferenceIdeal.S_ 32 0#32))) (ValueIdx.ix1 i) ≠ 1#1 := fun e => by
    have q : (t (ValueIdx.ix1 i)).toInt < 0 := IntOp.cmpi_slt.1 e
    rw [ht i, BitVec.toInt_eq_toNat_of_lt (by omega)] at q
    omega
  unfold refWrap
  rw [ValueIdx.select_apply]
  unfold Scalar.select
  exact if_neg e

include hlt ht in
theorem refMark_one (y : Cert.ReferenceIdeal.S320000x128.Idx) : refMark (refCol t) y = 1#1 := by
  refine Host.reduce_andi_one _ _ _ _ _ rfl fun z => ?_
  obtain ⟨i, rfl⟩ : ∃ i : Fin 320000, z = ValueIdx.ix2 i (0 : Fin 1) := ⟨z 0, funext fun a => by
    match a with
    | 0 => rfl
    | 1 => exact Fin.ext (by have := (z 1).isLt; change (z 1).val < 1 at this; show (z 1).val = 0; omega)⟩
  have h := hlt i
  have hc : (refCol t (ValueIdx.ix2 i (0 : Fin 1))).toInt = ((tyN i.val).toNat : ℤ) := by
    rw [refCol_apply, ht i, BitVec.toInt_eq_toNat_of_lt (by omega)]
  refine IntOp.andi_eq_one.2 ⟨IntOp.cmpi_sge.2 ?_, IntOp.cmpi_sle.2 ?_⟩
  · show (0#32 : BitVec 32).toInt ≤ _
    rw [hc, show (0#32 : BitVec 32).toInt = 0 from by decide]; omega
  · show _ ≤ (7#32 : BitVec 32).toInt
    rw [hc, show (7#32 : BitVec 32).toInt = 7 from by decide]; omega

include hlt ht in
theorem refTake_apply (tab : FVec Ideal Cert.ReferenceIdeal.S8x128 .f32) (i : Fin 320000) (k : Fin 128) :
    refTake tab t (ValueIdx.ix2 i k) = tab (ValueIdx.ix2 (⟨(tyN i.val).toNat, hlt i⟩ : Fin 8) k) := by
  unfold refTake
  rw [refWrap_eq t tyN hlt ht, ValueIdx.select_apply, refMark_one t tyN hlt ht]
  exact rows_gather (refCol t) tyN hlt (fun i => (refCol_apply t i).trans (ht i)) tab i k

include hlt ht in
theorem refCount_apply (u : Fin 8) (k : Fin 128) : refCount t (ValueIdx.ix2 u k) = cntT tyN u.val := by
  unfold refCount
  rw [broadcastInDim_apply _ _ _ _ (ValueIdx.ix2 u (0 : Fin 1)) (fun a => by match a with | 0 => rfl | 1 => rfl),
    broadcastInDim_apply _ _ _ _ (ValueIdx.ix1 u) (fun a => by match a with | 0 => rfl)]
  show max (Host.scatterAdd (F := Ideal) scatter_S8_S320000x1_S320000_n_0_0_1 _ (refCol t) _ (ValueIdx.ix1 u) : EReal) _ = _
  rw [ones_total (refCol t) tyN hlt (fun i => (refCol_apply t i).trans (ht i)) _ _ (bits_zero _) (bits_one _) u, bits_one]
  rfl

include hlt ht in
theorem refMean_apply (x : FVec Ideal Cert.ReferenceIdeal.S320000x128 .f32) (xN : ℕ → ℕ → EReal) (hx : ∀ (i : Fin 320000) (k : Fin 128), x (ValueIdx.ix2 i k) = xN i.val k.val)
    (u : Fin 8) (k : Fin 128) : refMean x t (ValueIdx.ix2 u k) = meanT tyN (fun r => xN r k.val) u.val := by
  unfold refMean
  rw [ValueIdx.hostDivf_apply, refCount_apply t tyN hlt ht,
    rows_total (refCol t) tyN hlt (fun i => (refCol_apply t i).trans (ht i)) _ x xN (bits_zero _) hx u k]
  rfl

include hlt ht hx in
theorem refStd_apply (u : Fin 8) (k : Fin 128) : refStd x t (ValueIdx.ix2 u k) = Ideal.sqrt (varT tyN (fun r => xN r k.val) u.val) := by
  have hz : (broadcastInDim Cert.ReferenceIdeal.S8x128 ![] bcast_S_S8x128 (id (constant Cert.ReferenceIdeal.S_ .f32 0x00000000#32 : FVec Ideal Cert.ReferenceIdeal.S_ .f32))) (ValueIdx.ix2 u k) = (0 : EReal) := bits_zero _ _
  have he : (broadcastInDim Cert.ReferenceIdeal.S8x128 ![] bcast_S_S8x128 (constant Cert.ReferenceIdeal.S_ .f32 0x3727C5AC#32 : FVec Ideal Cert.ReferenceIdeal.S_ .f32)) (ValueIdx.ix2 u k) = eps := bits_eps _ _
  unfold refStd
  rw [std_at, hz, he, refMean_apply t tyN hlt ht x xN hx, refMean_apply t tyN hlt ht (mulf x x) (fun r k => xN r k * xN r k) (fun i k => by
    rw [mul_at, hx]), max_comm]
  rfl

end Terms

/-- What the reference leaves at a row and a lane. -/
theorem ref_value (m : (ℓ : Loc Cert.ReferenceIdeal.nD Cert.ReferenceIdeal.τ Cert.ReferenceIdeal.sig) → Buf (Elt Ideal) ℓ) (c : Dev Cert.ReferenceIdeal.nD)
    (tyN : ℕ → BitVec 32) (xN : ℕ → ℕ → EReal) (hlt : ∀ i : Fin 320000, (tyN i.val).toNat < 8)
    (ht : ∀ i : Fin 320000, m ((c.tc : Thread Cert.ReferenceIdeal.nD Cert.ReferenceIdeal.τ).loc Cert.ReferenceIdeal.main_arg1) (ValueIdx.ix1 i) = tyN i.val)
    (hx : ∀ (i : Fin 320000) (k : Fin 128), m ((c.tc : Thread Cert.ReferenceIdeal.nD Cert.ReferenceIdeal.τ).loc Cert.ReferenceIdeal.main_arg0) (ValueIdx.ix2 i k) = xN i.val k.val)
    (i : Fin 320000) (k : Fin 128) :
    Cert.ReferenceIdeal.Value.res_out0 (F := Ideal) m c (ValueIdx.ix2 i k)
      = Ideal.div (xN i.val k.val - meanT tyN (fun r => xN r k.val) (tyN i.val).toNat) (Ideal.sqrt (varT tyN (fun r => xN r k.val) (tyN i.val).toNat)) := by
  rw [ref_term, ValueIdx.hostDivf_apply, refTake_apply _ tyN hlt ht, refStd_apply _ _ tyN xN hlt ht hx]
  rw [sub_at, hx i k, refTake_apply _ tyN hlt ht, refMean_apply _ tyN hlt ht _ xN hx]

/-! ## The last division -/

theorem eps_pos : 0 < eps := by
  unfold eps
  simp [Ideal.ofBits, Ideal.ieee]
  exact EReal.mul_pos (by norm_num) (EReal.coe_pos.2 (by norm_num))

theorem var_pos (tyN : ℕ → BitVec 32) (g : ℕ → EReal) (t : ℕ) : 0 < varT tyN g t := by
  unfold varT
  exact lt_of_lt_of_le eps_pos (le_add_of_nonneg_left (le_max_right _ _))

/-- Multiplying by the reciprocal of the root is dividing by the root, of a positive number. -/
theorem mul_rsqrt (x v : EReal) (hv : 0 < v) : x * Ideal.rsqrt v = Ideal.div x (Ideal.sqrt v) := by
  induction v with
  | bot => exact absurd hv (by simp)
  | top =>
    show x * 0 = Ideal.div x ⊤
    unfold Ideal.div
    rw [if_neg (by simp), EReal.inv_top]
  | coe r =>
    have hr : 0 < r := by exact_mod_cast hv
    have hs : Real.sqrt r ≠ 0 := (Real.sqrt_pos.2 hr).ne'
    have e1 : Ideal.rsqrt (r : EReal) = (((Real.sqrt r)⁻¹ : ℝ) : EReal) := by
      show (if r < 0 then (⊥ : EReal) else if r = 0 then ⊤ else ((Real.sqrt r)⁻¹ : ℝ)) = _
      rw [if_neg (not_lt.2 hr.le), if_neg hr.ne']
    have e2 : Ideal.sqrt (r : EReal) = ((Real.sqrt r : ℝ) : EReal) := by
      show (if r < 0 then (⊥ : EReal) else (Real.sqrt r : ℝ)) = _
      rw [if_neg (not_lt.2 hr.le)]
    rw [e1, e2]
    unfold Ideal.div
    rw [if_neg (by exact_mod_cast hs), EReal.coe_inv]

end Cert.Proof

end
-- ==== Proof.Algebraic.lean ====
/-
  The kernel and the reference leave the same numbers, of a memory whose types are below eight and in order.
-/
module

public import proofs.«01_k».proof.Proof.Frames
public import proofs.«01_k».proof.Proof.KernelValue
public import proofs.«01_k».proof.Proof.Precondition
public import proofs.«01_k».proof.Proof.RefValue

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

theorem frame_ki_sorted : Cert.quiescent_KernelIdeal_pre_sorted_types := fun m ρ _ => frame_ki m ρ trivial

theorem frame_ri_sorted : Cert.quiescent_ReferenceIdeal_pre_sorted_types := fun m ρ _ => frame_ri m ρ trivial

/-- The value claim, from the equation of the two results. -/
theorem algebraic_of (h : ∀ (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD),
    Cert.Pre_KernelIdeal_sorted_types m →
    m' ((c.tc : Thread Cert.ReferenceIdeal.nD Cert.ReferenceIdeal.τ).loc Cert.ReferenceIdeal.main_arg0) = m (xLoc c) →
    m' ((c.tc : Thread Cert.ReferenceIdeal.nD Cert.ReferenceIdeal.τ).loc Cert.ReferenceIdeal.main_arg1) = m (tLoc c) →
    Cert.ReferenceIdeal.Value.res_out0 (F := Ideal) m' c = normAll (V4 m) c) :
    Cert.algebraic_KernelIdeal_ReferenceIdeal_pre_sorted_types := fun m ρ m' ρ' hpre hag =>
  ⟨fun c => normAll (V4 m) c,
    (θ_run Cert.KernelIdeal.defs _ _).mono (fun _ h c => ⟨(h.1 c).2.2, (h.1 c).1, (h.1 c).2.1⟩) (run_main (F := Ideal) m ρ),
    (θ_run Cert.ReferenceIdeal.defs _ _).mono (fun _ hr c => ⟨(hr c).1.trans (h m m' c hpre (hag c).1 (hag c).2), (hr c).2⟩)
      (Cert.ReferenceIdeal.Value.run (F := Ideal) m' ρ')⟩

/-- The two results are equal. -/
theorem results_eq (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (hpre : Cert.Pre_KernelIdeal_sorted_types m)
    (hx : m' ((c.tc : Thread Cert.ReferenceIdeal.nD Cert.ReferenceIdeal.τ).loc Cert.ReferenceIdeal.main_arg0) = m (xLoc c))
    (ht : m' ((c.tc : Thread Cert.ReferenceIdeal.nD Cert.ReferenceIdeal.τ).loc Cert.ReferenceIdeal.main_arg1) = m (tLoc c)) :
    Cert.ReferenceIdeal.Value.res_out0 (F := Ideal) m' c = normAll (V4 m) c := by
  have hs := sorted_of_pre m hpre c
  funext y
  obtain ⟨r, j, rfl⟩ : ∃ (r : Fin 320000) (j : Fin 128), y = ValueIdx.ix2 r j := ⟨y 0, y 1, funext fun a => by match a with | 0 => rfl | 1 => rfl⟩
  refine (ref_value m' c (typesOf m c) (rowsOf m c) (fun i => hs.lt i.val i.isLt)
    (fun i => (congrFun ht (ValueIdx.ix1 i)).trans (typesN_apply (m (tLoc c)) (ValueIdx.ix1 i)).symm)
    (fun i k => (congrFun hx (ValueIdx.ix2 i k)).trans (rowsN_apply (m (xLoc c)) (ValueIdx.ix2 i k)).symm) r j).trans ?_
  rw [kernel_value m c hs r j, mul_rsqrt _ _ (var_pos _ _ _)]

/-- The value claim. -/
theorem algebraic : Cert.algebraic_KernelIdeal_ReferenceIdeal_pre_sorted_types :=
  algebraic_of results_eq

end Cert.Proof

end
-- ==== Proof.lean ====
/-
  The proof of `Cert.Claim`: the frames of the programs, each a reading of its run (Proof/Frames.lean); the idealization rewrites nothing; the
  kernel and the reference leave the same numbers (Proof/Algebraic.lean).
-/
module

public import proofs.«01_k».proof.Defs
public import proofs.«01_k».proof.Proof.Frames
public import proofs.«01_k».proof.Proof.Algebraic
public import proofs.«01_k».proof.Proof.Gen.Pre_sorted_types

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_sorted_types.Gen.facts,
    frame_k, frame_ki, frame_ki_sorted, frame_ri, frame_ri_sorted, trivial, algebraic⟩

end Cert.Proof

end
